-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fox_pre [hPre_fox_pre : Cert.Pre_fox_pre.Facts] (m : (ℓ : Loc Cert.KernelIdeal.nD Cert.KernelIdeal.τ Cert.KernelIdeal.sig) → Buf (Elt Ideal) ℓ) : Prop :=
  ∀ c : Dev Cert.KernelIdeal.nD,
    (Cert.Pre_fox_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_pre [hPre_fox_pre : Cert.Pre_fox_pre.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_pre.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))) = (fun _ => 1#1)

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidRefIdeal (m : (ℓ : Loc Cert.FfnMidRefIdeal.nD Cert.FfnMidRefIdeal.τ Cert.FfnMidRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_FfnLead (m : (ℓ : Loc Cert.FfnLead.nD Cert.FfnLead.τ Cert.FfnLead.sig) → Buf (Elt Bits) ℓ) : Prop :=
  True

def Pre_FfnLeadIdeal (m : (ℓ : Loc Cert.FfnLeadIdeal.nD Cert.FfnLeadIdeal.τ Cert.FfnLeadIdeal.sig) → Buf (Elt Ideal) ℓ) : Prop :=
  True

def Pre_FfnLeadRefIdeal (m : (ℓ : Loc Cert.FfnLeadRefIdeal.nD Cert.FfnLeadRefIdeal.τ Cert.FfnLeadRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fox_pre [hKernelIdeal : Cert.KernelIdeal.Facts] [hPre_fox_pre : Cert.Pre_fox_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fox_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_fox_pre [hFoxRefIdeal : Cert.FoxRefIdeal.Facts] [hPre_fox_pre : Cert.Pre_fox_pre.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_pre m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_FfnLead [hFfnLead : Cert.FfnLead.Facts] : Prop :=
  ∀ (m : (ℓ : Loc Cert.FfnLead.nD Cert.FfnLead.τ Cert.FfnLead.sig) → Buf (Elt Bits) ℓ) (g : Dev Cert.FfnLead.nD → PrngReg), Pre_FfnLead m →
    θ_run (Cert.FfnLead.defs (F := Bits)) (onTc (τ := Cert.FfnLead.τ) (Cert.FfnLead.main (F := Bits))) ⟨m, fun _ => 0, g⟩ (fun r => (∀ c : Dev Cert.FfnLead.nD,
      r.2.mem ((c.tc : Thread Cert.FfnLead.nD Cert.FfnLead.τ).loc Cert.FfnLead.main_arg0) = m ((c.tc : Thread Cert.FfnLead.nD Cert.FfnLead.τ).loc Cert.FfnLead.main_arg0)
      ∧ r.2.mem ((c.tc : Thread Cert.FfnLead.nD Cert.FfnLead.τ).loc Cert.FfnLead.main_arg1) = m ((c.tc : Thread Cert.FfnLead.nD Cert.FfnLead.τ).loc Cert.FfnLead.main_arg1)
      ∧ r.2.mem ((c.tc : Thread Cert.FfnLead.nD Cert.FfnLead.τ).loc Cert.FfnLead.main_arg2) = m ((c.tc : Thread Cert.FfnLead.nD Cert.FfnLead.τ).loc Cert.FfnLead.main_arg2)
      ∧ r.2.mem ((c.tc : Thread Cert.FfnLead.nD Cert.FfnLead.τ).loc Cert.FfnLead.main_arg3) = m ((c.tc : Thread Cert.FfnLead.nD Cert.FfnLead.τ).loc Cert.FfnLead.main_arg3)
      ∧ r.2.mem ((c.tc : Thread Cert.FfnLead.nD Cert.FfnLead.τ).loc Cert.FfnLead.main_arg4) = m ((c.tc : Thread Cert.FfnLead.nD Cert.FfnLead.τ).loc Cert.FfnLead.main_arg4))
      ∧ r.2.sem = fun _ => 0)

def quiescent_FfnLeadIdeal [hFfnLeadIdeal : Cert.FfnLeadIdeal.Facts] : Prop :=
  ∀ (m : (ℓ : Loc Cert.FfnLeadIdeal.nD Cert.FfnLeadIdeal.τ Cert.FfnLeadIdeal.sig) → Buf (Elt Ideal) ℓ) (g : Dev Cert.FfnLeadIdeal.nD → PrngReg), Pre_FfnLeadIdeal m →
    θ_run (Cert.FfnLeadIdeal.defs (F := Ideal)) (onTc (τ := Cert.FfnLeadIdeal.τ) (Cert.FfnLeadIdeal.main (F := Ideal))) ⟨m, fun _ => 0, g⟩ (fun r => (∀ c : Dev Cert.FfnLeadIdeal.nD,
      r.2.mem ((c.tc : Thread Cert.FfnLeadIdeal.nD Cert.FfnLeadIdeal.τ).loc Cert.FfnLeadIdeal.main_arg0) = m ((c.tc : Thread Cert.FfnLeadIdeal.nD Cert.FfnLeadIdeal.τ).loc Cert.FfnLeadIdeal.main_arg0)
      ∧ r.2.mem ((c.tc : Thread Cert.FfnLeadIdeal.nD Cert.FfnLeadIdeal.τ).loc Cert.FfnLeadIdeal.main_arg1) = m ((c.tc : Thread Cert.FfnLeadIdeal.nD Cert.FfnLeadIdeal.τ).loc Cert.FfnLeadIdeal.main_arg1)
      ∧ r.2.mem ((c.tc : Thread Cert.FfnLeadIdeal.nD Cert.FfnLeadIdeal.τ).loc Cert.FfnLeadIdeal.main_arg2) = m ((c.tc : Thread Cert.FfnLeadIdeal.nD Cert.FfnLeadIdeal.τ).loc Cert.FfnLeadIdeal.main_arg2)
      ∧ r.2.mem ((c.tc : Thread Cert.FfnLeadIdeal.nD Cert.FfnLeadIdeal.τ).loc Cert.FfnLeadIdeal.main_arg3) = m ((c.tc : Thread Cert.FfnLeadIdeal.nD Cert.FfnLeadIdeal.τ).loc Cert.FfnLeadIdeal.main_arg3)
      ∧ r.2.mem ((c.tc : Thread Cert.FfnLeadIdeal.nD Cert.FfnLeadIdeal.τ).loc Cert.FfnLeadIdeal.main_arg4) = m ((c.tc : Thread Cert.FfnLeadIdeal.nD Cert.FfnLeadIdeal.τ).loc Cert.FfnLeadIdeal.main_arg4))
      ∧ r.2.sem = fun _ => 0)

def quiescent_FfnLeadRefIdeal [hFfnLeadRefIdeal : Cert.FfnLeadRefIdeal.Facts] : Prop :=
  ∀ (m : (ℓ : Loc Cert.FfnLeadRefIdeal.nD Cert.FfnLeadRefIdeal.τ Cert.FfnLeadRefIdeal.sig) → Buf (Elt Ideal) ℓ) (g : Dev Cert.FfnLeadRefIdeal.nD → PrngReg), Pre_FfnLeadRefIdeal m →
    θ_run (Cert.FfnLeadRefIdeal.defs (F := Ideal)) (onTc (τ := Cert.FfnLeadRefIdeal.τ) (Cert.FfnLeadRefIdeal.main (F := Ideal))) ⟨m, fun _ => 0, g⟩ (fun r => (∀ c : Dev Cert.FfnLeadRefIdeal.nD,
      r.2.mem ((c.tc : Thread Cert.FfnLeadRefIdeal.nD Cert.FfnLeadRefIdeal.τ).loc Cert.FfnLeadRefIdeal.main_arg0) = m ((c.tc : Thread Cert.FfnLeadRefIdeal.nD Cert.FfnLeadRefIdeal.τ).loc Cert.FfnLeadRefIdeal.main_arg0)
      ∧ r.2.mem ((c.tc : Thread Cert.FfnLeadRefIdeal.nD Cert.FfnLeadRefIdeal.τ).loc Cert.FfnLeadRefIdeal.main_arg1) = m ((c.tc : Thread Cert.FfnLeadRefIdeal.nD Cert.FfnLeadRefIdeal.τ).loc Cert.FfnLeadRefIdeal.main_arg1)
      ∧ r.2.mem ((c.tc : Thread Cert.FfnLeadRefIdeal.nD Cert.FfnLeadRefIdeal.τ).loc Cert.FfnLeadRefIdeal.main_arg2) = m ((c.tc : Thread Cert.FfnLeadRefIdeal.nD Cert.FfnLeadRefIdeal.τ).loc Cert.FfnLeadRefIdeal.main_arg2)
      ∧ r.2.mem ((c.tc : Thread Cert.FfnLeadRefIdeal.nD Cert.FfnLeadRefIdeal.τ).loc Cert.FfnLeadRefIdeal.main_arg3) = m ((c.tc : Thread Cert.FfnLeadRefIdeal.nD Cert.FfnLeadRefIdeal.τ).loc Cert.FfnLeadRefIdeal.main_arg3)
      ∧ r.2.mem ((c.tc : Thread Cert.FfnLeadRefIdeal.nD Cert.FfnLeadRefIdeal.τ).loc Cert.FfnLeadRefIdeal.main_arg4) = m ((c.tc : Thread Cert.FfnLeadRefIdeal.nD Cert.FfnLeadRefIdeal.τ).loc Cert.FfnLeadRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9))
      ∧ r.2.sem = fun _ => 0)

def preserves_Kernel_KernelIdeal : Prop :=
  IdealRules.named_const.Statement Cert.KernelIdeal.κ "mask" .f32 0xF149F2CA#32 ⊥

def algebraic_KernelIdeal_FoxRefIdeal_on_fox_on_pre_fox_pre [hKernelIdeal : Cert.KernelIdeal.Facts] [hFoxRefIdeal : Cert.FoxRefIdeal.Facts] [hPre_fox_pre : Cert.Pre_fox_pre.Facts] [hOn_fox_on : Cert.On_fox_on.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_KernelIdeal_fox_pre m →
    (∀ c : Dev Cert.KernelIdeal.nD,
      m' ((c.tc : Thread Cert.FoxRefIdeal.nD Cert.FoxRefIdeal.τ).loc Cert.FoxRefIdeal.main_arg0) = m ((c.tc : Thread Cert.KernelIdeal.nD Cert.KernelIdeal.τ).loc Cert.KernelIdeal.main_arg0)
      ∧ m' ((c.tc : Thread Cert.FoxRefIdeal.nD Cert.FoxRefIdeal.τ).loc Cert.FoxRefIdeal.main_arg1) = m ((c.tc : Thread Cert.KernelIdeal.nD Cert.KernelIdeal.τ).loc Cert.KernelIdeal.main_arg1)
      ∧ m' ((c.tc : Thread Cert.FoxRefIdeal.nD Cert.FoxRefIdeal.τ).loc Cert.FoxRefIdeal.main_arg2) = m ((c.tc : Thread Cert.KernelIdeal.nD Cert.KernelIdeal.τ).loc Cert.KernelIdeal.main_arg2)
      ∧ m' ((c.tc : Thread Cert.FoxRefIdeal.nD Cert.FoxRefIdeal.τ).loc Cert.FoxRefIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 16896]⟩ : Shape).Idx, (Cert.On_fox_on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          (∀ i : (⟨2, ![512, 16896]⟩ : Shape).Idx, (Cert.On_fox_on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.FoxRefIdeal.nD Cert.FoxRefIdeal.τ).loc Cert.FoxRefIdeal.main_v41) i = v0 c i)
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)) →
    ∃ (v0 : (c : Dev Cert.FfnLastIdeal.nD) → Buf (Elt Ideal) ((c.tc : Thread Cert.FfnLastIdeal.nD Cert.FfnLastIdeal.τ).loc Cert.FfnLastIdeal.main_v3)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v3) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v29) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3))

def preserves_FfnMid_FfnMidIdeal : Prop :=
  True

def algebraic_FfnMidIdeal_FfnMidRefIdeal [hFfnMidIdeal : Cert.FfnMidIdeal.Facts] [hFfnMidRefIdeal : Cert.FfnMidRefIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)) →
    ∃ (v0 : (c : Dev Cert.FfnMidIdeal.nD) → Buf (Elt Ideal) ((c.tc : Thread Cert.FfnMidIdeal.nD Cert.FfnMidIdeal.τ).loc Cert.FfnMidIdeal.main_v3)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v3) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v27) = v0 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v11)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v11) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v20) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_FfnLead_FfnLeadIdeal : Prop :=
  True

def algebraic_FfnLeadIdeal_FfnLeadRefIdeal [hFfnLeadIdeal : Cert.FfnLeadIdeal.Facts] [hFfnLeadRefIdeal : Cert.FfnLeadRefIdeal.Facts] : Prop :=
  ∀ (m : (ℓ : Loc Cert.FfnLeadIdeal.nD Cert.FfnLeadIdeal.τ Cert.FfnLeadIdeal.sig) → Buf (Elt Ideal) ℓ) (g : Dev Cert.FfnLeadIdeal.nD → PrngReg)
    (m' : (ℓ : Loc Cert.FfnLeadRefIdeal.nD Cert.FfnLeadRefIdeal.τ Cert.FfnLeadRefIdeal.sig) → Buf (Elt Ideal) ℓ) (g' : Dev Cert.FfnLeadRefIdeal.nD → PrngReg), Pre_FfnLeadIdeal m →
    (∀ c : Dev Cert.FfnLeadIdeal.nD,
      m' ((c.tc : Thread Cert.FfnLeadRefIdeal.nD Cert.FfnLeadRefIdeal.τ).loc Cert.FfnLeadRefIdeal.main_arg0) = m ((c.tc : Thread Cert.FfnLeadIdeal.nD Cert.FfnLeadIdeal.τ).loc Cert.FfnLeadIdeal.main_arg0)
      ∧ m' ((c.tc : Thread Cert.FfnLeadRefIdeal.nD Cert.FfnLeadRefIdeal.τ).loc Cert.FfnLeadRefIdeal.main_arg1) = m ((c.tc : Thread Cert.FfnLeadIdeal.nD Cert.FfnLeadIdeal.τ).loc Cert.FfnLeadIdeal.main_arg1)
      ∧ m' ((c.tc : Thread Cert.FfnLeadRefIdeal.nD Cert.FfnLeadRefIdeal.τ).loc Cert.FfnLeadRefIdeal.main_arg2) = m ((c.tc : Thread Cert.FfnLeadIdeal.nD Cert.FfnLeadIdeal.τ).loc Cert.FfnLeadIdeal.main_arg2)
      ∧ m' ((c.tc : Thread Cert.FfnLeadRefIdeal.nD Cert.FfnLeadRefIdeal.τ).loc Cert.FfnLeadRefIdeal.main_arg3) = m ((c.tc : Thread Cert.FfnLeadIdeal.nD Cert.FfnLeadIdeal.τ).loc Cert.FfnLeadIdeal.main_arg3)
      ∧ m' ((c.tc : Thread Cert.FfnLeadRefIdeal.nD Cert.FfnLeadRefIdeal.τ).loc Cert.FfnLeadRefIdeal.main_arg4) = m ((c.tc : Thread Cert.FfnLeadIdeal.nD Cert.FfnLeadIdeal.τ).loc Cert.FfnLeadIdeal.main_arg4)) →
    ∃ (v0 : (c : Dev Cert.FfnLeadIdeal.nD) → Buf (Elt Ideal) ((c.tc : Thread Cert.FfnLeadIdeal.nD Cert.FfnLeadIdeal.τ).loc Cert.FfnLeadIdeal.main_v3)),
      θ_run (Cert.FfnLeadIdeal.defs (F := Ideal)) (onTc (τ := Cert.FfnLeadIdeal.τ) (Cert.FfnLeadIdeal.main (F := Ideal))) ⟨m, fun _ => 0, g⟩ (fun r => ∀ c : Dev Cert.FfnLeadIdeal.nD,
          r.2.mem ((c.tc : Thread Cert.FfnLeadIdeal.nD Cert.FfnLeadIdeal.τ).loc Cert.FfnLeadIdeal.main_v3) = v0 c
          ∧ r.2.mem ((c.tc : Thread Cert.FfnLeadIdeal.nD Cert.FfnLeadIdeal.τ).loc Cert.FfnLeadIdeal.main_arg0) = m ((c.tc : Thread Cert.FfnLeadIdeal.nD Cert.FfnLeadIdeal.τ).loc Cert.FfnLeadIdeal.main_arg0)
          ∧ r.2.mem ((c.tc : Thread Cert.FfnLeadIdeal.nD Cert.FfnLeadIdeal.τ).loc Cert.FfnLeadIdeal.main_arg1) = m ((c.tc : Thread Cert.FfnLeadIdeal.nD Cert.FfnLeadIdeal.τ).loc Cert.FfnLeadIdeal.main_arg1)
          ∧ r.2.mem ((c.tc : Thread Cert.FfnLeadIdeal.nD Cert.FfnLeadIdeal.τ).loc Cert.FfnLeadIdeal.main_arg2) = m ((c.tc : Thread Cert.FfnLeadIdeal.nD Cert.FfnLeadIdeal.τ).loc Cert.FfnLeadIdeal.main_arg2)
          ∧ r.2.mem ((c.tc : Thread Cert.FfnLeadIdeal.nD Cert.FfnLeadIdeal.τ).loc Cert.FfnLeadIdeal.main_arg3) = m ((c.tc : Thread Cert.FfnLeadIdeal.nD Cert.FfnLeadIdeal.τ).loc Cert.FfnLeadIdeal.main_arg3)
          ∧ r.2.mem ((c.tc : Thread Cert.FfnLeadIdeal.nD Cert.FfnLeadIdeal.τ).loc Cert.FfnLeadIdeal.main_arg4) = m ((c.tc : Thread Cert.FfnLeadIdeal.nD Cert.FfnLeadIdeal.τ).loc Cert.FfnLeadIdeal.main_arg4))
      ∧ θ_run (Cert.FfnLeadRefIdeal.defs (F := Ideal)) (onTc (τ := Cert.FfnLeadRefIdeal.τ) (Cert.FfnLeadRefIdeal.main (F := Ideal))) ⟨m', fun _ => 0, g'⟩ (fun r => ∀ c : Dev Cert.FfnLeadRefIdeal.nD,
          r.2.mem ((c.tc : Thread Cert.FfnLeadRefIdeal.nD Cert.FfnLeadRefIdeal.τ).loc Cert.FfnLeadRefIdeal.main_v32) = v0 c
          ∧ r.2.mem ((c.tc : Thread Cert.FfnLeadRefIdeal.nD Cert.FfnLeadRefIdeal.τ).loc Cert.FfnLeadRefIdeal.main_arg0) = m' ((c.tc : Thread Cert.FfnLeadRefIdeal.nD Cert.FfnLeadRefIdeal.τ).loc Cert.FfnLeadRefIdeal.main_arg0)
          ∧ r.2.mem ((c.tc : Thread Cert.FfnLeadRefIdeal.nD Cert.FfnLeadRefIdeal.τ).loc Cert.FfnLeadRefIdeal.main_arg1) = m' ((c.tc : Thread Cert.FfnLeadRefIdeal.nD Cert.FfnLeadRefIdeal.τ).loc Cert.FfnLeadRefIdeal.main_arg1)
          ∧ r.2.mem ((c.tc : Thread Cert.FfnLeadRefIdeal.nD Cert.FfnLeadRefIdeal.τ).loc Cert.FfnLeadRefIdeal.main_arg2) = m' ((c.tc : Thread Cert.FfnLeadRefIdeal.nD Cert.FfnLeadRefIdeal.τ).loc Cert.FfnLeadRefIdeal.main_arg2)
          ∧ r.2.mem ((c.tc : Thread Cert.FfnLeadRefIdeal.nD Cert.FfnLeadRefIdeal.τ).loc Cert.FfnLeadRefIdeal.main_arg3) = m' ((c.tc : Thread Cert.FfnLeadRefIdeal.nD Cert.FfnLeadRefIdeal.τ).loc Cert.FfnLeadRefIdeal.main_arg3)
          ∧ r.2.mem ((c.tc : Thread Cert.FfnLeadRefIdeal.nD Cert.FfnLeadRefIdeal.τ).loc Cert.FfnLeadRefIdeal.main_arg4) = m' ((c.tc : Thread Cert.FfnLeadRefIdeal.nD Cert.FfnLeadRefIdeal.τ).loc Cert.FfnLeadRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)) →
    ∃ (v0 : (c : Dev Cert.ProjIdeal.nD) → Buf (Elt Ideal) ((c.tc : Thread Cert.ProjIdeal.nD Cert.ProjIdeal.τ).loc Cert.ProjIdeal.main_v3_2)) (v1 : (c : Dev Cert.ProjIdeal.nD) → Buf (Elt Ideal) ((c.tc : Thread Cert.ProjIdeal.nD Cert.ProjIdeal.τ).loc Cert.ProjIdeal.main_v3_3)) (v2 : (c : Dev Cert.ProjIdeal.nD) → Buf (Elt Ideal) ((c.tc : Thread Cert.ProjIdeal.nD Cert.ProjIdeal.τ).loc Cert.ProjIdeal.main_v3_5)) (v3 : (c : Dev Cert.ProjIdeal.nD) → Buf (Elt Ideal) ((c.tc : Thread Cert.ProjIdeal.nD Cert.ProjIdeal.τ).loc Cert.ProjIdeal.main_v3_6)) (v4 : (c : Dev Cert.ProjIdeal.nD) → Buf (Elt Ideal) ((c.tc : Thread Cert.ProjIdeal.nD Cert.ProjIdeal.τ).loc Cert.ProjIdeal.main_v3_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_2) = v0 c
          ∧ r.2.mem ((c.tc : Thread Cert.ProjIdeal.nD Cert.ProjIdeal.τ).loc Cert.ProjIdeal.main_v3_3) = v1 c
          ∧ r.2.mem ((c.tc : Thread Cert.ProjIdeal.nD Cert.ProjIdeal.τ).loc Cert.ProjIdeal.main_v3_5) = v2 c
          ∧ r.2.mem ((c.tc : Thread Cert.ProjIdeal.nD Cert.ProjIdeal.τ).loc Cert.ProjIdeal.main_v3_6) = v3 c
          ∧ r.2.mem ((c.tc : Thread Cert.ProjIdeal.nD Cert.ProjIdeal.τ).loc Cert.ProjIdeal.main_v3_7) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v55) = v0 c
          ∧ r.2.mem ((c.tc : Thread Cert.ProjRefIdeal.nD Cert.ProjRefIdeal.τ).loc Cert.ProjRefIdeal.main_v57) = v1 c
          ∧ r.2.mem ((c.tc : Thread Cert.ProjRefIdeal.nD Cert.ProjRefIdeal.τ).loc Cert.ProjRefIdeal.main_v58) = v2 c
          ∧ r.2.mem ((c.tc : Thread Cert.ProjRefIdeal.nD Cert.ProjRefIdeal.τ).loc Cert.ProjRefIdeal.main_v59) = v3 c
          ∧ r.2.mem ((c.tc : Thread Cert.ProjRefIdeal.nD Cert.ProjRefIdeal.τ).loc Cert.ProjRefIdeal.main_v60) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9))

def Claim : Prop :=
  ∃ (hKernel : Cert.Kernel.Facts) (hKernelIdeal : Cert.KernelIdeal.Facts) (hFoxRefIdeal : Cert.FoxRefIdeal.Facts) (hFfnLast : Cert.FfnLast.Facts) (hFfnLastIdeal : Cert.FfnLastIdeal.Facts) (hFfnLastRefIdeal : Cert.FfnLastRefIdeal.Facts) (hFfnMid : Cert.FfnMid.Facts) (hFfnMidIdeal : Cert.FfnMidIdeal.Facts) (hFfnMidRefIdeal : Cert.FfnMidRefIdeal.Facts) (hMix : Cert.Mix.Facts) (hMixIdeal : Cert.MixIdeal.Facts) (hMixRefIdeal : Cert.MixRefIdeal.Facts) (hFfnLead : Cert.FfnLead.Facts) (hFfnLeadIdeal : Cert.FfnLeadIdeal.Facts) (hFfnLeadRefIdeal : Cert.FfnLeadRefIdeal.Facts) (hProj : Cert.Proj.Facts) (hProjIdeal : Cert.ProjIdeal.Facts) (hProjRefIdeal : Cert.ProjRefIdeal.Facts) (hPre_fox_pre : Cert.Pre_fox_pre.Facts) (hOn_fox_on : Cert.On_fox_on.Facts),
    quiescent_Kernel (hKernel := hKernel)
    ∧ quiescent_KernelIdeal (hKernelIdeal := hKernelIdeal)
    ∧ quiescent_KernelIdeal_pre_fox_pre (hKernelIdeal := hKernelIdeal) (hPre_fox_pre := hPre_fox_pre)
    ∧ quiescent_FoxRefIdeal (hFoxRefIdeal := hFoxRefIdeal)
    ∧ quiescent_FoxRefIdeal_pre_fox_pre (hFoxRefIdeal := hFoxRefIdeal) (hPre_fox_pre := hPre_fox_pre)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_FfnMid (hFfnMid := hFfnMid)
    ∧ quiescent_FfnMidIdeal (hFfnMidIdeal := hFfnMidIdeal)
    ∧ quiescent_FfnMidRefIdeal (hFfnMidRefIdeal := hFfnMidRefIdeal)
    ∧ quiescent_Mix (hMix := hMix)
    ∧ quiescent_MixIdeal (hMixIdeal := hMixIdeal)
    ∧ quiescent_MixRefIdeal (hMixRefIdeal := hMixRefIdeal)
    ∧ quiescent_FfnLead (hFfnLead := hFfnLead)
    ∧ quiescent_FfnLeadIdeal (hFfnLeadIdeal := hFfnLeadIdeal)
    ∧ quiescent_FfnLeadRefIdeal (hFfnLeadRefIdeal := hFfnLeadRefIdeal)
    ∧ quiescent_Proj (hProj := hProj)
    ∧ quiescent_ProjIdeal (hProjIdeal := hProjIdeal)
    ∧ quiescent_ProjRefIdeal (hProjRefIdeal := hProjRefIdeal)
    ∧ preserves_Kernel_KernelIdeal
    ∧ algebraic_KernelIdeal_FoxRefIdeal_on_fox_on_pre_fox_pre (hKernelIdeal := hKernelIdeal) (hFoxRefIdeal := hFoxRefIdeal) (hPre_fox_pre := hPre_fox_pre) (hOn_fox_on := hOn_fox_on)
    ∧ preserves_FfnLast_FfnLastIdeal
    ∧ algebraic_FfnLastIdeal_FfnLastRefIdeal (hFfnLastIdeal := hFfnLastIdeal) (hFfnLastRefIdeal := hFfnLastRefIdeal)
    ∧ preserves_FfnMid_FfnMidIdeal
    ∧ algebraic_FfnMidIdeal_FfnMidRefIdeal (hFfnMidIdeal := hFfnMidIdeal) (hFfnMidRefIdeal := hFfnMidRefIdeal)
    ∧ preserves_Mix_MixIdeal
    ∧ algebraic_MixIdeal_MixRefIdeal (hMixIdeal := hMixIdeal) (hMixRefIdeal := hMixRefIdeal)
    ∧ preserves_FfnLead_FfnLeadIdeal
    ∧ algebraic_FfnLeadIdeal_FfnLeadRefIdeal (hFfnLeadIdeal := hFfnLeadIdeal) (hFfnLeadRefIdeal := hFfnLeadRefIdeal)
    ∧ preserves_Proj_ProjIdeal
    ∧ algebraic_ProjIdeal_ProjRefIdeal (hProjIdeal := hProjIdeal) (hProjRefIdeal := hProjRefIdeal)
-- ==== On_fox_on.lean ====
abbrev S1 : Shape := ⟨1, ![1]⟩
abbrev S1024x16896 : Shape := ⟨2, ![1024, 16896]⟩
abbrev S16896x1024 : Shape := ⟨2, ![16896, 1024]⟩
abbrev S640x16896 : Shape := ⟨2, ![640, 16896]⟩
abbrev S512x4x4224 : Shape := ⟨3, ![512, 4, 4224]⟩
abbrev S_ : Shape := ⟨0, ![]⟩
abbrev S512x16896 : Shape := ⟨2, ![512, 16896]⟩

class Facts : Prop where
  bcast_S_S512x4x4224 : S_.BroadcastsInDim S512x4x4224 (![] : Fin 0 → Fin S512x4x4224.rank)
  shapeCasts_S512x4x4224_S512x16896 : S512x4x4224.ShapeCasts S512x16896

variable [Facts]

def fn {F : FTy → Type} [FloatOps F] (main_arg0 : IVec S1 32) (main_arg1 : FVec F S1024x16896 .bf16) (main_arg2 : FVec F S16896x1024 .bf16) (main_arg3 : FVec F S640x16896 .bf16) : IVec S512x16896 1 :=
  let main_v0 : IVec S512x4x4224 32 := iotaInDim S512x4x4224 32 2
  let main_c : IVec S_ 32 := constantI S_ 32 112#32
  let main_v1 : IVec S512x4x4224 32 := broadcastInDim S512x4x4224 ![] bcast_S_S512x4x4224 main_c
  let main_v2 : IVec S512x4x4224 1 := cmpi .sge main_v0 main_v1
  let main_v3 : IVec S512x16896 1 := shapeCast S512x16896 main_v2 shapeCasts_S512x4x4224_S512x16896
  main_v3
-- ==== Pre_fox_pre.lean ====
abbrev S1 : Shape := ⟨1, ![1]⟩
abbrev S1024x16896 : Shape := ⟨2, ![1024, 16896]⟩
abbrev S16896x1024 : Shape := ⟨2, ![16896, 1024]⟩
abbrev S640x16896 : Shape := ⟨2, ![640, 16896]⟩
abbrev S_ : Shape := ⟨0, ![]⟩
abbrev S8x80x16896 : Shape := ⟨3, ![8, 80, 16896]⟩
abbrev S8x1x16896 : Shape := ⟨3, ![8, 1, 16896]⟩
abbrev S8x16896 : Shape := ⟨2, ![8, 16896]⟩

class Facts : Prop where
  bitsLt_bf16_f32 : FTy.bits .bf16 < FTy.bits .f32
  bcast_S_S1024x16896 : S_.BroadcastsInDim S1024x16896 (![] : Fin 0 → Fin S1024x16896.rank)
  reducesTo_S1024x16896_S_d0_1 : S1024x16896.ReducesTo [0, 1] S_
  h_S_ : 0 < S_.numel
  bcast_S_S16896x1024 : S_.BroadcastsInDim S16896x1024 (![] : Fin 0 → Fin S16896x1024.rank)
  reducesTo_S16896x1024_S_d0_1 : S16896x1024.ReducesTo [0, 1] S_
  bcast_S_S640x16896 : S_.BroadcastsInDim S640x16896 (![] : Fin 0 → Fin S640x16896.rank)
  reducesTo_S640x16896_S_d0_1 : S640x16896.ReducesTo [0, 1] S_
  shapeCasts_S640x16896_S8x80x16896 : S640x16896.ShapeCasts S8x80x16896
  slices_S8x80x16896_S8x1x16896_0_64_0 : S8x80x16896.Slices ![0, 64, 0] S8x1x16896
  shapeCasts_S8x1x16896_S8x16896 : S8x1x16896.ShapeCasts S8x16896
  bcast_S_S8x16896 : S_.BroadcastsInDim S8x16896 (![] : Fin 0 → Fin S8x16896.rank)
  reducesTo_S8x16896_S_d0_1 : S8x16896.ReducesTo [0, 1] S_

variable [Facts]

def fn_part1 {F : FTy → Type} [FloatOps F] (main_arg3 : FVec F S640x16896 .bf16) (main_v7 : IVec S_ 1) (main_v15 : IVec S_ 1) (main_v16 : FVec F S640x16896 .f32) (main_cst_4 : FVec F S_ .f32) : IVec S_ 1 :=
  let main_v17 : FVec F S640x16896 .f32 := broadcastInDim S640x16896 ![] bcast_S_S640x16896 main_cst_4
  let main_v18 : IVec S640x16896 1 := cmpf .olt main_v16 main_v17
  let main_v19 : FVec F S640x16896 .f32 := (extf .f32 · bitsLt_bf16_f32) main_arg3
  let main_cst_5 : FVec F S_ .f32 := constant S_ .f32 0xFF800000#32
  let main_v20 : FVec F S640x16896 .f32 := broadcastInDim S640x16896 ![] bcast_S_S640x16896 main_cst_5
  let main_v21 : IVec S640x16896 1 := cmpf .ogt main_v19 main_v20
  let main_v22 : IVec S640x16896 1 := andi main_v18 main_v21
  let main_c_6 : IVec S_ 1 := constantI S_ 1 1#1
  let main_v23 : IVec S_ 1 := (fun x v => Host.reduce IntOp.andi x v reducesTo_S640x16896_S_d0_1 h_S_) main_v22 main_c_6
  let main_v24 : FVec F S640x16896 .f32 := (extf .f32 · bitsLt_bf16_f32) main_arg3
  let main_v25 : FVec F S8x80x16896 .f32 := shapeCast S8x80x16896 main_v24 shapeCasts_S640x16896_S8x80x16896
  let main_v26 : FVec F S8x1x16896 .f32 := (extractStridedSlice S8x1x16896 ![0, 64, 0] · slices_S8x80x16896_S8x1x16896_0_64_0) main_v25
  let main_v27 : FVec F S8x16896 .f32 := shapeCast S8x16896 main_v26 shapeCasts_S8x1x16896_S8x16896
  let main_cst_7 : FVec F S_ .f32 := constant S_ .f32 0x3F800000#32
  let main_v28 : FVec F S8x16896 .f32 := broadcastInDim S8x16896 ![] bcast_S_S8x16896 main_cst_7
  let main_v29 : IVec S8x16896 1 := cmpf .oeq main_v27 main_v28
  let main_c_8 : IVec S_ 1 := constantI S_ 1 1#1
  let main_v30 : IVec S_ 1 := (fun x v => Host.reduce IntOp.andi x v reducesTo_S8x16896_S_d0_1 h_S_) main_v29 main_c_8
  let main_v31 : IVec S_ 1 := andi main_v7 main_v15
  let main_v32 : IVec S_ 1 := andi main_v31 main_v23
  let main_v33 : IVec S_ 1 := andi main_v32 main_v30
  main_v33

def fn {F : FTy → Type} [FloatOps F] (main_arg0 : IVec S1 32) (main_arg1 : FVec F S1024x16896 .bf16) (main_arg2 : FVec F S16896x1024 .bf16) (main_arg3 : FVec F S640x16896 .bf16) : IVec S_ 1 :=
  let main_v0 : FVec F S1024x16896 .f32 := (extf .f32 · bitsLt_bf16_f32) main_arg1
  let main_cst : FVec F S_ .f32 := constant S_ .f32 0x7F800000#32
  let main_v1 : FVec F S1024x16896 .f32 := broadcastInDim S1024x16896 ![] bcast_S_S1024x16896 main_cst
  let main_v2 : IVec S1024x16896 1 := cmpf .olt main_v0 main_v1
  let main_v3 : FVec F S1024x16896 .f32 := (extf .f32 · bitsLt_bf16_f32) main_arg1
  let main_cst_0 : FVec F S_ .f32 := constant S_ .f32 0xFF800000#32
  let main_v4 : FVec F S1024x16896 .f32 := broadcastInDim S1024x16896 ![] bcast_S_S1024x16896 main_cst_0
  let main_v5 : IVec S1024x16896 1 := cmpf .ogt main_v3 main_v4
  let main_v6 : IVec S1024x16896 1 := andi main_v2 main_v5
  let main_c : IVec S_ 1 := constantI S_ 1 1#1
  let main_v7 : IVec S_ 1 := (fun x v => Host.reduce IntOp.andi x v reducesTo_S1024x16896_S_d0_1 h_S_) main_v6 main_c
  let main_v8 : FVec F S16896x1024 .f32 := (extf .f32 · bitsLt_bf16_f32) main_arg2
  let main_cst_1 : FVec F S_ .f32 := constant S_ .f32 0x7F800000#32
  let main_v9 : FVec F S16896x1024 .f32 := broadcastInDim S16896x1024 ![] bcast_S_S16896x1024 main_cst_1
  let main_v10 : IVec S16896x1024 1 := cmpf .olt main_v8 main_v9
  let main_v11 : FVec F S16896x1024 .f32 := (extf .f32 · bitsLt_bf16_f32) main_arg2
  let main_cst_2 : FVec F S_ .f32 := constant S_ .f32 0xFF800000#32
  let main_v12 : FVec F S16896x1024 .f32 := broadcastInDim S16896x1024 ![] bcast_S_S16896x1024 main_cst_2
  let main_v13 : IVec S16896x1024 1 := cmpf .ogt main_v11 main_v12
  let main_v14 : IVec S16896x1024 1 := andi main_v10 main_v13
  let main_c_3 : IVec S_ 1 := constantI S_ 1 1#1
  let main_v15 : IVec S_ 1 := (fun x v => Host.reduce IntOp.andi x v reducesTo_S16896x1024_S_d0_1 h_S_) main_v14 main_c_3
  let main_v16 : FVec F S640x16896 .f32 := (extf .f32 · bitsLt_bf16_f32) main_arg3
  let main_cst_4 : FVec F S_ .f32 := constant S_ .f32 0x7F800000#32
  fn_part1 (F := F) main_arg3 main_v7 main_v15 main_v16 main_cst_4
-- ==== Kernel.lean ====
abbrev S1 : Shape := ⟨1, ![1]⟩
abbrev S1024x16896 : Shape := ⟨2, ![1024, 16896]⟩
abbrev S16896x1024 : Shape := ⟨2, ![16896, 1024]⟩
abbrev S640x16896 : Shape := ⟨2, ![640, 16896]⟩
abbrev S512x16896 : Shape := ⟨2, ![512, 16896]⟩
abbrev S512x4224 : Shape := ⟨2, ![512, 4224]⟩
abbrev S4224x512 : Shape := ⟨2, ![4224, 512]⟩
abbrev S320x4224 : Shape := ⟨2, ![320, 4224]⟩
abbrev S256x4224 : Shape := ⟨2, ![256, 4224]⟩
abbrev S4x1x512 : Shape := ⟨3, ![4, 1, 512]⟩
abbrev S320x512 : Shape := ⟨2, ![320, 512]⟩
abbrev S512x512 : Shape := ⟨2, ![512, 512]⟩
abbrev S4x1x128 : Shape := ⟨3, ![4, 1, 128]⟩
abbrev S320x128 : Shape := ⟨2, ![320, 128]⟩
abbrev S128x128 : Shape := ⟨2, ![128, 128]⟩
abbrev S1x1x128 : Shape := ⟨3, ![1, 1, 128]⟩
abbrev S1x128 : Shape := ⟨2, ![1, 128]⟩
abbrev S128 : Shape := ⟨1, ![128]⟩
abbrev S80x128 : Shape := ⟨2, ![80, 128]⟩
abbrev S64x128 : Shape := ⟨2, ![64, 128]⟩
abbrev S512x128 : Shape := ⟨2, ![512, 128]⟩
abbrev S128x512 : Shape := ⟨2, ![128, 512]⟩
abbrev S80x512 : Shape := ⟨2, ![80, 512]⟩
abbrev S640x512 : Shape := ⟨2, ![640, 512]⟩
abbrev S640x128 : Shape := ⟨2, ![640, 128]⟩
abbrev S80x640 : Shape := ⟨2, ![80, 640]⟩
abbrev S1x512 : Shape := ⟨2, ![1, 512]⟩
abbrev S64x512 : Shape := ⟨2, ![64, 512]⟩
abbrev S1x1x512 : Shape := ⟨3, ![1, 1, 512]⟩
abbrev S512 : Shape := ⟨1, ![512]⟩

abbrev nBuf : Space → Nat
  | .hbm => 5
  | .vmem => 11
  | .smem => 1
  | _ => 0

abbrev bufTy : (tb : Table) → Fin (tcTables nBuf tb) → BufTy
  | .hbm, ⟨0, _⟩ => ⟨S1, .i32⟩
  | .hbm, ⟨1, _⟩ => ⟨S1024x16896, .bf16⟩
  | .hbm, ⟨2, _⟩ => ⟨S16896x1024, .bf16⟩
  | .hbm, ⟨3, _⟩ => ⟨S640x16896, .bf16⟩
  | .hbm, ⟨4, _⟩ => ⟨S512x16896, .bf16⟩
  | .local _ .vmem, ⟨0, _⟩ => ⟨S512x4224, .bf16⟩
  | .local _ .vmem, ⟨1, _⟩ => ⟨S512x4224, .bf16⟩
  | .local _ .vmem, ⟨2, _⟩ => ⟨S4224x512, .bf16⟩
  | .local _ .vmem, ⟨3, _⟩ => ⟨S4224x512, .bf16⟩
  | .local _ .vmem, ⟨4, _⟩ => ⟨S320x4224, .bf16⟩
  | .local _ .vmem, ⟨5, _⟩ => ⟨S320x4224, .bf16⟩
  | .local _ .vmem, ⟨6, _⟩ => ⟨S256x4224, .bf16⟩
  | .local _ .vmem, ⟨7, _⟩ => ⟨S256x4224, .bf16⟩
  | .local _ .vmem, ⟨8, _⟩ => ⟨S4x1x512, .f32⟩
  | .local _ .vmem, ⟨9, _⟩ => ⟨S320x512, .f32⟩
  | .local _ .vmem, ⟨10, _⟩ => ⟨S512x512, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32 : BitVec 32 := 0#32
  let c8_i32 : BitVec 32 := 8#32
  let v158 : BitVec 32 := Scalar.addi c0_i32 c8_i32
  let c1_i32 : BitVec 32 := 1#32
  ⟨c0_i32, v158, c1_i32⟩
def k0_mult1 (k0_t1 : Fin k0_t1_loop.trips) : BitVec 32 :=
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  v160
def k0_mult2 : BitVec 32 :=
  let c128_i32_113 : BitVec 32 := 128#32
  c128_i32_113
def k0_off1 (k0_t1 : Fin k0_t1_loop.trips) : Fin 2 → Nat :=
  let c0_115 : Index := 0#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v181 : Index := Scalar.indexCast v161
  ![0, v181.toNat]
@[reducible] def k0_t2_loop (k0_t1 : Fin k0_t1_loop.trips) : Scf.Loop 32 :=
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_128 : BitVec 32 := 1#32
  ⟨c0_i32_126, v208, c1_i32_128⟩
def k0_mult3 (k0_t1 : Fin k0_t1_loop.trips) (k0_t2 : Fin (k0_t2_loop k0_t1).trips) : BitVec 32 :=
  let c128_i32_225 : BitVec 32 := 128#32
  let c2_i32_223 : BitVec 32 := 2#32
  let c0_i32_126 : BitVec 32 := 0#32
  let c1_i32_128 : BitVec 32 := 1#32
  let arg11 : BitVec 32 := Scf.iv c0_i32_126 c1_i32_128 k0_t2
  let v355 : BitVec 32 := Scalar.muli c2_i32_223 arg11
  let c512_i32_224 : BitVec 32 := 512#32
  let v356 : BitVec 32 := Scalar.muli v355 c512_i32_224
  let v357 : BitVec 32 := Scalar.addi c128_i32_225 v356
  v357
def k0_mult4 (k0_t1 : Fin k0_t1_loop.trips) (k0_t2 : Fin (k0_t2_loop k0_t1).trips) : BitVec 32 :=
  let c128_i32_227 : BitVec 32 := 128#32
  let c2_i32_223 : BitVec 32 := 2#32
  let c0_i32_126 : BitVec 32 := 0#32
  let c1_i32_128 : BitVec 32 := 1#32
  let arg11 : BitVec 32 := Scf.iv c0_i32_126 c1_i32_128 k0_t2
  let v355 : BitVec 32 := Scalar.muli c2_i32_223 arg11
  let c512_i32_226 : BitVec 32 := 512#32
  let v359 : BitVec 32 := Scalar.muli v355 c512_i32_226
  let v360 : BitVec 32 := Scalar.addi c128_i32_227 v359
  v360
def k0_off2 (k0_t1 : Fin k0_t1_loop.trips) (k0_t2 : Fin (k0_t2_loop k0_t1).trips) : Fin 2 → Nat :=
  let c128_i32_225 : BitVec 32 := 128#32
  let c2_i32_223 : BitVec 32 := 2#32
  let c0_i32_126 : BitVec 32 := 0#32
  let c1_i32_128 : BitVec 32 := 1#32
  let arg11 : BitVec 32 := Scf.iv c0_i32_126 c1_i32_128 k0_t2
  let v355 : BitVec 32 := Scalar.muli c2_i32_223 arg11
  let c512_i32_224 : BitVec 32 := 512#32
  let v356 : BitVec 32 := Scalar.muli v355 c512_i32_224
  let v357 : BitVec 32 := Scalar.addi c128_i32_225 v356
  let v358 : BitVec 32 := v357
  let v363 : Index := Scalar.indexCast v358
  let c128_230 : Index := 128#32
  ![v363.toNat, 128]
def k0_off3 (k0_t1 : Fin k0_t1_loop.trips) : Fin 2 → Nat :=
  let c128_231 : Index := 128#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v365 : Index := Scalar.indexCast v161
  ![128, v365.toNat]
def k0_off4 (k0_t1 : Fin k0_t1_loop.trips) (k0_t2 : Fin (k0_t2_loop k0_t1).trips) : Fin 2 → Nat :=
  let c128_i32_225 : BitVec 32 := 128#32
  let c2_i32_223 : BitVec 32 := 2#32
  let c0_i32_126 : BitVec 32 := 0#32
  let c1_i32_128 : BitVec 32 := 1#32
  let arg11 : BitVec 32 := Scf.iv c0_i32_126 c1_i32_128 k0_t2
  let v355 : BitVec 32 := Scalar.muli c2_i32_223 arg11
  let c512_i32_224 : BitVec 32 := 512#32
  let v356 : BitVec 32 := Scalar.muli v355 c512_i32_224
  let v357 : BitVec 32 := Scalar.addi c128_i32_225 v356
  let v358 : BitVec 32 := v357
  let v370 : Index := Scalar.indexCast v358
  let c256_233 : Index := 256#32
  ![v370.toNat, 256]
def k0_off5 (k0_t1 : Fin k0_t1_loop.trips) : Fin 2 → Nat :=
  let c256_234 : Index := 256#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v372 : Index := Scalar.indexCast v161
  ![256, v372.toNat]
def k0_off6 (k0_t1 : Fin k0_t1_loop.trips) (k0_t2 : Fin (k0_t2_loop k0_t1).trips) : Fin 2 → Nat :=
  let c0_238 : Index := 0#32
  let c128_i32_227 : BitVec 32 := 128#32
  let c2_i32_223 : BitVec 32 := 2#32
  let c0_i32_126 : BitVec 32 := 0#32
  let c1_i32_128 : BitVec 32 := 1#32
  let arg11 : BitVec 32 := Scf.iv c0_i32_126 c1_i32_128 k0_t2
  let v355 : BitVec 32 := Scalar.muli c2_i32_223 arg11
  let c512_i32_226 : BitVec 32 := 512#32
  let v359 : BitVec 32 := Scalar.muli v355 c512_i32_226
  let v360 : BitVec 32 := Scalar.addi c128_i32_227 v359
  let v361 : BitVec 32 := v360
  let v376 : Index := Scalar.indexCast v361
  ![0, v376.toNat]
def k0_off7 (k0_t1 : Fin k0_t1_loop.trips) (k0_t2 : Fin (k0_t2_loop k0_t1).trips) : Fin 2 → Nat :=
  let c128_i32_225 : BitVec 32 := 128#32
  let c2_i32_223 : BitVec 32 := 2#32
  let c0_i32_126 : BitVec 32 := 0#32
  let c1_i32_128 : BitVec 32 := 1#32
  let arg11 : BitVec 32 := Scf.iv c0_i32_126 c1_i32_128 k0_t2
  let v355 : BitVec 32 := Scalar.muli c2_i32_223 arg11
  let c512_i32_224 : BitVec 32 := 512#32
  let v356 : BitVec 32 := Scalar.muli v355 c512_i32_224
  let v357 : BitVec 32 := Scalar.addi c128_i32_225 v356
  let v358 : BitVec 32 := v357
  let v385 : Index := Scalar.indexCast v358
  let c384_242 : Index := 384#32
  ![v385.toNat, 384]
def k0_off8 (k0_t1 : Fin k0_t1_loop.trips) : Fin 2 → Nat :=
  let c384_243 : Index := 384#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v387 : Index := Scalar.indexCast v161
  ![384, v387.toNat]
def k0_off9 (k0_t1 : Fin k0_t1_loop.trips) (k0_t2 : Fin (k0_t2_loop k0_t1).trips) : Fin 2 → Nat :=
  let c80_247 : Index := 80#32
  let c128_i32_227 : BitVec 32 := 128#32
  let c2_i32_223 : BitVec 32 := 2#32
  let c0_i32_126 : BitVec 32 := 0#32
  let c1_i32_128 : BitVec 32 := 1#32
  let arg11 : BitVec 32 := Scf.iv c0_i32_126 c1_i32_128 k0_t2
  let v355 : BitVec 32 := Scalar.muli c2_i32_223 arg11
  let c512_i32_226 : BitVec 32 := 512#32
  let v359 : BitVec 32 := Scalar.muli v355 c512_i32_226
  let v360 : BitVec 32 := Scalar.addi c128_i32_227 v359
  let v361 : BitVec 32 := v360
  let v391 : Index := Scalar.indexCast v361
  ![80, v391.toNat]
def k0_mult5 (k0_t1 : Fin k0_t1_loop.trips) (k0_t2 : Fin (k0_t2_loop k0_t1).trips) : BitVec 32 :=
  let c128_i32_253 : BitVec 32 := 128#32
  let c2_i32_223 : BitVec 32 := 2#32
  let c0_i32_126 : BitVec 32 := 0#32
  let c1_i32_128 : BitVec 32 := 1#32
  let arg11 : BitVec 32 := Scf.iv c0_i32_126 c1_i32_128 k0_t2
  let v355 : BitVec 32 := Scalar.muli c2_i32_223 arg11
  let c1_i32_251 : BitVec 32 := 1#32
  let v400 : BitVec 32 := Scalar.addi v355 c1_i32_251
  let c512_i32_252 : BitVec 32 := 512#32
  let v401 : BitVec 32 := Scalar.muli v400 c512_i32_252
  let v402 : BitVec 32 := Scalar.addi c128_i32_253 v401
  v402
def k0_off10 (k0_t1 : Fin k0_t1_loop.trips) (k0_t2 : Fin (k0_t2_loop k0_t1).trips) : Fin 2 → Nat :=
  let c128_i32_253 : BitVec 32 := 128#32
  let c2_i32_223 : BitVec 32 := 2#32
  let c0_i32_126 : BitVec 32 := 0#32
  let c1_i32_128 : BitVec 32 := 1#32
  let arg11 : BitVec 32 := Scf.iv c0_i32_126 c1_i32_128 k0_t2
  let v355 : BitVec 32 := Scalar.muli c2_i32_223 arg11
  let c1_i32_251 : BitVec 32 := 1#32
  let v400 : BitVec 32 := Scalar.addi v355 c1_i32_251
  let c512_i32_252 : BitVec 32 := 512#32
  let v401 : BitVec 32 := Scalar.muli v400 c512_i32_252
  let v402 : BitVec 32 := Scalar.addi c128_i32_253 v401
  let v403 : BitVec 32 := v402
  let v404 : Index := Scalar.indexCast v403
  let c0_254 : Index := 0#32
  ![v404.toNat, 0]
def k0_off11 (k0_t1 : Fin k0_t1_loop.trips) : Fin 2 → Nat :=
  let c0_255 : Index := 0#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v406 : Index := Scalar.indexCast v161
  ![0, v406.toNat]
def k0_off12 (k0_t1 : Fin k0_t1_loop.trips) (k0_t2 : Fin (k0_t2_loop k0_t1).trips) : Fin 2 → Nat :=
  let c160_261 : Index := 160#32
  let c128_i32_227 : BitVec 32 := 128#32
  let c2_i32_223 : BitVec 32 := 2#32
  let c0_i32_126 : BitVec 32 := 0#32
  let c1_i32_128 : BitVec 32 := 1#32
  let arg11 : BitVec 32 := Scf.iv c0_i32_126 c1_i32_128 k0_t2
  let v355 : BitVec 32 := Scalar.muli c2_i32_223 arg11
  let c512_i32_226 : BitVec 32 := 512#32
  let v359 : BitVec 32 := Scalar.muli v355 c512_i32_226
  let v360 : BitVec 32 := Scalar.addi c128_i32_227 v359
  let v361 : BitVec 32 := v360
  let v413 : Index := Scalar.indexCast v361
  ![160, v413.toNat]
def k0_off13 (k0_t1 : Fin k0_t1_loop.trips) (k0_t2 : Fin (k0_t2_loop k0_t1).trips) : Fin 2 → Nat :=
  let c240_267 : Index := 240#32
  let c128_i32_227 : BitVec 32 := 128#32
  let c2_i32_223 : BitVec 32 := 2#32
  let c0_i32_126 : BitVec 32 := 0#32
  let c1_i32_128 : BitVec 32 := 1#32
  let arg11 : BitVec 32 := Scf.iv c0_i32_126 c1_i32_128 k0_t2
  let v355 : BitVec 32 := Scalar.muli c2_i32_223 arg11
  let c512_i32_226 : BitVec 32 := 512#32
  let v359 : BitVec 32 := Scalar.muli v355 c512_i32_226
  let v360 : BitVec 32 := Scalar.addi c128_i32_227 v359
  let v361 : BitVec 32 := v360
  let v423 : Index := Scalar.indexCast v361
  ![240, v423.toNat]
def k0_mult6 (k0_t1 : Fin k0_t1_loop.trips) (k0_t2 : Fin (k0_t2_loop k0_t1).trips) : BitVec 32 :=
  let c128_i32_274 : BitVec 32 := 128#32
  let c2_i32_271 : BitVec 32 := 2#32
  let c0_i32_126 : BitVec 32 := 0#32
  let c1_i32_128 : BitVec 32 := 1#32
  let arg11 : BitVec 32 := Scf.iv c0_i32_126 c1_i32_128 k0_t2
  let v430 : BitVec 32 := Scalar.muli c2_i32_271 arg11
  let c1_i32_272 : BitVec 32 := 1#32
  let v431 : BitVec 32 := Scalar.addi v430 c1_i32_272
  let c512_i32_273 : BitVec 32 := 512#32
  let v432 : BitVec 32 := Scalar.muli v431 c512_i32_273
  let v433 : BitVec 32 := Scalar.addi c128_i32_274 v432
  v433
def k0_mult7 (k0_t1 : Fin k0_t1_loop.trips) (k0_t2 : Fin (k0_t2_loop k0_t1).trips) : BitVec 32 :=
  let c128_i32_276 : BitVec 32 := 128#32
  let c2_i32_271 : BitVec 32 := 2#32
  let c0_i32_126 : BitVec 32 := 0#32
  let c1_i32_128 : BitVec 32 := 1#32
  let arg11 : BitVec 32 := Scf.iv c0_i32_126 c1_i32_128 k0_t2
  let v430 : BitVec 32 := Scalar.muli c2_i32_271 arg11
  let c1_i32_272 : BitVec 32 := 1#32
  let v431 : BitVec 32 := Scalar.addi v430 c1_i32_272
  let c512_i32_275 : BitVec 32 := 512#32
  let v435 : BitVec 32 := Scalar.muli v431 c512_i32_275
  let v436 : BitVec 32 := Scalar.addi c128_i32_276 v435
  v436
def k0_off14 (k0_t1 : Fin k0_t1_loop.trips) (k0_t2 : Fin (k0_t2_loop k0_t1).trips) : Fin 2 → Nat :=
  let c128_i32_274 : BitVec 32 := 128#32
  let c2_i32_271 : BitVec 32 := 2#32
  let c0_i32_126 : BitVec 32 := 0#32
  let c1_i32_128 : BitVec 32 := 1#32
  let arg11 : BitVec 32 := Scf.iv c0_i32_126 c1_i32_128 k0_t2
  let v430 : BitVec 32 := Scalar.muli c2_i32_271 arg11
  let c1_i32_272 : BitVec 32 := 1#32
  let v431 : BitVec 32 := Scalar.addi v430 c1_i32_272
  let c512_i32_273 : BitVec 32 := 512#32
  let v432 : BitVec 32 := Scalar.muli v431 c512_i32_273
  let v433 : BitVec 32 := Scalar.addi c128_i32_274 v432
  let v434 : BitVec 32 := v433
  let v439 : Index := Scalar.indexCast v434
  let c128_279 : Index := 128#32
  ![v439.toNat, 128]
def k0_off15 (k0_t1 : Fin k0_t1_loop.trips) (k0_t2 : Fin (k0_t2_loop k0_t1).trips) : Fin 2 → Nat :=
  let c128_i32_274 : BitVec 32 := 128#32
  let c2_i32_271 : BitVec 32 := 2#32
  let c0_i32_126 : BitVec 32 := 0#32
  let c1_i32_128 : BitVec 32 := 1#32
  let arg11 : BitVec 32 := Scf.iv c0_i32_126 c1_i32_128 k0_t2
  let v430 : BitVec 32 := Scalar.muli c2_i32_271 arg11
  let c1_i32_272 : BitVec 32 := 1#32
  let v431 : BitVec 32 := Scalar.addi v430 c1_i32_272
  let c512_i32_273 : BitVec 32 := 512#32
  let v432 : BitVec 32 := Scalar.muli v431 c512_i32_273
  let v433 : BitVec 32 := Scalar.addi c128_i32_274 v432
  let v434 : BitVec 32 := v433
  let v446 : Index := Scalar.indexCast v434
  let c256_282 : Index := 256#32
  ![v446.toNat, 256]
def k0_off16 (k0_t1 : Fin k0_t1_loop.trips) (k0_t2 : Fin (k0_t2_loop k0_t1).trips) : Fin 2 → Nat :=
  let c0_287 : Index := 0#32
  let c128_i32_276 : BitVec 32 := 128#32
  let c2_i32_271 : BitVec 32 := 2#32
  let c0_i32_126 : BitVec 32 := 0#32
  let c1_i32_128 : BitVec 32 := 1#32
  let arg11 : BitVec 32 := Scf.iv c0_i32_126 c1_i32_128 k0_t2
  let v430 : BitVec 32 := Scalar.muli c2_i32_271 arg11
  let c1_i32_272 : BitVec 32 := 1#32
  let v431 : BitVec 32 := Scalar.addi v430 c1_i32_272
  let c512_i32_275 : BitVec 32 := 512#32
  let v435 : BitVec 32 := Scalar.muli v431 c512_i32_275
  let v436 : BitVec 32 := Scalar.addi c128_i32_276 v435
  let v437 : BitVec 32 := v436
  let v452 : Index := Scalar.indexCast v437
  ![0, v452.toNat]
def k0_off17 (k0_t1 : Fin k0_t1_loop.trips) (k0_t2 : Fin (k0_t2_loop k0_t1).trips) : Fin 2 → Nat :=
  let c128_i32_274 : BitVec 32 := 128#32
  let c2_i32_271 : BitVec 32 := 2#32
  let c0_i32_126 : BitVec 32 := 0#32
  let c1_i32_128 : BitVec 32 := 1#32
  let arg11 : BitVec 32 := Scf.iv c0_i32_126 c1_i32_128 k0_t2
  let v430 : BitVec 32 := Scalar.muli c2_i32_271 arg11
  let c1_i32_272 : BitVec 32 := 1#32
  let v431 : BitVec 32 := Scalar.addi v430 c1_i32_272
  let c512_i32_273 : BitVec 32 := 512#32
  let v432 : BitVec 32 := Scalar.muli v431 c512_i32_273
  let v433 : BitVec 32 := Scalar.addi c128_i32_274 v432
  let v434 : BitVec 32 := v433
  let v461 : Index := Scalar.indexCast v434
  let c384_291 : Index := 384#32
  ![v461.toNat, 384]
def k0_off18 (k0_t1 : Fin k0_t1_loop.trips) (k0_t2 : Fin (k0_t2_loop k0_t1).trips) : Fin 2 → Nat :=
  let c80_296 : Index := 80#32
  let c128_i32_276 : BitVec 32 := 128#32
  let c2_i32_271 : BitVec 32 := 2#32
  let c0_i32_126 : BitVec 32 := 0#32
  let c1_i32_128 : BitVec 32 := 1#32
  let arg11 : BitVec 32 := Scf.iv c0_i32_126 c1_i32_128 k0_t2
  let v430 : BitVec 32 := Scalar.muli c2_i32_271 arg11
  let c1_i32_272 : BitVec 32 := 1#32
  let v431 : BitVec 32 := Scalar.addi v430 c1_i32_272
  let c512_i32_275 : BitVec 32 := 512#32
  let v435 : BitVec 32 := Scalar.muli v431 c512_i32_275
  let v436 : BitVec 32 := Scalar.addi c128_i32_276 v435
  let v437 : BitVec 32 := v436
  let v467 : Index := Scalar.indexCast v437
  ![80, v467.toNat]
def k0_mult8 (k0_t1 : Fin k0_t1_loop.trips) (k0_t2 : Fin (k0_t2_loop k0_t1).trips) : BitVec 32 :=
  let c128_i32_302 : BitVec 32 := 128#32
  let c2_i32_271 : BitVec 32 := 2#32
  let c0_i32_126 : BitVec 32 := 0#32
  let c1_i32_128 : BitVec 32 := 1#32
  let arg11 : BitVec 32 := Scf.iv c0_i32_126 c1_i32_128 k0_t2
  let v430 : BitVec 32 := Scalar.muli c2_i32_271 arg11
  let c1_i32_272 : BitVec 32 := 1#32
  let v431 : BitVec 32 := Scalar.addi v430 c1_i32_272
  let c1_i32_300 : BitVec 32 := 1#32
  let v476 : BitVec 32 := Scalar.addi v431 c1_i32_300
  let c512_i32_301 : BitVec 32 := 512#32
  let v477 : BitVec 32 := Scalar.muli v476 c512_i32_301
  let v478 : BitVec 32 := Scalar.addi c128_i32_302 v477
  v478
def k0_off19 (k0_t1 : Fin k0_t1_loop.trips) (k0_t2 : Fin (k0_t2_loop k0_t1).trips) : Fin 2 → Nat :=
  let c128_i32_302 : BitVec 32 := 128#32
  let c2_i32_271 : BitVec 32 := 2#32
  let c0_i32_126 : BitVec 32 := 0#32
  let c1_i32_128 : BitVec 32 := 1#32
  let arg11 : BitVec 32 := Scf.iv c0_i32_126 c1_i32_128 k0_t2
  let v430 : BitVec 32 := Scalar.muli c2_i32_271 arg11
  let c1_i32_272 : BitVec 32 := 1#32
  let v431 : BitVec 32 := Scalar.addi v430 c1_i32_272
  let c1_i32_300 : BitVec 32 := 1#32
  let v476 : BitVec 32 := Scalar.addi v431 c1_i32_300
  let c512_i32_301 : BitVec 32 := 512#32
  let v477 : BitVec 32 := Scalar.muli v476 c512_i32_301
  let v478 : BitVec 32 := Scalar.addi c128_i32_302 v477
  let v479 : BitVec 32 := v478
  let v480 : Index := Scalar.indexCast v479
  let c0_303 : Index := 0#32
  ![v480.toNat, 0]
def k0_off20 (k0_t1 : Fin k0_t1_loop.trips) (k0_t2 : Fin (k0_t2_loop k0_t1).trips) : Fin 2 → Nat :=
  let c160_310 : Index := 160#32
  let c128_i32_276 : BitVec 32 := 128#32
  let c2_i32_271 : BitVec 32 := 2#32
  let c0_i32_126 : BitVec 32 := 0#32
  let c1_i32_128 : BitVec 32 := 1#32
  let arg11 : BitVec 32 := Scf.iv c0_i32_126 c1_i32_128 k0_t2
  let v430 : BitVec 32 := Scalar.muli c2_i32_271 arg11
  let c1_i32_272 : BitVec 32 := 1#32
  let v431 : BitVec 32 := Scalar.addi v430 c1_i32_272
  let c512_i32_275 : BitVec 32 := 512#32
  let v435 : BitVec 32 := Scalar.muli v431 c512_i32_275
  let v436 : BitVec 32 := Scalar.addi c128_i32_276 v435
  let v437 : BitVec 32 := v436
  let v489 : Index := Scalar.indexCast v437
  ![160, v489.toNat]
def k0_off21 (k0_t1 : Fin k0_t1_loop.trips) (k0_t2 : Fin (k0_t2_loop k0_t1).trips) : Fin 2 → Nat :=
  let c240_316 : Index := 240#32
  let c128_i32_276 : BitVec 32 := 128#32
  let c2_i32_271 : BitVec 32 := 2#32
  let c0_i32_126 : BitVec 32 := 0#32
  let c1_i32_128 : BitVec 32 := 1#32
  let arg11 : BitVec 32 := Scf.iv c0_i32_126 c1_i32_128 k0_t2
  let v430 : BitVec 32 := Scalar.muli c2_i32_271 arg11
  let c1_i32_272 : BitVec 32 := 1#32
  let v431 : BitVec 32 := Scalar.addi v430 c1_i32_272
  let c512_i32_275 : BitVec 32 := 512#32
  let v435 : BitVec 32 := Scalar.muli v431 c512_i32_275
  let v436 : BitVec 32 := Scalar.addi c128_i32_276 v435
  let v437 : BitVec 32 := v436
  let v499 : Index := Scalar.indexCast v437
  ![240, v499.toNat]
@[reducible] def k0_t3_loop (k0_t1 : Fin k0_t1_loop.trips) : Scf.Loop 32 :=
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let v205 : BitVec 32 := Scalar.addi c0_i32_126 v204
  let c1_i32_129 : BitVec 32 := 1#32
  ⟨v208, v205, c1_i32_129⟩
def k0_mult9 (k0_t1 : Fin k0_t1_loop.trips) (k0_t3 : Fin (k0_t3_loop k0_t1).trips) : BitVec 32 :=
  let c128_i32_225 : BitVec 32 := 128#32
  let c2_i32_223 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v355 : BitVec 32 := Scalar.muli c2_i32_223 arg11
  let c512_i32_224 : BitVec 32 := 512#32
  let v356 : BitVec 32 := Scalar.muli v355 c512_i32_224
  let v357 : BitVec 32 := Scalar.addi c128_i32_225 v356
  v357
def k0_mult10 (k0_t1 : Fin k0_t1_loop.trips) (k0_t3 : Fin (k0_t3_loop k0_t1).trips) : BitVec 32 :=
  let c128_i32_227 : BitVec 32 := 128#32
  let c2_i32_223 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v355 : BitVec 32 := Scalar.muli c2_i32_223 arg11
  let c512_i32_226 : BitVec 32 := 512#32
  let v359 : BitVec 32 := Scalar.muli v355 c512_i32_226
  let v360 : BitVec 32 := Scalar.addi c128_i32_227 v359
  v360
def k0_off22 (k0_t1 : Fin k0_t1_loop.trips) (k0_t3 : Fin (k0_t3_loop k0_t1).trips) : Fin 2 → Nat :=
  let c128_i32_225 : BitVec 32 := 128#32
  let c2_i32_223 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v355 : BitVec 32 := Scalar.muli c2_i32_223 arg11
  let c512_i32_224 : BitVec 32 := 512#32
  let v356 : BitVec 32 := Scalar.muli v355 c512_i32_224
  let v357 : BitVec 32 := Scalar.addi c128_i32_225 v356
  let v358 : BitVec 32 := v357
  let v363 : Index := Scalar.indexCast v358
  let c128_230 : Index := 128#32
  ![v363.toNat, 128]
def k0_off23 (k0_t1 : Fin k0_t1_loop.trips) : Fin 2 → Nat :=
  let c128_231 : Index := 128#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v365 : Index := Scalar.indexCast v161
  ![128, v365.toNat]
def k0_off24 (k0_t1 : Fin k0_t1_loop.trips) (k0_t3 : Fin (k0_t3_loop k0_t1).trips) : Fin 2 → Nat :=
  let c128_i32_225 : BitVec 32 := 128#32
  let c2_i32_223 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v355 : BitVec 32 := Scalar.muli c2_i32_223 arg11
  let c512_i32_224 : BitVec 32 := 512#32
  let v356 : BitVec 32 := Scalar.muli v355 c512_i32_224
  let v357 : BitVec 32 := Scalar.addi c128_i32_225 v356
  let v358 : BitVec 32 := v357
  let v370 : Index := Scalar.indexCast v358
  let c256_233 : Index := 256#32
  ![v370.toNat, 256]
def k0_off25 (k0_t1 : Fin k0_t1_loop.trips) : Fin 2 → Nat :=
  let c256_234 : Index := 256#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v372 : Index := Scalar.indexCast v161
  ![256, v372.toNat]
def k0_off26 (k0_t1 : Fin k0_t1_loop.trips) (k0_t3 : Fin (k0_t3_loop k0_t1).trips) : Fin 2 → Nat :=
  let c0_238 : Index := 0#32
  let c128_i32_227 : BitVec 32 := 128#32
  let c2_i32_223 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v355 : BitVec 32 := Scalar.muli c2_i32_223 arg11
  let c512_i32_226 : BitVec 32 := 512#32
  let v359 : BitVec 32 := Scalar.muli v355 c512_i32_226
  let v360 : BitVec 32 := Scalar.addi c128_i32_227 v359
  let v361 : BitVec 32 := v360
  let v376 : Index := Scalar.indexCast v361
  ![0, v376.toNat]
def k0_off27 (k0_t1 : Fin k0_t1_loop.trips) (k0_t3 : Fin (k0_t3_loop k0_t1).trips) : Fin 2 → Nat :=
  let c128_i32_225 : BitVec 32 := 128#32
  let c2_i32_223 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v355 : BitVec 32 := Scalar.muli c2_i32_223 arg11
  let c512_i32_224 : BitVec 32 := 512#32
  let v356 : BitVec 32 := Scalar.muli v355 c512_i32_224
  let v357 : BitVec 32 := Scalar.addi c128_i32_225 v356
  let v358 : BitVec 32 := v357
  let v385 : Index := Scalar.indexCast v358
  let c384_242 : Index := 384#32
  ![v385.toNat, 384]
def k0_off28 (k0_t1 : Fin k0_t1_loop.trips) : Fin 2 → Nat :=
  let c384_243 : Index := 384#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v387 : Index := Scalar.indexCast v161
  ![384, v387.toNat]
def k0_off29 (k0_t1 : Fin k0_t1_loop.trips) (k0_t3 : Fin (k0_t3_loop k0_t1).trips) : Fin 2 → Nat :=
  let c80_247 : Index := 80#32
  let c128_i32_227 : BitVec 32 := 128#32
  let c2_i32_223 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v355 : BitVec 32 := Scalar.muli c2_i32_223 arg11
  let c512_i32_226 : BitVec 32 := 512#32
  let v359 : BitVec 32 := Scalar.muli v355 c512_i32_226
  let v360 : BitVec 32 := Scalar.addi c128_i32_227 v359
  let v361 : BitVec 32 := v360
  let v391 : Index := Scalar.indexCast v361
  ![80, v391.toNat]
def k0_mult11 (k0_t1 : Fin k0_t1_loop.trips) (k0_t3 : Fin (k0_t3_loop k0_t1).trips) : BitVec 32 :=
  let c128_i32_253 : BitVec 32 := 128#32
  let c2_i32_223 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v355 : BitVec 32 := Scalar.muli c2_i32_223 arg11
  let c1_i32_251 : BitVec 32 := 1#32
  let v400 : BitVec 32 := Scalar.addi v355 c1_i32_251
  let c512_i32_252 : BitVec 32 := 512#32
  let v401 : BitVec 32 := Scalar.muli v400 c512_i32_252
  let v402 : BitVec 32 := Scalar.addi c128_i32_253 v401
  v402
def k0_off30 (k0_t1 : Fin k0_t1_loop.trips) (k0_t3 : Fin (k0_t3_loop k0_t1).trips) : Fin 2 → Nat :=
  let c128_i32_253 : BitVec 32 := 128#32
  let c2_i32_223 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v355 : BitVec 32 := Scalar.muli c2_i32_223 arg11
  let c1_i32_251 : BitVec 32 := 1#32
  let v400 : BitVec 32 := Scalar.addi v355 c1_i32_251
  let c512_i32_252 : BitVec 32 := 512#32
  let v401 : BitVec 32 := Scalar.muli v400 c512_i32_252
  let v402 : BitVec 32 := Scalar.addi c128_i32_253 v401
  let v403 : BitVec 32 := v402
  let v404 : Index := Scalar.indexCast v403
  let c0_254 : Index := 0#32
  ![v404.toNat, 0]
def k0_off31 (k0_t1 : Fin k0_t1_loop.trips) : Fin 2 → Nat :=
  let c0_255 : Index := 0#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v406 : Index := Scalar.indexCast v161
  ![0, v406.toNat]
def k0_off32 (k0_t1 : Fin k0_t1_loop.trips) (k0_t3 : Fin (k0_t3_loop k0_t1).trips) : Fin 2 → Nat :=
  let c160_261 : Index := 160#32
  let c128_i32_227 : BitVec 32 := 128#32
  let c2_i32_223 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v355 : BitVec 32 := Scalar.muli c2_i32_223 arg11
  let c512_i32_226 : BitVec 32 := 512#32
  let v359 : BitVec 32 := Scalar.muli v355 c512_i32_226
  let v360 : BitVec 32 := Scalar.addi c128_i32_227 v359
  let v361 : BitVec 32 := v360
  let v413 : Index := Scalar.indexCast v361
  ![160, v413.toNat]
def k0_off33 (k0_t1 : Fin k0_t1_loop.trips) (k0_t3 : Fin (k0_t3_loop k0_t1).trips) : Fin 2 → Nat :=
  let c240_267 : Index := 240#32
  let c128_i32_227 : BitVec 32 := 128#32
  let c2_i32_223 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v355 : BitVec 32 := Scalar.muli c2_i32_223 arg11
  let c512_i32_226 : BitVec 32 := 512#32
  let v359 : BitVec 32 := Scalar.muli v355 c512_i32_226
  let v360 : BitVec 32 := Scalar.addi c128_i32_227 v359
  let v361 : BitVec 32 := v360
  let v423 : Index := Scalar.indexCast v361
  ![240, v423.toNat]
def k0_mult12 (k0_t1 : Fin k0_t1_loop.trips) (k0_t3 : Fin (k0_t3_loop k0_t1).trips) : BitVec 32 :=
  let c128_i32_274 : BitVec 32 := 128#32
  let c2_i32_271 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v430 : BitVec 32 := Scalar.muli c2_i32_271 arg11
  let c1_i32_272 : BitVec 32 := 1#32
  let v431 : BitVec 32 := Scalar.addi v430 c1_i32_272
  let c512_i32_273 : BitVec 32 := 512#32
  let v432 : BitVec 32 := Scalar.muli v431 c512_i32_273
  let v433 : BitVec 32 := Scalar.addi c128_i32_274 v432
  v433
def k0_mult13 (k0_t1 : Fin k0_t1_loop.trips) (k0_t3 : Fin (k0_t3_loop k0_t1).trips) : BitVec 32 :=
  let c128_i32_276 : BitVec 32 := 128#32
  let c2_i32_271 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v430 : BitVec 32 := Scalar.muli c2_i32_271 arg11
  let c1_i32_272 : BitVec 32 := 1#32
  let v431 : BitVec 32 := Scalar.addi v430 c1_i32_272
  let c512_i32_275 : BitVec 32 := 512#32
  let v435 : BitVec 32 := Scalar.muli v431 c512_i32_275
  let v436 : BitVec 32 := Scalar.addi c128_i32_276 v435
  v436
def k0_off34 (k0_t1 : Fin k0_t1_loop.trips) (k0_t3 : Fin (k0_t3_loop k0_t1).trips) : Fin 2 → Nat :=
  let c128_i32_274 : BitVec 32 := 128#32
  let c2_i32_271 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v430 : BitVec 32 := Scalar.muli c2_i32_271 arg11
  let c1_i32_272 : BitVec 32 := 1#32
  let v431 : BitVec 32 := Scalar.addi v430 c1_i32_272
  let c512_i32_273 : BitVec 32 := 512#32
  let v432 : BitVec 32 := Scalar.muli v431 c512_i32_273
  let v433 : BitVec 32 := Scalar.addi c128_i32_274 v432
  let v434 : BitVec 32 := v433
  let v439 : Index := Scalar.indexCast v434
  let c128_279 : Index := 128#32
  ![v439.toNat, 128]
def k0_off35 (k0_t1 : Fin k0_t1_loop.trips) (k0_t3 : Fin (k0_t3_loop k0_t1).trips) : Fin 2 → Nat :=
  let c128_i32_274 : BitVec 32 := 128#32
  let c2_i32_271 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v430 : BitVec 32 := Scalar.muli c2_i32_271 arg11
  let c1_i32_272 : BitVec 32 := 1#32
  let v431 : BitVec 32 := Scalar.addi v430 c1_i32_272
  let c512_i32_273 : BitVec 32 := 512#32
  let v432 : BitVec 32 := Scalar.muli v431 c512_i32_273
  let v433 : BitVec 32 := Scalar.addi c128_i32_274 v432
  let v434 : BitVec 32 := v433
  let v446 : Index := Scalar.indexCast v434
  let c256_282 : Index := 256#32
  ![v446.toNat, 256]
def k0_off36 (k0_t1 : Fin k0_t1_loop.trips) (k0_t3 : Fin (k0_t3_loop k0_t1).trips) : Fin 2 → Nat :=
  let c0_287 : Index := 0#32
  let c128_i32_276 : BitVec 32 := 128#32
  let c2_i32_271 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v430 : BitVec 32 := Scalar.muli c2_i32_271 arg11
  let c1_i32_272 : BitVec 32 := 1#32
  let v431 : BitVec 32 := Scalar.addi v430 c1_i32_272
  let c512_i32_275 : BitVec 32 := 512#32
  let v435 : BitVec 32 := Scalar.muli v431 c512_i32_275
  let v436 : BitVec 32 := Scalar.addi c128_i32_276 v435
  let v437 : BitVec 32 := v436
  let v452 : Index := Scalar.indexCast v437
  ![0, v452.toNat]
def k0_off37 (k0_t1 : Fin k0_t1_loop.trips) (k0_t3 : Fin (k0_t3_loop k0_t1).trips) : Fin 2 → Nat :=
  let c128_i32_274 : BitVec 32 := 128#32
  let c2_i32_271 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v430 : BitVec 32 := Scalar.muli c2_i32_271 arg11
  let c1_i32_272 : BitVec 32 := 1#32
  let v431 : BitVec 32 := Scalar.addi v430 c1_i32_272
  let c512_i32_273 : BitVec 32 := 512#32
  let v432 : BitVec 32 := Scalar.muli v431 c512_i32_273
  let v433 : BitVec 32 := Scalar.addi c128_i32_274 v432
  let v434 : BitVec 32 := v433
  let v461 : Index := Scalar.indexCast v434
  let c384_291 : Index := 384#32
  ![v461.toNat, 384]
def k0_off38 (k0_t1 : Fin k0_t1_loop.trips) (k0_t3 : Fin (k0_t3_loop k0_t1).trips) : Fin 2 → Nat :=
  let c80_296 : Index := 80#32
  let c128_i32_276 : BitVec 32 := 128#32
  let c2_i32_271 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v430 : BitVec 32 := Scalar.muli c2_i32_271 arg11
  let c1_i32_272 : BitVec 32 := 1#32
  let v431 : BitVec 32 := Scalar.addi v430 c1_i32_272
  let c512_i32_275 : BitVec 32 := 512#32
  let v435 : BitVec 32 := Scalar.muli v431 c512_i32_275
  let v436 : BitVec 32 := Scalar.addi c128_i32_276 v435
  let v437 : BitVec 32 := v436
  let v467 : Index := Scalar.indexCast v437
  ![80, v467.toNat]
def k0_mult14 (k0_t1 : Fin k0_t1_loop.trips) (k0_t3 : Fin (k0_t3_loop k0_t1).trips) : BitVec 32 :=
  let c128_i32_302 : BitVec 32 := 128#32
  let c2_i32_271 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v430 : BitVec 32 := Scalar.muli c2_i32_271 arg11
  let c1_i32_272 : BitVec 32 := 1#32
  let v431 : BitVec 32 := Scalar.addi v430 c1_i32_272
  let c1_i32_300 : BitVec 32 := 1#32
  let v476 : BitVec 32 := Scalar.addi v431 c1_i32_300
  let c512_i32_301 : BitVec 32 := 512#32
  let v477 : BitVec 32 := Scalar.muli v476 c512_i32_301
  let v478 : BitVec 32 := Scalar.addi c128_i32_302 v477
  v478
def k0_off39 (k0_t1 : Fin k0_t1_loop.trips) (k0_t3 : Fin (k0_t3_loop k0_t1).trips) : Fin 2 → Nat :=
  let c128_i32_302 : BitVec 32 := 128#32
  let c2_i32_271 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v430 : BitVec 32 := Scalar.muli c2_i32_271 arg11
  let c1_i32_272 : BitVec 32 := 1#32
  let v431 : BitVec 32 := Scalar.addi v430 c1_i32_272
  let c1_i32_300 : BitVec 32 := 1#32
  let v476 : BitVec 32 := Scalar.addi v431 c1_i32_300
  let c512_i32_301 : BitVec 32 := 512#32
  let v477 : BitVec 32 := Scalar.muli v476 c512_i32_301
  let v478 : BitVec 32 := Scalar.addi c128_i32_302 v477
  let v479 : BitVec 32 := v478
  let v480 : Index := Scalar.indexCast v479
  let c0_303 : Index := 0#32
  ![v480.toNat, 0]
def k0_off40 (k0_t1 : Fin k0_t1_loop.trips) (k0_t3 : Fin (k0_t3_loop k0_t1).trips) : Fin 2 → Nat :=
  let c160_310 : Index := 160#32
  let c128_i32_276 : BitVec 32 := 128#32
  let c2_i32_271 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v430 : BitVec 32 := Scalar.muli c2_i32_271 arg11
  let c1_i32_272 : BitVec 32 := 1#32
  let v431 : BitVec 32 := Scalar.addi v430 c1_i32_272
  let c512_i32_275 : BitVec 32 := 512#32
  let v435 : BitVec 32 := Scalar.muli v431 c512_i32_275
  let v436 : BitVec 32 := Scalar.addi c128_i32_276 v435
  let v437 : BitVec 32 := v436
  let v489 : Index := Scalar.indexCast v437
  ![160, v489.toNat]
def k0_off41 (k0_t1 : Fin k0_t1_loop.trips) (k0_t3 : Fin (k0_t3_loop k0_t1).trips) : Fin 2 → Nat :=
  let c240_316 : Index := 240#32
  let c128_i32_276 : BitVec 32 := 128#32
  let c2_i32_271 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t3
  let v430 : BitVec 32 := Scalar.muli c2_i32_271 arg11
  let c1_i32_272 : BitVec 32 := 1#32
  let v431 : BitVec 32 := Scalar.addi v430 c1_i32_272
  let c512_i32_275 : BitVec 32 := 512#32
  let v435 : BitVec 32 := Scalar.muli v431 c512_i32_275
  let v436 : BitVec 32 := Scalar.addi c128_i32_276 v435
  let v437 : BitVec 32 := v436
  let v499 : Index := Scalar.indexCast v437
  ![240, v499.toNat]
def k0_cond2 (k0_t1 : Fin k0_t1_loop.trips) : BitVec 1 :=
  let c0_i32 : BitVec 32 := 0#32
  let c1_i32 : BitVec 32 := 1#32
  let arg10 : BitVec 32 := Scf.iv c0_i32 c1_i32 k0_t1
  let c2_i32_130 : BitVec 32 := 2#32
  let c0_i32_131 : BitVec 32 := 0#32
  let v209 : BitVec 1 := Scalar.cmpi .eq c2_i32_130 c0_i32_131
  let c1_i32_132 : BitVec 32 := 1#32
  let v210 : BitVec 32 := Scalar.select v209 c1_i32_132 c2_i32_130
  let v211 : BitVec 32 := Scalar.remsi arg10 v210
  let c0_i32_134 : BitVec 32 := 0#32
  let v213 : BitVec 1 := Scalar.cmpi .slt v211 c0_i32_134
  let c0_i32_135 : BitVec 32 := 0#32
  let v214 : BitVec 1 := Scalar.cmpi .slt v210 c0_i32_135
  let v215 : BitVec 1 := Scalar.xori v213 v214
  let c0_i32_133 : BitVec 32 := 0#32
  let v212 : BitVec 1 := Scalar.cmpi .ne v211 c0_i32_133
  let v216 : BitVec 1 := Scalar.andi v215 v212
  let v217 : BitVec 32 := Scalar.addi v211 v210
  let v218 : BitVec 32 := Scalar.select v216 v217 v211
  let c1_i32_136 : BitVec 32 := 1#32
  let v219 : BitVec 1 := Scalar.cmpi .eq v218 c1_i32_136
  let v220 : BitVec 32 := Scalar.extui v219
  let c0_i32_137 : BitVec 32 := 0#32
  let v221 : BitVec 1 := Scalar.cmpi .ne v220 c0_i32_137
  v221

def k0_mult15 (k0_t1 : Fin k0_t1_loop.trips) : BitVec 32 :=
  let c128_i32_225 : BitVec 32 := 128#32
  let c0_i32 : BitVec 32 := 0#32
  let c1_i32 : BitVec 32 := 1#32
  let arg10 : BitVec 32 := Scf.iv c0_i32 c1_i32 k0_t1
  let c1_i32_223 : BitVec 32 := 1#32
  let v355 : BitVec 32 := Scalar.subi arg10 c1_i32_223
  let c512_i32_224 : BitVec 32 := 512#32
  let v356 : BitVec 32 := Scalar.muli v355 c512_i32_224
  let v357 : BitVec 32 := Scalar.addi c128_i32_225 v356
  v357
def k0_mult16 (k0_t1 : Fin k0_t1_loop.trips) : BitVec 32 :=
  let c128_i32_227 : BitVec 32 := 128#32
  let c0_i32 : BitVec 32 := 0#32
  let c1_i32 : BitVec 32 := 1#32
  let arg10 : BitVec 32 := Scf.iv c0_i32 c1_i32 k0_t1
  let c1_i32_223 : BitVec 32 := 1#32
  let v355 : BitVec 32 := Scalar.subi arg10 c1_i32_223
  let c512_i32_226 : BitVec 32 := 512#32
  let v359 : BitVec 32 := Scalar.muli v355 c512_i32_226
  let v360 : BitVec 32 := Scalar.addi c128_i32_227 v359
  v360
def k0_off42 (k0_t1 : Fin k0_t1_loop.trips) : Fin 2 → Nat :=
  let c128_i32_225 : BitVec 32 := 128#32
  let c0_i32 : BitVec 32 := 0#32
  let c1_i32 : BitVec 32 := 1#32
  let arg10 : BitVec 32 := Scf.iv c0_i32 c1_i32 k0_t1
  let c1_i32_223 : BitVec 32 := 1#32
  let v355 : BitVec 32 := Scalar.subi arg10 c1_i32_223
  let c512_i32_224 : BitVec 32 := 512#32
  let v356 : BitVec 32 := Scalar.muli v355 c512_i32_224
  let v357 : BitVec 32 := Scalar.addi c128_i32_225 v356
  let v358 : BitVec 32 := v357
  let v363 : Index := Scalar.indexCast v358
  let c128_230 : Index := 128#32
  ![v363.toNat, 128]
def k0_off43 (k0_t1 : Fin k0_t1_loop.trips) : Fin 2 → Nat :=
  let c128_231 : Index := 128#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v365 : Index := Scalar.indexCast v161
  ![128, v365.toNat]
def k0_off44 (k0_t1 : Fin k0_t1_loop.trips) : Fin 2 → Nat :=
  let c128_i32_225 : BitVec 32 := 128#32
  let c0_i32 : BitVec 32 := 0#32
  let c1_i32 : BitVec 32 := 1#32
  let arg10 : BitVec 32 := Scf.iv c0_i32 c1_i32 k0_t1
  let c1_i32_223 : BitVec 32 := 1#32
  let v355 : BitVec 32 := Scalar.subi arg10 c1_i32_223
  let c512_i32_224 : BitVec 32 := 512#32
  let v356 : BitVec 32 := Scalar.muli v355 c512_i32_224
  let v357 : BitVec 32 := Scalar.addi c128_i32_225 v356
  let v358 : BitVec 32 := v357
  let v370 : Index := Scalar.indexCast v358
  let c256_233 : Index := 256#32
  ![v370.toNat, 256]
def k0_off45 (k0_t1 : Fin k0_t1_loop.trips) : Fin 2 → Nat :=
  let c256_234 : Index := 256#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v372 : Index := Scalar.indexCast v161
  ![256, v372.toNat]
def k0_off46 (k0_t1 : Fin k0_t1_loop.trips) : Fin 2 → Nat :=
  let c0_238 : Index := 0#32
  let c128_i32_227 : BitVec 32 := 128#32
  let c0_i32 : BitVec 32 := 0#32
  let c1_i32 : BitVec 32 := 1#32
  let arg10 : BitVec 32 := Scf.iv c0_i32 c1_i32 k0_t1
  let c1_i32_223 : BitVec 32 := 1#32
  let v355 : BitVec 32 := Scalar.subi arg10 c1_i32_223
  let c512_i32_226 : BitVec 32 := 512#32
  let v359 : BitVec 32 := Scalar.muli v355 c512_i32_226
  let v360 : BitVec 32 := Scalar.addi c128_i32_227 v359
  let v361 : BitVec 32 := v360
  let v376 : Index := Scalar.indexCast v361
  ![0, v376.toNat]
def k0_off47 (k0_t1 : Fin k0_t1_loop.trips) : Fin 2 → Nat :=
  let c128_i32_225 : BitVec 32 := 128#32
  let c0_i32 : BitVec 32 := 0#32
  let c1_i32 : BitVec 32 := 1#32
  let arg10 : BitVec 32 := Scf.iv c0_i32 c1_i32 k0_t1
  let c1_i32_223 : BitVec 32 := 1#32
  let v355 : BitVec 32 := Scalar.subi arg10 c1_i32_223
  let c512_i32_224 : BitVec 32 := 512#32
  let v356 : BitVec 32 := Scalar.muli v355 c512_i32_224
  let v357 : BitVec 32 := Scalar.addi c128_i32_225 v356
  let v358 : BitVec 32 := v357
  let v385 : Index := Scalar.indexCast v358
  let c384_242 : Index := 384#32
  ![v385.toNat, 384]
def k0_off48 (k0_t1 : Fin k0_t1_loop.trips) : Fin 2 → Nat :=
  let c384_243 : Index := 384#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v387 : Index := Scalar.indexCast v161
  ![384, v387.toNat]
def k0_off49 (k0_t1 : Fin k0_t1_loop.trips) : Fin 2 → Nat :=
  let c80_247 : Index := 80#32
  let c128_i32_227 : BitVec 32 := 128#32
  let c0_i32 : BitVec 32 := 0#32
  let c1_i32 : BitVec 32 := 1#32
  let arg10 : BitVec 32 := Scf.iv c0_i32 c1_i32 k0_t1
  let c1_i32_223 : BitVec 32 := 1#32
  let v355 : BitVec 32 := Scalar.subi arg10 c1_i32_223
  let c512_i32_226 : BitVec 32 := 512#32
  let v359 : BitVec 32 := Scalar.muli v355 c512_i32_226
  let v360 : BitVec 32 := Scalar.addi c128_i32_227 v359
  let v361 : BitVec 32 := v360
  let v391 : Index := Scalar.indexCast v361
  ![80, v391.toNat]
def k0_mult17 (k0_t1 : Fin k0_t1_loop.trips) : BitVec 32 :=
  let c128_i32_253 : BitVec 32 := 128#32
  let c0_i32 : BitVec 32 := 0#32
  let c1_i32 : BitVec 32 := 1#32
  let arg10 : BitVec 32 := Scf.iv c0_i32 c1_i32 k0_t1
  let c1_i32_223 : BitVec 32 := 1#32
  let v355 : BitVec 32 := Scalar.subi arg10 c1_i32_223
  let c1_i32_251 : BitVec 32 := 1#32
  let v400 : BitVec 32 := Scalar.addi v355 c1_i32_251
  let c512_i32_252 : BitVec 32 := 512#32
  let v401 : BitVec 32 := Scalar.muli v400 c512_i32_252
  let v402 : BitVec 32 := Scalar.addi c128_i32_253 v401
  v402
def k0_off50 (k0_t1 : Fin k0_t1_loop.trips) : Fin 2 → Nat :=
  let c128_i32_253 : BitVec 32 := 128#32
  let c0_i32 : BitVec 32 := 0#32
  let c1_i32 : BitVec 32 := 1#32
  let arg10 : BitVec 32 := Scf.iv c0_i32 c1_i32 k0_t1
  let c1_i32_223 : BitVec 32 := 1#32
  let v355 : BitVec 32 := Scalar.subi arg10 c1_i32_223
  let c1_i32_251 : BitVec 32 := 1#32
  let v400 : BitVec 32 := Scalar.addi v355 c1_i32_251
  let c512_i32_252 : BitVec 32 := 512#32
  let v401 : BitVec 32 := Scalar.muli v400 c512_i32_252
  let v402 : BitVec 32 := Scalar.addi c128_i32_253 v401
  let v403 : BitVec 32 := v402
  let v404 : Index := Scalar.indexCast v403
  let c0_254 : Index := 0#32
  ![v404.toNat, 0]
def k0_off51 (k0_t1 : Fin k0_t1_loop.trips) : Fin 2 → Nat :=
  let c0_255 : Index := 0#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v406 : Index := Scalar.indexCast v161
  ![0, v406.toNat]
def k0_off52 (k0_t1 : Fin k0_t1_loop.trips) : Fin 2 → Nat :=
  let c160_261 : Index := 160#32
  let c128_i32_227 : BitVec 32 := 128#32
  let c0_i32 : BitVec 32 := 0#32
  let c1_i32 : BitVec 32 := 1#32
  let arg10 : BitVec 32 := Scf.iv c0_i32 c1_i32 k0_t1
  let c1_i32_223 : BitVec 32 := 1#32
  let v355 : BitVec 32 := Scalar.subi arg10 c1_i32_223
  let c512_i32_226 : BitVec 32 := 512#32
  let v359 : BitVec 32 := Scalar.muli v355 c512_i32_226
  let v360 : BitVec 32 := Scalar.addi c128_i32_227 v359
  let v361 : BitVec 32 := v360
  let v413 : Index := Scalar.indexCast v361
  ![160, v413.toNat]
def k0_off53 (k0_t1 : Fin k0_t1_loop.trips) : Fin 2 → Nat :=
  let c240_267 : Index := 240#32
  let c128_i32_227 : BitVec 32 := 128#32
  let c0_i32 : BitVec 32 := 0#32
  let c1_i32 : BitVec 32 := 1#32
  let arg10 : BitVec 32 := Scf.iv c0_i32 c1_i32 k0_t1
  let c1_i32_223 : BitVec 32 := 1#32
  let v355 : BitVec 32 := Scalar.subi arg10 c1_i32_223
  let c512_i32_226 : BitVec 32 := 512#32
  let v359 : BitVec 32 := Scalar.muli v355 c512_i32_226
  let v360 : BitVec 32 := Scalar.addi c128_i32_227 v359
  let v361 : BitVec 32 := v360
  let v423 : Index := Scalar.indexCast v361
  ![240, v423.toNat]
def k0_off54 (k0_t1 : Fin k0_t1_loop.trips) : Fin 2 → Nat :=
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v243 : Index := Scalar.indexCast v161
  let c128_150 : Index := 128#32
  ![v243.toNat, 128]
def k0_off55 (k0_t1 : Fin k0_t1_loop.trips) : Fin 2 → Nat :=
  let c128_151 : Index := 128#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v246 : Index := Scalar.indexCast v161
  ![128, v246.toNat]
def k0_off56 (k0_t1 : Fin k0_t1_loop.trips) : Fin 2 → Nat :=
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v254 : Index := Scalar.indexCast v161
  let c256_156 : Index := 256#32
  ![v254.toNat, 256]
def k0_off57 (k0_t1 : Fin k0_t1_loop.trips) : Fin 2 → Nat :=
  let c256_157 : Index := 256#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v257 : Index := Scalar.indexCast v161
  ![256, v257.toNat]
def k0_off58 (k0_t1 : Fin k0_t1_loop.trips) : Fin 2 → Nat :=
  let c0_163 : Index := 0#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v262 : Index := Scalar.indexCast v161
  ![0, v262.toNat]
def k0_off59 (k0_t1 : Fin k0_t1_loop.trips) : Fin 2 → Nat :=
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v275 : Index := Scalar.indexCast v161
  let c384_170 : Index := 384#32
  ![v275.toNat, 384]
def k0_off60 (k0_t1 : Fin k0_t1_loop.trips) : Fin 2 → Nat :=
  let c384_171 : Index := 384#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v278 : Index := Scalar.indexCast v161
  ![384, v278.toNat]
def k0_off61 (k0_t1 : Fin k0_t1_loop.trips) : Fin 2 → Nat :=
  let c80_177 : Index := 80#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v283 : Index := Scalar.indexCast v161
  ![80, v283.toNat]
def k0_off62 (k0_t1 : Fin k0_t1_loop.trips) : Fin 2 → Nat :=
  let c160_186 : Index := 160#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v297 : Index := Scalar.indexCast v161
  ![160, v297.toNat]
def k0_off63 (k0_t1 : Fin k0_t1_loop.trips) : Fin 2 → Nat :=
  let c240_195 : Index := 240#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v311 : Index := Scalar.indexCast v161
  ![240, v311.toNat]
def k0_off64 (k0_t1 : Fin k0_t1_loop.trips) : Fin 2 → Nat :=
  let c0_204 : Index := 0#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v326 : Index := Scalar.indexCast v161
  ![0, v326.toNat]
def k0_off65 (k0_t1 : Fin k0_t1_loop.trips) : Fin 2 → Nat :=
  let c64_210 : Index := 64#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v335 : Index := Scalar.indexCast v161
  ![64, v335.toNat]
def k0_off66 (k0_t1 : Fin k0_t1_loop.trips) : Fin 2 → Nat :=
  let c128_216 : Index := 128#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v344 : Index := Scalar.indexCast v161
  ![128, v344.toNat]
def k0_off67 (k0_t1 : Fin k0_t1_loop.trips) : Fin 2 → Nat :=
  let c192_222 : Index := 192#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v353 : Index := Scalar.indexCast v161
  ![192, v353.toNat]
def k0_mult18 : BitVec 32 :=
  let c128_i32_113 : BitVec 32 := 128#32
  c128_i32_113
def k0_off68 (k0_t1 : Fin k0_t1_loop.trips) : Fin 2 → Nat :=
  let c0_115 : Index := 0#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v181 : Index := Scalar.indexCast v161
  ![0, v181.toNat]
@[reducible] def k0_t4_loop (k0_t1 : Fin k0_t1_loop.trips) : Scf.Loop 32 :=
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_128 : BitVec 32 := 1#32
  ⟨c0_i32_126, v208, c1_i32_128⟩
def k0_mult19 (k0_t1 : Fin k0_t1_loop.trips) (k0_t4 : Fin (k0_t4_loop k0_t1).trips) : BitVec 32 :=
  let c128_i32_253 : BitVec 32 := 128#32
  let c2_i32_251 : BitVec 32 := 2#32
  let c0_i32_126 : BitVec 32 := 0#32
  let c1_i32_128 : BitVec 32 := 1#32
  let arg11 : BitVec 32 := Scf.iv c0_i32_126 c1_i32_128 k0_t4
  let v411 : BitVec 32 := Scalar.muli c2_i32_251 arg11
  let c512_i32_252 : BitVec 32 := 512#32
  let v412 : BitVec 32 := Scalar.muli v411 c512_i32_252
  let v413 : BitVec 32 := Scalar.addi c128_i32_253 v412
  v413
def k0_mult20 (k0_t1 : Fin k0_t1_loop.trips) (k0_t4 : Fin (k0_t4_loop k0_t1).trips) : BitVec 32 :=
  let c128_i32_255 : BitVec 32 := 128#32
  let c2_i32_251 : BitVec 32 := 2#32
  let c0_i32_126 : BitVec 32 := 0#32
  let c1_i32_128 : BitVec 32 := 1#32
  let arg11 : BitVec 32 := Scf.iv c0_i32_126 c1_i32_128 k0_t4
  let v411 : BitVec 32 := Scalar.muli c2_i32_251 arg11
  let c512_i32_254 : BitVec 32 := 512#32
  let v415 : BitVec 32 := Scalar.muli v411 c512_i32_254
  let v416 : BitVec 32 := Scalar.addi c128_i32_255 v415
  v416
def k0_off69 (k0_t1 : Fin k0_t1_loop.trips) (k0_t4 : Fin (k0_t4_loop k0_t1).trips) : Fin 2 → Nat :=
  let c128_i32_253 : BitVec 32 := 128#32
  let c2_i32_251 : BitVec 32 := 2#32
  let c0_i32_126 : BitVec 32 := 0#32
  let c1_i32_128 : BitVec 32 := 1#32
  let arg11 : BitVec 32 := Scf.iv c0_i32_126 c1_i32_128 k0_t4
  let v411 : BitVec 32 := Scalar.muli c2_i32_251 arg11
  let c512_i32_252 : BitVec 32 := 512#32
  let v412 : BitVec 32 := Scalar.muli v411 c512_i32_252
  let v413 : BitVec 32 := Scalar.addi c128_i32_253 v412
  let v414 : BitVec 32 := v413
  let v419 : Index := Scalar.indexCast v414
  let c128_258 : Index := 128#32
  ![v419.toNat, 128]
def k0_off70 (k0_t1 : Fin k0_t1_loop.trips) : Fin 2 → Nat :=
  let c128_259 : Index := 128#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v421 : Index := Scalar.indexCast v161
  ![128, v421.toNat]
def k0_off71 (k0_t1 : Fin k0_t1_loop.trips) (k0_t4 : Fin (k0_t4_loop k0_t1).trips) : Fin 2 → Nat :=
  let c128_i32_253 : BitVec 32 := 128#32
  let c2_i32_251 : BitVec 32 := 2#32
  let c0_i32_126 : BitVec 32 := 0#32
  let c1_i32_128 : BitVec 32 := 1#32
  let arg11 : BitVec 32 := Scf.iv c0_i32_126 c1_i32_128 k0_t4
  let v411 : BitVec 32 := Scalar.muli c2_i32_251 arg11
  let c512_i32_252 : BitVec 32 := 512#32
  let v412 : BitVec 32 := Scalar.muli v411 c512_i32_252
  let v413 : BitVec 32 := Scalar.addi c128_i32_253 v412
  let v414 : BitVec 32 := v413
  let v438 : Index := Scalar.indexCast v414
  let c256_268 : Index := 256#32
  ![v438.toNat, 256]
def k0_off72 (k0_t1 : Fin k0_t1_loop.trips) : Fin 2 → Nat :=
  let c256_269 : Index := 256#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v440 : Index := Scalar.indexCast v161
  ![256, v440.toNat]
def k0_off73 (k0_t1 : Fin k0_t1_loop.trips) (k0_t4 : Fin (k0_t4_loop k0_t1).trips) : Fin 2 → Nat :=
  let c0_273 : Index := 0#32
  let c128_i32_255 : BitVec 32 := 128#32
  let c2_i32_251 : BitVec 32 := 2#32
  let c0_i32_126 : BitVec 32 := 0#32
  let c1_i32_128 : BitVec 32 := 1#32
  let arg11 : BitVec 32 := Scf.iv c0_i32_126 c1_i32_128 k0_t4
  let v411 : BitVec 32 := Scalar.muli c2_i32_251 arg11
  let c512_i32_254 : BitVec 32 := 512#32
  let v415 : BitVec 32 := Scalar.muli v411 c512_i32_254
  let v416 : BitVec 32 := Scalar.addi c128_i32_255 v415
  let v417 : BitVec 32 := v416
  let v446 : Index := Scalar.indexCast v417
  ![0, v446.toNat]
def k0_off74 (k0_t1 : Fin k0_t1_loop.trips) (k0_t4 : Fin (k0_t4_loop k0_t1).trips) : Fin 2 → Nat :=
  let c128_i32_253 : BitVec 32 := 128#32
  let c2_i32_251 : BitVec 32 := 2#32
  let c0_i32_126 : BitVec 32 := 0#32
  let c1_i32_128 : BitVec 32 := 1#32
  let arg11 : BitVec 32 := Scf.iv c0_i32_126 c1_i32_128 k0_t4
  let v411 : BitVec 32 := Scalar.muli c2_i32_251 arg11
  let c512_i32_252 : BitVec 32 := 512#32
  let v412 : BitVec 32 := Scalar.muli v411 c512_i32_252
  let v413 : BitVec 32 := Scalar.addi c128_i32_253 v412
  let v414 : BitVec 32 := v413
  let v467 : Index := Scalar.indexCast v414
  let c384_284 : Index := 384#32
  ![v467.toNat, 384]
def k0_off75 (k0_t1 : Fin k0_t1_loop.trips) : Fin 2 → Nat :=
  let c384_285 : Index := 384#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v469 : Index := Scalar.indexCast v161
  ![384, v469.toNat]
def k0_off76 (k0_t1 : Fin k0_t1_loop.trips) (k0_t4 : Fin (k0_t4_loop k0_t1).trips) : Fin 2 → Nat :=
  let c80_289 : Index := 80#32
  let c128_i32_255 : BitVec 32 := 128#32
  let c2_i32_251 : BitVec 32 := 2#32
  let c0_i32_126 : BitVec 32 := 0#32
  let c1_i32_128 : BitVec 32 := 1#32
  let arg11 : BitVec 32 := Scf.iv c0_i32_126 c1_i32_128 k0_t4
  let v411 : BitVec 32 := Scalar.muli c2_i32_251 arg11
  let c512_i32_254 : BitVec 32 := 512#32
  let v415 : BitVec 32 := Scalar.muli v411 c512_i32_254
  let v416 : BitVec 32 := Scalar.addi c128_i32_255 v415
  let v417 : BitVec 32 := v416
  let v475 : Index := Scalar.indexCast v417
  ![80, v475.toNat]
def k0_mult21 (k0_t1 : Fin k0_t1_loop.trips) (k0_t4 : Fin (k0_t4_loop k0_t1).trips) : BitVec 32 :=
  let c128_i32_302 : BitVec 32 := 128#32
  let c2_i32_251 : BitVec 32 := 2#32
  let c0_i32_126 : BitVec 32 := 0#32
  let c1_i32_128 : BitVec 32 := 1#32
  let arg11 : BitVec 32 := Scf.iv c0_i32_126 c1_i32_128 k0_t4
  let v411 : BitVec 32 := Scalar.muli c2_i32_251 arg11
  let c1_i32_300 : BitVec 32 := 1#32
  let v496 : BitVec 32 := Scalar.addi v411 c1_i32_300
  let c512_i32_301 : BitVec 32 := 512#32
  let v497 : BitVec 32 := Scalar.muli v496 c512_i32_301
  let v498 : BitVec 32 := Scalar.addi c128_i32_302 v497
  v498
def k0_off77 (k0_t1 : Fin k0_t1_loop.trips) (k0_t4 : Fin (k0_t4_loop k0_t1).trips) : Fin 2 → Nat :=
  let c128_i32_302 : BitVec 32 := 128#32
  let c2_i32_251 : BitVec 32 := 2#32
  let c0_i32_126 : BitVec 32 := 0#32
  let c1_i32_128 : BitVec 32 := 1#32
  let arg11 : BitVec 32 := Scf.iv c0_i32_126 c1_i32_128 k0_t4
  let v411 : BitVec 32 := Scalar.muli c2_i32_251 arg11
  let c1_i32_300 : BitVec 32 := 1#32
  let v496 : BitVec 32 := Scalar.addi v411 c1_i32_300
  let c512_i32_301 : BitVec 32 := 512#32
  let v497 : BitVec 32 := Scalar.muli v496 c512_i32_301
  let v498 : BitVec 32 := Scalar.addi c128_i32_302 v497
  let v499 : BitVec 32 := v498
  let v500 : Index := Scalar.indexCast v499
  let c0_303 : Index := 0#32
  ![v500.toNat, 0]
def k0_off78 (k0_t1 : Fin k0_t1_loop.trips) : Fin 2 → Nat :=
  let c0_304 : Index := 0#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v502 : Index := Scalar.indexCast v161
  ![0, v502.toNat]
def k0_off79 (k0_t1 : Fin k0_t1_loop.trips) (k0_t4 : Fin (k0_t4_loop k0_t1).trips) : Fin 2 → Nat :=
  let c160_310 : Index := 160#32
  let c128_i32_255 : BitVec 32 := 128#32
  let c2_i32_251 : BitVec 32 := 2#32
  let c0_i32_126 : BitVec 32 := 0#32
  let c1_i32_128 : BitVec 32 := 1#32
  let arg11 : BitVec 32 := Scf.iv c0_i32_126 c1_i32_128 k0_t4
  let v411 : BitVec 32 := Scalar.muli c2_i32_251 arg11
  let c512_i32_254 : BitVec 32 := 512#32
  let v415 : BitVec 32 := Scalar.muli v411 c512_i32_254
  let v416 : BitVec 32 := Scalar.addi c128_i32_255 v415
  let v417 : BitVec 32 := v416
  let v511 : Index := Scalar.indexCast v417
  ![160, v511.toNat]
def k0_off80 (k0_t1 : Fin k0_t1_loop.trips) (k0_t4 : Fin (k0_t4_loop k0_t1).trips) : Fin 2 → Nat :=
  let c240_323 : Index := 240#32
  let c128_i32_255 : BitVec 32 := 128#32
  let c2_i32_251 : BitVec 32 := 2#32
  let c0_i32_126 : BitVec 32 := 0#32
  let c1_i32_128 : BitVec 32 := 1#32
  let arg11 : BitVec 32 := Scf.iv c0_i32_126 c1_i32_128 k0_t4
  let v411 : BitVec 32 := Scalar.muli c2_i32_251 arg11
  let c512_i32_254 : BitVec 32 := 512#32
  let v415 : BitVec 32 := Scalar.muli v411 c512_i32_254
  let v416 : BitVec 32 := Scalar.addi c128_i32_255 v415
  let v417 : BitVec 32 := v416
  let v535 : Index := Scalar.indexCast v417
  ![240, v535.toNat]
def k0_mult22 (k0_t1 : Fin k0_t1_loop.trips) (k0_t4 : Fin (k0_t4_loop k0_t1).trips) : BitVec 32 :=
  let c128_i32_330 : BitVec 32 := 128#32
  let c2_i32_327 : BitVec 32 := 2#32
  let c0_i32_126 : BitVec 32 := 0#32
  let c1_i32_128 : BitVec 32 := 1#32
  let arg11 : BitVec 32 := Scf.iv c0_i32_126 c1_i32_128 k0_t4
  let v542 : BitVec 32 := Scalar.muli c2_i32_327 arg11
  let c1_i32_328 : BitVec 32 := 1#32
  let v543 : BitVec 32 := Scalar.addi v542 c1_i32_328
  let c512_i32_329 : BitVec 32 := 512#32
  let v544 : BitVec 32 := Scalar.muli v543 c512_i32_329
  let v545 : BitVec 32 := Scalar.addi c128_i32_330 v544
  v545
def k0_mult23 (k0_t1 : Fin k0_t1_loop.trips) (k0_t4 : Fin (k0_t4_loop k0_t1).trips) : BitVec 32 :=
  let c128_i32_332 : BitVec 32 := 128#32
  let c2_i32_327 : BitVec 32 := 2#32
  let c0_i32_126 : BitVec 32 := 0#32
  let c1_i32_128 : BitVec 32 := 1#32
  let arg11 : BitVec 32 := Scf.iv c0_i32_126 c1_i32_128 k0_t4
  let v542 : BitVec 32 := Scalar.muli c2_i32_327 arg11
  let c1_i32_328 : BitVec 32 := 1#32
  let v543 : BitVec 32 := Scalar.addi v542 c1_i32_328
  let c512_i32_331 : BitVec 32 := 512#32
  let v547 : BitVec 32 := Scalar.muli v543 c512_i32_331
  let v548 : BitVec 32 := Scalar.addi c128_i32_332 v547
  v548
def k0_off81 (k0_t1 : Fin k0_t1_loop.trips) (k0_t4 : Fin (k0_t4_loop k0_t1).trips) : Fin 2 → Nat :=
  let c128_i32_330 : BitVec 32 := 128#32
  let c2_i32_327 : BitVec 32 := 2#32
  let c0_i32_126 : BitVec 32 := 0#32
  let c1_i32_128 : BitVec 32 := 1#32
  let arg11 : BitVec 32 := Scf.iv c0_i32_126 c1_i32_128 k0_t4
  let v542 : BitVec 32 := Scalar.muli c2_i32_327 arg11
  let c1_i32_328 : BitVec 32 := 1#32
  let v543 : BitVec 32 := Scalar.addi v542 c1_i32_328
  let c512_i32_329 : BitVec 32 := 512#32
  let v544 : BitVec 32 := Scalar.muli v543 c512_i32_329
  let v545 : BitVec 32 := Scalar.addi c128_i32_330 v544
  let v546 : BitVec 32 := v545
  let v551 : Index := Scalar.indexCast v546
  let c128_335 : Index := 128#32
  ![v551.toNat, 128]
def k0_off82 (k0_t1 : Fin k0_t1_loop.trips) (k0_t4 : Fin (k0_t4_loop k0_t1).trips) : Fin 2 → Nat :=
  let c128_i32_330 : BitVec 32 := 128#32
  let c2_i32_327 : BitVec 32 := 2#32
  let c0_i32_126 : BitVec 32 := 0#32
  let c1_i32_128 : BitVec 32 := 1#32
  let arg11 : BitVec 32 := Scf.iv c0_i32_126 c1_i32_128 k0_t4
  let v542 : BitVec 32 := Scalar.muli c2_i32_327 arg11
  let c1_i32_328 : BitVec 32 := 1#32
  let v543 : BitVec 32 := Scalar.addi v542 c1_i32_328
  let c512_i32_329 : BitVec 32 := 512#32
  let v544 : BitVec 32 := Scalar.muli v543 c512_i32_329
  let v545 : BitVec 32 := Scalar.addi c128_i32_330 v544
  let v546 : BitVec 32 := v545
  let v570 : Index := Scalar.indexCast v546
  let c256_345 : Index := 256#32
  ![v570.toNat, 256]
def k0_off83 (k0_t1 : Fin k0_t1_loop.trips) (k0_t4 : Fin (k0_t4_loop k0_t1).trips) : Fin 2 → Nat :=
  let c0_350 : Index := 0#32
  let c128_i32_332 : BitVec 32 := 128#32
  let c2_i32_327 : BitVec 32 := 2#32
  let c0_i32_126 : BitVec 32 := 0#32
  let c1_i32_128 : BitVec 32 := 1#32
  let arg11 : BitVec 32 := Scf.iv c0_i32_126 c1_i32_128 k0_t4
  let v542 : BitVec 32 := Scalar.muli c2_i32_327 arg11
  let c1_i32_328 : BitVec 32 := 1#32
  let v543 : BitVec 32 := Scalar.addi v542 c1_i32_328
  let c512_i32_331 : BitVec 32 := 512#32
  let v547 : BitVec 32 := Scalar.muli v543 c512_i32_331
  let v548 : BitVec 32 := Scalar.addi c128_i32_332 v547
  let v549 : BitVec 32 := v548
  let v578 : Index := Scalar.indexCast v549
  ![0, v578.toNat]
def k0_off84 (k0_t1 : Fin k0_t1_loop.trips) (k0_t4 : Fin (k0_t4_loop k0_t1).trips) : Fin 2 → Nat :=
  let c128_i32_330 : BitVec 32 := 128#32
  let c2_i32_327 : BitVec 32 := 2#32
  let c0_i32_126 : BitVec 32 := 0#32
  let c1_i32_128 : BitVec 32 := 1#32
  let arg11 : BitVec 32 := Scf.iv c0_i32_126 c1_i32_128 k0_t4
  let v542 : BitVec 32 := Scalar.muli c2_i32_327 arg11
  let c1_i32_328 : BitVec 32 := 1#32
  let v543 : BitVec 32 := Scalar.addi v542 c1_i32_328
  let c512_i32_329 : BitVec 32 := 512#32
  let v544 : BitVec 32 := Scalar.muli v543 c512_i32_329
  let v545 : BitVec 32 := Scalar.addi c128_i32_330 v544
  let v546 : BitVec 32 := v545
  let v599 : Index := Scalar.indexCast v546
  let c384_361 : Index := 384#32
  ![v599.toNat, 384]
def k0_off85 (k0_t1 : Fin k0_t1_loop.trips) (k0_t4 : Fin (k0_t4_loop k0_t1).trips) : Fin 2 → Nat :=
  let c80_366 : Index := 80#32
  let c128_i32_332 : BitVec 32 := 128#32
  let c2_i32_327 : BitVec 32 := 2#32
  let c0_i32_126 : BitVec 32 := 0#32
  let c1_i32_128 : BitVec 32 := 1#32
  let arg11 : BitVec 32 := Scf.iv c0_i32_126 c1_i32_128 k0_t4
  let v542 : BitVec 32 := Scalar.muli c2_i32_327 arg11
  let c1_i32_328 : BitVec 32 := 1#32
  let v543 : BitVec 32 := Scalar.addi v542 c1_i32_328
  let c512_i32_331 : BitVec 32 := 512#32
  let v547 : BitVec 32 := Scalar.muli v543 c512_i32_331
  let v548 : BitVec 32 := Scalar.addi c128_i32_332 v547
  let v549 : BitVec 32 := v548
  let v607 : Index := Scalar.indexCast v549
  ![80, v607.toNat]
def k0_mult24 (k0_t1 : Fin k0_t1_loop.trips) (k0_t4 : Fin (k0_t4_loop k0_t1).trips) : BitVec 32 :=
  let c128_i32_379 : BitVec 32 := 128#32
  let c2_i32_327 : BitVec 32 := 2#32
  let c0_i32_126 : BitVec 32 := 0#32
  let c1_i32_128 : BitVec 32 := 1#32
  let arg11 : BitVec 32 := Scf.iv c0_i32_126 c1_i32_128 k0_t4
  let v542 : BitVec 32 := Scalar.muli c2_i32_327 arg11
  let c1_i32_328 : BitVec 32 := 1#32
  let v543 : BitVec 32 := Scalar.addi v542 c1_i32_328
  let c1_i32_377 : BitVec 32 := 1#32
  let v628 : BitVec 32 := Scalar.addi v543 c1_i32_377
  let c512_i32_378 : BitVec 32 := 512#32
  let v629 : BitVec 32 := Scalar.muli v628 c512_i32_378
  let v630 : BitVec 32 := Scalar.addi c128_i32_379 v629
  v630
def k0_off86 (k0_t1 : Fin k0_t1_loop.trips) (k0_t4 : Fin (k0_t4_loop k0_t1).trips) : Fin 2 → Nat :=
  let c128_i32_379 : BitVec 32 := 128#32
  let c2_i32_327 : BitVec 32 := 2#32
  let c0_i32_126 : BitVec 32 := 0#32
  let c1_i32_128 : BitVec 32 := 1#32
  let arg11 : BitVec 32 := Scf.iv c0_i32_126 c1_i32_128 k0_t4
  let v542 : BitVec 32 := Scalar.muli c2_i32_327 arg11
  let c1_i32_328 : BitVec 32 := 1#32
  let v543 : BitVec 32 := Scalar.addi v542 c1_i32_328
  let c1_i32_377 : BitVec 32 := 1#32
  let v628 : BitVec 32 := Scalar.addi v543 c1_i32_377
  let c512_i32_378 : BitVec 32 := 512#32
  let v629 : BitVec 32 := Scalar.muli v628 c512_i32_378
  let v630 : BitVec 32 := Scalar.addi c128_i32_379 v629
  let v631 : BitVec 32 := v630
  let v632 : Index := Scalar.indexCast v631
  let c0_380 : Index := 0#32
  ![v632.toNat, 0]
def k0_off87 (k0_t1 : Fin k0_t1_loop.trips) (k0_t4 : Fin (k0_t4_loop k0_t1).trips) : Fin 2 → Nat :=
  let c160_387 : Index := 160#32
  let c128_i32_332 : BitVec 32 := 128#32
  let c2_i32_327 : BitVec 32 := 2#32
  let c0_i32_126 : BitVec 32 := 0#32
  let c1_i32_128 : BitVec 32 := 1#32
  let arg11 : BitVec 32 := Scf.iv c0_i32_126 c1_i32_128 k0_t4
  let v542 : BitVec 32 := Scalar.muli c2_i32_327 arg11
  let c1_i32_328 : BitVec 32 := 1#32
  let v543 : BitVec 32 := Scalar.addi v542 c1_i32_328
  let c512_i32_331 : BitVec 32 := 512#32
  let v547 : BitVec 32 := Scalar.muli v543 c512_i32_331
  let v548 : BitVec 32 := Scalar.addi c128_i32_332 v547
  let v549 : BitVec 32 := v548
  let v643 : Index := Scalar.indexCast v549
  ![160, v643.toNat]
def k0_off88 (k0_t1 : Fin k0_t1_loop.trips) (k0_t4 : Fin (k0_t4_loop k0_t1).trips) : Fin 2 → Nat :=
  let c240_400 : Index := 240#32
  let c128_i32_332 : BitVec 32 := 128#32
  let c2_i32_327 : BitVec 32 := 2#32
  let c0_i32_126 : BitVec 32 := 0#32
  let c1_i32_128 : BitVec 32 := 1#32
  let arg11 : BitVec 32 := Scf.iv c0_i32_126 c1_i32_128 k0_t4
  let v542 : BitVec 32 := Scalar.muli c2_i32_327 arg11
  let c1_i32_328 : BitVec 32 := 1#32
  let v543 : BitVec 32 := Scalar.addi v542 c1_i32_328
  let c512_i32_331 : BitVec 32 := 512#32
  let v547 : BitVec 32 := Scalar.muli v543 c512_i32_331
  let v548 : BitVec 32 := Scalar.addi c128_i32_332 v547
  let v549 : BitVec 32 := v548
  let v667 : Index := Scalar.indexCast v549
  ![240, v667.toNat]
@[reducible] def k0_t5_loop (k0_t1 : Fin k0_t1_loop.trips) : Scf.Loop 32 :=
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let v205 : BitVec 32 := Scalar.addi c0_i32_126 v204
  let c1_i32_129 : BitVec 32 := 1#32
  ⟨v208, v205, c1_i32_129⟩
def k0_mult25 (k0_t1 : Fin k0_t1_loop.trips) (k0_t5 : Fin (k0_t5_loop k0_t1).trips) : BitVec 32 :=
  let c128_i32_253 : BitVec 32 := 128#32
  let c2_i32_251 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v411 : BitVec 32 := Scalar.muli c2_i32_251 arg11
  let c512_i32_252 : BitVec 32 := 512#32
  let v412 : BitVec 32 := Scalar.muli v411 c512_i32_252
  let v413 : BitVec 32 := Scalar.addi c128_i32_253 v412
  v413
def k0_mult26 (k0_t1 : Fin k0_t1_loop.trips) (k0_t5 : Fin (k0_t5_loop k0_t1).trips) : BitVec 32 :=
  let c128_i32_255 : BitVec 32 := 128#32
  let c2_i32_251 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v411 : BitVec 32 := Scalar.muli c2_i32_251 arg11
  let c512_i32_254 : BitVec 32 := 512#32
  let v415 : BitVec 32 := Scalar.muli v411 c512_i32_254
  let v416 : BitVec 32 := Scalar.addi c128_i32_255 v415
  v416
def k0_off89 (k0_t1 : Fin k0_t1_loop.trips) (k0_t5 : Fin (k0_t5_loop k0_t1).trips) : Fin 2 → Nat :=
  let c128_i32_253 : BitVec 32 := 128#32
  let c2_i32_251 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v411 : BitVec 32 := Scalar.muli c2_i32_251 arg11
  let c512_i32_252 : BitVec 32 := 512#32
  let v412 : BitVec 32 := Scalar.muli v411 c512_i32_252
  let v413 : BitVec 32 := Scalar.addi c128_i32_253 v412
  let v414 : BitVec 32 := v413
  let v419 : Index := Scalar.indexCast v414
  let c128_258 : Index := 128#32
  ![v419.toNat, 128]
def k0_off90 (k0_t1 : Fin k0_t1_loop.trips) : Fin 2 → Nat :=
  let c128_259 : Index := 128#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v421 : Index := Scalar.indexCast v161
  ![128, v421.toNat]
def k0_off91 (k0_t1 : Fin k0_t1_loop.trips) (k0_t5 : Fin (k0_t5_loop k0_t1).trips) : Fin 2 → Nat :=
  let c128_i32_253 : BitVec 32 := 128#32
  let c2_i32_251 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v411 : BitVec 32 := Scalar.muli c2_i32_251 arg11
  let c512_i32_252 : BitVec 32 := 512#32
  let v412 : BitVec 32 := Scalar.muli v411 c512_i32_252
  let v413 : BitVec 32 := Scalar.addi c128_i32_253 v412
  let v414 : BitVec 32 := v413
  let v438 : Index := Scalar.indexCast v414
  let c256_268 : Index := 256#32
  ![v438.toNat, 256]
def k0_off92 (k0_t1 : Fin k0_t1_loop.trips) : Fin 2 → Nat :=
  let c256_269 : Index := 256#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v440 : Index := Scalar.indexCast v161
  ![256, v440.toNat]
def k0_off93 (k0_t1 : Fin k0_t1_loop.trips) (k0_t5 : Fin (k0_t5_loop k0_t1).trips) : Fin 2 → Nat :=
  let c0_273 : Index := 0#32
  let c128_i32_255 : BitVec 32 := 128#32
  let c2_i32_251 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v411 : BitVec 32 := Scalar.muli c2_i32_251 arg11
  let c512_i32_254 : BitVec 32 := 512#32
  let v415 : BitVec 32 := Scalar.muli v411 c512_i32_254
  let v416 : BitVec 32 := Scalar.addi c128_i32_255 v415
  let v417 : BitVec 32 := v416
  let v446 : Index := Scalar.indexCast v417
  ![0, v446.toNat]
def k0_off94 (k0_t1 : Fin k0_t1_loop.trips) (k0_t5 : Fin (k0_t5_loop k0_t1).trips) : Fin 2 → Nat :=
  let c128_i32_253 : BitVec 32 := 128#32
  let c2_i32_251 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v411 : BitVec 32 := Scalar.muli c2_i32_251 arg11
  let c512_i32_252 : BitVec 32 := 512#32
  let v412 : BitVec 32 := Scalar.muli v411 c512_i32_252
  let v413 : BitVec 32 := Scalar.addi c128_i32_253 v412
  let v414 : BitVec 32 := v413
  let v467 : Index := Scalar.indexCast v414
  let c384_284 : Index := 384#32
  ![v467.toNat, 384]
def k0_off95 (k0_t1 : Fin k0_t1_loop.trips) : Fin 2 → Nat :=
  let c384_285 : Index := 384#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v469 : Index := Scalar.indexCast v161
  ![384, v469.toNat]
def k0_off96 (k0_t1 : Fin k0_t1_loop.trips) (k0_t5 : Fin (k0_t5_loop k0_t1).trips) : Fin 2 → Nat :=
  let c80_289 : Index := 80#32
  let c128_i32_255 : BitVec 32 := 128#32
  let c2_i32_251 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v411 : BitVec 32 := Scalar.muli c2_i32_251 arg11
  let c512_i32_254 : BitVec 32 := 512#32
  let v415 : BitVec 32 := Scalar.muli v411 c512_i32_254
  let v416 : BitVec 32 := Scalar.addi c128_i32_255 v415
  let v417 : BitVec 32 := v416
  let v475 : Index := Scalar.indexCast v417
  ![80, v475.toNat]
def k0_mult27 (k0_t1 : Fin k0_t1_loop.trips) (k0_t5 : Fin (k0_t5_loop k0_t1).trips) : BitVec 32 :=
  let c128_i32_302 : BitVec 32 := 128#32
  let c2_i32_251 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v411 : BitVec 32 := Scalar.muli c2_i32_251 arg11
  let c1_i32_300 : BitVec 32 := 1#32
  let v496 : BitVec 32 := Scalar.addi v411 c1_i32_300
  let c512_i32_301 : BitVec 32 := 512#32
  let v497 : BitVec 32 := Scalar.muli v496 c512_i32_301
  let v498 : BitVec 32 := Scalar.addi c128_i32_302 v497
  v498
def k0_off97 (k0_t1 : Fin k0_t1_loop.trips) (k0_t5 : Fin (k0_t5_loop k0_t1).trips) : Fin 2 → Nat :=
  let c128_i32_302 : BitVec 32 := 128#32
  let c2_i32_251 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v411 : BitVec 32 := Scalar.muli c2_i32_251 arg11
  let c1_i32_300 : BitVec 32 := 1#32
  let v496 : BitVec 32 := Scalar.addi v411 c1_i32_300
  let c512_i32_301 : BitVec 32 := 512#32
  let v497 : BitVec 32 := Scalar.muli v496 c512_i32_301
  let v498 : BitVec 32 := Scalar.addi c128_i32_302 v497
  let v499 : BitVec 32 := v498
  let v500 : Index := Scalar.indexCast v499
  let c0_303 : Index := 0#32
  ![v500.toNat, 0]
def k0_off98 (k0_t1 : Fin k0_t1_loop.trips) : Fin 2 → Nat :=
  let c0_304 : Index := 0#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v502 : Index := Scalar.indexCast v161
  ![0, v502.toNat]
def k0_off99 (k0_t1 : Fin k0_t1_loop.trips) (k0_t5 : Fin (k0_t5_loop k0_t1).trips) : Fin 2 → Nat :=
  let c160_310 : Index := 160#32
  let c128_i32_255 : BitVec 32 := 128#32
  let c2_i32_251 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v411 : BitVec 32 := Scalar.muli c2_i32_251 arg11
  let c512_i32_254 : BitVec 32 := 512#32
  let v415 : BitVec 32 := Scalar.muli v411 c512_i32_254
  let v416 : BitVec 32 := Scalar.addi c128_i32_255 v415
  let v417 : BitVec 32 := v416
  let v511 : Index := Scalar.indexCast v417
  ![160, v511.toNat]
def k0_off100 (k0_t1 : Fin k0_t1_loop.trips) (k0_t5 : Fin (k0_t5_loop k0_t1).trips) : Fin 2 → Nat :=
  let c240_323 : Index := 240#32
  let c128_i32_255 : BitVec 32 := 128#32
  let c2_i32_251 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v411 : BitVec 32 := Scalar.muli c2_i32_251 arg11
  let c512_i32_254 : BitVec 32 := 512#32
  let v415 : BitVec 32 := Scalar.muli v411 c512_i32_254
  let v416 : BitVec 32 := Scalar.addi c128_i32_255 v415
  let v417 : BitVec 32 := v416
  let v535 : Index := Scalar.indexCast v417
  ![240, v535.toNat]
def k0_mult28 (k0_t1 : Fin k0_t1_loop.trips) (k0_t5 : Fin (k0_t5_loop k0_t1).trips) : BitVec 32 :=
  let c128_i32_330 : BitVec 32 := 128#32
  let c2_i32_327 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v542 : BitVec 32 := Scalar.muli c2_i32_327 arg11
  let c1_i32_328 : BitVec 32 := 1#32
  let v543 : BitVec 32 := Scalar.addi v542 c1_i32_328
  let c512_i32_329 : BitVec 32 := 512#32
  let v544 : BitVec 32 := Scalar.muli v543 c512_i32_329
  let v545 : BitVec 32 := Scalar.addi c128_i32_330 v544
  v545
def k0_mult29 (k0_t1 : Fin k0_t1_loop.trips) (k0_t5 : Fin (k0_t5_loop k0_t1).trips) : BitVec 32 :=
  let c128_i32_332 : BitVec 32 := 128#32
  let c2_i32_327 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v542 : BitVec 32 := Scalar.muli c2_i32_327 arg11
  let c1_i32_328 : BitVec 32 := 1#32
  let v543 : BitVec 32 := Scalar.addi v542 c1_i32_328
  let c512_i32_331 : BitVec 32 := 512#32
  let v547 : BitVec 32 := Scalar.muli v543 c512_i32_331
  let v548 : BitVec 32 := Scalar.addi c128_i32_332 v547
  v548
def k0_off101 (k0_t1 : Fin k0_t1_loop.trips) (k0_t5 : Fin (k0_t5_loop k0_t1).trips) : Fin 2 → Nat :=
  let c128_i32_330 : BitVec 32 := 128#32
  let c2_i32_327 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v542 : BitVec 32 := Scalar.muli c2_i32_327 arg11
  let c1_i32_328 : BitVec 32 := 1#32
  let v543 : BitVec 32 := Scalar.addi v542 c1_i32_328
  let c512_i32_329 : BitVec 32 := 512#32
  let v544 : BitVec 32 := Scalar.muli v543 c512_i32_329
  let v545 : BitVec 32 := Scalar.addi c128_i32_330 v544
  let v546 : BitVec 32 := v545
  let v551 : Index := Scalar.indexCast v546
  let c128_335 : Index := 128#32
  ![v551.toNat, 128]
def k0_off102 (k0_t1 : Fin k0_t1_loop.trips) (k0_t5 : Fin (k0_t5_loop k0_t1).trips) : Fin 2 → Nat :=
  let c128_i32_330 : BitVec 32 := 128#32
  let c2_i32_327 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v542 : BitVec 32 := Scalar.muli c2_i32_327 arg11
  let c1_i32_328 : BitVec 32 := 1#32
  let v543 : BitVec 32 := Scalar.addi v542 c1_i32_328
  let c512_i32_329 : BitVec 32 := 512#32
  let v544 : BitVec 32 := Scalar.muli v543 c512_i32_329
  let v545 : BitVec 32 := Scalar.addi c128_i32_330 v544
  let v546 : BitVec 32 := v545
  let v570 : Index := Scalar.indexCast v546
  let c256_345 : Index := 256#32
  ![v570.toNat, 256]
def k0_off103 (k0_t1 : Fin k0_t1_loop.trips) (k0_t5 : Fin (k0_t5_loop k0_t1).trips) : Fin 2 → Nat :=
  let c0_350 : Index := 0#32
  let c128_i32_332 : BitVec 32 := 128#32
  let c2_i32_327 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v542 : BitVec 32 := Scalar.muli c2_i32_327 arg11
  let c1_i32_328 : BitVec 32 := 1#32
  let v543 : BitVec 32 := Scalar.addi v542 c1_i32_328
  let c512_i32_331 : BitVec 32 := 512#32
  let v547 : BitVec 32 := Scalar.muli v543 c512_i32_331
  let v548 : BitVec 32 := Scalar.addi c128_i32_332 v547
  let v549 : BitVec 32 := v548
  let v578 : Index := Scalar.indexCast v549
  ![0, v578.toNat]
def k0_off104 (k0_t1 : Fin k0_t1_loop.trips) (k0_t5 : Fin (k0_t5_loop k0_t1).trips) : Fin 2 → Nat :=
  let c128_i32_330 : BitVec 32 := 128#32
  let c2_i32_327 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v542 : BitVec 32 := Scalar.muli c2_i32_327 arg11
  let c1_i32_328 : BitVec 32 := 1#32
  let v543 : BitVec 32 := Scalar.addi v542 c1_i32_328
  let c512_i32_329 : BitVec 32 := 512#32
  let v544 : BitVec 32 := Scalar.muli v543 c512_i32_329
  let v545 : BitVec 32 := Scalar.addi c128_i32_330 v544
  let v546 : BitVec 32 := v545
  let v599 : Index := Scalar.indexCast v546
  let c384_361 : Index := 384#32
  ![v599.toNat, 384]
def k0_off105 (k0_t1 : Fin k0_t1_loop.trips) (k0_t5 : Fin (k0_t5_loop k0_t1).trips) : Fin 2 → Nat :=
  let c80_366 : Index := 80#32
  let c128_i32_332 : BitVec 32 := 128#32
  let c2_i32_327 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v542 : BitVec 32 := Scalar.muli c2_i32_327 arg11
  let c1_i32_328 : BitVec 32 := 1#32
  let v543 : BitVec 32 := Scalar.addi v542 c1_i32_328
  let c512_i32_331 : BitVec 32 := 512#32
  let v547 : BitVec 32 := Scalar.muli v543 c512_i32_331
  let v548 : BitVec 32 := Scalar.addi c128_i32_332 v547
  let v549 : BitVec 32 := v548
  let v607 : Index := Scalar.indexCast v549
  ![80, v607.toNat]
def k0_mult30 (k0_t1 : Fin k0_t1_loop.trips) (k0_t5 : Fin (k0_t5_loop k0_t1).trips) : BitVec 32 :=
  let c128_i32_379 : BitVec 32 := 128#32
  let c2_i32_327 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v542 : BitVec 32 := Scalar.muli c2_i32_327 arg11
  let c1_i32_328 : BitVec 32 := 1#32
  let v543 : BitVec 32 := Scalar.addi v542 c1_i32_328
  let c1_i32_377 : BitVec 32 := 1#32
  let v628 : BitVec 32 := Scalar.addi v543 c1_i32_377
  let c512_i32_378 : BitVec 32 := 512#32
  let v629 : BitVec 32 := Scalar.muli v628 c512_i32_378
  let v630 : BitVec 32 := Scalar.addi c128_i32_379 v629
  v630
def k0_off106 (k0_t1 : Fin k0_t1_loop.trips) (k0_t5 : Fin (k0_t5_loop k0_t1).trips) : Fin 2 → Nat :=
  let c128_i32_379 : BitVec 32 := 128#32
  let c2_i32_327 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v542 : BitVec 32 := Scalar.muli c2_i32_327 arg11
  let c1_i32_328 : BitVec 32 := 1#32
  let v543 : BitVec 32 := Scalar.addi v542 c1_i32_328
  let c1_i32_377 : BitVec 32 := 1#32
  let v628 : BitVec 32 := Scalar.addi v543 c1_i32_377
  let c512_i32_378 : BitVec 32 := 512#32
  let v629 : BitVec 32 := Scalar.muli v628 c512_i32_378
  let v630 : BitVec 32 := Scalar.addi c128_i32_379 v629
  let v631 : BitVec 32 := v630
  let v632 : Index := Scalar.indexCast v631
  let c0_380 : Index := 0#32
  ![v632.toNat, 0]
def k0_off107 (k0_t1 : Fin k0_t1_loop.trips) (k0_t5 : Fin (k0_t5_loop k0_t1).trips) : Fin 2 → Nat :=
  let c160_387 : Index := 160#32
  let c128_i32_332 : BitVec 32 := 128#32
  let c2_i32_327 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v542 : BitVec 32 := Scalar.muli c2_i32_327 arg11
  let c1_i32_328 : BitVec 32 := 1#32
  let v543 : BitVec 32 := Scalar.addi v542 c1_i32_328
  let c512_i32_331 : BitVec 32 := 512#32
  let v547 : BitVec 32 := Scalar.muli v543 c512_i32_331
  let v548 : BitVec 32 := Scalar.addi c128_i32_332 v547
  let v549 : BitVec 32 := v548
  let v643 : Index := Scalar.indexCast v549
  ![160, v643.toNat]
def k0_off108 (k0_t1 : Fin k0_t1_loop.trips) (k0_t5 : Fin (k0_t5_loop k0_t1).trips) : Fin 2 → Nat :=
  let c240_400 : Index := 240#32
  let c128_i32_332 : BitVec 32 := 128#32
  let c2_i32_327 : BitVec 32 := 2#32
  let c0_i32_126 : BitVec 32 := 0#32
  let c0_i32 : BitVec 32 := 0#32
  let c1_i32 : BitVec 32 := 1#32
  let arg10 : BitVec 32 := Scf.iv c0_i32 c1_i32 k0_t1
  let c0_i32_119 : BitVec 32 := 0#32
  let v188 : BitVec 1 := Scalar.cmpi .sgt arg10 c0_i32_119
  let v189 : BitVec 32 := Scalar.extui v188
  let c0_i32_120 : BitVec 32 := 0#32
  let v190 : BitVec 1 := Scalar.cmpi .slt arg10 c0_i32_120
  let v191 : BitVec 32 := Scalar.extui v190
  let v192 : BitVec 32 := Scalar.subi v189 v191
  let c2_i32 : BitVec 32 := 2#32
  let c0_i32_121 : BitVec 32 := 0#32
  let v193 : BitVec 1 := Scalar.cmpi .sgt c2_i32 c0_i32_121
  let v194 : BitVec 32 := Scalar.extui v193
  let c0_i32_122 : BitVec 32 := 0#32
  let v195 : BitVec 1 := Scalar.cmpi .slt c2_i32 c0_i32_122
  let v196 : BitVec 32 := Scalar.extui v195
  let v197 : BitVec 32 := Scalar.subi v194 v196
  let v198 : BitVec 1 := Scalar.cmpi .ne v192 v197
  let v199 : BitVec 32 := Scalar.remsi arg10 c2_i32
  let c0_i32_123 : BitVec 32 := 0#32
  let v200 : BitVec 1 := Scalar.cmpi .ne v199 c0_i32_123
  let v201 : BitVec 1 := Scalar.andi v198 v200
  let v187 : BitVec 32 := Scalar.divsi arg10 c2_i32
  let c1_i32_124 : BitVec 32 := 1#32
  let v202 : BitVec 32 := Scalar.subi v187 c1_i32_124
  let v203 : BitVec 32 := Scalar.select v201 v202 v187
  let v204 : BitVec 32 := Scalar.subi v203 c0_i32_126
  let c1_i32_127 : BitVec 32 := 1#32
  let v206 : BitVec 32 := Scalar.divsi v204 c1_i32_127
  let v207 : BitVec 32 := Scalar.muli v206 c1_i32_127
  let v208 : BitVec 32 := Scalar.addi c0_i32_126 v207
  let c1_i32_129 : BitVec 32 := 1#32
  let arg11 : BitVec 32 := Scf.iv v208 c1_i32_129 k0_t5
  let v542 : BitVec 32 := Scalar.muli c2_i32_327 arg11
  let c1_i32_328 : BitVec 32 := 1#32
  let v543 : BitVec 32 := Scalar.addi v542 c1_i32_328
  let c512_i32_331 : BitVec 32 := 512#32
  let v547 : BitVec 32 := Scalar.muli v543 c512_i32_331
  let v548 : BitVec 32 := Scalar.addi c128_i32_332 v547
  let v549 : BitVec 32 := v548
  let v667 : Index := Scalar.indexCast v549
  ![240, v667.toNat]
def k0_cond4 (k0_t1 : Fin k0_t1_loop.trips) : BitVec 1 :=
  let c0_i32 : BitVec 32 := 0#32
  let c1_i32 : BitVec 32 := 1#32
  let arg10 : BitVec 32 := Scf.iv c0_i32 c1_i32 k0_t1
  let c2_i32_130 : BitVec 32 := 2#32
  let c0_i32_131 : BitVec 32 := 0#32
  let v209 : BitVec 1 := Scalar.cmpi .eq c2_i32_130 c0_i32_131
  let c1_i32_132 : BitVec 32 := 1#32
  let v210 : BitVec 32 := Scalar.select v209 c1_i32_132 c2_i32_130
  let v211 : BitVec 32 := Scalar.remsi arg10 v210
  let c0_i32_134 : BitVec 32 := 0#32
  let v213 : BitVec 1 := Scalar.cmpi .slt v211 c0_i32_134
  let c0_i32_135 : BitVec 32 := 0#32
  let v214 : BitVec 1 := Scalar.cmpi .slt v210 c0_i32_135
  let v215 : BitVec 1 := Scalar.xori v213 v214
  let c0_i32_133 : BitVec 32 := 0#32
  let v212 : BitVec 1 := Scalar.cmpi .ne v211 c0_i32_133
  let v216 : BitVec 1 := Scalar.andi v215 v212
  let v217 : BitVec 32 := Scalar.addi v211 v210
  let v218 : BitVec 32 := Scalar.select v216 v217 v211
  let c1_i32_136 : BitVec 32 := 1#32
  let v219 : BitVec 1 := Scalar.cmpi .eq v218 c1_i32_136
  let v220 : BitVec 32 := Scalar.extui v219
  let c0_i32_137 : BitVec 32 := 0#32
  let v221 : BitVec 1 := Scalar.cmpi .ne v220 c0_i32_137
  v221

def k0_mult31 (k0_t1 : Fin k0_t1_loop.trips) : BitVec 32 :=
  let c128_i32_253 : BitVec 32 := 128#32
  let c0_i32 : BitVec 32 := 0#32
  let c1_i32 : BitVec 32 := 1#32
  let arg10 : BitVec 32 := Scf.iv c0_i32 c1_i32 k0_t1
  let c1_i32_251 : BitVec 32 := 1#32
  let v411 : BitVec 32 := Scalar.subi arg10 c1_i32_251
  let c512_i32_252 : BitVec 32 := 512#32
  let v412 : BitVec 32 := Scalar.muli v411 c512_i32_252
  let v413 : BitVec 32 := Scalar.addi c128_i32_253 v412
  v413
def k0_mult32 (k0_t1 : Fin k0_t1_loop.trips) : BitVec 32 :=
  let c128_i32_255 : BitVec 32 := 128#32
  let c0_i32 : BitVec 32 := 0#32
  let c1_i32 : BitVec 32 := 1#32
  let arg10 : BitVec 32 := Scf.iv c0_i32 c1_i32 k0_t1
  let c1_i32_251 : BitVec 32 := 1#32
  let v411 : BitVec 32 := Scalar.subi arg10 c1_i32_251
  let c512_i32_254 : BitVec 32 := 512#32
  let v415 : BitVec 32 := Scalar.muli v411 c512_i32_254
  let v416 : BitVec 32 := Scalar.addi c128_i32_255 v415
  v416
def k0_off109 (k0_t1 : Fin k0_t1_loop.trips) : Fin 2 → Nat :=
  let c128_i32_253 : BitVec 32 := 128#32
  let c0_i32 : BitVec 32 := 0#32
  let c1_i32 : BitVec 32 := 1#32
  let arg10 : BitVec 32 := Scf.iv c0_i32 c1_i32 k0_t1
  let c1_i32_251 : BitVec 32 := 1#32
  let v411 : BitVec 32 := Scalar.subi arg10 c1_i32_251
  let c512_i32_252 : BitVec 32 := 512#32
  let v412 : BitVec 32 := Scalar.muli v411 c512_i32_252
  let v413 : BitVec 32 := Scalar.addi c128_i32_253 v412
  let v414 : BitVec 32 := v413
  let v419 : Index := Scalar.indexCast v414
  let c128_258 : Index := 128#32
  ![v419.toNat, 128]
def k0_off110 (k0_t1 : Fin k0_t1_loop.trips) : Fin 2 → Nat :=
  let c128_259 : Index := 128#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v421 : Index := Scalar.indexCast v161
  ![128, v421.toNat]
def k0_off111 (k0_t1 : Fin k0_t1_loop.trips) : Fin 2 → Nat :=
  let c128_i32_253 : BitVec 32 := 128#32
  let c0_i32 : BitVec 32 := 0#32
  let c1_i32 : BitVec 32 := 1#32
  let arg10 : BitVec 32 := Scf.iv c0_i32 c1_i32 k0_t1
  let c1_i32_251 : BitVec 32 := 1#32
  let v411 : BitVec 32 := Scalar.subi arg10 c1_i32_251
  let c512_i32_252 : BitVec 32 := 512#32
  let v412 : BitVec 32 := Scalar.muli v411 c512_i32_252
  let v413 : BitVec 32 := Scalar.addi c128_i32_253 v412
  let v414 : BitVec 32 := v413
  let v438 : Index := Scalar.indexCast v414
  let c256_268 : Index := 256#32
  ![v438.toNat, 256]
def k0_off112 (k0_t1 : Fin k0_t1_loop.trips) : Fin 2 → Nat :=
  let c256_269 : Index := 256#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v440 : Index := Scalar.indexCast v161
  ![256, v440.toNat]
def k0_off113 (k0_t1 : Fin k0_t1_loop.trips) : Fin 2 → Nat :=
  let c0_273 : Index := 0#32
  let c128_i32_255 : BitVec 32 := 128#32
  let c0_i32 : BitVec 32 := 0#32
  let c1_i32 : BitVec 32 := 1#32
  let arg10 : BitVec 32 := Scf.iv c0_i32 c1_i32 k0_t1
  let c1_i32_251 : BitVec 32 := 1#32
  let v411 : BitVec 32 := Scalar.subi arg10 c1_i32_251
  let c512_i32_254 : BitVec 32 := 512#32
  let v415 : BitVec 32 := Scalar.muli v411 c512_i32_254
  let v416 : BitVec 32 := Scalar.addi c128_i32_255 v415
  let v417 : BitVec 32 := v416
  let v446 : Index := Scalar.indexCast v417
  ![0, v446.toNat]
def k0_off114 (k0_t1 : Fin k0_t1_loop.trips) : Fin 2 → Nat :=
  let c128_i32_253 : BitVec 32 := 128#32
  let c0_i32 : BitVec 32 := 0#32
  let c1_i32 : BitVec 32 := 1#32
  let arg10 : BitVec 32 := Scf.iv c0_i32 c1_i32 k0_t1
  let c1_i32_251 : BitVec 32 := 1#32
  let v411 : BitVec 32 := Scalar.subi arg10 c1_i32_251
  let c512_i32_252 : BitVec 32 := 512#32
  let v412 : BitVec 32 := Scalar.muli v411 c512_i32_252
  let v413 : BitVec 32 := Scalar.addi c128_i32_253 v412
  let v414 : BitVec 32 := v413
  let v467 : Index := Scalar.indexCast v414
  let c384_284 : Index := 384#32
  ![v467.toNat, 384]
def k0_off115 (k0_t1 : Fin k0_t1_loop.trips) : Fin 2 → Nat :=
  let c384_285 : Index := 384#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v469 : Index := Scalar.indexCast v161
  ![384, v469.toNat]
def k0_off116 (k0_t1 : Fin k0_t1_loop.trips) : Fin 2 → Nat :=
  let c80_289 : Index := 80#32
  let c128_i32_255 : BitVec 32 := 128#32
  let c0_i32 : BitVec 32 := 0#32
  let c1_i32 : BitVec 32 := 1#32
  let arg10 : BitVec 32 := Scf.iv c0_i32 c1_i32 k0_t1
  let c1_i32_251 : BitVec 32 := 1#32
  let v411 : BitVec 32 := Scalar.subi arg10 c1_i32_251
  let c512_i32_254 : BitVec 32 := 512#32
  let v415 : BitVec 32 := Scalar.muli v411 c512_i32_254
  let v416 : BitVec 32 := Scalar.addi c128_i32_255 v415
  let v417 : BitVec 32 := v416
  let v475 : Index := Scalar.indexCast v417
  ![80, v475.toNat]
def k0_mult33 (k0_t1 : Fin k0_t1_loop.trips) : BitVec 32 :=
  let c128_i32_302 : BitVec 32 := 128#32
  let c0_i32 : BitVec 32 := 0#32
  let c1_i32 : BitVec 32 := 1#32
  let arg10 : BitVec 32 := Scf.iv c0_i32 c1_i32 k0_t1
  let c1_i32_251 : BitVec 32 := 1#32
  let v411 : BitVec 32 := Scalar.subi arg10 c1_i32_251
  let c1_i32_300 : BitVec 32 := 1#32
  let v496 : BitVec 32 := Scalar.addi v411 c1_i32_300
  let c512_i32_301 : BitVec 32 := 512#32
  let v497 : BitVec 32 := Scalar.muli v496 c512_i32_301
  let v498 : BitVec 32 := Scalar.addi c128_i32_302 v497
  v498
def k0_off117 (k0_t1 : Fin k0_t1_loop.trips) : Fin 2 → Nat :=
  let c128_i32_302 : BitVec 32 := 128#32
  let c0_i32 : BitVec 32 := 0#32
  let c1_i32 : BitVec 32 := 1#32
  let arg10 : BitVec 32 := Scf.iv c0_i32 c1_i32 k0_t1
  let c1_i32_251 : BitVec 32 := 1#32
  let v411 : BitVec 32 := Scalar.subi arg10 c1_i32_251
  let c1_i32_300 : BitVec 32 := 1#32
  let v496 : BitVec 32 := Scalar.addi v411 c1_i32_300
  let c512_i32_301 : BitVec 32 := 512#32
  let v497 : BitVec 32 := Scalar.muli v496 c512_i32_301
  let v498 : BitVec 32 := Scalar.addi c128_i32_302 v497
  let v499 : BitVec 32 := v498
  let v500 : Index := Scalar.indexCast v499
  let c0_303 : Index := 0#32
  ![v500.toNat, 0]
def k0_off118 (k0_t1 : Fin k0_t1_loop.trips) : Fin 2 → Nat :=
  let c0_304 : Index := 0#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v502 : Index := Scalar.indexCast v161
  ![0, v502.toNat]
def k0_off119 (k0_t1 : Fin k0_t1_loop.trips) : Fin 2 → Nat :=
  let c160_310 : Index := 160#32
  let c128_i32_255 : BitVec 32 := 128#32
  let c0_i32 : BitVec 32 := 0#32
  let c1_i32 : BitVec 32 := 1#32
  let arg10 : BitVec 32 := Scf.iv c0_i32 c1_i32 k0_t1
  let c1_i32_251 : BitVec 32 := 1#32
  let v411 : BitVec 32 := Scalar.subi arg10 c1_i32_251
  let c512_i32_254 : BitVec 32 := 512#32
  let v415 : BitVec 32 := Scalar.muli v411 c512_i32_254
  let v416 : BitVec 32 := Scalar.addi c128_i32_255 v415
  let v417 : BitVec 32 := v416
  let v511 : Index := Scalar.indexCast v417
  ![160, v511.toNat]
def k0_off120 (k0_t1 : Fin k0_t1_loop.trips) : Fin 2 → Nat :=
  let c240_323 : Index := 240#32
  let c128_i32_255 : BitVec 32 := 128#32
  let c0_i32 : BitVec 32 := 0#32
  let c1_i32 : BitVec 32 := 1#32
  let arg10 : BitVec 32 := Scf.iv c0_i32 c1_i32 k0_t1
  let c1_i32_251 : BitVec 32 := 1#32
  let v411 : BitVec 32 := Scalar.subi arg10 c1_i32_251
  let c512_i32_254 : BitVec 32 := 512#32
  let v415 : BitVec 32 := Scalar.muli v411 c512_i32_254
  let v416 : BitVec 32 := Scalar.addi c128_i32_255 v415
  let v417 : BitVec 32 := v416
  let v535 : Index := Scalar.indexCast v417
  ![240, v535.toNat]
def k0_off121 (k0_t1 : Fin k0_t1_loop.trips) : Fin 2 → Nat :=
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v243 : Index := Scalar.indexCast v161
  let c128_150 : Index := 128#32
  ![v243.toNat, 128]
def k0_off122 (k0_t1 : Fin k0_t1_loop.trips) : Fin 2 → Nat :=
  let c128_151 : Index := 128#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v246 : Index := Scalar.indexCast v161
  ![128, v246.toNat]
def k0_off123 (k0_t1 : Fin k0_t1_loop.trips) : Fin 2 → Nat :=
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v266 : Index := Scalar.indexCast v161
  let c256_163 : Index := 256#32
  ![v266.toNat, 256]
def k0_off124 (k0_t1 : Fin k0_t1_loop.trips) : Fin 2 → Nat :=
  let c256_164 : Index := 256#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v269 : Index := Scalar.indexCast v161
  ![256, v269.toNat]
def k0_off125 (k0_t1 : Fin k0_t1_loop.trips) : Fin 2 → Nat :=
  let c0_170 : Index := 0#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v276 : Index := Scalar.indexCast v161
  ![0, v276.toNat]
def k0_off126 (k0_t1 : Fin k0_t1_loop.trips) : Fin 2 → Nat :=
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v301 : Index := Scalar.indexCast v161
  let c384_184 : Index := 384#32
  ![v301.toNat, 384]
def k0_off127 (k0_t1 : Fin k0_t1_loop.trips) : Fin 2 → Nat :=
  let c384_185 : Index := 384#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v304 : Index := Scalar.indexCast v161
  ![384, v304.toNat]
def k0_off128 (k0_t1 : Fin k0_t1_loop.trips) : Fin 2 → Nat :=
  let c80_191 : Index := 80#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v311 : Index := Scalar.indexCast v161
  ![80, v311.toNat]
def k0_off129 (k0_t1 : Fin k0_t1_loop.trips) : Fin 2 → Nat :=
  let c160_207 : Index := 160#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v339 : Index := Scalar.indexCast v161
  ![160, v339.toNat]
def k0_off130 (k0_t1 : Fin k0_t1_loop.trips) : Fin 2 → Nat :=
  let c240_223 : Index := 240#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v367 : Index := Scalar.indexCast v161
  ![240, v367.toNat]
def k0_off131 (k0_t1 : Fin k0_t1_loop.trips) : Fin 2 → Nat :=
  let c0_232 : Index := 0#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v382 : Index := Scalar.indexCast v161
  ![0, v382.toNat]
def k0_off132 (k0_t1 : Fin k0_t1_loop.trips) : Fin 2 → Nat :=
  let c64_238 : Index := 64#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v391 : Index := Scalar.indexCast v161
  ![64, v391.toNat]
def k0_off133 (k0_t1 : Fin k0_t1_loop.trips) : Fin 2 → Nat :=
  let c128_244 : Index := 128#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v400 : Index := Scalar.indexCast v161
  ![128, v400.toNat]
def k0_off134 (k0_t1 : Fin k0_t1_loop.trips) : Fin 2 → Nat :=
  let c192_250 : Index := 192#32
  let c128_i32 : BitVec 32 := 128#32
  let c0_i32 : BitVec 32 := 0#32
  let c1_i32 : BitVec 32 := 1#32
  let arg10 : BitVec 32 := Scf.iv c0_i32 c1_i32 k0_t1
  let c512_i32 : BitVec 32 := 512#32
  let v159 : BitVec 32 := Scalar.muli arg10 c512_i32
  let v160 : BitVec 32 := Scalar.addi c128_i32 v159
  let v161 : BitVec 32 := v160
  let v409 : Index := Scalar.indexCast v161
  ![192, v409.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x4224 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4224x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S320x4224 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4224 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== FoxRefIdeal.lean ====
abbrev S1 : Shape := ⟨1, ![1]⟩
abbrev S1024x16896 : Shape := ⟨2, ![1024, 16896]⟩
abbrev S16896x1024 : Shape := ⟨2, ![16896, 1024]⟩
abbrev S640x16896 : Shape := ⟨2, ![640, 16896]⟩
abbrev S8x128x4x4224 : Shape := ⟨4, ![8, 128, 4, 4224]⟩
abbrev S4x4224x8x128 : Shape := ⟨4, ![4, 4224, 8, 128]⟩
abbrev S8x80x4x4224 : Shape := ⟨4, ![8, 80, 4, 4224]⟩
abbrev S8x64x4x4224 : Shape := ⟨4, ![8, 64, 4, 4224]⟩
abbrev S4224 : Shape := ⟨1, ![4224]⟩
abbrev S_ : Shape := ⟨0, ![]⟩
abbrev S4x8x4224x4224 : Shape := ⟨4, ![4, 8, 4224, 4224]⟩
abbrev S1x4224 : Shape := ⟨2, ![1, 4224]⟩
abbrev S4224x1 : Shape := ⟨2, ![4224, 1]⟩
abbrev S4224x4224 : Shape := ⟨2, ![4224, 4224]⟩
abbrev S1x1x4224x4224 : Shape := ⟨4, ![1, 1, 4224, 4224]⟩
abbrev S4x8x4224 : Shape := ⟨3, ![4, 8, 4224]⟩
abbrev S4x8x4224x1 : Shape := ⟨4, ![4, 8, 4224, 1]⟩
abbrev S8x4x64x4224 : Shape := ⟨4, ![8, 4, 64, 4224]⟩
abbrev S512x16896 : Shape := ⟨2, ![512, 16896]⟩

abbrev nBuf : Space → Nat
  | .hbm => 52
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x16896, .bf16⟩
  | .hbm, ⟨2, _⟩ => ⟨S16896x1024, .bf16⟩
  | .hbm, ⟨3, _⟩ => ⟨S640x16896, .bf16⟩
  | .hbm, ⟨4, _⟩ => ⟨S1024x16896, .f32⟩
  | .hbm, ⟨5, _⟩ => ⟨S8x128x4x4224, .f32⟩
  | .hbm, ⟨6, _⟩ => ⟨S16896x1024, .f32⟩
  | .hbm, ⟨7, _⟩ => ⟨S4x4224x8x128, .f32⟩
  | .hbm, ⟨8, _⟩ => ⟨S640x16896, .f32⟩
  | .hbm, ⟨9, _⟩ => ⟨S8x80x4x4224, .f32⟩
  | .hbm, ⟨10, _⟩ => ⟨S8x64x4x4224, .f32⟩
  | .hbm, ⟨11, _⟩ => ⟨S4224, .i32⟩
  | .hbm, ⟨12, _⟩ => ⟨S4224, .i32⟩
  | .hbm, ⟨13, _⟩ => ⟨S_, .i32⟩
  | .hbm, ⟨14, _⟩ => ⟨S4224, .i32⟩
  | .hbm, ⟨15, _⟩ => ⟨S4224, .i1⟩
  | .hbm, ⟨16, _⟩ => ⟨S4x8x4224x4224, .f32⟩
  | .hbm, ⟨17, _⟩ => ⟨S_, .f32⟩
  | .hbm, ⟨18, _⟩ => ⟨S_, .f32⟩
  | .hbm, ⟨19, _⟩ => ⟨S4x8x4224x4224, .f32⟩
  | .hbm, ⟨20, _⟩ => ⟨S4x8x4224x4224, .f32⟩
  | .hbm, ⟨21, _⟩ => ⟨S1x4224, .i32⟩
  | .hbm, ⟨22, _⟩ => ⟨S4224x1, .i32⟩
  | .hbm, ⟨23, _⟩ => ⟨S4224x4224, .i32⟩
  | .hbm, ⟨24, _⟩ => ⟨S4224x4224, .i32⟩
  | .hbm, ⟨25, _⟩ => ⟨S4224x4224, .i1⟩
  | .hbm, ⟨26, _⟩ => ⟨S1x4224, .i1⟩
  | .hbm, ⟨27, _⟩ => ⟨S4224x4224, .i1⟩
  | .hbm, ⟨28, _⟩ => ⟨S4224x4224, .i1⟩
  | .hbm, ⟨29, _⟩ => ⟨S1x1x4224x4224, .i1⟩
  | .hbm, ⟨30, _⟩ => ⟨S4x8x4224x4224, .i1⟩
  | .hbm, ⟨31, _⟩ => ⟨S_, .f32⟩
  | .hbm, ⟨32, _⟩ => ⟨S4x8x4224x4224, .f32⟩
  | .hbm, ⟨33, _⟩ => ⟨S4x8x4224x4224, .f32⟩
  | .hbm, ⟨34, _⟩ => ⟨S_, .f32⟩
  | .hbm, ⟨35, _⟩ => ⟨S4x8x4224, .f32⟩
  | .hbm, ⟨36, _⟩ => ⟨S_, .f32⟩
  | .hbm, ⟨37, _⟩ => ⟨S4x8x4224, .f32⟩
  | .hbm, ⟨38, _⟩ => ⟨S4x8x4224, .f32⟩
  | .hbm, ⟨39, _⟩ => ⟨S4x8x4224x1, .f32⟩
  | .hbm, ⟨40, _⟩ => ⟨S4x8x4224x4224, .f32⟩
  | .hbm, ⟨41, _⟩ => ⟨S4x8x4224x4224, .f32⟩
  | .hbm, ⟨42, _⟩ => ⟨S4x8x4224x4224, .f32⟩
  | .hbm, ⟨43, _⟩ => ⟨S_, .f32⟩
  | .hbm, ⟨44, _⟩ => ⟨S4x8x4224, .f32⟩
  | .hbm, ⟨45, _⟩ => ⟨S4x8x4224x1, .f32⟩
  | .hbm, ⟨46, _⟩ => ⟨S4x8x4224x4224, .f32⟩
  | .hbm, ⟨47, _⟩ => ⟨S4x8x4224x4224, .f32⟩
  | .hbm, ⟨48, _⟩ => ⟨S8x4x64x4224, .f32⟩
  | .hbm, ⟨49, _⟩ => ⟨S8x64x4x4224, .f32⟩
  | .hbm, ⟨50, _⟩ => ⟨S512x16896, .f32⟩
  | .hbm, ⟨51, _⟩ => ⟨S512x16896, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== FfnLast.lean ====
abbrev S16896x1024 : Shape := ⟨2, ![16896, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S4x4096x1024 : Shape := ⟨3, ![4, 4096, 1024]⟩
abbrev S1024x1024 : Shape := ⟨2, ![1024, 1024]⟩
abbrev S1x1024x256 : Shape := ⟨3, ![1, 1024, 256]⟩
abbrev S1x256x1024 : Shape := ⟨3, ![1, 256, 1024]⟩
abbrev S1x1024x1024 : Shape := ⟨3, ![1, 1024, 1024]⟩
abbrev S1024x5632 : Shape := ⟨2, ![1024, 5632]⟩
abbrev S2816x1024 : Shape := ⟨2, ![2816, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 8
  | .vmem => 15
  | .smem => 0
  | _ => 0

abbrev bufTy : (tb : Table) → Fin (tcTables nBuf tb) → BufTy
  | .hbm, ⟨0, _⟩ => ⟨S16896x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S4x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x256x1024, .f32⟩
  | .local _ .vmem, ⟨8, _⟩ => ⟨S1x256x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1024x5632, .bf16⟩
  | .local _ .vmem, ⟨12, _⟩ => ⟨S2816x1024, .bf16⟩
  | .local _ .vmem, ⟨13, _⟩ => ⟨S1024x1024, .f32⟩
  | .local _ .vmem, ⟨14, _⟩ => ⟨S1024x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![26], ![false]⟩

def k0_mult1 (i : grid0.Coords) : BitVec 32 :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.addi v0 c1_i32
  let c0_i32 : BitVec 32 := 0#32
  let v2 : BitVec 32 := Scalar.maxsi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32 : BitVec 32 := 4#32
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let v3 : BitVec 32 := Scalar.divsi v2 c4_i32
  let c1_i32_5 : BitVec 32 := 1#32
  let v18 : BitVec 32 := Scalar.subi v3 c1_i32_5
  let v19 : BitVec 32 := Scalar.select v17 v18 v3
  let c4224_i32 : BitVec 32 := 4224#32
  let v20 : BitVec 32 := Scalar.muli v19 c4224_i32
  let c128_i32 : BitVec 32 := 128#32
  let v21 : BitVec 32 := Scalar.addi v20 c128_i32
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v2 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c1024_i32 : BitVec 32 := 1024#32
  let v32 : BitVec 32 := Scalar.muli v31 c1024_i32
  let v33 : BitVec 32 := Scalar.addi v21 v32
  v33
def k0_cond2 (i : grid0.Coords) : BitVec 1 :=
  let arg0 : BitVec 32 := BitVec.ofNat 32 (i 0).val
  let c11_i32 : BitVec 32 := 11#32
  let v3 : BitVec 1 := Scalar.cmpi .slt arg0 c11_i32
  let v4 : BitVec 32 := Scalar.extui v3
  let c0_i32_1 : BitVec 32 := 0#32
  let v5 : BitVec 1 := Scalar.cmpi .ne v4 c0_i32_1
  v5

def k0_mult2 (i : grid0.Coords) : BitVec 32 :=
  let arg0 : BitVec 32 := BitVec.ofNat 32 (i 0).val
  let c256_i32 : BitVec 32 := 256#32
  let v12 : BitVec 32 := Scalar.muli arg0 c256_i32
  v12
def k0_off1 (i : grid0.Coords) : Fin 2 → Nat :=
  let c0_13 : Index := 0#32
  let arg0 : BitVec 32 := BitVec.ofNat 32 (i 0).val
  let c256_i32 : BitVec 32 := 256#32
  let v12 : BitVec 32 := Scalar.muli arg0 c256_i32
  let v13 : BitVec 32 := v12
  let v23 : Index := Scalar.indexCast v13
  ![0, v23.toNat]
def k0_mult3 (i : grid0.Coords) : BitVec 32 :=
  let c2816_i32 : BitVec 32 := 2816#32
  let arg0 : BitVec 32 := BitVec.ofNat 32 (i 0).val
  let c256_i32 : BitVec 32 := 256#32
  let v12 : BitVec 32 := Scalar.muli arg0 c256_i32
  let v13 : BitVec 32 := v12
  let v27 : BitVec 32 := Scalar.addi c2816_i32 v13
  v27
def k0_off2 (i : grid0.Coords) : Fin 2 → Nat :=
  let c0_14 : Index := 0#32
  let c2816_i32 : BitVec 32 := 2816#32
  let arg0 : BitVec 32 := BitVec.ofNat 32 (i 0).val
  let c256_i32 : BitVec 32 := 256#32
  let v12 : BitVec 32 := Scalar.muli arg0 c256_i32
  let v13 : BitVec 32 := v12
  let v27 : BitVec 32 := Scalar.addi c2816_i32 v13
  let v28 : BitVec 32 := v27
  let v29 : Index := Scalar.indexCast v28
  ![0, v29.toNat]
def k0_off3 (i : grid0.Coords) : Fin 2 → Nat :=
  let arg0 : BitVec 32 := BitVec.ofNat 32 (i 0).val
  let c256_i32 : BitVec 32 := 256#32
  let v12 : BitVec 32 := Scalar.muli arg0 c256_i32
  let v13 : BitVec 32 := v12
  let v33 : Index := Scalar.indexCast v13
  let c0_15 : Index := 0#32
  ![v33.toNat, 0]
def k0_cond3 (i : grid0.Coords) : BitVec 1 :=
  let arg0 : BitVec 32 := BitVec.ofNat 32 (i 0).val
  let c10_i32 : BitVec 32 := 10#32
  let v6 : BitVec 1 := Scalar.cmpi .eq arg0 c10_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c11_i32_3 : BitVec 32 := 11#32
  let v9 : BitVec 1 := Scalar.cmpi .sge arg0 c11_i32_3
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.addi v0 c1_i32
  let c0_i32 : BitVec 32 := 0#32
  let v2 : BitVec 32 := Scalar.maxsi v1 c0_i32
  let c4_i32 : BitVec 32 := 4#32
  let v3 : BitVec 32 := Scalar.divsi v2 c4_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c4224_i32 : BitVec 32 := 4224#32
  let v20 : BitVec 32 := Scalar.muli v19 c4224_i32
  let c128_i32 : BitVec 32 := 128#32
  let v21 : BitVec 32 := Scalar.addi v20 c128_i32
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v2 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c1024_i32 : BitVec 32 := 1024#32
  let v32 : BitVec 32 := Scalar.muli v31 c1024_i32
  let v33 : BitVec 32 := Scalar.addi v21 v32
  let v34 : BitVec 32 := v33
  let c0_i32_12 : BitVec 32 := 0#32
  let c0_i32_13 : BitVec 32 := 0#32
  ![v34.toNat, c0_i32_12.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c10_i32 : BitVec 32 := 10#32
  let v0 : BitVec 32 := Scalar.minsi arg0 c10_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let c10_i32 : BitVec 32 := 10#32
  let v0 : BitVec 32 := Scalar.minsi arg0 c10_i32
  let c11_i32 : BitVec 32 := 11#32
  let v1 : BitVec 32 := Scalar.addi c11_i32 v0
  let c1_i32 : BitVec 32 := 1#32
  let c0_i32 : BitVec 32 := 0#32
  let c0_i32_0 : BitVec 32 := 0#32
  ![c1_i32.toNat, c0_i32.toNat, v1.toNat]

def cc0_transform_4 (i : grid0.Coords) : Fin 3 → Nat :=
  let arg0 : BitVec 32 := BitVec.ofNat 32 (i 0).val
  let c10_i32 : BitVec 32 := 10#32
  let v0 : BitVec 32 := Scalar.minsi arg0 c10_i32
  let c1_i32 : BitVec 32 := 1#32
  let c0_i32 : BitVec 32 := 0#32
  let c0_i32_0 : BitVec 32 := 0#32
  ![c1_i32.toNat, v0.toNat, c0_i32.toNat]

def cc0_transform_5 (i : grid0.Coords) : Fin 3 → Nat :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.addi v0 c1_i32
  let c0_i32 : BitVec 32 := 0#32
  let v2 : BitVec 32 := Scalar.maxsi v1 c0_i32
  let c4_i32 : BitVec 32 := 4#32
  let v3 : BitVec 32 := Scalar.divsi v2 c4_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnLastRefIdeal.lean ====
abbrev S16896x1024 : Shape := ⟨2, ![16896, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S4x4224x1024 : Shape := ⟨3, ![4, 4224, 1024]⟩
abbrev S1x1024 : Shape := ⟨2, ![1, 1024]⟩
abbrev S1024 : Shape := ⟨1, ![1024]⟩
abbrev S_ : Shape := ⟨0, ![]⟩
abbrev S4x4224 : Shape := ⟨2, ![4, 4224]⟩
abbrev S4x4224x1 : Shape := ⟨3, ![4, 4224, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S4x4224x5632 : Shape := ⟨3, ![4, 4224, 5632]⟩
abbrev S4x4224x2816 : Shape := ⟨3, ![4, 4224, 2816]⟩
abbrev S4x4096x1024 : Shape := ⟨3, ![4, 4096, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S4x4224x1024, .f32⟩
  | .hbm, ⟨5, _⟩ => ⟨S1x1024, .f32⟩
  | .hbm, ⟨6, _⟩ => ⟨S1024, .f32⟩
  | .hbm, ⟨7, _⟩ => ⟨S4x4224x1024, .f32⟩
  | .hbm, ⟨8, _⟩ => ⟨S_, .f32⟩
  | .hbm, ⟨9, _⟩ => ⟨S4x4224, .f32⟩
  | .hbm, ⟨10, _⟩ => ⟨S4x4224x1, .f32⟩
  | .hbm, ⟨11, _⟩ => ⟨S_, .f32⟩
  | .hbm, ⟨12, _⟩ => ⟨S4x4224x1, .f32⟩
  | .hbm, ⟨13, _⟩ => ⟨S4x4224x1, .f32⟩
  | .hbm, ⟨14, _⟩ => ⟨S_, .f32⟩
  | .hbm, ⟨15, _⟩ => ⟨S4x4224x1, .f32⟩
  | .hbm, ⟨16, _⟩ => ⟨S4x4224x1, .f32⟩
  | .hbm, ⟨17, _⟩ => ⟨S4x4224x1, .f32⟩
  | .hbm, ⟨18, _⟩ => ⟨S4x4224x1024, .f32⟩
  | .hbm, ⟨19, _⟩ => ⟨S4x4224x1024, .f32⟩
  | .hbm, ⟨20, _⟩ => ⟨S1x1x1024, .f32⟩
  | .hbm, ⟨21, _⟩ => ⟨S4x4224x1024, .f32⟩
  | .hbm, ⟨22, _⟩ => ⟨S4x4224x1024, .f32⟩
  | .hbm, ⟨23, _⟩ => ⟨S1x1024x5632, .f32⟩
  | .hbm, ⟨24, _⟩ => ⟨S1024x5632, .f32⟩
  | .hbm, ⟨25, _⟩ => ⟨S1x2816x1024, .f32⟩
  | .hbm, ⟨26, _⟩ => ⟨S2816x1024, .f32⟩
  | .hbm, ⟨27, _⟩ => ⟨S4x4224x5632, .f32⟩
  | .hbm, ⟨28, _⟩ => ⟨S4x4224x2816, .f32⟩
  | .hbm, ⟨29, _⟩ => ⟨S4x4224x2816, .f32⟩
  | .hbm, ⟨30, _⟩ => ⟨S4x4224x2816, .f32⟩
  | .hbm, ⟨31, _⟩ => ⟨S4x4224x2816, .f32⟩
  | .hbm, ⟨32, _⟩ => ⟨S_, .f32⟩
  | .hbm, ⟨33, _⟩ => ⟨S4x4224x2816, .f32⟩
  | .hbm, ⟨34, _⟩ => ⟨S4x4224x2816, .f32⟩
  | .hbm, ⟨35, _⟩ => ⟨S_, .f32⟩
  | .hbm, ⟨36, _⟩ => ⟨S4x4224x2816, .f32⟩
  | .hbm, ⟨37, _⟩ => ⟨S4x4224x2816, .f32⟩
  | .hbm, ⟨38, _⟩ => ⟨S4x4224x2816, .f32⟩
  | .hbm, ⟨39, _⟩ => ⟨S4x4224x2816, .f32⟩
  | .hbm, ⟨40, _⟩ => ⟨S4x4224x1024, .f32⟩
  | .hbm, ⟨41, _⟩ => ⟨S_, .f32⟩
  | .hbm, ⟨42, _⟩ => ⟨S4x4224x1024, .f32⟩
  | .hbm, ⟨43, _⟩ => ⟨S4x4224x1024, .f32⟩
  | .hbm, ⟨44, _⟩ => ⟨S4x4224x1024, .f32⟩
  | .hbm, ⟨45, _⟩ => ⟨S4x4096x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== FfnMid.lean ====
abbrev S16896x1024 : Shape := ⟨2, ![16896, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S768x1024 : Shape := ⟨2, ![768, 1024]⟩
abbrev S1x1024x256 : Shape := ⟨3, ![1, 1024, 256]⟩
abbrev S1x256x1024 : Shape := ⟨3, ![1, 256, 1024]⟩
abbrev S1024x5632 : Shape := ⟨2, ![1024, 5632]⟩
abbrev S2816x1024 : Shape := ⟨2, ![2816, 1024]⟩
abbrev S768 : Shape := ⟨1, ![768]⟩
abbrev S768x1 : Shape := ⟨2, ![768, 1]⟩
abbrev S1024x256 : Shape := ⟨2, ![1024, 256]⟩
abbrev S256x1024 : Shape := ⟨2, ![256, 1024]⟩
abbrev S768x256 : Shape := ⟨2, ![768, 256]⟩

abbrev nBuf : Space → Nat
  | .hbm => 8
  | .vmem => 15
  | .smem => 0
  | _ => 0

abbrev bufTy : (tb : Table) → Fin (tcTables nBuf tb) → BufTy
  | .hbm, ⟨0, _⟩ => ⟨S16896x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S16896x1024, .f32⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x256x1024, .f32⟩
  | .local _ .vmem, ⟨8, _⟩ => ⟨S1x256x1024, .f32⟩
  | .local _ .vmem, ⟨9, _⟩ => ⟨S768x1024, .f32⟩
  | .local _ .vmem, ⟨10, _⟩ => ⟨S768x1024, .f32⟩
  | .local _ .vmem, ⟨11, _⟩ => ⟨S1024x5632, .bf16⟩
  | .local _ .vmem, ⟨12, _⟩ => ⟨S2816x1024, .bf16⟩
  | .local _ .vmem, ⟨13, _⟩ => ⟨S768x1024, .f32⟩
  | .local _ .vmem, ⟨14, _⟩ => ⟨S768x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c11_i32 : BitVec 32 := 11#32
  let v3 : BitVec 1 := Scalar.cmpi .slt arg0 c11_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg0 : BitVec 32 := BitVec.ofNat 32 (i 0).val
  let c256_i32 : BitVec 32 := 256#32
  let v12 : BitVec 32 := Scalar.muli arg0 c256_i32
  v12
def k0_off1 (i : grid0.Coords) : Fin 2 → Nat :=
  let c0_13 : Index := 0#32
  let arg0 : BitVec 32 := BitVec.ofNat 32 (i 0).val
  let c256_i32 : BitVec 32 := 256#32
  let v12 : BitVec 32 := Scalar.muli arg0 c256_i32
  let v13 : BitVec 32 := v12
  let v23 : Index := Scalar.indexCast v13
  ![0, v23.toNat]
def k0_mult2 (i : grid0.Coords) : BitVec 32 :=
  let c2816_i32 : BitVec 32 := 2816#32
  let arg0 : BitVec 32 := BitVec.ofNat 32 (i 0).val
  let c256_i32 : BitVec 32 := 256#32
  let v12 : BitVec 32 := Scalar.muli arg0 c256_i32
  let v13 : BitVec 32 := v12
  let v27 : BitVec 32 := Scalar.addi c2816_i32 v13
  v27
def k0_off2 (i : grid0.Coords) : Fin 2 → Nat :=
  let c0_14 : Index := 0#32
  let c2816_i32 : BitVec 32 := 2816#32
  let arg0 : BitVec 32 := BitVec.ofNat 32 (i 0).val
  let c256_i32 : BitVec 32 := 256#32
  let v12 : BitVec 32 := Scalar.muli arg0 c256_i32
  let v13 : BitVec 32 := v12
  let v27 : BitVec 32 := Scalar.addi c2816_i32 v13
  let v28 : BitVec 32 := v27
  let v29 : Index := Scalar.indexCast v28
  ![0, v29.toNat]
def k0_off3 (i : grid0.Coords) : Fin 2 → Nat :=
  let arg0 : BitVec 32 := BitVec.ofNat 32 (i 0).val
  let c256_i32 : BitVec 32 := 256#32
  let v12 : BitVec 32 := Scalar.muli arg0 c256_i32
  let v13 : BitVec 32 := v12
  let v33 : Index := Scalar.indexCast v13
  let c0_15 : Index := 0#32
  ![v33.toNat, 0]
def k0_cond3 (i : grid0.Coords) : BitVec 1 :=
  let arg0 : BitVec 32 := BitVec.ofNat 32 (i 0).val
  let c10_i32 : BitVec 32 := 10#32
  let v6 : BitVec 1 := Scalar.cmpi .eq arg0 c10_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c11_i32_3 : BitVec 32 := 11#32
  let v9 : BitVec 1 := Scalar.cmpi .sge arg0 c11_i32_3
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.addi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c10_i32 : BitVec 32 := 10#32
  let v0 : BitVec 32 := Scalar.minsi arg0 c10_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let c10_i32 : BitVec 32 := 10#32
  let v0 : BitVec 32 := Scalar.minsi arg0 c10_i32
  let c11_i32 : BitVec 32 := 11#32
  let v1 : BitVec 32 := Scalar.addi c11_i32 v0
  let c1_i32 : BitVec 32 := 1#32
  let c0_i32 : BitVec 32 := 0#32
  let c0_i32_0 : BitVec 32 := 0#32
  ![c1_i32.toNat, c0_i32.toNat, v1.toNat]

def cc0_transform_4 (i : grid0.Coords) : Fin 3 → Nat :=
  let arg0 : BitVec 32 := BitVec.ofNat 32 (i 0).val
  let c10_i32 : BitVec 32 := 10#32
  let v0 : BitVec 32 := Scalar.minsi arg0 c10_i32
  let c1_i32 : BitVec 32 := 1#32
  let c0_i32 : BitVec 32 := 0#32
  let c0_i32_0 : BitVec 32 := 0#32
  ![c1_i32.toNat, v0.toNat, c0_i32.toNat]

def cc0_transform_5 (i : grid0.Coords) : Fin 2 → Nat :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.addi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnMidRefIdeal.lean ====
abbrev S16896x1024 : Shape := ⟨2, ![16896, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S16896 : Shape := ⟨1, ![16896]⟩
abbrev S16896x1 : Shape := ⟨2, ![16896, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16896x5632 : Shape := ⟨2, ![16896, 5632]⟩
abbrev S16896x2816 : Shape := ⟨2, ![16896, 2816]⟩

abbrev nBuf : Space → Nat
  | .hbm => 44
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1x1024, .f32⟩
  | .hbm, ⟨5, _⟩ => ⟨S1024, .f32⟩
  | .hbm, ⟨6, _⟩ => ⟨S16896x1024, .f32⟩
  | .hbm, ⟨7, _⟩ => ⟨S_, .f32⟩
  | .hbm, ⟨8, _⟩ => ⟨S16896, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S_, .f32⟩
  | .hbm, ⟨14, _⟩ => ⟨S16896x1, .f32⟩
  | .hbm, ⟨15, _⟩ => ⟨S16896x1, .f32⟩
  | .hbm, ⟨16, _⟩ => ⟨S16896x1, .f32⟩
  | .hbm, ⟨17, _⟩ => ⟨S16896x1024, .f32⟩
  | .hbm, ⟨18, _⟩ => ⟨S16896x1024, .f32⟩
  | .hbm, ⟨19, _⟩ => ⟨S1x1024, .f32⟩
  | .hbm, ⟨20, _⟩ => ⟨S16896x1024, .f32⟩
  | .hbm, ⟨21, _⟩ => ⟨S16896x1024, .f32⟩
  | .hbm, ⟨22, _⟩ => ⟨S1x1024x5632, .f32⟩
  | .hbm, ⟨23, _⟩ => ⟨S1024x5632, .f32⟩
  | .hbm, ⟨24, _⟩ => ⟨S1x2816x1024, .f32⟩
  | .hbm, ⟨25, _⟩ => ⟨S2816x1024, .f32⟩
  | .hbm, ⟨26, _⟩ => ⟨S16896x5632, .f32⟩
  | .hbm, ⟨27, _⟩ => ⟨S16896x2816, .f32⟩
  | .hbm, ⟨28, _⟩ => ⟨S16896x2816, .f32⟩
  | .hbm, ⟨29, _⟩ => ⟨S16896x2816, .f32⟩
  | .hbm, ⟨30, _⟩ => ⟨S16896x2816, .f32⟩
  | .hbm, ⟨31, _⟩ => ⟨S_, .f32⟩
  | .hbm, ⟨32, _⟩ => ⟨S16896x2816, .f32⟩
  | .hbm, ⟨33, _⟩ => ⟨S16896x2816, .f32⟩
  | .hbm, ⟨34, _⟩ => ⟨S_, .f32⟩
  | .hbm, ⟨35, _⟩ => ⟨S16896x2816, .f32⟩
  | .hbm, ⟨36, _⟩ => ⟨S16896x2816, .f32⟩
  | .hbm, ⟨37, _⟩ => ⟨S16896x2816, .f32⟩
  | .hbm, ⟨38, _⟩ => ⟨S16896x2816, .f32⟩
  | .hbm, ⟨39, _⟩ => ⟨S16896x1024, .f32⟩
  | .hbm, ⟨40, _⟩ => ⟨S_, .f32⟩
  | .hbm, ⟨41, _⟩ => ⟨S16896x1024, .f32⟩
  | .hbm, ⟨42, _⟩ => ⟨S16896x1024, .f32⟩
  | .hbm, ⟨43, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Mix.lean ====
abbrev S16896x1024 : Shape := ⟨2, ![16896, 1024]⟩
abbrev S512x16896 : Shape := ⟨2, ![512, 16896]⟩
abbrev S1024x16896 : Shape := ⟨2, ![1024, 16896]⟩
abbrev S2x512x1024 : Shape := ⟨3, ![2, 512, 1024]⟩
abbrev S2x1024x1024 : Shape := ⟨3, ![2, 1024, 1024]⟩
abbrev S1x512x1024 : Shape := ⟨3, ![1, 512, 1024]⟩
abbrev S512x1024 : Shape := ⟨2, ![512, 1024]⟩
abbrev S1024x512 : Shape := ⟨2, ![1024, 512]⟩
abbrev S1x1024x1024 : Shape := ⟨3, ![1, 1024, 1024]⟩
abbrev S1024x1024 : Shape := ⟨2, ![1024, 1024]⟩
abbrev S768x1024 : Shape := ⟨2, ![768, 1024]⟩
abbrev S512x768 : Shape := ⟨2, ![512, 768]⟩
abbrev S1024x768 : Shape := ⟨2, ![1024, 768]⟩

abbrev nBuf : Space → Nat
  | .hbm => 20
  | .vmem => 15
  | .smem => 0
  | _ => 0

abbrev bufTy : (tb : Table) → Fin (tcTables nBuf tb) → BufTy
  | .hbm, ⟨0, _⟩ => ⟨S16896x1024, .f32⟩
  | .hbm, ⟨1, _⟩ => ⟨S512x16896, .bf16⟩
  | .hbm, ⟨2, _⟩ => ⟨S512x16896, .bf16⟩
  | .hbm, ⟨3, _⟩ => ⟨S1024x16896, .bf16⟩
  | .hbm, ⟨4, _⟩ => ⟨S1024x16896, .bf16⟩
  | .hbm, ⟨5, _⟩ => ⟨S2x512x1024, .f32⟩
  | .hbm, ⟨6, _⟩ => ⟨S2x512x1024, .f32⟩
  | .hbm, ⟨7, _⟩ => ⟨S2x1024x1024, .f32⟩
  | .hbm, ⟨8, _⟩ => ⟨S1x512x1024, .f32⟩
  | .hbm, ⟨9, _⟩ => ⟨S512x1024, .f32⟩
  | .hbm, ⟨10, _⟩ => ⟨S512x1024, .bf16⟩
  | .hbm, ⟨11, _⟩ => ⟨S1024x512, .bf16⟩
  | .hbm, ⟨12, _⟩ => ⟨S1x512x1024, .f32⟩
  | .hbm, ⟨13, _⟩ => ⟨S512x1024, .f32⟩
  | .hbm, ⟨14, _⟩ => ⟨S512x1024, .bf16⟩
  | .hbm, ⟨15, _⟩ => ⟨S1024x512, .bf16⟩
  | .hbm, ⟨16, _⟩ => ⟨S1x1024x1024, .f32⟩
  | .hbm, ⟨17, _⟩ => ⟨S1024x1024, .f32⟩
  | .hbm, ⟨18, _⟩ => ⟨S1024x1024, .bf16⟩
  | .hbm, ⟨19, _⟩ => ⟨S16896x1024, .f32⟩
  | .local _ .vmem, ⟨0, _⟩ => ⟨S768x1024, .f32⟩
  | .local _ .vmem, ⟨1, _⟩ => ⟨S768x1024, .f32⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x512, .bf16⟩
  | .local _ .vmem, ⟨11, _⟩ => ⟨S1024x512, .bf16⟩
  | .local _ .vmem, ⟨12, _⟩ => ⟨S1024x1024, .bf16⟩
  | .local _ .vmem, ⟨13, _⟩ => ⟨S768x1024, .f32⟩
  | .local _ .vmem, ⟨14, _⟩ => ⟨S768x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixRefIdeal.lean ====
abbrev S16896x1024 : Shape := ⟨2, ![16896, 1024]⟩
abbrev S512x16896 : Shape := ⟨2, ![512, 16896]⟩
abbrev S1024x16896 : Shape := ⟨2, ![1024, 16896]⟩
abbrev S2x512x1024 : Shape := ⟨3, ![2, 512, 1024]⟩
abbrev S2x1024x1024 : Shape := ⟨3, ![2, 1024, 1024]⟩
abbrev S16896x512 : Shape := ⟨2, ![16896, 512]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S512x16896, .bf16⟩
  | .hbm, ⟨2, _⟩ => ⟨S512x16896, .bf16⟩
  | .hbm, ⟨3, _⟩ => ⟨S1024x16896, .bf16⟩
  | .hbm, ⟨4, _⟩ => ⟨S1024x16896, .bf16⟩
  | .hbm, ⟨5, _⟩ => ⟨S2x512x1024, .f32⟩
  | .hbm, ⟨6, _⟩ => ⟨S2x512x1024, .f32⟩
  | .hbm, ⟨7, _⟩ => ⟨S2x1024x1024, .f32⟩
  | .hbm, ⟨8, _⟩ => ⟨S512x16896, .f32⟩
  | .hbm, ⟨9, _⟩ => ⟨S16896x512, .f32⟩
  | .hbm, ⟨10, _⟩ => ⟨S512x16896, .f32⟩
  | .hbm, ⟨11, _⟩ => ⟨S16896x512, .f32⟩
  | .hbm, ⟨12, _⟩ => ⟨S1024x16896, .f32⟩
  | .hbm, ⟨13, _⟩ => ⟨S16896x1024, .f32⟩
  | .hbm, ⟨14, _⟩ => ⟨S1024x16896, .f32⟩
  | .hbm, ⟨15, _⟩ => ⟨S16896x1024, .f32⟩
  | .hbm, ⟨16, _⟩ => ⟨S1x512x1024, .f32⟩
  | .hbm, ⟨17, _⟩ => ⟨S512x1024, .f32⟩
  | .hbm, ⟨18, _⟩ => ⟨S16896x1024, .f32⟩
  | .hbm, ⟨19, _⟩ => ⟨S16896x1024, .f32⟩
  | .hbm, ⟨20, _⟩ => ⟨S1x512x1024, .f32⟩
  | .hbm, ⟨21, _⟩ => ⟨S512x1024, .f32⟩
  | .hbm, ⟨22, _⟩ => ⟨S16896x1024, .f32⟩
  | .hbm, ⟨23, _⟩ => ⟨S16896x1024, .f32⟩
  | .hbm, ⟨24, _⟩ => ⟨S16896x1024, .f32⟩
  | .hbm, ⟨25, _⟩ => ⟨S1x1024x1024, .f32⟩
  | .hbm, ⟨26, _⟩ => ⟨S1024x1024, .f32⟩
  | .hbm, ⟨27, _⟩ => ⟨S16896x1024, .f32⟩
  | .hbm, ⟨28, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== FfnLead.lean ====
abbrev S16384x1024 : Shape := ⟨2, ![16384, 1024]⟩
abbrev S128x1024 : Shape := ⟨2, ![128, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S16896x1024 : Shape := ⟨2, ![16896, 1024]⟩
abbrev S768x1024 : Shape := ⟨2, ![768, 1024]⟩
abbrev S1x1024x256 : Shape := ⟨3, ![1, 1024, 256]⟩
abbrev S1x256x1024 : Shape := ⟨3, ![1, 256, 1024]⟩
abbrev S1024x5632 : Shape := ⟨2, ![1024, 5632]⟩
abbrev S2816x1024 : Shape := ⟨2, ![2816, 1024]⟩
abbrev S768 : Shape := ⟨1, ![768]⟩
abbrev S768x1 : Shape := ⟨2, ![768, 1]⟩
abbrev S1024x256 : Shape := ⟨2, ![1024, 256]⟩
abbrev S256x1024 : Shape := ⟨2, ![256, 1024]⟩
abbrev S768x256 : Shape := ⟨2, ![768, 256]⟩

abbrev nBuf : Space → Nat
  | .hbm => 9
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S128x1024, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S16896x1024, .f32⟩
  | .local _ .vmem, ⟨0, _⟩ => ⟨S768x1024, .f32⟩
  | .local _ .vmem, ⟨1, _⟩ => ⟨S768x1024, .f32⟩
  | .local _ .vmem, ⟨2, _⟩ => ⟨S128x1024, .f32⟩
  | .local _ .vmem, ⟨3, _⟩ => ⟨S1x1024, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x256x1024, .f32⟩
  | .local _ .vmem, ⟨9, _⟩ => ⟨S1x256x1024, .f32⟩
  | .local _ .vmem, ⟨10, _⟩ => ⟨S768x1024, .f32⟩
  | .local _ .vmem, ⟨11, _⟩ => ⟨S768x1024, .f32⟩
  | .local _ .vmem, ⟨12, _⟩ => ⟨S1024x5632, .bf16⟩
  | .local _ .vmem, ⟨13, _⟩ => ⟨S2816x1024, .bf16⟩
  | .local _ .vmem, ⟨14, _⟩ => ⟨S768x1024, .f32⟩
  | .local _ .vmem, ⟨15, _⟩ => ⟨S768x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.addi v0 c1_i32
  let c0_i32 : BitVec 32 := 0#32
  let v2 : BitVec 32 := Scalar.maxsi v1 c0_i32
  let c6_i32 : BitVec 32 := 6#32
  let v3 : BitVec 32 := Scalar.muli v2 c6_i32
  let c33_i32 : BitVec 32 := 33#32
  let v4 : BitVec 32 := Scalar.addi v3 c33_i32
  let c1_i32_0 : BitVec 32 := 1#32
  let v5 : BitVec 32 := Scalar.subi v4 c1_i32_0
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c33_i32_1 : BitVec 32 := 33#32
  let c0_i32_4 : BitVec 32 := 0#32
  let v12 : BitVec 1 := Scalar.cmpi .sgt c33_i32_1 c0_i32_4
  let v13 : BitVec 32 := Scalar.extui v12
  let c0_i32_5 : BitVec 32 := 0#32
  let v14 : BitVec 1 := Scalar.cmpi .slt c33_i32_1 c0_i32_5
  let v15 : BitVec 32 := Scalar.extui v14
  let v16 : BitVec 32 := Scalar.subi v13 v15
  let v17 : BitVec 1 := Scalar.cmpi .ne v11 v16
  let v18 : BitVec 32 := Scalar.remsi v5 c33_i32_1
  let c0_i32_6 : BitVec 32 := 0#32
  let v19 : BitVec 1 := Scalar.cmpi .ne v18 c0_i32_6
  let v20 : BitVec 1 := Scalar.andi v17 v19
  let v6 : BitVec 32 := Scalar.divsi v5 c33_i32_1
  let c1_i32_7 : BitVec 32 := 1#32
  let v21 : BitVec 32 := Scalar.subi v6 c1_i32_7
  let v22 : BitVec 32 := Scalar.select v20 v21 v6
  let v23 : BitVec 32 := Scalar.subi v3 v22
  let c128_i32 : BitVec 32 := 128#32
  let v24 : BitVec 32 := Scalar.muli v23 c128_i32
  v24
def k0_cond2 (i : grid0.Coords) : BitVec 1 :=
  let arg0 : BitVec 32 := BitVec.ofNat 32 (i 0).val
  let c11_i32 : BitVec 32 := 11#32
  let v3 : BitVec 1 := Scalar.cmpi .slt arg0 c11_i32
  let v4 : BitVec 32 := Scalar.extui v3
  let c0_i32_1 : BitVec 32 := 0#32
  let v5 : BitVec 1 := Scalar.cmpi .ne v4 c0_i32_1
  v5

def k0_mult2 (i : grid0.Coords) : BitVec 32 :=
  let arg0 : BitVec 32 := BitVec.ofNat 32 (i 0).val
  let c256_i32 : BitVec 32 := 256#32
  let v12 : BitVec 32 := Scalar.muli arg0 c256_i32
  v12
def k0_off1 (i : grid0.Coords) : Fin 2 → Nat :=
  let c0_13 : Index := 0#32
  let arg0 : BitVec 32 := BitVec.ofNat 32 (i 0).val
  let c256_i32 : BitVec 32 := 256#32
  let v12 : BitVec 32 := Scalar.muli arg0 c256_i32
  let v13 : BitVec 32 := v12
  let v23 : Index := Scalar.indexCast v13
  ![0, v23.toNat]
def k0_mult3 (i : grid0.Coords) : BitVec 32 :=
  let c2816_i32 : BitVec 32 := 2816#32
  let arg0 : BitVec 32 := BitVec.ofNat 32 (i 0).val
  let c256_i32 : BitVec 32 := 256#32
  let v12 : BitVec 32 := Scalar.muli arg0 c256_i32
  let v13 : BitVec 32 := v12
  let v27 : BitVec 32 := Scalar.addi c2816_i32 v13
  v27
def k0_off2 (i : grid0.Coords) : Fin 2 → Nat :=
  let c0_14 : Index := 0#32
  let c2816_i32 : BitVec 32 := 2816#32
  let arg0 : BitVec 32 := BitVec.ofNat 32 (i 0).val
  let c256_i32 : BitVec 32 := 256#32
  let v12 : BitVec 32 := Scalar.muli arg0 c256_i32
  let v13 : BitVec 32 := v12
  let v27 : BitVec 32 := Scalar.addi c2816_i32 v13
  let v28 : BitVec 32 := v27
  let v29 : Index := Scalar.indexCast v28
  ![0, v29.toNat]
def k0_off3 (i : grid0.Coords) : Fin 2 → Nat :=
  let arg0 : BitVec 32 := BitVec.ofNat 32 (i 0).val
  let c256_i32 : BitVec 32 := 256#32
  let v12 : BitVec 32 := Scalar.muli arg0 c256_i32
  let v13 : BitVec 32 := v12
  let v33 : Index := Scalar.indexCast v13
  let c0_15 : Index := 0#32
  ![v33.toNat, 0]
def k0_cond3 (i : grid0.Coords) : BitVec 1 :=
  let arg0 : BitVec 32 := BitVec.ofNat 32 (i 0).val
  let c10_i32 : BitVec 32 := 10#32
  let v6 : BitVec 1 := Scalar.cmpi .eq arg0 c10_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c11_i32_3 : BitVec 32 := 11#32
  let v9 : BitVec 1 := Scalar.cmpi .sge arg0 c11_i32_3
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.addi v0 c1_i32
  let c0_i32 : BitVec 32 := 0#32
  let v2 : BitVec 32 := Scalar.maxsi v1 c0_i32
  let c6_i32 : BitVec 32 := 6#32
  let v3 : BitVec 32 := Scalar.muli v2 c6_i32
  let c33_i32 : BitVec 32 := 33#32
  let v4 : BitVec 32 := Scalar.addi v3 c33_i32
  let c1_i32_0 : BitVec 32 := 1#32
  let v5 : BitVec 32 := Scalar.subi v4 c1_i32_0
  let c33_i32_1 : BitVec 32 := 33#32
  let v6 : BitVec 32 := Scalar.divsi v5 c33_i32_1
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c0_i32_4 : BitVec 32 := 0#32
  let v12 : BitVec 1 := Scalar.cmpi .sgt c33_i32_1 c0_i32_4
  let v13 : BitVec 32 := Scalar.extui v12
  let c0_i32_5 : BitVec 32 := 0#32
  let v14 : BitVec 1 := Scalar.cmpi .slt c33_i32_1 c0_i32_5
  let v15 : BitVec 32 := Scalar.extui v14
  let v16 : BitVec 32 := Scalar.subi v13 v15
  let v17 : BitVec 1 := Scalar.cmpi .ne v11 v16
  let v18 : BitVec 32 := Scalar.remsi v5 c33_i32_1
  let c0_i32_6 : BitVec 32 := 0#32
  let v19 : BitVec 1 := Scalar.cmpi .ne v18 c0_i32_6
  let v20 : BitVec 1 := Scalar.andi v17 v19
  let c1_i32_7 : BitVec 32 := 1#32
  let v21 : BitVec 32 := Scalar.subi v6 c1_i32_7
  let v22 : BitVec 32 := Scalar.select v20 v21 v6
  let v23 : BitVec 32 := Scalar.subi v3 v22
  let c128_i32 : BitVec 32 := 128#32
  let v24 : BitVec 32 := Scalar.muli v23 c128_i32
  let v25 : BitVec 32 := v24
  let c0_i32_8 : BitVec 32 := 0#32
  let c0_i32_9 : BitVec 32 := 0#32
  ![v25.toNat, c0_i32_8.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let c10_i32 : BitVec 32 := 10#32
  let v0 : BitVec 32 := Scalar.minsi arg0 c10_i32
  let c11_i32 : BitVec 32 := 11#32
  let v1 : BitVec 32 := Scalar.addi c11_i32 v0
  let c0_i32 : BitVec 32 := 0#32
  let c0_i32_0 : BitVec 32 := 0#32
  let c0_i32_1 : BitVec 32 := 0#32
  ![c0_i32.toNat, c0_i32_0.toNat, v1.toNat]

def cc0_transform_5 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 2 → Nat :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.addi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnLeadRefIdeal.lean ====
abbrev S16384x1024 : Shape := ⟨2, ![16384, 1024]⟩
abbrev S128x1024 : Shape := ⟨2, ![128, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x128x1024 : Shape := ⟨3, ![1, 128, 1024]⟩
abbrev S4x128x1024 : Shape := ⟨3, ![4, 128, 1024]⟩
abbrev S4x4096x1024 : Shape := ⟨3, ![4, 4096, 1024]⟩
abbrev S4x4224x1024 : Shape := ⟨3, ![4, 4224, 1024]⟩
abbrev S1x1024 : Shape := ⟨2, ![1, 1024]⟩
abbrev S1024 : Shape := ⟨1, ![1024]⟩
abbrev S_ : Shape := ⟨0, ![]⟩
abbrev S4x4224 : Shape := ⟨2, ![4, 4224]⟩
abbrev S4x4224x1 : Shape := ⟨3, ![4, 4224, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S4x4224x5632 : Shape := ⟨3, ![4, 4224, 5632]⟩
abbrev S4x4224x2816 : Shape := ⟨3, ![4, 4224, 2816]⟩
abbrev S16896x1024 : Shape := ⟨2, ![16896, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S128x1024, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1x128x1024, .f32⟩
  | .hbm, ⟨6, _⟩ => ⟨S4x128x1024, .f32⟩
  | .hbm, ⟨7, _⟩ => ⟨S4x4096x1024, .f32⟩
  | .hbm, ⟨8, _⟩ => ⟨S4x4224x1024, .f32⟩
  | .hbm, ⟨9, _⟩ => ⟨S1x1024, .f32⟩
  | .hbm, ⟨10, _⟩ => ⟨S1024, .f32⟩
  | .hbm, ⟨11, _⟩ => ⟨S4x4224x1024, .f32⟩
  | .hbm, ⟨12, _⟩ => ⟨S_, .f32⟩
  | .hbm, ⟨13, _⟩ => ⟨S4x4224, .f32⟩
  | .hbm, ⟨14, _⟩ => ⟨S4x4224x1, .f32⟩
  | .hbm, ⟨15, _⟩ => ⟨S_, .f32⟩
  | .hbm, ⟨16, _⟩ => ⟨S4x4224x1, .f32⟩
  | .hbm, ⟨17, _⟩ => ⟨S4x4224x1, .f32⟩
  | .hbm, ⟨18, _⟩ => ⟨S_, .f32⟩
  | .hbm, ⟨19, _⟩ => ⟨S4x4224x1, .f32⟩
  | .hbm, ⟨20, _⟩ => ⟨S4x4224x1, .f32⟩
  | .hbm, ⟨21, _⟩ => ⟨S4x4224x1, .f32⟩
  | .hbm, ⟨22, _⟩ => ⟨S4x4224x1024, .f32⟩
  | .hbm, ⟨23, _⟩ => ⟨S4x4224x1024, .f32⟩
  | .hbm, ⟨24, _⟩ => ⟨S1x1x1024, .f32⟩
  | .hbm, ⟨25, _⟩ => ⟨S4x4224x1024, .f32⟩
  | .hbm, ⟨26, _⟩ => ⟨S4x4224x1024, .f32⟩
  | .hbm, ⟨27, _⟩ => ⟨S1x1024x5632, .f32⟩
  | .hbm, ⟨28, _⟩ => ⟨S1024x5632, .f32⟩
  | .hbm, ⟨29, _⟩ => ⟨S1x2816x1024, .f32⟩
  | .hbm, ⟨30, _⟩ => ⟨S2816x1024, .f32⟩
  | .hbm, ⟨31, _⟩ => ⟨S4x4224x5632, .f32⟩
  | .hbm, ⟨32, _⟩ => ⟨S4x4224x2816, .f32⟩
  | .hbm, ⟨33, _⟩ => ⟨S4x4224x2816, .f32⟩
  | .hbm, ⟨34, _⟩ => ⟨S4x4224x2816, .f32⟩
  | .hbm, ⟨35, _⟩ => ⟨S4x4224x2816, .f32⟩
  | .hbm, ⟨36, _⟩ => ⟨S_, .f32⟩
  | .hbm, ⟨37, _⟩ => ⟨S4x4224x2816, .f32⟩
  | .hbm, ⟨38, _⟩ => ⟨S4x4224x2816, .f32⟩
  | .hbm, ⟨39, _⟩ => ⟨S_, .f32⟩
  | .hbm, ⟨40, _⟩ => ⟨S4x4224x2816, .f32⟩
  | .hbm, ⟨41, _⟩ => ⟨S4x4224x2816, .f32⟩
  | .hbm, ⟨42, _⟩ => ⟨S4x4224x2816, .f32⟩
  | .hbm, ⟨43, _⟩ => ⟨S4x4224x2816, .f32⟩
  | .hbm, ⟨44, _⟩ => ⟨S4x4224x1024, .f32⟩
  | .hbm, ⟨45, _⟩ => ⟨S_, .f32⟩
  | .hbm, ⟨46, _⟩ => ⟨S4x4224x1024, .f32⟩
  | .hbm, ⟨47, _⟩ => ⟨S4x4224x1024, .f32⟩
  | .hbm, ⟨48, _⟩ => ⟨S4x4224x1024, .f32⟩
  | .hbm, ⟨49, _⟩ => ⟨S16896x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Proj.lean ====
abbrev S1 : Shape := ⟨1, ![1]⟩
abbrev S16896x1024 : Shape := ⟨2, ![16896, 1024]⟩
abbrev S2x1024 : Shape := ⟨2, ![2, 1024]⟩
abbrev S3728x1024 : Shape := ⟨2, ![3728, 1024]⟩
abbrev S1024x640 : Shape := ⟨2, ![1024, 640]⟩
abbrev S16x1 : Shape := ⟨2, ![16, 1]⟩
abbrev S64x1 : Shape := ⟨2, ![64, 1]⟩
abbrev S1x128 : Shape := ⟨2, ![1, 128]⟩
abbrev S1x1024 : Shape := ⟨2, ![1, 1024]⟩
abbrev S1024 : Shape := ⟨1, ![1024]⟩
abbrev S1024x16896 : Shape := ⟨2, ![1024, 16896]⟩
abbrev S640x16896 : Shape := ⟨2, ![640, 16896]⟩
abbrev S512x16896 : Shape := ⟨2, ![512, 16896]⟩
abbrev S16896x128 : Shape := ⟨2, ![16896, 128]⟩
abbrev S128x16896 : Shape := ⟨2, ![128, 16896]⟩
abbrev S512x1024 : Shape := ⟨2, ![512, 1024]⟩
abbrev S1024x512 : Shape := ⟨2, ![1024, 512]⟩
abbrev S640x512 : Shape := ⟨2, ![640, 512]⟩
abbrev S512x512 : Shape := ⟨2, ![512, 512]⟩
abbrev S512x128 : Shape := ⟨2, ![512, 128]⟩
abbrev S128x512 : Shape := ⟨2, ![128, 512]⟩
abbrev S16x128 : Shape := ⟨2, ![16, 128]⟩
abbrev S512 : Shape := ⟨1, ![512]⟩
abbrev S512x1 : Shape := ⟨2, ![512, 1]⟩
abbrev S528x1024 : Shape := ⟨2, ![528, 1024]⟩
abbrev S528x512 : Shape := ⟨2, ![528, 512]⟩
abbrev S16x512 : Shape := ⟨2, ![16, 512]⟩
abbrev S64x512 : Shape := ⟨2, ![64, 512]⟩
abbrev S80x512 : Shape := ⟨2, ![80, 512]⟩
abbrev S1x512 : Shape := ⟨2, ![1, 512]⟩
abbrev S16 : Shape := ⟨1, ![16]⟩
abbrev S112x512 : Shape := ⟨2, ![112, 512]⟩
abbrev S512x640 : Shape := ⟨2, ![512, 640]⟩
abbrev S32x512 : Shape := ⟨2, ![32, 512]⟩
abbrev S1024x1024 : Shape := ⟨2, ![1024, 1024]⟩
abbrev S128x1024 : Shape := ⟨2, ![128, 1024]⟩

abbrev nBuf : Space → Nat
  | .hbm => 21
  | .vmem => 30
  | .smem => 1
  | _ => 0

abbrev bufTy : (tb : Table) → Fin (tcTables nBuf tb) → BufTy
  | .hbm, ⟨0, _⟩ => ⟨S1, .f32⟩
  | .hbm, ⟨1, _⟩ => ⟨S16896x1024, .f32⟩
  | .hbm, ⟨2, _⟩ => ⟨S2x1024, .f32⟩
  | .hbm, ⟨3, _⟩ => ⟨S3728x1024, .bf16⟩
  | .hbm, ⟨4, _⟩ => ⟨S1024x640, .bf16⟩
  | .hbm, ⟨5, _⟩ => ⟨S16x1, .f32⟩
  | .hbm, ⟨6, _⟩ => ⟨S64x1, .f32⟩
  | .hbm, ⟨7, _⟩ => ⟨S1x128, .f32⟩
  | .hbm, ⟨8, _⟩ => ⟨S64x1, .f32⟩
  | .hbm, ⟨9, _⟩ => ⟨S1x128, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024x16896, .bf16⟩
  | .hbm, ⟨14, _⟩ => ⟨S16896x1024, .bf16⟩
  | .hbm, ⟨15, _⟩ => ⟨S640x16896, .bf16⟩
  | .hbm, ⟨16, _⟩ => ⟨S512x16896, .bf16⟩
  | .hbm, ⟨17, _⟩ => ⟨S16896x128, .bf16⟩
  | .hbm, ⟨18, _⟩ => ⟨S128x16896, .bf16⟩
  | .hbm, ⟨19, _⟩ => ⟨S1024x16896, .bf16⟩
  | .hbm, ⟨20, _⟩ => ⟨S1024x16896, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S3728x1024, .bf16⟩
  | .local _ .vmem, ⟨5, _⟩ => ⟨S1024x640, .bf16⟩
  | .local _ .vmem, ⟨6, _⟩ => ⟨S16x1, .f32⟩
  | .local _ .vmem, ⟨7, _⟩ => ⟨S64x1, .f32⟩
  | .local _ .vmem, ⟨8, _⟩ => ⟨S1x128, .f32⟩
  | .local _ .vmem, ⟨9, _⟩ => ⟨S64x1, .f32⟩
  | .local _ .vmem, ⟨10, _⟩ => ⟨S1x128, .f32⟩
  | .local _ .vmem, ⟨11, _⟩ => ⟨S1024x512, .bf16⟩
  | .local _ .vmem, ⟨12, _⟩ => ⟨S1024x512, .bf16⟩
  | .local _ .vmem, ⟨13, _⟩ => ⟨S512x1024, .bf16⟩
  | .local _ .vmem, ⟨14, _⟩ => ⟨S512x1024, .bf16⟩
  | .local _ .vmem, ⟨15, _⟩ => ⟨S640x512, .bf16⟩
  | .local _ .vmem, ⟨16, _⟩ => ⟨S640x512, .bf16⟩
  | .local _ .vmem, ⟨17, _⟩ => ⟨S512x512, .bf16⟩
  | .local _ .vmem, ⟨18, _⟩ => ⟨S512x512, .bf16⟩
  | .local _ .vmem, ⟨19, _⟩ => ⟨S512x128, .bf16⟩
  | .local _ .vmem, ⟨20, _⟩ => ⟨S512x128, .bf16⟩
  | .local _ .vmem, ⟨21, _⟩ => ⟨S128x512, .bf16⟩
  | .local _ .vmem, ⟨22, _⟩ => ⟨S128x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S1024x512, .bf16⟩
  | .local _ .vmem, ⟨27, _⟩ => ⟨S16x128, .f32⟩
  | .local _ .vmem, ⟨28, _⟩ => ⟨S512x512, .bf16⟩
  | .local _ .vmem, ⟨29, _⟩ => ⟨S512x1024, .bf16⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev main_v3_6 : Ref sig .tc := ⟨.hbm, 19, rfl⟩
abbrev main_v3_7 : Ref sig .tc := ⟨.hbm, 20, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![33], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.minsi v0 c32_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3728x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S640x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ProjRefIdeal.lean ====
abbrev S1 : Shape := ⟨1, ![1]⟩
abbrev S16896x1024 : Shape := ⟨2, ![16896, 1024]⟩
abbrev S2x1024 : Shape := ⟨2, ![2, 1024]⟩
abbrev S3728x1024 : Shape := ⟨2, ![3728, 1024]⟩
abbrev S1024x640 : Shape := ⟨2, ![1024, 640]⟩
abbrev S16x1 : Shape := ⟨2, ![16, 1]⟩
abbrev S64x1 : Shape := ⟨2, ![64, 1]⟩
abbrev S1x128 : Shape := ⟨2, ![1, 128]⟩
abbrev S1x1024 : Shape := ⟨2, ![1, 1024]⟩
abbrev S1024 : Shape := ⟨1, ![1024]⟩
abbrev S_ : Shape := ⟨0, ![]⟩
abbrev S16896 : Shape := ⟨1, ![16896]⟩
abbrev S16896x1 : Shape := ⟨2, ![16896, 1]⟩
abbrev S1024x16896 : Shape := ⟨2, ![1024, 16896]⟩
abbrev S3728x16896 : Shape := ⟨2, ![3728, 16896]⟩
abbrev S512x16896 : Shape := ⟨2, ![512, 16896]⟩
abbrev S8x64x16896 : Shape := ⟨3, ![8, 64, 16896]⟩
abbrev S8x16x16896 : Shape := ⟨3, ![8, 16, 16896]⟩
abbrev S8x80x16896 : Shape := ⟨3, ![8, 80, 16896]⟩
abbrev S640x16896 : Shape := ⟨2, ![640, 16896]⟩
abbrev S8x16896 : Shape := ⟨2, ![8, 16896]⟩
abbrev S8x1x16896 : Shape := ⟨3, ![8, 1, 16896]⟩
abbrev S1x64x1 : Shape := ⟨3, ![1, 64, 1]⟩
abbrev S128x16896 : Shape := ⟨2, ![128, 16896]⟩

abbrev nBuf : Space → Nat
  | .hbm => 83
  | .vmem => 0
  | .smem => 0
  | _ => 0

abbrev bufTy : (tb : Table) → Fin (tcTables nBuf tb) → BufTy
  | .hbm, ⟨0, _⟩ => ⟨S1, .f32⟩
  | .hbm, ⟨1, _⟩ => ⟨S16896x1024, .f32⟩
  | .hbm, ⟨2, _⟩ => ⟨S2x1024, .f32⟩
  | .hbm, ⟨3, _⟩ => ⟨S3728x1024, .bf16⟩
  | .hbm, ⟨4, _⟩ => ⟨S1024x640, .bf16⟩
  | .hbm, ⟨5, _⟩ => ⟨S16x1, .f32⟩
  | .hbm, ⟨6, _⟩ => ⟨S64x1, .f32⟩
  | .hbm, ⟨7, _⟩ => ⟨S1x128, .f32⟩
  | .hbm, ⟨8, _⟩ => ⟨S64x1, .f32⟩
  | .hbm, ⟨9, _⟩ => ⟨S1x128, .f32⟩
  | .hbm, ⟨10, _⟩ => ⟨S3728x1024, .f32⟩
  | .hbm, ⟨11, _⟩ => ⟨S1x1024, .f32⟩
  | .hbm, ⟨12, _⟩ => ⟨S1024, .f32⟩
  | .hbm, ⟨13, _⟩ => ⟨S16896x1024, .f32⟩
  | .hbm, ⟨14, _⟩ => ⟨S_, .f32⟩
  | .hbm, ⟨15, _⟩ => ⟨S16896, .f32⟩
  | .hbm, ⟨16, _⟩ => ⟨S16896x1, .f32⟩
  | .hbm, ⟨17, _⟩ => ⟨S_, .f32⟩
  | .hbm, ⟨18, _⟩ => ⟨S16896x1, .f32⟩
  | .hbm, ⟨19, _⟩ => ⟨S16896x1, .f32⟩
  | .hbm, ⟨20, _⟩ => ⟨S_, .f32⟩
  | .hbm, ⟨21, _⟩ => ⟨S16896x1, .f32⟩
  | .hbm, ⟨22, _⟩ => ⟨S16896x1, .f32⟩
  | .hbm, ⟨23, _⟩ => ⟨S16896x1, .f32⟩
  | .hbm, ⟨24, _⟩ => ⟨S16896x1024, .f32⟩
  | .hbm, ⟨25, _⟩ => ⟨S16896x1024, .f32⟩
  | .hbm, ⟨26, _⟩ => ⟨S1x1024, .f32⟩
  | .hbm, ⟨27, _⟩ => ⟨S16896x1024, .f32⟩
  | .hbm, ⟨28, _⟩ => ⟨S16896x1024, .f32⟩
  | .hbm, ⟨29, _⟩ => ⟨S1024x16896, .f32⟩
  | .hbm, ⟨30, _⟩ => ⟨S3728x16896, .f32⟩
  | .hbm, ⟨31, _⟩ => ⟨S512x16896, .f32⟩
  | .hbm, ⟨32, _⟩ => ⟨S8x64x16896, .f32⟩
  | .hbm, ⟨33, _⟩ => ⟨S512x16896, .f32⟩
  | .hbm, ⟨34, _⟩ => ⟨S8x64x16896, .f32⟩
  | .hbm, ⟨35, _⟩ => ⟨S_, .f32⟩
  | .hbm, ⟨36, _⟩ => ⟨S8x16x16896, .f32⟩
  | .hbm, ⟨37, _⟩ => ⟨S8x80x16896, .f32⟩
  | .hbm, ⟨38, _⟩ => ⟨S640x16896, .f32⟩
  | .hbm, ⟨39, _⟩ => ⟨S8x64x16896, .f32⟩
  | .hbm, ⟨40, _⟩ => ⟨S_, .f32⟩
  | .hbm, ⟨41, _⟩ => ⟨S8x16896, .f32⟩
  | .hbm, ⟨42, _⟩ => ⟨S8x1x16896, .f32⟩
  | .hbm, ⟨43, _⟩ => ⟨S_, .f32⟩
  | .hbm, ⟨44, _⟩ => ⟨S8x1x16896, .f32⟩
  | .hbm, ⟨45, _⟩ => ⟨S8x1x16896, .f32⟩
  | .hbm, ⟨46, _⟩ => ⟨S_, .f32⟩
  | .hbm, ⟨47, _⟩ => ⟨S8x1x16896, .f32⟩
  | .hbm, ⟨48, _⟩ => ⟨S8x1x16896, .f32⟩
  | .hbm, ⟨49, _⟩ => ⟨S8x1x16896, .f32⟩
  | .hbm, ⟨50, _⟩ => ⟨S8x64x16896, .f32⟩
  | .hbm, ⟨51, _⟩ => ⟨S8x64x16896, .f32⟩
  | .hbm, ⟨52, _⟩ => ⟨S1x64x1, .f32⟩
  | .hbm, ⟨53, _⟩ => ⟨S8x64x16896, .f32⟩
  | .hbm, ⟨54, _⟩ => ⟨S8x64x16896, .f32⟩
  | .hbm, ⟨55, _⟩ => ⟨S_, .f32⟩
  | .hbm, ⟨56, _⟩ => ⟨S8x64x16896, .f32⟩
  | .hbm, ⟨57, _⟩ => ⟨S8x64x16896, .f32⟩
  | .hbm, ⟨58, _⟩ => ⟨S128x16896, .f32⟩
  | .hbm, ⟨59, _⟩ => ⟨S1024x16896, .f32⟩
  | .hbm, ⟨60, _⟩ => ⟨S1024x16896, .f32⟩
  | .hbm, ⟨61, _⟩ => ⟨S1024x16896, .f32⟩
  | .hbm, ⟨62, _⟩ => ⟨S_, .f32⟩
  | .hbm, ⟨63, _⟩ => ⟨S1024x16896, .f32⟩
  | .hbm, ⟨64, _⟩ => ⟨S1024x16896, .f32⟩
  | .hbm, ⟨65, _⟩ => ⟨S_, .f32⟩
  | .hbm, ⟨66, _⟩ => ⟨S1024x16896, .f32⟩
  | .hbm, ⟨67, _⟩ => ⟨S1024x16896, .f32⟩
  | .hbm, ⟨68, _⟩ => ⟨S1024x16896, .f32⟩
  | .hbm, ⟨69, _⟩ => ⟨S1024x16896, .f32⟩
  | .hbm, ⟨70, _⟩ => ⟨S1024x16896, .f32⟩
  | .hbm, ⟨71, _⟩ => ⟨S_, .f32⟩
  | .hbm, ⟨72, _⟩ => ⟨S1024x16896, .f32⟩
  | .hbm, ⟨73, _⟩ => ⟨S1024x16896, .f32⟩
  | .hbm, ⟨74, _⟩ => ⟨S_, .f32⟩
  | .hbm, ⟨75, _⟩ => ⟨S1024x16896, .f32⟩
  | .hbm, ⟨76, _⟩ => ⟨S1024x16896, .f32⟩
  | .hbm, ⟨77, _⟩ => ⟨S640x16896, .bf16⟩
  | .hbm, ⟨78, _⟩ => ⟨S512x16896, .f32⟩
  | .hbm, ⟨79, _⟩ => ⟨S512x16896, .bf16⟩
  | .hbm, ⟨80, _⟩ => ⟨S128x16896, .bf16⟩
  | .hbm, ⟨81, _⟩ => ⟨S1024x16896, .bf16⟩
  | .hbm, ⟨82, _⟩ => ⟨S1024x16896, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Proof.FfnRun.lean ====
module

public import proofs.«01_k».proof.Proof.Gen.FfnLastIdeal.Frame
public import proofs.«01_k».proof.Proof.Gen.FfnLastIdeal.Skeleton
public import Idealize.ShloMosaic.Lib.Pipeline.ValueKit
public import Idealize.ShloMosaic.Lib.VecWindow
public import Idealize.ShloMosaic.Lib.Claim

@[expose] public section

set_option maxRecDepth 16384

noncomputable section

namespace Cert.FfnLastIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnLastIdeal.Gen

variable {F : FTy → Type} [FloatOps F]

local notation "𝕄" => MT nD τ sig Unit (Elt F) ℕ (UR sig nD τ) ℕ

open VecWindow

/-! # What one grid point of the feed-forward kernel computes

The kernel walks eleven prologue points, which stream the weights in and round them into two resident buffers while they
compute the first row tile, and then one point per further row tile, which reads the weights from those buffers only. Each
lemma below runs the body once, on any staging buffers, and names what every buffer holds afterwards. -/

variable (c : Dev nD) (i : grid0.Coords)
  (arg1 : Memref sig .tc .vmem S1024x1024 .f32) (harg1 : arg1.IsWhole) (arg2 : Memref sig .tc .vmem S1x1024 .f32) (harg2 : arg2.IsWhole)
  (arg3 : Memref sig .tc .vmem S1x1024x256 .f32) (harg3 : arg3.IsWhole) (arg4 : Memref sig .tc .vmem S1x1024x256 .f32) (harg4 : arg4.IsWhole)
  (arg5 : Memref sig .tc .vmem S1x256x1024 .f32) (harg5 : arg5.IsWhole) (arg6 : Memref sig .tc .vmem S1x1024x1024 .f32) (harg6 : arg6.IsWhole)
  (arg7 : Memref sig .tc .vmem S1024x5632 .bf16) (harg7 : arg7.IsWhole) (arg8 : Memref sig .tc .vmem S2816x1024 .bf16) (harg8 : arg8.IsWhole)
  (arg9 : Memref sig .tc .vmem S1024x1024 .f32) (harg9 : arg9.IsWhole) (arg10 : Memref sig .tc .vmem S1024x1024 .bf16) (harg10 : arg10.IsWhole)
  (x0 : Vec F S1024x1024 .f32) (x1 : Vec F S1x1024 .f32) (x2 x3 : Vec F S1x1024x256 .f32) (x4 : Vec F S1x256x1024 .f32) (x5 : Vec F S1x1024x1024 .f32)
  (w7 : Vec F S1024x5632 .bf16) (w8 : Vec F S2816x1024 .bf16) (a9 : Vec F S1024x1024 .f32) (n10 : Vec F S1024x1024 .bf16)

/-- The condition of the first grid point. -/
abbrev condA (i : grid0.Coords) : Prop := (Scalar.cmpi .ne (Scalar.extui (Scalar.cmpi .eq (BitVec.ofNat 32 (i 0).val) 0#32)) 0#32) = 1#1

/-- One chunk of the input weights fits into the resident buffer; -/
theorem inbIn {o : ℕ} (h : o + 256 ≤ 5632) : ∀ a, (![0, o] : Fin 2 → ℕ) a + S1024x256.size a ≤ S1024x5632.size a :=
  Fin.forall_fin_two.2 ⟨Nat.le_refl _, h⟩
/-- and one chunk of the output weights into its own. -/
theorem inbOut {o : ℕ} (h : o + 256 ≤ 2816) : ∀ a, (![o, 0] : Fin 2 → ℕ) a + S256x1024.size a ≤ S2816x1024.size a :=
  Fin.forall_fin_two.2 ⟨h, Nat.le_refl _⟩

/-- Chunk `j` of the resident gate weights. -/
def gateOf (w7 : Vec F S1024x5632 .bf16) (j : Fin 11) : Vec F S1024x256 .bf16 := window w7 ![0, 256 * j.val] S1024x256.size (inbIn (by omega))
/-- Chunk `j` of the resident up weights. -/
def upOf (w7 : Vec F S1024x5632 .bf16) (j : Fin 11) : Vec F S1024x256 .bf16 := window w7 ![0, 2816 + 256 * j.val] S1024x256.size (inbIn (by omega))
/-- Chunk `j` of the resident output weights. -/
def downOf (w8 : Vec F S2816x1024 .bf16) (j : Fin 11) : Vec F S256x1024 .bf16 := window w8 ![256 * j.val, 0] S256x1024.size (inbOut (by omega))

/-- The accumulator of a row tile after its eleven chunks, the weights read chunk by chunk. -/
def accTile (x : Vec F S1024x1024 .f32) (g : Vec F S1x1024 .f32) (G U : Fin 11 → Vec F S1024x256 .bf16) (D : Fin 11 → Vec F S256x1024 .bf16) : FVec F S1024x1024 .f32 :=
  let n : FVec F S1024x1024 .bf16 := k0_pay15 x g
  k0_pay6 n (G 10) (U 10) (D 10) (k0_pay5 (k0_pay31 n (G 9) (U 9) (D 9)) (k0_pay30 n (G 8) (U 8) (D 8)
    (k0_pay29 (D 7) (k0_pay28 n (G 7) (U 7)) (constant S1024x1024 .f32 0x00000000#32) (k0_pay27 n (G 6) (U 6) (D 6)
      (k0_pay26 (D 5) (k0_pay25 n (G 5) (U 5)) (k0_pay24 n (G 4) (U 4) (D 4)
        (k0_pay23 (D 3) (k0_pay20 n (G 3)) (k0_pay21 n (U 3)) (k0_pay22 n (G 3)) (k0_pay19 n (G 2) (U 2) (D 2)
          (k0_pay18 n (U 1) (D 1) (k0_pay17 x g (G 1)) (constant S1024x256 .f32 0x00000000#32) (k0_pay16 x g (G 0) (U 0) (D 0)))))))))))

set_option maxHeartbeats 4000000 in
/-- The first point: the normalised row tile is stored, the accumulator cleared, and the first chunk of the weights brought in and used. -/
theorem runA (h1 : condA i) (h2 : k0_cond2 i = 1#1) (h3 : ¬ k0_cond3 i = 1#1) (h4 : ¬ k0_cond4 i = 1#1) (E : Set ℕ) (K : PUnit → sProp 𝕄) :
    iprop(owns c.tc arg1 fullShare x0 ∗ owns c.tc arg2 fullShare x1 ∗ owns c.tc arg3 fullShare x2
      ∗ owns c.tc arg4 fullShare x3 ∗ owns c.tc arg5 fullShare x4 ∗ owns c.tc arg6 fullShare x5
      ∗ owns c.tc arg7 fullShare w7 ∗ owns c.tc arg8 fullShare w8
      ∗ owns c.tc arg9 fullShare a9 ∗ owns c.tc arg10 fullShare n10
      ∗ (iprop(owns c.tc arg1 fullShare x0 ∗ owns c.tc arg2 fullShare x1 ∗ owns c.tc arg3 fullShare x2
          ∗ owns c.tc arg4 fullShare x3 ∗ owns c.tc arg5 fullShare x4 ∗ owns c.tc arg6 fullShare (x5)
          ∗ owns c.tc arg7 fullShare (put (put w7 (k0_off1 i) S1024x256.size (k0_pay11 x2)) (k0_off2 i) S1024x256.size (k0_pay12 x3)) ∗ owns c.tc arg8 fullShare (put w8 (k0_off3 i) S256x1024.size (k0_pay13 x4))
          ∗ owns c.tc arg9 fullShare (k0_pay3 (k0_pay14 x2 x3 x4 k0_pay2 (k0_pay1 x0 x1))) ∗ owns c.tc arg10 fullShare (k0_pay1 x0 x1)) -∗ K ⟨⟩))
    ⊢ wp frame (wpE (defs₀ (F := F)) Variants.none c none) E
        (cc0_ffn i arg1 harg1 arg2 harg2 arg3 harg3 arg4 harg4 arg5 harg5 arg6 harg6 arg7 harg7 arg8 harg8 arg9 harg9 arg10 harg10) K := by
  simp only [cc0_ffn_eq_skeleton]; unfold cc0_ffn_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | sl_exact h1 | sl_exact h2 | sl_exact h3 | sl_exact h4)
  sl_step
  iapply Hk
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact hf4
  isplitl [H5]; · iexists _; isplitr; swap; · iexact H5
                  ipureintro; exact hf5
  isplitl [H6]
  · iexists _; isplitr; swap; · iexact H6
    ipureintro
    exact hf6
  isplitl [H7]
  · iexists _; isplitr; swap; · iexact H7
    ipureintro
    rw [View.read_writes_cons_put _ _ _ _ _ rfl, View.read_writes_cons_put _ _ _ _ _ rfl, View.writes_nil, hf7, View.readAt_full, View.readAt_full, hf3, hf4]
  isplitl [H8]
  · iexists _; isplitr; swap; · iexact H8
    ipureintro
    rw [View.read_writes_cons_put _ _ _ _ _ rfl, View.writes_nil, hf8, View.readAt_full, hf5]
  isplitl [H9]
  · iexists _; isplitr; swap; · iexact H9
    ipureintro
    frame_out; try rw [View.read_writes_full]
  · iexists _; isplitr; swap; · iexact H10
    ipureintro
    frame_out; try rw [View.read_writes_full]

set_option maxHeartbeats 4000000 in
/-- A later prologue point: one more chunk of the weights is brought in and used. -/
theorem runB (h1 : ¬ condA i) (h2 : k0_cond2 i = 1#1) (h3 : ¬ k0_cond3 i = 1#1) (h4 : ¬ k0_cond4 i = 1#1) (E : Set ℕ) (K : PUnit → sProp 𝕄) :
    iprop(owns c.tc arg1 fullShare x0 ∗ owns c.tc arg2 fullShare x1 ∗ owns c.tc arg3 fullShare x2
      ∗ owns c.tc arg4 fullShare x3 ∗ owns c.tc arg5 fullShare x4 ∗ owns c.tc arg6 fullShare x5
      ∗ owns c.tc arg7 fullShare w7 ∗ owns c.tc arg8 fullShare w8
      ∗ owns c.tc arg9 fullShare a9 ∗ owns c.tc arg10 fullShare n10
      ∗ (iprop(owns c.tc arg1 fullShare x0 ∗ owns c.tc arg2 fullShare x1 ∗ owns c.tc arg3 fullShare x2
          ∗ owns c.tc arg4 fullShare x3 ∗ owns c.tc arg5 fullShare x4 ∗ owns c.tc arg6 fullShare (x5)
          ∗ owns c.tc arg7 fullShare (put (put w7 (k0_off1 i) S1024x256.size (k0_pay11 x2)) (k0_off2 i) S1024x256.size (k0_pay12 x3)) ∗ owns c.tc arg8 fullShare (put w8 (k0_off3 i) S256x1024.size (k0_pay13 x4))
          ∗ owns c.tc arg9 fullShare (k0_pay3 (k0_pay14 x2 x3 x4 a9 n10)) ∗ owns c.tc arg10 fullShare (n10)) -∗ K ⟨⟩))
    ⊢ wp frame (wpE (defs₀ (F := F)) Variants.none c none) E
        (cc0_ffn i arg1 harg1 arg2 harg2 arg3 harg3 arg4 harg4 arg5 harg5 arg6 harg6 arg7 harg7 arg8 harg8 arg9 harg9 arg10 harg10) K := by
  simp only [cc0_ffn_eq_skeleton]; unfold cc0_ffn_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | sl_exact h1 | sl_exact h2 | sl_exact h3 | sl_exact h4)
  sl_step
  iapply Hk
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact hf4
  isplitl [H5]; · iexists _; isplitr; swap; · iexact H5
                  ipureintro; exact hf5
  isplitl [H6]
  · iexists _; isplitr; swap; · iexact H6
    ipureintro
    exact hf6
  isplitl [H7]
  · iexists _; isplitr; swap; · iexact H7
    ipureintro
    rw [View.read_writes_cons_put _ _ _ _ _ rfl, View.read_writes_cons_put _ _ _ _ _ rfl, View.writes_nil, hf7, View.readAt_full, View.readAt_full, hf3, hf4]
  isplitl [H8]
  · iexists _; isplitr; swap; · iexact H8
    ipureintro
    rw [View.read_writes_cons_put _ _ _ _ _ rfl, View.writes_nil, hf8, View.readAt_full, hf5]
  isplitl [H9]
  · iexists _; isplitr; swap; · iexact H9
    ipureintro
    frame_out; try rw [View.read_writes_full]
  · iexists _; isplitr; swap; · iexact H10
    ipureintro
    exact hf10

set_option maxHeartbeats 4000000 in
/-- The last prologue point: the last chunk, and the first row tile is written. -/
theorem runC (h1 : ¬ condA i) (h2 : k0_cond2 i = 1#1) (h3 : k0_cond3 i = 1#1) (h4 : ¬ k0_cond4 i = 1#1) (E : Set ℕ) (K : PUnit → sProp 𝕄) :
    iprop(owns c.tc arg1 fullShare x0 ∗ owns c.tc arg2 fullShare x1 ∗ owns c.tc arg3 fullShare x2
      ∗ owns c.tc arg4 fullShare x3 ∗ owns c.tc arg5 fullShare x4 ∗ owns c.tc arg6 fullShare x5
      ∗ owns c.tc arg7 fullShare w7 ∗ owns c.tc arg8 fullShare w8
      ∗ owns c.tc arg9 fullShare a9 ∗ owns c.tc arg10 fullShare n10
      ∗ (iprop(owns c.tc arg1 fullShare x0 ∗ owns c.tc arg2 fullShare x1 ∗ owns c.tc arg3 fullShare x2
          ∗ owns c.tc arg4 fullShare x3 ∗ owns c.tc arg5 fullShare x4 ∗ owns c.tc arg6 fullShare (k0_pay4 x0 (k0_pay3 (k0_pay14 x2 x3 x4 a9 n10)))
          ∗ owns c.tc arg7 fullShare (put (put w7 (k0_off1 i) S1024x256.size (k0_pay11 x2)) (k0_off2 i) S1024x256.size (k0_pay12 x3)) ∗ owns c.tc arg8 fullShare (put w8 (k0_off3 i) S256x1024.size (k0_pay13 x4))
          ∗ owns c.tc arg9 fullShare (k0_pay3 (k0_pay14 x2 x3 x4 a9 n10)) ∗ owns c.tc arg10 fullShare (n10)) -∗ K ⟨⟩))
    ⊢ wp frame (wpE (defs₀ (F := F)) Variants.none c none) E
        (cc0_ffn i arg1 harg1 arg2 harg2 arg3 harg3 arg4 harg4 arg5 harg5 arg6 harg6 arg7 harg7 arg8 harg8 arg9 harg9 arg10 harg10) K := by
  simp only [cc0_ffn_eq_skeleton]; unfold cc0_ffn_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | sl_exact h1 | sl_exact h2 | sl_exact h3 | sl_exact h4)
  sl_step
  iapply Hk
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact hf4
  isplitl [H5]; · iexists _; isplitr; swap; · iexact H5
                  ipureintro; exact hf5
  isplitl [H6]
  · iexists _; isplitr; swap; · iexact H6
    ipureintro
    frame_out; try rw [View.read_writes_full]
  isplitl [H7]
  · iexists _; isplitr; swap; · iexact H7
    ipureintro
    rw [View.read_writes_cons_put _ _ _ _ _ rfl, View.read_writes_cons_put _ _ _ _ _ rfl, View.writes_nil, hf7, View.readAt_full, View.readAt_full, hf3, hf4]
  isplitl [H8]
  · iexists _; isplitr; swap; · iexact H8
    ipureintro
    rw [View.read_writes_cons_put _ _ _ _ _ rfl, View.writes_nil, hf8, View.readAt_full, hf5]
  isplitl [H9]
  · iexists _; isplitr; swap; · iexact H9
    ipureintro
    frame_out; try rw [View.read_writes_full]
  · iexists _; isplitr; swap; · iexact H10
    ipureintro
    exact hf10

set_option maxHeartbeats 4000000 in
/-- A point after the prologue: a whole row tile from the resident weights. -/
theorem runD (h1 : ¬ condA i) (h2 : ¬ k0_cond2 i = 1#1) (h3 : ¬ k0_cond3 i = 1#1) (h4 : k0_cond4 i = 1#1) (E : Set ℕ) (K : PUnit → sProp 𝕄) :
    iprop(owns c.tc arg1 fullShare x0 ∗ owns c.tc arg2 fullShare x1 ∗ owns c.tc arg3 fullShare x2
      ∗ owns c.tc arg4 fullShare x3 ∗ owns c.tc arg5 fullShare x4 ∗ owns c.tc arg6 fullShare x5
      ∗ owns c.tc arg7 fullShare w7 ∗ owns c.tc arg8 fullShare w8
      ∗ owns c.tc arg9 fullShare a9 ∗ owns c.tc arg10 fullShare n10
      ∗ (iprop(owns c.tc arg1 fullShare x0 ∗ owns c.tc arg2 fullShare x1 ∗ owns c.tc arg3 fullShare x2
          ∗ owns c.tc arg4 fullShare x3 ∗ owns c.tc arg5 fullShare x4 ∗ owns c.tc arg6 fullShare (k0_pay7 x0 (accTile x0 x1 (gateOf w7) (upOf w7) (downOf w8)))
          ∗ owns c.tc arg7 fullShare (w7) ∗ owns c.tc arg8 fullShare (w8)
          ∗ owns c.tc arg9 fullShare (accTile x0 x1 (gateOf w7) (upOf w7) (downOf w8)) ∗ owns c.tc arg10 fullShare (n10)) -∗ K ⟨⟩))
    ⊢ wp frame (wpE (defs₀ (F := F)) Variants.none c none) E
        (cc0_ffn i arg1 harg1 arg2 harg2 arg3 harg3 arg4 harg4 arg5 harg5 arg6 harg6 arg7 harg7 arg8 harg8 arg9 harg9 arg10 harg10) K := by
  simp only [cc0_ffn_eq_skeleton]; unfold cc0_ffn_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | sl_exact h1 | sl_exact h2 | sl_exact h3 | sl_exact h4)
  sl_step
  iapply Hk
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact hf4
  isplitl [H5]; · iexists _; isplitr; swap; · iexact H5
                  ipureintro; exact hf5
  isplitl [H6]
  · iexists _; isplitr; swap; · iexact H6
    ipureintro
    frame_out; rw [View.read_writes_full]; rfl
  isplitl [H7]
  · iexists _; isplitr; swap; · iexact H7
    ipureintro
    exact hf7
  isplitl [H8]
  · iexists _; isplitr; swap; · iexact H8
    ipureintro
    exact hf8
  isplitl [H9]
  · iexists _; isplitr; swap; · iexact H9
    ipureintro
    frame_out; rw [View.read_writes_full]; rfl
  · iexists _; isplitr; swap; · iexact H10
    ipureintro
    exact hf10

end Cert.FfnLastIdeal.Hand

end
-- ==== Proof.FfnBody.lean ====
module

public import proofs.«01_k».proof.Proof.FfnRun
public import proofs.«01_k».proof.Proof.Gen.FfnLastIdeal.Frame
public import proofs.«01_k».proof.Proof.Gen.FfnLastIdeal.Skeleton
public import Idealize.ShloMosaic.Lib.Pipeline.ValueKit
public import Idealize.ShloMosaic.Lib.Claim

@[expose] public section

set_option maxRecDepth 16384

noncomputable section

namespace Cert.FfnLastIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnLastIdeal.Gen

variable {F : FTy → Type} [FloatOps F]

local notation "𝕄" => MT nD τ sig Unit (Elt F) ℕ (UR sig nD τ) ℕ

open VecWindow

/-! # The feed-forward kernel's grid, point by point, and its run

What the resident buffers hold between points (`Inv`), the body at every point, and the launch. -/

/-! ## The resident weights, chunk by chunk -/

section Chunks
variable (w7 : Vec F S1024x5632 .bf16) (w8 : Vec F S2816x1024 .bf16) (t j : Fin 11) (p q : Vec F S1024x256 .bf16) (r : Vec F S256x1024 .bf16)

/-- Storing chunk `t` of both halves of the input weights changes the gate's chunk `t` alone; -/
theorem gate_put : gateOf (put (put w7 ![0, 256 * t.val] S1024x256.size p) ![0, 2816 + 256 * t.val] S1024x256.size q) j = if j = t then p else gateOf w7 j := by
  unfold gateOf
  rw [window_put_of_disjoint _ _ _ _ _ _ _ (1 : Fin 2) (Or.inl (by show 256 * j.val + 256 ≤ 2816 + 256 * t.val; omega))]
  split
  · next h => subst h; exact window_put_same _ _ _ _ _
  · next h =>
    have : j.val ≠ t.val := fun e => h (Fin.ext e)
    exact window_put_of_disjoint _ _ _ _ _ _ _ (1 : Fin 2) (by show 256 * j.val + 256 ≤ 256 * t.val ∨ 256 * t.val + 256 ≤ 256 * j.val; omega)

/-- the up half's chunk `t` alone; -/
theorem up_put : upOf (put (put w7 ![0, 256 * t.val] S1024x256.size p) ![0, 2816 + 256 * t.val] S1024x256.size q) j = if j = t then q else upOf w7 j := by
  unfold upOf
  split
  · next h => subst h; exact window_put_same _ _ _ _ _
  · next h =>
    have : j.val ≠ t.val := fun e => h (Fin.ext e)
    rw [window_put_of_disjoint _ _ _ _ _ _ _ (1 : Fin 2) (by show 2816 + 256 * j.val + 256 ≤ 2816 + 256 * t.val ∨ 2816 + 256 * t.val + 256 ≤ 2816 + 256 * j.val; omega)]
    exact window_put_of_disjoint _ _ _ _ _ _ _ (1 : Fin 2) (Or.inr (by show 256 * t.val + 256 ≤ 2816 + 256 * j.val; omega))

/-- and of the output weights the chunk `t` alone. -/
theorem down_put : downOf (put w8 ![256 * t.val, 0] S256x1024.size r) j = if j = t then r else downOf w8 j := by
  unfold downOf
  split
  · next h => subst h; exact window_put_same _ _ _ _ _
  · next h =>
    have : j.val ≠ t.val := fun e => h (Fin.ext e)
    exact window_put_of_disjoint _ _ _ _ _ _ _ (0 : Fin 2) (by show 256 * j.val + 256 ≤ 256 * t.val ∨ 256 * t.val + 256 ≤ 256 * j.val; omega)
end Chunks

/-! ## The schedule over the grid, decided -/

theorem hcondA : ∀ t : Fin cfg0.N, condA (grid0.coords t) ↔ t.val = 0 :=
  (by decide +kernel : ∀ t : Fin grid0.N, condA (grid0.coords t) ↔ t.val = 0)
theorem hcond2 : ∀ t : Fin cfg0.N, k0_cond2 (grid0.coords t) = 1#1 ↔ t.val < 11 :=
  (by decide +kernel : ∀ t : Fin grid0.N, k0_cond2 (grid0.coords t) = 1#1 ↔ t.val < 11)
theorem hcond3 : ∀ t : Fin cfg0.N, k0_cond3 (grid0.coords t) = 1#1 ↔ t.val = 10 :=
  (by decide +kernel : ∀ t : Fin grid0.N, k0_cond3 (grid0.coords t) = 1#1 ↔ t.val = 10)
theorem hcond4 : ∀ t : Fin cfg0.N, k0_cond4 (grid0.coords t) = 1#1 ↔ 11 ≤ t.val :=
  (by decide +kernel : ∀ t : Fin grid0.N, k0_cond4 (grid0.coords t) = 1#1 ↔ 11 ≤ t.val)
theorem hoff1 : ∀ t : Fin cfg0.N, t.val < 11 → k0_off1 (grid0.coords t) = ![0, 256 * t.val] :=
  (by decide +kernel : ∀ t : Fin grid0.N, t.val < 11 → k0_off1 (grid0.coords t) = ![0, 256 * t.val])
theorem hoff2 : ∀ t : Fin cfg0.N, t.val < 11 → k0_off2 (grid0.coords t) = ![0, 2816 + 256 * t.val] :=
  (by decide +kernel : ∀ t : Fin grid0.N, t.val < 11 → k0_off2 (grid0.coords t) = ![0, 2816 + 256 * t.val])
theorem hoff3 : ∀ t : Fin cfg0.N, t.val < 11 → k0_off3 (grid0.coords t) = ![256 * t.val, 0] :=
  (by decide +kernel : ∀ t : Fin grid0.N, t.val < 11 → k0_off3 (grid0.coords t) = ![256 * t.val, 0])
theorem hidle : ∀ t : Fin cfg0.N, t.val < 10 → cfg0.idle 5 (grid0.coords t) = true :=
  (by decide +kernel : ∀ t : Fin grid0.N, t.val < 10 → cfg0.idle 5 (grid0.coords t) = true)
theorem hlive : ∀ t : Fin cfg0.N, 10 ≤ t.val → cfg0.idle 5 (grid0.coords t) = false :=
  (by decide +kernel : ∀ t : Fin grid0.N, 10 ≤ t.val → cfg0.idle 5 (grid0.coords t) = false)
theorem hflush : ∀ t : Fin cfg0.N, (cfg0.win 5).flush t = true ↔ 10 ≤ t.val :=
  (by decide +kernel : ∀ t : Fin grid0.N, win0_5.flush t = true ↔ 10 ≤ t.val)

/-- The grid point numbered `n`. -/
def ptn (n : ℕ) : Fin cfg0.N := ⟨min n 25, by rw [show cfg0.N = 26 from N_0]; omega⟩
theorem ptn_val (t : Fin cfg0.N) : ptn t.val = t := Fin.ext (by
  have : t.val < 26 := lt_of_lt_of_eq t.isLt (show cfg0.N = 26 from N_0)
  show min t.val 25 = t.val; omega)

variable (m : (ℓ : Loc nD τ sig) → Buf (Elt F) ℓ) (ρ : Dev nD → PrngReg)

/-! ## What the points hold -/

/-- The first row tile, normalised. -/
def xn (c : Dev nD) : Vec F S1024x1024 .bf16 := k0_pay1 (iblk m c 0 (ptn 0)) (iblk m c 1 (ptn 0))
/-- The first row tile's accumulator after `n` prologue points. -/
def accP (c : Dev nD) : ℕ → Vec F S1024x1024 .f32
  | 0 => k0_pay2
  | n + 1 => k0_pay3 (k0_pay14 (iblk m c 2 (ptn n)) (iblk m c 3 (ptn n)) (iblk m c 4 (ptn n)) (accP c n) (xn m c))
/-- Chunk `j` of the gate weights, rounded, -/
def Gb (c : Dev nD) (j : Fin 11) : Vec F S1024x256 .bf16 := k0_pay11 (iblk m c 2 (ptn j.val))
/-- of the up weights, -/
def Ub (c : Dev nD) (j : Fin 11) : Vec F S1024x256 .bf16 := k0_pay12 (iblk m c 3 (ptn j.val))
/-- and of the output weights. -/
def Db (c : Dev nD) (j : Fin 11) : Vec F S256x1024 .bf16 := k0_pay13 (iblk m c 4 (ptn j.val))

/-- What the output's buffer holds after a point that writes it. -/
def outB (c : Dev nD) (t : Fin cfg0.N) : Vec F S1x1024x1024 .f32 :=
  if t.val = 10 then k0_pay4 (iblk m c 0 t) (accP m c 11)
  else k0_pay7 (iblk m c 0 t) (accTile (iblk m c 0 t) (iblk m c 1 t) (Gb m c) (Ub m c) (Db m c))

/-- Before point `n` (not the first): the chunks brought in so far are in place, and during the prologue the normalised
    tile and the accumulator are the first tile's. -/
structure Inv (c : Dev nD) (n : ℕ) (w7 : Vec F S1024x5632 .bf16) (w8 : Vec F S2816x1024 .bf16) (a9 : Vec F S1024x1024 .f32) (n10 : Vec F S1024x1024 .bf16) : Prop where
  chunks : ∀ j : Fin 11, j.val < n → gateOf w7 j = Gb m c j ∧ upOf w7 j = Ub m c j ∧ downOf w8 j = Db m c j
  acc : n ≤ 11 → a9 = accP m c n
  norm : n ≤ 11 → n10 = xn m c

/-- A prologue point adds its own chunk. -/
theorem chunks_step (c : Dev nD) (t : Fin cfg0.N) (ht : t.val < 11) (w7 : Vec F S1024x5632 .bf16) (w8 : Vec F S2816x1024 .bf16)
    (h : ∀ j : Fin 11, j.val < t.val → gateOf w7 j = Gb m c j ∧ upOf w7 j = Ub m c j ∧ downOf w8 j = Db m c j) :
    ∀ j : Fin 11, j.val < t.val + 1 →
      gateOf (put (put w7 (k0_off1 (grid0.coords t)) S1024x256.size (k0_pay11 (iblk m c 2 t))) (k0_off2 (grid0.coords t)) S1024x256.size (k0_pay12 (iblk m c 3 t))) j = Gb m c j
      ∧ upOf (put (put w7 (k0_off1 (grid0.coords t)) S1024x256.size (k0_pay11 (iblk m c 2 t))) (k0_off2 (grid0.coords t)) S1024x256.size (k0_pay12 (iblk m c 3 t))) j = Ub m c j
      ∧ downOf (put w8 (k0_off3 (grid0.coords t)) S256x1024.size (k0_pay13 (iblk m c 4 t))) j = Db m c j := by
  intro j hj
  rw [hoff1 t ht, hoff2 t ht, hoff3 t ht]
  have hg := gate_put w7 ⟨t.val, ht⟩ j (k0_pay11 (iblk m c 2 t)) (k0_pay12 (iblk m c 3 t))
  have hu := up_put w7 ⟨t.val, ht⟩ j (k0_pay11 (iblk m c 2 t)) (k0_pay12 (iblk m c 3 t))
  have hd := down_put w8 ⟨t.val, ht⟩ j (k0_pay13 (iblk m c 4 t))
  refine ⟨hg.trans ?_, hu.trans ?_, hd.trans ?_⟩
  all_goals
    by_cases e : j = ⟨t.val, ht⟩
    · rw [if_pos e]; subst e
      first | (unfold Gb; rw [ptn_val]) | (unfold Ub; rw [ptn_val]) | (unfold Db; rw [ptn_val])
    · rw [if_neg e]
      have hlt : j.val < t.val := by
        have : j.val ≠ t.val := fun h => e (Fin.ext h)
        omega
      first | exact (h j hlt).1 | exact (h j hlt).2.1 | exact (h j hlt).2.2

theorem accP_succ (c : Dev nD) (t : Fin cfg0.N) :
    k0_pay3 (k0_pay14 (iblk m c 2 t) (iblk m c 3 t) (iblk m c 4 t) (accP m c t.val) (xn m c)) = accP m c (t.val + 1) := by
  rw [accP, ptn_val]

/-! ## The invariant between points -/

abbrev sc0 : Memref sig .tc .vmem S1024x5632 .bf16 := Memref.whole cc0_scratch0
abbrev sc1 : Memref sig .tc .vmem S2816x1024 .bf16 := Memref.whole cc0_scratch1
abbrev sc2 : Memref sig .tc .vmem S1024x1024 .f32 := Memref.whole cc0_scratch2
abbrev sc3 : Memref sig .tc .vmem S1024x1024 .bf16 := Memref.whole cc0_scratch3

/-- The region's four scratch buffers at anything. -/
theorem PhiA0_eq (c : Dev nD) :
    (Pipeline.ΦA spec0 c : sProp 𝕄)
      = iprop(iprop((∃ d, owns c.tc sc0 fullShare d) ∗ (∃ d, owns c.tc sc1 fullShare d)
          ∗ (∃ d, owns c.tc sc2 fullShare d) ∗ (∃ d, owns c.tc sc3 fullShare d)) ∗ (∃ r, prngReg c r)) := by
  unfold Pipeline.ΦA; rw [scopedRest0_eq]; simp only [sc0, sc1, sc2, sc3, owns_whole]; try rfl

/-- The four scratch buffers at contents the invariant admits. -/
def PhiI (c : Dev nD) (n : ℕ) : sProp 𝕄 :=
  iprop(∃ w7 : Vec F S1024x5632 .bf16, ∃ w8 : Vec F S2816x1024 .bf16, ∃ a9 : Vec F S1024x1024 .f32, ∃ n10 : Vec F S1024x1024 .bf16,
    ⌜Inv m c n w7 w8 a9 n10⌝ ∗ owns c.tc sc0 fullShare w7 ∗ owns c.tc sc1 fullShare w8
      ∗ owns c.tc sc2 fullShare a9 ∗ owns c.tc sc3 fullShare n10 ∗ (∃ r, prngReg c r))

/-- Before the first point anything; afterwards what the points so far have left. -/
def PhiS (c : Dev nD) : (n : ℕ) → n ≤ cfg0.N → sProp 𝕄
  | 0, _ => Pipeline.ΦA spec0 c
  | n + 1, _ => PhiI m c (n + 1)

theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) : PhiS m c n h = PhiI m c n := by
  cases n with
  | zero => exact absurd rfl hz
  | succ n => rfl

/-- The pipeline's proof data: every input's buffer holds its block, the output's what the point wrote. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outB m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outB m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-! ## The body at every point -/

abbrev ms0 (t : Fin cfg0.N) : Memref sig .tc .vmem S1024x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1x1024x256 .f32 := win0_2.stage (cfg0.slots t 2)
abbrev ms3 (t : Fin cfg0.N) : Memref sig .tc .vmem S1x1024x256 .f32 := win0_3.stage (cfg0.slots t 3)
abbrev ms4 (t : Fin cfg0.N) : Memref sig .tc .vmem S1x256x1024 .f32 := win0_4.stage (cfg0.slots t 4)
abbrev ms5 (t : Fin cfg0.N) : Memref sig .tc .vmem S1x1024x1024 .f32 := win0_5.stage (cfg0.slots t 5)

/-- What the body is called with at point `t`, -/
def bodyPre (c : Dev nD) (t : Fin cfg0.N) : sProp 𝕄 :=
  iprop((dats m 0 c).Φ t.castSucc ∗ (dats m 0 c).owesAt () t.castSucc
    ∗ (∃ d, owns c.tc (ms0 t) fullShare ((dats m 0 c).before 0 t d))
    ∗ (∃ d, owns c.tc (ms1 t) fullShare ((dats m 0 c).before 1 t d))
    ∗ (∃ d, owns c.tc (ms2 t) fullShare ((dats m 0 c).before 2 t d))
    ∗ (∃ d, owns c.tc (ms3 t) fullShare ((dats m 0 c).before 3 t d))
    ∗ (∃ d, owns c.tc (ms4 t) fullShare ((dats m 0 c).before 4 t d))
    ∗ (∃ d, owns c.tc (ms5 t) fullShare ((dats m 0 c).before 5 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- What an input window leaves: its block again. -/
theorem leaves_in (c : Dev nD) (t : Fin cfg0.N) :
    (dats m 0 c).leavesExact 0 t = owns c.tc (ms0 t) fullShare (iblk m c 0 t)
    ∧ (dats m 0 c).leavesExact 1 t = owns c.tc (ms1 t) fullShare (iblk m c 1 t)
    ∧ (dats m 0 c).leavesExact 2 t = owns c.tc (ms2 t) fullShare (iblk m c 2 t)
    ∧ (dats m 0 c).leavesExact 3 t = owns c.tc (ms3 t) fullShare (iblk m c 3 t)
    ∧ (dats m 0 c).leavesExact 4 t = owns c.tc (ms4 t) fullShare (iblk m c 4 t) := by
  refine ⟨?_, ?_, ?_, ?_, ?_⟩
  · unfold Dat.leavesExact; rw [show cfg0.idle 0 (cfg0.grid.coords t) = false from rfl, after0_0]
  · unfold Dat.leavesExact; rw [show cfg0.idle 1 (cfg0.grid.coords t) = false from rfl, after0_1]
  · unfold Dat.leavesExact; rw [show cfg0.idle 2 (cfg0.grid.coords t) = false from rfl, after0_2]
  · unfold Dat.leavesExact; rw [show cfg0.idle 3 (cfg0.grid.coords t) = false from rfl, after0_3]
  · unfold Dat.leavesExact; rw [show cfg0.idle 4 (cfg0.grid.coords t) = false from rfl, after0_4]
/-- The output window during the prologue: untouched; -/
theorem leaves_idle (c : Dev nD) (t : Fin cfg0.N) (h : t.val < 10) :
    (dats m 0 c).leavesExact 5 t = iprop(∃ d, owns c.tc (ms5 t) fullShare ((dats m 0 c).before 5 t d)) :=
  Dat.leavesExact_idle _ 5 t (hidle t h) (Bool.eq_false_iff.2 fun e => by have := (hflush t).1 e; omega)
/-- afterwards: the tile written. -/
theorem leaves_live (c : Dev nD) (t : Fin cfg0.N) (h : 10 ≤ t.val) :
    (dats m 0 c).leavesExact 5 t = owns c.tc (ms5 t) fullShare (outB m c t) := by
  unfold Dat.leavesExact; rw [show cfg0.idle 5 (cfg0.grid.coords t) = false from hlive t h, after0_5]

/-- After the first point the invariant holds. -/
theorem inv_first (c : Dev nD) (t : Fin cfg0.N) (hz : t.val = 0) (w7 : Vec F S1024x5632 .bf16) (w8 : Vec F S2816x1024 .bf16) :
    Inv m c (t.val + 1)
      (put (put w7 (k0_off1 (grid0.coords t)) S1024x256.size (k0_pay11 (iblk m c 2 t))) (k0_off2 (grid0.coords t)) S1024x256.size (k0_pay12 (iblk m c 3 t)))
      (put w8 (k0_off3 (grid0.coords t)) S256x1024.size (k0_pay13 (iblk m c 4 t)))
      (k0_pay3 (k0_pay14 (iblk m c 2 t) (iblk m c 3 t) (iblk m c 4 t) k0_pay2 (k0_pay1 (iblk m c 0 t) (iblk m c 1 t))))
      (k0_pay1 (iblk m c 0 t) (iblk m c 1 t)) := by
  have e : ptn 0 = t := by rw [← hz]; exact ptn_val t
  have en : (k0_pay1 (iblk m c 0 t) (iblk m c 1 t) : Vec F S1024x1024 .bf16) = xn m c := by rw [xn, e]
  refine ⟨chunks_step m c t (by omega) w7 w8 fun j hj => absurd hj (by omega), fun _ => ?_, fun _ => en⟩
  rw [en, ← accP_succ, hz]; rfl

set_option maxHeartbeats 2000000 in
/-- The first point; -/
theorem soundA (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  obtain ⟨e0, e1, e2, e3, e4⟩ := leaves_in m c t
  rw [e0, e1, e2, e3, e4]
  have hN : t.val < 26 := lt_of_lt_of_eq t.isLt (show cfg0.N = 26 from N_0)
  rw [leaves_idle m c t (by omega), PhiS_castSucc m c t, PhiS_zero m c _ _ hz, PhiA0_eq]
  iintro ⟨⟨⟨⟨%w7, S0⟩, ⟨%w8, S1⟩, ⟨%a9, S2⟩, ⟨%n10, S3⟩⟩, Hg⟩, Ho, ⟨%d0, H0⟩, ⟨%d1, H1⟩, ⟨%d2, H2⟩, ⟨%d3, H3⟩, ⟨%d4, H4⟩, ⟨%d5, H5⟩⟩
  iapply (runA c (grid0.coords t) _ _ _ _ _ _ _ _ _ _ _ _ _ _ _ _ _ _ _ _ (iblk m c 0 t) (iblk m c 1 t) (iblk m c 2 t) (iblk m c 3 t) (iblk m c 4 t) _ _ _ _ _ ((hcondA t).2 hz) ((hcond2 t).2 (by omega)) (fun h => by have := (hcond3 t).1 h; omega) (fun h => by have := (hcond4 t).1 h; omega) Set.univ _)
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  iintro ⟨H0, H1, H2, H3, H4, H5, S0, S1, S2, S3⟩
  isplitl [S0 S1 S2 S3 Hg]
  · try unfold PhiI
    iexists _; iexists _; iexists _; iexists _
    isplitr
    · ipureintro
      exact inv_first m c t hz w7 w8
    isplitl [S0]; · iexact S0
    isplitl [S1]; · iexact S1
    isplitl [S2]; · iexact S2
    isplitl [S3]; · iexact S3
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 2000000 in
/-- a later prologue point; -/
theorem soundB (c : Dev nD) (t : Fin cfg0.N) (hz : t.val ≠ 0) (hb : t.val < 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  obtain ⟨e0, e1, e2, e3, e4⟩ := leaves_in m c t
  rw [e0, e1, e2, e3, e4]
  have hN : t.val < 26 := lt_of_lt_of_eq t.isLt (show cfg0.N = 26 from N_0)
  rw [leaves_idle m c t (by omega)]
  rw [PhiS_castSucc m c t, PhiS_pos m c _ _ hz]
  unfold PhiI
  iintro ⟨HP, Ho, ⟨%d0, H0⟩, ⟨%d1, H1⟩, ⟨%d2, H2⟩, ⟨%d3, H3⟩, ⟨%d4, H4⟩, ⟨%d5, H5⟩⟩
  icases HP with ⟨%w7, %w8, %a9, %n10, %hi, S0, S1, S2, S3, Hg⟩
  iapply (runB c (grid0.coords t) _ _ _ _ _ _ _ _ _ _ _ _ _ _ _ _ _ _ _ _ (iblk m c 0 t) (iblk m c 1 t) (iblk m c 2 t) (iblk m c 3 t) (iblk m c 4 t) _ _ _ _ _ (fun h => hz ((hcondA t).1 h)) ((hcond2 t).2 (by omega)) (fun h => by have := (hcond3 t).1 h; omega) (fun h => by have := (hcond4 t).1 h; omega) Set.univ _)
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  iintro ⟨H0, H1, H2, H3, H4, H5, S0, S1, S2, S3⟩
  isplitl [S0 S1 S2 S3 Hg]
  · try unfold PhiI
    iexists (put (put w7 (k0_off1 (grid0.coords t)) S1024x256.size (k0_pay11 (iblk m c 2 t))) (k0_off2 (grid0.coords t)) S1024x256.size (k0_pay12 (iblk m c 3 t))); iexists (put w8 (k0_off3 (grid0.coords t)) S256x1024.size (k0_pay13 (iblk m c 4 t))); iexists (k0_pay3 (k0_pay14 (iblk m c 2 t) (iblk m c 3 t) (iblk m c 4 t) a9 n10)); iexists n10
    isplitr
    · ipureintro
      exact ⟨chunks_step m c t (by omega) w7 w8 hi.chunks, fun _ => by rw [hi.acc (by omega), hi.norm (by omega)]; exact accP_succ m c t, fun _ => hi.norm (by omega)⟩
    isplitl [S0]; · iexact S0
    isplitl [S1]; · iexact S1
    isplitl [S2]; · iexact S2
    isplitl [S3]; · iexact S3
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 2000000 in
/-- the last prologue point; -/
theorem soundC (c : Dev nD) (t : Fin cfg0.N) (hz : t.val ≠ 0) (hb : t.val = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  obtain ⟨e0, e1, e2, e3, e4⟩ := leaves_in m c t
  rw [e0, e1, e2, e3, e4]
  have hN : t.val < 26 := lt_of_lt_of_eq t.isLt (show cfg0.N = 26 from N_0)
  rw [leaves_live m c t (by omega)]
  rw [PhiS_castSucc m c t, PhiS_pos m c _ _ hz]
  unfold PhiI
  iintro ⟨HP, Ho, ⟨%d0, H0⟩, ⟨%d1, H1⟩, ⟨%d2, H2⟩, ⟨%d3, H3⟩, ⟨%d4, H4⟩, ⟨%d5, H5⟩⟩
  icases HP with ⟨%w7, %w8, %a9, %n10, %hi, S0, S1, S2, S3, Hg⟩
  rw [show outB m c t = k0_pay4 (iblk m c 0 t) (k0_pay3 (k0_pay14 (iblk m c 2 t) (iblk m c 3 t) (iblk m c 4 t) a9 n10)) from by
    rw [outB, if_pos hb, hi.acc (by omega), hi.norm (by omega), accP_succ, hb]]
  iapply (runC c (grid0.coords t) _ _ _ _ _ _ _ _ _ _ _ _ _ _ _ _ _ _ _ _ (iblk m c 0 t) (iblk m c 1 t) (iblk m c 2 t) (iblk m c 3 t) (iblk m c 4 t) _ _ _ _ _ (fun h => hz ((hcondA t).1 h)) ((hcond2 t).2 (by omega)) ((hcond3 t).2 hb) (fun h => by have := (hcond4 t).1 h; omega) Set.univ _)
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  iintro ⟨H0, H1, H2, H3, H4, H5, S0, S1, S2, S3⟩
  isplitl [S0 S1 S2 S3 Hg]
  · try unfold PhiI
    iexists (put (put w7 (k0_off1 (grid0.coords t)) S1024x256.size (k0_pay11 (iblk m c 2 t))) (k0_off2 (grid0.coords t)) S1024x256.size (k0_pay12 (iblk m c 3 t))); iexists (put w8 (k0_off3 (grid0.coords t)) S256x1024.size (k0_pay13 (iblk m c 4 t))); iexists (k0_pay3 (k0_pay14 (iblk m c 2 t) (iblk m c 3 t) (iblk m c 4 t) a9 n10)); iexists n10
    isplitr
    · ipureintro
      exact ⟨chunks_step m c t (by omega) w7 w8 hi.chunks, fun _ => by rw [hi.acc (by omega), hi.norm (by omega)]; exact accP_succ m c t, fun _ => hi.norm (by omega)⟩
    isplitl [S0]; · iexact S0
    isplitl [S1]; · iexact S1
    isplitl [S2]; · iexact S2
    isplitl [S3]; · iexact S3
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 2000000 in
/-- and a point after the prologue. -/
theorem soundD (c : Dev nD) (t : Fin cfg0.N) (hz : t.val ≠ 0) (hb : 11 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  obtain ⟨e0, e1, e2, e3, e4⟩ := leaves_in m c t
  rw [e0, e1, e2, e3, e4]
  have hN : t.val < 26 := lt_of_lt_of_eq t.isLt (show cfg0.N = 26 from N_0)
  rw [leaves_live m c t (by omega)]
  rw [PhiS_castSucc m c t, PhiS_pos m c _ _ hz]
  unfold PhiI
  iintro ⟨HP, Ho, ⟨%d0, H0⟩, ⟨%d1, H1⟩, ⟨%d2, H2⟩, ⟨%d3, H3⟩, ⟨%d4, H4⟩, ⟨%d5, H5⟩⟩
  icases HP with ⟨%w7, %w8, %a9, %n10, %hi, S0, S1, S2, S3, Hg⟩
  rw [show outB m c t = k0_pay7 (iblk m c 0 t) (accTile (iblk m c 0 t) (iblk m c 1 t) (gateOf w7) (upOf w7) (downOf w8)) from by
    rw [outB, if_neg (by omega), show gateOf w7 = Gb m c from funext fun j => (hi.chunks j (by omega)).1, show upOf w7 = Ub m c from funext fun j => (hi.chunks j (by omega)).2.1,
      show downOf w8 = Db m c from funext fun j => (hi.chunks j (by omega)).2.2]]
  iapply (runD c (grid0.coords t) _ _ _ _ _ _ _ _ _ _ _ _ _ _ _ _ _ _ _ _ (iblk m c 0 t) (iblk m c 1 t) (iblk m c 2 t) (iblk m c 3 t) (iblk m c 4 t) _ _ _ _ _ (fun h => hz ((hcondA t).1 h)) (fun h => by have := (hcond2 t).1 h; omega) (fun h => by have := (hcond3 t).1 h; omega) ((hcond4 t).2 hb) Set.univ _)
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  iintro ⟨H0, H1, H2, H3, H4, H5, S0, S1, S2, S3⟩
  isplitl [S0 S1 S2 S3 Hg]
  · try unfold PhiI
    iexists w7; iexists w8; iexists (accTile (iblk m c 0 t) (iblk m c 1 t) (gateOf w7) (upOf w7) (downOf w8)); iexists n10
    isplitr
    · ipureintro
      exact ⟨fun j _ => hi.chunks j (by omega), fun h => absurd h (by omega), fun h => absurd h (by omega)⟩
    isplitl [S0]; · iexact S0
    isplitl [S1]; · iexact S1
    isplitl [S2]; · iexact S2
    isplitl [S3]; · iexact S3
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact soundA m c t hz
  by_cases hb : t.val < 10
  · exact soundB m c t hz hb
  by_cases hc : t.val = 10
  · exact soundC m c t hz hc
  exact soundD m c t hz (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hne : (Fin.last cfg0.N).val ≠ 0 := by rw [Fin.val_last]; have : cfg0.N = 26 := N_0; omega
  rw [show (dats m 0 c).Φ (Fin.last cfg0.N) = PhiS m c (Fin.last cfg0.N).val (Nat.le_of_lt_succ (Fin.last cfg0.N).isLt) from rfl, PhiS_pos m c _ _ hne, PhiA0_eq]
  unfold PhiI
  iintro ⟨%w7, %w8, %a9, %n10, %hi, S0, S1, S2, S3, Hg⟩
  isplitl [S0 S1 S2 S3]
  · isplitl [S0]; · iexists _; iexact S0
    isplitl [S1]; · iexists _; iexact S1
    isplitl [S2]; · iexists _; iexact S2
    iexists _; iexact S3
  iexact Hg

/-! ## The launch -/

set_option backward.isDefEq.respectTransparency.types false in
/-- Every execution ends, with every array at what the points left in it and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.FfnLastIdeal.Hand

end
-- ==== Proof.FfnVal.lean ====
module

public import proofs.«01_k».proof.Proof.FfnRun
public import Idealize.ShloMosaic.Lib.Pipeline.ValueKit
public import Idealize.ShloMosaic.Lib.MatmulPlain
public import Idealize.ShloMosaic.Lib.ValueIdx
public import Idealize.ShloMosaic.Lib.ValueLayout
public import Idealize.ShloMosaic.Lib.ValueLayoutCasts

@[expose] public section

set_option maxRecDepth 16384

noncomputable section

namespace Cert.FfnLastIdeal.Hand

open Idealize.ShloMosaic hiding ix1 ix2 ix3 truncf_apply
open Idealize.ShloMosaic.ValueIdx
open Cert.FfnLastIdeal.Gen

/-! # The feed-forward block at the ideal values, element by element

`tokenOut` is the block for one token in plain mathematics. The lemmas below read the kernel's tiles at an element and find
it there: the hidden axis arrives in eleven chunks of 256, which sum to the whole. -/

/-- A token's row over its root mean square, times the gain. -/
def nrm (X γ : Fin 1024 → EReal) (l : Fin 1024) : EReal :=
  X l * Ideal.rsqrt (Ideal.div (∑ k : Fin 1024, X k * X k) (Ideal.ofBits .f32 0x44800000#32) + Ideal.ofBits .f32 0x358637BD#32) * γ l
/-- The gated product of one hidden unit. -/
def glu (g u : EReal) : EReal := g * Ideal.logistic g * u
/-- One output element of a token: the row itself plus half the feed-forward. -/
def tokenOut (X γ : Fin 1024 → EReal) (Wg Wu : Fin 1024 → Fin 2816 → EReal) (Wo : Fin 2816 → Fin 1024 → EReal) (c : Fin 1024) : EReal :=
  X c + Ideal.ofBits .f32 0x3F000000#32 *
    ∑ k : Fin 2816, glu (∑ l, nrm X γ l * Wg l k) (∑ l, nrm X γ l * Wu l k) * Wo k c

/-! ## The products -/

/-- A product into the hidden units, at an element. -/
theorem mulIn_apply (n : FVec Ideal S1024x1024 .bf16) (G : FVec Ideal S1024x256 .bf16) (r : Fin 1024) (k : Fin 256) :
    matmul dot_S1024x1024_S1024x256_S1024x256_1_0_0_1_n_n none n G (constant S1024x256 .f32 0x00000000#32) (ix2 r k) = ∑ l : Fin 1024, n (ix2 r l) * G (ix2 l k) := by
  rw [show dot_S1024x1024_S1024x256_S1024x256_1_0_0_1_n_n = DotDims.plain 1024 1024 256 from rfl]
  refine (Ideal.matmul_plain_apply none n G _ r k).trans ?_
  rw [constant_apply, Ideal.ofBits_zero_f32, zero_add]
/-- A product out of a chunk of hidden units, at an element. -/
theorem mulOut_apply (h : FVec Ideal S1024x256 .bf16) (D : FVec Ideal S256x1024 .bf16) (r c : Fin 1024) :
    matmul dot_S1024x256_S256x1024_S1024x1024_1_0_0_1_n_n none h D (constant S1024x1024 .f32 0x00000000#32) (ix2 r c) = ∑ k : Fin 256, h (ix2 r k) * D (ix2 k c) := by
  rw [show dot_S1024x256_S256x1024_S1024x1024_1_0_0_1_n_n = DotDims.plain 1024 256 1024 from rfl]
  refine (Ideal.matmul_plain_apply none h D _ r c).trans ?_
  rw [constant_apply, Ideal.ofBits_zero_f32, zero_add]

/-- What one chunk of hidden units adds to an output element. -/
def chunkAt (n : FVec Ideal S1024x1024 .bf16) (G U : FVec Ideal S1024x256 .bf16) (D : FVec Ideal S256x1024 .bf16) (r c : Fin 1024) : EReal :=
  ∑ k : Fin 256, glu (∑ l, n (ix2 r l) * G (ix2 l k)) (∑ l, n (ix2 r l) * U (ix2 l k)) * D (ix2 k c)

/-- The chunk as the kernel computes it. -/
abbrev chunkVec (n : FVec Ideal S1024x1024 .bf16) (G U : FVec Ideal S1024x256 .bf16) (D : FVec Ideal S256x1024 .bf16) : FVec Ideal S1024x1024 .f32 :=
  let g := matmul dot_S1024x1024_S1024x256_S1024x256_1_0_0_1_n_n none n G (constant S1024x256 .f32 0x00000000#32)
  let u := matmul dot_S1024x1024_S1024x256_S1024x256_1_0_0_1_n_n none n U (constant S1024x256 .f32 0x00000000#32)
  matmul dot_S1024x256_S256x1024_S1024x1024_1_0_0_1_n_n none (truncf .bf16 (mulf (mulf g (logistic g)) u) bitsLt_bf16_f32) D (constant S1024x1024 .f32 0x00000000#32)

theorem chunkVec_apply (n : FVec Ideal S1024x1024 .bf16) (G U : FVec Ideal S1024x256 .bf16) (D : FVec Ideal S256x1024 .bf16) (r c : Fin 1024) :
    chunkVec n G U D (ix2 r c) = chunkAt n G U D r c := by
  refine (mulOut_apply _ D r c).trans ?_
  refine Finset.sum_congr rfl fun k _ => congrArg (· * D (ix2 k c)) ?_
  unfold glu
  rw [← mulIn_apply n G r k, ← mulIn_apply n U r k]
  rfl

/-! ## The accumulated chunks -/

section Tile
variable (x : Vec Ideal S1024x1024 .f32) (g : Vec Ideal S1x1024 .f32) (n : FVec Ideal S1024x1024 .bf16)
  (G U : Fin 11 → Vec Ideal S1024x256 .bf16) (D : Fin 11 → Vec Ideal S256x1024 .bf16)

theorem accTile_eq : accTile x g G U D =
    (fun ch : Fin 11 → FVec Ideal S1024x1024 .f32 => addf (addf (addf (addf (addf (addf (addf (addf (addf (addf (ch 0) (ch 1)) (ch 2)) (ch 3)) (ch 4)) (ch 5)) (ch 6)) (ch 7)) (ch 8)) (ch 9)) (ch 10))
      (fun j => chunkVec (k0_pay15 x g) (G j) (U j) (D j)) := by
  simp only [accTile, k0_pay5, k0_pay6, k0_pay16, k0_pay17, k0_pay18, k0_pay19, k0_pay20, k0_pay21, k0_pay22, k0_pay23, k0_pay24, k0_pay25, k0_pay26, k0_pay27, k0_pay28, k0_pay29, k0_pay30, k0_pay31, shapeCast_self]

/-- A row tile's accumulator is the sum of its eleven chunks. -/
theorem accTile_apply (r c : Fin 1024) : accTile x g G U D (ix2 r c) = ∑ j : Fin 11, chunkAt (k0_pay15 x g) (G j) (U j) (D j) r c := by
  rw [accTile_eq]
  simp only [addf_apply, chunkVec_apply]
  simp only [Fin.sum_univ_castSucc, Finset.univ_eq_empty, Finset.sum_empty, zero_add]
  rfl

/-- One prologue point adds its chunk. -/
theorem pay14_apply (v14 v17 : Vec Ideal S1x1024x256 .f32) (v20 : Vec Ideal S1x256x1024 .f32) (acc : Vec Ideal S1024x1024 .f32) (r c : Fin 1024) :
    k0_pay3 (k0_pay14 v14 v17 v20 acc n) (ix2 r c) = acc (ix2 r c) + chunkAt n (k0_pay11 v14) (k0_pay12 v17) (k0_pay13 v20) r c := by
  rw [← chunkVec_apply]
  simp only [k0_pay3, k0_pay14, k0_pay11, k0_pay12, k0_pay13, shapeCast_self, addf_apply]

theorem pay2_apply (i : S1024x1024.Idx) : (k0_pay2 : FVec Ideal S1024x1024 .f32) i = 0 := by
  simp only [k0_pay2, shapeCast_self]
  exact Ideal.ofBits_zero_f32

/-- The chunks of a token, summed, are the whole hidden axis. -/
theorem sum_chunks (Wg Wu : Fin 1024 → Fin 2816 → EReal) (Wo : Fin 2816 → Fin 1024 → EReal) (X γ : Fin 1024 → EReal) (r c : Fin 1024)
    (hn : ∀ l, n (ix2 r l) = nrm X γ l)
    (hG : ∀ (j : Fin 11) (l : Fin 1024) (k : Fin 256) (h : j.val * 256 + k.val < 2816), G j (ix2 l k) = Wg l ⟨j.val * 256 + k.val, h⟩)
    (hU : ∀ (j : Fin 11) (l : Fin 1024) (k : Fin 256) (h : j.val * 256 + k.val < 2816), U j (ix2 l k) = Wu l ⟨j.val * 256 + k.val, h⟩)
    (hD : ∀ (j : Fin 11) (k : Fin 256) (h : j.val * 256 + k.val < 2816), D j (ix2 k c) = Wo ⟨j.val * 256 + k.val, h⟩ c) :
    ∑ j : Fin 11, chunkAt n (G j) (U j) (D j) r c
      = ∑ k : Fin 2816, glu (∑ l, nrm X γ l * Wg l k) (∑ l, nrm X γ l * Wu l k) * Wo k c := by
  unfold chunkAt
  refine Fin.sum_mul_add_congr fun j k h => ?_
  rw [hD j k h]
  simp only [hn, hG j _ k h, hU j _ k h]

/-! ## The normalised tile -/

theorem pay15_apply (r l : Fin 1024) : k0_pay15 x g (ix2 r l) = nrm (fun k => x (ix2 r k)) (fun k => g (ix2 0 k)) l := by
  simp only [k0_pay15, shapeCast_self]
  rw [truncf_apply, mulf_apply, mulf_apply]
  unfold nrm
  rw [broadcastTo_1b_ab_apply]
  rw [broadcastTo_apply _ _ _ (ix2 r (0 : Fin 1)) (by intro a; match a with | ⟨0, _⟩ => rfl | ⟨1, _⟩ => rfl)]
  refine congrArg (fun z => x (ix2 r l) * Ideal.rsqrt (Ideal.div z _ + _) * g (ix2 0 l)) ?_
  rw [shapeCast_a_a1_apply]
  refine (Ideal.multiReduction_add_single _ _ _ _ _ _).trans ?_
  refine Finset.sum_congr rfl fun k _ => ?_
  rw [show reduces_S1024x1024_S1024.lift (ix1 r) k = ix2 r k from funext fun a => Fin.ext (by match a with | ⟨0, _⟩ => rfl | ⟨1, _⟩ => rfl)]
  rfl

theorem pay1_eq : k0_pay1 x g = k0_pay15 x g := by
  simp only [k0_pay1, k0_pay15, shapeCast_self]

/-! ## The tile's output -/

theorem pay7_apply (a : Vec Ideal S1024x1024 .f32) (r c : Fin 1024) :
    k0_pay7 x a (ix3 0 r c) = x (ix2 r c) + Ideal.ofBits .f32 0x3F000000#32 * a (ix2 r c) := by
  simp only [k0_pay7]
  rw [shapeCast_ab_1ab_apply]
  rfl

theorem pay4_apply (a : Vec Ideal S1024x1024 .f32) (r c : Fin 1024) :
    k0_pay4 x a (ix3 0 r c) = x (ix2 r c) + Ideal.ofBits .f32 0x3F000000#32 * a (ix2 r c) := by
  simp only [k0_pay4]
  rw [shapeCast_ab_1ab_apply]
  rfl

/-! ## The rounded weight chunks -/

theorem pay11_apply (v : Vec Ideal S1x1024x256 .f32) (l : Fin 1024) (k : Fin 256) : k0_pay11 v (ix2 l k) = v (ix3 0 l k) := by
  simp only [k0_pay11, k0_pay8, shapeCast_self]
  rw [truncf_apply, shapeCast_1ab_ab_apply]
theorem pay12_apply (v : Vec Ideal S1x1024x256 .f32) (l : Fin 1024) (k : Fin 256) : k0_pay12 v (ix2 l k) = v (ix3 0 l k) := by
  simp only [k0_pay12, k0_pay9, shapeCast_self]
  rw [truncf_apply, shapeCast_1ab_ab_apply]
theorem pay13_apply (v : Vec Ideal S1x256x1024 .f32) (k : Fin 256) (c : Fin 1024) : k0_pay13 v (ix2 k c) = v (ix3 0 k c) := by
  simp only [k0_pay13, k0_pay10, shapeCast_self]
  rw [truncf_apply, shapeCast_1ab_ab_apply]
end Tile

end Cert.FfnLastIdeal.Hand

end
-- ==== Proof.FfnRef.lean ====
module

public import proofs.«01_k».proof.Proof.Gen.FfnLastRefIdeal.Run
public import proofs.«01_k».proof.Proof.Gen.FfnLastRefIdeal.Read
public import proofs.«01_k».proof.Proof.FfnVal

@[expose] public section

set_option maxRecDepth 16384

noncomputable section

namespace Cert.FfnLastRefIdeal.Hand

open Idealize.ShloMosaic hiding ix1 ix2 ix3 truncf_apply
open Idealize.ShloMosaic.ValueIdx
open Cert.FfnLastRefIdeal Cert.FfnLastRefIdeal.Read
open Cert.FfnLastIdeal.Hand (nrm glu tokenOut)

/-! # The reference, element by element

The reference's chain of host operations, read at an element: it is `tokenOut` of the token's row. -/

variable (x0 : (⟨S16896x1024, .f32⟩ : BufTy).Contents (Elt Ideal)) (x1 : (⟨S2x1024, .f32⟩ : BufTy).Contents (Elt Ideal))
  (x2 : (⟨S2x1024x5632, .f32⟩ : BufTy).Contents (Elt Ideal)) (x3 : (⟨S2x2816x1024, .f32⟩ : BufTy).Contents (Elt Ideal))

/-- Token `n`'s row; -/
def row (n : ℕ) (h : n < 16896) (l : Fin 1024) : EReal := x0 (ix2 ⟨n, h⟩ l)
/-- the last layer's gain, -/
def gain (l : Fin 1024) : EReal := x1 (ix2 1 l)
/-- its input weights, gate half -/
def wGate (l : Fin 1024) (k : Fin 2816) : EReal := x2 (ix3 1 l ⟨k.val, by omega⟩)
/-- and up half, -/
def wUp (l : Fin 1024) (k : Fin 2816) : EReal := x2 (ix3 1 l ⟨2816 + k.val, by omega⟩)
/-- and its output weights. -/
def wDown (k : Fin 2816) (c : Fin 1024) : EReal := x3 (ix3 1 k c)

/-- Where token (b, p) lies among all the tokens. -/
theorem tok_lt (b p : ℕ) (hb : b < 4) (hp : p < 4224) : b * 4224 + p < 16896 := by omega

section At
variable (b : Fin 4) (p : Fin 4224)

theorem v0_at (l : Fin 1024) : val_main_v0 (F := Ideal) x0 (ix3 b p l) = row x0 (b.val * 4224 + p.val) (tok_lt _ _ b.isLt p.isLt) l := by
  rw [val_main_v0_apply]
  refine congrArg x0 (funext fun a => Fin.ext ?_)
  have := l.isLt
  match a with
  | ⟨0, _⟩ => show ((b.val * 4224 + p.val) * 1024 + l.val) / 1024 = b.val * 4224 + p.val; omega
  | ⟨1, _⟩ => show ((b.val * 4224 + p.val) * 1024 + l.val) % 1024 = l.val; omega

theorem v4_at : val_main_v4 (F := Ideal) x0 (ix2 b p) = ∑ k : Fin 1024, row x0 _ (tok_lt _ _ b.isLt p.isLt) k * row x0 _ (tok_lt _ _ b.isLt p.isLt) k := by
  rw [val_main_v4_apply, val_main_cst_apply]
  refine (congrArg (· + _) Ideal.ofBits_zero_f32).trans ((zero_add _).trans (Finset.sum_congr rfl fun k _ => ?_))
  rw [show idx_main_v4 (ix2 b p) k = ix3 b p k from funext fun a => by match a with | ⟨0, _⟩ => rfl | ⟨1, _⟩ => rfl | ⟨2, _⟩ => rfl, val_main_v3_apply, v0_at]
  rfl

theorem v10_at : val_main_v10 (F := Ideal) x0 (ix3 b p 0) = Ideal.rsqrt (Ideal.div (∑ k : Fin 1024, row x0 _ (tok_lt _ _ b.isLt p.isLt) k * row x0 _ (tok_lt _ _ b.isLt p.isLt) k) (Ideal.ofBits .f32 0x44800000#32) + Ideal.ofBits .f32 0x358637BD#32) := by
  rw [val_main_v10_apply, val_main_v9_apply, val_main_v7_apply, val_main_v5_apply, val_main_v6_apply, val_main_v8_apply, val_main_cst_0_apply, val_main_cst_1_apply,
    show idx_main_v5 (ix3 b p 0) = ix2 b p from funext fun a => by match a with | ⟨0, _⟩ => rfl | ⟨1, _⟩ => rfl, v4_at]
  rfl

theorem v14_at (l : Fin 1024) : val_main_v14 (F := Ideal) x1 (ix3 b p l) = gain x1 l := by
  rw [val_main_v14_apply, val_main_v13_apply, val_main_v2_apply, val_main_v1_apply]
  refine congrArg x1 (funext fun a => Fin.ext ?_)
  have := l.isLt
  match a with
  | ⟨0, _⟩ => rfl
  | ⟨1, _⟩ => show l.val % 1024 = l.val; omega

theorem v15_at (l : Fin 1024) : val_main_v15 (F := Ideal) x0 x1 (ix3 b p l) = nrm (row x0 _ (tok_lt _ _ b.isLt p.isLt)) (gain x1) l := by
  rw [val_main_v15_apply, val_main_v12_apply, val_main_v11_apply, v14_at, v0_at,
    show idx_main_v11 (ix3 b p l) = ix3 b p 0 from funext fun a => by match a with | ⟨0, _⟩ => rfl | ⟨1, _⟩ => rfl | ⟨2, _⟩ => rfl, v10_at]
  rfl

theorem v17_at (l : Fin 1024) (k : Fin 5632) : val_main_v17 (F := Ideal) x2 (ix2 l k) = x2 (ix3 1 l k) := by
  rw [val_main_v17_apply, val_main_v16_apply]
  refine congrArg x2 (funext fun a => Fin.ext ?_)
  have := l.isLt
  have := k.isLt
  match a with
  | ⟨0, _⟩ => rfl
  | ⟨1, _⟩ => show (l.val * 5632 + k.val) / 5632 % 1024 = l.val; omega
  | ⟨2, _⟩ => show (l.val * 5632 + k.val) % 5632 = k.val; omega

theorem v19_at (k : Fin 2816) (c : Fin 1024) : val_main_v19 (F := Ideal) x3 (ix2 k c) = wDown x3 k c := by
  rw [val_main_v19_apply, val_main_v18_apply]
  refine congrArg x3 (funext fun a => Fin.ext ?_)
  have := k.isLt
  have := c.isLt
  match a with
  | ⟨0, _⟩ => rfl
  | ⟨1, _⟩ => show (k.val * 1024 + c.val) / 1024 % 2816 = k.val; omega
  | ⟨2, _⟩ => show (k.val * 1024 + c.val) % 1024 = c.val; omega

theorem v20_at (k : Fin 5632) : val_main_v20 (F := Ideal) x0 x1 x2 (ix3 b p k)
    = ∑ l : Fin 1024, nrm (row x0 _ (tok_lt _ _ b.isLt p.isLt)) (gain x1) l * x2 (ix3 1 l k) := by
  rw [val_main_v20_apply]
  refine Finset.sum_congr rfl fun l _ => ?_
  rw [show lidx_main_v20 (ix3 b p k) l = ix3 b p l from funext fun a => by match a with | ⟨0, _⟩ => rfl | ⟨1, _⟩ => rfl | ⟨2, _⟩ => rfl,
    show ridx_main_v20 (ix3 b p k) l = ix2 l k from funext fun a => by match a with | ⟨0, _⟩ => rfl | ⟨1, _⟩ => rfl, v15_at, v17_at]

/-- The gate before its activation. -/
theorem v21_at (k : Fin 2816) : val_main_v21 (F := Ideal) x0 x1 x2 (ix3 b p k)
    = ∑ l : Fin 1024, nrm (row x0 _ (tok_lt _ _ b.isLt p.isLt)) (gain x1) l * wGate x2 l k := by
  rw [val_main_v21_apply, show idx_main_v21 (ix3 b p k) = ix3 b p ⟨k.val, by omega⟩ from funext fun a => by match a with | ⟨0, _⟩ => rfl | ⟨1, _⟩ => rfl | ⟨2, _⟩ => rfl, v20_at]
  rfl
theorem v22_at (k : Fin 2816) : val_main_v22 (F := Ideal) x0 x1 x2 (ix3 b p k)
    = ∑ l : Fin 1024, nrm (row x0 _ (tok_lt _ _ b.isLt p.isLt)) (gain x1) l * wUp x2 l k := by
  rw [val_main_v22_apply, show idx_main_v22 (ix3 b p k) = ix3 b p ⟨2816 + k.val, by omega⟩ from funext fun a => by match a with | ⟨0, _⟩ => rfl | ⟨1, _⟩ => rfl | ⟨2, _⟩ => rfl, v20_at]
  rfl

/-- The logistic function as the host spells it. -/
theorem host_logistic (z : EReal) : FloatOps.hostDivf (F := Ideal) (φ := .f32) (FloatOps.ofBits .f32 0x3F800000#32) (FloatOps.addf (FloatOps.ofBits .f32 0x3F800000#32) (FloatOps.hostUnary .exp (FloatOps.hostNegf z))) = Ideal.logistic z := by
  simp [Ideal.logistic, Ideal.ofBits_one_f32]

theorem v24_at (k : Fin 2816) : val_main_v24 (F := Ideal) x0 x1 x2 (ix3 b p k)
    = glu (∑ l, nrm (row x0 _ (tok_lt _ _ b.isLt p.isLt)) (gain x1) l * wGate x2 l k) (∑ l, nrm (row x0 _ (tok_lt _ _ b.isLt p.isLt)) (gain x1) l * wUp x2 l k) := by
  rw [val_main_v24_apply, val_main_v23_apply, val_main_call0_v5_apply, val_main_call0_v4_apply, val_main_call0_v3_apply, val_main_call0_v2_apply, val_main_call0_v1_apply, val_main_call0_v0_apply,
    val_main_call0_cst_apply, val_main_call0_cst_0_apply, host_logistic, v21_at, v22_at]
  rfl

theorem v28_at (c : Fin 1024) : val_main_v28 (F := Ideal) x0 x1 x2 x3 (ix3 b p c)
    = tokenOut (row x0 _ (tok_lt _ _ b.isLt p.isLt)) (gain x1) (wGate x2) (wUp x2) (wDown x3) c := by
  rw [val_main_v28_apply, val_main_v27_apply, val_main_v26_apply, val_main_cst_2_apply, val_main_v25_apply, v0_at]
  refine congrArg (fun z : EReal => row x0 _ (tok_lt _ _ b.isLt p.isLt) c + Ideal.ofBits .f32 0x3F000000#32 * z) (Finset.sum_congr rfl fun k _ => ?_)
  rw [show lidx_main_v25 (ix3 b p c) k = ix3 b p k from funext fun a => by match a with | ⟨0, _⟩ => rfl | ⟨1, _⟩ => rfl | ⟨2, _⟩ => rfl,
    show ridx_main_v25 (ix3 b p c) k = ix2 k c from funext fun a => by match a with | ⟨0, _⟩ => rfl | ⟨1, _⟩ => rfl, v24_at, v19_at]
end At

/-- The reference's result at an element. -/
theorem ref_at (b : Fin 4) (q : Fin 4096) (c : Fin 1024) : val_main_v29 (F := Ideal) x0 x1 x2 x3 (ix3 b q c)
    = tokenOut (row x0 (b.val * 4224 + (128 + q.val)) (by omega)) (gain x1) (wGate x2) (wUp x2) (wDown x3) c := by
  rw [val_main_v29_apply, show idx_main_v29 (ix3 b q c) = ix3 b ⟨128 + q.val, by omega⟩ c from funext fun a => Fin.ext (by match a with | ⟨0, _⟩ => rfl | ⟨1, _⟩ => rfl | ⟨2, _⟩ => rfl), v28_at]

end Cert.FfnLastRefIdeal.Hand

end
-- ==== Proof.FfnOut.lean ====
module

public import proofs.«01_k».proof.Proof.FfnBody
public import proofs.«01_k».proof.Proof.FfnRef

@[expose] public section

set_option maxRecDepth 16384

noncomputable section

namespace Cert.FfnLastIdeal.Hand

open Idealize.ShloMosaic hiding ix1 ix2 ix3 eq_ix3 truncf_apply
open Idealize.ShloMosaic.TcCoe Idealize.ShloMosaic.Tactic
open Idealize.ShloMosaic.ValueIdx
open Idealize.ShloMosaic.Pipeline (Dat Cfg Window)
open Cert.FfnLastIdeal.Gen
open Cert.FfnLastRefIdeal.Hand (row gain wGate wUp wDown)

variable (m : (ℓ : Loc nD τ sig) → Buf (Elt Ideal) ℓ) (ρ : Dev nD → PrngReg) (c : Dev nD)

abbrev A0 : (⟨S16896x1024, .f32⟩ : BufTy).Contents (Elt Ideal) := m ((c.tc : Thread nD τ).loc main_arg0)
abbrev A1 : (⟨S2x1024, .f32⟩ : BufTy).Contents (Elt Ideal) := m ((c.tc : Thread nD τ).loc main_arg1)
abbrev A2 : (⟨S2x1024x5632, .f32⟩ : BufTy).Contents (Elt Ideal) := m ((c.tc : Thread nD τ).loc main_arg2)
abbrev A3 : (⟨S2x2816x1024, .f32⟩ : BufTy).Contents (Elt Ideal) := m ((c.tc : Thread nD τ).loc main_arg3)

/-! ## The blocks of a grid point, at an element -/

/-- The first row of a grid point's tile. -/
def start (t : ℕ) : ℕ := (t - 10) / 4 * 4224 + 128 + (t - 10) % 4 * 1024

theorem start_lt (t : Fin cfg0.N) (r : ℕ) (hr : r < 1024) : start t.val + r < 16896 := by
  have : t.val < 26 := lt_of_lt_of_eq t.isLt (show cfg0.N = 26 from N_0)
  unfold start; omega

theorem idx0 : ∀ t : Fin grid0.N, win0_0.index t 0 = start t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 1 ∧ win0_2.index t 1 = 0 ∧ win0_2.index t 2 = min t.val 10 := by decide +kernel
theorem idx3 : ∀ t : Fin grid0.N, win0_3.index t 0 = 1 ∧ win0_3.index t 1 = 0 ∧ win0_3.index t 2 = 11 + min t.val 10 := by decide +kernel
theorem idx4 : ∀ t : Fin grid0.N, win0_4.index t 0 = 1 ∧ win0_4.index t 1 = min t.val 10 ∧ win0_4.index t 2 = 0 := by decide +kernel
theorem idx5 : ∀ t : Fin grid0.N, 10 ≤ t.val → win0_5.index t 0 = (t.val - 10) / 4 ∧ win0_5.index t 1 = (t.val - 10) % 4 ∧ win0_5.index t 2 = 0 := by decide +kernel

theorem blk0 (t : Fin cfg0.N) (r l : Fin 1024) : (iblk m c 0 t : FVec Ideal S1024x1024 .f32) (ix2 r l) = row (A0 m c) (start t.val + r.val) (start_lt t _ r.isLt) l := by
  blk_simp [iblk]
  rw [V_main_arg0]
  refine congrArg (A0 m c) (funext fun a => Fin.ext ?_)
  match a with
  | ⟨0, _⟩ => show win0_0.index t 0 + 1 * r.val = start t.val + r.val; rw [(idx0 t).1]; omega
  | ⟨1, _⟩ => show win0_0.index t 1 + 1 * l.val = l.val; rw [(idx0 t).2]; omega

theorem blk1 (t : Fin cfg0.N) (l : Fin 1024) : (iblk m c 1 t : FVec Ideal S1x1024 .f32) (ix2 0 l) = gain (A1 m c) l := by
  blk_simp [iblk]
  entry_read
  refine (broadcastInDim_apply _ _ _ _ (ix1 l) (fun a => ?_)).trans ((shapeCast_1a_a_apply _ _ l).trans ?_)
  · match a with
    | ⟨0, _⟩ => show l.val = if (1024 : ℕ) = 1 then 0 else win0_1.index t 1 * 1024 + 1 * l.val; rw [if_neg (by decide), (idx1 t).2]; omega
  refine (extractStridedSlice_apply ![1, 0] (A1 m c) _ (ix2 (0 : Fin 1) l) (ix2 (1 : Fin 2) l) (fun a => ?_))
  match a with
  | ⟨0, _⟩ => rfl
  | ⟨1, _⟩ => exact (Nat.zero_add _).symm

theorem blk2 (t : Fin cfg0.N) (l : Fin 1024) (k : Fin 256) (h : min t.val 10 * 256 + k.val < 2816) :
    (iblk m c 2 t : FVec Ideal S1x1024x256 .f32) (ix3 0 l k) = wGate (A2 m c) l ⟨min t.val 10 * 256 + k.val, h⟩ := by
  blk_simp [iblk]
  rw [V_main_arg2]
  refine congrArg (A2 m c) (funext fun a => Fin.ext ?_)
  match a with
  | ⟨0, _⟩ => blk_simp [(idx2 t).1]; rfl
  | ⟨1, _⟩ => blk_simp [(idx2 t).2.1]
  | ⟨2, _⟩ => blk_simp [(idx2 t).2.2]

theorem blk3 (t : Fin cfg0.N) (l : Fin 1024) (k : Fin 256) (h : min t.val 10 * 256 + k.val < 2816) :
    (iblk m c 3 t : FVec Ideal S1x1024x256 .f32) (ix3 0 l k) = wUp (A2 m c) l ⟨min t.val 10 * 256 + k.val, h⟩ := by
  blk_simp [iblk]
  rw [V_main_arg2]
  refine congrArg (A2 m c) (funext fun a => Fin.ext ?_)
  match a with
  | ⟨0, _⟩ => blk_simp [(idx3 t).1]; rfl
  | ⟨1, _⟩ => blk_simp [(idx3 t).2.1]
  | ⟨2, _⟩ => blk_simp [(idx3 t).2.2]; show (11 + min t.val 10) * 256 + k.val = 2816 + (min t.val 10 * 256 + k.val); omega

theorem blk4 (t : Fin cfg0.N) (k : Fin 256) (j : Fin 1024) (h : min t.val 10 * 256 + k.val < 2816) :
    (iblk m c 4 t : FVec Ideal S1x256x1024 .f32) (ix3 0 k j) = wDown (A3 m c) ⟨min t.val 10 * 256 + k.val, h⟩ j := by
  blk_simp [iblk]
  rw [V_main_arg3]
  refine congrArg (A3 m c) (funext fun a => Fin.ext ?_)
  match a with
  | ⟨0, _⟩ => blk_simp [(idx4 t).1]; rfl
  | ⟨1, _⟩ => blk_simp [(idx4 t).2.1]
  | ⟨2, _⟩ => blk_simp [(idx4 t).2.2]

/-! ## The resident chunks -/

theorem ptn_min (j : Fin 11) : min (ptn j.val).val 10 = j.val := by
  show min (min j.val 25) 10 = j.val; omega

theorem Gb_at (j : Fin 11) (l : Fin 1024) (k : Fin 256) (h : j.val * 256 + k.val < 2816) : Gb m c j (ix2 l k) = wGate (A2 m c) l ⟨j.val * 256 + k.val, h⟩ := by
  unfold Gb
  rw [pay11_apply]
  refine (blk2 m c _ l k (by rw [ptn_min]; exact h)).trans ?_
  simp only [ptn_min]
theorem Ub_at (j : Fin 11) (l : Fin 1024) (k : Fin 256) (h : j.val * 256 + k.val < 2816) : Ub m c j (ix2 l k) = wUp (A2 m c) l ⟨j.val * 256 + k.val, h⟩ := by
  unfold Ub
  rw [pay12_apply]
  refine (blk3 m c _ l k (by rw [ptn_min]; exact h)).trans ?_
  simp only [ptn_min]
theorem Db_at (j : Fin 11) (k : Fin 256) (o : Fin 1024) (h : j.val * 256 + k.val < 2816) : Db m c j (ix2 k o) = wDown (A3 m c) ⟨j.val * 256 + k.val, h⟩ o := by
  unfold Db
  rw [pay13_apply]
  refine (blk4 m c _ k o (by rw [ptn_min]; exact h)).trans ?_
  simp only [ptn_min]

/-! ## A tile's output -/

/-- The first tile's accumulator after `n` prologue points is the sum of the first `n` chunks. -/
theorem accP_at (r o : Fin 1024) : ∀ n : ℕ, n ≤ 11 → accP m c n (ix2 r o)
    = ∑ j ∈ Finset.range n, if h : j < 11 then chunkAt (xn m c) (Gb m c ⟨j, h⟩) (Ub m c ⟨j, h⟩) (Db m c ⟨j, h⟩) r o else 0
  | 0, _ => by rw [Finset.sum_range_zero]; exact pay2_apply _
  | n + 1, h => by
    have hn : n < 11 := h
    rw [Finset.sum_range_succ, ← accP_at r o n (by omega), dif_pos hn]
    exact pay14_apply _ _ _ _ _ r o

/-- What a tile writes back, at an element. -/
theorem outB_at (t : Fin cfg0.N) (ht : 10 ≤ t.val) (r o : Fin 1024) : outB m c t (ix3 0 r o)
    = tokenOut (row (A0 m c) (start t.val + r.val) (start_lt t _ r.isLt)) (gain (A1 m c)) (wGate (A2 m c)) (wUp (A2 m c)) (wDown (A3 m c)) o := by
  have hx : ∀ s l, (iblk m c 0 t : FVec Ideal S1024x1024 .f32) (ix2 s l) = row (A0 m c) (start t.val + s.val) (start_lt t _ s.isLt) l := blk0 m c t
  unfold outB tokenOut
  split
  · next h10 =>
    rw [pay4_apply, hx, accP_at m c r o 11 (Nat.le_refl _), Finset.sum_range]
    refine congrArg (fun z : EReal => row (A0 m c) (start t.val + r.val) (start_lt t _ r.isLt) o + Ideal.ofBits .f32 0x3F000000#32 * z) ?_
    refine Eq.trans (Finset.sum_congr rfl fun j _ => dif_pos j.isLt) ?_
    refine sum_chunks (xn m c) (Gb m c) (Ub m c) (Db m c) _ _ _ _ _ r o (fun l => ?_) (Gb_at m c) (Ub_at m c) (fun j k h => Db_at m c j k o h)
    unfold xn
    rw [pay1_eq, pay15_apply]
    have e : start (ptn 0).val = start t.val := by rw [h10]; rfl
    have hx0 : ∀ s l, (iblk m c 0 (ptn 0) : FVec Ideal S1024x1024 .f32) (ix2 s l) = row (A0 m c) (start t.val + s.val) (start_lt t _ s.isLt) l := by
      intro s l
      rw [blk0]
      unfold row
      simp only [e]
    simp only [hx0, blk1]
  · next h10 =>
    rw [pay7_apply, hx, accTile_apply]
    refine congrArg (fun z : EReal => row (A0 m c) (start t.val + r.val) (start_lt t _ r.isLt) o + Ideal.ofBits .f32 0x3F000000#32 * z) ?_
    refine sum_chunks _ (Gb m c) (Ub m c) (Db m c) _ _ _ _ _ r o (fun l => ?_) (Gb_at m c) (Ub_at m c) (fun j k h => Db_at m c j k o h)
    rw [pay15_apply]
    simp only [hx, blk1]

/-! ## The result array -/

/-- The output array, element by element. -/
def G (c : Dev nD) : Buf (Elt Ideal) ((c.tc : Thread nD τ).loc main_v3) := fun i : S4x4096x1024.Idx =>
  tokenOut (row (A0 m c) ((i 0).val * 4224 + (128 + (i 1).val)) (by have h0 : (i 0).val < 4 := (i 0).isLt; have h1 : (i 1).val < 4096 := (i 1).isLt; omega))
    (gain (A1 m c)) (wGate (A2 m c)) (wUp (A2 m c)) (wDown (A3 m c)) ⟨(i 2).val, (i 2).isLt⟩

/-- An element of the output array, named by its row and its column. -/
theorem G_at (i : S4x4096x1024.Idx) (n : ℕ) (hn : n < 16896) (o : Fin 1024) (e : n = (i 0).val * 4224 + (128 + (i 1).val)) (eo : o.val = (i 2).val) :
    tokenOut (row (A0 m c) n hn) (gain (A1 m c)) (wGate (A2 m c)) (wUp (A2 m c)) (wDown (A3 m c)) o = G m c i := by
  subst e
  obtain rfl : o = ⟨(i 2).val, (i 2).isLt⟩ := Fin.ext eo
  rfl

/-- The array the launch leaves in its result is `G`. -/
theorem final : (dats m 0 c).arrAt 5 cfg0.N = G m c := by
  refine (dats m 0 c).arrAt_eq_of_covers 5 _ (by decide +kernel) (fun t hf y => ?_)
  have ht : 10 ≤ t.val := (hflush t).1 hf
  blk_simp
  rw [after0_5]
  have h0 : (y 0).val < 1 := (y 0).isLt
  have h1 : (y 1).val < 1024 := (y 1).isLt
  have h2 : (y 2).val < 1024 := (y 2).isLt
  have ey : y = ix3 (0 : Fin 1) (⟨(y 1).val, h1⟩ : Fin 1024) (⟨(y 2).val, h2⟩ : Fin 1024) := funext fun a => Fin.ext (by
    match a with
    | ⟨0, _⟩ => show (y 0).val = 0; omega
    | ⟨1, _⟩ => rfl
    | ⟨2, _⟩ => rfl)
  obtain ⟨i0, i1, i2⟩ := idx5 t ht
  have e0 : ((win0_5.blk t).view.emb y 0).val = (t.val - 10) / 4 := by blk_simp [i0]
  have e1 : ((win0_5.blk t).view.emb y 1).val = (t.val - 10) % 4 * 1024 + (y 1).val := by blk_simp [i1]
  have e2 : ((win0_5.blk t).view.emb y 2).val = (y 2).val := by blk_simp [i2]
  refine (congrArg (outB m c t) ey).trans ((outB_at m c t ht _ _).trans ?_)
  have er : start t.val + (y 1).val = (t.val - 10) / 4 * 4224 + (128 + ((t.val - 10) % 4 * 1024 + (y 1).val)) := by unfold start; omega
  exact G_at m c _ _ _ _ (by rw [e0, e1, er]) e2.symm

/-- The kernel's run, its result read. -/
theorem run_value : θ_run defs (onTc (τ := τ) (main (F := Ideal))) ⟨m, fun _ => 0, ρ⟩ (fun r => ∀ c : Dev nD,
      r.2.mem ((c.tc : Thread nD τ).loc main_v3) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 5).trans (final m c), h.2 c⟩) (θ_run_and (run_main m ρ) (unchanged m ρ))

/-- The reference's array is the kernel's, of arguments that agree. -/
theorem ref_eq (x0 : (⟨S16896x1024, .f32⟩ : BufTy).Contents (Elt Ideal)) (x1 : (⟨S2x1024, .f32⟩ : BufTy).Contents (Elt Ideal))
    (x2 : (⟨S2x1024x5632, .f32⟩ : BufTy).Contents (Elt Ideal)) (x3 : (⟨S2x2816x1024, .f32⟩ : BufTy).Contents (Elt Ideal))
    (h0 : x0 = A0 m c) (h1 : x1 = A1 m c) (h2 : x2 = A2 m c) (h3 : x3 = A3 m c) :
    Cert.FfnLastRefIdeal.Read.val_main_v29 (F := Ideal) x0 x1 x2 x3 = G m c := by
  subst h0 h1 h2 h3
  funext i
  obtain ⟨b, q, o, rfl⟩ : ∃ (b : Fin 4) (q : Fin 4096) (o : Fin 1024), i = ix3 b q o := ⟨_, _, _, eq_ix3 i⟩
  exact Cert.FfnLastRefIdeal.Hand.ref_at _ _ _ _ b q o

end Cert.FfnLastIdeal.Hand

end
-- ==== Proof.FfnClaims.lean ====
module

public import proofs.«01_k».proof.Defs
public import proofs.«01_k».proof.Proof.Gen.FfnLast
public import proofs.«01_k».proof.Proof.FfnOut
public import Idealize.ShloMosaic.Lib.Quiescent

@[expose] public section

set_option maxRecDepth 16384

/-! # The last feed-forward block: its claims -/

namespace Cert.Proof.Ffn

open Idealize.ShloMosaic Idealize.ShloMosaic.TcCoe Idealize.SL.Sem

/-- The program at the machine's words is the idealized one taken at them: their bodies are the same, and so are the procedures they call. -/
theorem defs₀_eq : Cert.FfnLast.defs₀ (F := Bits) = Cert.FfnLastIdeal.defs₀ (F := Bits) := by
  unfold Cert.FfnLast.defs₀ Cert.FfnLastIdeal.defs₀
  refine congrArg Defs.onTc (funext fun l => funext fun a => ?_)
  match l, a with
  | 0, (t, s) => rfl
theorem defs_eq : Cert.FfnLast.defs (F := Bits) = Cert.FfnLastIdeal.defs (F := Bits) :=
  congrArg (Pipeline.defs Cert.FfnLastIdeal.pcfgs) defs₀_eq

/-- The kernel at the machine's words ends, its arguments unchanged and its semaphores at zero. -/
theorem frame_bits : Cert.quiescent_FfnLast := by
  intro m ρ _
  rw [defs_eq]
  exact Cert.FfnLastIdeal.Hand.frame m ρ

/-- So does the kernel over the extended reals. -/
theorem frame_ideal : Cert.quiescent_FfnLastIdeal := fun m ρ _ => Cert.FfnLastIdeal.Hand.frame m ρ

/-- So does the reference, which has no semaphore. -/
theorem frame_ref : Cert.quiescent_FfnLastRefIdeal := fun m ρ _ =>
  (θ_run Cert.FfnLastRefIdeal.defs _ _).mono (fun r h => ⟨fun c => (h c).2, sem_eq_zero_of_no_sems (by decide) r.2⟩)
    (Cert.FfnLastRefIdeal.Value.run (F := Ideal) m ρ)

/-- Nothing was rewritten in the idealized kernel. -/
theorem preserves : Cert.preserves_FfnLast_FfnLastIdeal := trivial

/-- Over the extended reals the kernel leaves the array that the reference leaves, whatever the arguments hold. -/
theorem algebraic : Cert.algebraic_FfnLastIdeal_FfnLastRefIdeal := by
  intro m ρ m' ρ' _ hagree
  refine ⟨fun c => Cert.FfnLastIdeal.Hand.G m c, Cert.FfnLastIdeal.Hand.run_value m ρ, ?_⟩
  refine (θ_run Cert.FfnLastRefIdeal.defs _ _).mono (fun _ h c => ⟨(h c).1.trans ?_, (h c).2⟩)
    (Cert.FfnLastRefIdeal.Value.run (F := Ideal) m' ρ')
  refine (Cert.FfnLastRefIdeal.Read.val_main_v29_eq m' c).trans ?_
  exact Cert.FfnLastIdeal.Hand.ref_eq m c _ _ _ _ (hagree c).1 (hagree c).2.1 (hagree c).2.2.1 (hagree c).2.2.2

end Cert.Proof.Ffn

end
-- ==== Proof.FfnMidRun.lean ====
module

public import proofs.«01_k».proof.Proof.Gen.FfnMidIdeal.Frame
public import proofs.«01_k».proof.Proof.Gen.FfnMidIdeal.Skeleton
public import Idealize.ShloMosaic.Lib.Pipeline.ValueKit
public import Idealize.ShloMosaic.Lib.VecWindow
public import Idealize.ShloMosaic.Lib.Claim

@[expose] public section

set_option maxRecDepth 16384

noncomputable section

namespace Cert.FfnMidIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnMidIdeal.Gen

variable {F : FTy → Type} [FloatOps F]

local notation "𝕄" => MT nD τ sig Unit (Elt F) ℕ (UR sig nD τ) ℕ

open VecWindow

/-! # What one grid point of the feed-forward kernel computes

The kernel walks eleven prologue points, which stream the weights in and round them into two resident buffers while they
compute the first row tile, and then one point per further row tile, which reads the weights from those buffers only. Each
lemma below runs the body once, on any staging buffers, and names what every buffer holds afterwards. -/

variable (c : Dev nD) (i : grid0.Coords)
  (arg1 : Memref sig .tc .vmem S768x1024 .f32) (harg1 : arg1.IsWhole) (arg2 : Memref sig .tc .vmem S1x1024 .f32) (harg2 : arg2.IsWhole)
  (arg3 : Memref sig .tc .vmem S1x1024x256 .f32) (harg3 : arg3.IsWhole) (arg4 : Memref sig .tc .vmem S1x1024x256 .f32) (harg4 : arg4.IsWhole)
  (arg5 : Memref sig .tc .vmem S1x256x1024 .f32) (harg5 : arg5.IsWhole) (arg6 : Memref sig .tc .vmem S768x1024 .f32) (harg6 : arg6.IsWhole)
  (arg7 : Memref sig .tc .vmem S1024x5632 .bf16) (harg7 : arg7.IsWhole) (arg8 : Memref sig .tc .vmem S2816x1024 .bf16) (harg8 : arg8.IsWhole)
  (arg9 : Memref sig .tc .vmem S768x1024 .f32) (harg9 : arg9.IsWhole) (arg10 : Memref sig .tc .vmem S768x1024 .bf16) (harg10 : arg10.IsWhole)
  (x0 : Vec F S768x1024 .f32) (x1 : Vec F S1x1024 .f32) (x2 x3 : Vec F S1x1024x256 .f32) (x4 : Vec F S1x256x1024 .f32) (x5 : Vec F S768x1024 .f32)
  (w7 : Vec F S1024x5632 .bf16) (w8 : Vec F S2816x1024 .bf16) (a9 : Vec F S768x1024 .f32) (n10 : Vec F S768x1024 .bf16)

/-- The condition of the first grid point. -/
abbrev condA (i : grid0.Coords) : Prop := (Scalar.cmpi .ne (Scalar.extui (Scalar.cmpi .eq (BitVec.ofNat 32 (i 0).val) 0#32)) 0#32) = 1#1

/-- One chunk of the input weights fits into the resident buffer; -/
theorem inbIn {o : ℕ} (h : o + 256 ≤ 5632) : ∀ a, (![0, o] : Fin 2 → ℕ) a + S1024x256.size a ≤ S1024x5632.size a :=
  Fin.forall_fin_two.2 ⟨Nat.le_refl _, h⟩
/-- and one chunk of the output weights into its own. -/
theorem inbOut {o : ℕ} (h : o + 256 ≤ 2816) : ∀ a, (![o, 0] : Fin 2 → ℕ) a + S256x1024.size a ≤ S2816x1024.size a :=
  Fin.forall_fin_two.2 ⟨h, Nat.le_refl _⟩

/-- Chunk `j` of the resident gate weights. -/
def gateOf (w7 : Vec F S1024x5632 .bf16) (j : Fin 11) : Vec F S1024x256 .bf16 := window w7 ![0, 256 * j.val] S1024x256.size (inbIn (by omega))
/-- Chunk `j` of the resident up weights. -/
def upOf (w7 : Vec F S1024x5632 .bf16) (j : Fin 11) : Vec F S1024x256 .bf16 := window w7 ![0, 2816 + 256 * j.val] S1024x256.size (inbIn (by omega))
/-- Chunk `j` of the resident output weights. -/
def downOf (w8 : Vec F S2816x1024 .bf16) (j : Fin 11) : Vec F S256x1024 .bf16 := window w8 ![256 * j.val, 0] S256x1024.size (inbOut (by omega))

/-- The accumulator of a row tile after its eleven chunks, the weights read chunk by chunk. -/
def accTile (x : Vec F S768x1024 .f32) (g : Vec F S1x1024 .f32) (G U : Fin 11 → Vec F S1024x256 .bf16) (D : Fin 11 → Vec F S256x1024 .bf16) : FVec F S768x1024 .f32 :=
  let n : FVec F S768x1024 .bf16 := k0_pay15 x g
  k0_pay6 n (G 10) (U 10) (D 10) (k0_pay5 (k0_pay31 n (G 9) (U 9) (D 9)) (k0_pay30 n (G 8) (U 8) (D 8)
    (k0_pay29 (D 7) (k0_pay28 n (G 7) (U 7)) (constant S768x1024 .f32 0x00000000#32) (k0_pay27 n (G 6) (U 6) (D 6)
      (k0_pay26 (D 5) (k0_pay25 n (G 5) (U 5)) (k0_pay24 n (G 4) (U 4) (D 4)
        (k0_pay23 (D 3) (k0_pay20 n (G 3)) (k0_pay21 n (U 3)) (k0_pay22 n (G 3)) (k0_pay19 n (G 2) (U 2) (D 2)
          (k0_pay18 n (U 1) (D 1) (k0_pay17 x g (G 1)) (constant S768x256 .f32 0x00000000#32) (k0_pay16 x g (G 0) (U 0) (D 0)))))))))))

set_option maxHeartbeats 4000000 in
/-- The first point: the normalised row tile is stored, the accumulator cleared, and the first chunk of the weights brought in and used. -/
theorem runA (h1 : condA i) (h2 : k0_cond2 i = 1#1) (h3 : ¬ k0_cond3 i = 1#1) (h4 : ¬ k0_cond4 i = 1#1) (E : Set ℕ) (K : PUnit → sProp 𝕄) :
    iprop(owns c.tc arg1 fullShare x0 ∗ owns c.tc arg2 fullShare x1 ∗ owns c.tc arg3 fullShare x2
      ∗ owns c.tc arg4 fullShare x3 ∗ owns c.tc arg5 fullShare x4 ∗ owns c.tc arg6 fullShare x5
      ∗ owns c.tc arg7 fullShare w7 ∗ owns c.tc arg8 fullShare w8
      ∗ owns c.tc arg9 fullShare a9 ∗ owns c.tc arg10 fullShare n10
      ∗ (iprop(owns c.tc arg1 fullShare x0 ∗ owns c.tc arg2 fullShare x1 ∗ owns c.tc arg3 fullShare x2
          ∗ owns c.tc arg4 fullShare x3 ∗ owns c.tc arg5 fullShare x4 ∗ owns c.tc arg6 fullShare (x5)
          ∗ owns c.tc arg7 fullShare (put (put w7 (k0_off1 i) S1024x256.size (k0_pay11 x2)) (k0_off2 i) S1024x256.size (k0_pay12 x3)) ∗ owns c.tc arg8 fullShare (put w8 (k0_off3 i) S256x1024.size (k0_pay13 x4))
          ∗ owns c.tc arg9 fullShare (k0_pay3 (k0_pay14 x2 x3 x4 k0_pay2 (k0_pay1 x0 x1))) ∗ owns c.tc arg10 fullShare (k0_pay1 x0 x1)) -∗ K ⟨⟩))
    ⊢ wp frame (wpE (defs₀ (F := F)) Variants.none c none) E
        (cc0_ffn i arg1 harg1 arg2 harg2 arg3 harg3 arg4 harg4 arg5 harg5 arg6 harg6 arg7 harg7 arg8 harg8 arg9 harg9 arg10 harg10) K := by
  simp only [cc0_ffn_eq_skeleton]; unfold cc0_ffn_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | sl_exact h1 | sl_exact h2 | sl_exact h3 | sl_exact h4)
  sl_step
  iapply Hk
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact hf4
  isplitl [H5]; · iexists _; isplitr; swap; · iexact H5
                  ipureintro; exact hf5
  isplitl [H6]
  · iexists _; isplitr; swap; · iexact H6
    ipureintro
    exact hf6
  isplitl [H7]
  · iexists _; isplitr; swap; · iexact H7
    ipureintro
    rw [View.read_writes_cons_put _ _ _ _ _ rfl, View.read_writes_cons_put _ _ _ _ _ rfl, View.writes_nil, hf7, View.readAt_full, View.readAt_full, hf3, hf4]
  isplitl [H8]
  · iexists _; isplitr; swap; · iexact H8
    ipureintro
    rw [View.read_writes_cons_put _ _ _ _ _ rfl, View.writes_nil, hf8, View.readAt_full, hf5]
  isplitl [H9]
  · iexists _; isplitr; swap; · iexact H9
    ipureintro
    frame_out; try rw [View.read_writes_full]
  · iexists _; isplitr; swap; · iexact H10
    ipureintro
    frame_out; try rw [View.read_writes_full]

set_option maxHeartbeats 4000000 in
/-- A later prologue point: one more chunk of the weights is brought in and used. -/
theorem runB (h1 : ¬ condA i) (h2 : k0_cond2 i = 1#1) (h3 : ¬ k0_cond3 i = 1#1) (h4 : ¬ k0_cond4 i = 1#1) (E : Set ℕ) (K : PUnit → sProp 𝕄) :
    iprop(owns c.tc arg1 fullShare x0 ∗ owns c.tc arg2 fullShare x1 ∗ owns c.tc arg3 fullShare x2
      ∗ owns c.tc arg4 fullShare x3 ∗ owns c.tc arg5 fullShare x4 ∗ owns c.tc arg6 fullShare x5
      ∗ owns c.tc arg7 fullShare w7 ∗ owns c.tc arg8 fullShare w8
      ∗ owns c.tc arg9 fullShare a9 ∗ owns c.tc arg10 fullShare n10
      ∗ (iprop(owns c.tc arg1 fullShare x0 ∗ owns c.tc arg2 fullShare x1 ∗ owns c.tc arg3 fullShare x2
          ∗ owns c.tc arg4 fullShare x3 ∗ owns c.tc arg5 fullShare x4 ∗ owns c.tc arg6 fullShare (x5)
          ∗ owns c.tc arg7 fullShare (put (put w7 (k0_off1 i) S1024x256.size (k0_pay11 x2)) (k0_off2 i) S1024x256.size (k0_pay12 x3)) ∗ owns c.tc arg8 fullShare (put w8 (k0_off3 i) S256x1024.size (k0_pay13 x4))
          ∗ owns c.tc arg9 fullShare (k0_pay3 (k0_pay14 x2 x3 x4 a9 n10)) ∗ owns c.tc arg10 fullShare (n10)) -∗ K ⟨⟩))
    ⊢ wp frame (wpE (defs₀ (F := F)) Variants.none c none) E
        (cc0_ffn i arg1 harg1 arg2 harg2 arg3 harg3 arg4 harg4 arg5 harg5 arg6 harg6 arg7 harg7 arg8 harg8 arg9 harg9 arg10 harg10) K := by
  simp only [cc0_ffn_eq_skeleton]; unfold cc0_ffn_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | sl_exact h1 | sl_exact h2 | sl_exact h3 | sl_exact h4)
  sl_step
  iapply Hk
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact hf4
  isplitl [H5]; · iexists _; isplitr; swap; · iexact H5
                  ipureintro; exact hf5
  isplitl [H6]
  · iexists _; isplitr; swap; · iexact H6
    ipureintro
    exact hf6
  isplitl [H7]
  · iexists _; isplitr; swap; · iexact H7
    ipureintro
    rw [View.read_writes_cons_put _ _ _ _ _ rfl, View.read_writes_cons_put _ _ _ _ _ rfl, View.writes_nil, hf7, View.readAt_full, View.readAt_full, hf3, hf4]
  isplitl [H8]
  · iexists _; isplitr; swap; · iexact H8
    ipureintro
    rw [View.read_writes_cons_put _ _ _ _ _ rfl, View.writes_nil, hf8, View.readAt_full, hf5]
  isplitl [H9]
  · iexists _; isplitr; swap; · iexact H9
    ipureintro
    frame_out; try rw [View.read_writes_full]
  · iexists _; isplitr; swap; · iexact H10
    ipureintro
    exact hf10

set_option maxHeartbeats 4000000 in
/-- The last prologue point: the last chunk, and the first row tile is written. -/
theorem runC (h1 : ¬ condA i) (h2 : k0_cond2 i = 1#1) (h3 : k0_cond3 i = 1#1) (h4 : ¬ k0_cond4 i = 1#1) (E : Set ℕ) (K : PUnit → sProp 𝕄) :
    iprop(owns c.tc arg1 fullShare x0 ∗ owns c.tc arg2 fullShare x1 ∗ owns c.tc arg3 fullShare x2
      ∗ owns c.tc arg4 fullShare x3 ∗ owns c.tc arg5 fullShare x4 ∗ owns c.tc arg6 fullShare x5
      ∗ owns c.tc arg7 fullShare w7 ∗ owns c.tc arg8 fullShare w8
      ∗ owns c.tc arg9 fullShare a9 ∗ owns c.tc arg10 fullShare n10
      ∗ (iprop(owns c.tc arg1 fullShare x0 ∗ owns c.tc arg2 fullShare x1 ∗ owns c.tc arg3 fullShare x2
          ∗ owns c.tc arg4 fullShare x3 ∗ owns c.tc arg5 fullShare x4 ∗ owns c.tc arg6 fullShare (k0_pay4 x0 (k0_pay3 (k0_pay14 x2 x3 x4 a9 n10)))
          ∗ owns c.tc arg7 fullShare (put (put w7 (k0_off1 i) S1024x256.size (k0_pay11 x2)) (k0_off2 i) S1024x256.size (k0_pay12 x3)) ∗ owns c.tc arg8 fullShare (put w8 (k0_off3 i) S256x1024.size (k0_pay13 x4))
          ∗ owns c.tc arg9 fullShare (k0_pay3 (k0_pay14 x2 x3 x4 a9 n10)) ∗ owns c.tc arg10 fullShare (n10)) -∗ K ⟨⟩))
    ⊢ wp frame (wpE (defs₀ (F := F)) Variants.none c none) E
        (cc0_ffn i arg1 harg1 arg2 harg2 arg3 harg3 arg4 harg4 arg5 harg5 arg6 harg6 arg7 harg7 arg8 harg8 arg9 harg9 arg10 harg10) K := by
  simp only [cc0_ffn_eq_skeleton]; unfold cc0_ffn_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | sl_exact h1 | sl_exact h2 | sl_exact h3 | sl_exact h4)
  sl_step
  iapply Hk
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact hf4
  isplitl [H5]; · iexists _; isplitr; swap; · iexact H5
                  ipureintro; exact hf5
  isplitl [H6]
  · iexists _; isplitr; swap; · iexact H6
    ipureintro
    frame_out; try rw [View.read_writes_full]
  isplitl [H7]
  · iexists _; isplitr; swap; · iexact H7
    ipureintro
    rw [View.read_writes_cons_put _ _ _ _ _ rfl, View.read_writes_cons_put _ _ _ _ _ rfl, View.writes_nil, hf7, View.readAt_full, View.readAt_full, hf3, hf4]
  isplitl [H8]
  · iexists _; isplitr; swap; · iexact H8
    ipureintro
    rw [View.read_writes_cons_put _ _ _ _ _ rfl, View.writes_nil, hf8, View.readAt_full, hf5]
  isplitl [H9]
  · iexists _; isplitr; swap; · iexact H9
    ipureintro
    frame_out; try rw [View.read_writes_full]
  · iexists _; isplitr; swap; · iexact H10
    ipureintro
    exact hf10

set_option maxHeartbeats 4000000 in
/-- A point after the prologue: a whole row tile from the resident weights. -/
theorem runD (h1 : ¬ condA i) (h2 : ¬ k0_cond2 i = 1#1) (h3 : ¬ k0_cond3 i = 1#1) (h4 : k0_cond4 i = 1#1) (E : Set ℕ) (K : PUnit → sProp 𝕄) :
    iprop(owns c.tc arg1 fullShare x0 ∗ owns c.tc arg2 fullShare x1 ∗ owns c.tc arg3 fullShare x2
      ∗ owns c.tc arg4 fullShare x3 ∗ owns c.tc arg5 fullShare x4 ∗ owns c.tc arg6 fullShare x5
      ∗ owns c.tc arg7 fullShare w7 ∗ owns c.tc arg8 fullShare w8
      ∗ owns c.tc arg9 fullShare a9 ∗ owns c.tc arg10 fullShare n10
      ∗ (iprop(owns c.tc arg1 fullShare x0 ∗ owns c.tc arg2 fullShare x1 ∗ owns c.tc arg3 fullShare x2
          ∗ owns c.tc arg4 fullShare x3 ∗ owns c.tc arg5 fullShare x4 ∗ owns c.tc arg6 fullShare (k0_pay7 x0 (accTile x0 x1 (gateOf w7) (upOf w7) (downOf w8)))
          ∗ owns c.tc arg7 fullShare (w7) ∗ owns c.tc arg8 fullShare (w8)
          ∗ owns c.tc arg9 fullShare (accTile x0 x1 (gateOf w7) (upOf w7) (downOf w8)) ∗ owns c.tc arg10 fullShare (n10)) -∗ K ⟨⟩))
    ⊢ wp frame (wpE (defs₀ (F := F)) Variants.none c none) E
        (cc0_ffn i arg1 harg1 arg2 harg2 arg3 harg3 arg4 harg4 arg5 harg5 arg6 harg6 arg7 harg7 arg8 harg8 arg9 harg9 arg10 harg10) K := by
  simp only [cc0_ffn_eq_skeleton]; unfold cc0_ffn_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | sl_exact h1 | sl_exact h2 | sl_exact h3 | sl_exact h4)
  sl_step
  iapply Hk
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact hf4
  isplitl [H5]; · iexists _; isplitr; swap; · iexact H5
                  ipureintro; exact hf5
  isplitl [H6]
  · iexists _; isplitr; swap; · iexact H6
    ipureintro
    frame_out; rw [View.read_writes_full]; rfl
  isplitl [H7]
  · iexists _; isplitr; swap; · iexact H7
    ipureintro
    exact hf7
  isplitl [H8]
  · iexists _; isplitr; swap; · iexact H8
    ipureintro
    exact hf8
  isplitl [H9]
  · iexists _; isplitr; swap; · iexact H9
    ipureintro
    frame_out; rw [View.read_writes_full]; rfl
  · iexists _; isplitr; swap; · iexact H10
    ipureintro
    exact hf10

end Cert.FfnMidIdeal.Hand

end
-- ==== Proof.FfnLeadRun.lean ====
module

public import proofs.«01_k».proof.Proof.Gen.FfnLeadIdeal.Frame
public import proofs.«01_k».proof.Proof.Gen.FfnLeadIdeal.Skeleton
public import proofs.«01_k».proof.Proof.FfnMidRun
public import Idealize.ShloMosaic.Lib.Pipeline.ValueKit
public import Idealize.ShloMosaic.Lib.VecWindow
public import Idealize.ShloMosaic.Lib.Claim

@[expose] public section

set_option maxRecDepth 16384

noncomputable section

namespace Cert.FfnLeadIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnLeadIdeal.Gen
open Cert.FfnMidIdeal.Hand (gateOf upOf downOf accTile)

variable {F : FTy → Type} [FloatOps F]

local notation "𝕄" => MT nD τ sig Unit (Elt F) ℕ (UR sig nD τ) ℕ

open VecWindow

/-! # What one grid point of the first feed-forward kernel computes

The first block's rows are not an array: each sequence opens with the same 128 lead rows, and the kernel puts its tile of 768 rows
together from the lead and from the tokens. On the tile so put together it computes what the block between computes, so what the buffers
hold afterwards is written with that block's functions. -/

/-! ## The assembled tile -/

theorem inbBlk {o : ℕ} (h : o + 128 ≤ 768) : ∀ a, (![o, 0] : Fin 2 → ℕ) a + S128x1024.size a ≤ S768x1024.size a :=
  Fin.forall_fin_two.2 ⟨h, Nat.le_refl _⟩

/-- Block `j` of 128 rows of the tokens read. -/
def blkOf (x : Vec F S768x1024 .f32) (j : Fin 6) : Vec F S128x1024 .f32 := window x ![128 * j.val, 0] S128x1024.size (inbBlk (by omega))

/-- Block `j` of the assembled tile when the lead is block `q`: the lead itself, a token block moved on by one, or a token block in its place. -/
def partOf (q : BitVec 32) (x : Vec F S768x1024 .f32) (l : Vec F S128x1024 .f32) (j : Fin 5) : Vec F S128x1024 .f32 :=
  Scalar.select (Scalar.cmpi .eq q (BitVec.ofNat 32 (j.val + 1))) l (Scalar.select (Scalar.cmpi .slt q (BitVec.ofNat 32 (j.val + 1))) (blkOf x j.castSucc) (blkOf x j.succ))

/-- The assembled tile. -/
def rowsAt (q : BitVec 32) (x : Vec F S768x1024 .f32) (l : Vec F S128x1024 .f32) : Vec F S768x1024 .f32 :=
  concatenate S768x1024 0 [⟨S128x1024, Scalar.select (Scalar.cmpi .eq q 0#32) l (blkOf x 0)⟩, ⟨S128x1024, partOf q x l 0⟩, ⟨S128x1024, partOf q x l 1⟩,
    ⟨S128x1024, partOf q x l 2⟩, ⟨S128x1024, partOf q x l 3⟩, ⟨S128x1024, partOf q x l 4⟩] concatenates_S128x1024_S128x1024_S128x1024_S128x1024_S128x1024_S128x1024_S768x1024_d0

/-- The block that the lead takes in the tile of point `i`, as the kernel computes it (33 if none). -/
def leadAt (i : grid0.Coords) : BitVec 32 :=
  let v12 : BitVec 32 := Scalar.subi (BitVec.ofNat 32 (i 0).val) 11#32
  let v13 : BitVec 32 := Scalar.addi v12 1#32
  let v14 : BitVec 32 := Scalar.muli v13 6#32
  let v16 : BitVec 32 := Scalar.select (Scalar.cmpi .eq 33#32 0#32) 1#32 33#32
  let v17 : BitVec 32 := Scalar.remsi v14 v16
  let v22 : BitVec 1 := Scalar.andi (Scalar.xori (Scalar.cmpi .slt v17 0#32) (Scalar.cmpi .slt v16 0#32)) (Scalar.cmpi .ne v17 0#32)
  let v24 : BitVec 32 := Scalar.select v22 (Scalar.addi v17 v16) v17
  let v25 : BitVec 32 := Scalar.subi 33#32 v24
  let v28 : BitVec 32 := Scalar.remsi v25 v16
  let v33 : BitVec 1 := Scalar.andi (Scalar.xori (Scalar.cmpi .slt v28 0#32) (Scalar.cmpi .slt v16 0#32)) (Scalar.cmpi .ne v28 0#32)
  Scalar.select v33 (Scalar.addi v28 v16) v28

variable (c : Dev nD) (i : grid0.Coords)
  (arg1 : Memref sig .tc .vmem S768x1024 .f32) (harg1 : arg1.IsWhole) (arg2 : Memref sig .tc .vmem S128x1024 .f32) (harg2 : arg2.IsWhole)
  (arg3 : Memref sig .tc .vmem S1x1024 .f32) (harg3 : arg3.IsWhole)
  (arg4 : Memref sig .tc .vmem S1x1024x256 .f32) (harg4 : arg4.IsWhole) (arg5 : Memref sig .tc .vmem S1x1024x256 .f32) (harg5 : arg5.IsWhole)
  (arg6 : Memref sig .tc .vmem S1x256x1024 .f32) (harg6 : arg6.IsWhole) (arg7 : Memref sig .tc .vmem S768x1024 .f32) (harg7 : arg7.IsWhole)
  (arg8 : Memref sig .tc .vmem S1024x5632 .bf16) (harg8 : arg8.IsWhole) (arg9 : Memref sig .tc .vmem S2816x1024 .bf16) (harg9 : arg9.IsWhole)
  (arg10 : Memref sig .tc .vmem S768x1024 .f32) (harg10 : arg10.IsWhole) (arg11 : Memref sig .tc .vmem S768x1024 .bf16) (harg11 : arg11.IsWhole)
  (x0 : Vec F S768x1024 .f32) (xl : Vec F S128x1024 .f32) (x1 : Vec F S1x1024 .f32) (x2 x3 : Vec F S1x1024x256 .f32) (x4 : Vec F S1x256x1024 .f32) (x5 : Vec F S768x1024 .f32)
  (w7 : Vec F S1024x5632 .bf16) (w8 : Vec F S2816x1024 .bf16) (a9 : Vec F S768x1024 .f32) (n10 : Vec F S768x1024 .bf16)

/-- The condition of the first grid point. -/
abbrev condA (i : grid0.Coords) : Prop := (Scalar.cmpi .ne (Scalar.extui (Scalar.cmpi .eq (BitVec.ofNat 32 (i 0).val) 0#32)) 0#32) = 1#1

set_option maxHeartbeats 4000000 in
/-- The first point: the normalised tile is stored, the accumulator cleared, and the first chunk of the weights brought in and used. -/
theorem runA (h1 : condA i) (h2 : k0_cond2 i = 1#1) (h3 : ¬ k0_cond3 i = 1#1) (h4 : ¬ k0_cond4 i = 1#1) (E : Set ℕ) (K : PUnit → sProp 𝕄) :
    iprop(owns c.tc arg1 fullShare x0 ∗ owns c.tc arg2 fullShare xl ∗ owns c.tc arg3 fullShare x1
      ∗ owns c.tc arg4 fullShare x2 ∗ owns c.tc arg5 fullShare x3 ∗ owns c.tc arg6 fullShare x4
      ∗ owns c.tc arg7 fullShare x5 ∗ owns c.tc arg8 fullShare w7 ∗ owns c.tc arg9 fullShare w8
      ∗ owns c.tc arg10 fullShare a9 ∗ owns c.tc arg11 fullShare n10
      ∗ (iprop(owns c.tc arg1 fullShare x0 ∗ owns c.tc arg2 fullShare xl ∗ owns c.tc arg3 fullShare x1
          ∗ owns c.tc arg4 fullShare x2 ∗ owns c.tc arg5 fullShare x3 ∗ owns c.tc arg6 fullShare x4
          ∗ owns c.tc arg7 fullShare x5 ∗ owns c.tc arg8 fullShare (put (put w7 (k0_off1 i) S1024x256.size (FfnMidIdeal.Gen.k0_pay11 x2)) (k0_off2 i) S1024x256.size (FfnMidIdeal.Gen.k0_pay12 x3)) ∗ owns c.tc arg9 fullShare (put w8 (k0_off3 i) S256x1024.size (FfnMidIdeal.Gen.k0_pay13 x4))
          ∗ owns c.tc arg10 fullShare (FfnMidIdeal.Gen.k0_pay3 (FfnMidIdeal.Gen.k0_pay14 x2 x3 x4 FfnMidIdeal.Gen.k0_pay2 (FfnMidIdeal.Gen.k0_pay1 (rowsAt 0#32 x0 xl) x1))) ∗ owns c.tc arg11 fullShare (FfnMidIdeal.Gen.k0_pay1 (rowsAt 0#32 x0 xl) x1)) -∗ K ⟨⟩))
    ⊢ wp frame (wpE (defs₀ (F := F)) Variants.none c none) E
        (cc0_ffn i arg1 harg1 arg2 harg2 arg3 harg3 arg4 harg4 arg5 harg5 arg6 harg6 arg7 harg7 arg8 harg8 arg9 harg9 arg10 harg10 arg11 harg11) K := by
  simp only [cc0_ffn_eq_skeleton]; unfold cc0_ffn_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  sl_exec (disch := first | sl_exact h1 | sl_exact h2 | sl_exact h3 | sl_exact h4)
  sl_step
  iapply Hk
  isplitl [H1]
  · iexists _; isplitr; swap; · iexact H1
    ipureintro
    exact hf1
  isplitl [H2]
  · iexists _; isplitr; swap; · iexact H2
    ipureintro
    exact hf2
  isplitl [H3]
  · iexists _; isplitr; swap; · iexact H3
    ipureintro
    exact hf3
  isplitl [H4]
  · iexists _; isplitr; swap; · iexact H4
    ipureintro
    exact hf4
  isplitl [H5]
  · iexists _; isplitr; swap; · iexact H5
    ipureintro
    exact hf5
  isplitl [H6]
  · iexists _; isplitr; swap; · iexact H6
    ipureintro
    exact hf6
  isplitl [H7]
  · iexists _; isplitr; swap; · iexact H7
    ipureintro
    exact hf7
  isplitl [H8]
  · iexists _; isplitr; swap; · iexact H8
    ipureintro
    rw [View.read_writes_cons_put _ _ _ _ _ rfl, View.read_writes_cons_put _ _ _ _ _ rfl, View.writes_nil, hf8, View.readAt_full, View.readAt_full, hf4, hf5]
    rfl
  isplitl [H9]
  · iexists _; isplitr; swap; · iexact H9
    ipureintro
    rw [View.read_writes_cons_put _ _ _ _ _ rfl, View.writes_nil, hf9, View.readAt_full, hf6]
    rfl
  isplitl [H10]
  · iexists _; isplitr; swap; · iexact H10
    ipureintro
    frame_out; try rw [View.read_writes_full]
    rfl
  · iexists _; isplitr; swap; · iexact H11
    ipureintro
    frame_out; try rw [View.read_writes_full]
    rfl

set_option maxHeartbeats 4000000 in
/-- A later prologue point: one more chunk of the weights is brought in and used. -/
theorem runB (h1 : ¬ condA i) (h2 : k0_cond2 i = 1#1) (h3 : ¬ k0_cond3 i = 1#1) (h4 : ¬ k0_cond4 i = 1#1) (E : Set ℕ) (K : PUnit → sProp 𝕄) :
    iprop(owns c.tc arg1 fullShare x0 ∗ owns c.tc arg2 fullShare xl ∗ owns c.tc arg3 fullShare x1
      ∗ owns c.tc arg4 fullShare x2 ∗ owns c.tc arg5 fullShare x3 ∗ owns c.tc arg6 fullShare x4
      ∗ owns c.tc arg7 fullShare x5 ∗ owns c.tc arg8 fullShare w7 ∗ owns c.tc arg9 fullShare w8
      ∗ owns c.tc arg10 fullShare a9 ∗ owns c.tc arg11 fullShare n10
      ∗ (iprop(owns c.tc arg1 fullShare x0 ∗ owns c.tc arg2 fullShare xl ∗ owns c.tc arg3 fullShare x1
          ∗ owns c.tc arg4 fullShare x2 ∗ owns c.tc arg5 fullShare x3 ∗ owns c.tc arg6 fullShare x4
          ∗ owns c.tc arg7 fullShare x5 ∗ owns c.tc arg8 fullShare (put (put w7 (k0_off1 i) S1024x256.size (FfnMidIdeal.Gen.k0_pay11 x2)) (k0_off2 i) S1024x256.size (FfnMidIdeal.Gen.k0_pay12 x3)) ∗ owns c.tc arg9 fullShare (put w8 (k0_off3 i) S256x1024.size (FfnMidIdeal.Gen.k0_pay13 x4))
          ∗ owns c.tc arg10 fullShare (FfnMidIdeal.Gen.k0_pay3 (FfnMidIdeal.Gen.k0_pay14 x2 x3 x4 a9 n10)) ∗ owns c.tc arg11 fullShare n10) -∗ K ⟨⟩))
    ⊢ wp frame (wpE (defs₀ (F := F)) Variants.none c none) E
        (cc0_ffn i arg1 harg1 arg2 harg2 arg3 harg3 arg4 harg4 arg5 harg5 arg6 harg6 arg7 harg7 arg8 harg8 arg9 harg9 arg10 harg10 arg11 harg11) K := by
  simp only [cc0_ffn_eq_skeleton]; unfold cc0_ffn_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  sl_exec (disch := first | sl_exact h1 | sl_exact h2 | sl_exact h3 | sl_exact h4)
  sl_step
  iapply Hk
  isplitl [H1]
  · iexists _; isplitr; swap; · iexact H1
    ipureintro
    exact hf1
  isplitl [H2]
  · iexists _; isplitr; swap; · iexact H2
    ipureintro
    exact hf2
  isplitl [H3]
  · iexists _; isplitr; swap; · iexact H3
    ipureintro
    exact hf3
  isplitl [H4]
  · iexists _; isplitr; swap; · iexact H4
    ipureintro
    exact hf4
  isplitl [H5]
  · iexists _; isplitr; swap; · iexact H5
    ipureintro
    exact hf5
  isplitl [H6]
  · iexists _; isplitr; swap; · iexact H6
    ipureintro
    exact hf6
  isplitl [H7]
  · iexists _; isplitr; swap; · iexact H7
    ipureintro
    exact hf7
  isplitl [H8]
  · iexists _; isplitr; swap; · iexact H8
    ipureintro
    rw [View.read_writes_cons_put _ _ _ _ _ rfl, View.read_writes_cons_put _ _ _ _ _ rfl, View.writes_nil, hf8, View.readAt_full, View.readAt_full, hf4, hf5]
    rfl
  isplitl [H9]
  · iexists _; isplitr; swap; · iexact H9
    ipureintro
    rw [View.read_writes_cons_put _ _ _ _ _ rfl, View.writes_nil, hf9, View.readAt_full, hf6]
    rfl
  isplitl [H10]
  · iexists _; isplitr; swap; · iexact H10
    ipureintro
    frame_out; try rw [View.read_writes_full]
    rfl
  · iexists _; isplitr; swap; · iexact H11
    ipureintro
    exact hf11

set_option maxHeartbeats 4000000 in
/-- The last prologue point: the last chunk, and the first row tile is written. -/
theorem runC (h1 : ¬ condA i) (h2 : k0_cond2 i = 1#1) (h3 : k0_cond3 i = 1#1) (h4 : ¬ k0_cond4 i = 1#1) (E : Set ℕ) (K : PUnit → sProp 𝕄) :
    iprop(owns c.tc arg1 fullShare x0 ∗ owns c.tc arg2 fullShare xl ∗ owns c.tc arg3 fullShare x1
      ∗ owns c.tc arg4 fullShare x2 ∗ owns c.tc arg5 fullShare x3 ∗ owns c.tc arg6 fullShare x4
      ∗ owns c.tc arg7 fullShare x5 ∗ owns c.tc arg8 fullShare w7 ∗ owns c.tc arg9 fullShare w8
      ∗ owns c.tc arg10 fullShare a9 ∗ owns c.tc arg11 fullShare n10
      ∗ (iprop(owns c.tc arg1 fullShare x0 ∗ owns c.tc arg2 fullShare xl ∗ owns c.tc arg3 fullShare x1
          ∗ owns c.tc arg4 fullShare x2 ∗ owns c.tc arg5 fullShare x3 ∗ owns c.tc arg6 fullShare x4
          ∗ owns c.tc arg7 fullShare (FfnMidIdeal.Gen.k0_pay4 (rowsAt 0#32 x0 xl) (FfnMidIdeal.Gen.k0_pay3 (FfnMidIdeal.Gen.k0_pay14 x2 x3 x4 a9 n10))) ∗ owns c.tc arg8 fullShare (put (put w7 (k0_off1 i) S1024x256.size (FfnMidIdeal.Gen.k0_pay11 x2)) (k0_off2 i) S1024x256.size (FfnMidIdeal.Gen.k0_pay12 x3)) ∗ owns c.tc arg9 fullShare (put w8 (k0_off3 i) S256x1024.size (FfnMidIdeal.Gen.k0_pay13 x4))
          ∗ owns c.tc arg10 fullShare (FfnMidIdeal.Gen.k0_pay3 (FfnMidIdeal.Gen.k0_pay14 x2 x3 x4 a9 n10)) ∗ owns c.tc arg11 fullShare n10) -∗ K ⟨⟩))
    ⊢ wp frame (wpE (defs₀ (F := F)) Variants.none c none) E
        (cc0_ffn i arg1 harg1 arg2 harg2 arg3 harg3 arg4 harg4 arg5 harg5 arg6 harg6 arg7 harg7 arg8 harg8 arg9 harg9 arg10 harg10 arg11 harg11) K := by
  simp only [cc0_ffn_eq_skeleton]; unfold cc0_ffn_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  sl_exec (disch := first | sl_exact h1 | sl_exact h2 | sl_exact h3 | sl_exact h4)
  sl_step
  iapply Hk
  isplitl [H1]
  · iexists _; isplitr; swap; · iexact H1
    ipureintro
    exact hf1
  isplitl [H2]
  · iexists _; isplitr; swap; · iexact H2
    ipureintro
    exact hf2
  isplitl [H3]
  · iexists _; isplitr; swap; · iexact H3
    ipureintro
    exact hf3
  isplitl [H4]
  · iexists _; isplitr; swap; · iexact H4
    ipureintro
    exact hf4
  isplitl [H5]
  · iexists _; isplitr; swap; · iexact H5
    ipureintro
    exact hf5
  isplitl [H6]
  · iexists _; isplitr; swap; · iexact H6
    ipureintro
    exact hf6
  isplitl [H7]
  · iexists _; isplitr; swap; · iexact H7
    ipureintro
    frame_out; try rw [View.read_writes_full]
    rfl
  isplitl [H8]
  · iexists _; isplitr; swap; · iexact H8
    ipureintro
    rw [View.read_writes_cons_put _ _ _ _ _ rfl, View.read_writes_cons_put _ _ _ _ _ rfl, View.writes_nil, hf8, View.readAt_full, View.readAt_full, hf4, hf5]
    rfl
  isplitl [H9]
  · iexists _; isplitr; swap; · iexact H9
    ipureintro
    rw [View.read_writes_cons_put _ _ _ _ _ rfl, View.writes_nil, hf9, View.readAt_full, hf6]
    rfl
  isplitl [H10]
  · iexists _; isplitr; swap; · iexact H10
    ipureintro
    frame_out; try rw [View.read_writes_full]
    rfl
  · iexists _; isplitr; swap; · iexact H11
    ipureintro
    exact hf11

set_option maxHeartbeats 4000000 in
/-- A point after the prologue: a whole row tile from the resident weights. -/
theorem runD (h1 : ¬ condA i) (h2 : ¬ k0_cond2 i = 1#1) (h3 : ¬ k0_cond3 i = 1#1) (h4 : k0_cond4 i = 1#1) (E : Set ℕ) (K : PUnit → sProp 𝕄) :
    iprop(owns c.tc arg1 fullShare x0 ∗ owns c.tc arg2 fullShare xl ∗ owns c.tc arg3 fullShare x1
      ∗ owns c.tc arg4 fullShare x2 ∗ owns c.tc arg5 fullShare x3 ∗ owns c.tc arg6 fullShare x4
      ∗ owns c.tc arg7 fullShare x5 ∗ owns c.tc arg8 fullShare w7 ∗ owns c.tc arg9 fullShare w8
      ∗ owns c.tc arg10 fullShare a9 ∗ owns c.tc arg11 fullShare n10
      ∗ (iprop(owns c.tc arg1 fullShare x0 ∗ owns c.tc arg2 fullShare xl ∗ owns c.tc arg3 fullShare x1
          ∗ owns c.tc arg4 fullShare x2 ∗ owns c.tc arg5 fullShare x3 ∗ owns c.tc arg6 fullShare x4
          ∗ owns c.tc arg7 fullShare (FfnMidIdeal.Gen.k0_pay7 (rowsAt (leadAt i) x0 xl) (accTile (rowsAt (leadAt i) x0 xl) x1 (gateOf w7) (upOf w7) (downOf w8))) ∗ owns c.tc arg8 fullShare w7 ∗ owns c.tc arg9 fullShare w8
          ∗ owns c.tc arg10 fullShare (accTile (rowsAt (leadAt i) x0 xl) x1 (gateOf w7) (upOf w7) (downOf w8)) ∗ owns c.tc arg11 fullShare n10) -∗ K ⟨⟩))
    ⊢ wp frame (wpE (defs₀ (F := F)) Variants.none c none) E
        (cc0_ffn i arg1 harg1 arg2 harg2 arg3 harg3 arg4 harg4 arg5 harg5 arg6 harg6 arg7 harg7 arg8 harg8 arg9 harg9 arg10 harg10 arg11 harg11) K := by
  simp only [cc0_ffn_eq_skeleton]; unfold cc0_ffn_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  sl_exec (disch := first | sl_exact h1 | sl_exact h2 | sl_exact h3 | sl_exact h4)
  sl_step
  iapply Hk
  isplitl [H1]
  · iexists _; isplitr; swap; · iexact H1
    ipureintro
    exact hf1
  isplitl [H2]
  · iexists _; isplitr; swap; · iexact H2
    ipureintro
    exact hf2
  isplitl [H3]
  · iexists _; isplitr; swap; · iexact H3
    ipureintro
    exact hf3
  isplitl [H4]
  · iexists _; isplitr; swap; · iexact H4
    ipureintro
    exact hf4
  isplitl [H5]
  · iexists _; isplitr; swap; · iexact H5
    ipureintro
    exact hf5
  isplitl [H6]
  · iexists _; isplitr; swap; · iexact H6
    ipureintro
    exact hf6
  isplitl [H7]
  · iexists _; isplitr; swap; · iexact H7
    ipureintro
    frame_out; try rw [View.read_writes_full]
    rfl
  isplitl [H8]
  · iexists _; isplitr; swap; · iexact H8
    ipureintro
    exact hf8
  isplitl [H9]
  · iexists _; isplitr; swap; · iexact H9
    ipureintro
    exact hf9
  isplitl [H10]
  · iexists _; isplitr; swap; · iexact H10
    ipureintro
    frame_out; try rw [View.read_writes_full]
    rfl
  · iexists _; isplitr; swap; · iexact H11
    ipureintro
    exact hf11

end Cert.FfnLeadIdeal.Hand

end
-- ==== Proof.FfnMidBody.lean ====
module

public import proofs.«01_k».proof.Proof.FfnMidRun
public import proofs.«01_k».proof.Proof.Gen.FfnMidIdeal.Frame
public import proofs.«01_k».proof.Proof.Gen.FfnMidIdeal.Skeleton
public import Idealize.ShloMosaic.Lib.Pipeline.ValueKit
public import Idealize.ShloMosaic.Lib.Claim

@[expose] public section

set_option maxRecDepth 16384

noncomputable section

namespace Cert.FfnMidIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnMidIdeal.Gen

variable {F : FTy → Type} [FloatOps F]

local notation "𝕄" => MT nD τ sig Unit (Elt F) ℕ (UR sig nD τ) ℕ

open VecWindow

/-! # The feed-forward kernel's grid, point by point, and its run

What the resident buffers hold between points (`Inv`), the body at every point, and the launch. -/

/-! ## The resident weights, chunk by chunk -/

section Chunks
variable (w7 : Vec F S1024x5632 .bf16) (w8 : Vec F S2816x1024 .bf16) (t j : Fin 11) (p q : Vec F S1024x256 .bf16) (r : Vec F S256x1024 .bf16)

/-- Storing chunk `t` of both halves of the input weights changes the gate's chunk `t` alone; -/
theorem gate_put : gateOf (put (put w7 ![0, 256 * t.val] S1024x256.size p) ![0, 2816 + 256 * t.val] S1024x256.size q) j = if j = t then p else gateOf w7 j := by
  unfold gateOf
  rw [window_put_of_disjoint _ _ _ _ _ _ _ (1 : Fin 2) (Or.inl (by show 256 * j.val + 256 ≤ 2816 + 256 * t.val; omega))]
  split
  · next h => subst h; exact window_put_same _ _ _ _ _
  · next h =>
    have : j.val ≠ t.val := fun e => h (Fin.ext e)
    exact window_put_of_disjoint _ _ _ _ _ _ _ (1 : Fin 2) (by show 256 * j.val + 256 ≤ 256 * t.val ∨ 256 * t.val + 256 ≤ 256 * j.val; omega)

/-- the up half's chunk `t` alone; -/
theorem up_put : upOf (put (put w7 ![0, 256 * t.val] S1024x256.size p) ![0, 2816 + 256 * t.val] S1024x256.size q) j = if j = t then q else upOf w7 j := by
  unfold upOf
  split
  · next h => subst h; exact window_put_same _ _ _ _ _
  · next h =>
    have : j.val ≠ t.val := fun e => h (Fin.ext e)
    rw [window_put_of_disjoint _ _ _ _ _ _ _ (1 : Fin 2) (by show 2816 + 256 * j.val + 256 ≤ 2816 + 256 * t.val ∨ 2816 + 256 * t.val + 256 ≤ 2816 + 256 * j.val; omega)]
    exact window_put_of_disjoint _ _ _ _ _ _ _ (1 : Fin 2) (Or.inr (by show 256 * t.val + 256 ≤ 2816 + 256 * j.val; omega))

/-- and of the output weights the chunk `t` alone. -/
theorem down_put : downOf (put w8 ![256 * t.val, 0] S256x1024.size r) j = if j = t then r else downOf w8 j := by
  unfold downOf
  split
  · next h => subst h; exact window_put_same _ _ _ _ _
  · next h =>
    have : j.val ≠ t.val := fun e => h (Fin.ext e)
    exact window_put_of_disjoint _ _ _ _ _ _ _ (0 : Fin 2) (by show 256 * j.val + 256 ≤ 256 * t.val ∨ 256 * t.val + 256 ≤ 256 * j.val; omega)
end Chunks

/-! ## The schedule over the grid, decided -/

theorem hcondA : ∀ t : Fin cfg0.N, condA (grid0.coords t) ↔ t.val = 0 :=
  (by decide +kernel : ∀ t : Fin grid0.N, condA (grid0.coords t) ↔ t.val = 0)
theorem hcond2 : ∀ t : Fin cfg0.N, k0_cond2 (grid0.coords t) = 1#1 ↔ t.val < 11 :=
  (by decide +kernel : ∀ t : Fin grid0.N, k0_cond2 (grid0.coords t) = 1#1 ↔ t.val < 11)
theorem hcond3 : ∀ t : Fin cfg0.N, k0_cond3 (grid0.coords t) = 1#1 ↔ t.val = 10 :=
  (by decide +kernel : ∀ t : Fin grid0.N, k0_cond3 (grid0.coords t) = 1#1 ↔ t.val = 10)
theorem hcond4 : ∀ t : Fin cfg0.N, k0_cond4 (grid0.coords t) = 1#1 ↔ 11 ≤ t.val :=
  (by decide +kernel : ∀ t : Fin grid0.N, k0_cond4 (grid0.coords t) = 1#1 ↔ 11 ≤ t.val)
theorem hoff1 : ∀ t : Fin cfg0.N, t.val < 11 → k0_off1 (grid0.coords t) = ![0, 256 * t.val] :=
  (by decide +kernel : ∀ t : Fin grid0.N, t.val < 11 → k0_off1 (grid0.coords t) = ![0, 256 * t.val])
theorem hoff2 : ∀ t : Fin cfg0.N, t.val < 11 → k0_off2 (grid0.coords t) = ![0, 2816 + 256 * t.val] :=
  (by decide +kernel : ∀ t : Fin grid0.N, t.val < 11 → k0_off2 (grid0.coords t) = ![0, 2816 + 256 * t.val])
theorem hoff3 : ∀ t : Fin cfg0.N, t.val < 11 → k0_off3 (grid0.coords t) = ![256 * t.val, 0] :=
  (by decide +kernel : ∀ t : Fin grid0.N, t.val < 11 → k0_off3 (grid0.coords t) = ![256 * t.val, 0])
theorem hidle : ∀ t : Fin cfg0.N, t.val < 10 → cfg0.idle 5 (grid0.coords t) = true :=
  (by decide +kernel : ∀ t : Fin grid0.N, t.val < 10 → cfg0.idle 5 (grid0.coords t) = true)
theorem hlive : ∀ t : Fin cfg0.N, 10 ≤ t.val → cfg0.idle 5 (grid0.coords t) = false :=
  (by decide +kernel : ∀ t : Fin grid0.N, 10 ≤ t.val → cfg0.idle 5 (grid0.coords t) = false)
theorem hflush : ∀ t : Fin cfg0.N, (cfg0.win 5).flush t = true ↔ 10 ≤ t.val :=
  (by decide +kernel : ∀ t : Fin grid0.N, win0_5.flush t = true ↔ 10 ≤ t.val)

/-- The grid point numbered `n`. -/
def ptn (n : ℕ) : Fin cfg0.N := ⟨min n 31, by rw [show cfg0.N = 32 from N_0]; omega⟩
theorem ptn_val (t : Fin cfg0.N) : ptn t.val = t := Fin.ext (by
  have : t.val < 32 := lt_of_lt_of_eq t.isLt (show cfg0.N = 32 from N_0)
  show min t.val 31 = t.val; omega)

variable (m : (ℓ : Loc nD τ sig) → Buf (Elt F) ℓ) (ρ : Dev nD → PrngReg)

/-! ## What the points hold -/

/-- The first row tile, normalised. -/
def xn (c : Dev nD) : Vec F S768x1024 .bf16 := k0_pay1 (iblk m c 0 (ptn 0)) (iblk m c 1 (ptn 0))
/-- The first row tile's accumulator after `n` prologue points. -/
def accP (c : Dev nD) : ℕ → Vec F S768x1024 .f32
  | 0 => k0_pay2
  | n + 1 => k0_pay3 (k0_pay14 (iblk m c 2 (ptn n)) (iblk m c 3 (ptn n)) (iblk m c 4 (ptn n)) (accP c n) (xn m c))
/-- Chunk `j` of the gate weights, rounded, -/
def Gb (c : Dev nD) (j : Fin 11) : Vec F S1024x256 .bf16 := k0_pay11 (iblk m c 2 (ptn j.val))
/-- of the up weights, -/
def Ub (c : Dev nD) (j : Fin 11) : Vec F S1024x256 .bf16 := k0_pay12 (iblk m c 3 (ptn j.val))
/-- and of the output weights. -/
def Db (c : Dev nD) (j : Fin 11) : Vec F S256x1024 .bf16 := k0_pay13 (iblk m c 4 (ptn j.val))

/-- What the output's buffer holds after a point that writes it. -/
def outB (c : Dev nD) (t : Fin cfg0.N) : Vec F S768x1024 .f32 :=
  if t.val = 10 then k0_pay4 (iblk m c 0 t) (accP m c 11)
  else k0_pay7 (iblk m c 0 t) (accTile (iblk m c 0 t) (iblk m c 1 t) (Gb m c) (Ub m c) (Db m c))

/-- Before point `n` (not the first): the chunks brought in so far are in place, and during the prologue the normalised
    tile and the accumulator are the first tile's. -/
structure Inv (c : Dev nD) (n : ℕ) (w7 : Vec F S1024x5632 .bf16) (w8 : Vec F S2816x1024 .bf16) (a9 : Vec F S768x1024 .f32) (n10 : Vec F S768x1024 .bf16) : Prop where
  chunks : ∀ j : Fin 11, j.val < n → gateOf w7 j = Gb m c j ∧ upOf w7 j = Ub m c j ∧ downOf w8 j = Db m c j
  acc : n ≤ 11 → a9 = accP m c n
  norm : n ≤ 11 → n10 = xn m c

/-- A prologue point adds its own chunk. -/
theorem chunks_step (c : Dev nD) (t : Fin cfg0.N) (ht : t.val < 11) (w7 : Vec F S1024x5632 .bf16) (w8 : Vec F S2816x1024 .bf16)
    (h : ∀ j : Fin 11, j.val < t.val → gateOf w7 j = Gb m c j ∧ upOf w7 j = Ub m c j ∧ downOf w8 j = Db m c j) :
    ∀ j : Fin 11, j.val < t.val + 1 →
      gateOf (put (put w7 (k0_off1 (grid0.coords t)) S1024x256.size (k0_pay11 (iblk m c 2 t))) (k0_off2 (grid0.coords t)) S1024x256.size (k0_pay12 (iblk m c 3 t))) j = Gb m c j
      ∧ upOf (put (put w7 (k0_off1 (grid0.coords t)) S1024x256.size (k0_pay11 (iblk m c 2 t))) (k0_off2 (grid0.coords t)) S1024x256.size (k0_pay12 (iblk m c 3 t))) j = Ub m c j
      ∧ downOf (put w8 (k0_off3 (grid0.coords t)) S256x1024.size (k0_pay13 (iblk m c 4 t))) j = Db m c j := by
  intro j hj
  rw [hoff1 t ht, hoff2 t ht, hoff3 t ht]
  have hg := gate_put w7 ⟨t.val, ht⟩ j (k0_pay11 (iblk m c 2 t)) (k0_pay12 (iblk m c 3 t))
  have hu := up_put w7 ⟨t.val, ht⟩ j (k0_pay11 (iblk m c 2 t)) (k0_pay12 (iblk m c 3 t))
  have hd := down_put w8 ⟨t.val, ht⟩ j (k0_pay13 (iblk m c 4 t))
  refine ⟨hg.trans ?_, hu.trans ?_, hd.trans ?_⟩
  all_goals
    by_cases e : j = ⟨t.val, ht⟩
    · rw [if_pos e]; subst e
      first | (unfold Gb; rw [ptn_val]) | (unfold Ub; rw [ptn_val]) | (unfold Db; rw [ptn_val])
    · rw [if_neg e]
      have hlt : j.val < t.val := by
        have : j.val ≠ t.val := fun h => e (Fin.ext h)
        omega
      first | exact (h j hlt).1 | exact (h j hlt).2.1 | exact (h j hlt).2.2

theorem accP_succ (c : Dev nD) (t : Fin cfg0.N) :
    k0_pay3 (k0_pay14 (iblk m c 2 t) (iblk m c 3 t) (iblk m c 4 t) (accP m c t.val) (xn m c)) = accP m c (t.val + 1) := by
  rw [accP, ptn_val]

/-! ## The invariant between points -/

abbrev sc0 : Memref sig .tc .vmem S1024x5632 .bf16 := Memref.whole cc0_scratch0
abbrev sc1 : Memref sig .tc .vmem S2816x1024 .bf16 := Memref.whole cc0_scratch1
abbrev sc2 : Memref sig .tc .vmem S768x1024 .f32 := Memref.whole cc0_scratch2
abbrev sc3 : Memref sig .tc .vmem S768x1024 .bf16 := Memref.whole cc0_scratch3

/-- The region's four scratch buffers at anything. -/
theorem PhiA0_eq (c : Dev nD) :
    (Pipeline.ΦA spec0 c : sProp 𝕄)
      = iprop(iprop((∃ d, owns c.tc sc0 fullShare d) ∗ (∃ d, owns c.tc sc1 fullShare d)
          ∗ (∃ d, owns c.tc sc2 fullShare d) ∗ (∃ d, owns c.tc sc3 fullShare d)) ∗ (∃ r, prngReg c r)) := by
  unfold Pipeline.ΦA; rw [scopedRest0_eq]; simp only [sc0, sc1, sc2, sc3, owns_whole]; try rfl

/-- The four scratch buffers at contents the invariant admits. -/
def PhiI (c : Dev nD) (n : ℕ) : sProp 𝕄 :=
  iprop(∃ w7 : Vec F S1024x5632 .bf16, ∃ w8 : Vec F S2816x1024 .bf16, ∃ a9 : Vec F S768x1024 .f32, ∃ n10 : Vec F S768x1024 .bf16,
    ⌜Inv m c n w7 w8 a9 n10⌝ ∗ owns c.tc sc0 fullShare w7 ∗ owns c.tc sc1 fullShare w8
      ∗ owns c.tc sc2 fullShare a9 ∗ owns c.tc sc3 fullShare n10 ∗ (∃ r, prngReg c r))

/-- Before the first point anything; afterwards what the points so far have left. -/
def PhiS (c : Dev nD) : (n : ℕ) → n ≤ cfg0.N → sProp 𝕄
  | 0, _ => Pipeline.ΦA spec0 c
  | n + 1, _ => PhiI m c (n + 1)

theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) : PhiS m c n h = PhiI m c n := by
  cases n with
  | zero => exact absurd rfl hz
  | succ n => rfl

/-- The pipeline's proof data: every input's buffer holds its block, the output's what the point wrote. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outB m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outB m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-! ## The body at every point -/

abbrev ms0 (t : Fin cfg0.N) : Memref sig .tc .vmem S768x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1x1024x256 .f32 := win0_2.stage (cfg0.slots t 2)
abbrev ms3 (t : Fin cfg0.N) : Memref sig .tc .vmem S1x1024x256 .f32 := win0_3.stage (cfg0.slots t 3)
abbrev ms4 (t : Fin cfg0.N) : Memref sig .tc .vmem S1x256x1024 .f32 := win0_4.stage (cfg0.slots t 4)
abbrev ms5 (t : Fin cfg0.N) : Memref sig .tc .vmem S768x1024 .f32 := win0_5.stage (cfg0.slots t 5)

/-- What the body is called with at point `t`, -/
def bodyPre (c : Dev nD) (t : Fin cfg0.N) : sProp 𝕄 :=
  iprop((dats m 0 c).Φ t.castSucc ∗ (dats m 0 c).owesAt () t.castSucc
    ∗ (∃ d, owns c.tc (ms0 t) fullShare ((dats m 0 c).before 0 t d))
    ∗ (∃ d, owns c.tc (ms1 t) fullShare ((dats m 0 c).before 1 t d))
    ∗ (∃ d, owns c.tc (ms2 t) fullShare ((dats m 0 c).before 2 t d))
    ∗ (∃ d, owns c.tc (ms3 t) fullShare ((dats m 0 c).before 3 t d))
    ∗ (∃ d, owns c.tc (ms4 t) fullShare ((dats m 0 c).before 4 t d))
    ∗ (∃ d, owns c.tc (ms5 t) fullShare ((dats m 0 c).before 5 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- What an input window leaves: its block again. -/
theorem leaves_in (c : Dev nD) (t : Fin cfg0.N) :
    (dats m 0 c).leavesExact 0 t = owns c.tc (ms0 t) fullShare (iblk m c 0 t)
    ∧ (dats m 0 c).leavesExact 1 t = owns c.tc (ms1 t) fullShare (iblk m c 1 t)
    ∧ (dats m 0 c).leavesExact 2 t = owns c.tc (ms2 t) fullShare (iblk m c 2 t)
    ∧ (dats m 0 c).leavesExact 3 t = owns c.tc (ms3 t) fullShare (iblk m c 3 t)
    ∧ (dats m 0 c).leavesExact 4 t = owns c.tc (ms4 t) fullShare (iblk m c 4 t) := by
  refine ⟨?_, ?_, ?_, ?_, ?_⟩
  · unfold Dat.leavesExact; rw [show cfg0.idle 0 (cfg0.grid.coords t) = false from rfl, after0_0]
  · unfold Dat.leavesExact; rw [show cfg0.idle 1 (cfg0.grid.coords t) = false from rfl, after0_1]
  · unfold Dat.leavesExact; rw [show cfg0.idle 2 (cfg0.grid.coords t) = false from rfl, after0_2]
  · unfold Dat.leavesExact; rw [show cfg0.idle 3 (cfg0.grid.coords t) = false from rfl, after0_3]
  · unfold Dat.leavesExact; rw [show cfg0.idle 4 (cfg0.grid.coords t) = false from rfl, after0_4]
/-- The output window during the prologue: untouched; -/
theorem leaves_idle (c : Dev nD) (t : Fin cfg0.N) (h : t.val < 10) :
    (dats m 0 c).leavesExact 5 t = iprop(∃ d, owns c.tc (ms5 t) fullShare ((dats m 0 c).before 5 t d)) :=
  Dat.leavesExact_idle _ 5 t (hidle t h) (Bool.eq_false_iff.2 fun e => by have := (hflush t).1 e; omega)
/-- afterwards: the tile written. -/
theorem leaves_live (c : Dev nD) (t : Fin cfg0.N) (h : 10 ≤ t.val) :
    (dats m 0 c).leavesExact 5 t = owns c.tc (ms5 t) fullShare (outB m c t) := by
  unfold Dat.leavesExact; rw [show cfg0.idle 5 (cfg0.grid.coords t) = false from hlive t h, after0_5]

/-- After the first point the invariant holds. -/
theorem inv_first (c : Dev nD) (t : Fin cfg0.N) (hz : t.val = 0) (w7 : Vec F S1024x5632 .bf16) (w8 : Vec F S2816x1024 .bf16) :
    Inv m c (t.val + 1)
      (put (put w7 (k0_off1 (grid0.coords t)) S1024x256.size (k0_pay11 (iblk m c 2 t))) (k0_off2 (grid0.coords t)) S1024x256.size (k0_pay12 (iblk m c 3 t)))
      (put w8 (k0_off3 (grid0.coords t)) S256x1024.size (k0_pay13 (iblk m c 4 t)))
      (k0_pay3 (k0_pay14 (iblk m c 2 t) (iblk m c 3 t) (iblk m c 4 t) k0_pay2 (k0_pay1 (iblk m c 0 t) (iblk m c 1 t))))
      (k0_pay1 (iblk m c 0 t) (iblk m c 1 t)) := by
  have e : ptn 0 = t := by rw [← hz]; exact ptn_val t
  have en : (k0_pay1 (iblk m c 0 t) (iblk m c 1 t) : Vec F S768x1024 .bf16) = xn m c := by rw [xn, e]
  refine ⟨chunks_step m c t (by omega) w7 w8 fun j hj => absurd hj (by omega), fun _ => ?_, fun _ => en⟩
  rw [en, ← accP_succ, hz]; rfl

set_option maxHeartbeats 2000000 in
/-- The first point; -/
theorem soundA (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  obtain ⟨e0, e1, e2, e3, e4⟩ := leaves_in m c t
  rw [e0, e1, e2, e3, e4]
  have hN : t.val < 32 := lt_of_lt_of_eq t.isLt (show cfg0.N = 32 from N_0)
  rw [leaves_idle m c t (by omega), PhiS_castSucc m c t, PhiS_zero m c _ _ hz, PhiA0_eq]
  iintro ⟨⟨⟨⟨%w7, S0⟩, ⟨%w8, S1⟩, ⟨%a9, S2⟩, ⟨%n10, S3⟩⟩, Hg⟩, Ho, ⟨%d0, H0⟩, ⟨%d1, H1⟩, ⟨%d2, H2⟩, ⟨%d3, H3⟩, ⟨%d4, H4⟩, ⟨%d5, H5⟩⟩
  iapply (runA c (grid0.coords t) _ _ _ _ _ _ _ _ _ _ _ _ _ _ _ _ _ _ _ _ (iblk m c 0 t) (iblk m c 1 t) (iblk m c 2 t) (iblk m c 3 t) (iblk m c 4 t) _ _ _ _ _ ((hcondA t).2 hz) ((hcond2 t).2 (by omega)) (fun h => by have := (hcond3 t).1 h; omega) (fun h => by have := (hcond4 t).1 h; omega) Set.univ _)
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  iintro ⟨H0, H1, H2, H3, H4, H5, S0, S1, S2, S3⟩
  isplitl [S0 S1 S2 S3 Hg]
  · try unfold PhiI
    iexists _; iexists _; iexists _; iexists _
    isplitr
    · ipureintro
      exact inv_first m c t hz w7 w8
    isplitl [S0]; · iexact S0
    isplitl [S1]; · iexact S1
    isplitl [S2]; · iexact S2
    isplitl [S3]; · iexact S3
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 2000000 in
/-- a later prologue point; -/
theorem soundB (c : Dev nD) (t : Fin cfg0.N) (hz : t.val ≠ 0) (hb : t.val < 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  obtain ⟨e0, e1, e2, e3, e4⟩ := leaves_in m c t
  rw [e0, e1, e2, e3, e4]
  have hN : t.val < 32 := lt_of_lt_of_eq t.isLt (show cfg0.N = 32 from N_0)
  rw [leaves_idle m c t (by omega)]
  rw [PhiS_castSucc m c t, PhiS_pos m c _ _ hz]
  unfold PhiI
  iintro ⟨HP, Ho, ⟨%d0, H0⟩, ⟨%d1, H1⟩, ⟨%d2, H2⟩, ⟨%d3, H3⟩, ⟨%d4, H4⟩, ⟨%d5, H5⟩⟩
  icases HP with ⟨%w7, %w8, %a9, %n10, %hi, S0, S1, S2, S3, Hg⟩
  iapply (runB c (grid0.coords t) _ _ _ _ _ _ _ _ _ _ _ _ _ _ _ _ _ _ _ _ (iblk m c 0 t) (iblk m c 1 t) (iblk m c 2 t) (iblk m c 3 t) (iblk m c 4 t) _ _ _ _ _ (fun h => hz ((hcondA t).1 h)) ((hcond2 t).2 (by omega)) (fun h => by have := (hcond3 t).1 h; omega) (fun h => by have := (hcond4 t).1 h; omega) Set.univ _)
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  iintro ⟨H0, H1, H2, H3, H4, H5, S0, S1, S2, S3⟩
  isplitl [S0 S1 S2 S3 Hg]
  · try unfold PhiI
    iexists (put (put w7 (k0_off1 (grid0.coords t)) S1024x256.size (k0_pay11 (iblk m c 2 t))) (k0_off2 (grid0.coords t)) S1024x256.size (k0_pay12 (iblk m c 3 t))); iexists (put w8 (k0_off3 (grid0.coords t)) S256x1024.size (k0_pay13 (iblk m c 4 t))); iexists (k0_pay3 (k0_pay14 (iblk m c 2 t) (iblk m c 3 t) (iblk m c 4 t) a9 n10)); iexists n10
    isplitr
    · ipureintro
      exact ⟨chunks_step m c t (by omega) w7 w8 hi.chunks, fun _ => by rw [hi.acc (by omega), hi.norm (by omega)]; exact accP_succ m c t, fun _ => hi.norm (by omega)⟩
    isplitl [S0]; · iexact S0
    isplitl [S1]; · iexact S1
    isplitl [S2]; · iexact S2
    isplitl [S3]; · iexact S3
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 2000000 in
/-- the last prologue point; -/
theorem soundC (c : Dev nD) (t : Fin cfg0.N) (hz : t.val ≠ 0) (hb : t.val = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  obtain ⟨e0, e1, e2, e3, e4⟩ := leaves_in m c t
  rw [e0, e1, e2, e3, e4]
  have hN : t.val < 32 := lt_of_lt_of_eq t.isLt (show cfg0.N = 32 from N_0)
  rw [leaves_live m c t (by omega)]
  rw [PhiS_castSucc m c t, PhiS_pos m c _ _ hz]
  unfold PhiI
  iintro ⟨HP, Ho, ⟨%d0, H0⟩, ⟨%d1, H1⟩, ⟨%d2, H2⟩, ⟨%d3, H3⟩, ⟨%d4, H4⟩, ⟨%d5, H5⟩⟩
  icases HP with ⟨%w7, %w8, %a9, %n10, %hi, S0, S1, S2, S3, Hg⟩
  rw [show outB m c t = k0_pay4 (iblk m c 0 t) (k0_pay3 (k0_pay14 (iblk m c 2 t) (iblk m c 3 t) (iblk m c 4 t) a9 n10)) from by
    rw [outB, if_pos hb, hi.acc (by omega), hi.norm (by omega), accP_succ, hb]]
  iapply (runC c (grid0.coords t) _ _ _ _ _ _ _ _ _ _ _ _ _ _ _ _ _ _ _ _ (iblk m c 0 t) (iblk m c 1 t) (iblk m c 2 t) (iblk m c 3 t) (iblk m c 4 t) _ _ _ _ _ (fun h => hz ((hcondA t).1 h)) ((hcond2 t).2 (by omega)) ((hcond3 t).2 hb) (fun h => by have := (hcond4 t).1 h; omega) Set.univ _)
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  iintro ⟨H0, H1, H2, H3, H4, H5, S0, S1, S2, S3⟩
  isplitl [S0 S1 S2 S3 Hg]
  · try unfold PhiI
    iexists (put (put w7 (k0_off1 (grid0.coords t)) S1024x256.size (k0_pay11 (iblk m c 2 t))) (k0_off2 (grid0.coords t)) S1024x256.size (k0_pay12 (iblk m c 3 t))); iexists (put w8 (k0_off3 (grid0.coords t)) S256x1024.size (k0_pay13 (iblk m c 4 t))); iexists (k0_pay3 (k0_pay14 (iblk m c 2 t) (iblk m c 3 t) (iblk m c 4 t) a9 n10)); iexists n10
    isplitr
    · ipureintro
      exact ⟨chunks_step m c t (by omega) w7 w8 hi.chunks, fun _ => by rw [hi.acc (by omega), hi.norm (by omega)]; exact accP_succ m c t, fun _ => hi.norm (by omega)⟩
    isplitl [S0]; · iexact S0
    isplitl [S1]; · iexact S1
    isplitl [S2]; · iexact S2
    isplitl [S3]; · iexact S3
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 2000000 in
/-- and a point after the prologue. -/
theorem soundD (c : Dev nD) (t : Fin cfg0.N) (hz : t.val ≠ 0) (hb : 11 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  obtain ⟨e0, e1, e2, e3, e4⟩ := leaves_in m c t
  rw [e0, e1, e2, e3, e4]
  have hN : t.val < 32 := lt_of_lt_of_eq t.isLt (show cfg0.N = 32 from N_0)
  rw [leaves_live m c t (by omega)]
  rw [PhiS_castSucc m c t, PhiS_pos m c _ _ hz]
  unfold PhiI
  iintro ⟨HP, Ho, ⟨%d0, H0⟩, ⟨%d1, H1⟩, ⟨%d2, H2⟩, ⟨%d3, H3⟩, ⟨%d4, H4⟩, ⟨%d5, H5⟩⟩
  icases HP with ⟨%w7, %w8, %a9, %n10, %hi, S0, S1, S2, S3, Hg⟩
  rw [show outB m c t = k0_pay7 (iblk m c 0 t) (accTile (iblk m c 0 t) (iblk m c 1 t) (gateOf w7) (upOf w7) (downOf w8)) from by
    rw [outB, if_neg (by omega), show gateOf w7 = Gb m c from funext fun j => (hi.chunks j (by omega)).1, show upOf w7 = Ub m c from funext fun j => (hi.chunks j (by omega)).2.1,
      show downOf w8 = Db m c from funext fun j => (hi.chunks j (by omega)).2.2]]
  iapply (runD c (grid0.coords t) _ _ _ _ _ _ _ _ _ _ _ _ _ _ _ _ _ _ _ _ (iblk m c 0 t) (iblk m c 1 t) (iblk m c 2 t) (iblk m c 3 t) (iblk m c 4 t) _ _ _ _ _ (fun h => hz ((hcondA t).1 h)) (fun h => by have := (hcond2 t).1 h; omega) (fun h => by have := (hcond3 t).1 h; omega) ((hcond4 t).2 hb) Set.univ _)
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  iintro ⟨H0, H1, H2, H3, H4, H5, S0, S1, S2, S3⟩
  isplitl [S0 S1 S2 S3 Hg]
  · try unfold PhiI
    iexists w7; iexists w8; iexists (accTile (iblk m c 0 t) (iblk m c 1 t) (gateOf w7) (upOf w7) (downOf w8)); iexists n10
    isplitr
    · ipureintro
      exact ⟨fun j _ => hi.chunks j (by omega), fun h => absurd h (by omega), fun h => absurd h (by omega)⟩
    isplitl [S0]; · iexact S0
    isplitl [S1]; · iexact S1
    isplitl [S2]; · iexact S2
    isplitl [S3]; · iexact S3
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact soundA m c t hz
  by_cases hb : t.val < 10
  · exact soundB m c t hz hb
  by_cases hc : t.val = 10
  · exact soundC m c t hz hc
  exact soundD m c t hz (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hne : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ hne, PhiA0_eq]
  unfold PhiI
  iintro ⟨%w7, %w8, %a9, %n10, %hi, S0, S1, S2, S3, Hg⟩
  isplitl [S0 S1 S2 S3]
  · isplitl [S0]; · iexists _; iexact S0
    isplitl [S1]; · iexists _; iexact S1
    isplitl [S2]; · iexists _; iexact S2
    iexists _; iexact S3
  iexact Hg

/-! ## The launch -/

set_option backward.isDefEq.respectTransparency.types false in
/-- Every execution ends, with every array at what the points left in it and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.FfnMidIdeal.Hand

end
-- ==== Proof.FfnLeadBody.lean ====
module

public import proofs.«01_k».proof.Proof.FfnLeadRun
public import proofs.«01_k».proof.Proof.FfnMidBody
public import proofs.«01_k».proof.Proof.Gen.FfnLeadIdeal.Frame
public import proofs.«01_k».proof.Proof.Gen.FfnLeadIdeal.Skeleton
public import Idealize.ShloMosaic.Lib.Pipeline.ValueKit
public import Idealize.ShloMosaic.Lib.Claim

@[expose] public section

set_option maxRecDepth 16384

noncomputable section

namespace Cert.FfnLeadIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnLeadIdeal.Gen
open Cert.FfnMidIdeal.Hand (gateOf upOf downOf accTile gate_put up_put down_put)

variable {F : FTy → Type} [FloatOps F]

local notation "𝕄" => MT nD τ sig Unit (Elt F) ℕ (UR sig nD τ) ℕ

open VecWindow

/-! # The first feed-forward kernel's grid, point by point, and its run

What the resident buffers hold between points (`Inv`), the body at every point, and the launch. -/

/-! ## The schedule over the grid, decided -/

theorem hcondA : ∀ t : Fin cfg0.N, condA (grid0.coords t) ↔ t.val = 0 :=
  (by decide +kernel : ∀ t : Fin grid0.N, condA (grid0.coords t) ↔ t.val = 0)
theorem hcond2 : ∀ t : Fin cfg0.N, k0_cond2 (grid0.coords t) = 1#1 ↔ t.val < 11 :=
  (by decide +kernel : ∀ t : Fin grid0.N, k0_cond2 (grid0.coords t) = 1#1 ↔ t.val < 11)
theorem hcond3 : ∀ t : Fin cfg0.N, k0_cond3 (grid0.coords t) = 1#1 ↔ t.val = 10 :=
  (by decide +kernel : ∀ t : Fin grid0.N, k0_cond3 (grid0.coords t) = 1#1 ↔ t.val = 10)
theorem hcond4 : ∀ t : Fin cfg0.N, k0_cond4 (grid0.coords t) = 1#1 ↔ 11 ≤ t.val :=
  (by decide +kernel : ∀ t : Fin grid0.N, k0_cond4 (grid0.coords t) = 1#1 ↔ 11 ≤ t.val)
theorem hoff1 : ∀ t : Fin cfg0.N, t.val < 11 → k0_off1 (grid0.coords t) = ![0, 256 * t.val] :=
  (by decide +kernel : ∀ t : Fin grid0.N, t.val < 11 → k0_off1 (grid0.coords t) = ![0, 256 * t.val])
theorem hoff2 : ∀ t : Fin cfg0.N, t.val < 11 → k0_off2 (grid0.coords t) = ![0, 2816 + 256 * t.val] :=
  (by decide +kernel : ∀ t : Fin grid0.N, t.val < 11 → k0_off2 (grid0.coords t) = ![0, 2816 + 256 * t.val])
theorem hoff3 : ∀ t : Fin cfg0.N, t.val < 11 → k0_off3 (grid0.coords t) = ![256 * t.val, 0] :=
  (by decide +kernel : ∀ t : Fin grid0.N, t.val < 11 → k0_off3 (grid0.coords t) = ![256 * t.val, 0])
theorem hidle : ∀ t : Fin cfg0.N, t.val < 10 → cfg0.idle 6 (grid0.coords t) = true :=
  (by decide +kernel : ∀ t : Fin grid0.N, t.val < 10 → cfg0.idle 6 (grid0.coords t) = true)
theorem hlive : ∀ t : Fin cfg0.N, 10 ≤ t.val → cfg0.idle 6 (grid0.coords t) = false :=
  (by decide +kernel : ∀ t : Fin grid0.N, 10 ≤ t.val → cfg0.idle 6 (grid0.coords t) = false)
theorem hflush : ∀ t : Fin cfg0.N, (cfg0.win 6).flush t = true ↔ 10 ≤ t.val :=
  (by decide +kernel : ∀ t : Fin grid0.N, win0_6.flush t = true ↔ 10 ≤ t.val)

theorem hlead : ∀ t : Fin cfg0.N, 11 ≤ t.val → leadAt (grid0.coords t) = BitVec.ofNat 32 ((33 - 6 * (t.val - 10) % 33) % 33) :=
  (by decide +kernel : ∀ t : Fin grid0.N, 11 ≤ t.val → leadAt (grid0.coords t) = BitVec.ofNat 32 ((33 - 6 * (t.val - 10) % 33) % 33))

/-- The grid point numbered `n`. -/
def ptn (n : ℕ) : Fin cfg0.N := ⟨min n 31, by rw [show cfg0.N = 32 from N_0]; omega⟩
theorem ptn_val (t : Fin cfg0.N) : ptn t.val = t := Fin.ext (by
  have : t.val < 32 := lt_of_lt_of_eq t.isLt (show cfg0.N = 32 from N_0)
  show min t.val 31 = t.val; omega)

variable (m : (ℓ : Loc nD τ sig) → Buf (Elt F) ℓ) (ρ : Dev nD → PrngReg)

/-! ## What the points hold -/

/-- The tile of point `t`, put together from the tokens read and the lead: it is the first tile during the prologue. -/
def rowsOf (c : Dev nD) (t : Fin cfg0.N) : Vec F S768x1024 .f32 :=
  rowsAt (BitVec.ofNat 32 ((33 - 6 * (t.val - 10) % 33) % 33)) (iblk m c 0 t) (iblk m c 1 t)
theorem rowsOf_pro (c : Dev nD) (t : Fin cfg0.N) (h : t.val ≤ 10) : rowsOf m c t = rowsAt 0#32 (iblk m c 0 t) (iblk m c 1 t) := by
  rw [rowsOf, show t.val - 10 = 0 by omega]
theorem rowsOf_post (c : Dev nD) (t : Fin cfg0.N) (h : 11 ≤ t.val) : rowsOf m c t = rowsAt (leadAt (grid0.coords t)) (iblk m c 0 t) (iblk m c 1 t) := by
  rw [rowsOf, hlead t h]
/-- The first row tile, normalised. -/
def xn (c : Dev nD) : Vec F S768x1024 .bf16 := FfnMidIdeal.Gen.k0_pay1 (rowsOf m c (ptn 0)) (iblk m c 2 (ptn 0))
/-- The first row tile's accumulator after `n` prologue points. -/
def accP (c : Dev nD) : ℕ → Vec F S768x1024 .f32
  | 0 => FfnMidIdeal.Gen.k0_pay2
  | n + 1 => FfnMidIdeal.Gen.k0_pay3 (FfnMidIdeal.Gen.k0_pay14 (iblk m c 3 (ptn n)) (iblk m c 4 (ptn n)) (iblk m c 5 (ptn n)) (accP c n) (xn m c))
/-- Chunk `j` of the gate weights, rounded, -/
def Gb (c : Dev nD) (j : Fin 11) : Vec F S1024x256 .bf16 := FfnMidIdeal.Gen.k0_pay11 (iblk m c 3 (ptn j.val))
/-- of the up weights, -/
def Ub (c : Dev nD) (j : Fin 11) : Vec F S1024x256 .bf16 := FfnMidIdeal.Gen.k0_pay12 (iblk m c 4 (ptn j.val))
/-- and of the output weights. -/
def Db (c : Dev nD) (j : Fin 11) : Vec F S256x1024 .bf16 := FfnMidIdeal.Gen.k0_pay13 (iblk m c 5 (ptn j.val))

/-- What the output's buffer holds after a point that writes it. -/
def outB (c : Dev nD) (t : Fin cfg0.N) : Vec F S768x1024 .f32 :=
  if t.val = 10 then FfnMidIdeal.Gen.k0_pay4 (rowsOf m c t) (accP m c 11)
  else FfnMidIdeal.Gen.k0_pay7 (rowsOf m c t) (accTile (rowsOf m c t) (iblk m c 2 t) (Gb m c) (Ub m c) (Db m c))

/-- Before point `n` (not the first): the chunks brought in so far are in place, and during the prologue the normalised
    tile and the accumulator are the first tile's. -/
structure Inv (c : Dev nD) (n : ℕ) (w7 : Vec F S1024x5632 .bf16) (w8 : Vec F S2816x1024 .bf16) (a9 : Vec F S768x1024 .f32) (n10 : Vec F S768x1024 .bf16) : Prop where
  chunks : ∀ j : Fin 11, j.val < n → gateOf w7 j = Gb m c j ∧ upOf w7 j = Ub m c j ∧ downOf w8 j = Db m c j
  acc : n ≤ 11 → a9 = accP m c n
  norm : n ≤ 11 → n10 = xn m c

/-- A prologue point adds its own chunk. -/
theorem chunks_step (c : Dev nD) (t : Fin cfg0.N) (ht : t.val < 11) (w7 : Vec F S1024x5632 .bf16) (w8 : Vec F S2816x1024 .bf16)
    (h : ∀ j : Fin 11, j.val < t.val → gateOf w7 j = Gb m c j ∧ upOf w7 j = Ub m c j ∧ downOf w8 j = Db m c j) :
    ∀ j : Fin 11, j.val < t.val + 1 →
      gateOf (put (put w7 (k0_off1 (grid0.coords t)) S1024x256.size (FfnMidIdeal.Gen.k0_pay11 (iblk m c 3 t))) (k0_off2 (grid0.coords t)) S1024x256.size (FfnMidIdeal.Gen.k0_pay12 (iblk m c 4 t))) j = Gb m c j
      ∧ upOf (put (put w7 (k0_off1 (grid0.coords t)) S1024x256.size (FfnMidIdeal.Gen.k0_pay11 (iblk m c 3 t))) (k0_off2 (grid0.coords t)) S1024x256.size (FfnMidIdeal.Gen.k0_pay12 (iblk m c 4 t))) j = Ub m c j
      ∧ downOf (put w8 (k0_off3 (grid0.coords t)) S256x1024.size (FfnMidIdeal.Gen.k0_pay13 (iblk m c 5 t))) j = Db m c j := by
  intro j hj
  rw [hoff1 t ht, hoff2 t ht, hoff3 t ht]
  have hg := gate_put w7 ⟨t.val, ht⟩ j (FfnMidIdeal.Gen.k0_pay11 (iblk m c 3 t)) (FfnMidIdeal.Gen.k0_pay12 (iblk m c 4 t))
  have hu := up_put w7 ⟨t.val, ht⟩ j (FfnMidIdeal.Gen.k0_pay11 (iblk m c 3 t)) (FfnMidIdeal.Gen.k0_pay12 (iblk m c 4 t))
  have hd := down_put w8 ⟨t.val, ht⟩ j (FfnMidIdeal.Gen.k0_pay13 (iblk m c 5 t))
  refine ⟨hg.trans ?_, hu.trans ?_, hd.trans ?_⟩
  all_goals
    by_cases e : j = ⟨t.val, ht⟩
    · rw [if_pos e]; subst e
      first | (unfold Gb; rw [ptn_val]) | (unfold Ub; rw [ptn_val]) | (unfold Db; rw [ptn_val])
    · rw [if_neg e]
      have hlt : j.val < t.val := by
        have : j.val ≠ t.val := fun h => e (Fin.ext h)
        omega
      first | exact (h j hlt).1 | exact (h j hlt).2.1 | exact (h j hlt).2.2

theorem accP_succ (c : Dev nD) (t : Fin cfg0.N) :
    FfnMidIdeal.Gen.k0_pay3 (FfnMidIdeal.Gen.k0_pay14 (iblk m c 3 t) (iblk m c 4 t) (iblk m c 5 t) (accP m c t.val) (xn m c)) = accP m c (t.val + 1) := by
  rw [accP, ptn_val]

/-! ## The invariant between points -/

abbrev sc0 : Memref sig .tc .vmem S1024x5632 .bf16 := Memref.whole cc0_scratch0
abbrev sc1 : Memref sig .tc .vmem S2816x1024 .bf16 := Memref.whole cc0_scratch1
abbrev sc2 : Memref sig .tc .vmem S768x1024 .f32 := Memref.whole cc0_scratch2
abbrev sc3 : Memref sig .tc .vmem S768x1024 .bf16 := Memref.whole cc0_scratch3

/-- The region's four scratch buffers at anything. -/
theorem PhiA0_eq (c : Dev nD) :
    (Pipeline.ΦA spec0 c : sProp 𝕄)
      = iprop(iprop((∃ d, owns c.tc sc0 fullShare d) ∗ (∃ d, owns c.tc sc1 fullShare d)
          ∗ (∃ d, owns c.tc sc2 fullShare d) ∗ (∃ d, owns c.tc sc3 fullShare d)) ∗ (∃ r, prngReg c r)) := by
  unfold Pipeline.ΦA; rw [scopedRest0_eq]; simp only [sc0, sc1, sc2, sc3, owns_whole]; try rfl

/-- The four scratch buffers at contents the invariant admits. -/
def PhiI (c : Dev nD) (n : ℕ) : sProp 𝕄 :=
  iprop(∃ w7 : Vec F S1024x5632 .bf16, ∃ w8 : Vec F S2816x1024 .bf16, ∃ a9 : Vec F S768x1024 .f32, ∃ n10 : Vec F S768x1024 .bf16,
    ⌜Inv m c n w7 w8 a9 n10⌝ ∗ owns c.tc sc0 fullShare w7 ∗ owns c.tc sc1 fullShare w8
      ∗ owns c.tc sc2 fullShare a9 ∗ owns c.tc sc3 fullShare n10 ∗ (∃ r, prngReg c r))

/-- Before the first point anything; afterwards what the points so far have left. -/
def PhiS (c : Dev nD) : (n : ℕ) → n ≤ cfg0.N → sProp 𝕄
  | 0, _ => Pipeline.ΦA spec0 c
  | n + 1, _ => PhiI m c (n + 1)

theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) : PhiS m c n h = PhiI m c n := by
  cases n with
  | zero => exact absurd rfl hz
  | succ n => rfl

/-- The pipeline's proof data: every input's buffer holds its block, the output's what the point wrote. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outB m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outB m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

/-! ## The body at every point -/

abbrev ms0 (t : Fin cfg0.N) : Memref sig .tc .vmem S768x1024 .f32 := win0_0.stage (cfg0.slots t 0)
abbrev ms1 (t : Fin cfg0.N) : Memref sig .tc .vmem S128x1024 .f32 := win0_1.stage (cfg0.slots t 1)
abbrev ms2 (t : Fin cfg0.N) : Memref sig .tc .vmem S1x1024 .f32 := win0_2.stage (cfg0.slots t 2)
abbrev ms3 (t : Fin cfg0.N) : Memref sig .tc .vmem S1x1024x256 .f32 := win0_3.stage (cfg0.slots t 3)
abbrev ms4 (t : Fin cfg0.N) : Memref sig .tc .vmem S1x1024x256 .f32 := win0_4.stage (cfg0.slots t 4)
abbrev ms5 (t : Fin cfg0.N) : Memref sig .tc .vmem S1x256x1024 .f32 := win0_5.stage (cfg0.slots t 5)
abbrev ms6 (t : Fin cfg0.N) : Memref sig .tc .vmem S768x1024 .f32 := win0_6.stage (cfg0.slots t 6)

/-- What the body is called with at point `t`, -/
def bodyPre (c : Dev nD) (t : Fin cfg0.N) : sProp 𝕄 :=
  iprop((dats m 0 c).Φ t.castSucc ∗ (dats m 0 c).owesAt () t.castSucc
    ∗ (∃ d, owns c.tc (ms0 t) fullShare ((dats m 0 c).before 0 t d))
    ∗ (∃ d, owns c.tc (ms1 t) fullShare ((dats m 0 c).before 1 t d))
    ∗ (∃ d, owns c.tc (ms2 t) fullShare ((dats m 0 c).before 2 t d))
    ∗ (∃ d, owns c.tc (ms3 t) fullShare ((dats m 0 c).before 3 t d))
    ∗ (∃ d, owns c.tc (ms4 t) fullShare ((dats m 0 c).before 4 t d))
    ∗ (∃ d, owns c.tc (ms5 t) fullShare ((dats m 0 c).before 5 t d))
    ∗ (∃ d, owns c.tc (ms6 t) fullShare ((dats m 0 c).before 6 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t ∗ (dats m 0 c).leavesExact 6 t)

/-- What an input window leaves: its block again. -/
theorem leaves_in (c : Dev nD) (t : Fin cfg0.N) :
    (dats m 0 c).leavesExact 0 t = owns c.tc (ms0 t) fullShare (iblk m c 0 t)
    ∧ (dats m 0 c).leavesExact 1 t = owns c.tc (ms1 t) fullShare (iblk m c 1 t)
    ∧ (dats m 0 c).leavesExact 2 t = owns c.tc (ms2 t) fullShare (iblk m c 2 t)
    ∧ (dats m 0 c).leavesExact 3 t = owns c.tc (ms3 t) fullShare (iblk m c 3 t)
    ∧ (dats m 0 c).leavesExact 4 t = owns c.tc (ms4 t) fullShare (iblk m c 4 t)
    ∧ (dats m 0 c).leavesExact 5 t = owns c.tc (ms5 t) fullShare (iblk m c 5 t) := by
  refine ⟨?_, ?_, ?_, ?_, ?_, ?_⟩
  · unfold Dat.leavesExact; rw [show cfg0.idle 0 (cfg0.grid.coords t) = false from rfl, after0_0]
  · unfold Dat.leavesExact; rw [show cfg0.idle 1 (cfg0.grid.coords t) = false from rfl, after0_1]
  · unfold Dat.leavesExact; rw [show cfg0.idle 2 (cfg0.grid.coords t) = false from rfl, after0_2]
  · unfold Dat.leavesExact; rw [show cfg0.idle 3 (cfg0.grid.coords t) = false from rfl, after0_3]
  · unfold Dat.leavesExact; rw [show cfg0.idle 4 (cfg0.grid.coords t) = false from rfl, after0_4]
  · unfold Dat.leavesExact; rw [show cfg0.idle 5 (cfg0.grid.coords t) = false from rfl, after0_5]
/-- The output window during the prologue: untouched; -/
theorem leaves_idle (c : Dev nD) (t : Fin cfg0.N) (h : t.val < 10) :
    (dats m 0 c).leavesExact 6 t = iprop(∃ d, owns c.tc (ms6 t) fullShare ((dats m 0 c).before 6 t d)) :=
  Dat.leavesExact_idle _ 6 t (hidle t h) (Bool.eq_false_iff.2 fun e => by have := (hflush t).1 e; omega)
/-- afterwards: the tile written. -/
theorem leaves_live (c : Dev nD) (t : Fin cfg0.N) (h : 10 ≤ t.val) :
    (dats m 0 c).leavesExact 6 t = owns c.tc (ms6 t) fullShare (outB m c t) := by
  unfold Dat.leavesExact; rw [show cfg0.idle 6 (cfg0.grid.coords t) = false from hlive t h, after0_6]

/-- After the first point the invariant holds. -/
theorem inv_first (c : Dev nD) (t : Fin cfg0.N) (hz : t.val = 0) (w7 : Vec F S1024x5632 .bf16) (w8 : Vec F S2816x1024 .bf16) :
    Inv m c (t.val + 1)
      (put (put w7 (k0_off1 (grid0.coords t)) S1024x256.size (FfnMidIdeal.Gen.k0_pay11 (iblk m c 3 t))) (k0_off2 (grid0.coords t)) S1024x256.size (FfnMidIdeal.Gen.k0_pay12 (iblk m c 4 t)))
      (put w8 (k0_off3 (grid0.coords t)) S256x1024.size (FfnMidIdeal.Gen.k0_pay13 (iblk m c 5 t)))
      (FfnMidIdeal.Gen.k0_pay3 (FfnMidIdeal.Gen.k0_pay14 (iblk m c 3 t) (iblk m c 4 t) (iblk m c 5 t) FfnMidIdeal.Gen.k0_pay2 (FfnMidIdeal.Gen.k0_pay1 (rowsAt 0#32 (iblk m c 0 t) (iblk m c 1 t)) (iblk m c 2 t))))
      (FfnMidIdeal.Gen.k0_pay1 (rowsAt 0#32 (iblk m c 0 t) (iblk m c 1 t)) (iblk m c 2 t)) := by
  have e : ptn 0 = t := by rw [← hz]; exact ptn_val t
  have en : (FfnMidIdeal.Gen.k0_pay1 (rowsAt 0#32 (iblk m c 0 t) (iblk m c 1 t)) (iblk m c 2 t) : Vec F S768x1024 .bf16) = xn m c := by rw [xn, e, rowsOf_pro m c t (by omega)]
  refine ⟨chunks_step m c t (by omega) w7 w8 fun j hj => absurd hj (by omega), fun _ => ?_, fun _ => en⟩
  rw [en, ← accP_succ, hz]; rfl

set_option maxHeartbeats 2000000 in
/-- The first point; -/
theorem soundA (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  obtain ⟨e0, e1, e2, e3, e4, e5⟩ := leaves_in m c t
  rw [e0, e1, e2, e3, e4, e5]
  have hN : t.val < 32 := lt_of_lt_of_eq t.isLt (show cfg0.N = 32 from N_0)
  rw [leaves_idle m c t (by omega), PhiS_castSucc m c t, PhiS_zero m c _ _ hz, PhiA0_eq]
  iintro ⟨⟨⟨⟨%w7, S0⟩, ⟨%w8, S1⟩, ⟨%a9, S2⟩, ⟨%n10, S3⟩⟩, Hg⟩, Ho, ⟨%d0, H0⟩, ⟨%d1, H1⟩, ⟨%d2, H2⟩, ⟨%d3, H3⟩, ⟨%d4, H4⟩, ⟨%d5, H5⟩, ⟨%d6, H6⟩⟩
  iapply (runA c (grid0.coords t) _ _ _ _ _ _ _ _ _ _ _ _ _ _ _ _ _ _ _ _ _ _ (iblk m c 0 t) (iblk m c 1 t) (iblk m c 2 t) (iblk m c 3 t) (iblk m c 4 t) (iblk m c 5 t) _ _ _ _ _ ((hcondA t).2 hz) ((hcond2 t).2 (by omega)) (fun h => by have := (hcond3 t).1 h; omega) (fun h => by have := (hcond4 t).1 h; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · try unfold PhiI
    iexists _; iexists _; iexists _; iexists _
    isplitr
    · ipureintro
      exact inv_first m c t hz w7 w8
    isplitl [S0]; · iexact S0
    isplitl [S1]; · iexact S1
    isplitl [S2]; · iexact S2
    isplitl [S3]; · iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 2000000 in
/-- a later prologue point; -/
theorem soundB (c : Dev nD) (t : Fin cfg0.N) (hz : t.val ≠ 0) (hb : t.val < 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  obtain ⟨e0, e1, e2, e3, e4, e5⟩ := leaves_in m c t
  rw [e0, e1, e2, e3, e4, e5]
  have hN : t.val < 32 := lt_of_lt_of_eq t.isLt (show cfg0.N = 32 from N_0)
  rw [leaves_idle m c t (by omega)]
  rw [PhiS_castSucc m c t, PhiS_pos m c _ _ hz]
  unfold PhiI
  iintro ⟨HP, Ho, ⟨%d0, H0⟩, ⟨%d1, H1⟩, ⟨%d2, H2⟩, ⟨%d3, H3⟩, ⟨%d4, H4⟩, ⟨%d5, H5⟩, ⟨%d6, H6⟩⟩
  icases HP with ⟨%w7, %w8, %a9, %n10, %hi, S0, S1, S2, S3, Hg⟩
  iapply (runB c (grid0.coords t) _ _ _ _ _ _ _ _ _ _ _ _ _ _ _ _ _ _ _ _ _ _ (iblk m c 0 t) (iblk m c 1 t) (iblk m c 2 t) (iblk m c 3 t) (iblk m c 4 t) (iblk m c 5 t) _ _ _ _ _ (fun h => hz ((hcondA t).1 h)) ((hcond2 t).2 (by omega)) (fun h => by have := (hcond3 t).1 h; omega) (fun h => by have := (hcond4 t).1 h; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · try unfold PhiI
    iexists (put (put w7 (k0_off1 (grid0.coords t)) S1024x256.size (FfnMidIdeal.Gen.k0_pay11 (iblk m c 3 t))) (k0_off2 (grid0.coords t)) S1024x256.size (FfnMidIdeal.Gen.k0_pay12 (iblk m c 4 t))); iexists (put w8 (k0_off3 (grid0.coords t)) S256x1024.size (FfnMidIdeal.Gen.k0_pay13 (iblk m c 5 t))); iexists (FfnMidIdeal.Gen.k0_pay3 (FfnMidIdeal.Gen.k0_pay14 (iblk m c 3 t) (iblk m c 4 t) (iblk m c 5 t) a9 n10)); iexists n10
    isplitr
    · ipureintro
      exact ⟨chunks_step m c t (by omega) w7 w8 hi.chunks, fun _ => by rw [hi.acc (by omega), hi.norm (by omega)]; exact accP_succ m c t, fun _ => hi.norm (by omega)⟩
    isplitl [S0]; · iexact S0
    isplitl [S1]; · iexact S1
    isplitl [S2]; · iexact S2
    isplitl [S3]; · iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 2000000 in
/-- the last prologue point; -/
theorem soundC (c : Dev nD) (t : Fin cfg0.N) (hz : t.val ≠ 0) (hb : t.val = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  obtain ⟨e0, e1, e2, e3, e4, e5⟩ := leaves_in m c t
  rw [e0, e1, e2, e3, e4, e5]
  have hN : t.val < 32 := lt_of_lt_of_eq t.isLt (show cfg0.N = 32 from N_0)
  rw [leaves_live m c t (by omega)]
  rw [PhiS_castSucc m c t, PhiS_pos m c _ _ hz]
  unfold PhiI
  iintro ⟨HP, Ho, ⟨%d0, H0⟩, ⟨%d1, H1⟩, ⟨%d2, H2⟩, ⟨%d3, H3⟩, ⟨%d4, H4⟩, ⟨%d5, H5⟩, ⟨%d6, H6⟩⟩
  icases HP with ⟨%w7, %w8, %a9, %n10, %hi, S0, S1, S2, S3, Hg⟩
  rw [show outB m c t = FfnMidIdeal.Gen.k0_pay4 (rowsAt 0#32 (iblk m c 0 t) (iblk m c 1 t)) (FfnMidIdeal.Gen.k0_pay3 (FfnMidIdeal.Gen.k0_pay14 (iblk m c 3 t) (iblk m c 4 t) (iblk m c 5 t) a9 n10)) from by
    rw [outB, if_pos hb, rowsOf_pro m c t (by omega), hi.acc (by omega), hi.norm (by omega), accP_succ, hb]]
  iapply (runC c (grid0.coords t) _ _ _ _ _ _ _ _ _ _ _ _ _ _ _ _ _ _ _ _ _ _ (iblk m c 0 t) (iblk m c 1 t) (iblk m c 2 t) (iblk m c 3 t) (iblk m c 4 t) (iblk m c 5 t) _ _ _ _ _ (fun h => hz ((hcondA t).1 h)) ((hcond2 t).2 (by omega)) ((hcond3 t).2 hb) (fun h => by have := (hcond4 t).1 h; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · try unfold PhiI
    iexists (put (put w7 (k0_off1 (grid0.coords t)) S1024x256.size (FfnMidIdeal.Gen.k0_pay11 (iblk m c 3 t))) (k0_off2 (grid0.coords t)) S1024x256.size (FfnMidIdeal.Gen.k0_pay12 (iblk m c 4 t))); iexists (put w8 (k0_off3 (grid0.coords t)) S256x1024.size (FfnMidIdeal.Gen.k0_pay13 (iblk m c 5 t))); iexists (FfnMidIdeal.Gen.k0_pay3 (FfnMidIdeal.Gen.k0_pay14 (iblk m c 3 t) (iblk m c 4 t) (iblk m c 5 t) a9 n10)); iexists n10
    isplitr
    · ipureintro
      exact ⟨chunks_step m c t (by omega) w7 w8 hi.chunks, fun _ => by rw [hi.acc (by omega), hi.norm (by omega)]; exact accP_succ m c t, fun _ => hi.norm (by omega)⟩
    isplitl [S0]; · iexact S0
    isplitl [S1]; · iexact S1
    isplitl [S2]; · iexact S2
    isplitl [S3]; · iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 2000000 in
/-- and a point after the prologue. -/
theorem soundD (c : Dev nD) (t : Fin cfg0.N) (hz : t.val ≠ 0) (hb : 11 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  obtain ⟨e0, e1, e2, e3, e4, e5⟩ := leaves_in m c t
  rw [e0, e1, e2, e3, e4, e5]
  have hN : t.val < 32 := lt_of_lt_of_eq t.isLt (show cfg0.N = 32 from N_0)
  rw [leaves_live m c t (by omega)]
  rw [PhiS_castSucc m c t, PhiS_pos m c _ _ hz]
  unfold PhiI
  iintro ⟨HP, Ho, ⟨%d0, H0⟩, ⟨%d1, H1⟩, ⟨%d2, H2⟩, ⟨%d3, H3⟩, ⟨%d4, H4⟩, ⟨%d5, H5⟩, ⟨%d6, H6⟩⟩
  icases HP with ⟨%w7, %w8, %a9, %n10, %hi, S0, S1, S2, S3, Hg⟩
  rw [show outB m c t = FfnMidIdeal.Gen.k0_pay7 (rowsAt (leadAt (grid0.coords t)) (iblk m c 0 t) (iblk m c 1 t)) (accTile (rowsAt (leadAt (grid0.coords t)) (iblk m c 0 t) (iblk m c 1 t)) (iblk m c 2 t) (gateOf w7) (upOf w7) (downOf w8)) from by
    rw [outB, if_neg (by omega), rowsOf_post m c t hb, show gateOf w7 = Gb m c from funext fun j => (hi.chunks j (by omega)).1, show upOf w7 = Ub m c from funext fun j => (hi.chunks j (by omega)).2.1,
      show downOf w8 = Db m c from funext fun j => (hi.chunks j (by omega)).2.2]]
  iapply (runD c (grid0.coords t) _ _ _ _ _ _ _ _ _ _ _ _ _ _ _ _ _ _ _ _ _ _ (iblk m c 0 t) (iblk m c 1 t) (iblk m c 2 t) (iblk m c 3 t) (iblk m c 4 t) (iblk m c 5 t) _ _ _ _ _ (fun h => hz ((hcondA t).1 h)) (fun h => by have := (hcond2 t).1 h; omega) (fun h => by have := (hcond3 t).1 h; omega) ((hcond4 t).2 hb) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · try unfold PhiI
    iexists w7; iexists w8; iexists (accTile (rowsAt (leadAt (grid0.coords t)) (iblk m c 0 t) (iblk m c 1 t)) (iblk m c 2 t) (gateOf w7) (upOf w7) (downOf w8)); iexists n10
    isplitr
    · ipureintro
      exact ⟨fun j _ => hi.chunks j (by omega), fun h => absurd h (by omega), fun h => absurd h (by omega)⟩
    isplitl [S0]; · iexact S0
    isplitl [S1]; · iexact S1
    isplitl [S2]; · iexact S2
    isplitl [S3]; · iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact soundA m c t hz
  by_cases hb : t.val < 10
  · exact soundB m c t hz hb
  by_cases hc : t.val = 10
  · exact soundC m c t hz hc
  exact soundD m c t hz (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hne : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ hne, PhiA0_eq]
  unfold PhiI
  iintro ⟨%w7, %w8, %a9, %n10, %hi, S0, S1, S2, S3, Hg⟩
  isplitl [S0 S1 S2 S3]
  · isplitl [S0]; · iexists _; iexact S0
    isplitl [S1]; · iexists _; iexact S1
    isplitl [S2]; · iexists _; iexact S2
    iexists _; iexact S3
  iexact Hg

/-! ## The launch -/

set_option backward.isDefEq.respectTransparency.types false in
/-- Every execution ends, with every array at what the points left in it and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.FfnLeadIdeal.Hand

end
-- ==== Proof.FfnMidVal.lean ====
module

public import proofs.«01_k».proof.Proof.FfnMidRun
public import proofs.«01_k».proof.Proof.FfnVal
public import Idealize.ShloMosaic.Lib.Pipeline.ValueKit
public import Idealize.ShloMosaic.Lib.MatmulPlain
public import Idealize.ShloMosaic.Lib.ValueIdx
public import Idealize.ShloMosaic.Lib.ValueLayout
public import Idealize.ShloMosaic.Lib.ValueLayoutCasts

@[expose] public section

set_option maxRecDepth 16384

noncomputable section

namespace Cert.FfnMidIdeal.Hand

open Idealize.ShloMosaic hiding ix1 ix2 ix3 truncf_apply
open Idealize.ShloMosaic.ValueIdx
open Cert.FfnMidIdeal.Gen
open Cert.FfnLastIdeal.Hand (nrm glu tokenOut)

/-! # The feed-forward block at the ideal values, element by element

`tokenOut` is the block for one token in plain mathematics, as for the last block. The lemmas below read the kernel's tiles at an element and find
it there: the hidden axis arrives in eleven chunks of 256, which sum to the whole. -/

/-! ## The products -/

/-- A product into the hidden units, at an element. -/
theorem mulIn_apply (n : FVec Ideal S768x1024 .bf16) (G : FVec Ideal S1024x256 .bf16) (r : Fin 768) (k : Fin 256) :
    matmul dot_S768x1024_S1024x256_S768x256_1_0_0_1_n_n none n G (constant S768x256 .f32 0x00000000#32) (ix2 r k) = ∑ l : Fin 1024, n (ix2 r l) * G (ix2 l k) := by
  rw [show dot_S768x1024_S1024x256_S768x256_1_0_0_1_n_n = DotDims.plain 768 1024 256 from rfl]
  refine (Ideal.matmul_plain_apply none n G _ r k).trans ?_
  rw [constant_apply, Ideal.ofBits_zero_f32, zero_add]
/-- A product out of a chunk of hidden units, at an element. -/
theorem mulOut_apply (h : FVec Ideal S768x256 .bf16) (D : FVec Ideal S256x1024 .bf16) (r : Fin 768) (c : Fin 1024) :
    matmul dot_S768x256_S256x1024_S768x1024_1_0_0_1_n_n none h D (constant S768x1024 .f32 0x00000000#32) (ix2 r c) = ∑ k : Fin 256, h (ix2 r k) * D (ix2 k c) := by
  rw [show dot_S768x256_S256x1024_S768x1024_1_0_0_1_n_n = DotDims.plain 768 256 1024 from rfl]
  refine (Ideal.matmul_plain_apply none h D _ r c).trans ?_
  rw [constant_apply, Ideal.ofBits_zero_f32, zero_add]

/-- What one chunk of hidden units adds to an output element. -/
def chunkAt (n : FVec Ideal S768x1024 .bf16) (G U : FVec Ideal S1024x256 .bf16) (D : FVec Ideal S256x1024 .bf16) (r : Fin 768) (c : Fin 1024) : EReal :=
  ∑ k : Fin 256, glu (∑ l, n (ix2 r l) * G (ix2 l k)) (∑ l, n (ix2 r l) * U (ix2 l k)) * D (ix2 k c)

/-- The chunk as the kernel computes it. -/
abbrev chunkVec (n : FVec Ideal S768x1024 .bf16) (G U : FVec Ideal S1024x256 .bf16) (D : FVec Ideal S256x1024 .bf16) : FVec Ideal S768x1024 .f32 :=
  let g := matmul dot_S768x1024_S1024x256_S768x256_1_0_0_1_n_n none n G (constant S768x256 .f32 0x00000000#32)
  let u := matmul dot_S768x1024_S1024x256_S768x256_1_0_0_1_n_n none n U (constant S768x256 .f32 0x00000000#32)
  matmul dot_S768x256_S256x1024_S768x1024_1_0_0_1_n_n none (truncf .bf16 (mulf (mulf g (logistic g)) u) bitsLt_bf16_f32) D (constant S768x1024 .f32 0x00000000#32)

theorem chunkVec_apply (n : FVec Ideal S768x1024 .bf16) (G U : FVec Ideal S1024x256 .bf16) (D : FVec Ideal S256x1024 .bf16) (r : Fin 768) (c : Fin 1024) :
    chunkVec n G U D (ix2 r c) = chunkAt n G U D r c := by
  refine (mulOut_apply _ D r c).trans ?_
  refine Finset.sum_congr rfl fun k _ => congrArg (· * D (ix2 k c)) ?_
  unfold glu
  rw [← mulIn_apply n G r k, ← mulIn_apply n U r k]
  rfl

/-! ## The accumulated chunks -/

section Tile
variable (x : Vec Ideal S768x1024 .f32) (g : Vec Ideal S1x1024 .f32) (n : FVec Ideal S768x1024 .bf16)
  (G U : Fin 11 → Vec Ideal S1024x256 .bf16) (D : Fin 11 → Vec Ideal S256x1024 .bf16)

theorem accTile_eq : accTile x g G U D =
    (fun ch : Fin 11 → FVec Ideal S768x1024 .f32 => addf (addf (addf (addf (addf (addf (addf (addf (addf (addf (ch 0) (ch 1)) (ch 2)) (ch 3)) (ch 4)) (ch 5)) (ch 6)) (ch 7)) (ch 8)) (ch 9)) (ch 10))
      (fun j => chunkVec (k0_pay15 x g) (G j) (U j) (D j)) := by
  simp only [accTile, k0_pay5, k0_pay6, k0_pay16, k0_pay17, k0_pay18, k0_pay19, k0_pay20, k0_pay21, k0_pay22, k0_pay23, k0_pay24, k0_pay25, k0_pay26, k0_pay27, k0_pay28, k0_pay29, k0_pay30, k0_pay31, shapeCast_self]

/-- A row tile's accumulator is the sum of its eleven chunks. -/
theorem accTile_apply (r : Fin 768) (c : Fin 1024) : accTile x g G U D (ix2 r c) = ∑ j : Fin 11, chunkAt (k0_pay15 x g) (G j) (U j) (D j) r c := by
  rw [accTile_eq]
  simp only [addf_apply, chunkVec_apply]
  simp only [Fin.sum_univ_castSucc, Finset.univ_eq_empty, Finset.sum_empty, zero_add]
  rfl

/-- One prologue point adds its chunk. -/
theorem pay14_apply (v14 v17 : Vec Ideal S1x1024x256 .f32) (v20 : Vec Ideal S1x256x1024 .f32) (acc : Vec Ideal S768x1024 .f32) (r : Fin 768) (c : Fin 1024) :
    k0_pay3 (k0_pay14 v14 v17 v20 acc n) (ix2 r c) = acc (ix2 r c) + chunkAt n (k0_pay11 v14) (k0_pay12 v17) (k0_pay13 v20) r c := by
  rw [← chunkVec_apply]
  simp only [k0_pay3, k0_pay14, k0_pay11, k0_pay12, k0_pay13, shapeCast_self, addf_apply]

theorem pay2_apply (i : S768x1024.Idx) : (k0_pay2 : FVec Ideal S768x1024 .f32) i = 0 := by
  simp only [k0_pay2, shapeCast_self]
  exact Ideal.ofBits_zero_f32

/-- The chunks of a token, summed, are the whole hidden axis. -/
theorem sum_chunks (Wg Wu : Fin 1024 → Fin 2816 → EReal) (Wo : Fin 2816 → Fin 1024 → EReal) (X γ : Fin 1024 → EReal) (r : Fin 768) (c : Fin 1024)
    (hn : ∀ l, n (ix2 r l) = nrm X γ l)
    (hG : ∀ (j : Fin 11) (l : Fin 1024) (k : Fin 256) (h : j.val * 256 + k.val < 2816), G j (ix2 l k) = Wg l ⟨j.val * 256 + k.val, h⟩)
    (hU : ∀ (j : Fin 11) (l : Fin 1024) (k : Fin 256) (h : j.val * 256 + k.val < 2816), U j (ix2 l k) = Wu l ⟨j.val * 256 + k.val, h⟩)
    (hD : ∀ (j : Fin 11) (k : Fin 256) (h : j.val * 256 + k.val < 2816), D j (ix2 k c) = Wo ⟨j.val * 256 + k.val, h⟩ c) :
    ∑ j : Fin 11, chunkAt n (G j) (U j) (D j) r c
      = ∑ k : Fin 2816, glu (∑ l, nrm X γ l * Wg l k) (∑ l, nrm X γ l * Wu l k) * Wo k c := by
  unfold chunkAt
  refine Fin.sum_mul_add_congr fun j k h => ?_
  rw [hD j k h]
  simp only [hn, hG j _ k h, hU j _ k h]

/-! ## The normalised tile -/

theorem pay15_apply (r : Fin 768) (l : Fin 1024) : k0_pay15 x g (ix2 r l) = nrm (fun k => x (ix2 r k)) (fun k => g (ix2 0 k)) l := by
  simp only [k0_pay15, shapeCast_self]
  rw [truncf_apply, mulf_apply, mulf_apply]
  unfold nrm
  rw [broadcastTo_1b_ab_apply]
  rw [broadcastTo_apply _ _ _ (ix2 r (0 : Fin 1)) (by intro a; match a with | ⟨0, _⟩ => rfl | ⟨1, _⟩ => rfl)]
  refine congrArg (fun z => x (ix2 r l) * Ideal.rsqrt (Ideal.div z _ + _) * g (ix2 0 l)) ?_
  rw [shapeCast_a_a1_apply]
  refine (Ideal.multiReduction_add_single _ _ _ _ _ _).trans ?_
  refine Finset.sum_congr rfl fun k _ => ?_
  rw [show reduces_S768x1024_S768.lift (ix1 r) k = ix2 r k from funext fun a => Fin.ext (by match a with | ⟨0, _⟩ => rfl | ⟨1, _⟩ => rfl)]
  rfl

theorem pay1_eq : k0_pay1 x g = k0_pay15 x g := by
  simp only [k0_pay1, k0_pay15, shapeCast_self]

/-! ## The tile's output -/

theorem pay7_apply (a : Vec Ideal S768x1024 .f32) (r : Fin 768) (c : Fin 1024) :
    k0_pay7 x a (ix2 r c) = x (ix2 r c) + Ideal.ofBits .f32 0x3F000000#32 * a (ix2 r c) := by
  simp only [k0_pay7, shapeCast_self]
  rfl

theorem pay4_apply (a : Vec Ideal S768x1024 .f32) (r : Fin 768) (c : Fin 1024) :
    k0_pay4 x a (ix2 r c) = x (ix2 r c) + Ideal.ofBits .f32 0x3F000000#32 * a (ix2 r c) := by
  simp only [k0_pay4, shapeCast_self]
  rfl

/-! ## The rounded weight chunks -/

theorem pay11_apply (v : Vec Ideal S1x1024x256 .f32) (l : Fin 1024) (k : Fin 256) : k0_pay11 v (ix2 l k) = v (ix3 0 l k) := by
  simp only [k0_pay11, k0_pay8, shapeCast_self]
  rw [truncf_apply, shapeCast_1ab_ab_apply]
theorem pay12_apply (v : Vec Ideal S1x1024x256 .f32) (l : Fin 1024) (k : Fin 256) : k0_pay12 v (ix2 l k) = v (ix3 0 l k) := by
  simp only [k0_pay12, k0_pay9, shapeCast_self]
  rw [truncf_apply, shapeCast_1ab_ab_apply]
theorem pay13_apply (v : Vec Ideal S1x256x1024 .f32) (k : Fin 256) (c : Fin 1024) : k0_pay13 v (ix2 k c) = v (ix3 0 k c) := by
  simp only [k0_pay13, k0_pay10, shapeCast_self]
  rw [truncf_apply, shapeCast_1ab_ab_apply]
end Tile

end Cert.FfnMidIdeal.Hand

end
-- ==== Proof.FfnMidRef.lean ====
module

public import proofs.«01_k».proof.Proof.Gen.FfnMidRefIdeal.Run
public import proofs.«01_k».proof.Proof.Gen.FfnMidRefIdeal.Read
public import proofs.«01_k».proof.Proof.FfnMidVal

@[expose] public section

set_option maxRecDepth 16384

noncomputable section

namespace Cert.FfnMidRefIdeal.Hand

open Idealize.ShloMosaic hiding ix1 ix2 ix3 truncf_apply
open Idealize.ShloMosaic.ValueIdx
open Cert.FfnMidRefIdeal Cert.FfnMidRefIdeal.Read
open Cert.FfnLastIdeal.Hand (nrm glu tokenOut)

/-! # The reference, element by element

The reference's chain of host operations, read at an element: it is `tokenOut` of the token's row. -/

variable (x0 : (⟨S16896x1024, .f32⟩ : BufTy).Contents (Elt Ideal)) (x1 : (⟨S2x1024, .f32⟩ : BufTy).Contents (Elt Ideal))
  (x2 : (⟨S2x1024x5632, .f32⟩ : BufTy).Contents (Elt Ideal)) (x3 : (⟨S2x2816x1024, .f32⟩ : BufTy).Contents (Elt Ideal))

/-- Token `n`'s row; -/
def row (n : ℕ) (h : n < 16896) (l : Fin 1024) : EReal := x0 (ix2 ⟨n, h⟩ l)
/-- the last layer's gain, -/
def gain (l : Fin 1024) : EReal := x1 (ix2 1 l)
/-- its input weights, gate half -/
def wGate (l : Fin 1024) (k : Fin 2816) : EReal := x2 (ix3 1 l ⟨k.val, by omega⟩)
/-- and up half, -/
def wUp (l : Fin 1024) (k : Fin 2816) : EReal := x2 (ix3 1 l ⟨2816 + k.val, by omega⟩)
/-- and its output weights. -/
def wDown (k : Fin 2816) (c : Fin 1024) : EReal := x3 (ix3 1 k c)

section At
variable (p : Fin 16896)

theorem v3_at : val_main_v3 (F := Ideal) x0 (ix1 p) = ∑ k : Fin 1024, row x0 p.val p.isLt k * row x0 p.val p.isLt k := by
  rw [val_main_v3_apply, val_main_cst_apply]
  refine (congrArg (· + _) Ideal.ofBits_zero_f32).trans ((zero_add _).trans (Finset.sum_congr rfl fun k _ => ?_))
  rw [show idx_main_v3 (ix1 p) k = ix2 p k from funext fun a => by match a with | ⟨0, _⟩ => rfl | ⟨1, _⟩ => rfl, val_main_v2_apply]
  rfl

theorem v9_at : val_main_v9 (F := Ideal) x0 (ix2 p 0) = Ideal.rsqrt (Ideal.div (∑ k : Fin 1024, row x0 p.val p.isLt k * row x0 p.val p.isLt k) (Ideal.ofBits .f32 0x44800000#32) + Ideal.ofBits .f32 0x358637BD#32) := by
  rw [val_main_v9_apply, val_main_v8_apply, val_main_v6_apply, val_main_v4_apply, val_main_v5_apply, val_main_v7_apply, val_main_cst_0_apply, val_main_cst_1_apply,
    show idx_main_v4 (ix2 p 0) = ix1 p from funext fun a => by match a with | ⟨0, _⟩ => rfl, v3_at]
  rfl

theorem v13_at (l : Fin 1024) : val_main_v13 (F := Ideal) x1 (ix2 p l) = gain x1 l := by
  rw [val_main_v13_apply, val_main_v12_apply, val_main_v1_apply, val_main_v0_apply]
  refine congrArg x1 (funext fun a => Fin.ext ?_)
  have := l.isLt
  match a with
  | ⟨0, _⟩ => rfl
  | ⟨1, _⟩ => show l.val % 1024 = l.val; omega

theorem v14_at (l : Fin 1024) : val_main_v14 (F := Ideal) x0 x1 (ix2 p l) = nrm (row x0 p.val p.isLt) (gain x1) l := by
  rw [val_main_v14_apply, val_main_v11_apply, val_main_v10_apply, v13_at,
    show idx_main_v10 (ix2 p l) = ix2 p 0 from funext fun a => by match a with | ⟨0, _⟩ => rfl | ⟨1, _⟩ => rfl, v9_at]
  rfl

theorem v16_at (l : Fin 1024) (k : Fin 5632) : val_main_v16 (F := Ideal) x2 (ix2 l k) = x2 (ix3 1 l k) := by
  rw [val_main_v16_apply, val_main_v15_apply]
  refine congrArg x2 (funext fun a => Fin.ext ?_)
  have := l.isLt
  have := k.isLt
  match a with
  | ⟨0, _⟩ => rfl
  | ⟨1, _⟩ => show (l.val * 5632 + k.val) / 5632 % 1024 = l.val; omega
  | ⟨2, _⟩ => show (l.val * 5632 + k.val) % 5632 = k.val; omega

theorem v18_at (k : Fin 2816) (c : Fin 1024) : val_main_v18 (F := Ideal) x3 (ix2 k c) = wDown x3 k c := by
  rw [val_main_v18_apply, val_main_v17_apply]
  refine congrArg x3 (funext fun a => Fin.ext ?_)
  have := k.isLt
  have := c.isLt
  match a with
  | ⟨0, _⟩ => rfl
  | ⟨1, _⟩ => show (k.val * 1024 + c.val) / 1024 % 2816 = k.val; omega
  | ⟨2, _⟩ => show (k.val * 1024 + c.val) % 1024 = c.val; omega

theorem v19_at (k : Fin 5632) : val_main_v19 (F := Ideal) x0 x1 x2 (ix2 p k)
    = ∑ l : Fin 1024, nrm (row x0 p.val p.isLt) (gain x1) l * x2 (ix3 1 l k) := by
  rw [val_main_v19_apply]
  refine Finset.sum_congr rfl fun l _ => ?_
  rw [show lidx_main_v19 (ix2 p k) l = ix2 p l from funext fun a => by match a with | ⟨0, _⟩ => rfl | ⟨1, _⟩ => rfl,
    show ridx_main_v19 (ix2 p k) l = ix2 l k from funext fun a => by match a with | ⟨0, _⟩ => rfl | ⟨1, _⟩ => rfl, v14_at, v16_at]

/-- The gate before its activation. -/
theorem v20_at (k : Fin 2816) : val_main_v20 (F := Ideal) x0 x1 x2 (ix2 p k)
    = ∑ l : Fin 1024, nrm (row x0 p.val p.isLt) (gain x1) l * wGate x2 l k := by
  rw [val_main_v20_apply, show idx_main_v20 (ix2 p k) = ix2 p ⟨k.val, by omega⟩ from funext fun a => by match a with | ⟨0, _⟩ => rfl | ⟨1, _⟩ => rfl, v19_at]
  rfl
theorem v21_at (k : Fin 2816) : val_main_v21 (F := Ideal) x0 x1 x2 (ix2 p k)
    = ∑ l : Fin 1024, nrm (row x0 p.val p.isLt) (gain x1) l * wUp x2 l k := by
  rw [val_main_v21_apply, show idx_main_v21 (ix2 p k) = ix2 p ⟨2816 + k.val, by omega⟩ from funext fun a => by match a with | ⟨0, _⟩ => rfl | ⟨1, _⟩ => rfl, v19_at]
  rfl

/-- The logistic function as the host spells it. -/
theorem host_logistic (z : EReal) : FloatOps.hostDivf (F := Ideal) (φ := .f32) (FloatOps.ofBits .f32 0x3F800000#32) (FloatOps.addf (FloatOps.ofBits .f32 0x3F800000#32) (FloatOps.hostUnary .exp (FloatOps.hostNegf z))) = Ideal.logistic z := by
  simp [Ideal.logistic, Ideal.ofBits_one_f32]

theorem v23_at (k : Fin 2816) : val_main_v23 (F := Ideal) x0 x1 x2 (ix2 p k)
    = glu (∑ l, nrm (row x0 p.val p.isLt) (gain x1) l * wGate x2 l k) (∑ l, nrm (row x0 p.val p.isLt) (gain x1) l * wUp x2 l k) := by
  rw [val_main_v23_apply, val_main_v22_apply, val_main_call0_v5_apply, val_main_call0_v4_apply, val_main_call0_v3_apply, val_main_call0_v2_apply, val_main_call0_v1_apply, val_main_call0_v0_apply,
    val_main_call0_cst_apply, val_main_call0_cst_0_apply, host_logistic, v20_at, v21_at]
  rfl

theorem v27_at (c : Fin 1024) : val_main_v27 (F := Ideal) x0 x1 x2 x3 (ix2 p c)
    = tokenOut (row x0 p.val p.isLt) (gain x1) (wGate x2) (wUp x2) (wDown x3) c := by
  rw [val_main_v27_apply, val_main_v26_apply, val_main_v25_apply, val_main_cst_2_apply, val_main_v24_apply]
  refine congrArg (fun z : EReal => row x0 p.val p.isLt c + Ideal.ofBits .f32 0x3F000000#32 * z) (Finset.sum_congr rfl fun k _ => ?_)
  rw [show lidx_main_v24 (ix2 p c) k = ix2 p k from funext fun a => by match a with | ⟨0, _⟩ => rfl | ⟨1, _⟩ => rfl,
    show ridx_main_v24 (ix2 p c) k = ix2 k c from funext fun a => by match a with | ⟨0, _⟩ => rfl | ⟨1, _⟩ => rfl, v23_at, v18_at]
end At

end Cert.FfnMidRefIdeal.Hand

end
-- ==== Proof.FfnLeadRef.lean ====
module

public import proofs.«01_k».proof.Proof.Gen.FfnLeadRefIdeal.Run
public import proofs.«01_k».proof.Proof.Gen.FfnLeadRefIdeal.Read
public import proofs.«01_k».proof.Proof.FfnMidRef

@[expose] public section

set_option maxRecDepth 16384

noncomputable section

namespace Cert.FfnLeadRefIdeal.Hand

open Idealize.ShloMosaic hiding ix1 ix2 ix3 eq_ix2 eq_ix3 truncf_apply
open Idealize.ShloMosaic.ValueIdx
open Cert.FfnLeadRefIdeal Cert.FfnLeadRefIdeal.Read
open Cert.FfnLastIdeal.Hand (nrm glu tokenOut)
open Cert.FfnMidRefIdeal.Hand (host_logistic)

/-! # The reference, element by element

The reference puts the lead before every sequence and applies the block to each row: at an element it is `tokenOut` of the row so assembled. -/

variable (x0 : (⟨S16384x1024, .f32⟩ : BufTy).Contents (Elt Ideal)) (x1 : (⟨S128x1024, .f32⟩ : BufTy).Contents (Elt Ideal))
  (x2 : (⟨S2x1024, .f32⟩ : BufTy).Contents (Elt Ideal))
  (x3 : (⟨S2x1024x5632, .f32⟩ : BufTy).Contents (Elt Ideal)) (x4 : (⟨S2x2816x1024, .f32⟩ : BufTy).Contents (Elt Ideal))

/-- Row `n` of the assembled rows: each sequence is the 128 lead rows and then its 4096 tokens; -/
def row (n : ℕ) (h : n < 16896) (l : Fin 1024) : EReal :=
  if h' : n % 4224 < 128 then x1 (ix2 ⟨n % 4224, h'⟩ l) else x0 (ix2 ⟨n / 4224 * 4096 + (n % 4224 - 128), by omega⟩ l)
/-- the first layer's gain, -/
def gain (l : Fin 1024) : EReal := x2 (ix2 0 l)
/-- its input weights, gate half -/
def wGate (l : Fin 1024) (k : Fin 2816) : EReal := x3 (ix3 0 l ⟨k.val, by omega⟩)
/-- and up half, -/
def wUp (l : Fin 1024) (k : Fin 2816) : EReal := x3 (ix3 0 l ⟨2816 + k.val, by omega⟩)
/-- and its output weights. -/
def wDown (k : Fin 2816) (c : Fin 1024) : EReal := x4 (ix3 0 k c)

section At
variable (b : Fin 4) (p : Fin 4224)

/-- The row of position `p` in sequence `b`. -/
abbrev rowOf (l : Fin 1024) : EReal := row x0 x1 (b.val * 4224 + p.val) (by omega) l

theorem v3_at (l : Fin 1024) : val_main_v3 (F := Ideal) x0 x1 (ix3 b p l) = rowOf x0 x1 b p l := by
  unfold rowOf row val_main_v3
  have e : (b.val * 4224 + p.val) % 4224 = p.val := by omega
  have e' : (b.val * 4224 + p.val) / 4224 = b.val := by omega
  by_cases h : p.val < 128
  · rw [dif_pos (by omega)]
    refine (concatenate_pair_apply_left (t := S4x4224x1024) 1 (val_main_v1 (F := Ideal) x1) (val_main_v2 (F := Ideal) x0) _ (ix3 b p l) rfl (ix3 b ⟨p.val, h⟩ l) (fun a => by match a with | ⟨0, _⟩ => rfl | ⟨1, _⟩ => rfl | ⟨2, _⟩ => rfl)).trans ?_
    rw [val_main_v1_apply, val_main_v0_apply]
    refine congrArg x1 (funext fun a => Fin.ext ?_)
    match a with
    | ⟨0, _⟩ => exact e.symm
    | ⟨1, _⟩ => rfl
  · rw [dif_neg (by omega)]
    refine (concatenate_pair_apply_right (t := S4x4224x1024) 1 (val_main_v1 (F := Ideal) x1) (val_main_v2 (F := Ideal) x0) _ (ix3 b p l) rfl rfl (ix3 b (⟨p.val - 128, by omega⟩ : Fin 4096) l) (fun a ha => ?_) ?_).trans ?_
    · match a with
      | ⟨0, _⟩ => rfl
      | ⟨1, _⟩ => exact absurd rfl ha
      | ⟨2, _⟩ => rfl
    · show p.val - 128 + 128 = p.val; omega
    rw [val_main_v2_apply]
    refine congrArg x0 (funext fun a => Fin.ext ?_)
    have := l.isLt
    match a with
    | ⟨0, _⟩ => show ((b.val * 4096 + (p.val - 128)) * 1024 + l.val) / 1024 = (b.val * 4224 + p.val) / 4224 * 4096 + ((b.val * 4224 + p.val) % 4224 - 128); omega
    | ⟨1, _⟩ => show ((b.val * 4096 + (p.val - 128)) * 1024 + l.val) % 1024 = l.val; omega

theorem v7_at : val_main_v7 (F := Ideal) x0 x1 (ix2 b p) = ∑ k : Fin 1024, rowOf x0 x1 b p k * rowOf x0 x1 b p k := by
  rw [val_main_v7_apply, val_main_cst_apply]
  refine (congrArg (· + _) Ideal.ofBits_zero_f32).trans ((zero_add _).trans (Finset.sum_congr rfl fun k _ => ?_))
  rw [show idx_main_v7 (ix2 b p) k = ix3 b p k from funext fun a => by match a with | ⟨0, _⟩ => rfl | ⟨1, _⟩ => rfl | ⟨2, _⟩ => rfl, val_main_v6_apply, v3_at]
  rfl

theorem v13_at : val_main_v13 (F := Ideal) x0 x1 (ix3 b p 0) = Ideal.rsqrt (Ideal.div (∑ k : Fin 1024, rowOf x0 x1 b p k * rowOf x0 x1 b p k) (Ideal.ofBits .f32 0x44800000#32) + Ideal.ofBits .f32 0x358637BD#32) := by
  rw [val_main_v13_apply, val_main_v12_apply, val_main_v10_apply, val_main_v8_apply, val_main_v9_apply, val_main_v11_apply, val_main_cst_0_apply, val_main_cst_1_apply,
    show idx_main_v8 (ix3 b p 0) = ix2 b p from funext fun a => by match a with | ⟨0, _⟩ => rfl | ⟨1, _⟩ => rfl, v7_at]
  rfl

theorem v17_at (l : Fin 1024) : val_main_v17 (F := Ideal) x2 (ix3 b p l) = gain x2 l := by
  rw [val_main_v17_apply, val_main_v16_apply, val_main_v5_apply, val_main_v4_apply]
  refine congrArg x2 (funext fun a => Fin.ext ?_)
  have := l.isLt
  match a with
  | ⟨0, _⟩ => rfl
  | ⟨1, _⟩ => show l.val % 1024 = l.val; omega

theorem v18_at (l : Fin 1024) : val_main_v18 (F := Ideal) x0 x1 x2 (ix3 b p l) = nrm (rowOf x0 x1 b p) (gain x2) l := by
  rw [val_main_v18_apply, val_main_v15_apply, val_main_v14_apply, v17_at, v3_at,
    show idx_main_v14 (ix3 b p l) = ix3 b p 0 from funext fun a => by match a with | ⟨0, _⟩ => rfl | ⟨1, _⟩ => rfl | ⟨2, _⟩ => rfl, v13_at]
  rfl

theorem v20_at (l : Fin 1024) (k : Fin 5632) : val_main_v20 (F := Ideal) x3 (ix2 l k) = x3 (ix3 0 l k) := by
  rw [val_main_v20_apply, val_main_v19_apply]
  refine congrArg x3 (funext fun a => Fin.ext ?_)
  have := l.isLt
  have := k.isLt
  match a with
  | ⟨0, _⟩ => rfl
  | ⟨1, _⟩ => show (l.val * 5632 + k.val) / 5632 % 1024 = l.val; omega
  | ⟨2, _⟩ => show (l.val * 5632 + k.val) % 5632 = k.val; omega

theorem v22_at (k : Fin 2816) (c : Fin 1024) : val_main_v22 (F := Ideal) x4 (ix2 k c) = wDown x4 k c := by
  rw [val_main_v22_apply, val_main_v21_apply]
  refine congrArg x4 (funext fun a => Fin.ext ?_)
  have := k.isLt
  have := c.isLt
  match a with
  | ⟨0, _⟩ => rfl
  | ⟨1, _⟩ => show (k.val * 1024 + c.val) / 1024 % 2816 = k.val; omega
  | ⟨2, _⟩ => show (k.val * 1024 + c.val) % 1024 = c.val; omega

theorem v23_at (k : Fin 5632) : val_main_v23 (F := Ideal) x0 x1 x2 x3 (ix3 b p k)
    = ∑ l : Fin 1024, nrm (rowOf x0 x1 b p) (gain x2) l * x3 (ix3 0 l k) := by
  rw [val_main_v23_apply]
  refine Finset.sum_congr rfl fun l _ => ?_
  rw [show lidx_main_v23 (ix3 b p k) l = ix3 b p l from funext fun a => by match a with | ⟨0, _⟩ => rfl | ⟨1, _⟩ => rfl | ⟨2, _⟩ => rfl,
    show ridx_main_v23 (ix3 b p k) l = ix2 l k from funext fun a => by match a with | ⟨0, _⟩ => rfl | ⟨1, _⟩ => rfl, v18_at, v20_at]

/-- The gate before its activation, and the other half. -/
theorem v24_at (k : Fin 2816) : val_main_v24 (F := Ideal) x0 x1 x2 x3 (ix3 b p k) = ∑ l : Fin 1024, nrm (rowOf x0 x1 b p) (gain x2) l * wGate x3 l k := by
  rw [val_main_v24_apply, show idx_main_v24 (ix3 b p k) = ix3 b p ⟨k.val, by omega⟩ from funext fun a => by match a with | ⟨0, _⟩ => rfl | ⟨1, _⟩ => rfl | ⟨2, _⟩ => rfl, v23_at]
  rfl
theorem v25_at (k : Fin 2816) : val_main_v25 (F := Ideal) x0 x1 x2 x3 (ix3 b p k) = ∑ l : Fin 1024, nrm (rowOf x0 x1 b p) (gain x2) l * wUp x3 l k := by
  rw [val_main_v25_apply, show idx_main_v25 (ix3 b p k) = ix3 b p ⟨2816 + k.val, by omega⟩ from funext fun a => by match a with | ⟨0, _⟩ => rfl | ⟨1, _⟩ => rfl | ⟨2, _⟩ => rfl, v23_at]
  rfl

theorem v27_at (k : Fin 2816) : val_main_v27 (F := Ideal) x0 x1 x2 x3 (ix3 b p k)
    = glu (∑ l, nrm (rowOf x0 x1 b p) (gain x2) l * wGate x3 l k) (∑ l, nrm (rowOf x0 x1 b p) (gain x2) l * wUp x3 l k) := by
  rw [val_main_v27_apply, val_main_v26_apply, val_main_call0_v5_apply, val_main_call0_v4_apply, val_main_call0_v3_apply, val_main_call0_v2_apply, val_main_call0_v1_apply, val_main_call0_v0_apply,
    val_main_call0_cst_apply, val_main_call0_cst_0_apply, host_logistic, v24_at, v25_at]
  rfl

theorem v31_at (c : Fin 1024) : val_main_v31 (F := Ideal) x0 x1 x2 x3 x4 (ix3 b p c)
    = tokenOut (rowOf x0 x1 b p) (gain x2) (wGate x3) (wUp x3) (wDown x4) c := by
  rw [val_main_v31_apply, val_main_v30_apply, val_main_v29_apply, val_main_cst_2_apply, val_main_v28_apply, v3_at]
  refine congrArg (fun z : EReal => rowOf x0 x1 b p c + Ideal.ofBits .f32 0x3F000000#32 * z) (Finset.sum_congr rfl fun k _ => ?_)
  rw [show lidx_main_v28 (ix3 b p c) k = ix3 b p k from funext fun a => by match a with | ⟨0, _⟩ => rfl | ⟨1, _⟩ => rfl | ⟨2, _⟩ => rfl,
    show ridx_main_v28 (ix3 b p c) k = ix2 k c from funext fun a => by match a with | ⟨0, _⟩ => rfl | ⟨1, _⟩ => rfl, v27_at, v22_at]
end At

theorem v32_at (n : Fin 16896) (c : Fin 1024) : val_main_v32 (F := Ideal) x0 x1 x2 x3 x4 (ix2 n c)
    = tokenOut (row x0 x1 n.val n.isLt) (gain x2) (wGate x3) (wUp x3) (wDown x4) c := by
  have hc := c.isLt
  rw [val_main_v32_apply, show idx_main_v32 (ix2 n c) = ix3 ⟨n.val / 4224, by omega⟩ ⟨n.val % 4224, by omega⟩ c from funext fun a => Fin.ext (by
    match a with
    | ⟨0, _⟩ => show (n.val * 1024 + c.val) / 4325376 = n.val / 4224; omega
    | ⟨1, _⟩ => show (n.val * 1024 + c.val) / 1024 % 4224 = n.val % 4224; omega
    | ⟨2, _⟩ => show (n.val * 1024 + c.val) % 1024 = c.val; omega), v31_at]
  have e : ∀ h, row x0 x1 (n.val / 4224 * 4224 + n.val % 4224) h = row x0 x1 n.val n.isLt := by
    rw [Nat.div_add_mod']; exact fun _ => rfl
  exact congrArg (fun R => tokenOut R (gain x2) (wGate x3) (wUp x3) (wDown x4) c) (e _)

end Cert.FfnLeadRefIdeal.Hand

end
-- ==== Proof.FfnMidOut.lean ====
module

public import proofs.«01_k».proof.Proof.FfnMidBody
public import proofs.«01_k».proof.Proof.FfnMidRef

@[expose] public section

set_option maxRecDepth 16384

noncomputable section

namespace Cert.FfnMidIdeal.Hand

open Idealize.ShloMosaic hiding ix1 ix2 ix3 eq_ix2 eq_ix3 truncf_apply
open Idealize.ShloMosaic.TcCoe Idealize.ShloMosaic.Tactic
open Idealize.ShloMosaic.ValueIdx
open Idealize.ShloMosaic.Pipeline (Dat Cfg Window)
open Cert.FfnMidIdeal.Gen
open Cert.FfnLastIdeal.Hand (nrm glu tokenOut)
open Cert.FfnMidRefIdeal.Hand (row gain wGate wUp wDown)

variable (m : (ℓ : Loc nD τ sig) → Buf (Elt Ideal) ℓ) (ρ : Dev nD → PrngReg) (c : Dev nD)

abbrev A0 : (⟨S16896x1024, .f32⟩ : BufTy).Contents (Elt Ideal) := m ((c.tc : Thread nD τ).loc main_arg0)
abbrev A1 : (⟨S2x1024, .f32⟩ : BufTy).Contents (Elt Ideal) := m ((c.tc : Thread nD τ).loc main_arg1)
abbrev A2 : (⟨S2x1024x5632, .f32⟩ : BufTy).Contents (Elt Ideal) := m ((c.tc : Thread nD τ).loc main_arg2)
abbrev A3 : (⟨S2x2816x1024, .f32⟩ : BufTy).Contents (Elt Ideal) := m ((c.tc : Thread nD τ).loc main_arg3)

/-! ## The blocks of a grid point, at an element -/

/-- The first row of a grid point's tile. -/
def start (t : ℕ) : ℕ := (t - 10) * 768

theorem start_lt (t : Fin cfg0.N) (r : ℕ) (hr : r < 768) : start t.val + r < 16896 := by
  have : t.val < 32 := lt_of_lt_of_eq t.isLt (show cfg0.N = 32 from N_0)
  unfold start; omega

theorem idx0 : ∀ t : Fin grid0.N, win0_0.index t 0 = t.val - 10 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 1 ∧ win0_2.index t 1 = 0 ∧ win0_2.index t 2 = min t.val 10 := by decide +kernel
theorem idx3 : ∀ t : Fin grid0.N, win0_3.index t 0 = 1 ∧ win0_3.index t 1 = 0 ∧ win0_3.index t 2 = 11 + min t.val 10 := by decide +kernel
theorem idx4 : ∀ t : Fin grid0.N, win0_4.index t 0 = 1 ∧ win0_4.index t 1 = min t.val 10 ∧ win0_4.index t 2 = 0 := by decide +kernel
theorem idx5 : ∀ t : Fin grid0.N, 10 ≤ t.val → win0_5.index t 0 = t.val - 10 ∧ win0_5.index t 1 = 0 := by decide +kernel

theorem blk0 (t : Fin cfg0.N) (r : Fin 768) (l : Fin 1024) : (iblk m c 0 t : FVec Ideal S768x1024 .f32) (ix2 r l) = row (A0 m c) (start t.val + r.val) (start_lt t _ r.isLt) l := by
  blk_simp [iblk]
  rw [V_main_arg0]
  refine congrArg (A0 m c) (funext fun a => Fin.ext ?_)
  match a with
  | ⟨0, _⟩ => show win0_0.index t 0 * 768 + 1 * r.val = start t.val + r.val; rw [(idx0 t).1]; unfold start; omega
  | ⟨1, _⟩ => show win0_0.index t 1 * 1024 + 1 * l.val = l.val; rw [(idx0 t).2]; omega

theorem blk1 (t : Fin cfg0.N) (l : Fin 1024) : (iblk m c 1 t : FVec Ideal S1x1024 .f32) (ix2 0 l) = gain (A1 m c) l := by
  blk_simp [iblk]
  entry_read
  refine (broadcastInDim_apply _ _ _ _ (ix1 l) (fun a => ?_)).trans ((shapeCast_1a_a_apply _ _ l).trans ?_)
  · match a with
    | ⟨0, _⟩ => show l.val = if (1024 : ℕ) = 1 then 0 else win0_1.index t 1 * 1024 + 1 * l.val; rw [if_neg (by decide), (idx1 t).2]; omega
  refine (extractStridedSlice_apply ![1, 0] (A1 m c) _ (ix2 (0 : Fin 1) l) (ix2 (1 : Fin 2) l) (fun a => ?_))
  match a with
  | ⟨0, _⟩ => rfl
  | ⟨1, _⟩ => exact (Nat.zero_add _).symm

theorem blk2 (t : Fin cfg0.N) (l : Fin 1024) (k : Fin 256) (h : min t.val 10 * 256 + k.val < 2816) :
    (iblk m c 2 t : FVec Ideal S1x1024x256 .f32) (ix3 0 l k) = wGate (A2 m c) l ⟨min t.val 10 * 256 + k.val, h⟩ := by
  blk_simp [iblk]
  rw [V_main_arg2]
  refine congrArg (A2 m c) (funext fun a => Fin.ext ?_)
  match a with
  | ⟨0, _⟩ => blk_simp [(idx2 t).1]; rfl
  | ⟨1, _⟩ => blk_simp [(idx2 t).2.1]
  | ⟨2, _⟩ => blk_simp [(idx2 t).2.2]

theorem blk3 (t : Fin cfg0.N) (l : Fin 1024) (k : Fin 256) (h : min t.val 10 * 256 + k.val < 2816) :
    (iblk m c 3 t : FVec Ideal S1x1024x256 .f32) (ix3 0 l k) = wUp (A2 m c) l ⟨min t.val 10 * 256 + k.val, h⟩ := by
  blk_simp [iblk]
  rw [V_main_arg2]
  refine congrArg (A2 m c) (funext fun a => Fin.ext ?_)
  match a with
  | ⟨0, _⟩ => blk_simp [(idx3 t).1]; rfl
  | ⟨1, _⟩ => blk_simp [(idx3 t).2.1]
  | ⟨2, _⟩ => blk_simp [(idx3 t).2.2]; show (11 + min t.val 10) * 256 + k.val = 2816 + (min t.val 10 * 256 + k.val); omega

theorem blk4 (t : Fin cfg0.N) (k : Fin 256) (j : Fin 1024) (h : min t.val 10 * 256 + k.val < 2816) :
    (iblk m c 4 t : FVec Ideal S1x256x1024 .f32) (ix3 0 k j) = wDown (A3 m c) ⟨min t.val 10 * 256 + k.val, h⟩ j := by
  blk_simp [iblk]
  rw [V_main_arg3]
  refine congrArg (A3 m c) (funext fun a => Fin.ext ?_)
  match a with
  | ⟨0, _⟩ => blk_simp [(idx4 t).1]; rfl
  | ⟨1, _⟩ => blk_simp [(idx4 t).2.1]
  | ⟨2, _⟩ => blk_simp [(idx4 t).2.2]

/-! ## The resident chunks -/

theorem ptn_min (j : Fin 11) : min (ptn j.val).val 10 = j.val := by
  show min (min j.val 31) 10 = j.val; omega

theorem Gb_at (j : Fin 11) (l : Fin 1024) (k : Fin 256) (h : j.val * 256 + k.val < 2816) : Gb m c j (ix2 l k) = wGate (A2 m c) l ⟨j.val * 256 + k.val, h⟩ := by
  unfold Gb
  rw [pay11_apply]
  refine (blk2 m c _ l k (by rw [ptn_min]; exact h)).trans ?_
  simp only [ptn_min]
theorem Ub_at (j : Fin 11) (l : Fin 1024) (k : Fin 256) (h : j.val * 256 + k.val < 2816) : Ub m c j (ix2 l k) = wUp (A2 m c) l ⟨j.val * 256 + k.val, h⟩ := by
  unfold Ub
  rw [pay12_apply]
  refine (blk3 m c _ l k (by rw [ptn_min]; exact h)).trans ?_
  simp only [ptn_min]
theorem Db_at (j : Fin 11) (k : Fin 256) (o : Fin 1024) (h : j.val * 256 + k.val < 2816) : Db m c j (ix2 k o) = wDown (A3 m c) ⟨j.val * 256 + k.val, h⟩ o := by
  unfold Db
  rw [pay13_apply]
  refine (blk4 m c _ k o (by rw [ptn_min]; exact h)).trans ?_
  simp only [ptn_min]

/-! ## A tile's output -/

/-- The first tile's accumulator after `n` prologue points is the sum of the first `n` chunks. -/
theorem accP_at (r : Fin 768) (o : Fin 1024) : ∀ n : ℕ, n ≤ 11 → accP m c n (ix2 r o)
    = ∑ j ∈ Finset.range n, if h : j < 11 then chunkAt (xn m c) (Gb m c ⟨j, h⟩) (Ub m c ⟨j, h⟩) (Db m c ⟨j, h⟩) r o else 0
  | 0, _ => by rw [Finset.sum_range_zero]; exact pay2_apply _
  | n + 1, h => by
    have hn : n < 11 := h
    rw [Finset.sum_range_succ, ← accP_at r o n (by omega), dif_pos hn]
    exact pay14_apply _ _ _ _ _ r o

/-- What a tile writes back, at an element. -/
theorem outB_at (t : Fin cfg0.N) (ht : 10 ≤ t.val) (r : Fin 768) (o : Fin 1024) : outB m c t (ix2 r o)
    = tokenOut (row (A0 m c) (start t.val + r.val) (start_lt t _ r.isLt)) (gain (A1 m c)) (wGate (A2 m c)) (wUp (A2 m c)) (wDown (A3 m c)) o := by
  have hx : ∀ s l, (iblk m c 0 t : FVec Ideal S768x1024 .f32) (ix2 s l) = row (A0 m c) (start t.val + s.val) (start_lt t _ s.isLt) l := blk0 m c t
  unfold outB tokenOut
  split
  · next h10 =>
    rw [pay4_apply, hx, accP_at m c r o 11 (Nat.le_refl _), Finset.sum_range]
    refine congrArg (fun z : EReal => row (A0 m c) (start t.val + r.val) (start_lt t _ r.isLt) o + Ideal.ofBits .f32 0x3F000000#32 * z) ?_
    refine Eq.trans (Finset.sum_congr rfl fun j _ => dif_pos j.isLt) ?_
    refine sum_chunks (xn m c) (Gb m c) (Ub m c) (Db m c) _ _ _ _ _ r o (fun l => ?_) (Gb_at m c) (Ub_at m c) (fun j k h => Db_at m c j k o h)
    unfold xn
    rw [pay1_eq, pay15_apply]
    have e : start (ptn 0).val = start t.val := by rw [h10]; rfl
    have hx0 : ∀ s l, (iblk m c 0 (ptn 0) : FVec Ideal S768x1024 .f32) (ix2 s l) = row (A0 m c) (start t.val + s.val) (start_lt t _ s.isLt) l := by
      intro s l
      rw [blk0]
      unfold row
      simp only [e]
    simp only [hx0, blk1]
  · next h10 =>
    rw [pay7_apply, hx, accTile_apply]
    refine congrArg (fun z : EReal => row (A0 m c) (start t.val + r.val) (start_lt t _ r.isLt) o + Ideal.ofBits .f32 0x3F000000#32 * z) ?_
    refine sum_chunks _ (Gb m c) (Ub m c) (Db m c) _ _ _ _ _ r o (fun l => ?_) (Gb_at m c) (Ub_at m c) (fun j k h => Db_at m c j k o h)
    rw [pay15_apply]
    simp only [hx, blk1]

/-! ## The result array -/

/-- The output array, element by element. -/
def G (c : Dev nD) : Buf (Elt Ideal) ((c.tc : Thread nD τ).loc main_v3) := fun i : S16896x1024.Idx =>
  tokenOut (row (A0 m c) (i 0).val (i 0).isLt) (gain (A1 m c)) (wGate (A2 m c)) (wUp (A2 m c)) (wDown (A3 m c)) ⟨(i 1).val, (i 1).isLt⟩

/-- An element of the output array, named by its row and its column. -/
theorem G_at (i : S16896x1024.Idx) (n : ℕ) (hn : n < 16896) (o : Fin 1024) (e : n = (i 0).val) (eo : o.val = (i 1).val) :
    tokenOut (row (A0 m c) n hn) (gain (A1 m c)) (wGate (A2 m c)) (wUp (A2 m c)) (wDown (A3 m c)) o = G m c i := by
  subst e
  obtain rfl : o = ⟨(i 1).val, (i 1).isLt⟩ := Fin.ext eo
  rfl

/-- The array the launch leaves in its result is `G`. -/
theorem final : (dats m 0 c).arrAt 5 cfg0.N = G m c := by
  refine (dats m 0 c).arrAt_eq_of_covers 5 _ (by decide +kernel) (fun t hf y => ?_)
  have ht : 10 ≤ t.val := (hflush t).1 hf
  blk_simp
  rw [after0_5]
  have h0 : (y 0).val < 768 := (y 0).isLt
  have h1 : (y 1).val < 1024 := (y 1).isLt
  have ey : y = ix2 (⟨(y 0).val, h0⟩ : Fin 768) (⟨(y 1).val, h1⟩ : Fin 1024) := funext fun a => Fin.ext (by
    match a with
    | ⟨0, _⟩ => rfl
    | ⟨1, _⟩ => rfl)
  obtain ⟨i0, i1⟩ := idx5 t ht
  have e0 : ((win0_5.blk t).view.emb y 0).val = (t.val - 10) * 768 + (y 0).val := by blk_simp [i0]
  have e1 : ((win0_5.blk t).view.emb y 1).val = (y 1).val := by blk_simp [i1]
  refine (congrArg (outB m c t) ey).trans ((outB_at m c t ht _ _).trans ?_)
  exact G_at m c _ _ _ _ (by rw [e0]; rfl) e1.symm

/-- The kernel's run, its result read. -/
theorem run_value : θ_run defs (onTc (τ := τ) (main (F := Ideal))) ⟨m, fun _ => 0, ρ⟩ (fun r => ∀ c : Dev nD,
      r.2.mem ((c.tc : Thread nD τ).loc main_v3) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 5).trans (final m c), h.2 c⟩) (θ_run_and (run_main m ρ) (unchanged m ρ))

/-- The reference's array is the kernel's, of arguments that agree. -/
theorem ref_eq (x0 : (⟨S16896x1024, .f32⟩ : BufTy).Contents (Elt Ideal)) (x1 : (⟨S2x1024, .f32⟩ : BufTy).Contents (Elt Ideal))
    (x2 : (⟨S2x1024x5632, .f32⟩ : BufTy).Contents (Elt Ideal)) (x3 : (⟨S2x2816x1024, .f32⟩ : BufTy).Contents (Elt Ideal))
    (h0 : x0 = A0 m c) (h1 : x1 = A1 m c) (h2 : x2 = A2 m c) (h3 : x3 = A3 m c) :
    Cert.FfnMidRefIdeal.Read.val_main_v27 (F := Ideal) x0 x1 x2 x3 = G m c := by
  subst h0 h1 h2 h3
  funext i
  obtain ⟨p, o, rfl⟩ : ∃ (p : Fin 16896) (o : Fin 1024), i = ix2 p o := ⟨_, _, eq_ix2 i⟩
  exact Cert.FfnMidRefIdeal.Hand.v27_at _ _ _ _ p o

end Cert.FfnMidIdeal.Hand

end
-- ==== Proof.FfnLeadOut.lean ====
module

public import proofs.«01_k».proof.Proof.FfnLeadBody
public import proofs.«01_k».proof.Proof.FfnLeadRef
public import proofs.«01_k».proof.Proof.FfnMidOut

@[expose] public section

set_option maxRecDepth 16384

noncomputable section

namespace Cert.FfnLeadIdeal.Hand

open Idealize.ShloMosaic hiding ix1 ix2 ix3 eq_ix2 eq_ix3 truncf_apply
open Idealize.ShloMosaic.TcCoe Idealize.ShloMosaic.Tactic
open Idealize.ShloMosaic.ValueIdx
open Idealize.ShloMosaic.Pipeline (Dat Cfg Window)
open Cert.FfnLeadIdeal.Gen
open Cert.FfnMidIdeal.Hand (accTile pay1_eq pay2_apply pay4_apply pay7_apply pay11_apply pay12_apply pay13_apply pay14_apply pay15_apply accTile_apply chunkAt sum_chunks)
open Cert.FfnLastIdeal.Hand (nrm glu tokenOut)
open Cert.FfnLeadRefIdeal.Hand (row gain wGate wUp wDown)

variable (m : (ℓ : Loc nD τ sig) → Buf (Elt Ideal) ℓ) (ρ : Dev nD → PrngReg) (c : Dev nD)

abbrev A0 : (⟨S16384x1024, .f32⟩ : BufTy).Contents (Elt Ideal) := m ((c.tc : Thread nD τ).loc main_arg0)
abbrev A1 : (⟨S128x1024, .f32⟩ : BufTy).Contents (Elt Ideal) := m ((c.tc : Thread nD τ).loc main_arg1)
abbrev A2 : (⟨S2x1024, .f32⟩ : BufTy).Contents (Elt Ideal) := m ((c.tc : Thread nD τ).loc main_arg2)
abbrev A3 : (⟨S2x1024x5632, .f32⟩ : BufTy).Contents (Elt Ideal) := m ((c.tc : Thread nD τ).loc main_arg3)
abbrev A4 : (⟨S2x2816x1024, .f32⟩ : BufTy).Contents (Elt Ideal) := m ((c.tc : Thread nD τ).loc main_arg4)

/-! ## The blocks of a grid point, at an element -/

/-- The first row of a grid point's tile. -/
def start (t : ℕ) : ℕ := (t - 10) * 768

theorem start_lt (t : Fin cfg0.N) (r : ℕ) (hr : r < 768) : start t.val + r < 16896 := by
  have : t.val < 32 := lt_of_lt_of_eq t.isLt (show cfg0.N = 32 from N_0)
  unfold start; omega

theorem idx0 : ∀ t : Fin grid0.N, win0_0.index t 0 = (6 * (t.val - 10) - (6 * (t.val - 10) + 32) / 33) * 128 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 ∧ win0_3.index t 2 = min t.val 10 := by decide +kernel
theorem idx4 : ∀ t : Fin grid0.N, win0_4.index t 0 = 0 ∧ win0_4.index t 1 = 0 ∧ win0_4.index t 2 = 11 + min t.val 10 := by decide +kernel
theorem idx5 : ∀ t : Fin grid0.N, win0_5.index t 0 = 0 ∧ win0_5.index t 1 = min t.val 10 ∧ win0_5.index t 2 = 0 := by decide +kernel
theorem idx6 : ∀ t : Fin grid0.N, 10 ≤ t.val → win0_6.index t 0 = t.val - 10 ∧ win0_6.index t 1 = 0 := by decide +kernel

theorem blk0_lt (t : Fin cfg0.N) (r : Fin 768) : (6 * (t.val - 10) - (6 * (t.val - 10) + 32) / 33) * 128 + r.val < 16384 := by
  have : t.val < 32 := lt_of_lt_of_eq t.isLt (show cfg0.N = 32 from N_0)
  omega

theorem blk0 (t : Fin cfg0.N) (r : Fin 768) (l : Fin 1024) : (iblk m c 0 t : FVec Ideal S768x1024 .f32) (ix2 r l)
    = A0 m c (ix2 ⟨(6 * (t.val - 10) - (6 * (t.val - 10) + 32) / 33) * 128 + r.val, blk0_lt t r⟩ l) := by
  blk_simp [iblk]
  rw [V_main_arg0]
  refine congrArg (A0 m c) (funext fun a => Fin.ext ?_)
  match a with
  | ⟨0, _⟩ => show win0_0.index t 0 + 1 * r.val = _; rw [(idx0 t).1]; show _ = (6 * (t.val - 10) - (6 * (t.val - 10) + 32) / 33) * 128 + r.val; omega
  | ⟨1, _⟩ => show win0_0.index t 1 + 1 * l.val = l.val; rw [(idx0 t).2]; omega

theorem blk1 (t : Fin cfg0.N) (s : Fin 128) (l : Fin 1024) : (iblk m c 1 t : FVec Ideal S128x1024 .f32) (ix2 s l) = A1 m c (ix2 s l) := by
  blk_simp [iblk]
  rw [V_main_arg1]
  refine congrArg (A1 m c) (funext fun a => Fin.ext ?_)
  match a with
  | ⟨0, _⟩ => show win0_1.index t 0 * 128 + 1 * s.val = s.val; rw [(idx1 t).1]; omega
  | ⟨1, _⟩ => show win0_1.index t 1 * 1024 + 1 * l.val = l.val; rw [(idx1 t).2]; omega

theorem blk2 (t : Fin cfg0.N) (l : Fin 1024) : (iblk m c 2 t : FVec Ideal S1x1024 .f32) (ix2 0 l) = gain (A2 m c) l := by
  blk_simp [iblk]
  entry_read
  refine (broadcastInDim_apply _ _ _ _ (ix1 l) (fun a => ?_)).trans ((shapeCast_1a_a_apply _ _ l).trans ?_)
  · match a with
    | ⟨0, _⟩ => show l.val = if (1024 : ℕ) = 1 then 0 else win0_2.index t 1 * 1024 + 1 * l.val; rw [if_neg (by decide), (idx2 t).2]; omega
  refine (extractStridedSlice_apply ![0, 0] (A2 m c) _ (ix2 (0 : Fin 1) l) (ix2 (0 : Fin 2) l) (fun a => ?_))
  match a with
  | ⟨0, _⟩ => rfl
  | ⟨1, _⟩ => exact (Nat.zero_add _).symm

theorem blk3 (t : Fin cfg0.N) (l : Fin 1024) (k : Fin 256) (h : min t.val 10 * 256 + k.val < 2816) :
    (iblk m c 3 t : FVec Ideal S1x1024x256 .f32) (ix3 0 l k) = wGate (A3 m c) l ⟨min t.val 10 * 256 + k.val, h⟩ := by
  blk_simp [iblk]
  rw [V_main_arg3]
  refine congrArg (A3 m c) (funext fun a => Fin.ext ?_)
  match a with
  | ⟨0, _⟩ => blk_simp [(idx3 t).1]; rfl
  | ⟨1, _⟩ => blk_simp [(idx3 t).2.1]
  | ⟨2, _⟩ => blk_simp [(idx3 t).2.2]

theorem blk4 (t : Fin cfg0.N) (l : Fin 1024) (k : Fin 256) (h : min t.val 10 * 256 + k.val < 2816) :
    (iblk m c 4 t : FVec Ideal S1x1024x256 .f32) (ix3 0 l k) = wUp (A3 m c) l ⟨min t.val 10 * 256 + k.val, h⟩ := by
  blk_simp [iblk]
  rw [V_main_arg3]
  refine congrArg (A3 m c) (funext fun a => Fin.ext ?_)
  match a with
  | ⟨0, _⟩ => blk_simp [(idx4 t).1]; rfl
  | ⟨1, _⟩ => blk_simp [(idx4 t).2.1]
  | ⟨2, _⟩ => blk_simp [(idx4 t).2.2]; show (11 + min t.val 10) * 256 + k.val = 2816 + (min t.val 10 * 256 + k.val); omega

theorem blk5 (t : Fin cfg0.N) (k : Fin 256) (j : Fin 1024) (h : min t.val 10 * 256 + k.val < 2816) :
    (iblk m c 5 t : FVec Ideal S1x256x1024 .f32) (ix3 0 k j) = wDown (A4 m c) ⟨min t.val 10 * 256 + k.val, h⟩ j := by
  blk_simp [iblk]
  rw [V_main_arg4]
  refine congrArg (A4 m c) (funext fun a => Fin.ext ?_)
  match a with
  | ⟨0, _⟩ => blk_simp [(idx5 t).1]; rfl
  | ⟨1, _⟩ => blk_simp [(idx5 t).2.1]
  | ⟨2, _⟩ => blk_simp [(idx5 t).2.2]

/-! ## The assembled tile, at an element -/

section Tile
variable (q : ℕ) (x : Vec Ideal S768x1024 .f32) (l : Vec Ideal S128x1024 .f32)

theorem blkOf_at (j : Fin 6) (s : Fin 128) (o : Fin 1024) : blkOf x j (ix2 s o) = x (ix2 ⟨128 * j.val + s.val, by omega⟩ o) := by
  unfold blkOf VecWindow.window
  refine congrArg x (funext fun a => Fin.ext ?_)
  match a with
  | ⟨0, _⟩ => show 128 * j.val + 1 * s.val = 128 * j.val + s.val; omega
  | ⟨1, _⟩ => show 0 + 1 * o.val = o.val; omega

/-- Block `j` of the assembled tile. -/
def pieceOf (q : BitVec 32) (x : Vec Ideal S768x1024 .f32) (l : Vec Ideal S128x1024 .f32) : Fin 6 → Vec Ideal S128x1024 .f32
  | 0 => Scalar.select (Scalar.cmpi .eq q 0#32) l (blkOf x 0)
  | ⟨j + 1, h⟩ => partOf q x l ⟨j, by omega⟩

theorem isLead : ∀ (q : Fin 33) (j : Fin 6), Scalar.cmpi .eq (BitVec.ofNat 32 q.val) (BitVec.ofNat 32 j.val) = if q.val = j.val then 1#1 else 0#1 := by decide +kernel
theorem isMoved : ∀ (q : Fin 33) (j : Fin 6), Scalar.cmpi .slt (BitVec.ofNat 32 q.val) (BitVec.ofNat 32 j.val) = if q.val < j.val then 1#1 else 0#1 := by decide +kernel

theorem pieceOf_at (hq : q < 33) (j : Fin 6) (s : Fin 128) (o : Fin 1024) : pieceOf (BitVec.ofNat 32 q) x l j (ix2 s o)
    = if q = j.val then l (ix2 s o) else x (ix2 ⟨128 * (if q < j.val then j.val - 1 else j.val) + s.val, by split <;> omega⟩ o) := by
  have e := isLead ⟨q, hq⟩ j
  have e' := isMoved ⟨q, hq⟩ j
  match j with
  | 0 =>
    show Scalar.select (Scalar.cmpi .eq (BitVec.ofNat 32 q) 0#32) l (blkOf x 0) (ix2 s o) = _
    rw [show Scalar.cmpi .eq (BitVec.ofNat 32 q) 0#32 = _ from e]
    by_cases h : q = 0
    · subst h; rfl
    · simp only [show ¬ q = (0 : Fin 6).val from h, if_false, show ¬ q < (0 : Fin 6).val from Nat.not_lt_zero q]
      exact blkOf_at x 0 s o
  | ⟨j + 1, hj⟩ =>
    show partOf (BitVec.ofNat 32 q) x l ⟨j, by omega⟩ (ix2 s o) = _
    unfold partOf
    rw [show Scalar.cmpi .eq (BitVec.ofNat 32 q) (BitVec.ofNat 32 (j + 1)) = _ from e, show Scalar.cmpi .slt (BitVec.ofNat 32 q) (BitVec.ofNat 32 (j + 1)) = _ from e']
    by_cases h : q = j + 1
    · simp only [h, if_true]; rfl
    · by_cases h' : q < j + 1
      · simp only [h, h', if_false, if_true]; exact blkOf_at x ⟨j, by omega⟩ s o
      · simp only [h, h', if_false]; exact blkOf_at x ⟨j + 1, hj⟩ s o

theorem rowsAt_at (w : BitVec 32) (j : Fin 6) (s : Fin 128) (o : Fin 1024) : rowsAt w x l (ix2 (⟨128 * j.val + s.val, by omega⟩ : Fin 768) o) = pieceOf w x l j (ix2 s o) := by
  unfold rowsAt
  refine concatenate_apply_piece (t := S768x1024) 0 _ _ _ j.val (by exact j.isLt) S128x1024 (pieceOf w x l j) ?_ rfl (128 * j.val) ?_ (ix2 s o) (fun a ha => ?_) rfl
  · match j with
    | 0 | 1 | 2 | 3 | 4 | 5 => rfl
  · match j with
    | 0 | 1 | 2 | 3 | 4 | 5 => rfl
  · match a with
    | ⟨0, _⟩ => exact absurd rfl ha
    | ⟨1, _⟩ => rfl
end Tile

theorem tile_arith (T j s : ℕ) (hT : T < 22) (hj : j < 6) (hs : s < 128) :
    ((33 - 6 * T % 33) % 33 = j → (T * 768 + (128 * j + s)) % 4224 = s)
    ∧ ((33 - 6 * T % 33) % 33 ≠ j → 128 ≤ (T * 768 + (128 * j + s)) % 4224
      ∧ (6 * T - (6 * T + 32) / 33) * 128 + (128 * (if (33 - 6 * T % 33) % 33 < j then j - 1 else j) + s)
        = (T * 768 + (128 * j + s)) / 4224 * 4096 + ((T * 768 + (128 * j + s)) % 4224 - 128)) := by
  interval_cases T <;> interval_cases j <;> simp <;> omega

/-- The tile put together is the rows of its place, the lead among them. -/
theorem rows_at (t : Fin cfg0.N) (r : Fin 768) (o : Fin 1024) : (rowsOf m c t : FVec Ideal S768x1024 .f32) (ix2 r o) = row (A0 m c) (A1 m c) (start t.val + r.val) (start_lt t _ r.isLt) o := by
  have ht : t.val < 32 := lt_of_lt_of_eq t.isLt (show cfg0.N = 32 from N_0)
  obtain ⟨j, s, rfl⟩ : ∃ (j : Fin 6) (s : Fin 128), r = ⟨128 * j.val + s.val, by omega⟩ :=
    ⟨⟨r.val / 128, by omega⟩, ⟨r.val % 128, by omega⟩, Fin.ext (show r.val = 128 * (r.val / 128) + r.val % 128 by omega)⟩
  unfold rowsOf
  rw [rowsAt_at, pieceOf_at _ _ _ (Nat.mod_lt _ (by decide))]
  obtain ⟨h1, h2⟩ := tile_arith (t.val - 10) j.val s.val (by omega) j.isLt s.isLt
  unfold row start
  split
  · next h =>
    rw [dif_pos (by rw [h1 h]; exact s.isLt), blk1]
    exact congrArg (A1 m c) (funext fun a => Fin.ext (by
      match a with
      | ⟨0, _⟩ => exact (h1 h).symm
      | ⟨1, _⟩ => rfl))
  · next h =>
    rw [dif_neg (Nat.not_lt.2 (h2 h).1), blk0]
    exact congrArg (A0 m c) (funext fun a => Fin.ext (by
      match a with
      | ⟨0, _⟩ => exact (h2 h).2
      | ⟨1, _⟩ => rfl))

/-! ## The resident chunks -/

theorem ptn_min (j : Fin 11) : min (ptn j.val).val 10 = j.val := by
  show min (min j.val 31) 10 = j.val; omega

theorem Gb_at (j : Fin 11) (l : Fin 1024) (k : Fin 256) (h : j.val * 256 + k.val < 2816) : Gb m c j (ix2 l k) = wGate (A3 m c) l ⟨j.val * 256 + k.val, h⟩ := by
  unfold Gb
  rw [pay11_apply]
  refine (blk3 m c _ l k (by rw [ptn_min]; exact h)).trans ?_
  simp only [ptn_min]
theorem Ub_at (j : Fin 11) (l : Fin 1024) (k : Fin 256) (h : j.val * 256 + k.val < 2816) : Ub m c j (ix2 l k) = wUp (A3 m c) l ⟨j.val * 256 + k.val, h⟩ := by
  unfold Ub
  rw [pay12_apply]
  refine (blk4 m c _ l k (by rw [ptn_min]; exact h)).trans ?_
  simp only [ptn_min]
theorem Db_at (j : Fin 11) (k : Fin 256) (o : Fin 1024) (h : j.val * 256 + k.val < 2816) : Db m c j (ix2 k o) = wDown (A4 m c) ⟨j.val * 256 + k.val, h⟩ o := by
  unfold Db
  rw [pay13_apply]
  refine (blk5 m c _ k o (by rw [ptn_min]; exact h)).trans ?_
  simp only [ptn_min]

/-! ## A tile's output -/

/-- The first tile's accumulator after `n` prologue points is the sum of the first `n` chunks. -/
theorem accP_at (r : Fin 768) (o : Fin 1024) : ∀ n : ℕ, n ≤ 11 → accP m c n (ix2 r o)
    = ∑ j ∈ Finset.range n, if h : j < 11 then chunkAt (xn m c) (Gb m c ⟨j, h⟩) (Ub m c ⟨j, h⟩) (Db m c ⟨j, h⟩) r o else 0
  | 0, _ => by rw [Finset.sum_range_zero]; exact pay2_apply _
  | n + 1, h => by
    have hn : n < 11 := h
    rw [Finset.sum_range_succ, ← accP_at r o n (by omega), dif_pos hn]
    exact pay14_apply _ _ _ _ _ r o

/-- What a tile writes back, at an element. -/
theorem outB_at (t : Fin cfg0.N) (ht : 10 ≤ t.val) (r : Fin 768) (o : Fin 1024) : outB m c t (ix2 r o)
    = tokenOut (row (A0 m c) (A1 m c) (start t.val + r.val) (start_lt t _ r.isLt)) (gain (A2 m c)) (wGate (A3 m c)) (wUp (A3 m c)) (wDown (A4 m c)) o := by
  have hx : ∀ s l, (rowsOf m c t : FVec Ideal S768x1024 .f32) (ix2 s l) = row (A0 m c) (A1 m c) (start t.val + s.val) (start_lt t _ s.isLt) l := rows_at m c t
  unfold outB tokenOut
  split
  · next h10 =>
    rw [pay4_apply, hx, accP_at m c r o 11 (Nat.le_refl _), Finset.sum_range]
    refine congrArg (fun z : EReal => row (A0 m c) (A1 m c) (start t.val + r.val) (start_lt t _ r.isLt) o + Ideal.ofBits .f32 0x3F000000#32 * z) ?_
    refine Eq.trans (Finset.sum_congr rfl fun j _ => dif_pos j.isLt) ?_
    refine sum_chunks (xn m c) (Gb m c) (Ub m c) (Db m c) _ _ _ _ _ r o (fun l => ?_) (Gb_at m c) (Ub_at m c) (fun j k h => Db_at m c j k o h)
    unfold xn
    rw [pay1_eq, pay15_apply]
    have e : start (ptn 0).val = start t.val := by rw [h10]; rfl
    have hx0 : ∀ s l, (rowsOf m c (ptn 0) : FVec Ideal S768x1024 .f32) (ix2 s l) = row (A0 m c) (A1 m c) (start t.val + s.val) (start_lt t _ s.isLt) l := by
      intro s l
      rw [rows_at]
      unfold row
      simp only [e]
    simp only [hx0, blk2]
  · next h10 =>
    rw [pay7_apply, hx, accTile_apply]
    refine congrArg (fun z : EReal => row (A0 m c) (A1 m c) (start t.val + r.val) (start_lt t _ r.isLt) o + Ideal.ofBits .f32 0x3F000000#32 * z) ?_
    refine sum_chunks _ (Gb m c) (Ub m c) (Db m c) _ _ _ _ _ r o (fun l => ?_) (Gb_at m c) (Ub_at m c) (fun j k h => Db_at m c j k o h)
    rw [pay15_apply]
    simp only [hx, blk2]

/-! ## The result array -/

/-- The output array, element by element. -/
def G (c : Dev nD) : Buf (Elt Ideal) ((c.tc : Thread nD τ).loc main_v3) := fun i : S16896x1024.Idx =>
  tokenOut (row (A0 m c) (A1 m c) (i 0).val (i 0).isLt) (gain (A2 m c)) (wGate (A3 m c)) (wUp (A3 m c)) (wDown (A4 m c)) ⟨(i 1).val, (i 1).isLt⟩

/-- An element of the output array, named by its row and its column. -/
theorem G_at (i : S16896x1024.Idx) (n : ℕ) (hn : n < 16896) (o : Fin 1024) (e : n = (i 0).val) (eo : o.val = (i 1).val) :
    tokenOut (row (A0 m c) (A1 m c) n hn) (gain (A2 m c)) (wGate (A3 m c)) (wUp (A3 m c)) (wDown (A4 m c)) o = G m c i := by
  subst e
  obtain rfl : o = ⟨(i 1).val, (i 1).isLt⟩ := Fin.ext eo
  rfl

/-- The array the launch leaves in its result is `G`. -/
theorem final : (dats m 0 c).arrAt 6 cfg0.N = G m c := by
  refine (dats m 0 c).arrAt_eq_of_covers 6 _ (by decide +kernel) (fun t hf y => ?_)
  have ht : 10 ≤ t.val := (hflush t).1 hf
  blk_simp
  rw [after0_6]
  have h0 : (y 0).val < 768 := (y 0).isLt
  have h1 : (y 1).val < 1024 := (y 1).isLt
  have ey : y = ix2 (⟨(y 0).val, h0⟩ : Fin 768) (⟨(y 1).val, h1⟩ : Fin 1024) := funext fun a => Fin.ext (by
    match a with
    | ⟨0, _⟩ => rfl
    | ⟨1, _⟩ => rfl)
  obtain ⟨i0, i1⟩ := idx6 t ht
  have e0 : ((win0_6.blk t).view.emb y 0).val = (t.val - 10) * 768 + (y 0).val := by blk_simp [i0]
  have e1 : ((win0_6.blk t).view.emb y 1).val = (y 1).val := by blk_simp [i1]
  refine (congrArg (outB m c t) ey).trans ((outB_at m c t ht _ _).trans ?_)
  exact G_at m c _ _ _ _ (by rw [e0]; rfl) e1.symm

/-- The kernel's run, its result read. -/
theorem run_value : θ_run defs (onTc (τ := τ) (main (F := Ideal))) ⟨m, fun _ => 0, ρ⟩ (fun r => ∀ c : Dev nD,
      r.2.mem ((c.tc : Thread nD τ).loc main_v3) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 6).trans (final m c), h.2 c⟩) (θ_run_and (run_main m ρ) (unchanged m ρ))

/-- The reference's array is the kernel's, of arguments that agree. -/
theorem ref_eq (x0 : (⟨S16384x1024, .f32⟩ : BufTy).Contents (Elt Ideal)) (x1 : (⟨S128x1024, .f32⟩ : BufTy).Contents (Elt Ideal))
    (x2 : (⟨S2x1024, .f32⟩ : BufTy).Contents (Elt Ideal))
    (x3 : (⟨S2x1024x5632, .f32⟩ : BufTy).Contents (Elt Ideal)) (x4 : (⟨S2x2816x1024, .f32⟩ : BufTy).Contents (Elt Ideal))
    (h0 : x0 = A0 m c) (h1 : x1 = A1 m c) (h2 : x2 = A2 m c) (h3 : x3 = A3 m c) (h4 : x4 = A4 m c) :
    Cert.FfnLeadRefIdeal.Read.val_main_v32 (F := Ideal) x0 x1 x2 x3 x4 = G m c := by
  subst h0 h1 h2 h3 h4
  funext i
  obtain ⟨p, o, rfl⟩ : ∃ (p : Fin 16896) (o : Fin 1024), i = ix2 p o := ⟨_, _, eq_ix2 i⟩
  exact Cert.FfnLeadRefIdeal.Hand.v32_at _ _ _ _ _ p o

end Cert.FfnLeadIdeal.Hand

end
-- ==== Proof.FfnLeadClaims.lean ====
module

public import proofs.«01_k».proof.Defs
public import proofs.«01_k».proof.Proof.Gen.FfnLead
public import proofs.«01_k».proof.Proof.FfnLeadOut
public import Idealize.ShloMosaic.Lib.Quiescent

@[expose] public section

set_option maxRecDepth 16384

/-! # The first feed-forward block: its claims -/

namespace Cert.Proof.FfnLead

open Idealize.ShloMosaic Idealize.ShloMosaic.TcCoe Idealize.SL.Sem

/-- The program at the machine's words is the idealized one taken at them: their bodies are the same, and so are the procedures they call. -/
theorem defs₀_eq : Cert.FfnLead.defs₀ (F := Bits) = Cert.FfnLeadIdeal.defs₀ (F := Bits) := by
  unfold Cert.FfnLead.defs₀ Cert.FfnLeadIdeal.defs₀
  refine congrArg Defs.onTc (funext fun l => funext fun a => ?_)
  match l, a with
  | 0, (t, s) => rfl
theorem defs_eq : Cert.FfnLead.defs (F := Bits) = Cert.FfnLeadIdeal.defs (F := Bits) :=
  congrArg (Pipeline.defs Cert.FfnLeadIdeal.pcfgs) defs₀_eq

/-- The kernel at the machine's words ends, its arguments unchanged and its semaphores at zero. -/
theorem frame_bits : Cert.quiescent_FfnLead := by
  intro m ρ _
  rw [defs_eq]
  exact Cert.FfnLeadIdeal.Hand.frame m ρ

/-- So does the kernel over the extended reals. -/
theorem frame_ideal : Cert.quiescent_FfnLeadIdeal := fun m ρ _ => Cert.FfnLeadIdeal.Hand.frame m ρ

/-- So does the reference, which has no semaphore. -/
theorem frame_ref : Cert.quiescent_FfnLeadRefIdeal := fun m ρ _ =>
  (θ_run Cert.FfnLeadRefIdeal.defs _ _).mono (fun r h => ⟨fun c => (h c).2, sem_eq_zero_of_no_sems (by decide) r.2⟩)
    (Cert.FfnLeadRefIdeal.Value.run (F := Ideal) m ρ)

/-- Nothing was rewritten in the idealized kernel. -/
theorem preserves : Cert.preserves_FfnLead_FfnLeadIdeal := trivial

/-- Over the extended reals the kernel leaves the array that the reference leaves, whatever the arguments hold. -/
theorem algebraic : Cert.algebraic_FfnLeadIdeal_FfnLeadRefIdeal := by
  intro m ρ m' ρ' _ hagree
  refine ⟨fun c => Cert.FfnLeadIdeal.Hand.G m c, Cert.FfnLeadIdeal.Hand.run_value m ρ, ?_⟩
  refine (θ_run Cert.FfnLeadRefIdeal.defs _ _).mono (fun _ h c => ⟨(h c).1.trans ?_, (h c).2⟩)
    (Cert.FfnLeadRefIdeal.Value.run (F := Ideal) m' ρ')
  refine (Cert.FfnLeadRefIdeal.Read.val_main_v32_eq m' c).trans ?_
  exact Cert.FfnLeadIdeal.Hand.ref_eq m c _ _ _ _ _ (hagree c).1 (hagree c).2.1 (hagree c).2.2.1 (hagree c).2.2.2.1 (hagree c).2.2.2.2

end Cert.Proof.FfnLead

end
-- ==== Proof.FfnMidClaims.lean ====
module

public import proofs.«01_k».proof.Defs
public import proofs.«01_k».proof.Proof.Gen.FfnMid
public import proofs.«01_k».proof.Proof.FfnMidOut
public import Idealize.ShloMosaic.Lib.Quiescent

@[expose] public section

set_option maxRecDepth 16384

/-! # The feed-forward block between: its claims -/

namespace Cert.Proof.FfnMid

open Idealize.ShloMosaic Idealize.ShloMosaic.TcCoe Idealize.SL.Sem

/-- The program at the machine's words is the idealized one taken at them: their bodies are the same, and so are the procedures they call. -/
theorem defs₀_eq : Cert.FfnMid.defs₀ (F := Bits) = Cert.FfnMidIdeal.defs₀ (F := Bits) := by
  unfold Cert.FfnMid.defs₀ Cert.FfnMidIdeal.defs₀
  refine congrArg Defs.onTc (funext fun l => funext fun a => ?_)
  match l, a with
  | 0, (t, s) => rfl
theorem defs_eq : Cert.FfnMid.defs (F := Bits) = Cert.FfnMidIdeal.defs (F := Bits) :=
  congrArg (Pipeline.defs Cert.FfnMidIdeal.pcfgs) defs₀_eq

/-- The kernel at the machine's words ends, its arguments unchanged and its semaphores at zero. -/
theorem frame_bits : Cert.quiescent_FfnMid := by
  intro m ρ _
  rw [defs_eq]
  exact Cert.FfnMidIdeal.Hand.frame m ρ

/-- So does the kernel over the extended reals. -/
theorem frame_ideal : Cert.quiescent_FfnMidIdeal := fun m ρ _ => Cert.FfnMidIdeal.Hand.frame m ρ

/-- So does the reference, which has no semaphore. -/
theorem frame_ref : Cert.quiescent_FfnMidRefIdeal := fun m ρ _ =>
  (θ_run Cert.FfnMidRefIdeal.defs _ _).mono (fun r h => ⟨fun c => (h c).2, sem_eq_zero_of_no_sems (by decide) r.2⟩)
    (Cert.FfnMidRefIdeal.Value.run (F := Ideal) m ρ)

/-- Nothing was rewritten in the idealized kernel. -/
theorem preserves : Cert.preserves_FfnMid_FfnMidIdeal := trivial

/-- Over the extended reals the kernel leaves the array that the reference leaves, whatever the arguments hold. -/
theorem algebraic : Cert.algebraic_FfnMidIdeal_FfnMidRefIdeal := by
  intro m ρ m' ρ' _ hagree
  refine ⟨fun c => Cert.FfnMidIdeal.Hand.G m c, Cert.FfnMidIdeal.Hand.run_value m ρ, ?_⟩
  refine (θ_run Cert.FfnMidRefIdeal.defs _ _).mono (fun _ h c => ⟨(h c).1.trans ?_, (h c).2⟩)
    (Cert.FfnMidRefIdeal.Value.run (F := Ideal) m' ρ')
  refine (Cert.FfnMidRefIdeal.Read.val_main_v27_eq m' c).trans ?_
  exact Cert.FfnMidIdeal.Hand.ref_eq m c _ _ _ _ (hagree c).1 (hagree c).2.1 (hagree c).2.2.1 (hagree c).2.2.2

end Cert.Proof.FfnMid

end
-- ==== Proof.FoxRun.lean ====
module

public import proofs.«01_k».proof.Proof.Gen.KernelIdeal.Frame
public import proofs.«01_k».proof.Proof.Gen.KernelIdeal.Loops
public import Idealize.ShloMosaic.Lib.Pipeline.ValueKit
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-! # The attention kernel's loops over the query tiles -/

/-- What one trip of the loop over the query tiles holds: the four operands it reads at their contents, the result block and
    the three scratch buffers at some. -/
abbrev Held (c : Dev nD) (arg2 : Memref sig .tc .smem S1 .i32) (arg3 : Memref sig .tc .vmem S512x4224 .bf16) (arg4 : Memref sig .tc .vmem S4224x512 .bf16) (arg5 : Memref sig .tc .vmem S320x4224 .bf16) (arg6 : Memref sig .tc .vmem S256x4224 .bf16) (arg7 : Memref sig .tc .vmem S4x1x512 .f32) (arg8 : Memref sig .tc .vmem S320x512 .f32) (arg9 : Memref sig .tc .vmem S512x512 .f32)
    (X2 : BufTy.Contents (Elt F) arg2.view.ty) (X3 : BufTy.Contents (Elt F) arg3.view.ty) (X4 : BufTy.Contents (Elt F) arg4.view.ty) (X5 : BufTy.Contents (Elt F) arg5.view.ty) : sProp 𝕄 :=
  iprop((arg2.view.loc c.tc ↦[arg2.view.set]{fullShare} X2) ∗ (arg3.view.loc c.tc ↦[arg3.view.set]{fullShare} X3)
    ∗ (arg4.view.loc c.tc ↦[arg4.view.set]{fullShare} X4) ∗ (arg5.view.loc c.tc ↦[arg5.view.set]{fullShare} X5)
    ∗ (∃ f, arg6.view.loc c.tc ↦[arg6.view.set]{fullShare} f) ∗ (∃ f, arg7.view.loc c.tc ↦[arg7.view.set]{fullShare} f)
    ∗ (∃ f, arg8.view.loc c.tc ↦[arg8.view.set]{fullShare} f) ∗ (∃ f, arg9.view.loc c.tc ↦[arg9.view.set]{fullShare} f))

variable (c : Dev nD) (i : grid0.Coords) (arg2 : Memref sig .tc .smem S1 .i32) (harg2 : arg2.IsWhole) (arg3 : Memref sig .tc .vmem S512x4224 .bf16) (harg3 : arg3.IsWhole) (arg4 : Memref sig .tc .vmem S4224x512 .bf16) (harg4 : arg4.IsWhole) (arg5 : Memref sig .tc .vmem S320x4224 .bf16) (harg5 : arg5.IsWhole) (arg6 : Memref sig .tc .vmem S256x4224 .bf16) (harg6 : arg6.IsWhole) (arg7 : Memref sig .tc .vmem S4x1x512 .f32) (harg7 : arg7.IsWhole) (arg8 : Memref sig .tc .vmem S320x512 .f32) (harg8 : arg8.IsWhole) (arg9 : Memref sig .tc .vmem S512x512 .f32) (harg9 : arg9.IsWhole)

/-- What a trip of an inner loop holds: the three operands it reads at their contents, the maxima, the sums and the scores at some. -/
abbrev Keys (X3 : BufTy.Contents (Elt F) arg3.view.ty) (X4 : BufTy.Contents (Elt F) arg4.view.ty) (X5 : BufTy.Contents (Elt F) arg5.view.ty) : sProp 𝕄 :=
  iprop((arg3.view.loc c.tc ↦[arg3.view.set]{fullShare} X3) ∗ (arg4.view.loc c.tc ↦[arg4.view.set]{fullShare} X4) ∗ (arg5.view.loc c.tc ↦[arg5.view.set]{fullShare} X5)
    ∗ (∃ f, arg7.view.loc c.tc ↦[arg7.view.set]{fullShare} f) ∗ (∃ f, arg8.view.loc c.tc ↦[arg8.view.set]{fullShare} f) ∗ (∃ f, arg9.view.loc c.tc ↦[arg9.view.set]{fullShare} f))

/-- The first inner loop keeps what it holds. -/
@[sl_loop, reducible] def inner2 (k : Fin k0_t1_loop.trips) (v161 c0 : BitVec 32) (X3 : BufTy.Contents (Elt F) arg3.view.ty) (X4 : BufTy.Contents (Elt F) arg4.view.ty) (X5 : BufTy.Contents (Elt F) arg5.view.ty) :
    LoopInvTy_k0_t2 (F := F) Unit ℕ (UR sig nD τ) ℕ Variants.none c none Set.univ i arg2 harg2 arg3 harg3 arg4 harg4 arg5 harg5 arg6 harg6 arg7 harg7 arg8 harg8 arg9 harg9 k 0#32 v161 c0 0#32 where
  inv := fun _ _ => Keys (F := F) c arg3 arg4 arg5 arg7 arg8 arg9 X3 X4 X5
  step j _ := by
    unfold k0_t2_body
    iintro ⟨H3, H4, H5, ⟨%f7, H7⟩, ⟨%f8, H8⟩, ⟨%f9, H9⟩⟩
    sl_exec
    sl_step
    isplitl [H3]; · iexact H3
    isplitl [H4]; · iexact H4
    isplitl [H5]; · iexact H5
    isplitl [H7]; · iexists _; iexact H7
    isplitl [H8]; · iexists _; iexact H8
    iexists _; iexact H9

/-- The second inner loop keeps what it holds. -/
@[sl_loop, reducible] def inner3 (k : Fin k0_t1_loop.trips) (v161 v208 : BitVec 32) (X3 : BufTy.Contents (Elt F) arg3.view.ty) (X4 : BufTy.Contents (Elt F) arg4.view.ty) (X5 : BufTy.Contents (Elt F) arg5.view.ty) :
    LoopInvTy_k0_t3 (F := F) Unit ℕ (UR sig nD τ) ℕ Variants.none c none Set.univ i arg2 harg2 arg3 harg3 arg4 harg4 arg5 harg5 arg6 harg6 arg7 harg7 arg8 harg8 arg9 harg9 k 0#32 v161 0#32 0#32 v208 where
  inv := fun _ _ => Keys (F := F) c arg3 arg4 arg5 arg7 arg8 arg9 X3 X4 X5
  step j _ := by
    unfold k0_t3_body
    iintro ⟨H3, H4, H5, ⟨%f7, H7⟩, ⟨%f8, H8⟩, ⟨%f9, H9⟩⟩
    sl_exec
    sl_step
    isplitl [H3]; · iexact H3
    isplitl [H4]; · iexact H4
    isplitl [H5]; · iexact H5
    isplitl [H7]; · iexists _; iexact H7
    isplitl [H8]; · iexists _; iexact H8
    iexists _; iexact H9

/-- The third inner loop keeps what it holds. -/
@[sl_loop, reducible] def inner4 (k : Fin k0_t1_loop.trips) (v161 c0 : BitVec 32) (X3 : BufTy.Contents (Elt F) arg3.view.ty) (X4 : BufTy.Contents (Elt F) arg4.view.ty) (X5 : BufTy.Contents (Elt F) arg5.view.ty) :
    LoopInvTy_k0_t4 (F := F) Unit ℕ (UR sig nD τ) ℕ Variants.none c none Set.univ i arg2 harg2 arg3 harg3 arg4 harg4 arg5 harg5 arg6 harg6 arg7 harg7 arg8 harg8 arg9 harg9 k 0#32 v161 c0 0#32 where
  inv := fun _ _ => Keys (F := F) c arg3 arg4 arg5 arg7 arg8 arg9 X3 X4 X5
  step j _ := by
    unfold k0_t4_body
    iintro ⟨H3, H4, H5, ⟨%f7, H7⟩, ⟨%f8, H8⟩, ⟨%f9, H9⟩⟩
    sl_exec
    sl_step
    isplitl [H3]; · iexact H3
    isplitl [H4]; · iexact H4
    isplitl [H5]; · iexact H5
    isplitl [H7]; · iexists _; iexact H7
    isplitl [H8]; · iexists _; iexact H8
    iexists _; iexact H9

/-- The fourth inner loop keeps what it holds. -/
@[sl_loop, reducible] def inner5 (k : Fin k0_t1_loop.trips) (v161 v208 : BitVec 32) (X3 : BufTy.Contents (Elt F) arg3.view.ty) (X4 : BufTy.Contents (Elt F) arg4.view.ty) (X5 : BufTy.Contents (Elt F) arg5.view.ty) :
    LoopInvTy_k0_t5 (F := F) Unit ℕ (UR sig nD τ) ℕ Variants.none c none Set.univ i arg2 harg2 arg3 harg3 arg4 harg4 arg5 harg5 arg6 harg6 arg7 harg7 arg8 harg8 arg9 harg9 k 0#32 v161 0#32 0#32 v208 where
  inv := fun _ _ => Keys (F := F) c arg3 arg4 arg5 arg7 arg8 arg9 X3 X4 X5
  step j _ := by
    unfold k0_t5_body
    iintro ⟨H3, H4, H5, ⟨%f7, H7⟩, ⟨%f8, H8⟩, ⟨%f9, H9⟩⟩
    sl_exec
    sl_step
    isplitl [H3]; · iexact H3
    isplitl [H4]; · iexact H4
    isplitl [H5]; · iexact H5
    isplitl [H7]; · iexists _; iexact H7
    isplitl [H8]; · iexists _; iexact H8
    iexists _; iexact H9

/-- A word is not both one and different from one: only one of the two branches runs. -/
theorem one_branch (w : BitVec 32) (a : Scalar.cmpi .ne (Scalar.extui (Scalar.cmpi .eq w 1#32) : BitVec 32) 0#32 = 1#1)
    (b : Scalar.cmpi .ne (Scalar.extui (Scalar.cmpi .ne w 1#32) : BitVec 32) 0#32 = 1#1) : False := by
  by_cases h : w = 1#32
  · subst h; exact absurd b (by decide)
  · have e : Scalar.cmpi .eq w 1#32 = 0#1 := by
      have h : (w == 1#32) = false := by simpa using h
      show BitVec.ofBool (w == 1#32) = 0#1
      rw [h]; rfl
    rw [e] at a
    exact absurd a (by decide)

/-- One trip keeps what it holds. -/
theorem trip
    (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) :
    Held (F := F) c arg2 arg3 arg4 arg5 arg6 arg7 arg8 arg9 X2 X3 X4 X5
      ⊢ wp frame (wpE (defs₀ (F := F)) Variants.none c.tc none) Set.univ (k0_t1_body (F := F) i arg2 harg2 arg3 harg3 arg4 harg4 arg5 harg5 arg6 harg6 arg7 harg7 arg8 harg8 arg9 harg9 k PUnit.unit)
          (fun _ => Held (F := F) c arg2 arg3 arg4 arg5 arg6 arg7 arg8 arg9 X2 X3 X4 X5) := by
  unfold k0_t1_body
  iintro ⟨H2, H3, H4, H5, ⟨%f6, H6⟩, ⟨%f7, H7⟩, ⟨%f8, H8⟩, ⟨%f9, H9⟩⟩
  sl_exec
  split
  · rename_i ha
    by_cases h2 : k0_cond2 k = 1#1
    · sl_exec (disch := sl_exact h2)
      split
      · rename_i hb; exact (one_branch _ ha hb).elim
      · sl_step
        isplitl [H2]
        · iexact H2
        isplitl [H3]
        · iexact H3
        isplitl [H4]
        · iexact H4
        isplitl [H5]
        · iexact H5
        isplitl [H6]
        · iexists _; iexact H6
        isplitl [H7]
        · iexists _; iexact H7
        isplitl [H8]
        · iexists _; iexact H8
        · iexists _; iexact H9
    · sl_exec (disch := sl_exact h2)
      split
      · rename_i hb; exact (one_branch _ ha hb).elim
      · sl_step
        isplitl [H2]
        · iexact H2
        isplitl [H3]
        · iexact H3
        isplitl [H4]
        · iexact H4
        isplitl [H5]
        · iexact H5
        isplitl [H6]
        · iexists _; iexact H6
        isplitl [H7]
        · iexists _; iexact H7
        isplitl [H8]
        · iexists _; iexact H8
        · iexists _; iexact H9
  · sl_exec
    split
    · by_cases h4 : k0_cond4 k = 1#1
      · sl_exec (disch := sl_exact h4)
        sl_step
        isplitl [H2]
        · iexact H2
        isplitl [H3]
        · iexact H3
        isplitl [H4]
        · iexact H4
        isplitl [H5]
        · iexact H5
        isplitl [H6]
        · iexists _; iexact H6
        isplitl [H7]
        · iexists _; iexact H7
        isplitl [H8]
        · iexists _; iexact H8
        · iexists _; iexact H9
      · sl_exec (disch := sl_exact h4)
        sl_step
        isplitl [H2]
        · iexact H2
        isplitl [H3]
        · iexact H3
        isplitl [H4]
        · iexact H4
        isplitl [H5]
        · iexact H5
        isplitl [H6]
        · iexists _; iexact H6
        isplitl [H7]
        · iexists _; iexact H7
        isplitl [H8]
        · iexists _; iexact H8
        · iexists _; iexact H9
    · sl_step
      isplitl [H2]
      · iexact H2
      isplitl [H3]
      · iexact H3
      isplitl [H4]
      · iexact H4
      isplitl [H5]
      · iexact H5
      isplitl [H6]
      · iexists _; iexact H6
      isplitl [H7]
      · iexists _; iexact H7
      isplitl [H8]
      · iexists _; iexact H8
      · iexists _; iexact H9

/-- The loop over the query tiles, by its trip. -/
@[sl_loop, reducible] def tiles (X2 : BufTy.Contents (Elt F) arg2.view.ty) (X3 : BufTy.Contents (Elt F) arg3.view.ty) (X4 : BufTy.Contents (Elt F) arg4.view.ty) (X5 : BufTy.Contents (Elt F) arg5.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 where
  inv := fun _ _ => Held (F := F) c arg2 arg3 arg4 arg5 arg6 arg7 arg8 arg9 X2 X3 X4 X5
  step k _ := trip c i arg2 harg2 arg3 harg3 arg4 harg4 arg5 harg5 arg6 harg6 arg7 harg7 arg8 harg8 arg9 harg9 X2 X3 X4 X5 k

/-- One grid point 2: the operands it reads are left as they were, the result block and the scratch buffers at some contents. -/
theorem point (x2 : Vec F S1 .i32) (x3 : Vec F S512x4224 .bf16) (x4 : Vec F S4224x512 .bf16) (x5 : Vec F S320x4224 .bf16) :
    (iprop(owns c.tc arg2 fullShare x2
      ∗ owns c.tc arg3 fullShare x3
      ∗ owns c.tc arg4 fullShare x4
      ∗ owns c.tc arg5 fullShare x5
      ∗ (∃ d, owns c.tc arg6 fullShare d)
      ∗ (∃ d, owns c.tc arg7 fullShare d)
      ∗ (∃ d, owns c.tc arg8 fullShare d)
      ∗ (∃ d, owns c.tc arg9 fullShare d)) : sProp 𝕄)
    ⊢ wp frame (wpE (defs₀ (F := F)) Variants.none c.tc none) Set.univ
        (cc0_fox i arg2 harg2 arg3 harg3 arg4 harg4 arg5 harg5 arg6 harg6 arg7 harg7 arg8 harg8 arg9 harg9)
        (fun _ => iprop(owns c.tc arg2 fullShare x2
      ∗ owns c.tc arg3 fullShare x3
      ∗ owns c.tc arg4 fullShare x4
      ∗ owns c.tc arg5 fullShare x5
      ∗ (∃ d, owns c.tc arg6 fullShare d)
      ∗ (∃ d, owns c.tc arg7 fullShare d)
      ∗ (∃ d, owns c.tc arg8 fullShare d)
      ∗ (∃ d, owns c.tc arg9 fullShare d))) := by
  unfold cc0_fox owns
  iintro ⟨⟨%f2, %hf2, H2⟩, ⟨%f3, %hf3, H3⟩, ⟨%f4, %hf4, H4⟩, ⟨%f5, %hf5, H5⟩, ⟨%d6, %f6, %hf6, H6⟩, ⟨%d7, %f7, %hf7, H7⟩, ⟨%d8, %f8, %hf8, H8⟩, ⟨%d9, %f9, %hf9, H9⟩⟩
  sl_exec
  sl_step
  isplitl [H2]
  · iexists f2; isplitr
    · ipureintro; exact hf2
    · iexact H2
  isplitl [H3]
  · iexists f3; isplitr
    · ipureintro; exact hf3
    · iexact H3
  isplitl [H4]
  · iexists f4; isplitr
    · ipureintro; exact hf4
    · iexact H4
  isplitl [H5]
  · iexists f5; isplitr
    · ipureintro; exact hf5
    · iexact H5
  isplitl [H6]
  · iexists _; iexists _; isplitr; swap
    · iexact H6
    · ipureintro; rfl
  isplitl [H7]
  · iexists _; iexists _; isplitr; swap
    · iexact H7
    · ipureintro; rfl
  isplitl [H8]
  · iexists _; iexists _; isplitr; swap
    · iexact H8
    · ipureintro; rfl
  iexists _; iexists _; isplitr; swap
  · iexact H9
  · ipureintro; rfl

end Cert.KernelIdeal.Hand

end
-- ==== Proof.FoxBody.lean ====
module

public import proofs.«01_k».proof.Proof.FoxRun
public import proofs.«01_k».proof.Proof.Gen.KernelIdeal.Points

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

variable {F : FTy → Type} [FloatOps F] [Named F]

local notation "𝕄" => MT nD τ sig Unit (Elt F) ℕ (UR sig nD τ) ℕ

/-! # The attention kernel's launch

Every window but the result's is named at every point; the result's block is left unnamed. -/

variable (m : (ℓ : Loc nD τ sig) → Buf (Elt F) ℓ) (ρ : Dev nD → PrngReg)

abbrev sc0 : Memref sig .tc .vmem S4x1x512 .f32 := Memref.whole cc0_scratch0
abbrev sc1 : Memref sig .tc .vmem S320x512 .f32 := Memref.whole cc0_scratch1
abbrev sc2 : Memref sig .tc .vmem S512x512 .f32 := Memref.whole cc0_scratch2

/-- The region's three scratch buffers at anything. -/
theorem PhiA0_eq (c : Dev nD) :
    (Pipeline.ΦA spec0 c : sProp 𝕄)
      = iprop(iprop((∃ d, owns c.tc sc0 fullShare d) ∗ (∃ d, owns c.tc sc1 fullShare d)
          ∗ (∃ d, owns c.tc sc2 fullShare d)) ∗ (∃ r, prngReg c r)) := by
  unfold Pipeline.ΦA; rw [scopedRest0_eq]; simp only [sc0, sc1, sc2, owns_whole]; try rfl

/-- The windows left unnamed: the result's. -/
def fgt (w : Fin cfg0.W) : Bool := match w with
  | ⟨4, _⟩ => true
  | _ => false

/-- The pipeline's proof data: every input's buffer holds its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Dat.unnamed 4 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

abbrev ms0 (t : Fin cfg0.N) : Memref sig .tc .smem S1 .i32 := win0_0.stage (cfg0.slots t 0)
abbrev ms1 (t : Fin cfg0.N) : Memref sig .tc .vmem S512x4224 .bf16 := win0_1.stage (cfg0.slots t 1)
abbrev ms2 (t : Fin cfg0.N) : Memref sig .tc .vmem S4224x512 .bf16 := win0_2.stage (cfg0.slots t 2)
abbrev ms3 (t : Fin cfg0.N) : Memref sig .tc .vmem S320x4224 .bf16 := win0_3.stage (cfg0.slots t 3)
abbrev ms4 (t : Fin cfg0.N) : Memref sig .tc .vmem S256x4224 .bf16 := win0_4.stage (cfg0.slots t 4)

/-- What the body is called with at point `t`, -/
def bodyPre (c : Dev nD) (t : Fin cfg0.N) : sProp 𝕄 :=
  iprop(Pipeline.ΦA spec0 c ∗ (dats m 0 c).owesAt () t.castSucc
    ∗ (∃ d, owns c.tc (ms0 t) fullShare ((dats m 0 c).before 0 t d))
    ∗ (∃ d, owns c.tc (ms1 t) fullShare ((dats m 0 c).before 1 t d))
    ∗ (∃ d, owns c.tc (ms2 t) fullShare ((dats m 0 c).before 2 t d))
    ∗ (∃ d, owns c.tc (ms3 t) fullShare ((dats m 0 c).before 3 t d))
    ∗ (∃ X, owns c.tc (ms4 t) fullShare X))
/-- and what it leaves. -/
def bodyPost (c : Dev nD) (t : Fin cfg0.N) : sProp 𝕄 :=
  iprop(Pipeline.ΦA spec0 c ∗ (dats m 0 c).owesAt () t.succ
    ∗ owns c.tc (ms0 t) fullShare (iblk m c 0 t)
    ∗ owns c.tc (ms1 t) fullShare (iblk m c 1 t)
    ∗ owns c.tc (ms2 t) fullShare (iblk m c 2 t)
    ∗ owns c.tc (ms3 t) fullShare (iblk m c 3 t)
    ∗ (∃ X, owns c.tc (ms4 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl, PhiA0_eq]
  iintro ⟨⟨⟨⟨%g0, S0⟩, ⟨%g1, S1⟩, ⟨%g2, S2⟩⟩, Hg⟩, Ho, ⟨%d0, H0⟩, ⟨%d1, H1⟩, ⟨%d2, H2⟩, ⟨%d3, H3⟩, ⟨%d4, H4⟩⟩
  iapply (wp_wand_r Idealize.ShloMosaic.frame (wpE (defs₀ (F := F)) Variants.none c.tc none) Set.univ)
  isplitl [H0 H1 H2 H3 H4 S0 S1 S2]
  · iapply (point c (grid0.coords t) _ _ _ _ _ _ _ _ _ _ _ _ _ _ _ _ (iblk m c 0 t) (iblk m c 1 t) (iblk m c 2 t) (iblk m c 3 t))
    isplitl [H0]; · iexact H0
    isplitl [H1]; · iexact H1
    isplitl [H2]; · iexact H2
    isplitl [H3]; · iexact H3
    isplitl [H4]; · iexists _; iexact H4
    isplitl [S0]; · iexists _; iexact S0
    isplitl [S1]; · iexists _; iexact S1
    iexists _; iexact S2
  · iintro %_ ⟨H0, H1, H2, H3, ⟨%e4, H4⟩, ⟨%e0, S0⟩, ⟨%e1, S1⟩, ⟨%e2, S2⟩⟩
    isplitl [S0 S1 S2 Hg]
    · isplitl [S0 S1 S2]
      · isplitl [S0]; · iexists _; iexact S0
        isplitl [S1]; · iexists _; iexact S1
        iexists _; iexact S2
      iexact Hg
    isplitl [Ho]; · iexact Ho
    isplitl [H0]; · iexact H0
    isplitl [H1]; · iexact H1
    isplitl [H2]; · iexact H2
    isplitl [H3]; · iexact H3
    iexists _; iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-! ## The launch -/

set_option backward.isDefEq.respectTransparency.types false in
/-- Every execution ends, with every input array as it was and every semaphore counter at zero. -/
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c w => by fin_cases w <;> rfl)
    (howed := fun _ _ => rfl) (V := V m) (hmain := hmain m Variants.none) (hA := A_eq m) (hΦ := fun _ _ => rfl)

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(RDat.FramePost.arr_in h.1 c 0 rfl).trans (V_main_arg0 m c),
      (RDat.FramePost.arr_in h.1 c 1 rfl).trans (V_main_arg1 m c),
      (RDat.FramePost.arr_in h.1 c 2 rfl).trans (V_main_arg2 m c),
      (RDat.FramePost.arr_in h.1 c 3 rfl).trans (V_main_arg3 m c)⟩, h.2⟩) (run_main m ρ)

end Cert.KernelIdeal.Hand

end
-- ==== Proof.FoxMath.lean ====
module

public import proofs.«01_k».proof.Proof.Gen.KernelIdeal.Skeleton
public import Idealize.ShloMosaic.Lib.Pipeline.ValueKit
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.VecWindow

@[expose] public section

set_option maxRecDepth 16384

noncomputable section

namespace Cert.KernelIdeal.Val

open Idealize.ShloMosaic hiding ix1 ix2 ix3 eq_ix2 eq_ix3 truncf_apply
open Idealize.ShloMosaic.ValueIdx
open Cert.KernelIdeal.Gen

/-! # The attention's running sums, over the reals

For one head and one query, the keys met so far are a finite set. The kernel keeps either the plain sums of `v k * 2 ^ s k`
over that set, or those sums scaled by `2 ^ (-M)` beside the real number `M`; the quotient of two rows is the same. -/

/-- The plain sums over the keys `S`. -/
def Plain (S : Finset ℕ) (s : ℕ → ℝ) (v : Fin 80 → ℕ → ℝ) (A : Fin 80 → EReal) : Prop :=
  ∀ r, A r = ((∑ k ∈ S, v r k * Real.rpow 2 (s k) : ℝ) : EReal)

/-- The sums over the keys `S` scaled down by a running maximum; before any key the maximum is the least element. -/
def Scaled (S : Finset ℕ) (s : ℕ → ℝ) (v : Fin 80 → ℕ → ℝ) (m : EReal) (A : Fin 80 → EReal) : Prop :=
  (S = ∅ ∧ m = ⊥ ∧ ∀ r, A r = 0) ∨ ∃ M : ℝ, m = (M : EReal) ∧ ∀ r, A r = ((∑ k ∈ S, v r k * Real.rpow 2 (s k - M) : ℝ) : EReal)

/-- A sum over the keys met so far and those of a new block. -/
theorem sum_union {n : ℕ} (S S' : Finset ℕ) (κ : Fin n → ℕ) (hκ : Function.Injective κ) (vis : Fin n → Prop) [DecidablePred vis]
    (hd : ∀ i, vis i → κ i ∉ S) (hS : ∀ k, k ∈ S' ↔ k ∈ S ∨ ∃ i, vis i ∧ κ i = k) (f : ℕ → ℝ) :
    ∑ k ∈ S', f k = ∑ k ∈ S, f k + ∑ i, if vis i then f (κ i) else 0 := by
  have e : S' = S ∪ (Finset.univ.filter vis).image κ := by
    ext k; rw [hS, Finset.mem_union, Finset.mem_image]; simp
  rw [e, Finset.sum_union, Finset.sum_image (fun a _ b _ h => hκ h), Finset.sum_filter]
  rw [Finset.disjoint_right]
  intro k hk
  obtain ⟨i, hi, rfl⟩ := Finset.mem_image.mp hk
  exact hd i (by simpa using hi)

/-- A finite sum of reals, read among the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- One term of a block: a hidden key adds nothing. -/
theorem term_eq (p : Prop) [Decidable p] (x a M : ℝ) :
    (x : EReal) * Ideal.exp2 ((if p then (a : EReal) else ⊥) - (M : EReal)) = (((if p then x * Real.rpow 2 (a - M) else 0) : ℝ) : EReal) := by
  by_cases h : p
  · rw [if_pos h, if_pos h, ← EReal.coe_sub, Ideal.exp2_coe, EReal.coe_mul]
  · rw [if_neg h, if_neg h, EReal.bot_sub, Ideal.exp2_bot, mul_zero, EReal.coe_zero]

theorem term_eq' (p : Prop) [Decidable p] (x a : ℝ) :
    (x : EReal) * Ideal.exp2 (if p then (a : EReal) else ⊥) = (((if p then x * Real.rpow 2 a else 0) : ℝ) : EReal) := by
  by_cases h : p
  · rw [if_pos h, if_pos h, Ideal.exp2_coe, EReal.coe_mul]
  · rw [if_neg h, if_neg h, Ideal.exp2_bot, mul_zero, EReal.coe_zero]

theorem rpow_shift (a M M' : ℝ) : Real.rpow 2 (M - M') * Real.rpow 2 (a - M) = Real.rpow 2 (a - M') := by
  have h := Real.rpow_add (show (0:ℝ) < 2 by norm_num) (M - M') (a - M)
  rw [show M - M' + (a - M) = a - M' by ring] at h
  exact h.symm

section Step
variable {n : ℕ} (S S' : Finset ℕ) (s : ℕ → ℝ) (v : Fin 80 → ℕ → ℝ) (κ : Fin n → ℕ) (hκ : Function.Injective κ) (vis : Fin n → Prop) [DecidablePred vis]
    (st : Fin n → EReal) (hst : ∀ i, st i = if vis i then (s (κ i) : EReal) else ⊥)
    (hd : ∀ i, vis i → κ i ∉ S) (hS : ∀ k, k ∈ S' ↔ k ∈ S ∨ ∃ i, vis i ∧ κ i = k)

include hκ hst hd hS

/-- A block of keys added to the plain sums. -/
theorem plain_step (A : Fin 80 → EReal) (h : Plain S s v A) :
    Plain S' s v (fun r => A r + ∑ i, (v r (κ i) : EReal) * Ideal.exp2 (st i)) := by
  intro r
  show A r + _ = _
  rw [sum_union S S' κ hκ vis hd hS, EReal.coe_add, coe_sum Finset.univ, h r]
  refine congrArg (_ + ·) (Finset.sum_congr rfl fun i _ => ?_)
  rw [hst, term_eq']

/-- A block of keys added to the scaled sums, the maximum moved up to `m'`, which is real as soon as a key has been met. -/
theorem scaled_step (m m' : EReal) (A : Fin 80 → EReal) (h : Scaled S s v m A)
    (hm : m ≤ m') (hb : ∀ i, st i ≤ m') (ht : m' ≠ ⊤) (hbot : m' = ⊥ ∨ m' ≠ ⊥) :
    Scaled S' s v m' (fun r => Ideal.exp2 (m - m') * A r + ∑ i, (v r (κ i) : EReal) * Ideal.exp2 (st i - m')) := by
  rcases hbot with rfl | hbot
  · have hm : m = ⊥ := le_bot_iff.mp hm
    have hv : ∀ i, ¬ vis i := fun i hi => by
      have := hb i; rw [hst, if_pos hi] at this; exact absurd (le_bot_iff.mp this) (EReal.coe_ne_bot _)
    rcases h with ⟨hS0, -, hA⟩ | ⟨M, hM, -⟩
    · refine .inl ⟨?_, rfl, fun r => ?_⟩
      · ext k; rw [hS, hS0]; simp [hv]
      · show Ideal.exp2 (m - ⊥) * A r + _ = 0
        rw [hA r, mul_zero, zero_add]
        refine Finset.sum_eq_zero fun i _ => ?_
        rw [hst, if_neg (hv i), EReal.bot_sub, Ideal.exp2_bot, mul_zero]
    · rw [hm] at hM; exact absurd hM.symm (EReal.coe_ne_bot _)
  · lift m' to ℝ using ⟨ht, hbot⟩
    refine .inr ⟨m', rfl, fun r => ?_⟩
    rw [sum_union S S' κ hκ vis hd hS, EReal.coe_add, coe_sum (Finset.univ)]
    refine congrArg₂ (· + ·) ?_ (Finset.sum_congr rfl fun i _ => by rw [hst, term_eq])
    rcases h with ⟨hS0, -, hA⟩ | ⟨M, rfl, hA⟩
    · rw [hA r, mul_zero, hS0, Finset.sum_empty, EReal.coe_zero]
    · rw [hA r, ← EReal.coe_sub, Ideal.exp2_coe, ← EReal.coe_mul, Finset.mul_sum]
      refine congrArg _ (Finset.sum_congr rfl fun k _ => ?_)
      rw [← rpow_shift (s k) M m']; ring

end Step

/-- The output of a head at a query: a row of the sums over the denominators' row. -/
def quot (S : Finset ℕ) (s : ℕ → ℝ) (v : Fin 80 → ℕ → ℝ) (r : Fin 80) : EReal :=
  ((∑ k ∈ S, v r k * Real.rpow 2 (s k) : ℝ) : EReal) * Ideal.div 1 ((∑ k ∈ S, Real.rpow 2 (s k) : ℝ) : EReal)

theorem quot_plain (S : Finset ℕ) (s : ℕ → ℝ) (v : Fin 80 → ℕ → ℝ) (A : Fin 80 → EReal) (h : Plain S s v A) (o : Fin 80) (ho : ∀ k ∈ S, v o k = 1) (r : Fin 80) :
    A r * Ideal.div 1 (A o) = quot S s v r := by
  have e1 : ∑ k ∈ S, v o k * Real.rpow 2 (s k) = ∑ k ∈ S, Real.rpow 2 (s k) := Finset.sum_congr rfl fun k hk => by rw [ho k hk, one_mul]
  rw [h r, h o, e1, quot]

theorem quot_scaled (S : Finset ℕ) (s : ℕ → ℝ) (v : Fin 80 → ℕ → ℝ) (m : EReal) (A : Fin 80 → EReal) (h : Scaled S s v m A) (o : Fin 80) (ho : ∀ k ∈ S, v o k = 1) (r : Fin 80) :
    A r * Ideal.div 1 (A o) = quot S s v r := by
  rcases h with ⟨rfl, -, hA⟩ | ⟨M, -, hA⟩
  · rw [hA r, zero_mul, quot, Finset.sum_empty, EReal.coe_zero, zero_mul]
  · have hs : ∀ f : ℕ → ℝ, ∑ k ∈ S, f k * Real.rpow 2 (s k - M) = Real.rpow 2 (-M) * ∑ k ∈ S, f k * Real.rpow 2 (s k) := fun f => by
      rw [Finset.mul_sum]
      refine Finset.sum_congr rfl fun k _ => ?_
      have := rpow_shift (s k) 0 M
      rw [zero_sub, sub_zero] at this
      rw [← this]; ring
    have e1 : ∑ k ∈ S, v o k * Real.rpow 2 (s k) = ∑ k ∈ S, Real.rpow 2 (s k) := Finset.sum_congr rfl fun k hk => by rw [ho k hk, one_mul]
    rw [hA r, hA o, hs, hs, e1, quot]
    have hp : (0:ℝ) < Real.rpow 2 (-M) := Real.rpow_pos_of_pos (by norm_num) _
    rcases S.eq_empty_or_nonempty with rfl | hne
    · simp
    · have hpos : (0:ℝ) < ∑ k ∈ S, Real.rpow 2 (s k) := Finset.sum_pos (fun k _ => Real.rpow_pos_of_pos (by norm_num) _) hne
      rw [Ideal.div_coe (mul_pos hp hpos).ne', Ideal.div_coe hpos.ne', one_mul, one_mul, ← EReal.coe_mul, ← EReal.coe_mul]
      refine congrArg _ ?_
      field_simp

/-! ## The same, on the kernel's tiles -/

section Vec
variable {n w : ℕ}

theorem negInf : FloatOps.ofBits (F := Ideal) .f32 0xFF800000#32 = (⊥ : EReal) := by
  show Ideal.ofBits .f32 0xFF800000#32 = ⊥
  simp [Ideal.ofBits, Ideal.ieee]

/-- The running maximum raised by a tile of scores. -/
abbrev raise (st : FVec Ideal ⟨2, ![n, w]⟩ .f32) (m : FVec Ideal ⟨3, ![1, 1, w]⟩ .f32) (hc : (⟨3, ![1, 1, w]⟩ : Shape).ShapeCasts ⟨2, ![1, w]⟩)
    (hr : (⟨2, ![n, w]⟩ : Shape).Reduces [0] ⟨1, ![w]⟩) (hu : (⟨1, ![w]⟩ : Shape).ShapeCasts ⟨2, ![1, w]⟩) : FVec Ideal ⟨2, ![1, w]⟩ .f32 :=
  maximumf (shapeCast ⟨2, ![1, w]⟩ m hc) (shapeCast ⟨2, ![1, w]⟩ (multiReduction .maximumf [0] ⟨1, ![w]⟩ st 0xFF800000#32 hr (.inl rfl) rfl) hu)

theorem raise_apply (st : FVec Ideal ⟨2, ![n, w]⟩ .f32) (m : FVec Ideal ⟨3, ![1, 1, w]⟩ .f32) (hc) (hr) (hu) (j : Fin w) :
    raise st m hc hr hu (ix2 0 j) = max (m (ix3 0 0 j)) ((Finset.univ : Finset (Fin n)).fold max ⊥ fun i => st (ix2 i j)) := by
  unfold raise
  show max _ _ = _
  rw [shapeCast_1ab_ab_apply, shapeCast_a_1a_apply]
  refine congrArg (max _) ((Ideal.multiReduction_maximumf_single _ _ _ _ _ _).trans ?_)
  have e : ∀ k, (st ∘ hr.lift (ix1 j)) k = st (ix2 k j) := fun k => by
    show st (hr.lift (ix1 j) k) = _
    rw [show hr.lift (ix1 j) k = ix2 k j from funext fun a => Fin.ext (by match a with | ⟨0, _⟩ => rfl | ⟨1, _⟩ => rfl)]
    rfl
  rw [show (st ∘ hr.lift (ix1 j)) = fun i => st (ix2 i j) from funext e]
  exact congrArg (fun z => Finset.fold max z (fun i : Fin n => st (ix2 i j)) Finset.univ) negInf

/-- The raised maximum as it is stored. -/
abbrev raised (st : FVec Ideal ⟨2, ![n, w]⟩ .f32) (m : FVec Ideal ⟨3, ![1, 1, w]⟩ .f32) (hc : (⟨3, ![1, 1, w]⟩ : Shape).ShapeCasts ⟨2, ![1, w]⟩)
    (hr : (⟨2, ![n, w]⟩ : Shape).Reduces [0] ⟨1, ![w]⟩) (hu : (⟨1, ![w]⟩ : Shape).ShapeCasts ⟨2, ![1, w]⟩) (hc' : (⟨2, ![1, w]⟩ : Shape).ShapeCasts ⟨3, ![1, 1, w]⟩) :
    FVec Ideal ⟨3, ![1, 1, w]⟩ .f32 := shapeCast ⟨3, ![1, 1, w]⟩ (raise st m hc hr hu) hc'

/-- The scaled sums after a tile. -/
abbrev rescaled (st : FVec Ideal ⟨2, ![n, w]⟩ .f32) (m : FVec Ideal ⟨3, ![1, 1, w]⟩ .f32) (A : FVec Ideal ⟨2, ![80, w]⟩ .f32) (V : FVec Ideal ⟨2, ![80, n]⟩ .bf16)
    (hc : (⟨3, ![1, 1, w]⟩ : Shape).ShapeCasts ⟨2, ![1, w]⟩)
    (hr : (⟨2, ![n, w]⟩ : Shape).Reduces [0] ⟨1, ![w]⟩) (hu : (⟨1, ![w]⟩ : Shape).ShapeCasts ⟨2, ![1, w]⟩)
    (hb : (⟨2, ![1, w]⟩ : Shape).Broadcasts ⟨2, ![80, w]⟩) (hb' : (⟨2, ![1, w]⟩ : Shape).Broadcasts ⟨2, ![n, w]⟩) (hl : FTy.bf16.bits < FTy.f32.bits) : FVec Ideal ⟨2, ![80, w]⟩ .f32 :=
  addf (mulf (broadcastTo ⟨2, ![80, w]⟩ (exp2 (subf (shapeCast ⟨2, ![1, w]⟩ m hc) (raise st m hc hr hu))) hb) A)
    (matmul (DotDims.plain 80 n w) none V (truncf .bf16 (exp2 (subf st (broadcastTo ⟨2, ![n, w]⟩ (raise st m hc hr hu) hb'))) hl) (constant ⟨2, ![80, w]⟩ .f32 0x00000000#32))

theorem rescaled_apply (st : FVec Ideal ⟨2, ![n, w]⟩ .f32) (m : FVec Ideal ⟨3, ![1, 1, w]⟩ .f32) (A : FVec Ideal ⟨2, ![80, w]⟩ .f32) (V : FVec Ideal ⟨2, ![80, n]⟩ .bf16)
    (hc) (hr) (hu) (hb) (hb') (hl) (r : Fin 80) (j : Fin w) :
    rescaled st m A V hc hr hu hb hb' hl (ix2 r j)
      = Ideal.exp2 (m (ix3 0 0 j) - raise st m hc hr hu (ix2 0 j)) * A (ix2 r j) + ∑ i : Fin n, V (ix2 r i) * Ideal.exp2 (st (ix2 i j) - raise st m hc hr hu (ix2 0 j)) := by
  unfold rescaled
  rw [addf_apply, mulf_apply, broadcastTo_1b_ab_apply]
  refine congrArg₂ (· + ·) (congrArg (· * A (ix2 r j)) ?_) ?_
  · show Ideal.exp2 (shapeCast ⟨2, ![1, w]⟩ m hc (ix2 0 j) - _) = _
    rw [shapeCast_1ab_ab_apply]
  · refine (Ideal.matmul_plain_apply none V _ _ r j).trans ?_
    rw [constant_apply, Ideal.ofBits_zero_f32, zero_add]
    refine Finset.sum_congr rfl fun i _ => congrArg (V (ix2 r i) * ·) ?_
    show Ideal.exp2 (st (ix2 i j) - broadcastTo ⟨2, ![n, w]⟩ _ hb' (ix2 i j)) = _
    rw [broadcastTo_1b_ab_apply]

/-- The plain sums after a tile. -/
abbrev added (st : FVec Ideal ⟨2, ![n, w]⟩ .f32) (A : FVec Ideal ⟨2, ![80, w]⟩ .f32) (V : FVec Ideal ⟨2, ![80, n]⟩ .bf16) (hl : FTy.bf16.bits < FTy.f32.bits) : FVec Ideal ⟨2, ![80, w]⟩ .f32 :=
  addf A (matmul (DotDims.plain 80 n w) none V (truncf .bf16 (exp2 st) hl) (constant ⟨2, ![80, w]⟩ .f32 0x00000000#32))

theorem added_apply (st : FVec Ideal ⟨2, ![n, w]⟩ .f32) (A : FVec Ideal ⟨2, ![80, w]⟩ .f32) (V : FVec Ideal ⟨2, ![80, n]⟩ .bf16) (hl) (r : Fin 80) (j : Fin w) :
    added st A V hl (ix2 r j) = A (ix2 r j) + ∑ i : Fin n, V (ix2 r i) * Ideal.exp2 (st (ix2 i j)) := by
  unfold added
  rw [addf_apply]
  refine congrArg (A (ix2 r j) + ·) ?_
  refine (Ideal.matmul_plain_apply none V _ _ r j).trans ?_
  rw [constant_apply, Ideal.ofBits_zero_f32, zero_add]
  rfl

/-- A head's scaled sums at every query of a tile: the keys met, the scores and the values. -/
def HeadScaled (S : Fin w → Finset ℕ) (s : ℕ → Fin w → ℝ) (v : Fin 80 → ℕ → ℝ) (m : FVec Ideal ⟨3, ![1, 1, w]⟩ .f32) (A : FVec Ideal ⟨2, ![80, w]⟩ .f32) : Prop :=
  ∀ j, Scaled (S j) (fun k => s k j) v (m (ix3 0 0 j)) (fun r => A (ix2 r j))

/-- A head's plain sums at every query of a tile. -/
def HeadPlain (S : Fin w → Finset ℕ) (s : ℕ → Fin w → ℝ) (v : Fin 80 → ℕ → ℝ) (A : FVec Ideal ⟨2, ![80, w]⟩ .f32) : Prop :=
  ∀ j, Plain (S j) (fun k => s k j) v (fun r => A (ix2 r j))

section Tile
variable (S S' : Fin w → Finset ℕ) (s : ℕ → Fin w → ℝ) (v : Fin 80 → ℕ → ℝ) (κ : Fin n → ℕ) (hκ : Function.Injective κ)
    (vis : Fin n → Fin w → Prop) [∀ i j, Decidable (vis i j)]
    (st : FVec Ideal ⟨2, ![n, w]⟩ .f32) (V : FVec Ideal ⟨2, ![80, n]⟩ .bf16)
    (hst : ∀ i j, st (ix2 i j) = if vis i j then (s (κ i) j : EReal) else ⊥) (hV : ∀ r i, V (ix2 r i) = (v r (κ i) : EReal))
    (hd : ∀ i j, vis i j → κ i ∉ S j) (hS : ∀ j k, k ∈ S' j ↔ k ∈ S j ∨ ∃ i, vis i j ∧ κ i = k)

include hκ hst hV hd hS

theorem plain_tile (A : FVec Ideal ⟨2, ![80, w]⟩ .f32) (hl) (h : HeadPlain S s v A) : HeadPlain S' s v (added st A V hl) := by
  intro j
  have := plain_step (S j) (S' j) (fun k => s k j) v κ hκ (fun i => vis i j) (fun i => st (ix2 i j)) (fun i => hst i j) (fun i => hd i j) (hS j) (fun r => A (ix2 r j)) (h j)
  intro r
  refine Eq.trans ?_ (this r)
  show added st A V hl (ix2 r j) = _
  rw [added_apply]
  simp only [hV]

theorem scaled_tile (m : FVec Ideal ⟨3, ![1, 1, w]⟩ .f32) (A : FVec Ideal ⟨2, ![80, w]⟩ .f32) (hc) (hr) (hu) (hc') (hb) (hb') (hl) (h : HeadScaled S s v m A) :
    HeadScaled S' s v (raised st m hc hr hu hc') (rescaled st m A V hc hr hu hb hb' hl) := by
  intro j
  have hm : raise st m hc hr hu (ix2 0 j) = max (m (ix3 0 0 j)) ((Finset.univ : Finset (Fin n)).fold max ⊥ fun i => st (ix2 i j)) := raise_apply st m hc hr hu j
  have hb1 : ∀ i, st (ix2 i j) ≤ raise st m hc hr hu (ix2 0 j) := fun i => by
    rw [hm]; exact le_max_of_le_right ((Finset.le_fold_max _).mpr (.inr ⟨i, Finset.mem_univ _, le_rfl⟩))
  have hmt : m (ix3 0 0 j) ≠ ⊤ := by
    rcases h j with ⟨-, e, -⟩ | ⟨M, e, -⟩
    · rw [e]; exact bot_ne_top
    · rw [e]; exact EReal.coe_ne_top _
  have ht : raise st m hc hr hu (ix2 0 j) ≠ ⊤ := by
    rw [hm]
    refine ne_of_lt (max_lt (lt_top_iff_ne_top.mpr hmt) ((Finset.fold_max_lt _).mpr ⟨bot_lt_top, fun i _ => ?_⟩))
    rw [hst]
    split
    · exact EReal.coe_lt_top _
    · exact bot_lt_top
  have := scaled_step (S j) (S' j) (fun k => s k j) v κ hκ (fun i => vis i j) (fun i => st (ix2 i j)) (fun i => hst i j) (fun i => hd i j) (hS j)
    (m (ix3 0 0 j)) (raise st m hc hr hu (ix2 0 j)) (fun r => A (ix2 r j)) (h j) (by rw [hm]; exact le_max_left _ _) hb1 ht (em _)
  show Scaled _ _ _ (raised st m hc hr hu hc' (ix3 0 0 j)) _
  rw [show raised st m hc hr hu hc' (ix3 0 0 j) = raise st m hc hr hu (ix2 0 j) from shapeCast_ab_1ab_apply _ _ _ _ _]
  refine (congrArg (Scaled _ _ _ _) (funext fun r => ?_)).mp this
  rw [rescaled_apply]
  simp only [hV]

end Tile

end Vec

end Cert.KernelIdeal.Val

end
-- ==== Proof.FoxTiles.lean ====
module

public import proofs.«01_k».proof.Proof.FoxMath
public import Idealize.ShloMosaic.Lib.WordCmp
public import Idealize.ShloMosaic.Lib.Pointwise.SelectCore

@[expose] public section

set_option maxRecDepth 16384

noncomputable section

namespace Cert.KernelIdeal.Val

open Idealize.ShloMosaic hiding ix1 ix2 ix3 eq_ix2 eq_ix3 truncf_apply
open Idealize.ShloMosaic.ValueIdx
open Idealize.ShloMosaic.VecWindow
open Cert.KernelIdeal.Gen

/-! # The attention kernel's tiles of scores and values -/

/-- A matrix of real numbers, read at natural indices; zero outside. -/
def nat2 {a b : ℕ} (x : (⟨2, ![a, b]⟩ : Shape).Idx → EReal) (i j : ℕ) : ℝ :=
  if h : i < a ∧ j < b then (x (ix2 ⟨i, h.1⟩ ⟨j, h.2⟩)).toReal else 0

/-- Every element is a real number. -/
def Real2 {a b : ℕ} (x : (⟨2, ![a, b]⟩ : Shape).Idx → EReal) : Prop := ∀ i, x i = ((x i).toReal : EReal)

theorem real2_apply {a b : ℕ} (x : (⟨2, ![a, b]⟩ : Shape).Idx → EReal) (hx : Real2 x) (i : Fin a) (j : Fin b) : x (ix2 i j) = (nat2 x i.val j.val : EReal) := by
  unfold nat2
  rw [dif_pos ⟨i.isLt, j.isLt⟩]
  exact hx _

/-- A window of a real matrix at an element. -/
theorem window_nat2 {a b n w : ℕ} (x : (⟨2, ![a, b]⟩ : Shape).Idx → EReal) (hx : Real2 x) (off : Fin 2 → ℕ) (inb) (r0 c0 : ℕ) (ho : off = ![r0, c0]) (i : Fin n) (j : Fin w) :
    window x off (⟨2, ![n, w]⟩ : Shape).size inb (ix2 i j) = (nat2 x (r0 + i.val) (c0 + j.val) : EReal) := by
  subst ho
  have h0 : r0 + n ≤ a := inb 0
  have h1 : c0 + w ≤ b := inb 1
  have e : (Rect.unit (s := ⟨2, ![a, b]⟩) ![r0, c0] (⟨2, ![n, w]⟩ : Shape).size inb).emb (ix2 i j) = ix2 ⟨r0 + i.val, by omega⟩ ⟨c0 + j.val, by omega⟩ := by
    refine funext fun q => Fin.ext ?_
    match q with
    | ⟨0, _⟩ => show r0 + 1 * i.val = r0 + i.val; omega
    | ⟨1, _⟩ => show c0 + 1 * j.val = c0 + j.val; omega
  show x _ = _
  rw [e]
  exact real2_apply x hx ⟨r0 + i.val, by omega⟩ ⟨c0 + j.val, by omega⟩

/-- The score of key `k` against the query in column `c`, for head `h` of the group: a sum over its 128 features. -/
def score (Q : Vec Ideal S512x4224 .bf16) (K : Vec Ideal S4224x512 .bf16) (h c k : ℕ) : ℝ :=
  ∑ a : Fin 128, nat2 K k (128 * h + a.val) * nat2 Q (128 * h + a.val) c
/-- The scores against the columns of a tile that starts at `c0`. -/
abbrev scoreAt (Q : Vec Ideal S512x4224 .bf16) (K : Vec Ideal S4224x512 .bf16) (h c0 : ℕ) {w : ℕ} (k : ℕ) (j : Fin w) : ℝ := score Q K h (c0 + j.val) k
/-- Row `r` of head `h`'s values. -/
def value (V : Vec Ideal S320x4224 .bf16) (h : ℕ) (r : Fin 80) (k : ℕ) : ℝ := nat2 V (80 * h + r.val) k

section
variable (Q : Vec Ideal S512x4224 .bf16) (K : Vec Ideal S4224x512 .bf16) (V : Vec Ideal S320x4224 .bf16) (hQ : Real2 Q) (hK : Real2 K) (hV : Real2 V)

include hQ in
/-- A tile of scores, from a block of keys known at its elements. -/
theorem scores_of {n w : ℕ} (h c0 : ℕ) (κ : Fin n → ℕ) (K' : FVec Ideal ⟨2, ![n, 128]⟩ .bf16) (hK' : ∀ i a, K' (ix2 i a) = (nat2 K (κ i) (128 * h + a.val) : EReal))
    (oq : Fin 2 → ℕ) (iq) (hq : oq = ![128 * h, c0]) (i : Fin n) (j : Fin w) :
    matmul (F := Ideal) (φ₁ := .bf16) (φ₂ := .bf16) (DotDims.plain n 128 w) none K' (show FVec Ideal ⟨2, ![128, w]⟩ .bf16 from window Q oq (⟨2, ![128, w]⟩ : Shape).size iq) (constant ⟨2, ![n, w]⟩ .f32 0x00000000#32) (ix2 i j)
      = (scoreAt Q K h c0 (κ i) j : EReal) := by
  refine (Ideal.matmul_plain_apply none K' _ _ i j).trans ?_
  rw [constant_apply, Ideal.ofBits_zero_f32, zero_add]
  unfold scoreAt score
  rw [coe_sum]
  refine Finset.sum_congr rfl fun a _ => ?_
  rw [hK', EReal.coe_mul]
  exact congrArg (_ * ·) (window_nat2 Q hQ oq iq _ _ hq a j)

include hQ hK in
/-- A tile of scores, from a window of the keys. -/
theorem scores_apply {n w : ℕ} (h c0 r0 : ℕ) (ok : Fin 2 → ℕ) (ik) (hk : ok = ![r0, 128 * h]) (oq : Fin 2 → ℕ) (iq) (hq : oq = ![128 * h, c0]) (i : Fin n) (j : Fin w) :
    matmul (F := Ideal) (φ₁ := .bf16) (φ₂ := .bf16) (DotDims.plain n 128 w) none (show FVec Ideal ⟨2, ![n, 128]⟩ .bf16 from window K ok (⟨2, ![n, 128]⟩ : Shape).size ik) (show FVec Ideal ⟨2, ![128, w]⟩ .bf16 from window Q oq (⟨2, ![128, w]⟩ : Shape).size iq) (constant ⟨2, ![n, w]⟩ .f32 0x00000000#32) (ix2 i j)
      = (scoreAt Q K h c0 (r0 + i.val) j : EReal) :=
  scores_of Q K hQ h c0 (fun i => r0 + i.val) _ (fun i a => window_nat2 K hK ok ik _ _ hk i a) oq iq hq i j

include hV in
/-- A tile of a head's values, from a window of them. -/
theorem value_apply {w : ℕ} (h c0 : ℕ) (ov : Fin 2 → ℕ) (iv) (ho : ov = ![80 * h, c0]) (r : Fin 80) (i : Fin w) :
    (show FVec Ideal ⟨2, ![80, w]⟩ .bf16 from window V ov (⟨2, ![80, w]⟩ : Shape).size iv) (ix2 r i) = (value V h r (c0 + i.val) : EReal) :=
  window_nat2 V hV ov iv _ _ ho r i

/-! ## The mask of the last tile of keys: the lead keys from 112 on, and the tile's own keys up to the query -/

/-- Whether key `i` of the 640 is visible to column `j`. -/
abbrev seen (i : Fin 640) (j : Fin 512) : Prop := (112 ≤ i.val ∧ i.val < 128) ∨ (128 ≤ i.val ∧ i.val - 128 ≤ j.val)
/-- Which key of the batch key `i` of the 640 is, for the tile that starts at `c0`. -/
abbrev keyOf (c0 : ℕ) (i : Fin 640) : ℕ := if i.val < 128 then i.val else c0 + (i.val - 128)

theorem keyOf_inj (c0 : ℕ) (h : 128 ≤ c0) : Function.Injective (keyOf c0) := fun a b hab => by
  refine Fin.ext ?_
  unfold keyOf at hab
  split at hab <;> split at hab <;> omega

theorem bit_or (p q r s : Bool) : ((BitVec.ofBool p &&& BitVec.ofBool q) ||| (BitVec.ofBool r &&& BitVec.ofBool s) = 1#1) ↔ ((p = true ∧ q = true) ∨ (r = true ∧ s = true)) := by
  revert p q r s; decide

theorem mask_apply (i : Fin 640) (j : Fin 512) : k0_pay49 (ix2 i j) = 1#1 ↔ seen i j := by
  have hi := i.isLt
  have hj := j.isLt
  have e1 : (BitVec.ofNat 32 i.val).toInt = i.val := by rw [BitVec.toInt_eq_toNat_of_lt] <;> simp <;> omega
  have e2 : (BitVec.ofNat 32 j.val).toInt = j.val := by rw [BitVec.toInt_eq_toNat_of_lt] <;> simp <;> omega
  have e3 : (BitVec.ofNat 32 i.val - 128#32).toInt = (i.val : ℤ) - 128 := by
    rw [BitVec.toInt_sub, e1]
    rw [show (128#32 : BitVec 32).toInt = 128 from rfl]
    exact Int.bmod_eq_of_le (by omega) (by omega)
  have e : k0_pay49 (ix2 i j) = (BitVec.ofBool (decide ((112#32 : BitVec 32).toInt ≤ (BitVec.ofNat 32 i.val).toInt)) &&& BitVec.ofBool (decide ((BitVec.ofNat 32 i.val).toInt < (128#32 : BitVec 32).toInt)))
      ||| (BitVec.ofBool (decide ((128#32 : BitVec 32).toInt ≤ (BitVec.ofNat 32 i.val).toInt)) &&& BitVec.ofBool (decide ((BitVec.ofNat 32 i.val - 128#32).toInt ≤ (BitVec.ofNat 32 j.val).toInt))) := by
    simp only [k0_pay49]
    show ((IntOp.cmpi .sge (iota .tc S640x512 32 [0] iota_S640x512_d0_w32 (ix2 i j)) 112#32) &&& (IntOp.cmpi .slt (iota .tc S640x512 32 [0] iota_S640x512_d0_w32 (ix2 i j)) 128#32))
      ||| ((IntOp.cmpi .sge (iota .tc S640x512 32 [0] iota_S640x512_d0_w32 (ix2 i j)) 128#32) &&& (IntOp.cmpi .sle (iota .tc S640x512 32 [0] iota_S640x512_d0_w32 (ix2 i j) - 128#32) (iota .tc S640x512 32 [1] iota_S640x512_d1_w32 (ix2 i j)))) = _
    rw [iota_single_apply, iota_single_apply]
    rfl
  rw [e, bit_or]
  simp only [decide_eq_true_eq, e1, e2, e3]
  rw [show (112#32 : BitVec 32).toInt = 112 from rfl, show (128#32 : BitVec 32).toInt = 128 from rfl]
  unfold seen
  omega

theorem mask_eq : (k0_pay180 : IVec S640x512 1) = k0_pay49 := rfl

/-- The named mask value. -/
theorem neg_eq : (Named.named κ "mask" 0xF149F2CA#32 : Ideal .f32) = (⊥ : EReal) := rfl

theorem select_mask (c : IVec S640x512 1) (a b : FVec Ideal S640x512 .f32) (i : Fin 640) (j : Fin 512) (p : Prop) [Decidable p] (hp : c (ix2 i j) = 1#1 ↔ p) :
    select c a b (ix2 i j) = if p then a (ix2 i j) else b (ix2 i j) := by
  rw [select_apply]
  show (if c (ix2 i j) = 1#1 then _ else _) = _
  simp only [hp]

/-- The scores of the last tile's 640 keys, from the two parts' scores. -/
abbrev maskedA (L : FVec Ideal S128x512 .f32) (D : FVec Ideal S512x512 .f32) : FVec Ideal S640x512 .f32 :=
  select k0_pay49 (concatenate S640x512 0 [⟨S128x512, L⟩, ⟨S512x512, D⟩] concatenates_S128x512_S512x512_S640x512_d0) (broadcast S640x512 (Named.named κ "mask" 0xF149F2CA#32))
/-- The scores of the last tile's 640 keys, from the two parts' keys. -/
abbrev maskedB (L : FVec Ideal S128x128 .bf16) (D : FVec Ideal S512x128 .bf16) (q : FVec Ideal S128x512 .bf16) : FVec Ideal S640x512 .f32 :=
  select k0_pay49 (matmul dot_S640x128_S128x512_S640x512_1_0_0_1_n_n none (concatenate S640x128 0 [⟨S128x128, L⟩, ⟨S512x128, D⟩] concatenates_S128x128_S512x128_S640x128_d0) q (constant S640x512 .f32 0x00000000#32))
    (broadcast S640x512 (Named.named κ "mask" 0xF149F2CA#32))
/-- The values of the last tile's 640 keys. -/
abbrev joined (L : FVec Ideal S80x128 .bf16) (D : FVec Ideal S80x512 .bf16) : FVec Ideal S80x640 .bf16 :=
  concatenate S80x640 1 [⟨S80x128, L⟩, ⟨S80x512, D⟩] concatenates_S80x128_S80x512_S80x640_d1

theorem rows_pair {n w : ℕ} {α : Type} {b : ℕ} (L : (⟨2, ![128, w]⟩ : Shape).Idx → α) (D : (⟨2, ![512, w]⟩ : Shape).Idx → α)
    (h : Shape.Concatenates [(⟨2, ![128, w]⟩ : Shape), ⟨2, ![512, w]⟩] ⟨2, ![640, w]⟩ 0) (i : Fin 640) (j : Fin w) :
    concatenate (⟨2, ![640, w]⟩ : Shape) 0 [⟨⟨2, ![128, w]⟩, L⟩, ⟨⟨2, ![512, w]⟩, D⟩] h (ix2 i j) = if hi : i.val < 128 then L (ix2 ⟨i.val, hi⟩ j) else D (ix2 ⟨i.val - 128, by omega⟩ j) := by
  split
  · next hi =>
    exact concatenate_pair_apply_left _ L D h _ rfl (ix2 ⟨i.val, hi⟩ j) fun b => by match b with | ⟨0, _⟩ => rfl | ⟨1, _⟩ => rfl
  · next hi =>
    refine concatenate_pair_apply_right _ L D h _ rfl rfl (ix2 ⟨i.val - 128, by omega⟩ j) (fun b hb => ?_) ?_
    · match b with
      | ⟨0, _⟩ => exact absurd rfl hb
      | ⟨1, _⟩ => rfl
    · show i.val - 128 + 128 = i.val
      omega

theorem cols_pair {α : Type} (L : S80x128.Idx → α) (D : S80x512.Idx → α) (r : Fin 80) (i : Fin 640) :
    concatenate S80x640 1 [⟨S80x128, L⟩, ⟨S80x512, D⟩] concatenates_S80x128_S80x512_S80x640_d1 (ix2 r i) = if hi : i.val < 128 then L (ix2 r ⟨i.val, hi⟩) else D (ix2 r ⟨i.val - 128, by omega⟩) := by
  split
  · next hi =>
    exact concatenate_pair_apply_left (t := S80x640) 1 L D _ (ix2 r i) rfl (ix2 r ⟨i.val, hi⟩) fun b => by match b with | ⟨0, _⟩ => rfl | ⟨1, _⟩ => rfl
  · next hi =>
    refine concatenate_pair_apply_right (t := S80x640) 1 L D _ (ix2 r i) rfl rfl (ix2 r ⟨i.val - 128, by omega⟩) (fun b hb => ?_) ?_
    · match b with
      | ⟨0, _⟩ => rfl
      | ⟨1, _⟩ => exact absurd rfl hb
    · show i.val - 128 + 128 = i.val
      omega

theorem maskedA_apply (s : ℕ → Fin 512 → ℝ) (c0 : ℕ) (L : FVec Ideal S128x512 .f32) (D : FVec Ideal S512x512 .f32)
    (hL : ∀ i j, L (ix2 i j) = (s i.val j : EReal)) (hD : ∀ i j, D (ix2 i j) = (s (c0 + i.val) j : EReal)) (i : Fin 640) (j : Fin 512) :
    maskedA L D (ix2 i j) = if seen i j then (s (keyOf c0 i) j : EReal) else ⊥ := by
  unfold maskedA
  rw [select_mask _ _ _ i j _ (mask_apply i j), rows_pair (n := 0) (b := 0) L D]
  refine if_congr Iff.rfl ?_ rfl
  unfold keyOf
  split
  · exact hL _ _
  · exact hD _ _

include hQ in
theorem maskedB_apply (h c0 : ℕ) (L : FVec Ideal S128x128 .bf16) (D : FVec Ideal S512x128 .bf16)
    (hL : ∀ i a, L (ix2 i a) = (nat2 K i.val (128 * h + a.val) : EReal)) (hD : ∀ i a, D (ix2 i a) = (nat2 K (c0 + i.val) (128 * h + a.val) : EReal))
    (oq : Fin 2 → ℕ) (iq) (hq : oq = ![128 * h, c0]) (i : Fin 640) (j : Fin 512) :
    maskedB L D (show FVec Ideal S128x512 .bf16 from window Q oq S128x512.size iq) (ix2 i j) = if seen i j then (scoreAt Q K h c0 (keyOf c0 i) j : EReal) else ⊥ := by
  unfold maskedB
  rw [select_mask _ _ _ i j _ (mask_apply i j)]
  refine if_congr Iff.rfl ?_ rfl
  refine scores_of Q K hQ h c0 (keyOf c0) _ (fun i a => ?_) oq iq hq i j
  rw [rows_pair (n := 0) (b := 0) L D]
  unfold keyOf
  split
  · exact hL _ _
  · exact hD _ _

theorem joined_apply (h c0 : ℕ) (L : FVec Ideal S80x128 .bf16) (D : FVec Ideal S80x512 .bf16)
    (hL : ∀ r i, L (ix2 r i) = (value V h r i.val : EReal)) (hD : ∀ r i, D (ix2 r i) = (value V h r (c0 + i.val) : EReal)) (r : Fin 80) (i : Fin 640) :
    joined L D (ix2 r i) = (value V h r (keyOf c0 i) : EReal) := by
  unfold joined
  rw [cols_pair L D]
  unfold keyOf
  split
  · exact hL _ _
  · exact hD _ _

end

/-! ## The sums after a whole tile, after the last tile, and after the lead tile -/

/-- The keys met after `t` whole tiles. -/
abbrev whole (t : ℕ) {w : ℕ} : Fin w → Finset ℕ := fun _ => Finset.Ico 128 (128 + 512 * t)
/-- The keys a query of the tile at `c0` sees. -/
abbrev upTo (c0 : ℕ) {w : ℕ} : Fin w → Finset ℕ := fun j => Finset.Ico 112 (c0 + j.val + 1)

section Steps
variable (s : ℕ → Fin 512 → ℝ) (v : Fin 80 → ℕ → ℝ)

theorem whole_mem (t : ℕ) (j : Fin 512) (k : ℕ) : k ∈ whole (t + 1) j ↔ k ∈ whole t j ∨ ∃ i : Fin 512, True ∧ 128 + 512 * t + i.val = k := by
  simp only [whole, Finset.mem_Ico, true_and]
  constructor
  · intro h
    by_cases hk : k < 128 + 512 * t
    · exact .inl ⟨h.1, hk⟩
    · exact .inr ⟨⟨k - (128 + 512 * t), by omega⟩, by show 128 + 512 * t + (k - (128 + 512 * t)) = k; omega⟩
  · rintro (h | ⟨i, rfl⟩)
    · omega
    · have := i.isLt; omega

theorem whole_new (t : ℕ) (i : Fin 512) (j : Fin 512) : 128 + 512 * t + i.val ∉ whole t j := by
  simp only [whole, Finset.mem_Ico]; omega

theorem last_mem (t : ℕ) (j : Fin 512) (k : ℕ) : k ∈ upTo (128 + 512 * t) j ↔ k ∈ whole t j ∨ ∃ i : Fin 640, seen i j ∧ keyOf (128 + 512 * t) i = k := by
  have hj := j.isLt
  simp only [whole, upTo, Finset.mem_Ico]
  constructor
  · intro h
    by_cases h1 : k < 128
    · refine .inr ⟨⟨k, by omega⟩, .inl ⟨h.1, h1⟩, ?_⟩
      show (if k < 128 then k else _) = k
      rw [if_pos h1]
    · by_cases h2 : k < 128 + 512 * t
      · exact .inl ⟨by omega, h2⟩
      · refine .inr ⟨⟨k - (128 + 512 * t) + 128, by omega⟩, .inr ⟨?_, ?_⟩, ?_⟩
        · show 128 ≤ k - (128 + 512 * t) + 128; omega
        · show k - (128 + 512 * t) + 128 - 128 ≤ j.val; omega
        · show (if k - (128 + 512 * t) + 128 < 128 then k - (128 + 512 * t) + 128 else 128 + 512 * t + (k - (128 + 512 * t) + 128 - 128)) = k
          rw [if_neg (by omega)]; omega
  · rintro (h | ⟨i, hi, rfl⟩)
    · omega
    · unfold keyOf
      rcases hi with hi | hi
      · rw [if_pos hi.2]; omega
      · rw [if_neg (by omega)]; omega

theorem last_new (t : ℕ) (i : Fin 640) (j : Fin 512) (h : seen i j) : keyOf (128 + 512 * t) i ∉ whole t j := by
  simp only [whole, Finset.mem_Ico]
  unfold keyOf
  rcases h with hi | hi
  · rw [if_pos hi.2]; omega
  · rw [if_neg (by omega)]; omega

theorem plain_whole (t : ℕ) (st : FVec Ideal S512x512 .f32) (V : FVec Ideal S80x512 .bf16) (hst : ∀ i j, st (ix2 i j) = (s (128 + 512 * t + i.val) j : EReal))
    (hV : ∀ r i, V (ix2 r i) = (v r (128 + 512 * t + i.val) : EReal)) (A : FVec Ideal S80x512 .f32) (hl) (h : HeadPlain (whole t) s v A) : HeadPlain (whole (t + 1)) s v (added st A V hl) :=
  plain_tile (whole t) (whole (t + 1)) s v (fun i => 128 + 512 * t + i.val) (fun a b e => Fin.ext (by have : 128 + 512 * t + a.val = 128 + 512 * t + b.val := e; omega)) (fun _ _ => True) st V
    (fun i j => (hst i j).trans (if_pos trivial).symm) hV (fun i j _ => whole_new t i j) (whole_mem t) A hl h

theorem scaled_whole (t : ℕ) (st : FVec Ideal S512x512 .f32) (V : FVec Ideal S80x512 .bf16) (hst : ∀ i j, st (ix2 i j) = (s (128 + 512 * t + i.val) j : EReal))
    (hV : ∀ r i, V (ix2 r i) = (v r (128 + 512 * t + i.val) : EReal)) (m : FVec Ideal S1x1x512 .f32) (A : FVec Ideal S80x512 .f32) (hc) (hr) (hu) (hc') (hb) (hb') (hl) (h : HeadScaled (whole t) s v m A) :
    HeadScaled (whole (t + 1)) s v (raised st m hc hr hu hc') (rescaled st m A V hc hr hu hb hb' hl) :=
  scaled_tile (whole t) (whole (t + 1)) s v (fun i => 128 + 512 * t + i.val) (fun a b e => Fin.ext (by have : 128 + 512 * t + a.val = 128 + 512 * t + b.val := e; omega)) (fun _ _ => True) st V
    (fun i j => (hst i j).trans (if_pos trivial).symm) hV (fun i j _ => whole_new t i j) (whole_mem t) m A hc hr hu hc' hb hb' hl h

theorem plain_last (t : ℕ) (st : FVec Ideal S640x512 .f32) (V : FVec Ideal S80x640 .bf16) (hst : ∀ i j, st (ix2 i j) = if seen i j then (s (keyOf (128 + 512 * t) i) j : EReal) else ⊥)
    (hV : ∀ r i, V (ix2 r i) = (v r (keyOf (128 + 512 * t) i) : EReal)) (A : FVec Ideal S80x512 .f32) (hl) (h : HeadPlain (whole t) s v A) : HeadPlain (upTo (128 + 512 * t)) s v (added st A V hl) :=
  plain_tile (whole t) (upTo (128 + 512 * t)) s v (keyOf (128 + 512 * t)) (keyOf_inj _ (by omega)) seen st V hst hV (fun i j => last_new t i j) (last_mem t) A hl h

theorem scaled_last (t : ℕ) (st : FVec Ideal S640x512 .f32) (V : FVec Ideal S80x640 .bf16) (hst : ∀ i j, st (ix2 i j) = if seen i j then (s (keyOf (128 + 512 * t) i) j : EReal) else ⊥)
    (hV : ∀ r i, V (ix2 r i) = (v r (keyOf (128 + 512 * t) i) : EReal)) (m : FVec Ideal S1x1x512 .f32) (A : FVec Ideal S80x512 .f32) (hc) (hr) (hu) (hc') (hb) (hb') (hl) (h : HeadScaled (whole t) s v m A) :
    HeadScaled (upTo (128 + 512 * t)) s v (raised st m hc hr hu hc') (rescaled st m A V hc hr hu hb hb' hl) :=
  scaled_tile (whole t) (upTo (128 + 512 * t)) s v (keyOf (128 + 512 * t)) (keyOf_inj _ (by omega)) seen st V hst hV (fun i j => last_new t i j) (last_mem t) m A hc hr hu hc' hb hb' hl h

end Steps

/-! ### The lead tile -/

theorem bit_and (p q : Bool) : (BitVec.ofBool p &&& BitVec.ofBool q = 1#1) ↔ (p = true ∧ q = true) := by
  revert p q; decide

/-- Whether lead key `i` is visible to lead column `j`. -/
abbrev seenLead (i j : Fin 128) : Prop := 112 ≤ i.val ∧ i.val ≤ j.val

theorem maskLead_apply (i j : Fin 128) : k0_pay213 (ix2 i j) = 1#1 ↔ seenLead i j := by
  have hi := i.isLt
  have hj := j.isLt
  have e1 : (BitVec.ofNat 32 i.val).toInt = i.val := by rw [BitVec.toInt_eq_toNat_of_lt] <;> simp <;> omega
  have e2 : (BitVec.ofNat 32 j.val).toInt = j.val := by rw [BitVec.toInt_eq_toNat_of_lt] <;> simp <;> omega
  have e : k0_pay213 (ix2 i j) = (BitVec.ofBool (decide ((112#32 : BitVec 32).toInt ≤ (BitVec.ofNat 32 i.val).toInt)) &&& BitVec.ofBool (decide ((BitVec.ofNat 32 i.val).toInt ≤ (BitVec.ofNat 32 j.val).toInt))) := by
    simp only [k0_pay213]
    show ((IntOp.cmpi .sge (iota .tc S128x128 32 [0] iota_S128x128_d0_w32 (ix2 i j)) 112#32) &&& (IntOp.cmpi .sle (iota .tc S128x128 32 [0] iota_S128x128_d0_w32 (ix2 i j)) (iota .tc S128x128 32 [1] iota_S128x128_d1_w32 (ix2 i j)))) = _
    rw [iota_single_apply, iota_single_apply]
    rfl
  rw [e, bit_and]
  simp only [decide_eq_true_eq, e1, e2]
  rw [show (112#32 : BitVec 32).toInt = 112 from rfl]
  unfold seenLead
  omega

/-- The lead tile's scores. -/
abbrev maskedLead (D : FVec Ideal S128x128 .f32) : FVec Ideal S128x128 .f32 := select k0_pay213 D (broadcast S128x128 (Named.named κ "mask" 0xF149F2CA#32))

theorem maskedLead_apply (s : ℕ → Fin 128 → ℝ) (D : FVec Ideal S128x128 .f32) (hD : ∀ i j, D (ix2 i j) = (s i.val j : EReal)) (i j : Fin 128) :
    maskedLead D (ix2 i j) = if seenLead i j then (s i.val j : EReal) else ⊥ := by
  unfold maskedLead
  rw [select_apply]
  show (if k0_pay213 (ix2 i j) = 1#1 then D (ix2 i j) else (⊥ : EReal)) = _
  simp only [maskLead_apply, hD]

theorem scaled_lead (s : ℕ → Fin 128 → ℝ) (v : Fin 80 → ℕ → ℝ) (st : FVec Ideal S128x128 .f32) (V : FVec Ideal S80x128 .bf16) (hst : ∀ i j, st (ix2 i j) = if seenLead i j then (s i.val j : EReal) else ⊥)
    (hV : ∀ r i, V (ix2 r i) = (v r i.val : EReal)) (m : FVec Ideal S1x1x128 .f32) (A : FVec Ideal S80x128 .f32) (hc) (hr) (hu) (hc') (hb) (hb') (hl) (h : HeadScaled (fun _ => ∅) s v m A) :
    HeadScaled (upTo 0) s v (raised st m hc hr hu hc') (rescaled st m A V hc hr hu hb hb' hl) :=
  scaled_tile (fun _ => ∅) (upTo 0) s v (fun i => i.val) Fin.val_injective seenLead st V hst hV (fun i j _ => Finset.notMem_empty _)
    (fun j k => by
      have hj := j.isLt
      simp only [upTo, Finset.mem_Ico, Finset.notMem_empty, false_or]
      constructor
      · intro hk; exact ⟨⟨k, by omega⟩, ⟨hk.1, by show k ≤ j.val; omega⟩, rfl⟩
      · rintro ⟨i, hi, rfl⟩; exact ⟨hi.1, by have := hi.2; omega⟩) m A hc hr hu hc' hb hb' hl h

/-- Nothing met yet: the maximum at the mask value and the sums at zero. -/
theorem scaled_none {w : ℕ} (S : Fin w → Finset ℕ) (hS : ∀ j, S j = ∅) (s : ℕ → Fin w → ℝ) (v : Fin 80 → ℕ → ℝ) (m : FVec Ideal ⟨3, ![1, 1, w]⟩ .f32) (A : FVec Ideal ⟨2, ![80, w]⟩ .f32)
    (hm : ∀ j, m (ix3 0 0 j) = ⊥) (hA : ∀ r j, A (ix2 r j) = 0) : HeadScaled S s v m A := fun j => .inl ⟨hS j, hm j, fun r => hA r j⟩
theorem plain_none {w : ℕ} (S : Fin w → Finset ℕ) (hS : ∀ j, S j = ∅) (s : ℕ → Fin w → ℝ) (v : Fin 80 → ℕ → ℝ) (A : FVec Ideal ⟨2, ![80, w]⟩ .f32)
    (hA : ∀ r j, A (ix2 r j) = 0) : HeadPlain S s v A := fun j r => by
  show A (ix2 r j) = _
  rw [hA, hS, Finset.sum_empty, EReal.coe_zero]

/-! ### The output's rows -/

/-- A head's output on a tile of columns. -/
abbrev ratio {w : ℕ} (A : FVec Ideal ⟨2, ![64, w]⟩ .f32) (d : FVec Ideal ⟨2, ![1, w]⟩ .f32) (hb : (⟨2, ![1, w]⟩ : Shape).Broadcasts ⟨2, ![64, w]⟩) (hl : FTy.bf16.bits < FTy.f32.bits) : FVec Ideal ⟨2, ![64, w]⟩ .bf16 :=
  truncf .bf16 (mulf A (broadcastTo ⟨2, ![64, w]⟩ (divf (broadcast ⟨2, ![1, w]⟩ (Scalar.ofBits .f32 0x3F800000#32)) d) hb)) hl

theorem ratio_apply {w : ℕ} (A : FVec Ideal ⟨2, ![64, w]⟩ .f32) (d : FVec Ideal ⟨2, ![1, w]⟩ .f32) (hb) (hl) (r : Fin 64) (j : Fin w) :
    ratio A d hb hl (ix2 r j) = A (ix2 r j) * Ideal.div 1 (d (ix2 0 j)) := by
  show A (ix2 r j) * broadcastTo ⟨2, ![64, w]⟩ _ hb (ix2 r j) = _
  rw [broadcastTo_1b_ab_apply]
  show A (ix2 r j) * Ideal.div (Ideal.ofBits .f32 0x3F800000#32) (d (ix2 0 j)) = _
  rw [Ideal.ofBits_one_f32]

theorem ratio_scaled {w : ℕ} (S : Fin w → Finset ℕ) (s : ℕ → Fin w → ℝ) (v : Fin 80 → ℕ → ℝ) (m : FVec Ideal ⟨3, ![1, 1, w]⟩ .f32) (A : FVec Ideal ⟨2, ![80, w]⟩ .f32) (h : HeadScaled S s v m A)
    (B : FVec Ideal ⟨2, ![64, w]⟩ .f32) (d : FVec Ideal ⟨2, ![1, w]⟩ .f32) (hB : ∀ r j, B (ix2 r j) = A (ix2 ⟨r.val, by omega⟩ j)) (hd : ∀ j, d (ix2 0 j) = A (ix2 64 j))
    (ho : ∀ j, ∀ k ∈ S j, v 64 k = 1) (hb) (hl) (r : Fin 64) (j : Fin w) : ratio B d hb hl (ix2 r j) = quot (S j) (fun k => s k j) v ⟨r.val, by omega⟩ := by
  rw [ratio_apply, hB, hd]
  exact quot_scaled _ _ _ _ _ (h j) 64 (ho j) ⟨r.val, by omega⟩

theorem ratio_plain {w : ℕ} (S : Fin w → Finset ℕ) (s : ℕ → Fin w → ℝ) (v : Fin 80 → ℕ → ℝ) (A : FVec Ideal ⟨2, ![80, w]⟩ .f32) (h : HeadPlain S s v A)
    (B : FVec Ideal ⟨2, ![64, w]⟩ .f32) (d : FVec Ideal ⟨2, ![1, w]⟩ .f32) (hB : ∀ r j, B (ix2 r j) = A (ix2 ⟨r.val, by omega⟩ j)) (hd : ∀ j, d (ix2 0 j) = A (ix2 64 j))
    (ho : ∀ j, ∀ k ∈ S j, v 64 k = 1) (hb) (hl) (r : Fin 64) (j : Fin w) : ratio B d hb hl (ix2 r j) = quot (S j) (fun k => s k j) v ⟨r.val, by omega⟩ := by
  rw [ratio_apply, hB, hd]
  exact quot_plain _ _ _ _ (h j) 64 (ho j) ⟨r.val, by omega⟩

/-- The quotient, with the sums' first 64 rows and their row 64 read off as the loads leave them. -/
theorem part_scaled {w : ℕ} (S : Fin w → Finset ℕ) (s : ℕ → Fin w → ℝ) (v : Fin 80 → ℕ → ℝ) (m : FVec Ideal ⟨3, ![1, 1, w]⟩ .f32) (A : FVec Ideal ⟨2, ![80, w]⟩ .f32) (h : HeadScaled S s v m A)
    (ho : ∀ j, ∀ k ∈ S j, v 64 k = 1) (hb) (hl) (p0 : ∀ y : (⟨2, ![64, w]⟩ : Shape).Idx, (y 0).val + 0 < 80) (p1 : ∀ y : (⟨2, ![1, w]⟩ : Shape).Idx, (y 0).val + 64 < 80) (r : Fin 64) (j : Fin w) :
    ratio (fun y => A (ix2 ⟨(y 0).val + 0, p0 y⟩ (y 1))) (fun y => A (ix2 ⟨(y 0).val + 64, p1 y⟩ (y 1))) hb hl (ix2 r j) = quot (S j) (fun k => s k j) v ⟨r.val, by omega⟩ :=
  ratio_scaled S s v m A h _ _ (fun _ _ => rfl) (fun _ => rfl) ho hb hl r j

/-- The quotient, with the sums' first 64 rows and their row 64 read off as the loads leave them. -/
theorem part_plain {w : ℕ} (S : Fin w → Finset ℕ) (s : ℕ → Fin w → ℝ) (v : Fin 80 → ℕ → ℝ) (A : FVec Ideal ⟨2, ![80, w]⟩ .f32) (h : HeadPlain S s v A)
    (ho : ∀ j, ∀ k ∈ S j, v 64 k = 1) (hb) (hl) (p0 : ∀ y : (⟨2, ![64, w]⟩ : Shape).Idx, (y 0).val + 0 < 80) (p1 : ∀ y : (⟨2, ![1, w]⟩ : Shape).Idx, (y 0).val + 64 < 80) (r : Fin 64) (j : Fin w) :
    ratio (fun y => A (ix2 ⟨(y 0).val + 0, p0 y⟩ (y 1))) (fun y => A (ix2 ⟨(y 0).val + 64, p1 y⟩ (y 1))) hb hl (ix2 r j) = quot (S j) (fun k => s k j) v ⟨r.val, by omega⟩ :=
  ratio_plain S s v A h _ _ (fun _ _ => rfl) (fun _ => rfl) ho hb hl r j

end Cert.KernelIdeal.Val

end
-- ==== Proof.FoxOffs.lean ====
module

public import proofs.«01_k».proof.Proof.Gen.KernelIdeal.Loops

@[expose] public section

set_option maxRecDepth 16384

namespace Cert.KernelIdeal.Val

open Idealize.ShloMosaic
open Cert.KernelIdeal.Gen Cert.KernelIdeal

/-! # Where the attention kernel's loads and stores lie, in whole tiles -/

theorem k0_off1_at : ∀ k : Fin k0_t1_loop.trips, k0_off1 k = ![0, 128 + 512 * k.val] := by decide +kernel
theorem k0_off2_at : ∀ (k : Fin k0_t1_loop.trips) (j : Fin (k0_t2_loop k).trips), k0_off2 k j = ![128 + 512 * (2 * j.val), 128] := by decide +kernel
theorem k0_off3_at : ∀ k : Fin k0_t1_loop.trips, k0_off3 k = ![128, 128 + 512 * k.val] := by decide +kernel
theorem k0_off4_at : ∀ (k : Fin k0_t1_loop.trips) (j : Fin (k0_t2_loop k).trips), k0_off4 k j = ![128 + 512 * (2 * j.val), 256] := by decide +kernel
theorem k0_off5_at : ∀ k : Fin k0_t1_loop.trips, k0_off5 k = ![256, 128 + 512 * k.val] := by decide +kernel
theorem k0_off6_at : ∀ (k : Fin k0_t1_loop.trips) (j : Fin (k0_t2_loop k).trips), k0_off6 k j = ![0, 128 + 512 * (2 * j.val)] := by decide +kernel
theorem k0_off7_at : ∀ (k : Fin k0_t1_loop.trips) (j : Fin (k0_t2_loop k).trips), k0_off7 k j = ![128 + 512 * (2 * j.val), 384] := by decide +kernel
theorem k0_off8_at : ∀ k : Fin k0_t1_loop.trips, k0_off8 k = ![384, 128 + 512 * k.val] := by decide +kernel
theorem k0_off9_at : ∀ (k : Fin k0_t1_loop.trips) (j : Fin (k0_t2_loop k).trips), k0_off9 k j = ![80, 128 + 512 * (2 * j.val)] := by decide +kernel
theorem k0_off10_at : ∀ (k : Fin k0_t1_loop.trips) (j : Fin (k0_t2_loop k).trips), k0_off10 k j = ![128 + 512 * (2 * j.val + 1), 0] := by decide +kernel
theorem k0_off11_at : ∀ k : Fin k0_t1_loop.trips, k0_off11 k = ![0, 128 + 512 * k.val] := by decide +kernel
theorem k0_off12_at : ∀ (k : Fin k0_t1_loop.trips) (j : Fin (k0_t2_loop k).trips), k0_off12 k j = ![160, 128 + 512 * (2 * j.val)] := by decide +kernel
theorem k0_off13_at : ∀ (k : Fin k0_t1_loop.trips) (j : Fin (k0_t2_loop k).trips), k0_off13 k j = ![240, 128 + 512 * (2 * j.val)] := by decide +kernel
theorem k0_off14_at : ∀ (k : Fin k0_t1_loop.trips) (j : Fin (k0_t2_loop k).trips), k0_off14 k j = ![128 + 512 * (2 * j.val + 1), 128] := by decide +kernel
theorem k0_off15_at : ∀ (k : Fin k0_t1_loop.trips) (j : Fin (k0_t2_loop k).trips), k0_off15 k j = ![128 + 512 * (2 * j.val + 1), 256] := by decide +kernel
theorem k0_off16_at : ∀ (k : Fin k0_t1_loop.trips) (j : Fin (k0_t2_loop k).trips), k0_off16 k j = ![0, 128 + 512 * (2 * j.val + 1)] := by decide +kernel
theorem k0_off17_at : ∀ (k : Fin k0_t1_loop.trips) (j : Fin (k0_t2_loop k).trips), k0_off17 k j = ![128 + 512 * (2 * j.val + 1), 384] := by decide +kernel
theorem k0_off18_at : ∀ (k : Fin k0_t1_loop.trips) (j : Fin (k0_t2_loop k).trips), k0_off18 k j = ![80, 128 + 512 * (2 * j.val + 1)] := by decide +kernel
theorem k0_off19_at : ∀ (k : Fin k0_t1_loop.trips) (j : Fin (k0_t2_loop k).trips), k0_off19 k j = ![128 + 512 * (2 * j.val + 2), 0] := by decide +kernel
theorem k0_off20_at : ∀ (k : Fin k0_t1_loop.trips) (j : Fin (k0_t2_loop k).trips), k0_off20 k j = ![160, 128 + 512 * (2 * j.val + 1)] := by decide +kernel
theorem k0_off21_at : ∀ (k : Fin k0_t1_loop.trips) (j : Fin (k0_t2_loop k).trips), k0_off21 k j = ![240, 128 + 512 * (2 * j.val + 1)] := by decide +kernel
theorem k0_off23_at : ∀ k : Fin k0_t1_loop.trips, k0_off23 k = ![128, 128 + 512 * k.val] := by decide +kernel
theorem k0_off25_at : ∀ k : Fin k0_t1_loop.trips, k0_off25 k = ![256, 128 + 512 * k.val] := by decide +kernel
theorem k0_off28_at : ∀ k : Fin k0_t1_loop.trips, k0_off28 k = ![384, 128 + 512 * k.val] := by decide +kernel
theorem k0_off31_at : ∀ k : Fin k0_t1_loop.trips, k0_off31 k = ![0, 128 + 512 * k.val] := by decide +kernel
theorem k0_off42_at : ∀ k : Fin k0_t1_loop.trips, k0_cond2 k = 1#1 → k0_off42 k = ![128 + 512 * (k.val - 1), 128] := by decide +kernel
theorem k0_off43_at : ∀ k : Fin k0_t1_loop.trips, k0_cond2 k = 1#1 → k0_off43 k = ![128, 128 + 512 * k.val] := by decide +kernel
theorem k0_off44_at : ∀ k : Fin k0_t1_loop.trips, k0_cond2 k = 1#1 → k0_off44 k = ![128 + 512 * (k.val - 1), 256] := by decide +kernel
theorem k0_off45_at : ∀ k : Fin k0_t1_loop.trips, k0_cond2 k = 1#1 → k0_off45 k = ![256, 128 + 512 * k.val] := by decide +kernel
theorem k0_off46_at : ∀ k : Fin k0_t1_loop.trips, k0_cond2 k = 1#1 → k0_off46 k = ![0, 128 + 512 * (k.val - 1)] := by decide +kernel
theorem k0_off47_at : ∀ k : Fin k0_t1_loop.trips, k0_cond2 k = 1#1 → k0_off47 k = ![128 + 512 * (k.val - 1), 384] := by decide +kernel
theorem k0_off48_at : ∀ k : Fin k0_t1_loop.trips, k0_cond2 k = 1#1 → k0_off48 k = ![384, 128 + 512 * k.val] := by decide +kernel
theorem k0_off49_at : ∀ k : Fin k0_t1_loop.trips, k0_cond2 k = 1#1 → k0_off49 k = ![80, 128 + 512 * (k.val - 1)] := by decide +kernel
theorem k0_off50_at : ∀ k : Fin k0_t1_loop.trips, k0_cond2 k = 1#1 → k0_off50 k = ![128 + 512 * k.val, 0] := by decide +kernel
theorem k0_off51_at : ∀ k : Fin k0_t1_loop.trips, k0_cond2 k = 1#1 → k0_off51 k = ![0, 128 + 512 * k.val] := by decide +kernel
theorem k0_off52_at : ∀ k : Fin k0_t1_loop.trips, k0_cond2 k = 1#1 → k0_off52 k = ![160, 128 + 512 * (k.val - 1)] := by decide +kernel
theorem k0_off53_at : ∀ k : Fin k0_t1_loop.trips, k0_cond2 k = 1#1 → k0_off53 k = ![240, 128 + 512 * (k.val - 1)] := by decide +kernel
theorem k0_off54_at : ∀ k : Fin k0_t1_loop.trips, k0_off54 k = ![128 + 512 * k.val, 128] := by decide +kernel
theorem k0_off55_at : ∀ k : Fin k0_t1_loop.trips, k0_off55 k = ![128, 128 + 512 * k.val] := by decide +kernel
theorem k0_off56_at : ∀ k : Fin k0_t1_loop.trips, k0_off56 k = ![128 + 512 * k.val, 256] := by decide +kernel
theorem k0_off57_at : ∀ k : Fin k0_t1_loop.trips, k0_off57 k = ![256, 128 + 512 * k.val] := by decide +kernel
theorem k0_off58_at : ∀ k : Fin k0_t1_loop.trips, k0_off58 k = ![0, 128 + 512 * k.val] := by decide +kernel
theorem k0_off59_at : ∀ k : Fin k0_t1_loop.trips, k0_off59 k = ![128 + 512 * k.val, 384] := by decide +kernel
theorem k0_off60_at : ∀ k : Fin k0_t1_loop.trips, k0_off60 k = ![384, 128 + 512 * k.val] := by decide +kernel
theorem k0_off61_at : ∀ k : Fin k0_t1_loop.trips, k0_off61 k = ![80, 128 + 512 * k.val] := by decide +kernel
theorem k0_off62_at : ∀ k : Fin k0_t1_loop.trips, k0_off62 k = ![160, 128 + 512 * k.val] := by decide +kernel
theorem k0_off63_at : ∀ k : Fin k0_t1_loop.trips, k0_off63 k = ![240, 128 + 512 * k.val] := by decide +kernel
theorem k0_off64_at : ∀ k : Fin k0_t1_loop.trips, k0_off64 k = ![0, 128 + 512 * k.val] := by decide +kernel
theorem k0_off65_at : ∀ k : Fin k0_t1_loop.trips, k0_off65 k = ![64, 128 + 512 * k.val] := by decide +kernel
theorem k0_off66_at : ∀ k : Fin k0_t1_loop.trips, k0_off66 k = ![128, 128 + 512 * k.val] := by decide +kernel
theorem k0_off67_at : ∀ k : Fin k0_t1_loop.trips, k0_off67 k = ![192, 128 + 512 * k.val] := by decide +kernel
theorem k0_off68_at : ∀ k : Fin k0_t1_loop.trips, k0_off68 k = ![0, 128 + 512 * k.val] := by decide +kernel
theorem k0_off69_at : ∀ (k : Fin k0_t1_loop.trips) (j : Fin (k0_t4_loop k).trips), k0_off69 k j = ![128 + 512 * (2 * j.val), 128] := by decide +kernel
theorem k0_off70_at : ∀ k : Fin k0_t1_loop.trips, k0_off70 k = ![128, 128 + 512 * k.val] := by decide +kernel
theorem k0_off71_at : ∀ (k : Fin k0_t1_loop.trips) (j : Fin (k0_t4_loop k).trips), k0_off71 k j = ![128 + 512 * (2 * j.val), 256] := by decide +kernel
theorem k0_off72_at : ∀ k : Fin k0_t1_loop.trips, k0_off72 k = ![256, 128 + 512 * k.val] := by decide +kernel
theorem k0_off73_at : ∀ (k : Fin k0_t1_loop.trips) (j : Fin (k0_t4_loop k).trips), k0_off73 k j = ![0, 128 + 512 * (2 * j.val)] := by decide +kernel
theorem k0_off74_at : ∀ (k : Fin k0_t1_loop.trips) (j : Fin (k0_t4_loop k).trips), k0_off74 k j = ![128 + 512 * (2 * j.val), 384] := by decide +kernel
theorem k0_off75_at : ∀ k : Fin k0_t1_loop.trips, k0_off75 k = ![384, 128 + 512 * k.val] := by decide +kernel
theorem k0_off76_at : ∀ (k : Fin k0_t1_loop.trips) (j : Fin (k0_t4_loop k).trips), k0_off76 k j = ![80, 128 + 512 * (2 * j.val)] := by decide +kernel
theorem k0_off77_at : ∀ (k : Fin k0_t1_loop.trips) (j : Fin (k0_t4_loop k).trips), k0_off77 k j = ![128 + 512 * (2 * j.val + 1), 0] := by decide +kernel
theorem k0_off78_at : ∀ k : Fin k0_t1_loop.trips, k0_off78 k = ![0, 128 + 512 * k.val] := by decide +kernel
theorem k0_off79_at : ∀ (k : Fin k0_t1_loop.trips) (j : Fin (k0_t4_loop k).trips), k0_off79 k j = ![160, 128 + 512 * (2 * j.val)] := by decide +kernel
theorem k0_off80_at : ∀ (k : Fin k0_t1_loop.trips) (j : Fin (k0_t4_loop k).trips), k0_off80 k j = ![240, 128 + 512 * (2 * j.val)] := by decide +kernel
theorem k0_off81_at : ∀ (k : Fin k0_t1_loop.trips) (j : Fin (k0_t4_loop k).trips), k0_off81 k j = ![128 + 512 * (2 * j.val + 1), 128] := by decide +kernel
theorem k0_off82_at : ∀ (k : Fin k0_t1_loop.trips) (j : Fin (k0_t4_loop k).trips), k0_off82 k j = ![128 + 512 * (2 * j.val + 1), 256] := by decide +kernel
theorem k0_off83_at : ∀ (k : Fin k0_t1_loop.trips) (j : Fin (k0_t4_loop k).trips), k0_off83 k j = ![0, 128 + 512 * (2 * j.val + 1)] := by decide +kernel
theorem k0_off84_at : ∀ (k : Fin k0_t1_loop.trips) (j : Fin (k0_t4_loop k).trips), k0_off84 k j = ![128 + 512 * (2 * j.val + 1), 384] := by decide +kernel
theorem k0_off85_at : ∀ (k : Fin k0_t1_loop.trips) (j : Fin (k0_t4_loop k).trips), k0_off85 k j = ![80, 128 + 512 * (2 * j.val + 1)] := by decide +kernel
theorem k0_off86_at : ∀ (k : Fin k0_t1_loop.trips) (j : Fin (k0_t4_loop k).trips), k0_off86 k j = ![128 + 512 * (2 * j.val + 2), 0] := by decide +kernel
theorem k0_off87_at : ∀ (k : Fin k0_t1_loop.trips) (j : Fin (k0_t4_loop k).trips), k0_off87 k j = ![160, 128 + 512 * (2 * j.val + 1)] := by decide +kernel
theorem k0_off88_at : ∀ (k : Fin k0_t1_loop.trips) (j : Fin (k0_t4_loop k).trips), k0_off88 k j = ![240, 128 + 512 * (2 * j.val + 1)] := by decide +kernel
theorem k0_off90_at : ∀ k : Fin k0_t1_loop.trips, k0_off90 k = ![128, 128 + 512 * k.val] := by decide +kernel
theorem k0_off92_at : ∀ k : Fin k0_t1_loop.trips, k0_off92 k = ![256, 128 + 512 * k.val] := by decide +kernel
theorem k0_off95_at : ∀ k : Fin k0_t1_loop.trips, k0_off95 k = ![384, 128 + 512 * k.val] := by decide +kernel
theorem k0_off98_at : ∀ k : Fin k0_t1_loop.trips, k0_off98 k = ![0, 128 + 512 * k.val] := by decide +kernel
theorem k0_off109_at : ∀ k : Fin k0_t1_loop.trips, k0_cond4 k = 1#1 → k0_off109 k = ![128 + 512 * (k.val - 1), 128] := by decide +kernel
theorem k0_off110_at : ∀ k : Fin k0_t1_loop.trips, k0_cond4 k = 1#1 → k0_off110 k = ![128, 128 + 512 * k.val] := by decide +kernel
theorem k0_off111_at : ∀ k : Fin k0_t1_loop.trips, k0_cond4 k = 1#1 → k0_off111 k = ![128 + 512 * (k.val - 1), 256] := by decide +kernel
theorem k0_off112_at : ∀ k : Fin k0_t1_loop.trips, k0_cond4 k = 1#1 → k0_off112 k = ![256, 128 + 512 * k.val] := by decide +kernel
theorem k0_off113_at : ∀ k : Fin k0_t1_loop.trips, k0_cond4 k = 1#1 → k0_off113 k = ![0, 128 + 512 * (k.val - 1)] := by decide +kernel
theorem k0_off114_at : ∀ k : Fin k0_t1_loop.trips, k0_cond4 k = 1#1 → k0_off114 k = ![128 + 512 * (k.val - 1), 384] := by decide +kernel
theorem k0_off115_at : ∀ k : Fin k0_t1_loop.trips, k0_cond4 k = 1#1 → k0_off115 k = ![384, 128 + 512 * k.val] := by decide +kernel
theorem k0_off116_at : ∀ k : Fin k0_t1_loop.trips, k0_cond4 k = 1#1 → k0_off116 k = ![80, 128 + 512 * (k.val - 1)] := by decide +kernel
theorem k0_off117_at : ∀ k : Fin k0_t1_loop.trips, k0_cond4 k = 1#1 → k0_off117 k = ![128 + 512 * k.val, 0] := by decide +kernel
theorem k0_off118_at : ∀ k : Fin k0_t1_loop.trips, k0_cond4 k = 1#1 → k0_off118 k = ![0, 128 + 512 * k.val] := by decide +kernel
theorem k0_off119_at : ∀ k : Fin k0_t1_loop.trips, k0_cond4 k = 1#1 → k0_off119 k = ![160, 128 + 512 * (k.val - 1)] := by decide +kernel
theorem k0_off120_at : ∀ k : Fin k0_t1_loop.trips, k0_cond4 k = 1#1 → k0_off120 k = ![240, 128 + 512 * (k.val - 1)] := by decide +kernel
theorem k0_off121_at : ∀ k : Fin k0_t1_loop.trips, k0_off121 k = ![128 + 512 * k.val, 128] := by decide +kernel
theorem k0_off122_at : ∀ k : Fin k0_t1_loop.trips, k0_off122 k = ![128, 128 + 512 * k.val] := by decide +kernel
theorem k0_off123_at : ∀ k : Fin k0_t1_loop.trips, k0_off123 k = ![128 + 512 * k.val, 256] := by decide +kernel
theorem k0_off124_at : ∀ k : Fin k0_t1_loop.trips, k0_off124 k = ![256, 128 + 512 * k.val] := by decide +kernel
theorem k0_off125_at : ∀ k : Fin k0_t1_loop.trips, k0_off125 k = ![0, 128 + 512 * k.val] := by decide +kernel
theorem k0_off126_at : ∀ k : Fin k0_t1_loop.trips, k0_off126 k = ![128 + 512 * k.val, 384] := by decide +kernel
theorem k0_off127_at : ∀ k : Fin k0_t1_loop.trips, k0_off127 k = ![384, 128 + 512 * k.val] := by decide +kernel
theorem k0_off128_at : ∀ k : Fin k0_t1_loop.trips, k0_off128 k = ![80, 128 + 512 * k.val] := by decide +kernel
theorem k0_off129_at : ∀ k : Fin k0_t1_loop.trips, k0_off129 k = ![160, 128 + 512 * k.val] := by decide +kernel
theorem k0_off130_at : ∀ k : Fin k0_t1_loop.trips, k0_off130 k = ![240, 128 + 512 * k.val] := by decide +kernel
theorem k0_off131_at : ∀ k : Fin k0_t1_loop.trips, k0_off131 k = ![0, 128 + 512 * k.val] := by decide +kernel
theorem k0_off132_at : ∀ k : Fin k0_t1_loop.trips, k0_off132 k = ![64, 128 + 512 * k.val] := by decide +kernel
theorem k0_off133_at : ∀ k : Fin k0_t1_loop.trips, k0_off133 k = ![128, 128 + 512 * k.val] := by decide +kernel
theorem k0_off134_at : ∀ k : Fin k0_t1_loop.trips, k0_off134 k = ![192, 128 + 512 * k.val] := by decide +kernel

/-- The pairs of whole tiles before a tile of queries. -/
theorem pairs2 : ∀ k : Fin k0_t1_loop.trips, (k0_t2_loop k).trips = k.val / 2 := by decide +kernel
theorem pairs4 : ∀ k : Fin k0_t1_loop.trips, (k0_t4_loop k).trips = k.val / 2 := by decide +kernel
theorem rest3 : ∀ k : Fin k0_t1_loop.trips, (k0_t3_loop k).trips = 0 := by decide +kernel
theorem rest5 : ∀ k : Fin k0_t1_loop.trips, (k0_t5_loop k).trips = 0 := by decide +kernel
/-- A tile is left over when their number is odd. -/
theorem odd2 : ∀ k : Fin k0_t1_loop.trips, k0_cond2 k = 1#1 ↔ k.val % 2 = 1 := by decide +kernel
theorem odd4 : ∀ k : Fin k0_t1_loop.trips, k0_cond4 k = 1#1 ↔ k.val % 2 = 1 := by decide +kernel

end Cert.KernelIdeal.Val
-- ==== Proof.FoxWin.lean ====
module

public import proofs.«01_k».proof.Proof.FoxTiles
public import proofs.«01_k».proof.Proof.FoxOffs

@[expose] public section

set_option maxRecDepth 16384

noncomputable section

namespace Cert.KernelIdeal.Val

open Idealize.ShloMosaic hiding ix1 ix2 ix3 eq_ix2 eq_ix3 truncf_apply
open Idealize.ShloMosaic.ValueIdx
open Idealize.ShloMosaic.VecWindow
open Cert.KernelIdeal.Gen

/-! # Loads and stores of the attention kernel as windows of vectors -/

section
variable {Val : EltTy → Type} {sig : RefSig} {κ : Kind} {sp : Space} {s : Shape} {e : EltTy}

theorem load_window (v : View sig κ sp s e) (f : v.ty.Contents Val) (off size : Fin s.rank → ℕ) (inb : ∀ a, off a + size a ≤ s.size a) :
    v.readAt Val (Rect.unit off size inb).toLoadRect f = window (v.read Val f) off size inb := View.readAt_unit v f inb rfl inb

theorem load_cov [∀ e, Nonempty (Val e)] (v : View sig κ sp s e) (L) (off size : Fin s.rank → ℕ) (inb : ∀ a, off a + size a ≤ s.size a) :
    v.readCov (Val := Val) L (Rect.unit off size inb).toLoadRect = window (v.read Val (v.writes Val v.junk L)) off size inb := View.readAt_unit v _ inb rfl inb

theorem store_put (v : View sig κ sp s e) (f : v.ty.Contents Val) (off size : Fin s.rank → ℕ) (inb : ∀ a, off a + size a ≤ s.size a) (w) (L) :
    v.read Val (v.writes Val f (⟨Rect.unit off size inb, w⟩ :: L)) = put (v.read Val (v.writes Val f L)) off size w := View.read_writes_cons_put v f inb w L rfl

theorem store_none (v : View sig κ sp s e) (f : v.ty.Contents Val) : v.writes Val f [] = f := rfl
end

section
variable {α : Type}

theorem put_same2 {a b : ℕ} (x : (⟨2, ![a, b]⟩ : Shape).Idx → α) (off size : Fin 2 → ℕ) (inb) (w) : window (put x off size w) off size inb = w := window_put_same x off size inb w
theorem put_same3 {a b c : ℕ} (x : (⟨3, ![a, b, c]⟩ : Shape).Idx → α) (off size : Fin 3 → ℕ) (inb) (w) : window (put x off size w) off size inb = w := window_put_same x off size inb w

/-- Different heads' maxima lie apart. -/
theorem heads_apart {w : ℕ} (x : S4x1x512.Idx → α) (a b : ℕ) (h : a ≠ b) (v) (inb : ∀ q : Fin 3, (![b, 0, 0] : Fin 3 → ℕ) q + (![1, 1, w] : Fin 3 → ℕ) q ≤ S4x1x512.size q) :
    window (s := S4x1x512) (put (s := S4x1x512) x ![a, 0, 0] ![1, 1, w] v) ![b, 0, 0] ![1, 1, w] inb = window (s := S4x1x512) x ![b, 0, 0] ![1, 1, w] inb :=
  window_put_of_disjoint (s := S4x1x512) x _ _ _ _ inb v (0 : Fin 3) (by show b + 1 ≤ a ∨ a + 1 ≤ b; omega)

/-- Different heads' rows lie apart. -/
theorem rows_apart {p q n n' w w' : ℕ} (x : (⟨2, ![p, q]⟩ : Shape).Idx → α) (a b c c' : ℕ) (h : b + n' ≤ a ∨ a + n ≤ b) (v)
    (inb : ∀ t : Fin 2, (![b, c'] : Fin 2 → ℕ) t + (![n', w'] : Fin 2 → ℕ) t ≤ (⟨2, ![p, q]⟩ : Shape).size t) :
    window (s := ⟨2, ![p, q]⟩) (put (s := ⟨2, ![p, q]⟩) x ![a, c] ![n, w] v) ![b, c'] ![n', w'] inb = window (s := ⟨2, ![p, q]⟩) x ![b, c'] ![n', w'] inb :=
  window_put_of_disjoint (s := ⟨2, ![p, q]⟩) x _ _ _ _ inb v (0 : Fin 2) (by show b + n' ≤ a ∨ a + n ≤ b; exact h)
/-- The same for the sums' 80 rows a head. -/
theorem sums_apart {w n : ℕ} (x : S320x512.Idx → α) (a b : ℕ) (h : b + n ≤ a ∨ a + 80 ≤ b) (v)
    (inb : ∀ t : Fin 2, (![b, 0] : Fin 2 → ℕ) t + (![n, w] : Fin 2 → ℕ) t ≤ S320x512.size t) :
    window (s := S320x512) (put (s := S320x512) x ![a, 0] ![80, w] v) ![b, 0] ![n, w] inb = window (s := S320x512) x ![b, 0] ![n, w] inb := rows_apart x a b 0 0 h v inb

theorem put_whole (x : S512x512.Idx → α) (v) : put (s := S512x512) x ![0, 0] ![512, 512] v = v := by
  funext y
  show (if h : ∀ a : Fin 2, (![0, 0] : Fin 2 → ℕ) a ≤ (y a).val ∧ (y a).val < (![0, 0] : Fin 2 → ℕ) a + (![512, 512] : Fin 2 → ℕ) a then v _ else x y) = v y
  have e0 : ∀ a : Fin 2, (![0, 0] : Fin 2 → ℕ) a = 0 := fun a => by match a with | ⟨0, _⟩ => rfl | ⟨1, _⟩ => rfl
  rw [dif_pos (fun a => ⟨by rw [e0]; exact Nat.zero_le _, by rw [e0, Nat.zero_add]; exact (y a).isLt⟩)]
  refine congrArg v (funext fun a => Fin.ext ?_)
  show (y a).val - (![0, 0] : Fin 2 → ℕ) a = (y a).val
  rw [e0]; rfl
theorem put_whole3 (x : S4x1x512.Idx → α) (v) : put (s := S4x1x512) x ![0, 0, 0] ![4, 1, 512] v = v := by
  funext y
  show (if h : ∀ a : Fin 3, (![0, 0, 0] : Fin 3 → ℕ) a ≤ (y a).val ∧ (y a).val < (![0, 0, 0] : Fin 3 → ℕ) a + (![4, 1, 512] : Fin 3 → ℕ) a then v _ else x y) = v y
  have e0 : ∀ a : Fin 3, (![0, 0, 0] : Fin 3 → ℕ) a = 0 := fun a => by match a with | ⟨0, _⟩ => rfl | ⟨1, _⟩ => rfl | ⟨2, _⟩ => rfl
  rw [dif_pos (fun a => ⟨by rw [e0]; exact Nat.zero_le _, by rw [e0, Nat.zero_add]; exact (y a).isLt⟩)]
  refine congrArg v (funext fun a => Fin.ext ?_)
  show (y a).val - (![0, 0, 0] : Fin 3 → ℕ) a = (y a).val
  rw [e0]; rfl
theorem put_wholeA (x : S320x512.Idx → α) (v) : put (s := S320x512) x ![0, 0] ![320, 512] v = v := by
  funext y
  show (if h : ∀ a : Fin 2, (![0, 0] : Fin 2 → ℕ) a ≤ (y a).val ∧ (y a).val < (![0, 0] : Fin 2 → ℕ) a + (![320, 512] : Fin 2 → ℕ) a then v _ else x y) = v y
  have e0 : ∀ a : Fin 2, (![0, 0] : Fin 2 → ℕ) a = 0 := fun a => by match a with | ⟨0, _⟩ => rfl | ⟨1, _⟩ => rfl
  rw [dif_pos (fun a => ⟨by rw [e0]; exact Nat.zero_le _, by rw [e0, Nat.zero_add]; exact (y a).isLt⟩)]
  refine congrArg v (funext fun a => Fin.ext ?_)
  show (y a).val - (![0, 0] : Fin 2 → ℕ) a = (y a).val
  rw [e0]; rfl
/-- A window inside a head's rows just put. -/
theorem rows_inside {w n : ℕ} (x : S320x512.Idx → α) (a b : ℕ) (h : a ≤ b ∧ b + n ≤ a + 80) (v : (⟨2, ![80, w]⟩ : Shape).Idx → α) (inb : ∀ t : Fin 2, (![b, 0] : Fin 2 → ℕ) t + (![n, w] : Fin 2 → ℕ) t ≤ S320x512.size t) :
    window (s := S320x512) (put (s := S320x512) x ![a, 0] ![80, w] v) ![b, 0] ![n, w] inb
      = fun y => v (ix2 ⟨(y 0).val + (b - a), by have := (y 0).isLt; have e : (y 0).val < n := this; omega⟩ (y 1)) := by
  rw [window_put_of_inside (s := S320x512) x _ _ _ _ inb v (fun t => by match t with | ⟨0, _⟩ => exact h | ⟨1, _⟩ => exact ⟨Nat.le_refl 0, Nat.le_refl _⟩)]
  funext y
  refine congrArg v (funext fun t => Fin.ext ?_)
  match t with
  | ⟨0, _⟩ => show b - a + 1 * (y 0).val = (y 0).val + (b - a); omega
  | ⟨1, _⟩ => show 0 - 0 + 1 * (y 1).val = (y 1).val; omega
theorem window_whole (x : S512x512.Idx → α) (inb) : window (s := S512x512) x ![0, 0] ![512, 512] inb = x := by
  funext y
  refine congrArg x (funext fun a => Fin.ext ?_)
  show (![0, 0] : Fin 2 → ℕ) a + 1 * (y a).val = (y a).val
  have e0 : ∀ a : Fin 2, (![0, 0] : Fin 2 → ℕ) a = 0 := fun a => by match a with | ⟨0, _⟩ => rfl | ⟨1, _⟩ => rfl
  rw [e0]; omega
end

/-! ## What the scratch buffers hold between tiles of keys -/

/-- One head's row of maxima. -/
abbrev maxOf (m : Vec Ideal S4x1x512 .f32) (h : ℕ) (inb : ∀ a : Fin 3, (![h, 0, 0] : Fin 3 → ℕ) a + S1x1x512.size a ≤ S4x1x512.size a) : FVec Ideal S1x1x512 .f32 := window (s := S4x1x512) m ![h, 0, 0] S1x1x512.size inb
/-- One head's 80 rows of sums. -/
abbrev sumsOf (A : Vec Ideal S320x512 .f32) (r : ℕ) (inb : ∀ a : Fin 2, (![r, 0] : Fin 2 → ℕ) a + S80x512.size a ≤ S320x512.size a) : FVec Ideal S80x512 .f32 := window (s := S320x512) A ![r, 0] S80x512.size inb

section
variable (Q : Vec Ideal S512x4224 .bf16) (K : Vec Ideal S4224x512 .bf16) (V : Vec Ideal S320x4224 .bf16) (c0 : ℕ)

/-- The next tile of keys' scores for the group's first head. -/
def Ahead (t : ℕ) (st : Vec Ideal S512x512 .f32) : Prop := ∀ i j : Fin 512, st (ix2 i j) = (scoreAt Q K 0 c0 (128 + 512 * t + i.val) j : EReal)

/-- The four heads' scaled sums, after the keys `S` of each query. -/
def AllScaled (S : Fin 512 → Finset ℕ) (m : Vec Ideal S4x1x512 .f32) (A : Vec Ideal S320x512 .f32) : Prop :=
  HeadScaled S (scoreAt Q K 0 c0) (value V 0) (maxOf m 0 (by decide)) (sumsOf A 0 (by decide))
    ∧ HeadScaled S (scoreAt Q K 1 c0) (value V 1) (maxOf m 1 (by decide)) (sumsOf A 80 (by decide))
    ∧ HeadScaled S (scoreAt Q K 2 c0) (value V 2) (maxOf m 2 (by decide)) (sumsOf A 160 (by decide))
    ∧ HeadScaled S (scoreAt Q K 3 c0) (value V 3) (maxOf m 3 (by decide)) (sumsOf A 240 (by decide))

/-- The four heads' plain sums. -/
def AllPlain (S : Fin 512 → Finset ℕ) (A : Vec Ideal S320x512 .f32) : Prop :=
  HeadPlain S (scoreAt Q K 0 c0) (value V 0) (sumsOf A 0 (by decide)) ∧ HeadPlain S (scoreAt Q K 1 c0) (value V 1) (sumsOf A 80 (by decide))
    ∧ HeadPlain S (scoreAt Q K 2 c0) (value V 2) (sumsOf A 160 (by decide)) ∧ HeadPlain S (scoreAt Q K 3 c0) (value V 3) (sumsOf A 240 (by decide))
end

/-- The sums after a tile, with the number of tiles met given. -/
theorem scaled_whole_to (s : ℕ → Fin 512 → ℝ) (v : Fin 80 → ℕ → ℝ) (t t' : ℕ) (ht : t' = t + 1) (st : FVec Ideal S512x512 .f32) (V : FVec Ideal S80x512 .bf16) (hst : ∀ i j, st (ix2 i j) = (s (128 + 512 * t + i.val) j : EReal))
    (hV : ∀ r i, V (ix2 r i) = (v r (128 + 512 * t + i.val) : EReal)) (m : FVec Ideal S1x1x512 .f32) (A : FVec Ideal S80x512 .f32) (hc) (hr) (hu) (hc') (hb) (hb') (hl) (h : HeadScaled (whole t) s v m A) :
    HeadScaled (whole t') s v (raised st m hc hr hu hc') (rescaled st m A V hc hr hu hb hb' hl) := by
  subst ht
  exact scaled_whole s v t st V hst hV m A hc hr hu hc' hb hb' hl h
theorem plain_whole_to (s : ℕ → Fin 512 → ℝ) (v : Fin 80 → ℕ → ℝ) (t t' : ℕ) (ht : t' = t + 1) (st : FVec Ideal S512x512 .f32) (V : FVec Ideal S80x512 .bf16) (hst : ∀ i j, st (ix2 i j) = (s (128 + 512 * t + i.val) j : EReal))
    (hV : ∀ r i, V (ix2 r i) = (v r (128 + 512 * t + i.val) : EReal)) (A : FVec Ideal S80x512 .f32) (hl) (h : HeadPlain (whole t) s v A) : HeadPlain (whole t') s v (added st A V hl) := by
  subst ht
  exact plain_whole s v t st V hst hV A hl h

/-- The output's columns below `n`: each head's rows hold its weighted means. -/
def Done (Q : Vec Ideal S512x4224 .bf16) (K : Vec Ideal S4224x512 .bf16) (V : Vec Ideal S320x4224 .bf16) (n : ℕ) (O : Vec Ideal S256x4224 .bf16) : Prop :=
  ∀ (h : Fin 4) (r : Fin 64) (q : Fin 4224), q.val < n → O (ix2 ⟨64 * h.val + r.val, by omega⟩ q) = quot (Finset.Ico 112 (q.val + 1)) (score Q K h.val q.val) (value V h.val) ⟨r.val, by omega⟩

/-- A put at an element. -/
theorem put2_apply {α : Type} {p q n w : ℕ} (x : (⟨2, ![p, q]⟩ : Shape).Idx → α) (r0 c0 : ℕ) (v : (⟨2, ![n, w]⟩ : Shape).Idx → α) (a : Fin p) (b : Fin q) :
    put (s := ⟨2, ![p, q]⟩) x ![r0, c0] ![n, w] v (ix2 a b)
      = if h : (r0 ≤ a.val ∧ a.val < r0 + n) ∧ (c0 ≤ b.val ∧ b.val < c0 + w) then v (ix2 ⟨a.val - r0, by omega⟩ ⟨b.val - c0, by omega⟩) else x (ix2 a b) := by
  by_cases h : (r0 ≤ a.val ∧ a.val < r0 + n) ∧ (c0 ≤ b.val ∧ b.val < c0 + w)
  · rw [dif_pos h]
    have hh : ∀ t : Fin 2, (![r0, c0] : Fin 2 → ℕ) t ≤ ((ix2 a b : (⟨2, ![p, q]⟩ : Shape).Idx) t).val ∧ ((ix2 a b : (⟨2, ![p, q]⟩ : Shape).Idx) t).val < (![r0, c0] : Fin 2 → ℕ) t + (![n, w] : Fin 2 → ℕ) t := fun t => by
      match t with
      | ⟨0, _⟩ => exact h.1
      | ⟨1, _⟩ => exact h.2
    refine (dif_pos hh).trans (congrArg v (funext fun t => Fin.ext ?_))
    match t with
    | ⟨0, _⟩ => rfl
    | ⟨1, _⟩ => rfl
  · rw [dif_neg h]
    exact dif_neg fun hh => h ⟨hh (0 : Fin 2), hh (1 : Fin 2)⟩

/-- The output after the four heads' rows of a tile of `w` columns are put. -/
theorem done_step {w : ℕ} (Q : Vec Ideal S512x4224 .bf16) (K : Vec Ideal S4224x512 .bf16) (V : Vec Ideal S320x4224 .bf16) (O : Vec Ideal S256x4224 .bf16) (c0 n : ℕ) (hn : n = c0 + w) (hO : Done Q K V c0 O)
    (o0 o1 o2 o3 : Fin 2 → ℕ) (e0 : o0 = ![0, c0]) (e1 : o1 = ![64, c0]) (e2 : o2 = ![128, c0]) (e3 : o3 = ![192, c0])
    (w0 w1 w2 w3 : FVec Ideal ⟨2, ![64, w]⟩ .bf16)
    (h0 : ∀ r j, w0 (ix2 r j) = quot (upTo c0 j) (fun k => scoreAt Q K 0 c0 k j) (value V 0) ⟨r.val, by omega⟩)
    (h1 : ∀ r j, w1 (ix2 r j) = quot (upTo c0 j) (fun k => scoreAt Q K 1 c0 k j) (value V 1) ⟨r.val, by omega⟩)
    (h2 : ∀ r j, w2 (ix2 r j) = quot (upTo c0 j) (fun k => scoreAt Q K 2 c0 k j) (value V 2) ⟨r.val, by omega⟩)
    (h3 : ∀ r j, w3 (ix2 r j) = quot (upTo c0 j) (fun k => scoreAt Q K 3 c0 k j) (value V 3) ⟨r.val, by omega⟩) :
    Done Q K V n (put (s := S256x4224) (put (s := S256x4224) (put (s := S256x4224) (put (s := S256x4224) O o0 ![64, w] w0) o1 ![64, w] w1) o2 ![64, w] w2) o3 ![64, w] w3) := by
  subst e0 e1 e2 e3 hn
  intro h r q hq
  have hr := r.isLt
  rw [put2_apply, put2_apply, put2_apply, put2_apply]
  by_cases hc : q.val < c0
  · rw [dif_neg (by omega), dif_neg (by omega), dif_neg (by omega), dif_neg (by omega)]
    exact hO h r q hc
  · have hq1 : c0 + (q.val - c0) = q.val := by omega
    match h with
    | ⟨0, _⟩ =>
      rw [dif_neg (by show ¬ ((192 ≤ 64 * 0 + r.val ∧ _) ∧ _); omega), dif_neg (by show ¬ ((128 ≤ 64 * 0 + r.val ∧ _) ∧ _); omega), dif_neg (by show ¬ ((64 ≤ 64 * 0 + r.val ∧ _) ∧ _); omega),
        dif_pos (by show (0 ≤ 64 * 0 + r.val ∧ 64 * 0 + r.val < 0 + 64) ∧ _; omega), h0]
      show quot (Finset.Ico 112 (c0 + (q.val - c0) + 1)) (fun k => score Q K 0 (c0 + (q.val - c0)) k) (value V 0) ⟨64 * 0 + r.val - 0, _⟩ = _
      rw [hq1]
      congr 1
      exact Fin.ext (by show 64 * 0 + r.val - 0 = r.val; omega)
    | ⟨1, _⟩ =>
      rw [dif_neg (by show ¬ ((192 ≤ 64 * 1 + r.val ∧ _) ∧ _); omega), dif_neg (by show ¬ ((128 ≤ 64 * 1 + r.val ∧ _) ∧ _); omega),
        dif_pos (by show (64 ≤ 64 * 1 + r.val ∧ 64 * 1 + r.val < 64 + 64) ∧ _; omega), h1]
      show quot (Finset.Ico 112 (c0 + (q.val - c0) + 1)) (fun k => score Q K 1 (c0 + (q.val - c0)) k) (value V 1) ⟨64 * 1 + r.val - 64, _⟩ = _
      rw [hq1]
      congr 1
      exact Fin.ext (by show 64 * 1 + r.val - 64 = r.val; omega)
    | ⟨2, _⟩ =>
      rw [dif_neg (by show ¬ ((192 ≤ 64 * 2 + r.val ∧ _) ∧ _); omega),
        dif_pos (by show (128 ≤ 64 * 2 + r.val ∧ 64 * 2 + r.val < 128 + 64) ∧ _; omega), h2]
      show quot (Finset.Ico 112 (c0 + (q.val - c0) + 1)) (fun k => score Q K 2 (c0 + (q.val - c0)) k) (value V 2) ⟨64 * 2 + r.val - 128, _⟩ = _
      rw [hq1]
      congr 1
      exact Fin.ext (by show 64 * 2 + r.val - 128 = r.val; omega)
    | ⟨3, _⟩ =>
      rw [dif_pos (by show (192 ≤ 64 * 3 + r.val ∧ 64 * 3 + r.val < 192 + 64) ∧ _; omega), h3]
      show quot (Finset.Ico 112 (c0 + (q.val - c0) + 1)) (fun k => score Q K 3 (c0 + (q.val - c0)) k) (value V 3) ⟨64 * 3 + r.val - 192, _⟩ = _
      rw [hq1]
      congr 1
      exact Fin.ext (by show 64 * 3 + r.val - 192 = r.val; omega)

/-- Before any tile: the maxima at the mask value, the sums at zero. -/
theorem first_scaled (Q : Vec Ideal S512x4224 .bf16) (K : Vec Ideal S4224x512 .bf16) (V : Vec Ideal S320x4224 .bf16) (c0 : ℕ) (m : Vec Ideal S4x1x512 .f32) (A : Vec Ideal S320x512 .f32)
    (hm : ∀ y, m y = (⊥ : EReal)) (hA : ∀ y, A y = (0 : EReal)) : AllScaled Q K V c0 (whole (2 * 0)) m A :=
  ⟨scaled_none _ (fun j => Finset.Ico_self 128) _ _ _ _ (fun j => hm _) (fun r j => hA _), scaled_none _ (fun j => Finset.Ico_self 128) _ _ _ _ (fun j => hm _) (fun r j => hA _),
    scaled_none _ (fun j => Finset.Ico_self 128) _ _ _ _ (fun j => hm _) (fun r j => hA _), scaled_none _ (fun j => Finset.Ico_self 128) _ _ _ _ (fun j => hm _) (fun r j => hA _)⟩
theorem first_plain (Q : Vec Ideal S512x4224 .bf16) (K : Vec Ideal S4224x512 .bf16) (V : Vec Ideal S320x4224 .bf16) (c0 : ℕ) (A : Vec Ideal S320x512 .f32)
    (hA : ∀ y, A y = (0 : EReal)) : AllPlain Q K V c0 (whole (2 * 0)) A :=
  ⟨plain_none _ (fun j => Finset.Ico_self 128) _ _ _ (fun r j => hA _), plain_none _ (fun j => Finset.Ico_self 128) _ _ _ (fun r j => hA _),
    plain_none _ (fun j => Finset.Ico_self 128) _ _ _ (fun r j => hA _), plain_none _ (fun j => Finset.Ico_self 128) _ _ _ (fun r j => hA _)⟩

end Cert.KernelIdeal.Val

end
-- ==== Proof.FoxVRun.lean ====
module

public import proofs.«01_k».proof.Proof.Gen.KernelIdeal.Frame
public import proofs.«01_k».proof.Proof.Gen.KernelIdeal.Loops
public import proofs.«01_k».proof.Proof.FoxWin
public import Idealize.ShloMosaic.Lib.Pipeline.ValueKit
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal

open Idealize.ShloMosaic.VecWindow

local notation "𝕄" => MT nD τ sig Unit (Elt Ideal) ℕ (UR sig nD τ) ℕ

/-! # One trip of the inner loops: a pair of whole tiles of keys -/

variable (c : Dev nD) (i : grid0.Coords) (arg2 : Memref sig .tc .smem S1 .i32) (harg2 : arg2.IsWhole) (arg3 : Memref sig .tc .vmem S512x4224 .bf16) (harg3 : arg3.IsWhole) (arg4 : Memref sig .tc .vmem S4224x512 .bf16) (harg4 : arg4.IsWhole) (arg5 : Memref sig .tc .vmem S320x4224 .bf16) (harg5 : arg5.IsWhole) (arg6 : Memref sig .tc .vmem S256x4224 .bf16) (harg6 : arg6.IsWhole) (arg7 : Memref sig .tc .vmem S4x1x512 .f32) (harg7 : arg7.IsWhole) (arg8 : Memref sig .tc .vmem S320x512 .f32) (harg8 : arg8.IsWhole) (arg9 : Memref sig .tc .vmem S512x512 .f32) (harg9 : arg9.IsWhole)

variable (X3 : BufTy.Contents (Elt Ideal) arg3.view.ty) (X4 : BufTy.Contents (Elt Ideal) arg4.view.ty) (X5 : BufTy.Contents (Elt Ideal) arg5.view.ty)
    (hQ : Real2 (a := 512) (b := 4224) (View.read (Elt Ideal) arg3.view X3)) (hK : Real2 (a := 4224) (b := 512) (View.read (Elt Ideal) arg4.view X4)) (hV : Real2 (a := 320) (b := 4224) (View.read (Elt Ideal) arg5.view X5))

/-- What a trip holds between pairs of tiles, with the scaled sums. -/
abbrev Between4 (k t : ℕ) : sProp 𝕄 :=
  iprop((arg3.view.loc c.tc ↦[arg3.view.set]{fullShare} X3) ∗ (arg4.view.loc c.tc ↦[arg4.view.set]{fullShare} X4) ∗ (arg5.view.loc c.tc ↦[arg5.view.set]{fullShare} X5) ∗ (∃ f7, ∃ f8, ∃ f9, ⌜AllScaled (View.read (Elt Ideal) arg3.view X3) (View.read (Elt Ideal) arg4.view X4) (View.read (Elt Ideal) arg5.view X5) (128 + 512 * k) (whole t) (View.read (Elt Ideal) arg7.view f7) (View.read (Elt Ideal) arg8.view f8)
      ∧ Ahead (View.read (Elt Ideal) arg3.view X3) (View.read (Elt Ideal) arg4.view X4) (128 + 512 * k) t (View.read (Elt Ideal) arg9.view f9)⌝ ∗ (arg7.view.loc c.tc ↦[arg7.view.set]{fullShare} f7) ∗ (arg8.view.loc c.tc ↦[arg8.view.set]{fullShare} f8) ∗ (arg9.view.loc c.tc ↦[arg9.view.set]{fullShare} f9)))

include hQ hK hV in
theorem pair4 (k : Fin k0_t1_loop.trips) (v161 c0 : BitVec 32) (j : Fin (k0_t4_loop k).trips) :
  Between4 c arg3 arg4 arg5 arg7 arg8 arg9 X3 X4 X5 k.val (2 * j.val)
  ⊢ wp frame (wpE (defs₀ (F := Ideal)) Variants.none c.tc none) Set.univ (k0_t4_body (F := Ideal) i arg2 harg2 arg3 harg3 arg4 harg4 arg5 harg5 arg6 harg6 arg7 harg7 arg8 harg8 arg9 harg9 k 0#32 v161 c0 0#32 j PUnit.unit)
    (fun _ => Between4 c arg3 arg4 arg5 arg7 arg8 arg9 X3 X4 X5 k.val (2 * (j.val + 1))) := by
  unfold k0_t4_body
  iintro ⟨H3, H4, H5, ⟨%f7, %f8, %f9, %hS, H7, H8, H9⟩⟩
  sl_exec
  sl_step
  isplitl [H3]; · iexact H3
  isplitl [H4]; · iexact H4
  isplitl [H5]; · iexact H5
  iexists _; iexists _; iexists _
  isplitr; swap
  · isplitl [H7]; · iexact H7
    isplitl [H8]; · iexact H8
    iexact H9
  ipureintro
  sl_unfold_run_names
  unfold AllScaled Ahead
  simp only [k0_pay174]
  simp only [maxOf, sumsOf, load_window, load_cov, store_put, store_none, put_same2, put_same3, heads_apart, sums_apart, put_whole, window_whole, shapeCast_self, ne_eq, OfNat.ofNat_ne_zero, OfNat.zero_ne_ofNat, OfNat.one_ne_ofNat, OfNat.ofNat_ne_one, zero_ne_one, one_ne_zero, not_false_eq_true, Nat.reduceAdd, Nat.reduceLeDiff, Nat.reduceEqDiff, or_true, true_or]
  obtain ⟨⟨h0, h1, h2, h3⟩, ha⟩ := hS
  refine ⟨⟨?_, ?_, ?_, ?_⟩, ?_⟩
  rw [show 2 * (j.val + 1) = 2 * j.val + 1 + 1 from by ring] at *
  · refine scaled_whole _ _ (2 * j.val + 1) _ _ ?_ ?_ _ _ _ _ _ _ _ _ _ (scaled_whole _ _ (2 * j.val) _ _ ?_ ?_ _ _ _ _ _ _ _ _ _ h0)
    · exact (fun a b => scores_apply (View.read (Elt Ideal) arg3.view X3) (View.read (Elt Ideal) arg4.view X4) hQ hK 0 (128 + 512 * k.val) (128 + 512 * (2 * j.val + 1)) _ _ (by first | exact k0_off77_at k j) _ _ (by first | exact k0_off1_at k | exact k0_off11_at k | exact k0_off31_at k | exact k0_off68_at k | exact k0_off78_at k | exact k0_off98_at k) a b)
    · exact (fun r a => value_apply (View.read (Elt Ideal) arg5.view X5) hV 0 (128 + 512 * (2 * j.val + 1)) _ _ (by first | exact k0_off83_at k j) r a)
    · exact ha
    · exact (fun r a => value_apply (View.read (Elt Ideal) arg5.view X5) hV 0 (128 + 512 * (2 * j.val)) _ _ (by first | exact k0_off73_at k j) r a)
  · refine scaled_whole _ _ (2 * j.val + 1) _ _ ?_ ?_ _ _ _ _ _ _ _ _ _ (scaled_whole _ _ (2 * j.val) _ _ ?_ ?_ _ _ _ _ _ _ _ _ _ h1)
    · exact (fun a b => scores_apply (View.read (Elt Ideal) arg3.view X3) (View.read (Elt Ideal) arg4.view X4) hQ hK 1 (128 + 512 * k.val) (128 + 512 * (2 * j.val + 1)) _ _ (by first | exact k0_off81_at k j) _ _ (by first | exact k0_off3_at k | exact k0_off23_at k | exact k0_off55_at k | exact k0_off70_at k | exact k0_off90_at k | exact k0_off122_at k) a b)
    · exact (fun r a => value_apply (View.read (Elt Ideal) arg5.view X5) hV 1 (128 + 512 * (2 * j.val + 1)) _ _ (by first | exact k0_off85_at k j) r a)
    · exact (fun a b => scores_apply (View.read (Elt Ideal) arg3.view X3) (View.read (Elt Ideal) arg4.view X4) hQ hK 1 (128 + 512 * k.val) (128 + 512 * (2 * j.val)) _ _ (by first | exact k0_off69_at k j) _ _ (by first | exact k0_off3_at k | exact k0_off23_at k | exact k0_off55_at k | exact k0_off70_at k | exact k0_off90_at k | exact k0_off122_at k) a b)
    · exact (fun r a => value_apply (View.read (Elt Ideal) arg5.view X5) hV 1 (128 + 512 * (2 * j.val)) _ _ (by first | exact k0_off76_at k j) r a)
  · refine scaled_whole _ _ (2 * j.val + 1) _ _ ?_ ?_ _ _ _ _ _ _ _ _ _ (scaled_whole _ _ (2 * j.val) _ _ ?_ ?_ _ _ _ _ _ _ _ _ _ h2)
    · exact (fun a b => scores_apply (View.read (Elt Ideal) arg3.view X3) (View.read (Elt Ideal) arg4.view X4) hQ hK 2 (128 + 512 * k.val) (128 + 512 * (2 * j.val + 1)) _ _ (by first | exact k0_off82_at k j) _ _ (by first | exact k0_off5_at k | exact k0_off25_at k | exact k0_off57_at k | exact k0_off72_at k | exact k0_off92_at k | exact k0_off124_at k) a b)
    · exact (fun r a => value_apply (View.read (Elt Ideal) arg5.view X5) hV 2 (128 + 512 * (2 * j.val + 1)) _ _ (by first | exact k0_off87_at k j) r a)
    · exact (fun a b => scores_apply (View.read (Elt Ideal) arg3.view X3) (View.read (Elt Ideal) arg4.view X4) hQ hK 2 (128 + 512 * k.val) (128 + 512 * (2 * j.val)) _ _ (by first | exact k0_off71_at k j) _ _ (by first | exact k0_off5_at k | exact k0_off25_at k | exact k0_off57_at k | exact k0_off72_at k | exact k0_off92_at k | exact k0_off124_at k) a b)
    · exact (fun r a => value_apply (View.read (Elt Ideal) arg5.view X5) hV 2 (128 + 512 * (2 * j.val)) _ _ (by first | exact k0_off79_at k j) r a)
  · refine scaled_whole _ _ (2 * j.val + 1) _ _ ?_ ?_ _ _ _ _ _ _ _ _ _ (scaled_whole _ _ (2 * j.val) _ _ ?_ ?_ _ _ _ _ _ _ _ _ _ h3)
    · exact (fun a b => scores_apply (View.read (Elt Ideal) arg3.view X3) (View.read (Elt Ideal) arg4.view X4) hQ hK 3 (128 + 512 * k.val) (128 + 512 * (2 * j.val + 1)) _ _ (by first | exact k0_off84_at k j) _ _ (by first | exact k0_off8_at k | exact k0_off28_at k | exact k0_off60_at k | exact k0_off75_at k | exact k0_off95_at k | exact k0_off127_at k) a b)
    · exact (fun r a => value_apply (View.read (Elt Ideal) arg5.view X5) hV 3 (128 + 512 * (2 * j.val + 1)) _ _ (by first | exact k0_off88_at k j) r a)
    · exact (fun a b => scores_apply (View.read (Elt Ideal) arg3.view X3) (View.read (Elt Ideal) arg4.view X4) hQ hK 3 (128 + 512 * k.val) (128 + 512 * (2 * j.val)) _ _ (by first | exact k0_off74_at k j) _ _ (by first | exact k0_off8_at k | exact k0_off28_at k | exact k0_off60_at k | exact k0_off75_at k | exact k0_off95_at k | exact k0_off127_at k) a b)
    · exact (fun r a => value_apply (View.read (Elt Ideal) arg5.view X5) hV 3 (128 + 512 * (2 * j.val)) _ _ (by first | exact k0_off80_at k j) r a)
  · exact (fun a b => scores_apply (View.read (Elt Ideal) arg3.view X3) (View.read (Elt Ideal) arg4.view X4) hQ hK 0 (128 + 512 * k.val) (128 + 512 * (2 * j.val + 2)) _ _ (by first | exact k0_off86_at k j) _ _ (by first | exact k0_off1_at k | exact k0_off11_at k | exact k0_off31_at k | exact k0_off68_at k | exact k0_off78_at k | exact k0_off98_at k) a b)

/-- What a trip holds between pairs of tiles, with the plain sums. -/
abbrev Between2 (k t : ℕ) : sProp 𝕄 :=
  iprop((arg3.view.loc c.tc ↦[arg3.view.set]{fullShare} X3) ∗ (arg4.view.loc c.tc ↦[arg4.view.set]{fullShare} X4) ∗ (arg5.view.loc c.tc ↦[arg5.view.set]{fullShare} X5) ∗ (∃ f8, ∃ f9, ⌜AllPlain (View.read (Elt Ideal) arg3.view X3) (View.read (Elt Ideal) arg4.view X4) (View.read (Elt Ideal) arg5.view X5) (128 + 512 * k) (whole t) (View.read (Elt Ideal) arg8.view f8)
      ∧ Ahead (View.read (Elt Ideal) arg3.view X3) (View.read (Elt Ideal) arg4.view X4) (128 + 512 * k) t (View.read (Elt Ideal) arg9.view f9)⌝ ∗ (arg8.view.loc c.tc ↦[arg8.view.set]{fullShare} f8) ∗ (arg9.view.loc c.tc ↦[arg9.view.set]{fullShare} f9)))

include hQ hK hV in
theorem pair2 (k : Fin k0_t1_loop.trips) (v161 c0 : BitVec 32) (j : Fin (k0_t2_loop k).trips) :
  Between2 c arg3 arg4 arg5 arg8 arg9 X3 X4 X5 k.val (2 * j.val)
  ⊢ wp frame (wpE (defs₀ (F := Ideal)) Variants.none c.tc none) Set.univ (k0_t2_body (F := Ideal) i arg2 harg2 arg3 harg3 arg4 harg4 arg5 harg5 arg6 harg6 arg7 harg7 arg8 harg8 arg9 harg9 k 0#32 v161 c0 0#32 j PUnit.unit)
    (fun _ => Between2 c arg3 arg4 arg5 arg8 arg9 X3 X4 X5 k.val (2 * (j.val + 1))) := by
  unfold k0_t2_body
  iintro ⟨H3, H4, H5, ⟨%f8, %f9, %hS, H8, H9⟩⟩
  sl_exec
  sl_step
  isplitl [H3]; · iexact H3
  isplitl [H4]; · iexact H4
  isplitl [H5]; · iexact H5
  iexists _; iexists _
  isplitr; swap
  · isplitl [H8]; · iexact H8
    iexact H9
  ipureintro
  sl_unfold_run_names
  unfold AllPlain Ahead
  simp only [k0_pay45, k0_pay44]
  simp only [maxOf, sumsOf, load_window, load_cov, store_put, store_none, put_same2, put_same3, heads_apart, sums_apart, put_whole, window_whole, shapeCast_self, ne_eq, OfNat.ofNat_ne_zero, OfNat.zero_ne_ofNat, OfNat.one_ne_ofNat, OfNat.ofNat_ne_one, zero_ne_one, one_ne_zero, not_false_eq_true, Nat.reduceAdd, Nat.reduceLeDiff, Nat.reduceEqDiff, or_true, true_or]
  obtain ⟨⟨h0, h1, h2, h3⟩, ha⟩ := hS
  refine ⟨⟨?_, ?_, ?_, ?_⟩, ?_⟩
  rw [show 2 * (j.val + 1) = 2 * j.val + 1 + 1 from by ring] at *
  · exact plain_whole _ _ (2 * j.val + 1) _ _ (fun a b => scores_apply (View.read (Elt Ideal) arg3.view X3) (View.read (Elt Ideal) arg4.view X4) hQ hK 0 (128 + 512 * k.val) (128 + 512 * (2 * j.val + 1)) _ _ (by first | exact k0_off10_at k j) _ _ (by first | exact k0_off1_at k | exact k0_off11_at k | exact k0_off31_at k | exact k0_off68_at k | exact k0_off78_at k | exact k0_off98_at k) a b) (fun r a => value_apply (View.read (Elt Ideal) arg5.view X5) hV 0 (128 + 512 * (2 * j.val + 1)) _ _ (by first | exact k0_off16_at k j) r a) _ _
      (plain_whole _ _ (2 * j.val) _ _ ha (fun r a => value_apply (View.read (Elt Ideal) arg5.view X5) hV 0 (128 + 512 * (2 * j.val)) _ _ (by first | exact k0_off6_at k j) r a) _ _ h0)
  · exact plain_whole _ _ (2 * j.val + 1) _ _ (fun a b => scores_apply (View.read (Elt Ideal) arg3.view X3) (View.read (Elt Ideal) arg4.view X4) hQ hK 1 (128 + 512 * k.val) (128 + 512 * (2 * j.val + 1)) _ _ (by first | exact k0_off14_at k j) _ _ (by first | exact k0_off3_at k | exact k0_off23_at k | exact k0_off55_at k | exact k0_off70_at k | exact k0_off90_at k | exact k0_off122_at k) a b) (fun r a => value_apply (View.read (Elt Ideal) arg5.view X5) hV 1 (128 + 512 * (2 * j.val + 1)) _ _ (by first | exact k0_off18_at k j) r a) _ _
      (plain_whole _ _ (2 * j.val) _ _ (fun a b => scores_apply (View.read (Elt Ideal) arg3.view X3) (View.read (Elt Ideal) arg4.view X4) hQ hK 1 (128 + 512 * k.val) (128 + 512 * (2 * j.val)) _ _ (by first | exact k0_off2_at k j) _ _ (by first | exact k0_off3_at k | exact k0_off23_at k | exact k0_off55_at k | exact k0_off70_at k | exact k0_off90_at k | exact k0_off122_at k) a b) (fun r a => value_apply (View.read (Elt Ideal) arg5.view X5) hV 1 (128 + 512 * (2 * j.val)) _ _ (by first | exact k0_off9_at k j) r a) _ _ h1)
  · exact plain_whole _ _ (2 * j.val + 1) _ _ (fun a b => scores_apply (View.read (Elt Ideal) arg3.view X3) (View.read (Elt Ideal) arg4.view X4) hQ hK 2 (128 + 512 * k.val) (128 + 512 * (2 * j.val + 1)) _ _ (by first | exact k0_off15_at k j) _ _ (by first | exact k0_off5_at k | exact k0_off25_at k | exact k0_off57_at k | exact k0_off72_at k | exact k0_off92_at k | exact k0_off124_at k) a b) (fun r a => value_apply (View.read (Elt Ideal) arg5.view X5) hV 2 (128 + 512 * (2 * j.val + 1)) _ _ (by first | exact k0_off20_at k j) r a) _ _
      (plain_whole _ _ (2 * j.val) _ _ (fun a b => scores_apply (View.read (Elt Ideal) arg3.view X3) (View.read (Elt Ideal) arg4.view X4) hQ hK 2 (128 + 512 * k.val) (128 + 512 * (2 * j.val)) _ _ (by first | exact k0_off4_at k j) _ _ (by first | exact k0_off5_at k | exact k0_off25_at k | exact k0_off57_at k | exact k0_off72_at k | exact k0_off92_at k | exact k0_off124_at k) a b) (fun r a => value_apply (View.read (Elt Ideal) arg5.view X5) hV 2 (128 + 512 * (2 * j.val)) _ _ (by first | exact k0_off12_at k j) r a) _ _ h2)
  · exact plain_whole _ _ (2 * j.val + 1) _ _ (fun a b => scores_apply (View.read (Elt Ideal) arg3.view X3) (View.read (Elt Ideal) arg4.view X4) hQ hK 3 (128 + 512 * k.val) (128 + 512 * (2 * j.val + 1)) _ _ (by first | exact k0_off17_at k j) _ _ (by first | exact k0_off8_at k | exact k0_off28_at k | exact k0_off60_at k | exact k0_off75_at k | exact k0_off95_at k | exact k0_off127_at k) a b) (fun r a => value_apply (View.read (Elt Ideal) arg5.view X5) hV 3 (128 + 512 * (2 * j.val + 1)) _ _ (by first | exact k0_off21_at k j) r a) _ _
      (plain_whole _ _ (2 * j.val) _ _ (fun a b => scores_apply (View.read (Elt Ideal) arg3.view X3) (View.read (Elt Ideal) arg4.view X4) hQ hK 3 (128 + 512 * k.val) (128 + 512 * (2 * j.val)) _ _ (by first | exact k0_off7_at k j) _ _ (by first | exact k0_off8_at k | exact k0_off28_at k | exact k0_off60_at k | exact k0_off75_at k | exact k0_off95_at k | exact k0_off127_at k) a b) (fun r a => value_apply (View.read (Elt Ideal) arg5.view X5) hV 3 (128 + 512 * (2 * j.val)) _ _ (by first | exact k0_off13_at k j) r a) _ _ h3)
  · exact (fun a b => scores_apply (View.read (Elt Ideal) arg3.view X3) (View.read (Elt Ideal) arg4.view X4) hQ hK 0 (128 + 512 * k.val) (128 + 512 * (2 * j.val + 2)) _ _ (by first | exact k0_off19_at k j) _ _ (by first | exact k0_off1_at k | exact k0_off11_at k | exact k0_off31_at k | exact k0_off68_at k | exact k0_off78_at k | exact k0_off98_at k) a b)

end Cert.KernelIdeal.Val

end
-- ==== Proof.FoxVTrip.lean ====
module

public import proofs.«01_k».proof.Proof.Gen.KernelIdeal.Frame
public import proofs.«01_k».proof.Proof.Gen.KernelIdeal.Loops
public import proofs.«01_k».proof.Proof.FoxVRun
public import Idealize.ShloMosaic.Lib.Pipeline.ValueKit
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal

open Idealize.ShloMosaic.VecWindow

local notation "𝕄" => MT nD τ sig Unit (Elt Ideal) ℕ (UR sig nD τ) ℕ

/-! # One trip of the loop over the query tiles -/

variable (c : Dev nD) (i : grid0.Coords) (arg2 : Memref sig .tc .smem S1 .i32) (harg2 : arg2.IsWhole) (arg3 : Memref sig .tc .vmem S512x4224 .bf16) (harg3 : arg3.IsWhole) (arg4 : Memref sig .tc .vmem S4224x512 .bf16) (harg4 : arg4.IsWhole) (arg5 : Memref sig .tc .vmem S320x4224 .bf16) (harg5 : arg5.IsWhole) (arg6 : Memref sig .tc .vmem S256x4224 .bf16) (harg6 : arg6.IsWhole) (arg7 : Memref sig .tc .vmem S4x1x512 .f32) (harg7 : arg7.IsWhole) (arg8 : Memref sig .tc .vmem S320x512 .f32) (harg8 : arg8.IsWhole) (arg9 : Memref sig .tc .vmem S512x512 .f32) (harg9 : arg9.IsWhole)

variable (X2 : BufTy.Contents (Elt Ideal) arg2.view.ty) (X3 : BufTy.Contents (Elt Ideal) arg3.view.ty) (X4 : BufTy.Contents (Elt Ideal) arg4.view.ty) (X5 : BufTy.Contents (Elt Ideal) arg5.view.ty)
    (hQ : Real2 (a := 512) (b := 4224) (View.read (Elt Ideal) arg3.view X3)) (hK : Real2 (a := 4224) (b := 512) (View.read (Elt Ideal) arg4.view X4)) (hV : Real2 (a := 320) (b := 4224) (View.read (Elt Ideal) arg5.view X5))
    (hO : ∀ h < 4, ∀ k < 4224, value (View.read (Elt Ideal) arg5.view X5) h 64 k = 1)

/-- What one trip holds before query tile `n`. -/
abbrev Held (n : ℕ) : sProp 𝕄 :=
  iprop((arg2.view.loc c.tc ↦[arg2.view.set]{fullShare} X2) ∗ (arg3.view.loc c.tc ↦[arg3.view.set]{fullShare} X3) ∗ (arg4.view.loc c.tc ↦[arg4.view.set]{fullShare} X4) ∗ (arg5.view.loc c.tc ↦[arg5.view.set]{fullShare} X5) ∗ (∃ f6, ⌜Done (View.read (Elt Ideal) arg3.view X3) (View.read (Elt Ideal) arg4.view X4) (View.read (Elt Ideal) arg5.view X5) (128 + 512 * n) (View.read (Elt Ideal) arg6.view f6)⌝ ∗ (arg6.view.loc c.tc ↦[arg6.view.set]{fullShare} f6))
    ∗ (∃ f, (arg7.view.loc c.tc ↦[arg7.view.set]{fullShare} f)) ∗ (∃ f, (arg8.view.loc c.tc ↦[arg8.view.set]{fullShare} f)) ∗ (∃ f, (arg9.view.loc c.tc ↦[arg9.view.set]{fullShare} f)))

/-- A word is not both one and different from one: only one of the two branches runs. -/
theorem one_branch (w : BitVec 32) (a : Scalar.cmpi .ne (Scalar.extui (Scalar.cmpi .eq w 1#32) : BitVec 32) 0#32 = 1#1)
    (b : Scalar.cmpi .ne (Scalar.extui (Scalar.cmpi .ne w 1#32) : BitVec 32) 0#32 = 1#1) : False := by
  by_cases h : w = 1#32
  · subst h; exact absurd b (by decide)
  · have e : Scalar.cmpi .eq w 1#32 = 0#1 := by
      have h : (w == 1#32) = false := by simpa using h
      show BitVec.ofBool (w == 1#32) = 0#1
      rw [h]; rfl
    rw [e] at a
    exact absurd a (by decide)

/-- A word is one or different from one: one of the two branches runs. -/
theorem some_branch (w : BitVec 32) (a : ¬ Scalar.cmpi .ne (Scalar.extui (Scalar.cmpi .eq w 1#32) : BitVec 32) 0#32 = 1#1)
    (b : ¬ Scalar.cmpi .ne (Scalar.extui (Scalar.cmpi .ne w 1#32) : BitVec 32) 0#32 = 1#1) : False := by
  by_cases h : w = 1#32
  · subst h; exact a (by decide)
  · have e : Scalar.cmpi .ne w 1#32 = 1#1 := by
      have h : (w != 1#32) = true := by simpa using h
      show BitVec.ofBool (w != 1#32) = 1#1
      rw [h]; rfl
    rw [e] at b
    exact b (by decide)

theorem lt8 (k : Fin k0_t1_loop.trips) : k.val < 8 := lt_of_lt_of_eq k.isLt (by decide +kernel)

include hQ hK hV hO in
theorem trip (k : Fin k0_t1_loop.trips) :
    Held c arg2 arg3 arg4 arg5 arg6 arg7 arg8 arg9 X2 X3 X4 X5 k.val
      ⊢ wp frame (wpE (defs₀ (F := Ideal)) Variants.none c.tc none) Set.univ (k0_t1_body (F := Ideal) i arg2 harg2 arg3 harg3 arg4 harg4 arg5 harg5 arg6 harg6 arg7 harg7 arg8 harg8 arg9 harg9 k PUnit.unit)
          (fun _ => Held c arg2 arg3 arg4 arg5 arg6 arg7 arg8 arg9 X2 X3 X4 X5 (k.val + 1)) := by
  unfold k0_t1_body
  iintro ⟨H2, H3, H4, H5, ⟨%f6, %hD, H6⟩, ⟨%f7, H7⟩, ⟨%f8, H8⟩, ⟨%f9, H9⟩⟩
  sl_exec
  split
  · rename_i ha
    sl_exec
    sl_for (fun (n : ℕ) (_ : PUnit) => Between2 c arg3 arg4 arg5 arg8 arg9 X3 X4 X5 k.val (2 * n)) $$ [H3 H4 H5 H8 H9]
    case region =>
      intro j a
      exact pair2 c i arg2 harg2 arg3 harg3 arg4 harg4 arg5 harg5 arg6 harg6 arg7 harg7 arg8 harg8 arg9 harg9 X3 X4 X5 hQ hK hV k _ _ j
    · isplitl [H3]; · iexact H3
      isplitl [H4]; · iexact H4
      isplitl [H5]; · iexact H5
      iexists _; iexists _
      isplitr; swap
      · isplitl [H8]; · iexact H8
        iexact H9
      ipureintro
      sl_unfold_run_names
      simp only [k0_pay42, k0_pay43]
      simp only [load_window, load_cov, store_put, store_none, put_same2, put_same3, heads_apart, sums_apart, rows_inside, put_whole, put_whole3, put_wholeA, window_whole, shapeCast_self, ne_eq, OfNat.ofNat_ne_zero, OfNat.zero_ne_ofNat, OfNat.one_ne_ofNat, OfNat.ofNat_ne_one, zero_ne_one, one_ne_zero, not_false_eq_true, Nat.reduceAdd, Nat.reduceSub, Nat.reduceLeDiff, Nat.reduceEqDiff, _root_.or_true, _root_.true_or, _root_.and_self, _root_.and_true]
      exact ⟨first_plain _ _ _ _ _ (fun y => Ideal.ofBits_zero_f32), fun a b => scores_apply (View.read (Elt Ideal) arg3.view X3) (View.read (Elt Ideal) arg4.view X4) hQ hK 0 (128 + 512 * k.val) (128 + 512 * (2 * 0)) _ _ rfl _ _ (by first | exact k0_off1_at k | exact k0_off11_at k | exact k0_off31_at k | exact k0_off68_at k | exact k0_off78_at k | exact k0_off98_at k | exact k0_off51_at k hc | exact k0_off118_at k hc) a b⟩
    · iintro %a ⟨G3, G4, G5, ⟨%g8, %g9, %hS, G8, G9⟩⟩
      sl_exec
      sl_for0 (rest3 k)
      by_cases hc : k0_cond2 k = 1#1
      · have hk := (odd2 k).mp hc
        rw [show 2 * (k0_t2_loop k).trips = k.val - 1 by rw [pairs2]; omega] at hS
        sl_exec (disch := sl_exact hc)
        split
        · rename_i hb; exact (one_branch _ ha hb).elim
        sl_exec
        sl_step
        isplitl [H2]; · iexact H2
        isplitl [G3]; · iexact G3
        isplitl [G4]; · iexact G4
        isplitl [G5]; · iexact G5
        isplitl [H6]; swap
        · isplitl [H7]; · iexists _; iexact H7
          isplitl [G8]; · iexists _; iexact G8
          iexists _; iexact G9
        iexists _; isplitr; swap
        · iexact H6
        ipureintro
        sl_unfold_run_names
        simp only [k0_pay241, k0_pay55, k0_pay54, k0_pay52, k0_pay53, k0_pay51, k0_pay56]
        simp only [load_window, load_cov, store_put, store_none, put_same2, put_same3, heads_apart, sums_apart, rows_inside, put_whole, put_whole3, put_wholeA, window_whole, shapeCast_self, ne_eq, OfNat.ofNat_ne_zero, OfNat.zero_ne_ofNat, OfNat.one_ne_ofNat, OfNat.ofNat_ne_one, zero_ne_one, one_ne_zero, not_false_eq_true, Nat.reduceAdd, Nat.reduceSub, Nat.reduceLeDiff, Nat.reduceEqDiff, _root_.or_true, _root_.true_or, _root_.and_self, _root_.and_true]
        obtain ⟨⟨h0, h1, h2, h3⟩, hA⟩ := hS
        refine done_step (View.read (Elt Ideal) arg3.view X3) (View.read (Elt Ideal) arg4.view X4) (View.read (Elt Ideal) arg5.view X5) _ (128 + 512 * k.val) _ (by omega) hD _ _ _ _ (by first | exact k0_off64_at k | exact k0_off131_at k) (by first | exact k0_off65_at k | exact k0_off132_at k) (by first | exact k0_off66_at k | exact k0_off133_at k) (by first | exact k0_off67_at k | exact k0_off134_at k) _ _ _ _ ?_ ?_ ?_ ?_
        · refine fun r j => part_plain (upTo (128 + 512 * k.val)) (scoreAt (View.read (Elt Ideal) arg3.view X3) (View.read (Elt Ideal) arg4.view X4) 0 (128 + 512 * k.val)) (value (View.read (Elt Ideal) arg5.view X5) 0) _ (plain_last _ _ k.val _ _ ?_ ?_ _ _ ?_) (fun j y hy => hO 0 (by omega) y (by have := j.isLt; have := lt8 k; have := Finset.mem_Ico.mp hy; omega)) _ _ _ _ r j
          · exact (maskedA_apply (scoreAt (View.read (Elt Ideal) arg3.view X3) (View.read (Elt Ideal) arg4.view X4) 0 (128 + 512 * k.val)) (128 + 512 * k.val) _ _ (fun a b => (scores_apply (View.read (Elt Ideal) arg3.view X3) (View.read (Elt Ideal) arg4.view X4) hQ hK 0 (128 + 512 * k.val) 0 _ _ rfl _ _ (by first | exact k0_off1_at k | exact k0_off11_at k | exact k0_off31_at k | exact k0_off68_at k | exact k0_off78_at k | exact k0_off98_at k | exact k0_off51_at k hc | exact k0_off118_at k hc) a b).trans (congrArg (fun z => ((scoreAt (View.read (Elt Ideal) arg3.view X3) (View.read (Elt Ideal) arg4.view X4) 0 (128 + 512 * k.val) z b : ℝ) : EReal)) (Nat.zero_add _))) (fun a b => by simp only [load_window, load_cov, store_put, store_none, put_same2, put_same3, heads_apart, sums_apart, rows_inside, put_whole, put_whole3, put_wholeA, window_whole, shapeCast_self, ne_eq, OfNat.ofNat_ne_zero, OfNat.zero_ne_ofNat, OfNat.one_ne_ofNat, OfNat.ofNat_ne_one, zero_ne_one, one_ne_zero, not_false_eq_true, Nat.reduceAdd, Nat.reduceSub, Nat.reduceLeDiff, Nat.reduceEqDiff, _root_.or_true, _root_.true_or, _root_.and_self, _root_.and_true]; exact (fun a b => scores_apply (View.read (Elt Ideal) arg3.view X3) (View.read (Elt Ideal) arg4.view X4) hQ hK 0 (128 + 512 * k.val) (128 + 512 * k.val) _ _ (by first | exact k0_off50_at k hc) _ _ (by first | exact k0_off1_at k | exact k0_off11_at k | exact k0_off31_at k | exact k0_off68_at k | exact k0_off78_at k | exact k0_off98_at k | exact k0_off51_at k hc | exact k0_off118_at k hc) a b) a b))
          · exact (joined_apply (View.read (Elt Ideal) arg5.view X5) 0 (128 + 512 * k.val) _ _ (fun r a => (value_apply (View.read (Elt Ideal) arg5.view X5) hV 0 0 _ _ rfl r a).trans (congrArg (fun z => ((value (View.read (Elt Ideal) arg5.view X5) 0 r z : ℝ) : EReal)) (Nat.zero_add _))) (fun r a => value_apply (View.read (Elt Ideal) arg5.view X5) hV 0 (128 + 512 * k.val) _ _ (by first | exact k0_off58_at k | exact k0_off125_at k) r a))
          · exact plain_whole_to _ _ (k.val - 1) k.val (by omega) _ _ (fun a b => hA a b) (fun r a => value_apply (View.read (Elt Ideal) arg5.view X5) hV 0 (128 + 512 * (k.val - 1)) _ _ (by first | exact k0_off46_at k hc) r a) _ _ h0
        · refine fun r j => part_plain (upTo (128 + 512 * k.val)) (scoreAt (View.read (Elt Ideal) arg3.view X3) (View.read (Elt Ideal) arg4.view X4) 1 (128 + 512 * k.val)) (value (View.read (Elt Ideal) arg5.view X5) 1) _ (plain_last _ _ k.val _ _ ?_ ?_ _ _ ?_) (fun j y hy => hO 1 (by omega) y (by have := j.isLt; have := lt8 k; have := Finset.mem_Ico.mp hy; omega)) _ _ _ _ r j
          · exact (maskedB_apply (View.read (Elt Ideal) arg3.view X3) (View.read (Elt Ideal) arg4.view X4) hQ 1 (128 + 512 * k.val) _ _ (fun a b => (window_nat2 (View.read (Elt Ideal) arg4.view X4) hK _ _ 0 (128 * 1) rfl a b).trans (congrArg (fun z => ((nat2 (View.read (Elt Ideal) arg4.view X4) z (128 * 1 + b.val) : ℝ) : EReal)) (Nat.zero_add _))) (fun a b => window_nat2 (View.read (Elt Ideal) arg4.view X4) hK _ _ (128 + 512 * k.val) (128 * 1) (by first | exact k0_off54_at k | exact k0_off121_at k) a b) _ _ (by first | exact k0_off3_at k | exact k0_off23_at k | exact k0_off55_at k | exact k0_off70_at k | exact k0_off90_at k | exact k0_off122_at k | exact k0_off43_at k hc | exact k0_off110_at k hc))
          · exact (joined_apply (View.read (Elt Ideal) arg5.view X5) 1 (128 + 512 * k.val) _ _ (fun r a => (value_apply (View.read (Elt Ideal) arg5.view X5) hV 1 0 _ _ rfl r a).trans (congrArg (fun z => ((value (View.read (Elt Ideal) arg5.view X5) 1 r z : ℝ) : EReal)) (Nat.zero_add _))) (fun r a => value_apply (View.read (Elt Ideal) arg5.view X5) hV 1 (128 + 512 * k.val) _ _ (by first | exact k0_off61_at k | exact k0_off128_at k) r a))
          · exact plain_whole_to _ _ (k.val - 1) k.val (by omega) _ _ (fun a b => scores_apply (View.read (Elt Ideal) arg3.view X3) (View.read (Elt Ideal) arg4.view X4) hQ hK 1 (128 + 512 * k.val) (128 + 512 * (k.val - 1)) _ _ (by first | exact k0_off42_at k hc) _ _ (by first | exact k0_off3_at k | exact k0_off23_at k | exact k0_off55_at k | exact k0_off70_at k | exact k0_off90_at k | exact k0_off122_at k | exact k0_off43_at k hc | exact k0_off110_at k hc) a b) (fun r a => value_apply (View.read (Elt Ideal) arg5.view X5) hV 1 (128 + 512 * (k.val - 1)) _ _ (by first | exact k0_off49_at k hc) r a) _ _ h1
        · refine fun r j => part_plain (upTo (128 + 512 * k.val)) (scoreAt (View.read (Elt Ideal) arg3.view X3) (View.read (Elt Ideal) arg4.view X4) 2 (128 + 512 * k.val)) (value (View.read (Elt Ideal) arg5.view X5) 2) _ (plain_last _ _ k.val _ _ ?_ ?_ _ _ ?_) (fun j y hy => hO 2 (by omega) y (by have := j.isLt; have := lt8 k; have := Finset.mem_Ico.mp hy; omega)) _ _ _ _ r j
          · exact (maskedB_apply (View.read (Elt Ideal) arg3.view X3) (View.read (Elt Ideal) arg4.view X4) hQ 2 (128 + 512 * k.val) _ _ (fun a b => (window_nat2 (View.read (Elt Ideal) arg4.view X4) hK _ _ 0 (128 * 2) rfl a b).trans (congrArg (fun z => ((nat2 (View.read (Elt Ideal) arg4.view X4) z (128 * 2 + b.val) : ℝ) : EReal)) (Nat.zero_add _))) (fun a b => window_nat2 (View.read (Elt Ideal) arg4.view X4) hK _ _ (128 + 512 * k.val) (128 * 2) (by first | exact k0_off56_at k | exact k0_off123_at k) a b) _ _ (by first | exact k0_off5_at k | exact k0_off25_at k | exact k0_off57_at k | exact k0_off72_at k | exact k0_off92_at k | exact k0_off124_at k | exact k0_off45_at k hc | exact k0_off112_at k hc))
          · exact (joined_apply (View.read (Elt Ideal) arg5.view X5) 2 (128 + 512 * k.val) _ _ (fun r a => (value_apply (View.read (Elt Ideal) arg5.view X5) hV 2 0 _ _ rfl r a).trans (congrArg (fun z => ((value (View.read (Elt Ideal) arg5.view X5) 2 r z : ℝ) : EReal)) (Nat.zero_add _))) (fun r a => value_apply (View.read (Elt Ideal) arg5.view X5) hV 2 (128 + 512 * k.val) _ _ (by first | exact k0_off62_at k | exact k0_off129_at k) r a))
          · exact plain_whole_to _ _ (k.val - 1) k.val (by omega) _ _ (fun a b => scores_apply (View.read (Elt Ideal) arg3.view X3) (View.read (Elt Ideal) arg4.view X4) hQ hK 2 (128 + 512 * k.val) (128 + 512 * (k.val - 1)) _ _ (by first | exact k0_off44_at k hc) _ _ (by first | exact k0_off5_at k | exact k0_off25_at k | exact k0_off57_at k | exact k0_off72_at k | exact k0_off92_at k | exact k0_off124_at k | exact k0_off45_at k hc | exact k0_off112_at k hc) a b) (fun r a => value_apply (View.read (Elt Ideal) arg5.view X5) hV 2 (128 + 512 * (k.val - 1)) _ _ (by first | exact k0_off52_at k hc) r a) _ _ h2
        · refine fun r j => part_plain (upTo (128 + 512 * k.val)) (scoreAt (View.read (Elt Ideal) arg3.view X3) (View.read (Elt Ideal) arg4.view X4) 3 (128 + 512 * k.val)) (value (View.read (Elt Ideal) arg5.view X5) 3) _ (plain_last _ _ k.val _ _ ?_ ?_ _ _ ?_) (fun j y hy => hO 3 (by omega) y (by have := j.isLt; have := lt8 k; have := Finset.mem_Ico.mp hy; omega)) _ _ _ _ r j
          · exact (maskedB_apply (View.read (Elt Ideal) arg3.view X3) (View.read (Elt Ideal) arg4.view X4) hQ 3 (128 + 512 * k.val) _ _ (fun a b => (window_nat2 (View.read (Elt Ideal) arg4.view X4) hK _ _ 0 (128 * 3) rfl a b).trans (congrArg (fun z => ((nat2 (View.read (Elt Ideal) arg4.view X4) z (128 * 3 + b.val) : ℝ) : EReal)) (Nat.zero_add _))) (fun a b => window_nat2 (View.read (Elt Ideal) arg4.view X4) hK _ _ (128 + 512 * k.val) (128 * 3) (by first | exact k0_off59_at k | exact k0_off126_at k) a b) _ _ (by first | exact k0_off8_at k | exact k0_off28_at k | exact k0_off60_at k | exact k0_off75_at k | exact k0_off95_at k | exact k0_off127_at k | exact k0_off48_at k hc | exact k0_off115_at k hc))
          · exact (joined_apply (View.read (Elt Ideal) arg5.view X5) 3 (128 + 512 * k.val) _ _ (fun r a => (value_apply (View.read (Elt Ideal) arg5.view X5) hV 3 0 _ _ rfl r a).trans (congrArg (fun z => ((value (View.read (Elt Ideal) arg5.view X5) 3 r z : ℝ) : EReal)) (Nat.zero_add _))) (fun r a => value_apply (View.read (Elt Ideal) arg5.view X5) hV 3 (128 + 512 * k.val) _ _ (by first | exact k0_off63_at k | exact k0_off130_at k) r a))
          · exact plain_whole_to _ _ (k.val - 1) k.val (by omega) _ _ (fun a b => scores_apply (View.read (Elt Ideal) arg3.view X3) (View.read (Elt Ideal) arg4.view X4) hQ hK 3 (128 + 512 * k.val) (128 + 512 * (k.val - 1)) _ _ (by first | exact k0_off47_at k hc) _ _ (by first | exact k0_off8_at k | exact k0_off28_at k | exact k0_off60_at k | exact k0_off75_at k | exact k0_off95_at k | exact k0_off127_at k | exact k0_off48_at k hc | exact k0_off115_at k hc) a b) (fun r a => value_apply (View.read (Elt Ideal) arg5.view X5) hV 3 (128 + 512 * (k.val - 1)) _ _ (by first | exact k0_off53_at k hc) r a) _ _ h3
      · have hk := mt (odd2 k).mpr hc
        rw [show 2 * (k0_t2_loop k).trips = k.val by rw [pairs2]; omega] at hS
        sl_exec (disch := sl_exact hc)
        split
        · rename_i hb; exact (one_branch _ ha hb).elim
        sl_exec
        sl_step
        isplitl [H2]; · iexact H2
        isplitl [G3]; · iexact G3
        isplitl [G4]; · iexact G4
        isplitl [G5]; · iexact G5
        isplitl [H6]; swap
        · isplitl [H7]; · iexists _; iexact H7
          isplitl [G8]; · iexists _; iexact G8
          iexists _; iexact G9
        iexists _; isplitr; swap
        · iexact H6
        ipureintro
        sl_unfold_run_names
        simp only [k0_pay241, k0_pay56, k0_pay55, k0_pay51, k0_pay54, k0_pay53, k0_pay52]
        simp only [load_window, load_cov, store_put, store_none, put_same2, put_same3, heads_apart, sums_apart, rows_inside, put_whole, put_whole3, put_wholeA, window_whole, shapeCast_self, ne_eq, OfNat.ofNat_ne_zero, OfNat.zero_ne_ofNat, OfNat.one_ne_ofNat, OfNat.ofNat_ne_one, zero_ne_one, one_ne_zero, not_false_eq_true, Nat.reduceAdd, Nat.reduceSub, Nat.reduceLeDiff, Nat.reduceEqDiff, _root_.or_true, _root_.true_or, _root_.and_self, _root_.and_true]
        obtain ⟨⟨h0, h1, h2, h3⟩, hA⟩ := hS
        refine done_step (View.read (Elt Ideal) arg3.view X3) (View.read (Elt Ideal) arg4.view X4) (View.read (Elt Ideal) arg5.view X5) _ (128 + 512 * k.val) _ (by omega) hD _ _ _ _ (by first | exact k0_off64_at k | exact k0_off131_at k) (by first | exact k0_off65_at k | exact k0_off132_at k) (by first | exact k0_off66_at k | exact k0_off133_at k) (by first | exact k0_off67_at k | exact k0_off134_at k) _ _ _ _ ?_ ?_ ?_ ?_
        · refine fun r j => part_plain (upTo (128 + 512 * k.val)) (scoreAt (View.read (Elt Ideal) arg3.view X3) (View.read (Elt Ideal) arg4.view X4) 0 (128 + 512 * k.val)) (value (View.read (Elt Ideal) arg5.view X5) 0) _ (plain_last _ _ k.val _ _ ?_ ?_ _ _ ?_) (fun j y hy => hO 0 (by omega) y (by have := j.isLt; have := lt8 k; have := Finset.mem_Ico.mp hy; omega)) _ _ _ _ r j
          · exact (maskedA_apply (scoreAt (View.read (Elt Ideal) arg3.view X3) (View.read (Elt Ideal) arg4.view X4) 0 (128 + 512 * k.val)) (128 + 512 * k.val) _ _ (fun a b => (scores_apply (View.read (Elt Ideal) arg3.view X3) (View.read (Elt Ideal) arg4.view X4) hQ hK 0 (128 + 512 * k.val) 0 _ _ rfl _ _ (by first | exact k0_off1_at k | exact k0_off11_at k | exact k0_off31_at k | exact k0_off68_at k | exact k0_off78_at k | exact k0_off98_at k | exact k0_off51_at k hc | exact k0_off118_at k hc) a b).trans (congrArg (fun z => ((scoreAt (View.read (Elt Ideal) arg3.view X3) (View.read (Elt Ideal) arg4.view X4) 0 (128 + 512 * k.val) z b : ℝ) : EReal)) (Nat.zero_add _))) (fun a b => by simp only [window_whole, load_window]; exact hA a b))
          · exact (joined_apply (View.read (Elt Ideal) arg5.view X5) 0 (128 + 512 * k.val) _ _ (fun r a => (value_apply (View.read (Elt Ideal) arg5.view X5) hV 0 0 _ _ rfl r a).trans (congrArg (fun z => ((value (View.read (Elt Ideal) arg5.view X5) 0 r z : ℝ) : EReal)) (Nat.zero_add _))) (fun r a => value_apply (View.read (Elt Ideal) arg5.view X5) hV 0 (128 + 512 * k.val) _ _ (by first | exact k0_off58_at k | exact k0_off125_at k) r a))
          · exact h0
        · refine fun r j => part_plain (upTo (128 + 512 * k.val)) (scoreAt (View.read (Elt Ideal) arg3.view X3) (View.read (Elt Ideal) arg4.view X4) 1 (128 + 512 * k.val)) (value (View.read (Elt Ideal) arg5.view X5) 1) _ (plain_last _ _ k.val _ _ ?_ ?_ _ _ ?_) (fun j y hy => hO 1 (by omega) y (by have := j.isLt; have := lt8 k; have := Finset.mem_Ico.mp hy; omega)) _ _ _ _ r j
          · exact (maskedB_apply (View.read (Elt Ideal) arg3.view X3) (View.read (Elt Ideal) arg4.view X4) hQ 1 (128 + 512 * k.val) _ _ (fun a b => (window_nat2 (View.read (Elt Ideal) arg4.view X4) hK _ _ 0 (128 * 1) rfl a b).trans (congrArg (fun z => ((nat2 (View.read (Elt Ideal) arg4.view X4) z (128 * 1 + b.val) : ℝ) : EReal)) (Nat.zero_add _))) (fun a b => window_nat2 (View.read (Elt Ideal) arg4.view X4) hK _ _ (128 + 512 * k.val) (128 * 1) (by first | exact k0_off54_at k | exact k0_off121_at k) a b) _ _ (by first | exact k0_off3_at k | exact k0_off23_at k | exact k0_off55_at k | exact k0_off70_at k | exact k0_off90_at k | exact k0_off122_at k | exact k0_off43_at k hc | exact k0_off110_at k hc))
          · exact (joined_apply (View.read (Elt Ideal) arg5.view X5) 1 (128 + 512 * k.val) _ _ (fun r a => (value_apply (View.read (Elt Ideal) arg5.view X5) hV 1 0 _ _ rfl r a).trans (congrArg (fun z => ((value (View.read (Elt Ideal) arg5.view X5) 1 r z : ℝ) : EReal)) (Nat.zero_add _))) (fun r a => value_apply (View.read (Elt Ideal) arg5.view X5) hV 1 (128 + 512 * k.val) _ _ (by first | exact k0_off61_at k | exact k0_off128_at k) r a))
          · exact h1
        · refine fun r j => part_plain (upTo (128 + 512 * k.val)) (scoreAt (View.read (Elt Ideal) arg3.view X3) (View.read (Elt Ideal) arg4.view X4) 2 (128 + 512 * k.val)) (value (View.read (Elt Ideal) arg5.view X5) 2) _ (plain_last _ _ k.val _ _ ?_ ?_ _ _ ?_) (fun j y hy => hO 2 (by omega) y (by have := j.isLt; have := lt8 k; have := Finset.mem_Ico.mp hy; omega)) _ _ _ _ r j
          · exact (maskedB_apply (View.read (Elt Ideal) arg3.view X3) (View.read (Elt Ideal) arg4.view X4) hQ 2 (128 + 512 * k.val) _ _ (fun a b => (window_nat2 (View.read (Elt Ideal) arg4.view X4) hK _ _ 0 (128 * 2) rfl a b).trans (congrArg (fun z => ((nat2 (View.read (Elt Ideal) arg4.view X4) z (128 * 2 + b.val) : ℝ) : EReal)) (Nat.zero_add _))) (fun a b => window_nat2 (View.read (Elt Ideal) arg4.view X4) hK _ _ (128 + 512 * k.val) (128 * 2) (by first | exact k0_off56_at k | exact k0_off123_at k) a b) _ _ (by first | exact k0_off5_at k | exact k0_off25_at k | exact k0_off57_at k | exact k0_off72_at k | exact k0_off92_at k | exact k0_off124_at k | exact k0_off45_at k hc | exact k0_off112_at k hc))
          · exact (joined_apply (View.read (Elt Ideal) arg5.view X5) 2 (128 + 512 * k.val) _ _ (fun r a => (value_apply (View.read (Elt Ideal) arg5.view X5) hV 2 0 _ _ rfl r a).trans (congrArg (fun z => ((value (View.read (Elt Ideal) arg5.view X5) 2 r z : ℝ) : EReal)) (Nat.zero_add _))) (fun r a => value_apply (View.read (Elt Ideal) arg5.view X5) hV 2 (128 + 512 * k.val) _ _ (by first | exact k0_off62_at k | exact k0_off129_at k) r a))
          · exact h2
        · refine fun r j => part_plain (upTo (128 + 512 * k.val)) (scoreAt (View.read (Elt Ideal) arg3.view X3) (View.read (Elt Ideal) arg4.view X4) 3 (128 + 512 * k.val)) (value (View.read (Elt Ideal) arg5.view X5) 3) _ (plain_last _ _ k.val _ _ ?_ ?_ _ _ ?_) (fun j y hy => hO 3 (by omega) y (by have := j.isLt; have := lt8 k; have := Finset.mem_Ico.mp hy; omega)) _ _ _ _ r j
          · exact (maskedB_apply (View.read (Elt Ideal) arg3.view X3) (View.read (Elt Ideal) arg4.view X4) hQ 3 (128 + 512 * k.val) _ _ (fun a b => (window_nat2 (View.read (Elt Ideal) arg4.view X4) hK _ _ 0 (128 * 3) rfl a b).trans (congrArg (fun z => ((nat2 (View.read (Elt Ideal) arg4.view X4) z (128 * 3 + b.val) : ℝ) : EReal)) (Nat.zero_add _))) (fun a b => window_nat2 (View.read (Elt Ideal) arg4.view X4) hK _ _ (128 + 512 * k.val) (128 * 3) (by first | exact k0_off59_at k | exact k0_off126_at k) a b) _ _ (by first | exact k0_off8_at k | exact k0_off28_at k | exact k0_off60_at k | exact k0_off75_at k | exact k0_off95_at k | exact k0_off127_at k | exact k0_off48_at k hc | exact k0_off115_at k hc))
          · exact (joined_apply (View.read (Elt Ideal) arg5.view X5) 3 (128 + 512 * k.val) _ _ (fun r a => (value_apply (View.read (Elt Ideal) arg5.view X5) hV 3 0 _ _ rfl r a).trans (congrArg (fun z => ((value (View.read (Elt Ideal) arg5.view X5) 3 r z : ℝ) : EReal)) (Nat.zero_add _))) (fun r a => value_apply (View.read (Elt Ideal) arg5.view X5) hV 3 (128 + 512 * k.val) _ _ (by first | exact k0_off63_at k | exact k0_off130_at k) r a))
          · exact h3
  · rename_i ha
    sl_exec
    split
    · sl_exec
      sl_for (fun (n : ℕ) (_ : PUnit) => Between4 c arg3 arg4 arg5 arg7 arg8 arg9 X3 X4 X5 k.val (2 * n)) $$ [H3 H4 H5 H7 H8 H9]
      case region =>
        intro j a
        exact pair4 c i arg2 harg2 arg3 harg3 arg4 harg4 arg5 harg5 arg6 harg6 arg7 harg7 arg8 harg8 arg9 harg9 X3 X4 X5 hQ hK hV k _ _ j
      · isplitl [H3]; · iexact H3
        isplitl [H4]; · iexact H4
        isplitl [H5]; · iexact H5
        iexists _; iexists _; iexists _
        isplitr; swap
        · isplitl [H7]; · iexact H7
          isplitl [H8]; · iexact H8
          iexact H9
        ipureintro
        sl_unfold_run_names
        simp only [k0_pay171, k0_pay172, k0_pay173]
        simp only [load_window, load_cov, store_put, store_none, put_same2, put_same3, heads_apart, sums_apart, rows_inside, put_whole, put_whole3, put_wholeA, window_whole, shapeCast_self, ne_eq, OfNat.ofNat_ne_zero, OfNat.zero_ne_ofNat, OfNat.one_ne_ofNat, OfNat.ofNat_ne_one, zero_ne_one, one_ne_zero, not_false_eq_true, Nat.reduceAdd, Nat.reduceSub, Nat.reduceLeDiff, Nat.reduceEqDiff, _root_.or_true, _root_.true_or, _root_.and_self, _root_.and_true]
        exact ⟨first_scaled _ _ _ _ _ _ (fun y => rfl) (fun y => Ideal.ofBits_zero_f32), fun a b => scores_apply (View.read (Elt Ideal) arg3.view X3) (View.read (Elt Ideal) arg4.view X4) hQ hK 0 (128 + 512 * k.val) (128 + 512 * (2 * 0)) _ _ rfl _ _ (by first | exact k0_off1_at k | exact k0_off11_at k | exact k0_off31_at k | exact k0_off68_at k | exact k0_off78_at k | exact k0_off98_at k | exact k0_off51_at k hc | exact k0_off118_at k hc) a b⟩
      · iintro %a ⟨G3, G4, G5, ⟨%g7, %g8, %g9, %hS, G7, G8, G9⟩⟩
        sl_exec
        sl_for0 (rest5 k)
        by_cases hc : k0_cond4 k = 1#1
        · have hk := (odd4 k).mp hc
          rw [show 2 * (k0_t4_loop k).trips = k.val - 1 by rw [pairs4]; omega] at hS
          sl_exec (disch := sl_exact hc)
          sl_step
          isplitl [H2]; · iexact H2
          isplitl [G3]; · iexact G3
          isplitl [G4]; · iexact G4
          isplitl [G5]; · iexact G5
          isplitl [H6]; swap
          · isplitl [G7]; · iexists _; iexact G7
            isplitl [G8]; · iexists _; iexact G8
            iexists _; iexact G9
          iexists _; isplitr; swap
          · iexact H6
          ipureintro
          sl_unfold_run_names
          simp only [k0_pay244, k0_pay203, k0_pay202, k0_pay201, k0_pay194, k0_pay193, k0_pay192, k0_pay186, k0_pay185, k0_pay184, k0_pay183, k0_pay191, k0_pay182, k0_pay200, k0_pay188, k0_pay205, k0_pay196, k0_pay204, k0_pay199, k0_pay197, k0_pay190, k0_pay189, k0_pay187, k0_pay198, k0_pay195, k0_pay243, k0_pay242]
          simp only [load_window, load_cov, store_put, store_none, put_same2, put_same3, heads_apart, sums_apart, rows_inside, put_whole, put_whole3, put_wholeA, window_whole, shapeCast_self, ne_eq, OfNat.ofNat_ne_zero, OfNat.zero_ne_ofNat, OfNat.one_ne_ofNat, OfNat.ofNat_ne_one, zero_ne_one, one_ne_zero, not_false_eq_true, Nat.reduceAdd, Nat.reduceSub, Nat.reduceLeDiff, Nat.reduceEqDiff, _root_.or_true, _root_.true_or, _root_.and_self, _root_.and_true]
          obtain ⟨⟨h0, h1, h2, h3⟩, hA⟩ := hS
          refine done_step (View.read (Elt Ideal) arg3.view X3) (View.read (Elt Ideal) arg4.view X4) (View.read (Elt Ideal) arg5.view X5) _ (128 + 512 * k.val) _ (by omega) hD _ _ _ _ (by first | exact k0_off64_at k | exact k0_off131_at k) (by first | exact k0_off65_at k | exact k0_off132_at k) (by first | exact k0_off66_at k | exact k0_off133_at k) (by first | exact k0_off67_at k | exact k0_off134_at k) _ _ _ _ ?_ ?_ ?_ ?_
          · refine fun r j => part_scaled (upTo (128 + 512 * k.val)) (scoreAt (View.read (Elt Ideal) arg3.view X3) (View.read (Elt Ideal) arg4.view X4) 0 (128 + 512 * k.val)) (value (View.read (Elt Ideal) arg5.view X5) 0) _ _ (scaled_last _ _ k.val _ _ ?_ ?_ _ _ _ _ _ shapeCasts_S1x512_S1x1x512 _ _ _ ?_) (fun j y hy => hO 0 (by omega) y (by have := j.isLt; have := lt8 k; have := Finset.mem_Ico.mp hy; omega)) _ _ _ _ r j
            · exact (maskedA_apply (scoreAt (View.read (Elt Ideal) arg3.view X3) (View.read (Elt Ideal) arg4.view X4) 0 (128 + 512 * k.val)) (128 + 512 * k.val) _ _ (fun a b => (scores_apply (View.read (Elt Ideal) arg3.view X3) (View.read (Elt Ideal) arg4.view X4) hQ hK 0 (128 + 512 * k.val) 0 _ _ rfl _ _ (by first | exact k0_off1_at k | exact k0_off11_at k | exact k0_off31_at k | exact k0_off68_at k | exact k0_off78_at k | exact k0_off98_at k | exact k0_off51_at k hc | exact k0_off118_at k hc) a b).trans (congrArg (fun z => ((scoreAt (View.read (Elt Ideal) arg3.view X3) (View.read (Elt Ideal) arg4.view X4) 0 (128 + 512 * k.val) z b : ℝ) : EReal)) (Nat.zero_add _))) (fun a b => by simp only [load_window, load_cov, store_put, store_none, put_same2, put_same3, heads_apart, sums_apart, rows_inside, put_whole, put_whole3, put_wholeA, window_whole, shapeCast_self, ne_eq, OfNat.ofNat_ne_zero, OfNat.zero_ne_ofNat, OfNat.one_ne_ofNat, OfNat.ofNat_ne_one, zero_ne_one, one_ne_zero, not_false_eq_true, Nat.reduceAdd, Nat.reduceSub, Nat.reduceLeDiff, Nat.reduceEqDiff, _root_.or_true, _root_.true_or, _root_.and_self, _root_.and_true]; exact (fun a b => scores_apply (View.read (Elt Ideal) arg3.view X3) (View.read (Elt Ideal) arg4.view X4) hQ hK 0 (128 + 512 * k.val) (128 + 512 * k.val) _ _ (by first | exact k0_off117_at k hc) _ _ (by first | exact k0_off1_at k | exact k0_off11_at k | exact k0_off31_at k | exact k0_off68_at k | exact k0_off78_at k | exact k0_off98_at k | exact k0_off51_at k hc | exact k0_off118_at k hc) a b) a b))
            · exact (joined_apply (View.read (Elt Ideal) arg5.view X5) 0 (128 + 512 * k.val) _ _ (fun r a => (value_apply (View.read (Elt Ideal) arg5.view X5) hV 0 0 _ _ rfl r a).trans (congrArg (fun z => ((value (View.read (Elt Ideal) arg5.view X5) 0 r z : ℝ) : EReal)) (Nat.zero_add _))) (fun r a => value_apply (View.read (Elt Ideal) arg5.view X5) hV 0 (128 + 512 * k.val) _ _ (by first | exact k0_off58_at k | exact k0_off125_at k) r a))
            · exact scaled_whole_to _ _ (k.val - 1) k.val (by omega) _ _ (fun a b => hA a b) (fun r a => value_apply (View.read (Elt Ideal) arg5.view X5) hV 0 (128 + 512 * (k.val - 1)) _ _ (by first | exact k0_off113_at k hc) r a) _ _ _ _ _ shapeCasts_S1x512_S1x1x512 _ _ _ h0
          · refine fun r j => part_scaled (upTo (128 + 512 * k.val)) (scoreAt (View.read (Elt Ideal) arg3.view X3) (View.read (Elt Ideal) arg4.view X4) 1 (128 + 512 * k.val)) (value (View.read (Elt Ideal) arg5.view X5) 1) _ _ (scaled_last _ _ k.val _ _ ?_ ?_ _ _ _ _ _ shapeCasts_S1x512_S1x1x512 _ _ _ ?_) (fun j y hy => hO 1 (by omega) y (by have := j.isLt; have := lt8 k; have := Finset.mem_Ico.mp hy; omega)) _ _ _ _ r j
            · exact (maskedB_apply (View.read (Elt Ideal) arg3.view X3) (View.read (Elt Ideal) arg4.view X4) hQ 1 (128 + 512 * k.val) _ _ (fun a b => (window_nat2 (View.read (Elt Ideal) arg4.view X4) hK _ _ 0 (128 * 1) rfl a b).trans (congrArg (fun z => ((nat2 (View.read (Elt Ideal) arg4.view X4) z (128 * 1 + b.val) : ℝ) : EReal)) (Nat.zero_add _))) (fun a b => window_nat2 (View.read (Elt Ideal) arg4.view X4) hK _ _ (128 + 512 * k.val) (128 * 1) (by first | exact k0_off54_at k | exact k0_off121_at k) a b) _ _ (by first | exact k0_off3_at k | exact k0_off23_at k | exact k0_off55_at k | exact k0_off70_at k | exact k0_off90_at k | exact k0_off122_at k | exact k0_off43_at k hc | exact k0_off110_at k hc))
            · exact (joined_apply (View.read (Elt Ideal) arg5.view X5) 1 (128 + 512 * k.val) _ _ (fun r a => (value_apply (View.read (Elt Ideal) arg5.view X5) hV 1 0 _ _ rfl r a).trans (congrArg (fun z => ((value (View.read (Elt Ideal) arg5.view X5) 1 r z : ℝ) : EReal)) (Nat.zero_add _))) (fun r a => value_apply (View.read (Elt Ideal) arg5.view X5) hV 1 (128 + 512 * k.val) _ _ (by first | exact k0_off61_at k | exact k0_off128_at k) r a))
            · exact scaled_whole_to _ _ (k.val - 1) k.val (by omega) _ _ (fun a b => scores_apply (View.read (Elt Ideal) arg3.view X3) (View.read (Elt Ideal) arg4.view X4) hQ hK 1 (128 + 512 * k.val) (128 + 512 * (k.val - 1)) _ _ (by first | exact k0_off109_at k hc) _ _ (by first | exact k0_off3_at k | exact k0_off23_at k | exact k0_off55_at k | exact k0_off70_at k | exact k0_off90_at k | exact k0_off122_at k | exact k0_off43_at k hc | exact k0_off110_at k hc) a b) (fun r a => value_apply (View.read (Elt Ideal) arg5.view X5) hV 1 (128 + 512 * (k.val - 1)) _ _ (by first | exact k0_off116_at k hc) r a) _ _ _ _ _ shapeCasts_S1x512_S1x1x512 _ _ _ h1
          · refine fun r j => part_scaled (upTo (128 + 512 * k.val)) (scoreAt (View.read (Elt Ideal) arg3.view X3) (View.read (Elt Ideal) arg4.view X4) 2 (128 + 512 * k.val)) (value (View.read (Elt Ideal) arg5.view X5) 2) _ _ (scaled_last _ _ k.val _ _ ?_ ?_ _ _ _ _ _ shapeCasts_S1x512_S1x1x512 _ _ _ ?_) (fun j y hy => hO 2 (by omega) y (by have := j.isLt; have := lt8 k; have := Finset.mem_Ico.mp hy; omega)) _ _ _ _ r j
            · exact (maskedB_apply (View.read (Elt Ideal) arg3.view X3) (View.read (Elt Ideal) arg4.view X4) hQ 2 (128 + 512 * k.val) _ _ (fun a b => (window_nat2 (View.read (Elt Ideal) arg4.view X4) hK _ _ 0 (128 * 2) rfl a b).trans (congrArg (fun z => ((nat2 (View.read (Elt Ideal) arg4.view X4) z (128 * 2 + b.val) : ℝ) : EReal)) (Nat.zero_add _))) (fun a b => window_nat2 (View.read (Elt Ideal) arg4.view X4) hK _ _ (128 + 512 * k.val) (128 * 2) (by first | exact k0_off56_at k | exact k0_off123_at k) a b) _ _ (by first | exact k0_off5_at k | exact k0_off25_at k | exact k0_off57_at k | exact k0_off72_at k | exact k0_off92_at k | exact k0_off124_at k | exact k0_off45_at k hc | exact k0_off112_at k hc))
            · exact (joined_apply (View.read (Elt Ideal) arg5.view X5) 2 (128 + 512 * k.val) _ _ (fun r a => (value_apply (View.read (Elt Ideal) arg5.view X5) hV 2 0 _ _ rfl r a).trans (congrArg (fun z => ((value (View.read (Elt Ideal) arg5.view X5) 2 r z : ℝ) : EReal)) (Nat.zero_add _))) (fun r a => value_apply (View.read (Elt Ideal) arg5.view X5) hV 2 (128 + 512 * k.val) _ _ (by first | exact k0_off62_at k | exact k0_off129_at k) r a))
            · exact scaled_whole_to _ _ (k.val - 1) k.val (by omega) _ _ (fun a b => scores_apply (View.read (Elt Ideal) arg3.view X3) (View.read (Elt Ideal) arg4.view X4) hQ hK 2 (128 + 512 * k.val) (128 + 512 * (k.val - 1)) _ _ (by first | exact k0_off111_at k hc) _ _ (by first | exact k0_off5_at k | exact k0_off25_at k | exact k0_off57_at k | exact k0_off72_at k | exact k0_off92_at k | exact k0_off124_at k | exact k0_off45_at k hc | exact k0_off112_at k hc) a b) (fun r a => value_apply (View.read (Elt Ideal) arg5.view X5) hV 2 (128 + 512 * (k.val - 1)) _ _ (by first | exact k0_off119_at k hc) r a) _ _ _ _ _ shapeCasts_S1x512_S1x1x512 _ _ _ h2
          · refine fun r j => part_scaled (upTo (128 + 512 * k.val)) (scoreAt (View.read (Elt Ideal) arg3.view X3) (View.read (Elt Ideal) arg4.view X4) 3 (128 + 512 * k.val)) (value (View.read (Elt Ideal) arg5.view X5) 3) _ _ (scaled_last _ _ k.val _ _ ?_ ?_ _ _ _ _ _ shapeCasts_S1x512_S1x1x512 _ _ _ ?_) (fun j y hy => hO 3 (by omega) y (by have := j.isLt; have := lt8 k; have := Finset.mem_Ico.mp hy; omega)) _ _ _ _ r j
            · exact (maskedB_apply (View.read (Elt Ideal) arg3.view X3) (View.read (Elt Ideal) arg4.view X4) hQ 3 (128 + 512 * k.val) _ _ (fun a b => (window_nat2 (View.read (Elt Ideal) arg4.view X4) hK _ _ 0 (128 * 3) rfl a b).trans (congrArg (fun z => ((nat2 (View.read (Elt Ideal) arg4.view X4) z (128 * 3 + b.val) : ℝ) : EReal)) (Nat.zero_add _))) (fun a b => window_nat2 (View.read (Elt Ideal) arg4.view X4) hK _ _ (128 + 512 * k.val) (128 * 3) (by first | exact k0_off59_at k | exact k0_off126_at k) a b) _ _ (by first | exact k0_off8_at k | exact k0_off28_at k | exact k0_off60_at k | exact k0_off75_at k | exact k0_off95_at k | exact k0_off127_at k | exact k0_off48_at k hc | exact k0_off115_at k hc))
            · exact (joined_apply (View.read (Elt Ideal) arg5.view X5) 3 (128 + 512 * k.val) _ _ (fun r a => (value_apply (View.read (Elt Ideal) arg5.view X5) hV 3 0 _ _ rfl r a).trans (congrArg (fun z => ((value (View.read (Elt Ideal) arg5.view X5) 3 r z : ℝ) : EReal)) (Nat.zero_add _))) (fun r a => value_apply (View.read (Elt Ideal) arg5.view X5) hV 3 (128 + 512 * k.val) _ _ (by first | exact k0_off63_at k | exact k0_off130_at k) r a))
            · exact scaled_whole_to _ _ (k.val - 1) k.val (by omega) _ _ (fun a b => scores_apply (View.read (Elt Ideal) arg3.view X3) (View.read (Elt Ideal) arg4.view X4) hQ hK 3 (128 + 512 * k.val) (128 + 512 * (k.val - 1)) _ _ (by first | exact k0_off114_at k hc) _ _ (by first | exact k0_off8_at k | exact k0_off28_at k | exact k0_off60_at k | exact k0_off75_at k | exact k0_off95_at k | exact k0_off127_at k | exact k0_off48_at k hc | exact k0_off115_at k hc) a b) (fun r a => value_apply (View.read (Elt Ideal) arg5.view X5) hV 3 (128 + 512 * (k.val - 1)) _ _ (by first | exact k0_off120_at k hc) r a) _ _ _ _ _ shapeCasts_S1x512_S1x1x512 _ _ _ h3
        · have hk := mt (odd4 k).mpr hc
          rw [show 2 * (k0_t4_loop k).trips = k.val by rw [pairs4]; omega] at hS
          sl_exec (disch := sl_exact hc)
          sl_step
          isplitl [H2]; · iexact H2
          isplitl [G3]; · iexact G3
          isplitl [G4]; · iexact G4
          isplitl [G5]; · iexact G5
          isplitl [H6]; swap
          · isplitl [G7]; · iexists _; iexact G7
            isplitl [G8]; · iexists _; iexact G8
            iexists _; iexact G9
          iexists _; isplitr; swap
          · iexact H6
          ipureintro
          sl_unfold_run_names
          simp only [k0_pay244, k0_pay205, k0_pay196, k0_pay204, k0_pay201, k0_pay202, k0_pay200, k0_pay188, k0_pay199, k0_pay197, k0_pay192, k0_pay193, k0_pay191, k0_pay182, k0_pay198, k0_pay195, k0_pay190, k0_pay189, k0_pay184, k0_pay185, k0_pay183, k0_pay187, k0_pay243, k0_pay242]
          simp only [load_window, load_cov, store_put, store_none, put_same2, put_same3, heads_apart, sums_apart, rows_inside, put_whole, put_whole3, put_wholeA, window_whole, shapeCast_self, ne_eq, OfNat.ofNat_ne_zero, OfNat.zero_ne_ofNat, OfNat.one_ne_ofNat, OfNat.ofNat_ne_one, zero_ne_one, one_ne_zero, not_false_eq_true, Nat.reduceAdd, Nat.reduceSub, Nat.reduceLeDiff, Nat.reduceEqDiff, _root_.or_true, _root_.true_or, _root_.and_self, _root_.and_true]
          obtain ⟨⟨h0, h1, h2, h3⟩, hA⟩ := hS
          refine done_step (View.read (Elt Ideal) arg3.view X3) (View.read (Elt Ideal) arg4.view X4) (View.read (Elt Ideal) arg5.view X5) _ (128 + 512 * k.val) _ (by omega) hD _ _ _ _ (by first | exact k0_off64_at k | exact k0_off131_at k) (by first | exact k0_off65_at k | exact k0_off132_at k) (by first | exact k0_off66_at k | exact k0_off133_at k) (by first | exact k0_off67_at k | exact k0_off134_at k) _ _ _ _ ?_ ?_ ?_ ?_
          · refine fun r j => part_scaled (upTo (128 + 512 * k.val)) (scoreAt (View.read (Elt Ideal) arg3.view X3) (View.read (Elt Ideal) arg4.view X4) 0 (128 + 512 * k.val)) (value (View.read (Elt Ideal) arg5.view X5) 0) _ _ (scaled_last _ _ k.val _ _ ?_ ?_ _ _ _ _ _ shapeCasts_S1x512_S1x1x512 _ _ _ ?_) (fun j y hy => hO 0 (by omega) y (by have := j.isLt; have := lt8 k; have := Finset.mem_Ico.mp hy; omega)) _ _ _ _ r j
            · exact (maskedA_apply (scoreAt (View.read (Elt Ideal) arg3.view X3) (View.read (Elt Ideal) arg4.view X4) 0 (128 + 512 * k.val)) (128 + 512 * k.val) _ _ (fun a b => (scores_apply (View.read (Elt Ideal) arg3.view X3) (View.read (Elt Ideal) arg4.view X4) hQ hK 0 (128 + 512 * k.val) 0 _ _ rfl _ _ (by first | exact k0_off1_at k | exact k0_off11_at k | exact k0_off31_at k | exact k0_off68_at k | exact k0_off78_at k | exact k0_off98_at k | exact k0_off51_at k hc | exact k0_off118_at k hc) a b).trans (congrArg (fun z => ((scoreAt (View.read (Elt Ideal) arg3.view X3) (View.read (Elt Ideal) arg4.view X4) 0 (128 + 512 * k.val) z b : ℝ) : EReal)) (Nat.zero_add _))) (fun a b => by simp only [window_whole, load_window]; exact hA a b))
            · exact (joined_apply (View.read (Elt Ideal) arg5.view X5) 0 (128 + 512 * k.val) _ _ (fun r a => (value_apply (View.read (Elt Ideal) arg5.view X5) hV 0 0 _ _ rfl r a).trans (congrArg (fun z => ((value (View.read (Elt Ideal) arg5.view X5) 0 r z : ℝ) : EReal)) (Nat.zero_add _))) (fun r a => value_apply (View.read (Elt Ideal) arg5.view X5) hV 0 (128 + 512 * k.val) _ _ (by first | exact k0_off58_at k | exact k0_off125_at k) r a))
            · exact h0
          · refine fun r j => part_scaled (upTo (128 + 512 * k.val)) (scoreAt (View.read (Elt Ideal) arg3.view X3) (View.read (Elt Ideal) arg4.view X4) 1 (128 + 512 * k.val)) (value (View.read (Elt Ideal) arg5.view X5) 1) _ _ (scaled_last _ _ k.val _ _ ?_ ?_ _ _ _ _ _ shapeCasts_S1x512_S1x1x512 _ _ _ ?_) (fun j y hy => hO 1 (by omega) y (by have := j.isLt; have := lt8 k; have := Finset.mem_Ico.mp hy; omega)) _ _ _ _ r j
            · exact (maskedB_apply (View.read (Elt Ideal) arg3.view X3) (View.read (Elt Ideal) arg4.view X4) hQ 1 (128 + 512 * k.val) _ _ (fun a b => (window_nat2 (View.read (Elt Ideal) arg4.view X4) hK _ _ 0 (128 * 1) rfl a b).trans (congrArg (fun z => ((nat2 (View.read (Elt Ideal) arg4.view X4) z (128 * 1 + b.val) : ℝ) : EReal)) (Nat.zero_add _))) (fun a b => window_nat2 (View.read (Elt Ideal) arg4.view X4) hK _ _ (128 + 512 * k.val) (128 * 1) (by first | exact k0_off54_at k | exact k0_off121_at k) a b) _ _ (by first | exact k0_off3_at k | exact k0_off23_at k | exact k0_off55_at k | exact k0_off70_at k | exact k0_off90_at k | exact k0_off122_at k | exact k0_off43_at k hc | exact k0_off110_at k hc))
            · exact (joined_apply (View.read (Elt Ideal) arg5.view X5) 1 (128 + 512 * k.val) _ _ (fun r a => (value_apply (View.read (Elt Ideal) arg5.view X5) hV 1 0 _ _ rfl r a).trans (congrArg (fun z => ((value (View.read (Elt Ideal) arg5.view X5) 1 r z : ℝ) : EReal)) (Nat.zero_add _))) (fun r a => value_apply (View.read (Elt Ideal) arg5.view X5) hV 1 (128 + 512 * k.val) _ _ (by first | exact k0_off61_at k | exact k0_off128_at k) r a))
            · exact h1
          · refine fun r j => part_scaled (upTo (128 + 512 * k.val)) (scoreAt (View.read (Elt Ideal) arg3.view X3) (View.read (Elt Ideal) arg4.view X4) 2 (128 + 512 * k.val)) (value (View.read (Elt Ideal) arg5.view X5) 2) _ _ (scaled_last _ _ k.val _ _ ?_ ?_ _ _ _ _ _ shapeCasts_S1x512_S1x1x512 _ _ _ ?_) (fun j y hy => hO 2 (by omega) y (by have := j.isLt; have := lt8 k; have := Finset.mem_Ico.mp hy; omega)) _ _ _ _ r j
            · exact (maskedB_apply (View.read (Elt Ideal) arg3.view X3) (View.read (Elt Ideal) arg4.view X4) hQ 2 (128 + 512 * k.val) _ _ (fun a b => (window_nat2 (View.read (Elt Ideal) arg4.view X4) hK _ _ 0 (128 * 2) rfl a b).trans (congrArg (fun z => ((nat2 (View.read (Elt Ideal) arg4.view X4) z (128 * 2 + b.val) : ℝ) : EReal)) (Nat.zero_add _))) (fun a b => window_nat2 (View.read (Elt Ideal) arg4.view X4) hK _ _ (128 + 512 * k.val) (128 * 2) (by first | exact k0_off56_at k | exact k0_off123_at k) a b) _ _ (by first | exact k0_off5_at k | exact k0_off25_at k | exact k0_off57_at k | exact k0_off72_at k | exact k0_off92_at k | exact k0_off124_at k | exact k0_off45_at k hc | exact k0_off112_at k hc))
            · exact (joined_apply (View.read (Elt Ideal) arg5.view X5) 2 (128 + 512 * k.val) _ _ (fun r a => (value_apply (View.read (Elt Ideal) arg5.view X5) hV 2 0 _ _ rfl r a).trans (congrArg (fun z => ((value (View.read (Elt Ideal) arg5.view X5) 2 r z : ℝ) : EReal)) (Nat.zero_add _))) (fun r a => value_apply (View.read (Elt Ideal) arg5.view X5) hV 2 (128 + 512 * k.val) _ _ (by first | exact k0_off62_at k | exact k0_off129_at k) r a))
            · exact h2
          · refine fun r j => part_scaled (upTo (128 + 512 * k.val)) (scoreAt (View.read (Elt Ideal) arg3.view X3) (View.read (Elt Ideal) arg4.view X4) 3 (128 + 512 * k.val)) (value (View.read (Elt Ideal) arg5.view X5) 3) _ _ (scaled_last _ _ k.val _ _ ?_ ?_ _ _ _ _ _ shapeCasts_S1x512_S1x1x512 _ _ _ ?_) (fun j y hy => hO 3 (by omega) y (by have := j.isLt; have := lt8 k; have := Finset.mem_Ico.mp hy; omega)) _ _ _ _ r j
            · exact (maskedB_apply (View.read (Elt Ideal) arg3.view X3) (View.read (Elt Ideal) arg4.view X4) hQ 3 (128 + 512 * k.val) _ _ (fun a b => (window_nat2 (View.read (Elt Ideal) arg4.view X4) hK _ _ 0 (128 * 3) rfl a b).trans (congrArg (fun z => ((nat2 (View.read (Elt Ideal) arg4.view X4) z (128 * 3 + b.val) : ℝ) : EReal)) (Nat.zero_add _))) (fun a b => window_nat2 (View.read (Elt Ideal) arg4.view X4) hK _ _ (128 + 512 * k.val) (128 * 3) (by first | exact k0_off59_at k | exact k0_off126_at k) a b) _ _ (by first | exact k0_off8_at k | exact k0_off28_at k | exact k0_off60_at k | exact k0_off75_at k | exact k0_off95_at k | exact k0_off127_at k | exact k0_off48_at k hc | exact k0_off115_at k hc))
            · exact (joined_apply (View.read (Elt Ideal) arg5.view X5) 3 (128 + 512 * k.val) _ _ (fun r a => (value_apply (View.read (Elt Ideal) arg5.view X5) hV 3 0 _ _ rfl r a).trans (congrArg (fun z => ((value (View.read (Elt Ideal) arg5.view X5) 3 r z : ℝ) : EReal)) (Nat.zero_add _))) (fun r a => value_apply (View.read (Elt Ideal) arg5.view X5) hV 3 (128 + 512 * k.val) _ _ (by first | exact k0_off63_at k | exact k0_off130_at k) r a))
            · exact h3
    · rename_i hb; exact (some_branch _ ha hb).elim

end Cert.KernelIdeal.Val

end
-- ==== Proof.FoxVPoint.lean ====
module

public import proofs.«01_k».proof.Proof.Gen.KernelIdeal.Frame
public import proofs.«01_k».proof.Proof.Gen.KernelIdeal.Loops
public import proofs.«01_k».proof.Proof.FoxVTrip
public import Idealize.ShloMosaic.Lib.Pipeline.ValueKit
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal

open Idealize.ShloMosaic.VecWindow

local notation "𝕄" => MT nD τ sig Unit (Elt Ideal) ℕ (UR sig nD τ) ℕ

variable (c : Dev nD) (i : grid0.Coords) (arg2 : Memref sig .tc .smem S1 .i32) (harg2 : arg2.IsWhole) (arg3 : Memref sig .tc .vmem S512x4224 .bf16) (harg3 : arg3.IsWhole) (arg4 : Memref sig .tc .vmem S4224x512 .bf16) (harg4 : arg4.IsWhole) (arg5 : Memref sig .tc .vmem S320x4224 .bf16) (harg5 : arg5.IsWhole) (arg6 : Memref sig .tc .vmem S256x4224 .bf16) (harg6 : arg6.IsWhole) (arg7 : Memref sig .tc .vmem S4x1x512 .f32) (harg7 : arg7.IsWhole) (arg8 : Memref sig .tc .vmem S320x512 .f32) (harg8 : arg8.IsWhole) (arg9 : Memref sig .tc .vmem S512x512 .f32) (harg9 : arg9.IsWhole)

/-- The attention of one block: each head's quotient at each column. -/
def foxBlock (Q : Vec Ideal S512x4224 .bf16) (K : Vec Ideal S4224x512 .bf16) (V : Vec Ideal S320x4224 .bf16) : Vec Ideal S256x4224 .bf16 := fun y =>
  quot (Finset.Ico 112 ((y 1).val + 1)) (score Q K ((y 0).val / 64) (y 1).val) (value V ((y 0).val / 64)) ⟨(y 0).val % 64, by omega⟩

theorem block_of_done (Q : Vec Ideal S512x4224 .bf16) (K : Vec Ideal S4224x512 .bf16) (V : Vec Ideal S320x4224 .bf16) (O : Vec Ideal S256x4224 .bf16) (h : Done Q K V 4224 O) : O = foxBlock Q K V := by
  funext y
  have h0 : (y 0).val < 256 := (y 0).isLt
  have h1 : (y 1).val < 4224 := (y 1).isLt
  have e := h ⟨(y 0).val / 64, by omega⟩ ⟨(y 0).val % 64, by omega⟩ (y 1) h1
  refine Eq.trans (congrArg O (funext fun t => ?_)) e
  match t with
  | ⟨0, _⟩ => exact Fin.ext (by show (y 0).val = 64 * ((y 0).val / 64) + (y 0).val % 64; omega)
  | ⟨1, _⟩ => rfl

/-- Nothing is done before the first column. -/
theorem done_none (Q : Vec Ideal S512x4224 .bf16) (K : Vec Ideal S4224x512 .bf16) (V : Vec Ideal S320x4224 .bf16) (O : Vec Ideal S256x4224 .bf16) : Done Q K V 0 O := fun h r q hq => absurd hq (Nat.not_lt_zero _)

/-- The maxima's reset, read at a head. -/
theorem reset_max (x : Vec Ideal S4x1x512 .f32) (b : ℕ) (hb : b < 4) (v : Vec Ideal S4x1x128 .f32) (inb) : window (s := S4x1x512) (put (s := S4x1x512) x ![0, 0, 0] ![4, 1, 128] v) ![b, 0, 0] ![1, 1, 128] inb
    = fun y => v (ValueIdx.ix3 ⟨(y 0).val + b, by have := (y 0).isLt; have e : (y 0).val < 1 := this; omega⟩ (y 1) (y 2)) := by
  rw [window_put_of_inside (s := S4x1x512) x _ _ _ _ inb v (fun t => by match t with | ⟨0, _⟩ => exact ⟨Nat.zero_le _, by show b + 1 ≤ 0 + 4; omega⟩ | ⟨1, _⟩ => exact ⟨Nat.le_refl 0, Nat.le_refl _⟩ | ⟨2, _⟩ => exact ⟨Nat.le_refl 0, Nat.le_refl _⟩)]
  funext y
  refine congrArg v (funext fun t => Fin.ext ?_)
  match t with
  | ⟨0, _⟩ => show b - 0 + 1 * (y 0).val = (y 0).val + b; omega
  | ⟨1, _⟩ => show 0 - 0 + 1 * (y 1).val = (y 1).val; omega
  | ⟨2, _⟩ => show 0 - 0 + 1 * (y 2).val = (y 2).val; omega

/-- The sums' reset, read at a head. -/
theorem reset_sums (x : Vec Ideal S320x512 .f32) (b : ℕ) (hb : b + 80 ≤ 320) (v : Vec Ideal S320x128 .f32) (inb) : window (s := S320x512) (put (s := S320x512) x ![0, 0] ![320, 128] v) ![b, 0] ![80, 128] inb
    = fun y => v (ValueIdx.ix2 ⟨(y 0).val + b, by have := (y 0).isLt; have e : (y 0).val < 80 := this; omega⟩ (y 1)) := by
  rw [window_put_of_inside (s := S320x512) x _ _ _ _ inb v (fun t => by match t with | ⟨0, _⟩ => exact ⟨Nat.zero_le _, by show b + 80 ≤ 0 + 320; omega⟩ | ⟨1, _⟩ => exact ⟨Nat.le_refl 0, Nat.le_refl _⟩)]
  funext y
  refine congrArg v (funext fun t => Fin.ext ?_)
  match t with
  | ⟨0, _⟩ => show b - 0 + 1 * (y 0).val = (y 0).val + b; omega
  | ⟨1, _⟩ => show 0 - 0 + 1 * (y 1).val = (y 1).val; omega

variable (x2 : Vec Ideal S1 .i32) (x3 : Vec Ideal S512x4224 .bf16) (x4 : Vec Ideal S4224x512 .bf16) (x5 : Vec Ideal S320x4224 .bf16)
    (hQ : Real2 (a := 512) (b := 4224) x3) (hK : Real2 (a := 4224) (b := 512) x4) (hV : Real2 (a := 320) (b := 4224) x5)
    (hO : ∀ h < 4, ∀ k < 4224, value x5 h 64 k = 1)

include hQ hK hV hO in
/-- One grid point: the operands it reads are left as they were, the result block holds the attention. -/
theorem point :
    (iprop(owns c.tc arg2 fullShare x2
      ∗ owns c.tc arg3 fullShare x3
      ∗ owns c.tc arg4 fullShare x4
      ∗ owns c.tc arg5 fullShare x5
      ∗ (∃ d, owns c.tc arg6 fullShare d)
      ∗ (∃ d, owns c.tc arg7 fullShare d)
      ∗ (∃ d, owns c.tc arg8 fullShare d)
      ∗ (∃ d, owns c.tc arg9 fullShare d)) : sProp 𝕄)
    ⊢ wp frame (wpE (defs₀ (F := Ideal)) Variants.none c.tc none) Set.univ
        (cc0_fox (F := Ideal) i arg2 harg2 arg3 harg3 arg4 harg4 arg5 harg5 arg6 harg6 arg7 harg7 arg8 harg8 arg9 harg9)
        (fun _ => iprop(owns c.tc arg2 fullShare x2
      ∗ owns c.tc arg3 fullShare x3
      ∗ owns c.tc arg4 fullShare x4
      ∗ owns c.tc arg5 fullShare x5
      ∗ owns c.tc arg6 fullShare (foxBlock x3 x4 x5)
      ∗ (∃ d, owns c.tc arg7 fullShare d)
      ∗ (∃ d, owns c.tc arg8 fullShare d)
      ∗ (∃ d, owns c.tc arg9 fullShare d))) := by
  unfold cc0_fox owns
  iintro ⟨⟨%f2, %hf2, H2⟩, ⟨%f3, %hf3, H3⟩, ⟨%f4, %hf4, H4⟩, ⟨%f5, %hf5, H5⟩, ⟨%d6, %f6, %hf6, H6⟩, ⟨%d7, %f7, %hf7, H7⟩, ⟨%d8, %f8, %hf8, H8⟩, ⟨%d9, %f9, %hf9, H9⟩⟩
  subst hf3 hf4 hf5
  sl_exec
  sl_for (fun (n : ℕ) (_ : PUnit) => Held c arg2 arg3 arg4 arg5 arg6 arg7 arg8 arg9 f2 f3 f4 f5 n) $$ [H2 H3 H4 H5 H6 H7 H8 H9]
  case region =>
    intro j a
    exact trip c i arg2 harg2 arg3 harg3 arg4 harg4 arg5 harg5 arg6 harg6 arg7 harg7 arg8 harg8 arg9 harg9 f2 f3 f4 f5 hQ hK hV hO j
  · isplitl [H2]; · iexact H2
    isplitl [H3]; · iexact H3
    isplitl [H4]; · iexact H4
    isplitl [H5]; · iexact H5
    isplitl [H6]; swap
    · isplitl [H7]; · iexists _; iexact H7
      isplitl [H8]; · iexists _; iexact H8
      iexists _; iexact H9
    iexists _; isplitr; swap
    · iexact H6
    ipureintro
    sl_unfold_run_names
    simp only [k0_pay240, k0_pay236, k0_pay233, k0_pay230, k0_pay229, k0_pay228, k0_pay224, k0_pay223, k0_pay222, k0_pay218, k0_pay216, k0_pay215, k0_pay211, k0_pay214, k0_pay221, k0_pay227, k0_pay234, k0_pay232, k0_pay231, k0_pay226, k0_pay225, k0_pay220, k0_pay217, k0_pay212, k0_pay219, k0_pay239, k0_pay238, k0_pay237]
    simp only [load_window, load_cov, store_put, store_none, put_same2, put_same3, heads_apart, sums_apart, rows_inside, put_whole, put_whole3, put_wholeA, window_whole, shapeCast_self, ne_eq, OfNat.ofNat_ne_zero, OfNat.zero_ne_ofNat, OfNat.one_ne_ofNat, OfNat.ofNat_ne_one, zero_ne_one, one_ne_zero, not_false_eq_true, Nat.reduceAdd, Nat.reduceSub, Nat.reduceLeDiff, Nat.reduceEqDiff, _root_.or_true, _root_.true_or, _root_.and_self, _root_.and_true, reset_max, reset_sums, Nat.reduceLT]
    refine done_step (View.read (Elt Ideal) arg3.view f3) (View.read (Elt Ideal) arg4.view f4) (View.read (Elt Ideal) arg5.view f5) _ 0 _ (by omega) (done_none _ _ _ _) _ _ _ _ rfl rfl rfl rfl _ _ _ _ ?_ ?_ ?_ ?_
    · exact fun r j => part_scaled (upTo 0) (scoreAt (View.read (Elt Ideal) arg3.view f3) (View.read (Elt Ideal) arg4.view f4) 0 0) (value (View.read (Elt Ideal) arg5.view f5) 0) _ _ (scaled_lead _ _ _ _ (maskedLead_apply (scoreAt (View.read (Elt Ideal) arg3.view f3) (View.read (Elt Ideal) arg4.view f4) 0 0) _ (fun a b => (scores_apply (View.read (Elt Ideal) arg3.view f3) (View.read (Elt Ideal) arg4.view f4) hQ hK 0 0 0 _ _ rfl _ _ rfl a b).trans (congrArg (fun z => ((scoreAt (View.read (Elt Ideal) arg3.view f3) (View.read (Elt Ideal) arg4.view f4) 0 0 z b : ℝ) : EReal)) (Nat.zero_add _)))) (fun r a => (value_apply (View.read (Elt Ideal) arg5.view f5) hV 0 0 _ _ rfl r a).trans (congrArg (fun z => ((value (View.read (Elt Ideal) arg5.view f5) 0 r z : ℝ) : EReal)) (Nat.zero_add _))) _ _ _ _ _ shapeCasts_S1x128_S1x1x128 _ _ _ (scaled_none _ (fun _ => rfl) _ _ _ _ (fun j => congrFun (reset_max _ 0 (by omega) _ _) _) (fun r j => (congrFun (reset_sums _ 0 (by omega) _ _) _).trans Ideal.ofBits_zero_f32))) (fun j y hy => hO 0 (by omega) y (by have := j.isLt; have := Finset.mem_Ico.mp hy; omega)) _ _ _ _ r j
    · exact fun r j => part_scaled (upTo 0) (scoreAt (View.read (Elt Ideal) arg3.view f3) (View.read (Elt Ideal) arg4.view f4) 1 0) (value (View.read (Elt Ideal) arg5.view f5) 1) _ _ (scaled_lead _ _ _ _ (maskedLead_apply (scoreAt (View.read (Elt Ideal) arg3.view f3) (View.read (Elt Ideal) arg4.view f4) 1 0) _ (fun a b => (scores_apply (View.read (Elt Ideal) arg3.view f3) (View.read (Elt Ideal) arg4.view f4) hQ hK 1 0 0 _ _ rfl _ _ rfl a b).trans (congrArg (fun z => ((scoreAt (View.read (Elt Ideal) arg3.view f3) (View.read (Elt Ideal) arg4.view f4) 1 0 z b : ℝ) : EReal)) (Nat.zero_add _)))) (fun r a => (value_apply (View.read (Elt Ideal) arg5.view f5) hV 1 0 _ _ rfl r a).trans (congrArg (fun z => ((value (View.read (Elt Ideal) arg5.view f5) 1 r z : ℝ) : EReal)) (Nat.zero_add _))) _ _ _ _ _ shapeCasts_S1x128_S1x1x128 _ _ _ (scaled_none _ (fun _ => rfl) _ _ _ _ (fun j => congrFun (reset_max _ 1 (by omega) _ _) _) (fun r j => (congrFun (reset_sums _ 80 (by omega) _ _) _).trans Ideal.ofBits_zero_f32))) (fun j y hy => hO 1 (by omega) y (by have := j.isLt; have := Finset.mem_Ico.mp hy; omega)) _ _ _ _ r j
    · exact fun r j => part_scaled (upTo 0) (scoreAt (View.read (Elt Ideal) arg3.view f3) (View.read (Elt Ideal) arg4.view f4) 2 0) (value (View.read (Elt Ideal) arg5.view f5) 2) _ _ (scaled_lead _ _ _ _ (maskedLead_apply (scoreAt (View.read (Elt Ideal) arg3.view f3) (View.read (Elt Ideal) arg4.view f4) 2 0) _ (fun a b => (scores_apply (View.read (Elt Ideal) arg3.view f3) (View.read (Elt Ideal) arg4.view f4) hQ hK 2 0 0 _ _ rfl _ _ rfl a b).trans (congrArg (fun z => ((scoreAt (View.read (Elt Ideal) arg3.view f3) (View.read (Elt Ideal) arg4.view f4) 2 0 z b : ℝ) : EReal)) (Nat.zero_add _)))) (fun r a => (value_apply (View.read (Elt Ideal) arg5.view f5) hV 2 0 _ _ rfl r a).trans (congrArg (fun z => ((value (View.read (Elt Ideal) arg5.view f5) 2 r z : ℝ) : EReal)) (Nat.zero_add _))) _ _ _ _ _ shapeCasts_S1x128_S1x1x128 _ _ _ (scaled_none _ (fun _ => rfl) _ _ _ _ (fun j => congrFun (reset_max _ 2 (by omega) _ _) _) (fun r j => (congrFun (reset_sums _ 160 (by omega) _ _) _).trans Ideal.ofBits_zero_f32))) (fun j y hy => hO 2 (by omega) y (by have := j.isLt; have := Finset.mem_Ico.mp hy; omega)) _ _ _ _ r j
    · exact fun r j => part_scaled (upTo 0) (scoreAt (View.read (Elt Ideal) arg3.view f3) (View.read (Elt Ideal) arg4.view f4) 3 0) (value (View.read (Elt Ideal) arg5.view f5) 3) _ _ (scaled_lead _ _ _ _ (maskedLead_apply (scoreAt (View.read (Elt Ideal) arg3.view f3) (View.read (Elt Ideal) arg4.view f4) 3 0) _ (fun a b => (scores_apply (View.read (Elt Ideal) arg3.view f3) (View.read (Elt Ideal) arg4.view f4) hQ hK 3 0 0 _ _ rfl _ _ rfl a b).trans (congrArg (fun z => ((scoreAt (View.read (Elt Ideal) arg3.view f3) (View.read (Elt Ideal) arg4.view f4) 3 0 z b : ℝ) : EReal)) (Nat.zero_add _)))) (fun r a => (value_apply (View.read (Elt Ideal) arg5.view f5) hV 3 0 _ _ rfl r a).trans (congrArg (fun z => ((value (View.read (Elt Ideal) arg5.view f5) 3 r z : ℝ) : EReal)) (Nat.zero_add _))) _ _ _ _ _ shapeCasts_S1x128_S1x1x128 _ _ _ (scaled_none _ (fun _ => rfl) _ _ _ _ (fun j => congrFun (reset_max _ 3 (by omega) _ _) _) (fun r j => (congrFun (reset_sums _ 240 (by omega) _ _) _).trans Ideal.ofBits_zero_f32))) (fun j y hy => hO 3 (by omega) y (by have := j.isLt; have := Finset.mem_Ico.mp hy; omega)) _ _ _ _ r j

  · iintro %a ⟨G2, G3, G4, G5, ⟨%g6, %hD, G6⟩, ⟨%g7, G7⟩, ⟨%g8, G8⟩, ⟨%g9, G9⟩⟩
    sl_exec
    sl_step
    isplitl [G2]
    · iexists f2; isplitr
      · ipureintro; exact hf2
      · iexact G2
    isplitl [G3]
    · iexists f3; isplitr
      · ipureintro; rfl
      · iexact G3
    isplitl [G4]
    · iexists f4; isplitr
      · ipureintro; rfl
      · iexact G4
    isplitl [G5]
    · iexists f5; isplitr
      · ipureintro; rfl
      · iexact G5
    isplitl [G6]
    · iexists _; isplitr; swap
      · iexact G6
      · ipureintro; exact block_of_done _ _ _ _ hD
    isplitl [G7]
    · iexists _; iexists _; isplitr; swap
      · iexact G7
      · ipureintro; rfl
    isplitl [G8]
    · iexists _; iexists _; isplitr; swap
      · iexact G8
      · ipureintro; rfl
    iexists _; iexists _; isplitr; swap
    · iexact G9
    · ipureintro; rfl

end Cert.KernelIdeal.Val

end
-- ==== Proof.FoxVBody.lean ====
module

public import proofs.«01_k».proof.Proof.FoxVPoint
public import proofs.«01_k».proof.Proof.Gen.KernelIdeal.Points

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

local notation "𝕄" => MT nD τ sig Unit (Elt Ideal) ℕ (UR sig nD τ) ℕ

/-! # The attention kernel's launch, its result named

Every window is named at every point: the result's block holds the attention of the point's queries, keys and values. -/

variable (m : (ℓ : Loc nD τ sig) → Buf (Elt Ideal) ℓ) (ρ : Dev nD → PrngReg)

abbrev sc0 : Memref sig .tc .vmem S4x1x512 .f32 := Memref.whole cc0_scratch0
abbrev sc1 : Memref sig .tc .vmem S320x512 .f32 := Memref.whole cc0_scratch1
abbrev sc2 : Memref sig .tc .vmem S512x512 .f32 := Memref.whole cc0_scratch2

/-- The region's three scratch buffers at anything. -/
theorem PhiA0_eq (c : Dev nD) :
    (Pipeline.ΦA spec0 c : sProp 𝕄)
      = iprop(iprop((∃ d, owns c.tc sc0 fullShare d) ∗ (∃ d, owns c.tc sc1 fullShare d)
          ∗ (∃ d, owns c.tc sc2 fullShare d)) ∗ (∃ r, prngReg c r)) := by
  unfold Pipeline.ΦA; rw [scopedRest0_eq]; simp only [sc0, sc1, sc2, owns_whole]; try rfl

/-- What a grid point leaves in the result's block. -/
abbrev blockOut (c : Dev nD) (t : Fin cfg0.N) : Vec Ideal S256x4224 .bf16 := foxBlock (iblk m c 1 t) (iblk m c 2 t) (iblk m c 3 t)

/-- The operands' blocks hold real numbers, and the values' sixty-fifth row holds ones. -/
structure BlocksOk (c : Dev nD) (t : Fin cfg0.N) : Prop where
  q : Real2 (a := 512) (b := 4224) (iblk m c 1 t)
  k : Real2 (a := 4224) (b := 512) (iblk m c 2 t)
  v : Real2 (a := 320) (b := 4224) (iblk m c 3 t)
  one : ∀ h < 4, ∀ k < 4224, value (iblk m c 3 t) h 64 k = 1

/-- The pipeline's proof data: every input's buffer holds its block, the result's the attention of the blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockOut m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = blockOut m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

abbrev ms0 (t : Fin cfg0.N) : Memref sig .tc .smem S1 .i32 := win0_0.stage (cfg0.slots t 0)
abbrev ms1 (t : Fin cfg0.N) : Memref sig .tc .vmem S512x4224 .bf16 := win0_1.stage (cfg0.slots t 1)
abbrev ms2 (t : Fin cfg0.N) : Memref sig .tc .vmem S4224x512 .bf16 := win0_2.stage (cfg0.slots t 2)
abbrev ms3 (t : Fin cfg0.N) : Memref sig .tc .vmem S320x4224 .bf16 := win0_3.stage (cfg0.slots t 3)
abbrev ms4 (t : Fin cfg0.N) : Memref sig .tc .vmem S256x4224 .bf16 := win0_4.stage (cfg0.slots t 4)

/-- What the body is called with at point `t`, -/
def bodyPre (c : Dev nD) (t : Fin cfg0.N) : sProp 𝕄 :=
  iprop(Pipeline.ΦA spec0 c ∗ (dats m 0 c).owesAt () t.castSucc
    ∗ (∃ d, owns c.tc (ms0 t) fullShare ((dats m 0 c).before 0 t d))
    ∗ (∃ d, owns c.tc (ms1 t) fullShare ((dats m 0 c).before 1 t d))
    ∗ (∃ d, owns c.tc (ms2 t) fullShare ((dats m 0 c).before 2 t d))
    ∗ (∃ d, owns c.tc (ms3 t) fullShare ((dats m 0 c).before 3 t d))
    ∗ (∃ d, owns c.tc (ms4 t) fullShare ((dats m 0 c).before 4 t d)))
/-- and what it leaves. -/
def bodyPost (c : Dev nD) (t : Fin cfg0.N) : sProp 𝕄 :=
  iprop(Pipeline.ΦA spec0 c ∗ (dats m 0 c).owesAt () t.succ
    ∗ owns c.tc (ms0 t) fullShare (iblk m c 0 t)
    ∗ owns c.tc (ms1 t) fullShare (iblk m c 1 t)
    ∗ owns c.tc (ms2 t) fullShare (iblk m c 2 t)
    ∗ owns c.tc (ms3 t) fullShare (iblk m c 3 t)
    ∗ owns c.tc (ms4 t) fullShare (blockOut m c t))

/-- The body at any point. -/
theorem sound_body (c : Dev nD) (t : Fin cfg0.N) (hb : BlocksOk m c t) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl, PhiA0_eq]
  iintro ⟨⟨⟨⟨%g0, S0⟩, ⟨%g1, S1⟩, ⟨%g2, S2⟩⟩, Hg⟩, Ho, ⟨%d0, H0⟩, ⟨%d1, H1⟩, ⟨%d2, H2⟩, ⟨%d3, H3⟩, ⟨%d4, H4⟩⟩
  iapply (wp_wand_r Idealize.ShloMosaic.frame (wpE (defs₀ (F := Ideal)) Variants.none c.tc none) Set.univ)
  isplitl [H0 H1 H2 H3 H4 S0 S1 S2]
  · iapply (point c (grid0.coords t) _ _ _ _ _ _ _ _ _ _ _ _ _ _ _ _ (iblk m c 0 t) (iblk m c 1 t) (iblk m c 2 t) (iblk m c 3 t) hb.q hb.k hb.v hb.one)
    isplitl [H0]; · iexact H0
    isplitl [H1]; · iexact H1
    isplitl [H2]; · iexact H2
    isplitl [H3]; · iexact H3
    isplitl [H4]; · iexists _; iexact H4
    isplitl [S0]; · iexists _; iexact S0
    isplitl [S1]; · iexists _; iexact S1
    iexists _; iexact S2
  · iintro %_ ⟨H0, H1, H2, H3, H4, ⟨%e0, S0⟩, ⟨%e1, S1⟩, ⟨%e2, S2⟩⟩
    isplitl [S0 S1 S2 Hg]
    · isplitl [S0 S1 S2]
      · isplitl [S0]; · iexists _; iexact S0
        isplitl [S1]; · iexists _; iexact S1
        iexists _; iexact S2
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) : defs₀ (F := Ideal) .tc cfg0.body (cfg0.bodyArgs t (cfg0.slots t)) = bodyAt0 t := by
  unfold defs₀; rw [Defs.onTc_tc]

theorem body_obligation (c : Dev nD) (hb : ∀ t, BlocksOk m c t) : BodyObligation (dats m 0 c) (defs₀ (F := Ideal)) Variants.none () Set.univ := fun t => by
  rw [bigSep_W0, bigSep_W0, defs₀_row]
  exact triple_restated (sound_body m c t (hb t)) rfl .rfl fun _ => .rfl

/-! ## The launch -/

set_option backward.isDefEq.respectTransparency.types false in
/-- Every execution ends, with every array at what the points left in it. -/
theorem run_main (hb : ∀ c t, BlocksOk m c t) : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c (hb c)).loose) (hshare := fun c w => by fin_cases w <;> rfl)
    (howed := fun _ _ => rfl) (V := V m) (hmain := hmain m Variants.none) (hA := A_eq m) (hΦ := fun _ _ => rfl)

/-- The argument arrays end unchanged. -/
theorem unchanged (hb : ∀ c t, BlocksOk m c t) : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run_main m ρ hb))

end Cert.KernelIdeal.Val

end
-- ==== Proof.FoxVOut.lean ====
module

public import proofs.«01_k».proof.Proof.FoxVBody
public import Idealize.ShloMosaic.Lib.Pipeline.ValueKit

@[expose] public section

set_option maxRecDepth 16384

noncomputable section

namespace Cert.KernelIdeal.Val

open Idealize.ShloMosaic hiding ix1 ix2 ix3 eq_ix2 eq_ix3 truncf_apply
open Idealize.ShloMosaic.TcCoe Idealize.ShloMosaic.Tactic
open Idealize.ShloMosaic.ValueIdx
open Idealize.ShloMosaic.Pipeline (Dat Cfg Window)
open Cert.KernelIdeal.Gen

/-! # The attention kernel's result array, in terms of its arguments -/

variable (m : (ℓ : Loc nD τ sig) → Buf (Elt Ideal) ℓ) (ρ : Dev nD → PrngReg) (c : Dev nD)

abbrev A1 : (⟨S1024x16896, .bf16⟩ : BufTy).Contents (Elt Ideal) := m ((c.tc : Thread nD τ).loc main_arg1)
abbrev A2 : (⟨S16896x1024, .bf16⟩ : BufTy).Contents (Elt Ideal) := m ((c.tc : Thread nD τ).loc main_arg2)
abbrev A3 : (⟨S640x16896, .bf16⟩ : BufTy).Contents (Elt Ideal) := m ((c.tc : Thread nD τ).loc main_arg3)

/-- The score of key `k` against query `q`, for head `h` of batch `b`. -/
def headScore (Q : FVec Ideal ⟨2, ![1024, 16896]⟩ .bf16) (K : FVec Ideal ⟨2, ![16896, 1024]⟩ .bf16) (b h q k : ℕ) : ℝ :=
  ∑ a : Fin 128, nat2 K (4224 * b + k) (128 * h + a.val) * nat2 Q (128 * h + a.val) (4224 * b + q)

/-- Row `r` of the values of head `h` of batch `b`. -/
def headValue (W : FVec Ideal ⟨2, ![640, 16896]⟩ .bf16) (b h : ℕ) (r : Fin 80) (k : ℕ) : ℝ := nat2 W (80 * h + r.val) (4224 * b + k)

/-- One element of the attention: row `R` and column `C` of the result. -/
def headOut (Q : FVec Ideal ⟨2, ![1024, 16896]⟩ .bf16) (K : FVec Ideal ⟨2, ![16896, 1024]⟩ .bf16) (W : FVec Ideal ⟨2, ![640, 16896]⟩ .bf16) (R C : ℕ) : EReal :=
  quot (Finset.Ico 112 (C % 4224 + 1)) (headScore Q K (C / 4224) (R / 64) (C % 4224)) (headValue W (C / 4224) (R / 64)) ⟨R % 64, by omega⟩

/-- What the arguments must hold: real numbers, and ones in every head's sixty-fifth row of the values. -/
structure ArgsOk (Q : FVec Ideal ⟨2, ![1024, 16896]⟩ .bf16) (K : FVec Ideal ⟨2, ![16896, 1024]⟩ .bf16) (W : FVec Ideal ⟨2, ![640, 16896]⟩ .bf16) : Prop where
  q : Real2 Q
  k : Real2 K
  v : Real2 W
  one : ∀ h < 8, ∀ k < 16896, nat2 W (80 * h + 64) k = 1

/-! ## The blocks of a grid point -/

theorem idx1 : ∀ t : Fin grid0.N, win0_1.index t 0 = t.val % 2 ∧ win0_1.index t 1 = t.val / 2 := by decide +kernel
theorem idx2 : ∀ t : Fin grid0.N, win0_2.index t 0 = t.val / 2 ∧ win0_2.index t 1 = t.val % 2 := by decide +kernel
theorem idx3 : ∀ t : Fin grid0.N, win0_3.index t 0 = t.val % 2 ∧ win0_3.index t 1 = t.val / 2 := by decide +kernel
theorem idx4 : ∀ t : Fin grid0.N, win0_4.index t 0 = t.val % 2 ∧ win0_4.index t 1 = t.val / 2 := by decide +kernel

theorem point_lt (t : Fin cfg0.N) : t.val < 8 := lt_of_lt_of_eq t.isLt (show cfg0.N = 8 from N_0)

theorem blk1 (t : Fin cfg0.N) (i : Fin 512) (j : Fin 4224) : (iblk m c 1 t : FVec Ideal ⟨2, ![512, 4224]⟩ .bf16) (ix2 i j)
    = A1 m c (ix2 (⟨512 * (t.val % 2) + i.val, by omega⟩ : Fin 1024) (⟨4224 * (t.val / 2) + j.val, by have := point_lt t; omega⟩ : Fin 16896)) := by
  blk_simp [iblk]
  rw [V_main_arg1]
  refine congrArg (A1 m c) (funext fun a => Fin.ext ?_)
  match a with
  | ⟨0, _⟩ => show win0_1.index t 0 * 512 + 1 * i.val = 512 * (t.val % 2) + i.val; rw [(idx1 t).1]; omega
  | ⟨1, _⟩ => show win0_1.index t 1 * 4224 + 1 * j.val = 4224 * (t.val / 2) + j.val; rw [(idx1 t).2]; omega

theorem blk2 (t : Fin cfg0.N) (i : Fin 4224) (j : Fin 512) : (iblk m c 2 t : FVec Ideal ⟨2, ![4224, 512]⟩ .bf16) (ix2 i j)
    = A2 m c (ix2 (⟨4224 * (t.val / 2) + i.val, by have := point_lt t; omega⟩ : Fin 16896) (⟨512 * (t.val % 2) + j.val, by omega⟩ : Fin 1024)) := by
  blk_simp [iblk]
  rw [V_main_arg2]
  refine congrArg (A2 m c) (funext fun a => Fin.ext ?_)
  match a with
  | ⟨0, _⟩ => show win0_2.index t 0 * 4224 + 1 * i.val = 4224 * (t.val / 2) + i.val; rw [(idx2 t).1]; omega
  | ⟨1, _⟩ => show win0_2.index t 1 * 512 + 1 * j.val = 512 * (t.val % 2) + j.val; rw [(idx2 t).2]; omega

theorem blk3 (t : Fin cfg0.N) (i : Fin 320) (j : Fin 4224) : (iblk m c 3 t : FVec Ideal ⟨2, ![320, 4224]⟩ .bf16) (ix2 i j)
    = A3 m c (ix2 (⟨320 * (t.val % 2) + i.val, by omega⟩ : Fin 640) (⟨4224 * (t.val / 2) + j.val, by have := point_lt t; omega⟩ : Fin 16896)) := by
  blk_simp [iblk]
  rw [V_main_arg3]
  refine congrArg (A3 m c) (funext fun a => Fin.ext ?_)
  match a with
  | ⟨0, _⟩ => show win0_3.index t 0 * 320 + 1 * i.val = 320 * (t.val % 2) + i.val; rw [(idx3 t).1]; omega
  | ⟨1, _⟩ => show win0_3.index t 1 * 4224 + 1 * j.val = 4224 * (t.val / 2) + j.val; rw [(idx3 t).2]; omega

/-- An element of a block that is an element of an array. -/
theorem nat2_block {a b a' b' : ℕ} (x : (⟨2, ![a, b]⟩ : Shape).Idx → EReal) (y : (⟨2, ![a', b']⟩ : Shape).Idx → EReal) (i j i' j' : ℕ)
    (hi : i < a) (hj : j < b) (hi' : i' < a') (hj' : j' < b') (h : x (ix2 ⟨i, hi⟩ ⟨j, hj⟩) = y (ix2 ⟨i', hi'⟩ ⟨j', hj'⟩)) : nat2 x i j = nat2 y i' j' := by
  unfold nat2
  rw [dif_pos ⟨hi, hj⟩, dif_pos ⟨hi', hj'⟩, h]

theorem nat1 (t : Fin cfg0.N) (i j i' j' : ℕ) (hi : i < 512) (hj : j < 4224) (e : i' = 512 * (t.val % 2) + i) (e' : j' = 4224 * (t.val / 2) + j) :
    nat2 (a := 512) (b := 4224) (iblk m c 1 t) i j = nat2 (a := 1024) (b := 16896) (A1 m c) i' j' := by
  subst e e'
  have := point_lt t
  exact nat2_block _ _ _ _ _ _ hi hj (by omega) (by omega) (blk1 m c t ⟨i, hi⟩ ⟨j, hj⟩)

theorem nat2' (t : Fin cfg0.N) (i j i' j' : ℕ) (hi : i < 4224) (hj : j < 512) (e : i' = 4224 * (t.val / 2) + i) (e' : j' = 512 * (t.val % 2) + j) :
    nat2 (a := 4224) (b := 512) (iblk m c 2 t) i j = nat2 (a := 16896) (b := 1024) (A2 m c) i' j' := by
  subst e e'
  have := point_lt t
  exact nat2_block _ _ _ _ _ _ hi hj (by omega) (by omega) (blk2 m c t ⟨i, hi⟩ ⟨j, hj⟩)

theorem nat3 (t : Fin cfg0.N) (i j i' j' : ℕ) (hi : i < 320) (hj : j < 4224) (e : i' = 320 * (t.val % 2) + i) (e' : j' = 4224 * (t.val / 2) + j) :
    nat2 (a := 320) (b := 4224) (iblk m c 3 t) i j = nat2 (a := 640) (b := 16896) (A3 m c) i' j' := by
  subst e e'
  have := point_lt t
  exact nat2_block _ _ _ _ _ _ hi hj (by omega) (by omega) (blk3 m c t ⟨i, hi⟩ ⟨j, hj⟩)

/-- A block of an array of real numbers holds real numbers. -/
theorem real2_of {a b a' b' : ℕ} {x : (⟨2, ![a, b]⟩ : Shape).Idx → EReal} {y : (⟨2, ![a', b']⟩ : Shape).Idx → EReal} (h : ∀ i j, ∃ z, x (ix2 i j) = y z) (hy : Real2 y) : Real2 x := by
  intro i
  obtain ⟨z, hz⟩ := h (i 0) (i 1)
  have e : x i = y z := (congrArg x (eq_ix2 i)).trans hz
  rw [e]
  exact hy z

/-- Arguments that are fit make every block fit. -/
theorem blocksOk (h : ArgsOk (A1 m c) (A2 m c) (A3 m c)) (t : Fin cfg0.N) : BlocksOk m c t where
  q := real2_of (fun i j => ⟨_, blk1 m c t i j⟩) h.q
  k := real2_of (fun i j => ⟨_, blk2 m c t i j⟩) h.k
  v := real2_of (fun i j => ⟨_, blk3 m c t i j⟩) h.v
  one := fun hd hh k hk => by
    have := point_lt t
    refine (nat3 m c t _ k (80 * (4 * (t.val % 2) + hd) + 64) (4224 * (t.val / 2) + k) ?_ hk ?_ rfl).trans (h.one _ (by omega) _ (by omega))
    · show 80 * hd + 64 < 320; omega
    · show _ = 320 * (t.val % 2) + (80 * hd + 64); omega

/-! ## The result array -/

theorem quot_congr (S : Finset ℕ) (s s' : ℕ → ℝ) (v v' : Fin 80 → ℕ → ℝ) (r : Fin 80) (hs : ∀ k ∈ S, s k = s' k) (hv : ∀ k ∈ S, v r k = v' r k) : quot S s v r = quot S s' v' r := by
  have e1 : ∑ k ∈ S, v r k * Real.rpow 2 (s k) = ∑ k ∈ S, v' r k * Real.rpow 2 (s' k) := Finset.sum_congr rfl fun k hk => by rw [hs k hk, hv k hk]
  have e2 : ∑ k ∈ S, Real.rpow 2 (s k) = ∑ k ∈ S, Real.rpow 2 (s' k) := Finset.sum_congr rfl fun k hk => by rw [hs k hk]
  unfold quot
  rw [e1, e2]

/-- The result array, element by element. -/
def G (c : Dev nD) : Buf (Elt Ideal) ((c.tc : Thread nD τ).loc main_v0) := fun i : S512x16896.Idx =>
  headOut (A1 m c) (A2 m c) (A3 m c) (i 0).val (i 1).val

/-- An element of a point's block is an element of the result. -/
theorem block_at (t : Fin cfg0.N) (i : Fin 256) (j : Fin 4224) (R C : ℕ) (eR : R = t.val % 2 * 256 + i.val) (eC : C = t.val / 2 * 4224 + j.val) :
    blockOut m c t (ix2 i j) = headOut (A1 m c) (A2 m c) (A3 m c) R C := by
  have := point_lt t
  have hi := i.isLt
  have hj := j.isLt
  have e1 : C % 4224 = j.val := by omega
  have e2 : C / 4224 = t.val / 2 := by omega
  have e3 : R / 64 = 4 * (t.val % 2) + i.val / 64 := by omega
  have e4 : R % 64 = i.val % 64 := by omega
  unfold headOut
  simp only [e1, e2, e3, e4]
  show quot (Finset.Ico 112 (j.val + 1)) (score _ _ (i.val / 64) j.val) (value _ (i.val / 64)) ⟨i.val % 64, _⟩ = _
  refine quot_congr _ _ _ _ _ _ (fun k hk => ?_) (fun k hk => ?_)
  · have hk' : k < 4224 := by have := (Finset.mem_Ico.mp hk).2; omega
    unfold score headScore
    refine Finset.sum_congr rfl fun a _ => ?_
    have ha := a.isLt
    rw [nat2' m c t k _ (4224 * (t.val / 2) + k) (128 * (4 * (t.val % 2) + i.val / 64) + a.val) hk' (by omega) rfl (by omega),
      nat1 m c t _ j.val (128 * (4 * (t.val % 2) + i.val / 64) + a.val) (4224 * (t.val / 2) + j.val) (by omega) hj (by omega) rfl]
  · have hk' : k < 4224 := by have := (Finset.mem_Ico.mp hk).2; omega
    unfold value headValue
    show nat2 _ (80 * (i.val / 64) + i.val % 64) k = nat2 _ (80 * (4 * (t.val % 2) + i.val / 64) + i.val % 64) _
    exact nat3 m c t _ k _ _ (by omega) hk' (by omega) rfl

/-- The array the launch leaves in its result is `G`. -/
theorem final : (dats m 0 c).arrAt 4 cfg0.N = G m c := by
  refine (dats m 0 c).arrAt_eq_of_covers 4 _ (by decide +kernel) (fun t hf y => ?_)
  blk_simp
  rw [after0_4]
  have h0 : (y 0).val < 256 := (y 0).isLt
  have h1 : (y 1).val < 4224 := (y 1).isLt
  have ey : y = ix2 (⟨(y 0).val, h0⟩ : Fin 256) (⟨(y 1).val, h1⟩ : Fin 4224) := funext fun a => Fin.ext (by
    match a with
    | ⟨0, _⟩ => rfl
    | ⟨1, _⟩ => rfl)
  obtain ⟨i0, i1⟩ := idx4 t
  have e0 : ((win0_4.blk t).view.emb y 0).val = t.val % 2 * 256 + (y 0).val := by blk_simp [i0]
  have e1 : ((win0_4.blk t).view.emb y 1).val = t.val / 2 * 4224 + (y 1).val := by blk_simp [i1]
  exact (congrArg (blockOut m c t) ey).trans (block_at m c t _ _ _ _ e0 e1)

/-- The kernel's run, its result read. -/
theorem run_value (h : ∀ c, ArgsOk (A1 m c) (A2 m c) (A3 m c)) : θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1.1 c).1 4).trans (final m c), h.2 c⟩)
    (θ_run_and (run_main m ρ fun c t => blocksOk m c (h c) t) (unchanged m ρ fun c t => blocksOk m c (h c) t))

end Cert.KernelIdeal.Val

end
-- ==== Proof.FoxPre.lean ====
module

public import proofs.«01_k».proof.Proof.FoxVOut
public import proofs.«01_k».proof.Pre_fox_pre
public import proofs.«01_k».proof.On_fox_on
public import Idealize.ShloMosaic.Lib.IdealHost
public import Idealize.ShloMosaic.Lib.Affine
public import Idealize.ShloMosaic.Lib.ReduceAll
public import Idealize.ShloMosaic.Lib.Pointwise.Reshape

@[expose] public section

set_option maxRecDepth 16384

noncomputable section

namespace Cert.KernelIdeal.Val

open Idealize.ShloMosaic hiding ix1 ix2 ix3 ix4 eq_ix2 eq_ix3 truncf_apply
open Idealize.ShloMosaic.ValueIdx

/-! # What the attention's precondition and mask say -/

/-- The side conditions the precondition states. -/
theorem preFacts : Cert.Pre_fox_pre.Facts where
  bitsLt_bf16_f32 := by decide
  bcast_S_S1024x16896 := by decide
  reducesTo_S1024x16896_S_d0_1 := by decide
  h_S_ := by decide
  bcast_S_S16896x1024 := by decide
  reducesTo_S16896x1024_S_d0_1 := by decide
  bcast_S_S640x16896 := by decide
  reducesTo_S640x16896_S_d0_1 := by decide
  shapeCasts_S640x16896_S8x80x16896 := by decide
  slices_S8x80x16896_S8x1x16896_0_64_0 := by decide
  shapeCasts_S8x1x16896_S8x16896 := by decide
  bcast_S_S8x16896 := by decide
  reducesTo_S8x16896_S_d0_1 := by decide

/-- The side conditions the mask states. -/
theorem onFacts : Cert.On_fox_on.Facts where
  bcast_S_S512x4x4224 := by decide
  shapeCasts_S512x4x4224_S512x16896 := by decide

theorem posInf : FloatOps.ofBits (F := Ideal) .f32 0x7F800000#32 = (⊤ : EReal) := by
  show Ideal.ofBits .f32 0x7F800000#32 = ⊤
  simp [Ideal.ofBits, Ideal.ieee]

theorem one_word : FloatOps.ofBits (F := Ideal) .f32 0x3F800000#32 = (1 : EReal) := Ideal.ofBits_one_f32

theorem of_ofBool {p : Prop} [Decidable p] (h : BitVec.ofBool (decide p) = 1#1) : p := by
  by_contra hp
  rw [decide_eq_false hp] at h
  exact absurd h (by decide)

/-- Between the two infinities lie the real numbers. -/
theorem real_of_cmp (x : EReal) (h : IntOp.andi (Ideal.cmp .olt x (FloatOps.ofBits (F := Ideal) .f32 0x7F800000#32)) (Ideal.cmp .ogt x (FloatOps.ofBits (F := Ideal) .f32 0xFF800000#32)) = 1#1) :
    x = ((x.toReal : ℝ) : EReal) := by
  obtain ⟨h1, h2⟩ := IntOp.andi_eq_one.1 h
  rw [posInf] at h1
  rw [negInf] at h2
  exact (EReal.coe_toReal (of_ofBool h1).ne (of_ofBool h2).ne').symm

variable [Cert.Pre_fox_pre.Facts] [Cert.On_fox_on.Facts]

open Cert.Pre_fox_pre Cert.Pre_fox_pre.Facts

instance : Subsingleton S_.Idx := ⟨fun a b => funext fun i => i.elim0⟩

/-- The precondition makes the operands real numbers and the values' denominator row ones. -/
theorem argsOk_of (n : IVec S1 32) (Q : FVec Ideal S1024x16896 .bf16) (K : FVec Ideal S16896x1024 .bf16) (W : FVec Ideal S640x16896 .bf16)
    (h : Cert.Pre_fox_pre.fn (F := Ideal) n Q K W = fun _ => 1#1) : ArgsOk Q K W := by
  have h' := congrFun h (fun a => a.elim0)
  obtain ⟨h123, h4⟩ := IntOp.andi_eq_one.1 h'
  obtain ⟨h12, h3⟩ := IntOp.andi_eq_one.1 h123
  obtain ⟨h1, h2⟩ := IntOp.andi_eq_one.1 h12
  refine ⟨fun i => ?_, fun i => ?_, fun i => ?_, fun hd hh k hk => ?_⟩
  · exact real_of_cmp _ (Host.reduce_andi_all _ _ _ _ _ h1 i)
  · exact real_of_cmp _ (Host.reduce_andi_all _ _ _ _ _ h2 i)
  · exact real_of_cmp _ (Host.reduce_andi_all _ _ _ _ _ h3 i)
  · have e := Host.reduce_andi_all _ _ _ _ _ h4 (ix2 (⟨hd, hh⟩ : Fin 8) (⟨k, hk⟩ : Fin 16896))
    have e1 : shapeCast S8x16896 ((extractStridedSlice S8x1x16896 ![0, 64, 0] · slices_S8x80x16896_S8x1x16896_0_64_0) (shapeCast S8x80x16896 ((extf .f32 · bitsLt_bf16_f32) W : FVec Ideal S640x16896 .f32) shapeCasts_S640x16896_S8x80x16896)) shapeCasts_S8x1x16896_S8x16896 (ix2 (⟨hd, hh⟩ : Fin 8) (⟨k, hk⟩ : Fin 16896)) = (1 : EReal) :=
      (of_ofBool (p := _ = _) e).trans one_word
    have e2 : W (ix2 (⟨80 * hd + 64, by omega⟩ : Fin 640) (⟨k, hk⟩ : Fin 16896)) = (1 : EReal) := by
      refine Eq.trans ?_ e1
      symm
      refine (shapeCast_apply _ _ _ (ix3 (⟨hd, hh⟩ : Fin 8) (⟨0, by omega⟩ : Fin 1) (⟨k, hk⟩ : Fin 16896)) ?_).trans ?_
      · refine (rowMajor_val3 _ 16896 16896 (by decide) (by decide)).trans (Eq.trans ?_ (Shape.rowMajor_val_two _).symm)
        show hd * 16896 + 0 * 16896 + k = hd * 16896 + k
        omega
      refine (extractStridedSlice_apply _ _ _ _ (ix3 (⟨hd, hh⟩ : Fin 8) (⟨64, by omega⟩ : Fin 80) (⟨k, hk⟩ : Fin 16896)) (fun a => ?_)).trans ?_
      · match a with
        | ⟨0, _⟩ => exact (Nat.zero_add _).symm
        | ⟨1, _⟩ => rfl
        | ⟨2, _⟩ => exact (Nat.zero_add _).symm
      refine shapeCast_apply _ _ _ (ix2 (⟨80 * hd + 64, by omega⟩ : Fin 640) (⟨k, hk⟩ : Fin 16896)) ?_
      refine (Shape.rowMajor_val_two _).trans (Eq.trans ?_ (rowMajor_val3 _ 1351680 16896 (by decide) (by decide)).symm)
      show (80 * hd + 64) * 16896 + k = hd * 1351680 + 64 * 16896 + k
      omega
    unfold nat2
    rw [dif_pos ⟨by omega, hk⟩, e2]
    exact EReal.toReal_one

open Cert.On_fox_on.Facts in
/-- The mask keeps the columns whose query sees a key. -/
theorem on_mask (n : IVec S1 32) (Q : FVec Ideal S1024x16896 .bf16) (K : FVec Ideal S16896x1024 .bf16) (W : FVec Ideal S640x16896 .bf16)
    (i : Cert.On_fox_on.S512x16896.Idx) (h : Cert.On_fox_on.fn (F := Ideal) n Q K W i = 1#1) : 112 ≤ (i 1).val % 4224 := by
  have h0 : (i 0).val < 512 := (i 0).isLt
  have h1 : (i 1).val < 16896 := (i 1).isLt
  have e : Cert.On_fox_on.fn (F := Ideal) n Q K W i = IntOp.cmpi .sge (BitVec.ofNat 32 ((i 1).val % 4224)) 112#32 := by
    unfold Cert.On_fox_on.fn
    refine (shapeCast_apply _ _ _ (ix3 (⟨(i 0).val, h0⟩ : Fin 512) (⟨(i 1).val / 4224, by omega⟩ : Fin 4) (⟨(i 1).val % 4224, by omega⟩ : Fin 4224)) ?_).trans rfl
    refine (rowMajor_val3 _ 16896 4224 (by decide) (by decide)).trans (Eq.trans ?_ (Shape.rowMajor_val_two _).symm)
    show (i 0).val * 16896 + (i 1).val / 4224 * 4224 + (i 1).val % 4224 = (i 0).val * 16896 + (i 1).val
    omega
  rw [e] at h
  have hs : (112#32).sle (BitVec.ofNat 32 ((i 1).val % 4224)) = true := by
    by_contra hp
    have : IntOp.cmpi .sge (BitVec.ofNat 32 ((i 1).val % 4224)) 112#32 = BitVec.ofBool ((112#32).sle (BitVec.ofNat 32 ((i 1).val % 4224))) := rfl
    rw [this, Bool.eq_false_iff.2 hp] at h
    exact absurd h (by decide)
  rw [BitVec.sle_eq_decide, decide_eq_true_eq] at hs
  have e1 : (BitVec.ofNat 32 ((i 1).val % 4224)).toInt = ((i 1).val % 4224 : ℕ) := by rw [BitVec.toInt_eq_toNat_cond, BitVec.toNat_ofNat]; omega
  have e3 : (112#32).toInt = 112 := by decide
  rw [e1, e3] at hs
  omega

end Cert.KernelIdeal.Val

end
-- ==== Proof.FoxRef.lean ====
module

public import proofs.«01_k».proof.Proof.Gen.FoxRefIdeal.Run
public import proofs.«01_k».proof.Proof.FoxVOut
public import Idealize.ShloMosaic.Lib.IdealHost
public import Idealize.ShloMosaic.Lib.WordCmp
public import Idealize.ShloMosaic.Lib.Pointwise.Reshape
public import Idealize.ShloMosaic.Lib.Pointwise.Reduce

@[expose] public section

set_option maxRecDepth 16384

noncomputable section

namespace Cert.FoxRefIdeal.Hand

open Idealize.ShloMosaic hiding ix1 ix2 ix3 ix4 eq_ix2 eq_ix3 truncf_apply
open Idealize.ShloMosaic.ValueIdx
open Cert.FoxRefIdeal Cert.FoxRefIdeal.Facts₀ Cert.FoxRefIdeal.Facts
open Cert.KernelIdeal.Val (nat2 Real2 real2_apply headScore headValue headOut ArgsOk quot coe_sum)

/-! # The attention's reference, element by element

The reference's chain of host operations, cut at its named arrays: the mask, the logits, their maximum over the keys, the
weights and their sum, and the probabilities. -/

variable (Q : FVec Ideal S1024x16896 .bf16) (K : FVec Ideal S16896x1024 .bf16) (W : FVec Ideal S640x16896 .bf16)

/-- Which keys a query sees. -/
def mask : IVec S4x8x4224x4224 1 := broadcastInDim S4x8x4224x4224 ![0, 1, 2, 3] bcast_S1x1x4224x4224_S4x8x4224x4224_0_1_2_3 (broadcastInDim S1x1x4224x4224 ![2, 3] bcast_S4224x4224_S1x1x4224x4224_2_3 (andi (cmpi .sle (broadcastInDim S4224x4224 ![0, 1] bcast_S1x4224_S4224x4224_0_1 (broadcastInDim S1x4224 ![1] bcast_S4224_S1x4224_1 (iotaInDim S4224 32 0))) (broadcastInDim S4224x4224 ![0, 1] bcast_S4224x1_S4224x4224_0_1 (broadcastInDim S4224x1 ![0] bcast_S4224_S4224x1_0 (iotaInDim S4224 32 0)))) (broadcastInDim S4224x4224 ![0, 1] bcast_S1x4224_S4224x4224_0_1 (broadcastInDim S1x4224 ![1] bcast_S4224_S1x4224_1 (cmpi .sge (iotaInDim S4224 32 0) (broadcastInDim S4224 ![] bcast_S_S4224 (constantI S_ 32 112#32)))))))

/-- The logits. -/
def logits : FVec Ideal S4x8x4224x4224 .f32 := mulf (Host.dotGeneral dot_S8x128x4x4224_S4x4224x8x128_S4x8x4224x4224_1_3_3_1_20_02 none (shapeCast _ (extf .f32 Q bitsLt_bf16_f32) shapeCasts_S1024x16896_S8x128x4x4224) (shapeCast _ (extf .f32 K bitsLt_bf16_f32) shapeCasts_S16896x1024_S4x4224x8x128)) (broadcastInDim S4x8x4224x4224 ![] bcast_S_S4x8x4224x4224 (Host.log (constant S_ .f32 0x40000000#32)))

/-- The logits where a key is seen, the least element elsewhere. -/
def masked : FVec Ideal S4x8x4224x4224 .f32 := select mask (logits Q K) (broadcastInDim S4x8x4224x4224 ![] bcast_S_S4x8x4224x4224 (constant S_ .f32 0xFF800000#32))

/-- Their maximum over the keys. -/
def top : FVec Ideal S4x8x4224 .f32 := maximumf (broadcastInDim S4x8x4224 ![] bcast_S_S4x8x4224 (constant S_ .f32 0xFF800000#32)) (Host.reduce FloatOps.maximumf (masked Q K) (constant S_ .f32 0xFF800000#32) reducesTo_S4x8x4224x4224_S4x8x4224_d3 h_S_)

/-- The weights. -/
def weights : FVec Ideal S4x8x4224x4224 .f32 := Host.exp (subf (masked Q K) (broadcastInDim S4x8x4224x4224 ![0, 1, 2, 3] bcast_S4x8x4224x1_S4x8x4224x4224_0_1_2_3 (broadcastInDim S4x8x4224x1 ![0, 1, 2] bcast_S4x8x4224_S4x8x4224x1_0_1_2 (top Q K))))

/-- Their sum over the keys. -/
def total : FVec Ideal S4x8x4224 .f32 := Host.reduceAdd (weights Q K) (constant S_ .f32 0x00000000#32) reducesTo_S4x8x4224x4224_S4x8x4224_d3 h_S_

/-- The probabilities. -/
def probs : FVec Ideal S4x8x4224x4224 .f32 := Host.divf (weights Q K) (broadcastInDim S4x8x4224x4224 ![0, 1, 2, 3] bcast_S4x8x4224x1_S4x8x4224x4224_0_1_2_3 (broadcastInDim S4x8x4224x1 ![0, 1, 2] bcast_S4x8x4224_S4x8x4224x1_0_1_2 (total Q K)))

/-- The values' rows that make the output. -/
def vals : FVec Ideal S8x64x4x4224 .f32 := extractStridedSlice S8x64x4x4224 ![0, 0, 0, 0] (shapeCast _ (extf .f32 W bitsLt_bf16_f32) shapeCasts_S640x16896_S8x80x4x4224) slices_S8x80x4x4224_S8x64x4x4224_0_0_0_0

/-- The output. -/
def out : FVec Ideal S512x16896 .bf16 := truncf .bf16 (shapeCast _ (transpose S8x64x4x4224 [0, 2, 1, 3] (Host.dotGeneral dot_S8x64x4x4224_S4x8x4224x4224_S8x4x64x4224_3_3_1_2_02_10 none (vals W) (probs Q K)) transposes_S8x4x64x4224_S8x64x4x4224_0_2_1_3) shapeCasts_S8x64x4x4224_S512x16896) bitsLt_bf16_f32

/-- What the reference's run leaves in its result is `out` of its arguments. -/
theorem res_eq (m : (ℓ : Loc nD τ sig) → Buf (Elt Ideal) ℓ) (c : Dev nD) : Value.res_main_v41 (F := Ideal) m c
    = out (m ((c.tc : Thread nD τ).loc main_arg1)) (m ((c.tc : Thread nD τ).loc main_arg2)) (m ((c.tc : Thread nD τ).loc main_arg3)) := by
  unfold Value.res_main_v41 out probs total weights top masked logits vals mask
  rfl

/-! ## Reading the arrays -/

theorem mask_at (b : Fin 4) (h : Fin 8) (q k : Fin 4224) : mask (ix4 b h q k) = BitVec.ofBool (decide (112 ≤ k.val ∧ k.val ≤ q.val)) := by
  have e : mask (ix4 b h q k) = IntOp.andi (IntOp.cmpi .sle (BitVec.ofNat 32 k.val) (BitVec.ofNat 32 q.val)) (IntOp.cmpi .sge (BitVec.ofNat 32 k.val) 112#32) := rfl
  rw [e]
  have hk := k.isLt
  have hq := q.isLt
  have e1 : (BitVec.ofNat 32 k.val).toInt = k.val := by rw [BitVec.toInt_eq_toNat_cond, BitVec.toNat_ofNat]; omega
  have e2 : (BitVec.ofNat 32 q.val).toInt = q.val := by rw [BitVec.toInt_eq_toNat_cond, BitVec.toNat_ofNat]; omega
  show IntOp.andi (BitVec.ofBool ((BitVec.ofNat 32 k.val).sle (BitVec.ofNat 32 q.val))) (BitVec.ofBool ((112#32).sle (BitVec.ofNat 32 k.val))) = _
  rw [BitVec.sle_eq_decide, BitVec.sle_eq_decide, e1, e2]
  have e3 : (112#32).toInt = 112 := by decide
  rw [e3]
  by_cases h1 : k.val ≤ q.val <;> by_cases h2 : 112 ≤ k.val <;> simp [h1, h2, IntOp.andi] <;> omega

/-- The queries, by head, feature, batch and position; -/
theorem q_at (h : Fin 8) (a : Fin 128) (b : Fin 4) (q : Fin 4224) :
    shapeCast S8x128x4x4224 (extf .f32 Q bitsLt_bf16_f32 : FVec Ideal S1024x16896 .f32) shapeCasts_S1024x16896_S8x128x4x4224 (ix4 h a b q)
      = Q (ix2 ⟨128 * h.val + a.val, by omega⟩ ⟨4224 * b.val + q.val, by omega⟩) := by
  refine shapeCast_apply _ _ _ (ix2 ⟨128 * h.val + a.val, by omega⟩ ⟨4224 * b.val + q.val, by omega⟩) ?_
  refine (Shape.rowMajor_val_two _).trans (Eq.trans ?_ (rowMajor_val4 _ 2162688 16896 4224 (by decide) (by decide) (by decide)).symm)
  show (128 * h.val + a.val) * 16896 + (4224 * b.val + q.val) = h.val * 2162688 + a.val * 16896 + b.val * 4224 + q.val
  omega

/-- the keys, by batch, position, head and feature; -/
theorem k_at (b : Fin 4) (k : Fin 4224) (h : Fin 8) (a : Fin 128) :
    shapeCast S4x4224x8x128 (extf .f32 K bitsLt_bf16_f32 : FVec Ideal S16896x1024 .f32) shapeCasts_S16896x1024_S4x4224x8x128 (ix4 b k h a)
      = K (ix2 ⟨4224 * b.val + k.val, by omega⟩ ⟨128 * h.val + a.val, by omega⟩) := by
  refine shapeCast_apply _ _ _ (ix2 ⟨4224 * b.val + k.val, by omega⟩ ⟨128 * h.val + a.val, by omega⟩) ?_
  refine (Shape.rowMajor_val_two _).trans (Eq.trans ?_ (rowMajor_val4 _ 4325376 1024 128 (by decide) (by decide) (by decide)).symm)
  show (4224 * b.val + k.val) * 1024 + (128 * h.val + a.val) = b.val * 4325376 + k.val * 1024 + h.val * 128 + a.val
  omega

/-- the values, by head, row, batch and position. -/
theorem v_at (h : Fin 8) (r : Fin 64) (b : Fin 4) (k : Fin 4224) :
    vals W (ix4 h r b k) = W (ix2 ⟨80 * h.val + r.val, by omega⟩ ⟨4224 * b.val + k.val, by omega⟩) := by
  unfold vals
  refine (extractStridedSlice_apply _ _ _ _ (ix4 h (⟨r.val, by omega⟩ : Fin 80) b k) (fun a => ?_)).trans ?_
  · match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  refine shapeCast_apply _ _ _ (ix2 ⟨80 * h.val + r.val, by omega⟩ ⟨4224 * b.val + k.val, by omega⟩) ?_
  refine (Shape.rowMajor_val_two _).trans (Eq.trans ?_ (rowMajor_val4 _ 1351680 16896 4224 (by decide) (by decide) (by decide)).symm)
  show (80 * h.val + r.val) * 16896 + (4224 * b.val + k.val) = h.val * 1351680 + r.val * 16896 + b.val * 4224 + k.val
  omega

theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee]
    rw [← EReal.coe_mul]; norm_num
  rw [e, Ideal.log_coe, if_neg (by norm_num)]

/-- A logit is the score times the logarithm of two. -/
theorem logits_at (hQ : Real2 Q) (hK : Real2 K) (b : Fin 4) (h : Fin 8) (q k : Fin 4224) :
    logits Q K (ix4 b h q k) = ((headScore Q K b.val h.val q.val k.val * Real.log 2 : ℝ) : EReal) := by
  unfold logits
  let D := dot_S8x128x4x4224_S4x4224x8x128_S4x8x4224x4224_1_3_3_1_20_02
  have hr : D.contr.rank = 1 := rfl
  have hs : D.contr.size ⟨0, by rw [hr]; omega⟩ = 128 := rfl
  rw [mulf_apply, EReal.coe_mul]
  refine congrArg₂ (· * ·) ?_ log_two
  simp only [Host.dotGeneral]
  rw [Ideal.dotGeneral_apply, ← Equiv.sum_comp (contrEquiv1 D 128 hr hs).symm]
  unfold headScore
  rw [coe_sum]
  refine Finset.sum_congr rfl fun a _ => ?_
  have hv := contrEquiv1_symm_val D 128 hr hs a
  have el : D.lhsIdx (ix4 b h q k) ((contrEquiv1 D 128 hr hs).symm a) = ix4 h a b q := by
    funext x; apply Fin.ext
    match x with
    | ⟨0, _⟩ => rfl
    | ⟨1, _⟩ => exact hv
    | ⟨2, _⟩ => rfl
    | ⟨3, _⟩ => rfl
  have er : D.rhsIdx (ix4 b h q k) ((contrEquiv1 D 128 hr hs).symm a) = ix4 b k h a := by
    funext x; apply Fin.ext
    match x with
    | ⟨0, _⟩ => rfl
    | ⟨1, _⟩ => rfl
    | ⟨2, _⟩ => rfl
    | ⟨3, _⟩ => exact hv
  rw [el, er, q_at, k_at, mul_comm, EReal.coe_mul]
  exact congrArg₂ (· * ·) (real2_apply K hK _ _) (real2_apply Q hQ _ _)

/-- A masked logit. -/
theorem masked_at (hQ : Real2 Q) (hK : Real2 K) (b : Fin 4) (h : Fin 8) (q k : Fin 4224) :
    masked Q K (ix4 b h q k) = if 112 ≤ k.val ∧ k.val ≤ q.val then ((headScore Q K b.val h.val q.val k.val * Real.log 2 : ℝ) : EReal) else ⊥ := by
  unfold masked
  show (if mask (ix4 b h q k) = 1#1 then logits Q K (ix4 b h q k) else _) = _
  rw [mask_at, logits_at Q K hQ hK]
  by_cases hv : 112 ≤ k.val ∧ k.val ≤ q.val
  · rw [if_pos hv, decide_eq_true hv, if_pos (by decide)]
  · rw [if_neg hv, decide_eq_false hv, if_neg (by decide)]
    exact Cert.KernelIdeal.Val.negInf

end Cert.FoxRefIdeal.Hand

end
-- ==== Proof.FoxRefOut.lean ====
module

public import proofs.«01_k».proof.Proof.FoxRef
public import Idealize.ShloMosaic.PureOps.Ideal.Laws

@[expose] public section

set_option maxRecDepth 16384

noncomputable section

namespace Cert.FoxRefIdeal.Hand

open Idealize.ShloMosaic hiding ix1 ix2 ix3 ix4 eq_ix2 eq_ix3 truncf_apply
open Idealize.ShloMosaic.ValueIdx
open Cert.FoxRefIdeal Cert.FoxRefIdeal.Facts₀ Cert.FoxRefIdeal.Facts
open Cert.KernelIdeal.Val (nat2 Real2 real2_apply headScore headValue headOut ArgsOk quot coe_sum negInf)

/-! # The attention reference's output

The maximum over the keys is a real number for every query that sees a key, so the weights and their sum are real numbers,
and the maximum cancels between them. -/

variable (Q : FVec Ideal S1024x16896 .bf16) (K : FVec Ideal S16896x1024 .bf16) (W : FVec Ideal S640x16896 .bf16)

/-- A row statistic, spread over the keys, at an element. -/
theorem lift_at (x : FVec Ideal S4x8x4224 .f32) (b : Fin 4) (h : Fin 8) (q k : Fin 4224) :
    broadcastInDim S4x8x4224x4224 ![0, 1, 2, 3] bcast_S4x8x4224x1_S4x8x4224x4224_0_1_2_3 (broadcastInDim S4x8x4224x1 ![0, 1, 2] bcast_S4x8x4224_S4x8x4224x1_0_1_2 x) (ix4 b h q k) = x (ix3 b h q) := by
  refine (broadcastInDim_apply _ _ _ _ (ix4 b h q (⟨0, by omega⟩ : Fin 1)) ?_).trans (broadcastInDim_apply _ _ _ _ (ix3 b h q) ?_)
  · intro a
    match a with
    | ⟨0, _⟩ => rfl
    | ⟨1, _⟩ => rfl
    | ⟨2, _⟩ => rfl
    | ⟨3, _⟩ => rfl
  · intro a
    match a with
    | ⟨0, _⟩ => rfl
    | ⟨1, _⟩ => rfl
    | ⟨2, _⟩ => rfl

/-- A maximum of elements none of which is the greatest and one of which is not the least is a real number. -/
theorem fold_real {n : ℕ} (op : EReal → EReal → EReal) [Std.Commutative op] [Std.Associative op] (hop : op = max) (z : EReal) (hz : z = ⊥) (f : Fin n → EReal)
    (hf : ∀ k, f k < ⊤) (k0 : Fin n) (h0 : ⊥ < f k0) : ∃ M : ℝ, max z ((Finset.univ : Finset (Fin n)).fold op z f) = (M : EReal) := by
  subst hop hz
  rw [max_eq_right bot_le]
  have h1 : (Finset.univ : Finset (Fin n)).fold max (⊥ : EReal) f < ⊤ := (Finset.fold_max_lt _).2 ⟨bot_lt_top, fun k _ => hf k⟩
  have h2 : (⊥ : EReal) < (Finset.univ : Finset (Fin n)).fold max (⊥ : EReal) f :=
    lt_of_lt_of_le h0 ((Finset.le_fold_max _).2 (Or.inr ⟨k0, Finset.mem_univ _, le_rfl⟩))
  exact ⟨_, (EReal.coe_toReal h1.ne h2.ne').symm⟩

/-- The maximum over the keys of a query that sees one is a real number. -/
theorem top_at (hQ : Real2 Q) (hK : Real2 K) (b : Fin 4) (h : Fin 8) (q : Fin 4224) (hq : 112 ≤ q.val) :
    ∃ M : ℝ, top Q K (ix3 b h q) = (M : EReal) := by
  have hf : ∀ k : Fin 4224, masked Q K (ix4 b h q k) < (⊤ : EReal) := fun k => by
    rw [masked_at Q K hQ hK]
    split_ifs
    · exact EReal.coe_lt_top _
    · exact bot_lt_top
  have h0 : (⊥ : EReal) < masked Q K (ix4 b h q (⟨112, by omega⟩ : Fin 4224)) := by
    rw [masked_at Q K hQ hK, if_pos ⟨le_rfl, hq⟩]
    exact EReal.bot_lt_coe _
  unfold top
  generalize masked Q K = X at hf h0
  rw [maximumf_apply, Host.reduce_eq_fold, Shape.ReducesTo.fold_fiber_r4_a3]
  exact fold_real _ rfl _ negInf _ hf _ h0

/-- A weight, the maximum given. -/
def weight (M : ℝ) (s : ℕ → ℝ) (q k : ℕ) : ℝ := if 112 ≤ k ∧ k ≤ q then Real.exp (-M) * Real.rpow 2 (s k) else 0

theorem exp_score (s M : ℝ) : Real.exp (s * Real.log 2 - M) = Real.exp (-M) * Real.rpow 2 s := by
  have e : Real.rpow 2 s = Real.exp (Real.log 2 * s) := Real.rpow_def_of_pos (by norm_num) s
  rw [e, ← Real.exp_add]
  exact congrArg Real.exp (by ring)

theorem weights_at (hQ : Real2 Q) (hK : Real2 K) (b : Fin 4) (h : Fin 8) (q k : Fin 4224) (M : ℝ) (hM : top Q K (ix3 b h q) = (M : EReal)) :
    weights Q K (ix4 b h q k) = (weight M (headScore Q K b.val h.val q.val) q.val k.val : EReal) := by
  have e : weights Q K (ix4 b h q k) = Ideal.exp (masked Q K (ix4 b h q k) - top Q K (ix3 b h q)) := by
    unfold weights
    exact congrArg (fun z => Ideal.exp (masked Q K (ix4 b h q k) - z)) (lift_at (top Q K) b h q k)
  rw [e, hM, masked_at Q K hQ hK]
  unfold weight
  split_ifs
  · rw [← EReal.coe_sub, Ideal.exp_coe, exp_score]
  · rw [EReal.bot_sub, Ideal.exp_bot, EReal.coe_zero]

/-- The sum over all keys is the sum over the keys seen. -/
theorem sum_seen (f : ℕ → ℝ) (q : ℕ) (hq : q < 4224) :
    ∑ k : Fin 4224, (if 112 ≤ k.val ∧ k.val ≤ q then f k.val else 0) = ∑ k ∈ Finset.Ico 112 (q + 1), f k := by
  rw [Fin.sum_univ_eq_sum_range (fun k => if 112 ≤ k ∧ k ≤ q then f k else 0) 4224, ← Finset.sum_filter]
  refine Finset.sum_congr ?_ fun _ _ => rfl
  ext k
  simp only [Finset.mem_filter, Finset.mem_range, Finset.mem_Ico]
  omega

theorem total_at (hQ : Real2 Q) (hK : Real2 K) (b : Fin 4) (h : Fin 8) (q : Fin 4224) (M : ℝ) (hM : top Q K (ix3 b h q) = (M : EReal)) :
    total Q K (ix3 b h q) = ((Real.exp (-M) * ∑ k ∈ Finset.Ico 112 (q.val + 1), Real.rpow 2 (headScore Q K b.val h.val q.val k) : ℝ) : EReal) := by
  have e : total Q K (ix3 b h q) = Ideal.ofBits .f32 0x00000000#32 + ∑ k : Fin 4224, weights Q K (ix4 b h q k) := by
    unfold total
    rw [Host.reduceAdd_apply, Ideal.hostReduceAdd_def, Ideal.hostReduceAdd_r4_a3]
    rfl
  have z : Ideal.ofBits .f32 0x00000000#32 = 0 := by simp [Ideal.ofBits, Ideal.ieee]
  rw [e, z, zero_add, Finset.mul_sum, ← sum_seen _ q.val q.isLt, coe_sum]
  exact Finset.sum_congr rfl fun k _ => weights_at Q K hQ hK b h q k M hM

/-- The maximum cancels. -/
theorem cancel (S : Finset ℕ) (s : ℕ → ℝ) (v : Fin 80 → ℕ → ℝ) (r : Fin 80) (E : ℝ) (hE : 0 < E) (hS : S.Nonempty) :
    ((∑ k ∈ S, v r k * (E * Real.rpow 2 (s k)) * (1 / (E * ∑ k ∈ S, Real.rpow 2 (s k))) : ℝ) : EReal) = quot S s v r := by
  have hp : 0 < ∑ k ∈ S, Real.rpow 2 (s k) := Finset.sum_pos (fun k _ => Real.rpow_pos_of_pos (by norm_num) _) hS
  unfold quot
  rw [Ideal.div_coe hp.ne', one_mul, ← EReal.coe_mul, Finset.sum_mul]
  refine congrArg _ (Finset.sum_congr rfl fun k _ => ?_)
  field_simp

theorem out_at (hQ : Real2 Q) (hK : Real2 K) (hW : Real2 W) (h : Fin 8) (r : Fin 64) (b : Fin 4) (q : Fin 4224) (hq : 112 ≤ q.val) :
    out Q K W (ix2 ⟨64 * h.val + r.val, by omega⟩ ⟨4224 * b.val + q.val, by omega⟩)
      = quot (Finset.Ico 112 (q.val + 1)) (headScore Q K b.val h.val q.val) (headValue W b.val h.val) ⟨r.val, by omega⟩ := by
  obtain ⟨M, hM⟩ := top_at Q K hQ hK b h q hq
  have hT := total_at Q K hQ hK b h q M hM
  have hne : (Finset.Ico 112 (q.val + 1)).Nonempty := ⟨112, Finset.mem_Ico.2 ⟨le_rfl, by omega⟩⟩
  have hp : 0 < Real.exp (-M) * ∑ k ∈ Finset.Ico 112 (q.val + 1), Real.rpow 2 (headScore Q K b.val h.val q.val k) :=
    mul_pos (Real.exp_pos _) (Finset.sum_pos (fun k _ => Real.rpow_pos_of_pos (by norm_num) _) hne)
  have hP : ∀ k : Fin 4224, probs Q K (ix4 b h q k) = ((weight M (headScore Q K b.val h.val q.val) q.val k.val * (1 / (Real.exp (-M) * ∑ k ∈ Finset.Ico 112 (q.val + 1), Real.rpow 2 (headScore Q K b.val h.val q.val k))) : ℝ) : EReal) := fun k => by
    have e : probs Q K (ix4 b h q k) = Ideal.div (weights Q K (ix4 b h q k)) (total Q K (ix3 b h q)) := by
      unfold probs
      exact congrArg (Ideal.div (weights Q K (ix4 b h q k))) (lift_at (total Q K) b h q k)
    rw [e, hT, Ideal.div_coe hp.ne', weights_at Q K hQ hK b h q k M hM, EReal.coe_mul]
  rw [← cancel _ _ _ _ (Real.exp (-M)) (Real.exp_pos _) hne, ← sum_seen _ q.val q.isLt, coe_sum]
  unfold out
  rw [show ∀ (x : FVec Ideal S512x16896 .f32) i, truncf .bf16 x bitsLt_bf16_f32 i = x i from fun _ _ => rfl]
  refine (shapeCast_apply _ _ _ (ix4 h r b q) ?_).trans ?_
  · refine Eq.trans ?_ (Shape.rowMajor_val_two _).symm
    refine (rowMajor_val4 _ 1081344 16896 4224 (by decide) (by decide) (by decide)).trans ?_
    show h.val * 1081344 + r.val * 16896 + b.val * 4224 + q.val = (64 * h.val + r.val) * 16896 + (4224 * b.val + q.val)
    omega
  refine (transpose_apply _ _ _ _ (ix4 h b r q) ?_).trans ?_
  · intro a
    match a with
    | ⟨0, _⟩ => rfl
    | ⟨1, _⟩ => rfl
    | ⟨2, _⟩ => rfl
    | ⟨3, _⟩ => rfl
  let D := dot_S8x64x4x4224_S4x8x4224x4224_S8x4x64x4224_3_3_1_2_02_10
  have hr : D.contr.rank = 1 := rfl
  have hs : D.contr.size ⟨0, by rw [hr]; omega⟩ = 4224 := rfl
  simp only [Host.dotGeneral]
  rw [Ideal.dotGeneral_apply, ← Equiv.sum_comp (contrEquiv1 D 4224 hr hs).symm]
  refine Finset.sum_congr rfl fun k _ => ?_
  have hv := contrEquiv1_symm_val D 4224 hr hs k
  have el : D.lhsIdx (ix4 h b r q) ((contrEquiv1 D 4224 hr hs).symm k) = ix4 h r b k := by
    funext x; apply Fin.ext
    match x with
    | ⟨0, _⟩ => rfl
    | ⟨1, _⟩ => rfl
    | ⟨2, _⟩ => rfl
    | ⟨3, _⟩ => exact hv
  have er : D.rhsIdx (ix4 h b r q) ((contrEquiv1 D 4224 hr hs).symm k) = ix4 b h q k := by
    funext x; apply Fin.ext
    match x with
    | ⟨0, _⟩ => rfl
    | ⟨1, _⟩ => rfl
    | ⟨2, _⟩ => rfl
    | ⟨3, _⟩ => exact hv
  rw [el, er, v_at, hP k]
  refine (congrArg (· * _) (real2_apply W hW _ _)).trans ?_
  rw [← EReal.coe_mul]
  refine congrArg _ ?_
  unfold weight headValue
  split_ifs
  · exact (mul_assoc _ _ _).symm
  · rw [zero_mul, mul_zero]

/-- The reference's output is the attention's, wherever a query sees a key. -/
theorem out_eq (hQ : Real2 Q) (hK : Real2 K) (hW : Real2 W) (i : S512x16896.Idx) (hi : 112 ≤ (i 1).val % 4224) :
    out Q K W i = headOut Q K W (i 0).val (i 1).val := by
  have h0 : (i 0).val < 512 := (i 0).isLt
  have h1 : (i 1).val < 16896 := (i 1).isLt
  have e : i = ix2 (⟨64 * ((i 0).val / 64) + (i 0).val % 64, by omega⟩ : Fin 512) (⟨4224 * ((i 1).val / 4224) + (i 1).val % 4224, by omega⟩ : Fin 16896) := by
    funext x; apply Fin.ext
    match x with
    | ⟨0, _⟩ => exact (Nat.div_add_mod (i 0).val 64).symm
    | ⟨1, _⟩ => exact (Nat.div_add_mod (i 1).val 4224).symm
  exact (congrArg (out Q K W) e).trans (out_at Q K W hQ hK hW ⟨(i 0).val / 64, by omega⟩ ⟨(i 0).val % 64, by omega⟩ ⟨(i 1).val / 4224, by omega⟩ ⟨(i 1).val % 4224, by omega⟩ hi)

end Cert.FoxRefIdeal.Hand

end
-- ==== Proof.FoxClaims.lean ====
module

public import proofs.«01_k».proof.Defs
public import proofs.«01_k».proof.Proof.FoxBody
public import proofs.«01_k».proof.Proof.FoxBodyBits
public import proofs.«01_k».proof.Proof.FoxPre
public import proofs.«01_k».proof.Proof.FoxRefOut
public import Idealize.ShloMosaic.Lib.Quiescent

@[expose] public section

/-! # The attention kernel: its claims -/

namespace Cert.Proof.Fox

open Idealize.ShloMosaic Idealize.ShloMosaic.TcCoe Idealize.SL.Sem

/-- The kernel at the machine's words ends, its arguments unchanged and its semaphores at zero. -/
theorem frame_bits : Cert.quiescent_Kernel := fun m ρ _ => Cert.Kernel.Hand.frame m ρ

/-- So does the kernel over the extended reals. -/
theorem frame_ideal : Cert.quiescent_KernelIdeal := fun m ρ _ => Cert.KernelIdeal.Hand.frame m ρ

/-- So does the reference, which has no semaphore. -/
theorem frame_ref : Cert.quiescent_FoxRefIdeal := fun m ρ _ =>
  (θ_run Cert.FoxRefIdeal.defs _ _).mono (fun r h => ⟨fun c => (h c).2, sem_eq_zero_of_no_sems (by decide) r.2⟩)
    (Cert.FoxRefIdeal.Value.run (F := Ideal) m ρ)

/-- The idealized kernel names the mask's constant, whose value there is minus infinity. -/
theorem preserves : Cert.preserves_Kernel_KernelIdeal :=
  IdealRules.named_const.statement Cert.KernelIdeal.κ "mask" .f32 0xF149F2CA#32 ⊥ rfl

section Value

variable [Cert.Pre_fox_pre.Facts] [Cert.On_fox_on.Facts]

theorem frame_ideal_pre : Cert.quiescent_KernelIdeal_pre_fox_pre := fun m ρ _ => Cert.KernelIdeal.Hand.frame m ρ

theorem frame_ref_pre : Cert.quiescent_FoxRefIdeal_pre_fox_pre := fun m ρ _ =>
  (θ_run Cert.FoxRefIdeal.defs _ _).mono (fun r h => ⟨fun c => (h c).2, sem_eq_zero_of_no_sems (by decide) r.2⟩)
    (Cert.FoxRefIdeal.Value.run (F := Ideal) m ρ)

/-- Over the extended reals, from finite operands with a row of ones under each head's values, the kernel leaves what the
reference leaves at every query that sees a key. -/
theorem algebraic : Cert.algebraic_KernelIdeal_FoxRefIdeal_on_fox_on_pre_fox_pre := by
  intro m ρ m' ρ' hpre hagree
  have hok : ∀ c, Cert.KernelIdeal.Val.ArgsOk (Cert.KernelIdeal.Val.A1 m c) (Cert.KernelIdeal.Val.A2 m c) (Cert.KernelIdeal.Val.A3 m c) :=
    fun c => Cert.KernelIdeal.Val.argsOk_of _ _ _ _ (hpre c)
  refine ⟨fun c => Cert.KernelIdeal.Val.G m c, ?_, ?_⟩
  · exact (θ_run Cert.KernelIdeal.defs _ _).mono (fun _ h c => ⟨fun i _ => congrFun (h c).1 i, (h c).2⟩)
      (Cert.KernelIdeal.Val.run_value m ρ hok)
  · refine (θ_run Cert.FoxRefIdeal.defs _ _).mono (fun _ h c => ⟨fun i hi => ?_, (h c).2⟩)
      (Cert.FoxRefIdeal.Value.run (F := Ideal) m' ρ')
    refine (congrFun ((h c).1.trans (Cert.FoxRefIdeal.Hand.res_eq m' c)) i).trans ?_
    rw [(hagree c).2.1, (hagree c).2.2.1, (hagree c).2.2.2]
    exact Cert.FoxRefIdeal.Hand.out_eq _ _ _ (hok c).q (hok c).k (hok c).v i (Cert.KernelIdeal.Val.on_mask _ _ _ _ i hi)

end Value

end Cert.Proof.Fox

end
-- ==== Proof.MixVal.lean ====
module

public import proofs.«01_k».proof.Proof.Gen.MixIdeal.Value
public import Idealize.ShloMosaic.Lib.Pipeline.ValueKit
public import Idealize.ShloMosaic.Lib.MatmulPlain
public import Idealize.ShloMosaic.Lib.ValueIdx
public import Idealize.ShloMosaic.Lib.ValueLayout
public import Idealize.ShloMosaic.Lib.ValueLayoutCasts

@[expose] public section

set_option maxRecDepth 16384

noncomputable section

namespace Cert.MixIdeal.Hand

open Idealize.ShloMosaic hiding ix1 ix2 ix3 truncf_apply
open Idealize.ShloMosaic.ValueIdx
open Cert.MixIdeal.Gen

/-! # The mixer's output at the ideal values, element by element

`mixOut` is one token's output in plain mathematics. The lemmas below read the kernel's tile at an element and find it there. -/

/-- One branch of a token: its attention output times the branch's weights. -/
def branch (o : Fin 512 → EReal) (w : Fin 512 → Fin 1024 → EReal) (l : Fin 1024) : EReal := ∑ k : Fin 512, o k * w k l

/-- The gated sum of the two branches. -/
def gated (of os : Fin 512 → EReal) (ga gb : Fin 1024 → EReal) (wf ws : Fin 512 → Fin 1024 → EReal) (l : Fin 1024) : EReal :=
  ga l * branch of wf l + gb l * branch os ws l

/-- The residual stream plus the projection of the gated sum. -/
def mixOut (h : Fin 1024 → EReal) (of os : Fin 512 → EReal) (ga gb : Fin 1024 → EReal) (wf ws : Fin 512 → Fin 1024 → EReal)
    (wo : Fin 1024 → Fin 1024 → EReal) (c : Fin 1024) : EReal :=
  h c + ∑ l : Fin 1024, gated of os ga gb wf ws l * wo l c

/-! ## The products -/

/-- A branch's product, at an element. -/
theorem mulBranch_apply (w : FVec Ideal S1024x512 .bf16) (o : FVec Ideal S512x768 .bf16) (l : Fin 1024) (r : Fin 768) :
    matmul dot_S1024x512_S512x768_S1024x768_1_0_0_1_n_n none w o (constant S1024x768 .f32 0x00000000#32) (ix2 l r) = ∑ k : Fin 512, w (ix2 l k) * o (ix2 k r) := by
  rw [show dot_S1024x512_S512x768_S1024x768_1_0_0_1_n_n = DotDims.plain 1024 512 768 from rfl]
  refine (Ideal.matmul_plain_apply none w o _ l r).trans ?_
  rw [constant_apply, Ideal.ofBits_zero_f32, zero_add]

/-- The output projection, both operands contracted along their first axis, at an element. -/
theorem mulOut_apply (y : FVec Ideal S1024x768 .bf16) (w : FVec Ideal S1024x1024 .bf16) (r : Fin 768) (c : Fin 1024) :
    matmul dot_S1024x768_S1024x1024_S768x1024_0_0_1_1_n_n none y w (constant S768x1024 .f32 0x00000000#32) (ix2 r c) = ∑ l : Fin 1024, y (ix2 l r) * w (ix2 l c) := by
  let D := dot_S1024x768_S1024x1024_S768x1024_0_0_1_1_n_n
  have hr : D.contr.rank = 1 := rfl
  have hs : D.contr.size ⟨0, by rw [hr]; omega⟩ = 1024 := rfl
  refine (Ideal.matmul_apply D none y w _ _).trans ?_
  rw [constant_apply, Ideal.ofBits_zero_f32, zero_add, ← Equiv.sum_comp (contrEquiv1 D 1024 hr hs).symm]
  refine Finset.sum_congr rfl fun l _ => ?_
  have hv := contrEquiv1_symm_val D 1024 hr hs l
  have el : D.lhsIdx (ix2 r c) ((contrEquiv1 D 1024 hr hs).symm l) = ix2 l r := by
    funext x; apply Fin.ext
    match x with
    | ⟨0, _⟩ => exact hv
    | ⟨1, _⟩ => rfl
  have er : D.rhsIdx (ix2 r c) ((contrEquiv1 D 1024 hr hs).symm l) = ix2 l c := by
    funext x; apply Fin.ext
    match x with
    | ⟨0, _⟩ => exact hv
    | ⟨1, _⟩ => rfl
  rw [el, er]

/-! ## The tile -/

/-- What the kernel stores, at an element. -/
theorem pay_apply (ga : FVec Ideal S1024x768 .bf16) (wf : FVec Ideal S1024x512 .bf16) (of : FVec Ideal S512x768 .bf16)
    (gb : FVec Ideal S1024x768 .bf16) (ws : FVec Ideal S1024x512 .bf16) (os : FVec Ideal S512x768 .bf16)
    (h : FVec Ideal S768x1024 .f32) (wo : FVec Ideal S1024x1024 .bf16) (r : Fin 768) (c : Fin 1024) :
    k0_pay1 (F := Ideal) ga wf of gb ws os h wo (ix2 r c)
      = mixOut (fun o => h (ix2 r o)) (fun k => of (ix2 k r)) (fun k => os (ix2 k r)) (fun l => ga (ix2 l r)) (fun l => gb (ix2 l r))
          (fun k l => wf (ix2 l k)) (fun k l => ws (ix2 l k)) (fun l o => wo (ix2 l o)) c := by
  unfold k0_pay1 mixOut
  simp only [shapeCast_self]
  refine (congrArg (h (ix2 r c) + ·) (mulOut_apply _ wo r c)).trans (congrArg (h (ix2 r c) + ·) (Finset.sum_congr rfl fun l _ => congrArg (· * wo (ix2 l c)) ?_))
  have e : ∀ (w : FVec Ideal S1024x512 .bf16) (o : FVec Ideal S512x768 .bf16),
      matmul dot_S1024x512_S512x768_S1024x768_1_0_0_1_n_n none w o (constant S1024x768 .f32 0x00000000#32) (ix2 l r) = branch (fun k => o (ix2 k r)) (fun k l => w (ix2 l k)) l := fun w o =>
    (mulBranch_apply w o l r).trans (Finset.sum_congr rfl fun k _ => mul_comm _ _)
  exact congrArg₂ (fun a b : EReal => ga (ix2 l r) * a + gb (ix2 l r) * b) (e wf of) (e ws os)

end Cert.MixIdeal.Hand

end
-- ==== Proof.MixRef.lean ====
module

public import proofs.«01_k».proof.Proof.Gen.MixRefIdeal.Run
public import proofs.«01_k».proof.Proof.Gen.MixRefIdeal.Read
public import proofs.«01_k».proof.Proof.MixVal

@[expose] public section

set_option maxRecDepth 16384

noncomputable section

namespace Cert.MixRefIdeal.Hand

open Idealize.ShloMosaic hiding ix1 ix2 ix3 truncf_apply
open Idealize.ShloMosaic.ValueIdx
open Cert.MixRefIdeal Cert.MixRefIdeal.Read
open Cert.MixIdeal.Hand (branch gated mixOut)

/-! # The reference, element by element

The reference's chain of host operations, read at an element: it is `mixOut` of the token's row. -/

variable (x0 : (⟨S16896x1024, .f32⟩ : BufTy).Contents (Elt Ideal)) (x1 x2 : (⟨S512x16896, .bf16⟩ : BufTy).Contents (Elt Ideal))
  (x3 x4 : (⟨S1024x16896, .bf16⟩ : BufTy).Contents (Elt Ideal)) (x5 x6 : (⟨S2x512x1024, .f32⟩ : BufTy).Contents (Elt Ideal))
  (x7 : (⟨S2x1024x1024, .f32⟩ : BufTy).Contents (Elt Ideal))

/-- Token `p`'s row of the residual stream; -/
def row (p : Fin 16896) (o : Fin 1024) : EReal := x0 (ix2 p o)
/-- its column of a branch's attention output; -/
def colO (p : Fin 16896) (k : Fin 512) : EReal := x1 (ix2 k p)
/-- its column of a gate; -/
def colG (p : Fin 16896) (l : Fin 1024) : EReal := x3 (ix2 l p)
/-- the second layer's weights of a branch, -/
def wB (k : Fin 512) (l : Fin 1024) : EReal := x5 (ix3 1 k l)
/-- and of the output projection. -/
def wO (l : Fin 1024) (o : Fin 1024) : EReal := x7 (ix3 1 l o)

theorem v9_at (k : Fin 512) (l : Fin 1024) : val_main_v9 (F := Ideal) x5 (ix2 k l) = wB x5 k l := by
  rw [val_main_v9_apply, val_main_v8_apply]
  refine congrArg x5 (funext fun a => Fin.ext ?_)
  have := k.isLt
  have := l.isLt
  match a with
  | ⟨0, _⟩ => rfl
  | ⟨1, _⟩ => show (k.val * 1024 + l.val) / 1024 % 512 = k.val; omega
  | ⟨2, _⟩ => show (k.val * 1024 + l.val) % 1024 = l.val; omega

theorem v13_at (k : Fin 512) (l : Fin 1024) : val_main_v13 (F := Ideal) x6 (ix2 k l) = wB x6 k l := by
  rw [val_main_v13_apply, val_main_v12_apply]
  refine congrArg x6 (funext fun a => Fin.ext ?_)
  have := k.isLt
  have := l.isLt
  match a with
  | ⟨0, _⟩ => rfl
  | ⟨1, _⟩ => show (k.val * 1024 + l.val) / 1024 % 512 = k.val; omega
  | ⟨2, _⟩ => show (k.val * 1024 + l.val) % 1024 = l.val; omega

theorem v18_at (k : Fin 1024) (l : Fin 1024) : val_main_v18 (F := Ideal) x7 (ix2 k l) = wO x7 k l := by
  rw [val_main_v18_apply, val_main_v17_apply]
  refine congrArg x7 (funext fun a => Fin.ext ?_)
  have := k.isLt
  have := l.isLt
  match a with
  | ⟨0, _⟩ => rfl
  | ⟨1, _⟩ => show (k.val * 1024 + l.val) / 1024 % 1024 = k.val; omega
  | ⟨2, _⟩ => show (k.val * 1024 + l.val) % 1024 = l.val; omega

theorem v1_at (p : Fin 16896) (k : Fin 512) : val_main_v1 (F := Ideal) x1 (ix2 p k) = colO x1 p k := by
  rw [val_main_v1_apply, val_main_v0_apply, show idx_main_v1 (ix2 p k) = ix2 k p from funext fun a => by match a with | ⟨0, _⟩ => rfl | ⟨1, _⟩ => rfl]
  rfl

theorem v3_at (p : Fin 16896) (k : Fin 512) : val_main_v3 (F := Ideal) x2 (ix2 p k) = colO x2 p k := by
  rw [val_main_v3_apply, val_main_v2_apply, show idx_main_v3 (ix2 p k) = ix2 k p from funext fun a => by match a with | ⟨0, _⟩ => rfl | ⟨1, _⟩ => rfl]
  rfl

theorem v5_at (p : Fin 16896) (k : Fin 1024) : val_main_v5 (F := Ideal) x3 (ix2 p k) = colG x3 p k := by
  rw [val_main_v5_apply, val_main_v4_apply, show idx_main_v5 (ix2 p k) = ix2 k p from funext fun a => by match a with | ⟨0, _⟩ => rfl | ⟨1, _⟩ => rfl]
  rfl

theorem v7_at (p : Fin 16896) (k : Fin 1024) : val_main_v7 (F := Ideal) x4 (ix2 p k) = colG x4 p k := by
  rw [val_main_v7_apply, val_main_v6_apply, show idx_main_v7 (ix2 p k) = ix2 k p from funext fun a => by match a with | ⟨0, _⟩ => rfl | ⟨1, _⟩ => rfl]
  rfl

theorem v10_at (p : Fin 16896) (l : Fin 1024) : val_main_v10 (F := Ideal) x1 x5 (ix2 p l) = branch (colO x1 p) (wB x5) l := by
  rw [val_main_v10_apply]
  refine Finset.sum_congr rfl fun k _ => ?_
  rw [show lidx_main_v10 (ix2 p l) k = ix2 p k from funext fun a => by match a with | ⟨0, _⟩ => rfl | ⟨1, _⟩ => rfl,
    show ridx_main_v10 (ix2 p l) k = ix2 k l from funext fun a => by match a with | ⟨0, _⟩ => rfl | ⟨1, _⟩ => rfl, v1_at, v9_at]

theorem v14_at (p : Fin 16896) (l : Fin 1024) : val_main_v14 (F := Ideal) x2 x6 (ix2 p l) = branch (colO x2 p) (wB x6) l := by
  rw [val_main_v14_apply]
  refine Finset.sum_congr rfl fun k _ => ?_
  rw [show lidx_main_v14 (ix2 p l) k = ix2 p k from funext fun a => by match a with | ⟨0, _⟩ => rfl | ⟨1, _⟩ => rfl,
    show ridx_main_v14 (ix2 p l) k = ix2 k l from funext fun a => by match a with | ⟨0, _⟩ => rfl | ⟨1, _⟩ => rfl, v3_at, v13_at]

/-- The gated sum of the branches. -/
theorem v16_at (p : Fin 16896) (l : Fin 1024) : val_main_v16 (F := Ideal) x1 x2 x3 x4 x5 x6 (ix2 p l)
    = gated (colO x1 p) (colO x2 p) (colG x3 p) (colG x4 p) (wB x5) (wB x6) l := by
  rw [val_main_v16_apply, val_main_v11_apply, val_main_v15_apply, v5_at, v7_at, v10_at, v14_at]
  rfl

theorem v20_at (p : Fin 16896) (o : Fin 1024) : val_main_v20 (F := Ideal) x0 x1 x2 x3 x4 x5 x6 x7 (ix2 p o)
    = mixOut (row x0 p) (colO x1 p) (colO x2 p) (colG x3 p) (colG x4 p) (wB x5) (wB x6) (wO x7) o := by
  rw [val_main_v20_apply, val_main_v19_apply]
  refine congrArg (x0 (ix2 p o) + ·) (Finset.sum_congr rfl fun l _ => ?_)
  rw [show lidx_main_v19 (ix2 p o) l = ix2 p l from funext fun a => by match a with | ⟨0, _⟩ => rfl | ⟨1, _⟩ => rfl,
    show ridx_main_v19 (ix2 p o) l = ix2 l o from funext fun a => by match a with | ⟨0, _⟩ => rfl | ⟨1, _⟩ => rfl, v16_at, v18_at]

end Cert.MixRefIdeal.Hand

end
-- ==== Proof.MixOut.lean ====
module

public import proofs.«01_k».proof.Proof.MixVal
public import proofs.«01_k».proof.Proof.MixRef

@[expose] public section

set_option maxRecDepth 16384

noncomputable section

namespace Cert.MixIdeal.Hand

open Idealize.ShloMosaic hiding ix1 ix2 ix3 eq_ix2 eq_ix3 truncf_apply
open Idealize.ShloMosaic.TcCoe Idealize.ShloMosaic.Tactic
open Idealize.ShloMosaic.ValueIdx
open Idealize.ShloMosaic.Pipeline (Dat Cfg Window)
open Cert.MixIdeal.Gen
open Cert.MixRefIdeal.Hand (row colO colG wB wO)

/-! # The array the kernel leaves -/

variable (m : (ℓ : Loc nD τ sig) → Buf (Elt Ideal) ℓ) (ρ : Dev nD → PrngReg) (c : Dev nD)

abbrev A0 : (⟨S16896x1024, .f32⟩ : BufTy).Contents (Elt Ideal) := m ((c.tc : Thread nD τ).loc main_arg0)
abbrev A1 : (⟨S512x16896, .bf16⟩ : BufTy).Contents (Elt Ideal) := m ((c.tc : Thread nD τ).loc main_arg1)
abbrev A2 : (⟨S512x16896, .bf16⟩ : BufTy).Contents (Elt Ideal) := m ((c.tc : Thread nD τ).loc main_arg2)
abbrev A3 : (⟨S1024x16896, .bf16⟩ : BufTy).Contents (Elt Ideal) := m ((c.tc : Thread nD τ).loc main_arg3)
abbrev A4 : (⟨S1024x16896, .bf16⟩ : BufTy).Contents (Elt Ideal) := m ((c.tc : Thread nD τ).loc main_arg4)
abbrev A5 : (⟨S2x512x1024, .f32⟩ : BufTy).Contents (Elt Ideal) := m ((c.tc : Thread nD τ).loc main_arg5)
abbrev A6 : (⟨S2x512x1024, .f32⟩ : BufTy).Contents (Elt Ideal) := m ((c.tc : Thread nD τ).loc main_arg6)
abbrev A7 : (⟨S2x1024x1024, .f32⟩ : BufTy).Contents (Elt Ideal) := m ((c.tc : Thread nD τ).loc main_arg7)

/-! ## The blocks of a grid point, at an element -/

theorem tok_lt (t : Fin cfg0.N) (r : Fin 768) : t.val * 768 + r.val < 16896 := by
  have : t.val < 22 := lt_of_lt_of_eq t.isLt (show cfg0.N = 22 from N_0)
  have := r.isLt
  omega

/-- The token at row `r` of a grid point's tile. -/
def tok (t : Fin cfg0.N) (r : Fin 768) : Fin 16896 := ⟨t.val * 768 + r.val, tok_lt t r⟩

theorem idx0 : ∀ t : Fin grid0.N, win0_0.index t 0 = t.val ∧ win0_0.index t 1 = 0 := by decide +kernel
theorem idx8 : ∀ t : Fin grid0.N, win0_8.index t 0 = t.val ∧ win0_8.index t 1 = 0 := by decide +kernel
theorem idx1 : ∀ t : Fin grid0.N, win0_1.index t 0 = 0 ∧ win0_1.index t 1 = t.val := by decide +kernel
theorem idx2 : ∀ t : Fin grid0.N, win0_2.index t 0 = 0 ∧ win0_2.index t 1 = t.val := by decide +kernel
theorem idx3 : ∀ t : Fin grid0.N, win0_3.index t 0 = 0 ∧ win0_3.index t 1 = t.val := by decide +kernel
theorem idx4 : ∀ t : Fin grid0.N, win0_4.index t 0 = 0 ∧ win0_4.index t 1 = t.val := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel

theorem blk0 (t : Fin cfg0.N) (r : Fin 768) (o : Fin 1024) : (iblk m c 0 t : FVec Ideal S768x1024 .f32) (ix2 r o) = row (A0 m c) (tok t r) o := by
  blk_simp [iblk]
  rw [V_main_arg0]
  refine congrArg (A0 m c) (funext fun a => Fin.ext ?_)
  match a with
  | ⟨0, _⟩ => show win0_0.index t 0 * 768 + 1 * r.val = t.val * 768 + r.val; rw [(idx0 t).1]; omega
  | ⟨1, _⟩ => show win0_0.index t 1 * 1024 + 1 * o.val = o.val; rw [(idx0 t).2]; omega

theorem blk1 (t : Fin cfg0.N) (k : Fin 512) (r : Fin 768) : (iblk m c 1 t : FVec Ideal S512x768 .bf16) (ix2 k r) = colO (A1 m c) (tok t r) k := by
  blk_simp [iblk]
  rw [V_main_arg1]
  refine congrArg (A1 m c) (funext fun a => Fin.ext ?_)
  match a with
  | ⟨0, _⟩ => show win0_1.index t 0 * 512 + 1 * k.val = k.val; rw [(idx1 t).1]; omega
  | ⟨1, _⟩ => show win0_1.index t 1 * 768 + 1 * r.val = t.val * 768 + r.val; rw [(idx1 t).2]; omega

theorem blk2 (t : Fin cfg0.N) (k : Fin 512) (r : Fin 768) : (iblk m c 2 t : FVec Ideal S512x768 .bf16) (ix2 k r) = colO (A2 m c) (tok t r) k := by
  blk_simp [iblk]
  rw [V_main_arg2]
  refine congrArg (A2 m c) (funext fun a => Fin.ext ?_)
  match a with
  | ⟨0, _⟩ => show win0_2.index t 0 * 512 + 1 * k.val = k.val; rw [(idx2 t).1]; omega
  | ⟨1, _⟩ => show win0_2.index t 1 * 768 + 1 * r.val = t.val * 768 + r.val; rw [(idx2 t).2]; omega

theorem blk3 (t : Fin cfg0.N) (k : Fin 1024) (r : Fin 768) : (iblk m c 3 t : FVec Ideal S1024x768 .bf16) (ix2 k r) = colG (A3 m c) (tok t r) k := by
  blk_simp [iblk]
  rw [V_main_arg3]
  refine congrArg (A3 m c) (funext fun a => Fin.ext ?_)
  match a with
  | ⟨0, _⟩ => show win0_3.index t 0 * 1024 + 1 * k.val = k.val; rw [(idx3 t).1]; omega
  | ⟨1, _⟩ => show win0_3.index t 1 * 768 + 1 * r.val = t.val * 768 + r.val; rw [(idx3 t).2]; omega

theorem blk4 (t : Fin cfg0.N) (k : Fin 1024) (r : Fin 768) : (iblk m c 4 t : FVec Ideal S1024x768 .bf16) (ix2 k r) = colG (A4 m c) (tok t r) k := by
  blk_simp [iblk]
  rw [V_main_arg4]
  refine congrArg (A4 m c) (funext fun a => Fin.ext ?_)
  match a with
  | ⟨0, _⟩ => show win0_4.index t 0 * 1024 + 1 * k.val = k.val; rw [(idx4 t).1]; omega
  | ⟨1, _⟩ => show win0_4.index t 1 * 768 + 1 * r.val = t.val * 768 + r.val; rw [(idx4 t).2]; omega

/-- The second layer's slice of a branch's weights, cut out, cast and transposed, at an element. -/
theorem wB_host (x : (⟨S2x512x1024, .f32⟩ : BufTy).Contents (Elt Ideal)) (l : Fin 1024) (k : Fin 512) :
    (transpose S1024x512 [1, 0] (truncf (F := Ideal) .bf16 (shapeCast S512x1024 (extractStridedSlice S1x512x1024 ![1, 0, 0] x slices_S2x512x1024_S1x512x1024_1_0_0) shapeCasts_S1x512x1024_S512x1024 : FVec Ideal S512x1024 .f32) bitsLt_bf16_f32) transposes_S512x1024_S1024x512_1_0 : FVec Ideal S1024x512 .bf16) (ix2 l k)
      = wB x k l := by
  refine (transpose_apply [1, 0] _ _ (ix2 l k) (ix2 k l) (fun b => by match b with | ⟨0, _⟩ => rfl | ⟨1, _⟩ => rfl)).trans ?_
  refine Eq.trans (show _ = shapeCast S512x1024 (extractStridedSlice S1x512x1024 ![1, 0, 0] x slices_S2x512x1024_S1x512x1024_1_0_0) shapeCasts_S1x512x1024_S512x1024 (ix2 k l) from rfl) ((shapeCast_1ab_ab_apply _ _ k l).trans ?_)
  refine extractStridedSlice_apply ![1, 0, 0] x _ (ix3 (0 : Fin 1) k l) (ix3 (1 : Fin 2) k l) (fun a => ?_)
  match a with
  | ⟨0, _⟩ => rfl
  | ⟨1, _⟩ => exact (Nat.zero_add _).symm
  | ⟨2, _⟩ => exact (Nat.zero_add _).symm

/-- The second layer's slice of the output projection, cut out and cast, at an element. -/
theorem wO_host (x : (⟨S2x1024x1024, .f32⟩ : BufTy).Contents (Elt Ideal)) (l o : Fin 1024) :
    (truncf (F := Ideal) .bf16 (shapeCast S1024x1024 (extractStridedSlice S1x1024x1024 ![1, 0, 0] x slices_S2x1024x1024_S1x1024x1024_1_0_0) shapeCasts_S1x1024x1024_S1024x1024 : FVec Ideal S1024x1024 .f32) bitsLt_bf16_f32 : FVec Ideal S1024x1024 .bf16) (ix2 l o)
      = wO x l o := by
  refine Eq.trans (show _ = shapeCast S1024x1024 (extractStridedSlice S1x1024x1024 ![1, 0, 0] x slices_S2x1024x1024_S1x1024x1024_1_0_0) shapeCasts_S1x1024x1024_S1024x1024 (ix2 l o) from rfl) ((shapeCast_1ab_ab_apply _ _ l o).trans ?_)
  refine extractStridedSlice_apply ![1, 0, 0] x _ (ix3 (0 : Fin 1) l o) (ix3 (1 : Fin 2) l o) (fun a => ?_)
  match a with
  | ⟨0, _⟩ => rfl
  | ⟨1, _⟩ => exact (Nat.zero_add _).symm
  | ⟨2, _⟩ => exact (Nat.zero_add _).symm

theorem blk5 (t : Fin cfg0.N) (l : Fin 1024) (k : Fin 512) : (iblk m c 5 t : FVec Ideal S1024x512 .bf16) (ix2 l k) = wB (A5 m c) k l := by
  have e : (win0_5.blk t).view.emb (ix2 l k) = ix2 l k := funext fun a => Fin.ext (by
    match a with
    | ⟨0, _⟩ => show win0_5.index t 0 * 1024 + 1 * l.val = l.val; rw [(idx5 t).1]; omega
    | ⟨1, _⟩ => show win0_5.index t 1 * 512 + 1 * k.val = k.val; rw [(idx5 t).2]; omega)
  refine Eq.trans (congrArg (V m c (Pipeline.arrRef spec0 5)) e) ?_
  entry_read
  exact wB_host (A5 m c) l k

theorem blk6 (t : Fin cfg0.N) (l : Fin 1024) (k : Fin 512) : (iblk m c 6 t : FVec Ideal S1024x512 .bf16) (ix2 l k) = wB (A6 m c) k l := by
  have e : (win0_6.blk t).view.emb (ix2 l k) = ix2 l k := funext fun a => Fin.ext (by
    match a with
    | ⟨0, _⟩ => show win0_6.index t 0 * 1024 + 1 * l.val = l.val; rw [(idx6 t).1]; omega
    | ⟨1, _⟩ => show win0_6.index t 1 * 512 + 1 * k.val = k.val; rw [(idx6 t).2]; omega)
  refine Eq.trans (congrArg (V m c (Pipeline.arrRef spec0 6)) e) ?_
  entry_read
  exact wB_host (A6 m c) l k

theorem blk7 (t : Fin cfg0.N) (l o : Fin 1024) : (iblk m c 7 t : FVec Ideal S1024x1024 .bf16) (ix2 l o) = wO (A7 m c) l o := by
  have e : (win0_7.blk t).view.emb (ix2 l o) = ix2 l o := funext fun a => Fin.ext (by
    match a with
    | ⟨0, _⟩ => show win0_7.index t 0 * 1024 + 1 * l.val = l.val; rw [(idx7 t).1]; omega
    | ⟨1, _⟩ => show win0_7.index t 1 * 1024 + 1 * o.val = o.val; rw [(idx7 t).2]; omega)
  refine Eq.trans (congrArg (V m c (Pipeline.arrRef spec0 7)) e) ?_
  entry_read
  exact wO_host (A7 m c) l o

/-! ## A tile's output -/

/-- One token's output. -/
abbrev tokenOut (p : Fin 16896) (o : Fin 1024) : EReal :=
  mixOut (row (A0 m c) p) (colO (A1 m c) p) (colO (A2 m c) p) (colG (A3 m c) p) (colG (A4 m c) p) (wB (A5 m c)) (wB (A6 m c)) (wO (A7 m c)) o

/-- What a tile writes back, at an element. -/
theorem out_at (t : Fin cfg0.N) (r : Fin 768) (o : Fin 1024) :
    out0_8 (F := Ideal) (iblk m c 0 t) (iblk m c 1 t) (iblk m c 2 t) (iblk m c 3 t) (iblk m c 4 t) (iblk m c 5 t) (iblk m c 6 t) (iblk m c 7 t) (ix2 r o)
      = tokenOut m c (tok t r) o := by
  have h0 : (fun o => (iblk m c 0 t : FVec Ideal S768x1024 .f32) (ix2 r o)) = row (A0 m c) (tok t r) := funext fun o => blk0 m c t r o
  have h1 : (fun k => (iblk m c 1 t : FVec Ideal S512x768 .bf16) (ix2 k r)) = colO (A1 m c) (tok t r) := funext fun k => blk1 m c t k r
  have h2 : (fun k => (iblk m c 2 t : FVec Ideal S512x768 .bf16) (ix2 k r)) = colO (A2 m c) (tok t r) := funext fun k => blk2 m c t k r
  have h3 : (fun l => (iblk m c 3 t : FVec Ideal S1024x768 .bf16) (ix2 l r)) = colG (A3 m c) (tok t r) := funext fun l => blk3 m c t l r
  have h4 : (fun l => (iblk m c 4 t : FVec Ideal S1024x768 .bf16) (ix2 l r)) = colG (A4 m c) (tok t r) := funext fun l => blk4 m c t l r
  have h5 : (fun k l => (iblk m c 5 t : FVec Ideal S1024x512 .bf16) (ix2 l k)) = wB (A5 m c) := funext fun k => funext fun l => blk5 m c t l k
  have h6 : (fun k l => (iblk m c 6 t : FVec Ideal S1024x512 .bf16) (ix2 l k)) = wB (A6 m c) := funext fun k => funext fun l => blk6 m c t l k
  have h7 : (fun l o => (iblk m c 7 t : FVec Ideal S1024x1024 .bf16) (ix2 l o)) = wO (A7 m c) := funext fun l => funext fun o => blk7 m c t l o
  unfold out0_8 tokenOut
  have hz : (![0, 0] : Fin 2 → ℕ) = fun _ => 0 := funext fun a => by match a with | ⟨0, _⟩ => rfl | ⟨1, _⟩ => rfl
  rw [View.canon_unit_zero hz, ← h0, ← h1, ← h2, ← h3, ← h4, ← h5, ← h6, ← h7]
  rw [View.ld_unit_zero hz, View.ld_unit_zero hz, View.ld_unit_zero hz, View.ld_unit_zero hz, View.ld_unit_zero hz, View.ld_unit_zero hz, View.ld_unit_zero hz, View.ld_unit_zero hz]
  exact pay_apply _ _ _ _ _ _ _ _ r o

/-! ## The result array -/

/-- The output array, element by element. -/
def G (c : Dev nD) : Buf (Elt Ideal) ((c.tc : Thread nD τ).loc main_v11) := fun i : S16896x1024.Idx =>
  tokenOut m c ⟨(i 0).val, (i 0).isLt⟩ ⟨(i 1).val, (i 1).isLt⟩

/-- An element of the output array, named by its row and its column. -/
theorem G_at (i : S16896x1024.Idx) (p : Fin 16896) (o : Fin 1024) (e : p.val = (i 0).val) (eo : o.val = (i 1).val) : tokenOut m c p o = G m c i := by
  obtain rfl : p = ⟨(i 0).val, (i 0).isLt⟩ := Fin.ext e
  obtain rfl : o = ⟨(i 1).val, (i 1).isLt⟩ := Fin.ext eo
  rfl

/-- The array the launch leaves in its result is `G`. -/
theorem final : (dats m 0 c).arrAt 8 cfg0.N = G m c := by
  refine (dats m 0 c).arrAt_eq_of_covers 8 _ (by decide +kernel) (fun t hf y => ?_)
  blk_simp
  rw [after0_8]
  have h0 : (y 0).val < 768 := (y 0).isLt
  have h1 : (y 1).val < 1024 := (y 1).isLt
  have ey : y = ix2 (⟨(y 0).val, h0⟩ : Fin 768) (⟨(y 1).val, h1⟩ : Fin 1024) := funext fun a => Fin.ext (by
    match a with
    | ⟨0, _⟩ => rfl
    | ⟨1, _⟩ => rfl)
  obtain ⟨i0, i1⟩ := idx8 t
  have e0 : ((win0_8.blk t).view.emb y 0).val = t.val * 768 + (y 0).val := by blk_simp [i0]
  have e1 : ((win0_8.blk t).view.emb y 1).val = (y 1).val := by blk_simp [i1]
  refine (congrArg (out0_8 (F := Ideal) (iblk m c 0 t) (iblk m c 1 t) (iblk m c 2 t) (iblk m c 3 t) (iblk m c 4 t) (iblk m c 5 t) (iblk m c 6 t) (iblk m c 7 t)) ey).trans ((out_at m c t _ _).trans ?_)
  exact G_at m c _ _ _ (by rw [e0]; rfl) e1.symm

/-- The kernel's run, its result read. -/
theorem run_value : θ_run defs (onTc (τ := τ) (main (F := Ideal))) ⟨m, fun _ => 0, ρ⟩ (fun r => ∀ c : Dev nD,
      r.2.mem ((c.tc : Thread nD τ).loc main_v11) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (final m c), (h c).2⟩) (Cert.MixIdeal.Value.run_blocks m ρ)

/-- The reference's array is the kernel's, of arguments that agree. -/
theorem ref_eq (x0 : (⟨S16896x1024, .f32⟩ : BufTy).Contents (Elt Ideal)) (x1 x2 : (⟨S512x16896, .bf16⟩ : BufTy).Contents (Elt Ideal))
    (x3 x4 : (⟨S1024x16896, .bf16⟩ : BufTy).Contents (Elt Ideal)) (x5 x6 : (⟨S2x512x1024, .f32⟩ : BufTy).Contents (Elt Ideal))
    (x7 : (⟨S2x1024x1024, .f32⟩ : BufTy).Contents (Elt Ideal))
    (h0 : x0 = A0 m c) (h1 : x1 = A1 m c) (h2 : x2 = A2 m c) (h3 : x3 = A3 m c) (h4 : x4 = A4 m c) (h5 : x5 = A5 m c) (h6 : x6 = A6 m c) (h7 : x7 = A7 m c) :
    Cert.MixRefIdeal.Read.val_main_v20 (F := Ideal) x0 x1 x2 x3 x4 x5 x6 x7 = G m c := by
  subst h0 h1 h2 h3 h4 h5 h6 h7
  funext i
  obtain ⟨p, o, rfl⟩ : ∃ (p : Fin 16896) (o : Fin 1024), i = ix2 p o := ⟨_, _, eq_ix2 i⟩
  exact Cert.MixRefIdeal.Hand.v20_at _ _ _ _ _ _ _ _ p o

end Cert.MixIdeal.Hand

end
-- ==== Proof.MixClaims.lean ====
module

public import proofs.«01_k».proof.Defs
public import proofs.«01_k».proof.Proof.Gen.Mix.Frame
public import proofs.«01_k».proof.Proof.MixOut
public import Idealize.ShloMosaic.Lib.Quiescent

@[expose] public section

/-! # The feed-forward block between: its claims -/

namespace Cert.Proof.Mix

open Idealize.ShloMosaic Idealize.ShloMosaic.TcCoe Idealize.SL.Sem

/-- The kernel at the machine's words ends, its arguments unchanged and its semaphores at zero. -/
theorem frame_bits : Cert.quiescent_Mix := fun m ρ _ => Cert.Mix.Gen.frame m ρ

/-- So does the kernel over the extended reals. -/
theorem frame_ideal : Cert.quiescent_MixIdeal := fun m ρ _ => Cert.MixIdeal.Gen.frame m ρ

/-- So does the reference, which has no semaphore. -/
theorem frame_ref : Cert.quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)

/-- Nothing was rewritten in the idealized kernel. -/
theorem preserves : Cert.preserves_Mix_MixIdeal := trivial

/-- Over the extended reals the kernel leaves the array that the reference leaves, whatever the arguments hold. -/
theorem algebraic : Cert.algebraic_MixIdeal_MixRefIdeal := by
  intro m ρ m' ρ' _ hagree
  refine ⟨fun c => Cert.MixIdeal.Hand.G m c, Cert.MixIdeal.Hand.run_value m ρ, ?_⟩
  refine (θ_run Cert.MixRefIdeal.defs _ _).mono (fun _ h c => ⟨(h c).1.trans ?_, (h c).2⟩)
    (Cert.MixRefIdeal.Value.run (F := Ideal) m' ρ')
  refine (Cert.MixRefIdeal.Read.val_main_v20_eq _ _ _ _ _ _ _ _).trans ?_
  exact Cert.MixIdeal.Hand.ref_eq m c _ _ _ _ _ _ _ _ (hagree c).1 (hagree c).2.1 (hagree c).2.2.1 (hagree c).2.2.2.1 (hagree c).2.2.2.2.1 (hagree c).2.2.2.2.2.1 (hagree c).2.2.2.2.2.2.1 (hagree c).2.2.2.2.2.2.2

end Cert.Proof.Mix

end
-- ==== Proof.ProjRun.lean ====
module

public import proofs.«01_k».proof.Proof.Gen.ProjIdeal.Frame
public import proofs.«01_k».proof.Proof.Gen.ProjIdeal.Skeleton
public import Idealize.ShloMosaic.Lib.Pipeline.ValueKit
public import Idealize.ShloMosaic.Lib.VecWindow
public import Idealize.ShloMosaic.Lib.Claim

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

open VecWindow

/-! # What one grid point of the projection kernel computes

A grid point projects one tile of 512 normalised rows, which an earlier point (or, for the first tile, the point itself) left in a
resident buffer, and leaves the next tile normalised there. Named here are the blocks of the window attention's values and of the two
gates, and the resident tile; the point's other results and buffers are left at some contents. -/

variable (c : Dev nD) (i : grid0.Coords)
  (arg1 : Memref sig .tc .smem S1 .f32) (harg1 : arg1.IsWhole)  (arg2 : Memref sig .tc .vmem S512x1024 .f32) (harg2 : arg2.IsWhole)
  (arg3 : Memref sig .tc .vmem S512x1024 .f32) (harg3 : arg3.IsWhole)  (arg4 : Memref sig .tc .vmem S1x1024 .f32) (harg4 : arg4.IsWhole)
  (arg5 : Memref sig .tc .vmem S3728x1024 .bf16) (harg5 : arg5.IsWhole)  (arg6 : Memref sig .tc .vmem S1024x640 .bf16) (harg6 : arg6.IsWhole)
  (arg7 : Memref sig .tc .vmem S16x1 .f32) (harg7 : arg7.IsWhole)  (arg8 : Memref sig .tc .vmem S64x1 .f32) (harg8 : arg8.IsWhole)
  (arg9 : Memref sig .tc .vmem S1x128 .f32) (harg9 : arg9.IsWhole)  (arg10 : Memref sig .tc .vmem S64x1 .f32) (harg10 : arg10.IsWhole)
  (arg11 : Memref sig .tc .vmem S1x128 .f32) (harg11 : arg11.IsWhole)  (arg12 : Memref sig .tc .vmem S1024x512 .bf16) (harg12 : arg12.IsWhole)
  (arg13 : Memref sig .tc .vmem S512x1024 .bf16) (harg13 : arg13.IsWhole)  (arg14 : Memref sig .tc .vmem S640x512 .bf16) (harg14 : arg14.IsWhole)
  (arg15 : Memref sig .tc .vmem S512x512 .bf16) (harg15 : arg15.IsWhole)  (arg16 : Memref sig .tc .vmem S512x128 .bf16) (harg16 : arg16.IsWhole)
  (arg17 : Memref sig .tc .vmem S128x512 .bf16) (harg17 : arg17.IsWhole)  (arg18 : Memref sig .tc .vmem S1024x512 .bf16) (harg18 : arg18.IsWhole)
  (arg19 : Memref sig .tc .vmem S1024x512 .bf16) (harg19 : arg19.IsWhole)  (arg20 : Memref sig .tc .vmem S16x128 .f32) (harg20 : arg20.IsWhole)
  (arg21 : Memref sig .tc .vmem S512x512 .bf16) (harg21 : arg21.IsWhole)  (arg22 : Memref sig .tc .vmem S512x1024 .bf16) (harg22 : arg22.IsWhole)
  (x1 : Vec F S1 .f32)  (x2 : Vec F S512x1024 .f32)  (x3 : Vec F S512x1024 .f32)  (x4 : Vec F S1x1024 .f32)  (x5 : Vec F S3728x1024 .bf16)  (x6 : Vec F S1024x640 .bf16)  (x7 : Vec F S16x1 .f32)  (x8 : Vec F S64x1 .f32)  (x9 : Vec F S1x128 .f32)  (x10 : Vec F S64x1 .f32)  (x11 : Vec F S1x128 .f32)
  (n22 : Vec F S512x1024 .bf16)

/-- The condition of the first grid point. -/
abbrev condA (i : grid0.Coords) : Prop := (Scalar.cmpi .ne (Scalar.extui (Scalar.cmpi .eq (BitVec.ofNat 32 (i 0).val) 0#32)) 0#32) = 1#1

/-- The normalised tile a point projects: the first point makes it, a later one finds it. -/
def xnAt (i : grid0.Coords) (x2 : Vec F S512x1024 .f32) (x4 : Vec F S1x1024 .f32) (n : Vec F S512x1024 .bf16) : Vec F S512x1024 .bf16 :=
  if condA i then k0_pay3 x2 x4 else n
/-- Eight blocks of rows, one under the other. -/
def bands {H R : ℕ} (v : Fin 8 → Vec F ⟨2, ![H, 512]⟩ .bf16) (hR : R = 8 * H := by rfl) (hH : 0 < H := by decide) : Vec F ⟨2, ![R, 512]⟩ .bf16 := fun y =>
  v ⟨(y 0).val / H, Nat.div_lt_of_lt_mul (by rw [Nat.mul_comm, ← hR]; exact (y 0).isLt)⟩
    (fun a => match a with | ⟨0, _⟩ => ⟨(y 0).val % H, Nat.mod_lt _ hH⟩ | ⟨1, _⟩ => ⟨(y 1).val, (y 1).isLt⟩)

theorem put_band {H R : ℕ} (hR : R = 8 * H) (hH : 0 < H) (x : Vec F ⟨2, ![R, 512]⟩ .bf16) (v : Fin 8 → Vec F ⟨2, ![H, 512]⟩ .bf16)
    (k : Fin 8) (n : ℕ) (hn : k.val = n) (y : (⟨2, ![R, 512]⟩ : Shape).Idx) :
    put x ![n * H, 0] ![H, 512] (v k) y = if (y 0).val / H = n then bands v hR hH y else x y := by
  have h1 : (y 1).val < 512 := (y 1).isLt
  have hdm := Nat.div_add_mod (y 0).val H
  have hlt := Nat.mod_lt (y 0).val hH
  unfold put
  by_cases h : (y 0).val / H = n
  · rw [h, Nat.mul_comm] at hdm
    have hall : ∀ a, (![n * H, 0] : Fin 2 → ℕ) a ≤ (y a).val ∧ (y a).val < (![n * H, 0] : Fin 2 → ℕ) a + (![H, 512] : Fin 2 → ℕ) a := fun a => by
      match a with
      | ⟨0, _⟩ => show n * H ≤ (y 0).val ∧ (y 0).val < n * H + H; omega
      | ⟨1, _⟩ => show 0 ≤ (y 1).val ∧ (y 1).val < 0 + 512; omega
    rw [if_pos h]
    refine (dif_pos hall).trans ((congrArg (v k) (funext fun a => Fin.ext ?_)).trans (congrFun (congrArg v (Fin.ext (hn.trans h.symm))) _))
    match a with
    | ⟨0, _⟩ => show (y 0).val - n * H = (y 0).val % H; omega
    | ⟨1, _⟩ => show (y 1).val - 0 = (y 1).val; omega
  · rw [if_neg h]
    refine dif_neg fun hall => h (Nat.div_eq_of_lt_le (hall 0).1 (lt_of_lt_of_eq (hall 0).2 (Nat.succ_mul n H).symm))

/-- Eight stores that put the blocks in place leave them, whatever lay there before. -/
theorem puts_bands {H R : ℕ} (hR : R = 8 * H) (hH : 0 < H) (x : Vec F ⟨2, ![R, 512]⟩ .bf16) (v : Fin 8 → Vec F ⟨2, ![H, 512]⟩ .bf16) :
    put (put (put (put (put (put (put (put x ![0 * H, 0] ![H, 512] (v 0)) ![1 * H, 0] ![H, 512] (v 1)) ![2 * H, 0] ![H, 512] (v 2)) ![3 * H, 0] ![H, 512] (v 3))
      ![4 * H, 0] ![H, 512] (v 4)) ![5 * H, 0] ![H, 512] (v 5)) ![6 * H, 0] ![H, 512] (v 6)) ![7 * H, 0] ![H, 512] (v 7) = bands v hR hH := by
  funext y
  have hy : (y 0).val / H < 8 := Nat.div_lt_of_lt_mul (by rw [Nat.mul_comm, ← hR]; exact (y 0).isLt)
  rw [put_band hR hH _ v 7 7 rfl, put_band hR hH _ v 6 6 rfl, put_band hR hH _ v 5 5 rfl, put_band hR hH _ v 4 4 rfl,
    put_band hR hH _ v 3 3 rfl, put_band hR hH _ v 2 2 rfl, put_band hR hH _ v 1 1 rfl, put_band hR hH _ v 0 0 rfl]
  generalize (y 0).val / H = q at hy ⊢
  split_ifs <;> first | rfl | omega

/-- The weight rows of the attention's values, -/
def rowsVt (w : Vec F S3728x1024 .bf16) : Vec F S528x1024 .bf16 := window w ![512, 0] S528x1024.size inb_S3728x1024_S528x1024_512_0
/-- of the window attention's queries, -/
def rowsQs (w : Vec F S3728x1024 .bf16) : Vec F S512x1024 .bf16 := window w ![1040, 0] S512x1024.size inb_S3728x1024_S512x1024_1040_0
/-- One head's values of the attention, with its rows of ones. -/
def vtBand (n : Vec F S512x1024 .bf16) (w : Vec F S528x1024 .bf16) : Fin 8 → Vec F S80x512 .bf16
  | 0 => k0_pay8 n w
  | 1 => k0_pay9 n w
  | 2 => k0_pay11 k0_pay7 (k0_pay10 n w)
  | 3 => k0_pay12 (k0_pay6 n w) k0_pay7
  | 4 => k0_pay13 (k0_pay6 n w) k0_pay7
  | 5 => k0_pay14 (k0_pay6 n w) k0_pay7
  | 6 => k0_pay15 (k0_pay6 n w) k0_pay7
  | 7 => k0_pay16 (k0_pay6 n w) k0_pay7
/-- One head's queries of the window attention. -/
def qsBand (n : Vec F S512x1024 .bf16) (w : Vec F S512x1024 .bf16) (g : Vec F S64x1 .f32) : Fin 8 → Vec F S64x512 .bf16
  | 0 => k0_pay131 n w g
  | 1 => k0_pay133 (k0_pay132 n w g)
  | 2 => k0_pay134 (k0_pay130 n w) g
  | 3 => k0_pay135 (k0_pay130 n w) g
  | 4 => k0_pay136 (k0_pay130 n w) g
  | 5 => k0_pay137 (k0_pay130 n w) g
  | 6 => k0_pay139 (k0_pay138 (k0_pay130 n w)) g
  | 7 => k0_pay140 (k0_pay130 n w) g
/-- The weight rows of the window attention's values, -/
def rowsVs (w : Vec F S3728x1024 .bf16) : Vec F S128x1024 .bf16 := window w ![1552, 0] S128x1024.size inb_S3728x1024_S128x1024_1552_0
/-- of the first branch's gate, -/
def rowsGa (w : Vec F S3728x1024 .bf16) : Vec F S1024x1024 .bf16 := window w ![1680, 0] S1024x1024.size inb_S3728x1024_S1024x1024_1680_0
/-- and of the second branch's gate. -/
def rowsGb (w : Vec F S3728x1024 .bf16) : Vec F S1024x1024 .bf16 := window w ![2704, 0] S1024x1024.size inb_S3728x1024_S1024x1024_2704_0

set_option maxHeartbeats 8000000 in
/-- One grid point. -/
theorem point :
    (iprop(owns c.tc arg1 fullShare x1 ∗ owns c.tc arg2 fullShare x2 ∗ owns c.tc arg3 fullShare x3
      ∗ owns c.tc arg4 fullShare x4 ∗ owns c.tc arg5 fullShare x5 ∗ owns c.tc arg6 fullShare x6
      ∗ owns c.tc arg7 fullShare x7 ∗ owns c.tc arg8 fullShare x8 ∗ owns c.tc arg9 fullShare x9
      ∗ owns c.tc arg10 fullShare x10 ∗ owns c.tc arg11 fullShare x11 ∗ (∃ d, owns c.tc arg12 fullShare d)
      ∗ (∃ d, owns c.tc arg13 fullShare d) ∗ (∃ d, owns c.tc arg14 fullShare d) ∗ (∃ d, owns c.tc arg15 fullShare d)
      ∗ (∃ d, owns c.tc arg16 fullShare d) ∗ (∃ d, owns c.tc arg17 fullShare d) ∗ (∃ d, owns c.tc arg18 fullShare d)
      ∗ (∃ d, owns c.tc arg19 fullShare d) ∗ (∃ d, owns c.tc arg20 fullShare d) ∗ (∃ d, owns c.tc arg21 fullShare d)
      ∗ owns c.tc arg22 fullShare n22) : sProp 𝕄)
    ⊢ wp frame (wpE (defs₀ (F := F)) Variants.none c none) Set.univ
        (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop(owns c.tc arg1 fullShare x1 ∗ owns c.tc arg2 fullShare x2 ∗ owns c.tc arg3 fullShare x3
          ∗ owns c.tc arg4 fullShare x4 ∗ owns c.tc arg5 fullShare x5 ∗ owns c.tc arg6 fullShare x6
          ∗ owns c.tc arg7 fullShare x7 ∗ owns c.tc arg8 fullShare x8 ∗ owns c.tc arg9 fullShare x9
          ∗ owns c.tc arg10 fullShare x10 ∗ owns c.tc arg11 fullShare x11 ∗ (∃ d, owns c.tc arg12 fullShare d)
          ∗ (∃ d, owns c.tc arg13 fullShare d) ∗ owns c.tc arg14 fullShare (bands (vtBand (xnAt i x2 x4 n22) (rowsVt x5))) ∗ owns c.tc arg15 fullShare (bands (qsBand (xnAt i x2 x4 n22) (rowsQs x5) x10))
          ∗ (∃ d, owns c.tc arg16 fullShare d) ∗ owns c.tc arg17 fullShare (k0_pay141 (xnAt i x2 x4 n22) (rowsVs x5)) ∗ owns c.tc arg18 fullShare (k0_pay128 (xnAt i x2 x4 n22) (rowsGa x5))
          ∗ owns c.tc arg19 fullShare (k0_pay129 (xnAt i x2 x4 n22) (rowsGb x5)) ∗ (∃ d, owns c.tc arg20 fullShare d) ∗ (∃ d, owns c.tc arg21 fullShare d)
          ∗ owns c.tc arg22 fullShare (k0_pay1 x3 x4))) := by
  simp only [cc0_proj_eq_skeleton]; unfold cc0_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%d19, %f19, %hf19, H19⟩, ⟨%d20, %f20, %hf20, H20⟩, ⟨%d21, %f21, %hf21, H21⟩, ⟨%f22, %hf22, H22⟩⟩
  obtain rfl := harg22.eq_unread hf22
  obtain rfl := harg2.eq_unread hf2
  obtain rfl := harg3.eq_unread hf3
  obtain rfl := harg4.eq_unread hf4
  obtain rfl := harg5.eq_unread hf5
  obtain rfl := harg10.eq_unread hf10
  by_cases h1 : condA i
  all_goals
    sl_exec (disch := sl_exact h1)
    sl_step
    isplitl [H1]
    · iexists _; isplitr; swap; · iexact H1
      ipureintro
      exact hf1
    isplitl [H2]
    · iexists _; isplitr; swap; · iexact H2
      ipureintro
      exact hf2
    isplitl [H3]
    · iexists _; isplitr; swap; · iexact H3
      ipureintro
      exact hf3
    isplitl [H4]
    · iexists _; isplitr; swap; · iexact H4
      ipureintro
      exact hf4
    isplitl [H5]
    · iexists _; isplitr; swap; · iexact H5
      ipureintro
      exact hf5
    isplitl [H6]
    · iexists _; isplitr; swap; · iexact H6
      ipureintro
      exact hf6
    isplitl [H7]
    · iexists _; isplitr; swap; · iexact H7
      ipureintro
      exact hf7
    isplitl [H8]
    · iexists _; isplitr; swap; · iexact H8
      ipureintro
      exact hf8
    isplitl [H9]
    · iexists _; isplitr; swap; · iexact H9
      ipureintro
      exact hf9
    isplitl [H10]
    · iexists _; isplitr; swap; · iexact H10
      ipureintro
      exact hf10
    isplitl [H11]
    · iexists _; isplitr; swap; · iexact H11
      ipureintro
      exact hf11
    isplitl [H12]
    · iexists _; iexists _; isplitr; swap; · iexact H12
      ipureintro; rfl
    isplitl [H13]
    · iexists _; iexists _; isplitr; swap; · iexact H13
      ipureintro; rfl
    isplitl [H14]
    · iexists _; isplitr; swap; · iexact H14
      ipureintro
      iterate 8 rw [View.read_writes_cons_put _ _ _ _ _ rfl]
      (first | rw [xnAt, if_pos h1] | rw [xnAt, if_neg h1]); frame_out
      exact puts_bands rfl (by decide) _ (vtBand _ _)
    isplitl [H15]
    · iexists _; isplitr; swap; · iexact H15
      ipureintro
      iterate 8 rw [View.read_writes_cons_put _ _ _ _ _ rfl]
      (first | rw [xnAt, if_pos h1] | rw [xnAt, if_neg h1]); frame_out
      exact puts_bands rfl (by decide) _ (qsBand _ _ _)
    isplitl [H16]
    · iexists _; iexists _; isplitr; swap; · iexact H16
      ipureintro; rfl
    isplitl [H17]
    · iexists _; isplitr; swap; · iexact H17
      ipureintro
      rw [View.read_writes_full]; (first | rw [xnAt, if_pos h1] | rw [xnAt, if_neg h1]); frame_out
      try rfl
    isplitl [H18]
    · iexists _; isplitr; swap; · iexact H18
      ipureintro
      rw [View.read_writes_full]; (first | rw [xnAt, if_pos h1] | rw [xnAt, if_neg h1]); frame_out
      try rfl
    isplitl [H19]
    · iexists _; isplitr; swap; · iexact H19
      ipureintro
      rw [View.read_writes_full]; (first | rw [xnAt, if_pos h1] | rw [xnAt, if_neg h1]); frame_out
      try rfl
    isplitl [H20]
    · iexists _; iexists _; isplitr; swap; · iexact H20
      ipureintro; rfl
    isplitl [H21]
    · iexists _; iexists _; isplitr; swap; · iexact H21
      ipureintro; rfl
    · iexists _; isplitr; swap; · iexact H22
      ipureintro
      frame_out; try rw [View.read_writes_full]
      try rfl

end Cert.ProjIdeal.Hand

end
-- ==== Proof.ProjBody.lean ====
module

public import proofs.«01_k».proof.Proof.ProjRun
public import proofs.«01_k».proof.Proof.Gen.ProjIdeal.Points
public import proofs.«01_k».proof.Proof.Gen.ProjIdeal.Frame
public import proofs.«01_k».proof.Proof.Gen.ProjIdeal.Skeleton
public import Idealize.ShloMosaic.Lib.Pipeline.ValueKit
public import Idealize.ShloMosaic.Lib.Claim

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.ProjIdeal.Gen

variable {F : FTy → Type} [FloatOps F]

local notation "𝕄" => MT nD τ sig Unit (Elt F) ℕ (UR sig nD τ) ℕ

/-! # The projection kernel's grid, point by point, and its run

Between points the resident tile is named; at every point every input's block and the blocks of the five results claimed are. The three
other results' blocks are left unnamed. -/

theorem hcondA : ∀ t : Fin cfg0.N, condA (grid0.coords t) ↔ t.val = 0 :=
  (by decide +kernel : ∀ t : Fin grid0.N, condA (grid0.coords t) ↔ t.val = 0)

/-- The grid point numbered `n`. -/
def ptn (n : ℕ) : Fin cfg0.N := ⟨min n 32, by rw [show cfg0.N = 33 from N_0]; omega⟩
theorem ptn_val (t : Fin cfg0.N) : ptn t.val = t := Fin.ext (by
  have : t.val < 33 := lt_of_lt_of_eq t.isLt (show cfg0.N = 33 from N_0)
  show min t.val 32 = t.val; omega)

variable (m : (ℓ : Loc nD τ sig) → Buf (Elt F) ℓ) (ρ : Dev nD → PrngReg)

/-! ## What the points hold -/

/-- The tile that the point before point `n + 1` leaves normalised. -/
def nextTile (c : Dev nD) (n : ℕ) : Vec F S512x1024 .bf16 := k0_pay1 (iblk m c 2 (ptn n)) (iblk m c 3 (ptn n))
/-- The normalised tile that a point projects. -/
def xnB (c : Dev nD) (t : Fin cfg0.N) : Vec F S512x1024 .bf16 :=
  if t.val = 0 then k0_pay3 (iblk m c 1 t) (iblk m c 3 t) else nextTile m c (t.val - 1)
/-- A point's block of the attention's values, -/
def outVt (c : Dev nD) (t : Fin cfg0.N) : Vec F S640x512 .bf16 := bands (vtBand (xnB m c t) (rowsVt (iblk m c 4 t)))
/-- of the window attention's queries, -/
def outQs (c : Dev nD) (t : Fin cfg0.N) : Vec F S512x512 .bf16 := bands (qsBand (xnB m c t) (rowsQs (iblk m c 4 t)) (iblk m c 9 t))
/-- of the window attention's values, -/
def outVs (c : Dev nD) (t : Fin cfg0.N) : Vec F S128x512 .bf16 := k0_pay141 (xnB m c t) (rowsVs (iblk m c 4 t))
/-- of the first branch's gate, -/
def outGa (c : Dev nD) (t : Fin cfg0.N) : Vec F S1024x512 .bf16 := k0_pay128 (xnB m c t) (rowsGa (iblk m c 4 t))
/-- and of the second branch's gate. -/
def outGb (c : Dev nD) (t : Fin cfg0.N) : Vec F S1024x512 .bf16 := k0_pay129 (xnB m c t) (rowsGb (iblk m c 4 t))

/-! ## The invariant between points -/

abbrev sc0 : Memref sig .tc .vmem S16x128 .f32 := Memref.whole cc0_scratch0
abbrev sc1 : Memref sig .tc .vmem S512x512 .bf16 := Memref.whole cc0_scratch1
abbrev sc2 : Memref sig .tc .vmem S512x1024 .bf16 := Memref.whole cc0_scratch2

/-- The region's three scratch buffers at anything. -/
theorem PhiA0_eq (c : Dev nD) :
    (Pipeline.ΦA spec0 c : sProp 𝕄)
      = iprop(iprop((∃ d, owns c.tc sc0 fullShare d) ∗ (∃ d, owns c.tc sc1 fullShare d)
          ∗ (∃ d, owns c.tc sc2 fullShare d)) ∗ (∃ r, prngReg c r)) := by
  unfold Pipeline.ΦA; rw [scopedRest0_eq]; simp only [sc0, sc1, sc2, owns_whole]; try rfl

/-- The scratch buffers with the third at `x`. -/
def PhiX (c : Dev nD) (x : Vec F S512x1024 .bf16) : sProp 𝕄 :=
  iprop((∃ d, owns c.tc sc0 fullShare d) ∗ (∃ d, owns c.tc sc1 fullShare d)
    ∗ owns c.tc sc2 fullShare x ∗ (∃ r, prngReg c r))

/-- Before the first point anything; afterwards the next tile is in place. -/
def PhiS (c : Dev nD) : (n : ℕ) → n ≤ cfg0.N → sProp 𝕄
  | 0, _ => Pipeline.ΦA spec0 c
  | n + 1, _ => PhiX c (nextTile m c n)

theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) : PhiS m c n h = PhiX c (nextTile m c (n - 1)) := by
  cases n with
  | zero => exact absurd rfl hz
  | succ n => rfl

/-- The windows left unnamed. -/
def fgt (w : Fin cfg0.W) : Bool := match w with
  | ⟨11, _⟩ => true
  | ⟨12, _⟩ => true
  | ⟨15, _⟩ => true
  | _ => false

/-- The pipeline's proof data: every input's buffer holds its block, a claimed result's what the point wrote. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Dat.unnamed 11 t
    | ⟨12, _⟩ => Dat.unnamed 12 t
    | ⟨13, _⟩ => outVt m c t
    | ⟨14, _⟩ => outQs m c t
    | ⟨15, _⟩ => Dat.unnamed 15 t
    | ⟨16, _⟩ => outVs m c t
    | ⟨17, _⟩ => outGa m c t
    | ⟨18, _⟩ => outGb m c t
    | ⟨n + 19, h⟩ => Dat.unnamed ⟨n + 19, h⟩ t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_13 (c : Dev nD) (t : Fin cfg0.N) : (dats m 0 c).after 13 t = outVt m c t := by dsimp only [dats]
theorem after0_14 (c : Dev nD) (t : Fin cfg0.N) : (dats m 0 c).after 14 t = outQs m c t := by dsimp only [dats]
theorem after0_16 (c : Dev nD) (t : Fin cfg0.N) : (dats m 0 c).after 16 t = outVs m c t := by dsimp only [dats]
theorem after0_17 (c : Dev nD) (t : Fin cfg0.N) : (dats m 0 c).after 17 t = outGa m c t := by dsimp only [dats]
theorem after0_18 (c : Dev nD) (t : Fin cfg0.N) : (dats m 0 c).after 18 t = outGb m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d

/-! ## The body at every point -/

abbrev ms0 (t : Fin cfg0.N) : Memref sig .tc .smem S1 .f32 := win0_0.stage (cfg0.slots t 0)
abbrev ms1 (t : Fin cfg0.N) : Memref sig .tc .vmem S512x1024 .f32 := win0_1.stage (cfg0.slots t 1)
abbrev ms2 (t : Fin cfg0.N) : Memref sig .tc .vmem S512x1024 .f32 := win0_2.stage (cfg0.slots t 2)
abbrev ms3 (t : Fin cfg0.N) : Memref sig .tc .vmem S1x1024 .f32 := win0_3.stage (cfg0.slots t 3)
abbrev ms4 (t : Fin cfg0.N) : Memref sig .tc .vmem S3728x1024 .bf16 := win0_4.stage (cfg0.slots t 4)
abbrev ms5 (t : Fin cfg0.N) : Memref sig .tc .vmem S1024x640 .bf16 := win0_5.stage (cfg0.slots t 5)
abbrev ms6 (t : Fin cfg0.N) : Memref sig .tc .vmem S16x1 .f32 := win0_6.stage (cfg0.slots t 6)
abbrev ms7 (t : Fin cfg0.N) : Memref sig .tc .vmem S64x1 .f32 := win0_7.stage (cfg0.slots t 7)
abbrev ms8 (t : Fin cfg0.N) : Memref sig .tc .vmem S1x128 .f32 := win0_8.stage (cfg0.slots t 8)
abbrev ms9 (t : Fin cfg0.N) : Memref sig .tc .vmem S64x1 .f32 := win0_9.stage (cfg0.slots t 9)
abbrev ms10 (t : Fin cfg0.N) : Memref sig .tc .vmem S1x128 .f32 := win0_10.stage (cfg0.slots t 10)
abbrev ms11 (t : Fin cfg0.N) : Memref sig .tc .vmem S1024x512 .bf16 := win0_11.stage (cfg0.slots t 11)
abbrev ms12 (t : Fin cfg0.N) : Memref sig .tc .vmem S512x1024 .bf16 := win0_12.stage (cfg0.slots t 12)
abbrev ms13 (t : Fin cfg0.N) : Memref sig .tc .vmem S640x512 .bf16 := win0_13.stage (cfg0.slots t 13)
abbrev ms14 (t : Fin cfg0.N) : Memref sig .tc .vmem S512x512 .bf16 := win0_14.stage (cfg0.slots t 14)
abbrev ms15 (t : Fin cfg0.N) : Memref sig .tc .vmem S512x128 .bf16 := win0_15.stage (cfg0.slots t 15)
abbrev ms16 (t : Fin cfg0.N) : Memref sig .tc .vmem S128x512 .bf16 := win0_16.stage (cfg0.slots t 16)
abbrev ms17 (t : Fin cfg0.N) : Memref sig .tc .vmem S1024x512 .bf16 := win0_17.stage (cfg0.slots t 17)
abbrev ms18 (t : Fin cfg0.N) : Memref sig .tc .vmem S1024x512 .bf16 := win0_18.stage (cfg0.slots t 18)

/-- What the body is called with at point `t`, -/
def bodyPre (c : Dev nD) (t : Fin cfg0.N) : sProp 𝕄 :=
  iprop((dats m 0 c).Φ t.castSucc ∗ (dats m 0 c).owesAt () t.castSucc
    ∗ (∃ d, owns c.tc (ms0 t) fullShare ((dats m 0 c).before 0 t d))
    ∗ (∃ d, owns c.tc (ms1 t) fullShare ((dats m 0 c).before 1 t d))
    ∗ (∃ d, owns c.tc (ms2 t) fullShare ((dats m 0 c).before 2 t d))
    ∗ (∃ d, owns c.tc (ms3 t) fullShare ((dats m 0 c).before 3 t d))
    ∗ (∃ d, owns c.tc (ms4 t) fullShare ((dats m 0 c).before 4 t d))
    ∗ (∃ d, owns c.tc (ms5 t) fullShare ((dats m 0 c).before 5 t d))
    ∗ (∃ d, owns c.tc (ms6 t) fullShare ((dats m 0 c).before 6 t d))
    ∗ (∃ d, owns c.tc (ms7 t) fullShare ((dats m 0 c).before 7 t d))
    ∗ (∃ d, owns c.tc (ms8 t) fullShare ((dats m 0 c).before 8 t d))
    ∗ (∃ d, owns c.tc (ms9 t) fullShare ((dats m 0 c).before 9 t d))
    ∗ (∃ d, owns c.tc (ms10 t) fullShare ((dats m 0 c).before 10 t d))
    ∗ (∃ X, owns c.tc (ms11 t) fullShare X)
    ∗ (∃ X, owns c.tc (ms12 t) fullShare X)
    ∗ (∃ d, owns c.tc (ms13 t) fullShare ((dats m 0 c).before 13 t d))
    ∗ (∃ d, owns c.tc (ms14 t) fullShare ((dats m 0 c).before 14 t d))
    ∗ (∃ X, owns c.tc (ms15 t) fullShare X)
    ∗ (∃ d, owns c.tc (ms16 t) fullShare ((dats m 0 c).before 16 t d))
    ∗ (∃ d, owns c.tc (ms17 t) fullShare ((dats m 0 c).before 17 t d))
    ∗ (∃ d, owns c.tc (ms18 t) fullShare ((dats m 0 c).before 18 t d)))
/-- and what it leaves. -/
def bodyPost (c : Dev nD) (t : Fin cfg0.N) : sProp 𝕄 :=
  iprop((dats m 0 c).Φ t.succ ∗ (dats m 0 c).owesAt () t.succ
    ∗ owns c.tc (ms0 t) fullShare (iblk m c 0 t)
    ∗ owns c.tc (ms1 t) fullShare (iblk m c 1 t)
    ∗ owns c.tc (ms2 t) fullShare (iblk m c 2 t)
    ∗ owns c.tc (ms3 t) fullShare (iblk m c 3 t)
    ∗ owns c.tc (ms4 t) fullShare (iblk m c 4 t)
    ∗ owns c.tc (ms5 t) fullShare (iblk m c 5 t)
    ∗ owns c.tc (ms6 t) fullShare (iblk m c 6 t)
    ∗ owns c.tc (ms7 t) fullShare (iblk m c 7 t)
    ∗ owns c.tc (ms8 t) fullShare (iblk m c 8 t)
    ∗ owns c.tc (ms9 t) fullShare (iblk m c 9 t)
    ∗ owns c.tc (ms10 t) fullShare (iblk m c 10 t)
    ∗ (∃ X, owns c.tc (ms11 t) fullShare X)
    ∗ (∃ X, owns c.tc (ms12 t) fullShare X)
    ∗ owns c.tc (ms13 t) fullShare (outVt m c t)
    ∗ owns c.tc (ms14 t) fullShare (outQs m c t)
    ∗ (∃ X, owns c.tc (ms15 t) fullShare X)
    ∗ owns c.tc (ms16 t) fullShare (outVs m c t)
    ∗ owns c.tc (ms17 t) fullShare (outGa m c t)
    ∗ owns c.tc (ms18 t) fullShare (outGb m c t))

/-- The resident tile before a point, as far as the point needs it. -/
theorem Phi_open (c : Dev nD) (t : Fin cfg0.N) : ((dats m 0 c).Φ t.castSucc : sProp 𝕄)
    ⊢ iprop(∃ n : Vec F S512x1024 .bf16, ⌜xnAt (grid0.coords t) (iblk m c 1 t) (iblk m c 3 t) n = xnB m c t⌝ ∗ PhiX c n) := by
  rw [PhiS_castSucc]
  by_cases hz : t.val = 0
  · rw [PhiS_zero m c _ _ hz, PhiA0_eq]
    unfold PhiX
    iintro ⟨⟨S0, S1, ⟨%n, S2⟩⟩, Hg⟩
    iexists n
    isplitr
    · ipureintro; rw [xnAt, if_pos ((hcondA t).2 hz), xnB, if_pos hz]
    isplitl [S0]; · iexact S0
    isplitl [S1]; · iexact S1
    isplitl [S2]; · iexact S2
    iexact Hg
  · rw [PhiS_pos m c _ _ hz]
    iintro H
    iexists _
    isplitr; swap; · iexact H
    ipureintro; rw [xnAt, if_neg (fun h => hz ((hcondA t).1 h)), xnB, if_neg hz]

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    show (dats m 0 c).Φ t.succ = PhiX c (nextTile m c t.val) from rfl, show nextTile m c t.val = k0_pay1 (iblk m c 2 t) (iblk m c 3 t) from by rw [nextTile, ptn_val]]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  ihave HP := (Phi_open m c t) $$ HP
  icases HP with ⟨%n, %hn, HP⟩
  unfold outVt outQs outVs outGa outGb
  rw [← hn]
  unfold PhiX
  icases HP with ⟨⟨%g0, S0⟩, ⟨%g1, S1⟩, S2, Hg⟩
  iapply (wp_wand_r Idealize.ShloMosaic.frame (wpE (defs₀ (F := F)) Variants.none c.tc none) Set.univ)
  isplitl [H0 H1 H2 H3 H4 H5 H6 H7 H8 H9 H10 H11 H12 H13 H14 H15 H16 H17 H18 S0 S1 S2]
  · iapply (point c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) n)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [S0]; · iexists _; iexact S0
    isplitl [S1]; · iexists _; iexact S1
    iexact S2
  · iintro %_ ⟨H0, H1, H2, H3, H4, H5, H6, H7, H8, H9, H10, H11, H12, H13, H14, H15, H16, H17, H18, S0, S1, S2⟩
    isplitl [S0 S1 S2 Hg]
    · isplitl [S0]; · iexact S0
      isplitl [S1]; · iexact S1
      isplitl [S2]; · iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hne : (Fin.last cfg0.N).val ≠ 0 := by rw [Fin.val_last]; have : cfg0.N = 33 := N_0; omega
  rw [show (dats m 0 c).Φ (Fin.last cfg0.N) = PhiS m c (Fin.last cfg0.N).val (Nat.le_of_lt_succ (Fin.last cfg0.N).isLt) from rfl, PhiS_pos m c _ _ hne, PhiA0_eq]
  unfold PhiX
  iintro ⟨S0, S1, S2, Hg⟩
  isplitl [S0 S1 S2]
  · isplitl [S0]; · iexact S0
    isplitl [S1]; · iexact S1
    iexists _; iexact S2
  iexact Hg

/-! ## The launch -/

set_option backward.isDefEq.respectTransparency.types false in
/-- Every execution ends, with every input array as it was, the claimed results at what the points wrote, and every semaphore counter at zero. -/
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_track_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hin := hin m) (hout := hout m)

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(RDat.FramePost.arr_in h.1 c 0 rfl).trans (V_main_arg0 m c),
      (RDat.FramePost.arr_in h.1 c 2 rfl).trans (V_main_arg1 m c),
      ((h.1 c).2 main_arg2 (Pipeline.mem_restRefs_of main_arg2 (by decide) (by decide))).trans (V_main_arg2 m c),
      (RDat.FramePost.arr_in h.1 c 4 rfl).trans (V_main_arg3 m c),
      (RDat.FramePost.arr_in h.1 c 5 rfl).trans (V_main_arg4 m c),
      (RDat.FramePost.arr_in h.1 c 6 rfl).trans (V_main_arg5 m c),
      (RDat.FramePost.arr_in h.1 c 7 rfl).trans (V_main_arg6 m c),
      (RDat.FramePost.arr_in h.1 c 8 rfl).trans (V_main_arg7 m c),
      (RDat.FramePost.arr_in h.1 c 9 rfl).trans (V_main_arg8 m c),
      (RDat.FramePost.arr_in h.1 c 10 rfl).trans (V_main_arg9 m c)⟩, h.2⟩) (run_main m ρ)

end Cert.ProjIdeal.Hand

end
-- ==== Proof.ProjRef.lean ====
module

public import proofs.«01_k».proof.Proof.Gen.ProjRefIdeal.Run
public import proofs.«01_k».proof.Proof.Gen.ProjRefIdeal.Read
public import proofs.«01_k».proof.Proof.FfnMidRef

@[expose] public section

set_option maxRecDepth 16384

noncomputable section

namespace Cert.ProjRefIdeal.Hand

open Idealize.ShloMosaic hiding ix1 ix2 ix3 truncf_apply
open Idealize.ShloMosaic.ValueIdx
open Cert.ProjRefIdeal Cert.ProjRefIdeal.Gen Cert.ProjRefIdeal.Read
open Cert.FfnLastIdeal.Hand (nrm)
open Cert.FfnMidRefIdeal.Hand (host_logistic row gain)

/-! # The reference, element by element

The reference's chain of host operations, read at an element: a row of the weights against the token's normalised row, and the
logistic function of it for the gates. -/

variable (x1 : (⟨S16896x1024, .f32⟩ : BufTy).Contents (Elt Ideal)) (x2 : (⟨S2x1024, .f32⟩ : BufTy).Contents (Elt Ideal))
  (x3 : (⟨S3728x1024, .bf16⟩ : BufTy).Contents (Elt Ideal))

/-- Row `o` of the stacked weights against token `p`'s normalised row. -/
def proj (o : ℕ) (h : o < 3728) (p : Fin 16896) : EReal :=
  ∑ l : Fin 1024, x3 (ix2 ⟨o, h⟩ l) * nrm (row x1 p.val p.isLt) (gain x2) l

/-- Row `o` of the attention's values: each of the eight heads has 64 rows of products and 16 rows of ones. -/
def vtAt (o : ℕ) (h : o < 640) (p : Fin 16896) : EReal :=
  if hj : o % 80 < 64 then proj x1 x2 x3 (512 + (o / 80 * 64 + o % 80)) (by omega) p else 1

/-- A head's query, element by element: the RMS norm of its 64 products `q`, times the gain and the scale. -/
def headNorm (q : Fin 64 → EReal) (g : EReal) (j : Fin 64) : EReal :=
  q j * Ideal.rsqrt (Ideal.div (∑ k : Fin 64, q k * q k) (Ideal.ofBits .f32 0x42800000#32) + Ideal.ofBits .f32 0x358637BD#32) * g * Ideal.ofBits .f32 0x3E38AA3B#32

variable (x8 : (⟨S64x1, .f32⟩ : BufTy).Contents (Elt Ideal))

/-- Row `o` of the window attention's queries. -/
def qsAt (o : ℕ) (h : o < 512) (p : Fin 16896) : EReal :=
  headNorm (fun k => proj x1 x2 x3 (1040 + (o / 64 * 64 + k.val)) (by omega) p) (x8 (ix2 ⟨o % 64, Nat.mod_lt _ (by decide)⟩ 0)) ⟨o % 64, Nat.mod_lt _ (by decide)⟩

section At
variable (p : Fin 16896)

theorem v4_at : val_main_v4 (F := Ideal) x1 (ix1 p) = ∑ k : Fin 1024, row x1 p.val p.isLt k * row x1 p.val p.isLt k := by
  rw [val_main_v4_apply, val_main_cst_apply]
  refine (congrArg (· + _) Ideal.ofBits_zero_f32).trans ((zero_add _).trans (Finset.sum_congr rfl fun k _ => ?_))
  rw [show idx_main_v4 (ix1 p) k = ix2 p k from funext fun a => by match a with | ⟨0, _⟩ => rfl | ⟨1, _⟩ => rfl, val_main_v3_apply]
  rfl

theorem v10_at : val_main_v10 (F := Ideal) x1 (ix2 p 0) = Ideal.rsqrt (Ideal.div (∑ k : Fin 1024, row x1 p.val p.isLt k * row x1 p.val p.isLt k) (Ideal.ofBits .f32 0x44800000#32) + Ideal.ofBits .f32 0x358637BD#32) := by
  rw [val_main_v10_apply, val_main_v9_apply, val_main_v7_apply, val_main_v5_apply, val_main_v6_apply, val_main_v8_apply, val_main_cst_0_apply, val_main_cst_1_apply,
    show idx_main_v5 (ix2 p 0) = ix1 p from funext fun a => by match a with | ⟨0, _⟩ => rfl, v4_at]
  rfl

theorem v14_at (l : Fin 1024) : val_main_v14 (F := Ideal) x2 (ix2 p l) = gain x2 l := by
  rw [val_main_v14_apply, val_main_v13_apply, val_main_v2_apply, val_main_v1_apply]
  refine congrArg x2 (funext fun a => Fin.ext ?_)
  have := l.isLt
  match a with
  | ⟨0, _⟩ => rfl
  | ⟨1, _⟩ => show l.val % 1024 = l.val; omega

theorem v15_at (l : Fin 1024) : val_main_v15 (F := Ideal) x1 x2 (ix2 p l) = nrm (row x1 p.val p.isLt) (gain x2) l := by
  rw [val_main_v15_apply, val_main_v12_apply, val_main_v11_apply, v14_at,
    show idx_main_v11 (ix2 p l) = ix2 p 0 from funext fun a => by match a with | ⟨0, _⟩ => rfl | ⟨1, _⟩ => rfl, v10_at]
  rfl

theorem v17_at (o : Fin 3728) : val_main_v17 (F := Ideal) x1 x2 x3 (ix2 o p) = proj x1 x2 x3 o.val o.isLt p := by
  rw [val_main_v17_apply]
  refine Finset.sum_congr rfl fun l _ => ?_
  rw [val_main_v16_apply, show lidx_main_v17 (ix2 o p) l = ix2 o l from funext fun a => by match a with | ⟨0, _⟩ => rfl | ⟨1, _⟩ => rfl,
    show idx_main_v16 (ridx_main_v17 (ix2 o p) l) = ix2 p l from funext fun a => by match a with | ⟨0, _⟩ => rfl | ⟨1, _⟩ => rfl, v15_at]
  rfl

theorem v19_at (k : Fin 8) (j : Fin 64) : val_main_v19 (F := Ideal) x1 x2 x3 (ix3 k j p) = proj x1 x2 x3 (512 + (k.val * 64 + j.val)) (by omega) p := by
  rw [val_main_v19_apply, val_main_v18_apply,
    show idx_main_v18 (idx_main_v19 (ix3 k j p)) = ix2 (⟨512 + (k.val * 64 + j.val), by omega⟩ : Fin 3728) p from funext fun a => Fin.ext (by
      have := p.isLt
      match a with
      | ⟨0, _⟩ => show 512 + ((k.val * 64 + j.val) * 16896 + p.val) / 16896 = 512 + (k.val * 64 + j.val); omega
      | ⟨1, _⟩ => show ((k.val * 64 + j.val) * 16896 + p.val) % 16896 = p.val; omega), v17_at]

theorem v21_at (k : Fin 8) (j : Fin 64) : val_main_v21 (F := Ideal) x1 x2 x3 (ix3 k j p) = proj x1 x2 x3 (1040 + (k.val * 64 + j.val)) (by omega) p := by
  rw [val_main_v21_apply, val_main_v20_apply,
    show idx_main_v20 (idx_main_v21 (ix3 k j p)) = ix2 (⟨1040 + (k.val * 64 + j.val), by omega⟩ : Fin 3728) p from funext fun a => Fin.ext (by
      have := p.isLt
      match a with
      | ⟨0, _⟩ => show 1040 + ((k.val * 64 + j.val) * 16896 + p.val) / 16896 = 1040 + (k.val * 64 + j.val); omega
      | ⟨1, _⟩ => show ((k.val * 64 + j.val) * 16896 + p.val) % 16896 = p.val; omega), v17_at]

theorem v55_at (o : Fin 640) : val_main_v55 (F := Ideal) x1 x2 x3 (ix2 o p) = vtAt x1 x2 x3 o.val o.isLt p := by
  rw [val_main_v55_apply, val_main_v24_apply,
    show idx_main_v24 (ix2 o p) = ix3 (⟨o.val / 80, by omega⟩ : Fin 8) (⟨o.val % 80, by omega⟩ : Fin 80) p from funext fun a => Fin.ext (by
      have := p.isLt
      match a with
      | ⟨0, _⟩ => show (o.val * 16896 + p.val) / 1351680 = o.val / 80; omega
      | ⟨1, _⟩ => show (o.val * 16896 + p.val) / 16896 % 80 = o.val % 80; omega
      | ⟨2, _⟩ => show (o.val * 16896 + p.val) % 16896 = p.val; omega)]
  unfold vtAt
  by_cases h : o.val % 80 < 64
  · rw [dif_pos h]
    refine (concatenate_pair_apply_left (t := S8x80x16896) 1 (val_main_v19 (F := Ideal) x1 x2 x3) (val_main_v22 (F := Ideal)) concatenates_S8x64x16896_S8x16x16896_S8x80x16896_d1 (ix3 _ _ p) rfl (ix3 (⟨o.val / 80, by omega⟩ : Fin 8) (⟨o.val % 80, h⟩ : Fin 64) p)
      (fun a => by match a with | ⟨0, _⟩ => rfl | ⟨1, _⟩ => rfl | ⟨2, _⟩ => rfl)).trans ?_
    exact v19_at x1 x2 x3 p _ _
  · rw [dif_neg h]
    refine (concatenate_pair_apply_right (t := S8x80x16896) 1 (val_main_v19 (F := Ideal) x1 x2 x3) (val_main_v22 (F := Ideal)) concatenates_S8x64x16896_S8x16x16896_S8x80x16896_d1 (ix3 _ _ p) rfl rfl (ix3 (⟨o.val / 80, by omega⟩ : Fin 8) (⟨o.val % 80 - 64, by omega⟩ : Fin 16) p) (fun a ha => ?_) ?_).trans ?_
    · match a with
      | ⟨0, _⟩ => rfl
      | ⟨1, _⟩ => exact absurd rfl ha
      | ⟨2, _⟩ => rfl
    · show o.val % 80 - 64 + 64 = o.val % 80; omega
    rw [val_main_v22_apply, val_main_cst_2_apply]
    exact Ideal.ofBits_one_f32

theorem v32_at (k : Fin 8) : val_main_v32 (F := Ideal) x1 x2 x3 (ix3 k 0 p)
    = Ideal.rsqrt (Ideal.div (∑ j : Fin 64, proj x1 x2 x3 (1040 + (k.val * 64 + j.val)) (by omega) p * proj x1 x2 x3 (1040 + (k.val * 64 + j.val)) (by omega) p) (Ideal.ofBits .f32 0x42800000#32) + Ideal.ofBits .f32 0x358637BD#32) := by
  rw [val_main_v32_apply, val_main_v31_apply, val_main_v29_apply, val_main_v28_apply, val_main_v30_apply, val_main_cst_4_apply, val_main_cst_5_apply, val_main_v27_apply,
    show idx_main_v27 (ix3 k 0 p) = ix2 k p from funext fun a => by match a with | ⟨0, _⟩ => rfl | ⟨1, _⟩ => rfl, val_main_v26_apply, val_main_cst_3_apply]
  refine congrArg (fun z => Ideal.rsqrt (Ideal.div z _ + _)) ((congrArg (· + _) Ideal.ofBits_zero_f32).trans ((zero_add _).trans (Finset.sum_congr rfl fun j _ => ?_)))
  rw [show idx_main_v26 (ix2 k p) j = ix3 k j p from funext fun a => by match a with | ⟨0, _⟩ => rfl | ⟨1, _⟩ => rfl | ⟨2, _⟩ => rfl, val_main_v25_apply, v21_at]
  rfl

theorem v57_at (o : Fin 512) : val_main_v57 (F := Ideal) x1 x2 x3 x8 (ix2 o p) = qsAt x1 x2 x3 x8 o.val o.isLt p := by
  rw [val_main_v57_apply, val_main_v56_apply,
    show idx_main_v56 (ix2 o p) = ix3 (⟨o.val / 64, by omega⟩ : Fin 8) (⟨o.val % 64, by omega⟩ : Fin 64) p from funext fun a => Fin.ext (by
      have := p.isLt
      match a with
      | ⟨0, _⟩ => show (o.val * 16896 + p.val) / 1081344 = o.val / 64; omega
      | ⟨1, _⟩ => show (o.val * 16896 + p.val) / 16896 % 64 = o.val % 64; omega
      | ⟨2, _⟩ => show (o.val * 16896 + p.val) % 16896 = p.val; omega),
    val_main_v39_apply, val_main_v38_apply, val_main_cst_6_apply, val_main_v37_apply, val_main_v36_apply, val_main_v35_apply, val_main_v34_apply, val_main_v33_apply, v21_at,
    show ∀ (k : Fin 8) (j : Fin 64), idx_main_v33 (ix3 k j p) = ix3 k 0 p from fun k j => funext fun a => by match a with | ⟨0, _⟩ => rfl | ⟨1, _⟩ => rfl | ⟨2, _⟩ => rfl, v32_at,
    show ∀ (k : Fin 8) (j : Fin 64), idx_main_v35 (idx_main_v36 (ix3 k j p)) = ix2 j 0 from fun k j => funext fun a => by match a with | ⟨0, _⟩ => rfl | ⟨1, _⟩ => rfl]
  rfl

theorem v58_at (o : Fin 128) : val_main_v58 (F := Ideal) x1 x2 x3 (ix2 o p) = proj x1 x2 x3 (1552 + o.val) (by omega) p := by
  rw [val_main_v58_apply, val_main_v40_apply,
    show idx_main_v40 (ix2 o p) = ix2 (⟨1552 + o.val, by omega⟩ : Fin 3728) p from funext fun a => by match a with | ⟨0, _⟩ => rfl | ⟨1, _⟩ => rfl, v17_at]
  rfl

theorem v59_at (o : Fin 1024) : val_main_v59 (F := Ideal) x1 x2 x3 (ix2 o p) = Ideal.logistic (proj x1 x2 x3 (1680 + o.val) (by omega) p) := by
  rw [val_main_v59_apply, val_main_v47_apply, val_main_v46_apply, val_main_v45_apply, val_main_v44_apply, val_main_v43_apply, val_main_v42_apply, val_main_cst_7_apply, val_main_cst_8_apply,
    host_logistic, val_main_v41_apply,
    show idx_main_v41 (ix2 o p) = ix2 (⟨1680 + o.val, by omega⟩ : Fin 3728) p from funext fun a => by match a with | ⟨0, _⟩ => rfl | ⟨1, _⟩ => rfl, v17_at]
  rfl

theorem v60_at (o : Fin 1024) : val_main_v60 (F := Ideal) x1 x2 x3 (ix2 o p) = Ideal.logistic (proj x1 x2 x3 (2704 + o.val) (by omega) p) := by
  rw [val_main_v60_apply, val_main_v54_apply, val_main_v53_apply, val_main_v52_apply, val_main_v51_apply, val_main_v50_apply, val_main_v49_apply, val_main_cst_9_apply, val_main_cst_10_apply,
    host_logistic, val_main_v48_apply,
    show idx_main_v48 (ix2 o p) = ix2 (⟨2704 + o.val, by omega⟩ : Fin 3728) p from funext fun a => by match a with | ⟨0, _⟩ => rfl | ⟨1, _⟩ => rfl, v17_at]
  rfl
end At

end Cert.ProjRefIdeal.Hand

end
-- ==== Proof.ProjOut.lean ====
module

public import proofs.«01_k».proof.Proof.ProjBody
public import proofs.«01_k».proof.Proof.ProjRef
public import Idealize.ShloMosaic.Lib.MatmulPlain
public import Idealize.ShloMosaic.Lib.ValueIdx
public import Idealize.ShloMosaic.Lib.ValueLayout
public import Idealize.ShloMosaic.Lib.ValueLayoutCasts

@[expose] public section

set_option maxRecDepth 16384

noncomputable section

namespace Cert.ProjIdeal.Hand

open Idealize.ShloMosaic hiding ix1 ix2 ix3 eq_ix2 eq_ix3 truncf_apply
open Idealize.ShloMosaic.TcCoe Idealize.ShloMosaic.Tactic
open Idealize.ShloMosaic.ValueIdx
open Idealize.ShloMosaic.Pipeline (Dat RDat Cfg Window)
open Cert.ProjIdeal.Gen
open Cert.FfnLastIdeal.Hand (nrm)
open Cert.FfnMidRefIdeal.Hand (row gain)
open Cert.ProjRefIdeal.Hand (proj vtAt qsAt headNorm)

/-! # The arrays that the projection kernel leaves

First what a point computes at the ideal values, element by element; then the blocks it is given; then the five arrays. -/

/-! ## The normalised tile -/

theorem pay1_apply (x : Vec Ideal S512x1024 .f32) (g : Vec Ideal S1x1024 .f32) (r : Fin 512) (l : Fin 1024) :
    k0_pay1 x g (ix2 r l) = nrm (fun k => x (ix2 r k)) (fun k => g (ix2 0 k)) l := by
  simp only [k0_pay1, shapeCast_self]
  rw [truncf_apply, mulf_apply, mulf_apply]
  unfold nrm
  rw [broadcastTo_1b_ab_apply]
  rw [broadcastTo_apply _ _ _ (ix2 r (0 : Fin 1)) (by intro a; match a with | ⟨0, _⟩ => rfl | ⟨1, _⟩ => rfl)]
  refine congrArg (fun z => x (ix2 r l) * Ideal.rsqrt (Ideal.div z _ + _) * g (ix2 0 l)) ?_
  rw [shapeCast_a_a1_apply]
  refine (Ideal.multiReduction_add_single _ _ _ _ _ _).trans ?_
  refine Finset.sum_congr rfl fun k _ => ?_
  rw [show reduces_S512x1024_S512.lift (ix1 r) k = ix2 r k from funext fun a => Fin.ext (by match a with | ⟨0, _⟩ => rfl | ⟨1, _⟩ => rfl)]
  rfl

theorem pay3_eq (x : Vec Ideal S512x1024 .f32) (g : Vec Ideal S1x1024 .f32) : k0_pay3 x g = k0_pay1 x g := by
  simp only [k0_pay1, k0_pay3, shapeCast_self]

/-! ## The products -/

/-- A product of rows with rows from zero, at an element. -/
theorem mulT_apply {M K N : ℕ} (A : FVec Ideal ⟨2, ![M, K]⟩ .bf16) (B : FVec Ideal ⟨2, ![N, K]⟩ .bf16) (o : Fin M) (r : Fin N) :
    matmul (DotDims.transposedRhs M K N) none A B (constant ⟨2, ![M, N]⟩ .f32 0x00000000#32) (ix2 o r) = ∑ l : Fin K, A (ix2 o l) * B (ix2 r l) := by
  refine (Ideal.matmul_transposedRhs_apply none A B _ o r).trans ?_
  rw [constant_apply, Ideal.ofBits_zero_f32, zero_add]

theorem pay141_apply (n : Vec Ideal S512x1024 .bf16) (w : Vec Ideal S128x1024 .bf16) (o : Fin 128) (r : Fin 512) :
    k0_pay141 n w (ix2 o r) = ∑ l : Fin 1024, w (ix2 o l) * n (ix2 r l) :=
  mulT_apply w n o r

theorem pay128_apply (n : Vec Ideal S512x1024 .bf16) (w : Vec Ideal S1024x1024 .bf16) (o : Fin 1024) (r : Fin 512) :
    k0_pay128 n w (ix2 o r) = Ideal.logistic (∑ l : Fin 1024, w (ix2 o l) * n (ix2 r l)) :=
  congrArg Ideal.logistic (mulT_apply w n o r)

theorem pay129_apply (n : Vec Ideal S512x1024 .bf16) (w : Vec Ideal S1024x1024 .bf16) (o : Fin 1024) (r : Fin 512) :
    k0_pay129 n w (ix2 o r) = Ideal.logistic (∑ l : Fin 1024, w (ix2 o l) * n (ix2 r l)) :=
  congrArg Ideal.logistic (mulT_apply w n o r)

/-! ## The attention's values, head by head -/

theorem pay4_apply (n : Vec Ideal S512x1024 .bf16) (w : Vec Ideal S528x1024 .bf16) (o : Fin 528) (r : Fin 512) :
    k0_pay4 n w (ix2 o r) = ∑ l : Fin 1024, w (ix2 o l) * n (ix2 r l) :=
  mulT_apply w n o r

theorem pay6_apply (n : Vec Ideal S512x1024 .bf16) (w : Vec Ideal S528x1024 .bf16) (o r : Fin 512) :
    k0_pay6 n w (ix2 o r) = ∑ l : Fin 1024, w (ix2 ⟨o.val, by omega⟩ l) * n (ix2 r l) := by
  unfold k0_pay6
  rw [truncf_apply]
  have e := extractStridedSlice_apply (s := S528x512) (t := S512x512) ![0, 0] (k0_pay4 n w) slices_S528x512_o0_0_S512x512 (ix2 o r) (ix2 (⟨o.val, by omega⟩ : Fin 528) r) (fun a => by
    match a with
    | ⟨0, _⟩ => exact (Nat.zero_add _).symm
    | ⟨1, _⟩ => exact (Nat.zero_add _).symm)
  rw [e]
  exact pay4_apply n w _ r

theorem rows_ones {α : Type} (L : S64x512.Idx → α) (D : S16x512.Idx → α) (j : Fin 80) (r : Fin 512) :
    concatenate S80x512 0 [⟨S64x512, L⟩, ⟨S16x512, D⟩] concatenates_S64x512_S16x512_S80x512_d0 (ix2 j r) = if hj : j.val < 64 then L (ix2 ⟨j.val, hj⟩ r) else D (ix2 ⟨j.val - 64, by omega⟩ r) := by
  split
  · next hj =>
    exact concatenate_pair_apply_left (t := S80x512) 0 L D concatenates_S64x512_S16x512_S80x512_d0 (ix2 j r) rfl (ix2 ⟨j.val, hj⟩ r) fun b => by match b with | ⟨0, _⟩ => rfl | ⟨1, _⟩ => rfl
  · next hj =>
    refine concatenate_pair_apply_right (t := S80x512) 0 L D concatenates_S64x512_S16x512_S80x512_d0 (ix2 j r) rfl rfl (ix2 ⟨j.val - 64, by omega⟩ r) (fun b hb => ?_) ?_
    · match b with
      | ⟨0, _⟩ => exact absurd rfl hb
      | ⟨1, _⟩ => rfl
    · show j.val - 64 + 64 = j.val
      omega

/-- One head's rows: its 64 products, then the ones. -/
theorem head_ones (n : Vec Ideal S512x1024 .bf16) (w : Vec Ideal S528x1024 .bf16) (off : ℕ) (ho : off + 64 ≤ 512) (hs : S512x512.Slices ![off, 0] S64x512) (j : Fin 80) (r : Fin 512) :
    concatenate S80x512 0 [⟨S64x512, extractStridedSlice S64x512 ![off, 0] (k0_pay6 n w) hs⟩, ⟨S16x512, k0_pay7 (F := Ideal)⟩] concatenates_S64x512_S16x512_S80x512_d0 (ix2 j r)
      = if hj : j.val < 64 then ∑ l : Fin 1024, w (ix2 ⟨off + j.val, by omega⟩ l) * n (ix2 r l) else (1 : EReal) := by
  rw [rows_ones]
  refine dite_congr rfl (fun hj => ?_) (fun _ => Ideal.ofBits_one_bf16)
  have hj' : j.val < 64 := hj
  rw [extractStridedSlice_apply (s := S512x512) (t := S64x512) ![off, 0] (k0_pay6 n w) hs _ (ix2 (⟨off + j.val, by omega⟩ : Fin 512) r) (fun a => by
      match a with
      | ⟨0, _⟩ => rfl
      | ⟨1, _⟩ => exact (Nat.zero_add _).symm)]
  exact pay6_apply n w _ r

theorem vtBand_apply (n : Vec Ideal S512x1024 .bf16) (w : Vec Ideal S528x1024 .bf16) (k : Fin 8) (j : Fin 80) (r : Fin 512) :
    vtBand n w k (ix2 j r) = if hj : j.val < 64 then ∑ l : Fin 1024, w (ix2 ⟨k.val * 64 + j.val, by omega⟩ l) * n (ix2 r l) else (1 : EReal) := by
  match k with
  | 0 => exact head_ones n w 0 (by decide) slices_S512x512_o0_0_S64x512 j r
  | 1 => exact head_ones n w 64 (by decide) slices_S512x512_o64_0_S64x512 j r
  | 2 => exact head_ones n w 128 (by decide) slices_S512x512_o128_0_S64x512 j r
  | 3 => exact head_ones n w 192 (by decide) slices_S512x512_o192_0_S64x512 j r
  | 4 => exact head_ones n w 256 (by decide) slices_S512x512_o256_0_S64x512 j r
  | 5 => exact head_ones n w 320 (by decide) slices_S512x512_o320_0_S64x512 j r
  | 6 => exact head_ones n w 384 (by decide) slices_S512x512_o384_0_S64x512 j r
  | 7 => exact head_ones n w 448 (by decide) slices_S512x512_o448_0_S64x512 j r

/-! ## The window attention's queries, head by head -/

/-- What the kernel makes of one head's products. -/
def headQ (q : FVec Ideal S64x512 .f32) (g : Vec Ideal S64x1 .f32) : FVec Ideal S64x512 .bf16 :=
  truncf .bf16 (mulf (mulf (mulf q (broadcastTo S64x512 (rsqrt (addf (divf (shapeCast S1x512 (multiReduction .add [0] S512 (mulf q q) 0x00000000#32 reduces_S64x512_S512 (.inl rfl) rfl) shapeCasts_S512_S1x512)
    (broadcast S1x512 (Scalar.ofBits .f32 0x42800000#32))) (broadcast S1x512 (Scalar.ofBits .f32 0x358637BD#32)))) broadcasts_S1x512_S64x512))
    (broadcastTo S64x512 g broadcasts_S64x1_S64x512)) (broadcast S64x512 (Scalar.ofBits .f32 0x3E38AA3B#32))) bitsLt_bf16_f32

theorem headQ_apply (q : FVec Ideal S64x512 .f32) (g : Vec Ideal S64x1 .f32) (j : Fin 64) (r : Fin 512) :
    headQ q g (ix2 j r) = headNorm (fun k => q (ix2 k r)) (g (ix2 j 0)) j := by
  unfold headQ headNorm
  rw [truncf_apply, mulf_apply, mulf_apply, mulf_apply, broadcastTo_1b_ab_apply,
    broadcastTo_apply g _ _ (ix2 j (0 : Fin 1)) (by intro a; match a with | ⟨0, _⟩ => rfl | ⟨1, _⟩ => rfl)]
  refine congrArg (fun z => q (ix2 j r) * Ideal.rsqrt (Ideal.div z _ + _) * g (ix2 j 0) * _) ?_
  rw [shapeCast_a_1a_apply]
  refine (Ideal.multiReduction_add_single _ _ _ _ _ _).trans ?_
  refine Finset.sum_congr rfl fun k _ => ?_
  rw [show reduces_S64x512_S512.lift (ix1 r) k = ix2 k r from funext fun a => Fin.ext (by match a with | ⟨0, _⟩ => rfl | ⟨1, _⟩ => rfl)]
  rfl

theorem headQ_slice (n w : Vec Ideal S512x1024 .bf16) (g : Vec Ideal S64x1 .f32) (off : ℕ) (ho : off + 64 ≤ 512) (hs : S512x512.Slices ![off, 0] S64x512) (j : Fin 64) (r : Fin 512) :
    headQ (extractStridedSlice S64x512 ![off, 0] (k0_pay130 n w) hs) g (ix2 j r)
      = headNorm (fun k => ∑ l : Fin 1024, w (ix2 ⟨off + k.val, by omega⟩ l) * n (ix2 r l)) (g (ix2 j 0)) j := by
  rw [headQ_apply]
  refine congrArg (fun q => headNorm q (g (ix2 j 0)) j) (funext fun k => ?_)
  exact (extractStridedSlice_apply ![off, 0] (k0_pay130 n w) hs _ (ix2 (⟨off + k.val, by omega⟩ : Fin 512) r) (fun a => by
    match a with
    | ⟨0, _⟩ => rfl
    | ⟨1, _⟩ => exact (Nat.zero_add _).symm)).trans (mulT_apply w n _ r)

theorem qsBand_apply (n w : Vec Ideal S512x1024 .bf16) (g : Vec Ideal S64x1 .f32) (k : Fin 8) (j : Fin 64) (r : Fin 512) :
    qsBand n w g k (ix2 j r) = headNorm (fun i => ∑ l : Fin 1024, w (ix2 ⟨k.val * 64 + i.val, by omega⟩ l) * n (ix2 r l)) (g (ix2 j 0)) j := by
  match k with
  | 0 => exact headQ_slice n w g 0 (by decide) slices_S512x512_o0_0_S64x512 j r
  | 1 => exact headQ_slice n w g 64 (by decide) slices_S512x512_o64_0_S64x512 j r
  | 2 => exact headQ_slice n w g 128 (by decide) slices_S512x512_o128_0_S64x512 j r
  | 3 => exact headQ_slice n w g 192 (by decide) slices_S512x512_o192_0_S64x512 j r
  | 4 => exact headQ_slice n w g 256 (by decide) slices_S512x512_o256_0_S64x512 j r
  | 5 => exact headQ_slice n w g 320 (by decide) slices_S512x512_o320_0_S64x512 j r
  | 6 => exact headQ_slice n w g 384 (by decide) slices_S512x512_o384_0_S64x512 j r
  | 7 => exact headQ_slice n w g 448 (by decide) slices_S512x512_o448_0_S64x512 j r

theorem bands_at {H R : ℕ} (hR : R = 8 * H) (hH : 0 < H) (v : Fin 8 → Vec Ideal ⟨2, ![H, 512]⟩ .bf16) (o : Fin R) (r : Fin 512) :
    bands v hR hH (ix2 o r) = v ⟨o.val / H, Nat.div_lt_of_lt_mul (by rw [Nat.mul_comm, ← hR]; exact o.isLt)⟩ (ix2 ⟨o.val % H, Nat.mod_lt _ hH⟩ r) :=
  congrArg (v _) (funext fun a => by match a with | ⟨0, _⟩ => rfl | ⟨1, _⟩ => rfl)

variable (m : (ℓ : Loc nD τ sig) → Buf (Elt Ideal) ℓ) (ρ : Dev nD → PrngReg) (c : Dev nD)

abbrev A1 : (⟨S16896x1024, .f32⟩ : BufTy).Contents (Elt Ideal) := m ((c.tc : Thread nD τ).loc main_arg1)
abbrev A2 : (⟨S2x1024, .f32⟩ : BufTy).Contents (Elt Ideal) := m ((c.tc : Thread nD τ).loc main_arg2)
abbrev A3 : (⟨S3728x1024, .bf16⟩ : BufTy).Contents (Elt Ideal) := m ((c.tc : Thread nD τ).loc main_arg3)
abbrev A8 : (⟨S64x1, .f32⟩ : BufTy).Contents (Elt Ideal) := m ((c.tc : Thread nD τ).loc main_arg8)

/-! ## The blocks of a grid point, at an element -/

theorem t_lt (t : Fin cfg0.N) : t.val < 33 := lt_of_lt_of_eq t.isLt (show cfg0.N = 33 from N_0)

/-- The token at row `r` of a grid point's tile. -/
def tok (t : Fin cfg0.N) (r : Fin 512) : Fin 16896 := ⟨t.val * 512 + r.val, by have := t_lt t; have := r.isLt; omega⟩

theorem idx1 : ∀ t : Fin grid0.N, win0_1.index t 0 = 0 ∧ win0_1.index t 1 = 0 := by decide +kernel
theorem idx2 : ∀ t : Fin grid0.N, win0_2.index t 0 = min (t.val + 1) 32 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx9 : ∀ t : Fin grid0.N, win0_9.index t 0 = 0 ∧ win0_9.index t 1 = 0 := by decide +kernel
theorem idx13 : ∀ t : Fin grid0.N, win0_13.index t 0 = 0 ∧ win0_13.index t 1 = t.val := by decide +kernel
theorem idx14 : ∀ t : Fin grid0.N, win0_14.index t 0 = 0 ∧ win0_14.index t 1 = t.val := by decide +kernel
theorem idx16 : ∀ t : Fin grid0.N, win0_16.index t 0 = 0 ∧ win0_16.index t 1 = t.val := by decide +kernel
theorem idx17 : ∀ t : Fin grid0.N, win0_17.index t 0 = 0 ∧ win0_17.index t 1 = t.val := by decide +kernel
theorem idx18 : ∀ t : Fin grid0.N, win0_18.index t 0 = 0 ∧ win0_18.index t 1 = t.val := by decide +kernel

theorem blk1 (t : Fin cfg0.N) (r : Fin 512) (l : Fin 1024) (p : Fin 16896) (hp : p.val = r.val) : (iblk m c 1 t : FVec Ideal S512x1024 .f32) (ix2 r l) = row (A1 m c) p.val p.isLt l := by
  blk_simp [iblk]
  rw [V_main_arg1]
  refine congrArg (A1 m c) (funext fun a => Fin.ext ?_)
  match a with
  | ⟨0, _⟩ => show win0_1.index t 0 * 512 + 1 * r.val = p.val; rw [(idx1 t).1]; omega
  | ⟨1, _⟩ => show win0_1.index t 1 * 1024 + 1 * l.val = l.val; rw [(idx1 t).2]; omega

theorem blk2 (t : Fin cfg0.N) (r : Fin 512) (l : Fin 1024) (p : Fin 16896) (hp : p.val = min (t.val + 1) 32 * 512 + r.val) : (iblk m c 2 t : FVec Ideal S512x1024 .f32) (ix2 r l) = row (A1 m c) p.val p.isLt l := by
  blk_simp [iblk]
  rw [V_main_arg1]
  refine congrArg (A1 m c) (funext fun a => Fin.ext ?_)
  match a with
  | ⟨0, _⟩ => show win0_2.index t 0 * 512 + 1 * r.val = p.val; rw [(idx2 t).1]; omega
  | ⟨1, _⟩ => show win0_2.index t 1 * 1024 + 1 * l.val = l.val; rw [(idx2 t).2]; omega

theorem blk3 (t : Fin cfg0.N) (l : Fin 1024) : (iblk m c 3 t : FVec Ideal S1x1024 .f32) (ix2 0 l) = gain (A2 m c) l := by
  blk_simp [iblk]
  entry_read
  refine (broadcastInDim_apply _ _ _ _ (ix1 l) (fun a => ?_)).trans ((shapeCast_1a_a_apply _ _ l).trans ?_)
  · match a with
    | ⟨0, _⟩ => show l.val = if (1024 : ℕ) = 1 then 0 else win0_3.index t 1 * 1024 + 1 * l.val; rw [if_neg (by decide), (idx3 t).2]; omega
  refine (extractStridedSlice_apply ![1, 0] (A2 m c) _ (ix2 (0 : Fin 1) l) (ix2 (1 : Fin 2) l) (fun a => ?_))
  match a with
  | ⟨0, _⟩ => rfl
  | ⟨1, _⟩ => exact (Nat.zero_add _).symm

theorem blk4 (t : Fin cfg0.N) (o : Fin 3728) (l : Fin 1024) : (iblk m c 4 t : FVec Ideal S3728x1024 .bf16) (ix2 o l) = A3 m c (ix2 o l) := by
  blk_simp [iblk]
  rw [V_main_arg3]
  refine congrArg (A3 m c) (funext fun a => Fin.ext ?_)
  match a with
  | ⟨0, _⟩ => show win0_4.index t 0 * 3728 + 1 * o.val = o.val; rw [(idx4 t).1]; omega
  | ⟨1, _⟩ => show win0_4.index t 1 * 1024 + 1 * l.val = l.val; rw [(idx4 t).2]; omega

theorem blk9 (t : Fin cfg0.N) (j : Fin 64) : (iblk m c 9 t : FVec Ideal S64x1 .f32) (ix2 j 0) = A8 m c (ix2 j 0) := by
  blk_simp [iblk]
  rw [V_main_arg8]
  refine congrArg (A8 m c) (funext fun a => Fin.ext ?_)
  match a with
  | ⟨0, _⟩ => show win0_9.index t 0 * 64 + 1 * j.val = j.val; rw [(idx9 t).1]; omega
  | ⟨1, _⟩ => show win0_9.index t 1 * 1 + 1 * 0 = 0; rw [(idx9 t).2]

/-- The tile a point projects is its rows, normalised. -/
theorem xnB_at (t : Fin cfg0.N) (r : Fin 512) (l : Fin 1024) : xnB m c t (ix2 r l) = nrm (row (A1 m c) (tok t r).val (tok t r).isLt) (gain (A2 m c)) l := by
  unfold xnB
  split
  case isTrue hz =>
    rw [pay3_eq, pay1_apply]
    exact congrArg₂ (fun X g => nrm X g l) (funext fun k => blk1 m c t r k _ (by show t.val * 512 + r.val = r.val; omega)) (funext fun k => blk3 m c t k)
  case isFalse hz =>
    unfold nextTile
    rw [pay1_apply]
    exact congrArg₂ (fun X g => nrm X g l)
      (funext fun k => blk2 m c _ r k _ (by have := t_lt t; show t.val * 512 + r.val = min (min (t.val - 1) 32 + 1) 32 * 512 + r.val; congr 2; omega)) (funext fun k => blk3 m c _ k)

/-! ## The claimed blocks, at an element -/

/-- A row of the weights against a tile's row is the projection of the row's token. -/
theorem proj_at (t : Fin cfg0.N) (r : Fin 512) (o : Fin 3728) (w : Fin 1024 → EReal) (hw : ∀ l, w l = (iblk m c 4 t : FVec Ideal S3728x1024 .bf16) (ix2 o l)) :
    ∑ l : Fin 1024, w l * xnB m c t (ix2 r l) = proj (A1 m c) (A2 m c) (A3 m c) o.val o.isLt (tok t r) :=
  Finset.sum_congr rfl fun l _ => by rw [hw, blk4, xnB_at]

theorem outVt_at (t : Fin cfg0.N) (o : Fin 640) (r : Fin 512) : outVt m c t (ix2 o r) = vtAt (A1 m c) (A2 m c) (A3 m c) o.val o.isLt (tok t r) := by
  refine (bands_at rfl (by decide) _ o r).trans ((vtBand_apply _ _ _ _ r).trans (dite_congr rfl (fun hj => ?_) (fun _ => rfl)))
  exact proj_at m c t r ⟨512 + (o.val / 80 * 64 + o.val % 80), by have := o.isLt; have : o.val % 80 < 64 := hj; omega⟩ _ (fun l => congrArg (iblk m c 4 t : FVec Ideal S3728x1024 .bf16) (funext fun a => Fin.ext (by
    match a with
    | ⟨0, _⟩ => show 512 + 1 * (o.val / 80 * 64 + o.val % 80) = 512 + (o.val / 80 * 64 + o.val % 80); omega
    | ⟨1, _⟩ => show 0 + 1 * l.val = l.val; omega)))

theorem outQs_at (t : Fin cfg0.N) (o : Fin 512) (r : Fin 512) : outQs m c t (ix2 o r) = qsAt (A1 m c) (A2 m c) (A3 m c) (A8 m c) o.val o.isLt (tok t r) := by
  refine (bands_at rfl (by decide) _ o r).trans ((qsBand_apply _ _ _ _ _ r).trans (congrArg₂ (fun q g => headNorm q g _) (funext fun k => ?_) (blk9 m c t _)))
  exact proj_at m c t r ⟨1040 + (o.val / 64 * 64 + k.val), by have := o.isLt; have := k.isLt; omega⟩ _ (fun l => congrArg (iblk m c 4 t : FVec Ideal S3728x1024 .bf16) (funext fun a => Fin.ext (by
    match a with
    | ⟨0, _⟩ => show 1040 + 1 * (o.val / 64 * 64 + k.val) = 1040 + (o.val / 64 * 64 + k.val); omega
    | ⟨1, _⟩ => show 0 + 1 * l.val = l.val; omega)))

theorem outVs_at (t : Fin cfg0.N) (o : Fin 128) (r : Fin 512) :
    outVs m c t (ix2 o r) = proj (A1 m c) (A2 m c) (A3 m c) (1552 + o.val) (by omega) (tok t r) :=
  (pay141_apply _ _ o r).trans (proj_at m c t r ⟨1552 + o.val, by omega⟩ _ (fun l => congrArg (iblk m c 4 t : FVec Ideal S3728x1024 .bf16) (funext fun a => Fin.ext (by
    match a with
    | ⟨0, _⟩ => show 1552 + 1 * o.val = 1552 + o.val; omega
    | ⟨1, _⟩ => show 0 + 1 * l.val = l.val; omega))))

theorem outGa_at (t : Fin cfg0.N) (o : Fin 1024) (r : Fin 512) :
    outGa m c t (ix2 o r) = Ideal.logistic (proj (A1 m c) (A2 m c) (A3 m c) (1680 + o.val) (by omega) (tok t r)) :=
  (pay128_apply _ _ o r).trans (congrArg Ideal.logistic (proj_at m c t r ⟨1680 + o.val, by omega⟩ _ (fun l => congrArg (iblk m c 4 t : FVec Ideal S3728x1024 .bf16) (funext fun a => Fin.ext (by
    match a with
    | ⟨0, _⟩ => show 1680 + 1 * o.val = 1680 + o.val; omega
    | ⟨1, _⟩ => show 0 + 1 * l.val = l.val; omega)))))

theorem outGb_at (t : Fin cfg0.N) (o : Fin 1024) (r : Fin 512) :
    outGb m c t (ix2 o r) = Ideal.logistic (proj (A1 m c) (A2 m c) (A3 m c) (2704 + o.val) (by omega) (tok t r)) :=
  (pay129_apply _ _ o r).trans (congrArg Ideal.logistic (proj_at m c t r ⟨2704 + o.val, by omega⟩ _ (fun l => congrArg (iblk m c 4 t : FVec Ideal S3728x1024 .bf16) (funext fun a => Fin.ext (by
    match a with
    | ⟨0, _⟩ => show 2704 + 1 * o.val = 2704 + o.val; omega
    | ⟨1, _⟩ => show 0 + 1 * l.val = l.val; omega)))))

/-! ## The result arrays -/

/-- The attention's values with the rows of ones, -/
def GVt (c : Dev nD) : Buf (Elt Ideal) ((c.tc : Thread nD τ).loc main_v3_2) := fun i : S640x16896.Idx =>
  vtAt (A1 m c) (A2 m c) (A3 m c) (i 0).val (by have : (i 0).val < 640 := (i 0).isLt; omega) ⟨(i 1).val, (i 1).isLt⟩

theorem GVt_at (i : S640x16896.Idx) (o : Fin 640) (p : Fin 16896) (eo : o.val = (i 0).val) (ep : p.val = (i 1).val) :
    vtAt (A1 m c) (A2 m c) (A3 m c) o.val (by omega) p = GVt m c i := by
  obtain rfl : o = ⟨(i 0).val, (i 0).isLt⟩ := Fin.ext eo
  obtain rfl : p = ⟨(i 1).val, (i 1).isLt⟩ := Fin.ext ep
  rfl

theorem finalVt : (dats m 0 c).arrAt 13 cfg0.N = GVt m c := by
  refine (dats m 0 c).arrAt_eq_of_covers 13 _ (by decide +kernel) (fun t hf y => ?_)
  blk_simp
  rw [after0_13]
  have ey : y = ix2 (⟨(y 0).val, (y 0).isLt⟩ : Fin 640) (⟨(y 1).val, (y 1).isLt⟩ : Fin 512) := funext fun a => Fin.ext (by
    match a with
    | ⟨0, _⟩ => rfl
    | ⟨1, _⟩ => rfl)
  obtain ⟨i0, i1⟩ := idx13 t
  have e0 : ((win0_13.blk t).view.emb y 0).val = (y 0).val := by blk_simp [i0]
  have e1 : ((win0_13.blk t).view.emb y 1).val = t.val * 512 + (y 1).val := by blk_simp [i1]
  exact (congrArg (outVt m c t) ey).trans ((outVt_at m c t _ _).trans (GVt_at m c _ _ _ e0.symm e1.symm))

/-- the window attention's queries, -/
def GQs (c : Dev nD) : Buf (Elt Ideal) ((c.tc : Thread nD τ).loc main_v3_3) := fun i : S512x16896.Idx =>
  qsAt (A1 m c) (A2 m c) (A3 m c) (A8 m c) (i 0).val (by have : (i 0).val < 512 := (i 0).isLt; omega) ⟨(i 1).val, (i 1).isLt⟩

theorem GQs_at (i : S512x16896.Idx) (o : Fin 512) (p : Fin 16896) (eo : o.val = (i 0).val) (ep : p.val = (i 1).val) :
    qsAt (A1 m c) (A2 m c) (A3 m c) (A8 m c) o.val (by omega) p = GQs m c i := by
  obtain rfl : o = ⟨(i 0).val, (i 0).isLt⟩ := Fin.ext eo
  obtain rfl : p = ⟨(i 1).val, (i 1).isLt⟩ := Fin.ext ep
  rfl

theorem finalQs : (dats m 0 c).arrAt 14 cfg0.N = GQs m c := by
  refine (dats m 0 c).arrAt_eq_of_covers 14 _ (by decide +kernel) (fun t hf y => ?_)
  blk_simp
  rw [after0_14]
  have ey : y = ix2 (⟨(y 0).val, (y 0).isLt⟩ : Fin 512) (⟨(y 1).val, (y 1).isLt⟩ : Fin 512) := funext fun a => Fin.ext (by
    match a with
    | ⟨0, _⟩ => rfl
    | ⟨1, _⟩ => rfl)
  obtain ⟨i0, i1⟩ := idx14 t
  have e0 : ((win0_14.blk t).view.emb y 0).val = (y 0).val := by blk_simp [i0]
  have e1 : ((win0_14.blk t).view.emb y 1).val = t.val * 512 + (y 1).val := by blk_simp [i1]
  exact (congrArg (outQs m c t) ey).trans ((outQs_at m c t _ _).trans (GQs_at m c _ _ _ e0.symm e1.symm))

/-- its values, -/
def GVs (c : Dev nD) : Buf (Elt Ideal) ((c.tc : Thread nD τ).loc main_v3_5) := fun i : S128x16896.Idx =>
  proj (A1 m c) (A2 m c) (A3 m c) (1552 + (i 0).val) (by have : (i 0).val < 128 := (i 0).isLt; omega) ⟨(i 1).val, (i 1).isLt⟩

theorem GVs_at (i : S128x16896.Idx) (o : Fin 128) (p : Fin 16896) (eo : o.val = (i 0).val) (ep : p.val = (i 1).val) :
    proj (A1 m c) (A2 m c) (A3 m c) (1552 + o.val) (by omega) p = GVs m c i := by
  obtain rfl : o = ⟨(i 0).val, (i 0).isLt⟩ := Fin.ext eo
  obtain rfl : p = ⟨(i 1).val, (i 1).isLt⟩ := Fin.ext ep
  rfl

theorem finalVs : (dats m 0 c).arrAt 16 cfg0.N = GVs m c := by
  refine (dats m 0 c).arrAt_eq_of_covers 16 _ (by decide +kernel) (fun t hf y => ?_)
  blk_simp
  rw [after0_16]
  have ey : y = ix2 (⟨(y 0).val, (y 0).isLt⟩ : Fin 128) (⟨(y 1).val, (y 1).isLt⟩ : Fin 512) := funext fun a => Fin.ext (by
    match a with
    | ⟨0, _⟩ => rfl
    | ⟨1, _⟩ => rfl)
  obtain ⟨i0, i1⟩ := idx16 t
  have e0 : ((win0_16.blk t).view.emb y 0).val = (y 0).val := by blk_simp [i0]
  have e1 : ((win0_16.blk t).view.emb y 1).val = t.val * 512 + (y 1).val := by blk_simp [i1]
  exact (congrArg (outVs m c t) ey).trans ((outVs_at m c t _ _).trans (GVs_at m c _ _ _ e0.symm e1.symm))

/-- the first branch's gate, -/
def GGa (c : Dev nD) : Buf (Elt Ideal) ((c.tc : Thread nD τ).loc main_v3_6) := fun i : S1024x16896.Idx =>
  Ideal.logistic (proj (A1 m c) (A2 m c) (A3 m c) (1680 + (i 0).val) (by have : (i 0).val < 1024 := (i 0).isLt; omega) ⟨(i 1).val, (i 1).isLt⟩)

theorem GGa_at (i : S1024x16896.Idx) (o : Fin 1024) (p : Fin 16896) (eo : o.val = (i 0).val) (ep : p.val = (i 1).val) :
    Ideal.logistic (proj (A1 m c) (A2 m c) (A3 m c) (1680 + o.val) (by omega) p) = GGa m c i := by
  obtain rfl : o = ⟨(i 0).val, (i 0).isLt⟩ := Fin.ext eo
  obtain rfl : p = ⟨(i 1).val, (i 1).isLt⟩ := Fin.ext ep
  rfl

theorem finalGa : (dats m 0 c).arrAt 17 cfg0.N = GGa m c := by
  refine (dats m 0 c).arrAt_eq_of_covers 17 _ (by decide +kernel) (fun t hf y => ?_)
  blk_simp
  rw [after0_17]
  have ey : y = ix2 (⟨(y 0).val, (y 0).isLt⟩ : Fin 1024) (⟨(y 1).val, (y 1).isLt⟩ : Fin 512) := funext fun a => Fin.ext (by
    match a with
    | ⟨0, _⟩ => rfl
    | ⟨1, _⟩ => rfl)
  obtain ⟨i0, i1⟩ := idx17 t
  have e0 : ((win0_17.blk t).view.emb y 0).val = (y 0).val := by blk_simp [i0]
  have e1 : ((win0_17.blk t).view.emb y 1).val = t.val * 512 + (y 1).val := by blk_simp [i1]
  exact (congrArg (outGa m c t) ey).trans ((outGa_at m c t _ _).trans (GGa_at m c _ _ _ e0.symm e1.symm))

/-- and the second branch's gate, element by element. -/
def GGb (c : Dev nD) : Buf (Elt Ideal) ((c.tc : Thread nD τ).loc main_v3_7) := fun i : S1024x16896.Idx =>
  Ideal.logistic (proj (A1 m c) (A2 m c) (A3 m c) (2704 + (i 0).val) (by have : (i 0).val < 1024 := (i 0).isLt; omega) ⟨(i 1).val, (i 1).isLt⟩)

theorem GGb_at (i : S1024x16896.Idx) (o : Fin 1024) (p : Fin 16896) (eo : o.val = (i 0).val) (ep : p.val = (i 1).val) :
    Ideal.logistic (proj (A1 m c) (A2 m c) (A3 m c) (2704 + o.val) (by omega) p) = GGb m c i := by
  obtain rfl : o = ⟨(i 0).val, (i 0).isLt⟩ := Fin.ext eo
  obtain rfl : p = ⟨(i 1).val, (i 1).isLt⟩ := Fin.ext ep
  rfl

theorem finalGb : (dats m 0 c).arrAt 18 cfg0.N = GGb m c := by
  refine (dats m 0 c).arrAt_eq_of_covers 18 _ (by decide +kernel) (fun t hf y => ?_)
  blk_simp
  rw [after0_18]
  have ey : y = ix2 (⟨(y 0).val, (y 0).isLt⟩ : Fin 1024) (⟨(y 1).val, (y 1).isLt⟩ : Fin 512) := funext fun a => Fin.ext (by
    match a with
    | ⟨0, _⟩ => rfl
    | ⟨1, _⟩ => rfl)
  obtain ⟨i0, i1⟩ := idx18 t
  have e0 : ((win0_18.blk t).view.emb y 0).val = (y 0).val := by blk_simp [i0]
  have e1 : ((win0_18.blk t).view.emb y 1).val = t.val * 512 + (y 1).val := by blk_simp [i1]
  exact (congrArg (outGb m c t) ey).trans ((outGb_at m c t _ _).trans (GGb_at m c _ _ _ e0.symm e1.symm))

/-- The kernel's run, its claimed results read. -/
theorem run_value : θ_run defs (onTc (τ := τ) (main (F := Ideal))) ⟨m, fun _ => 0, ρ⟩ (fun r => ∀ c : Dev nD,
      r.2.mem ((c.tc : Thread nD τ).loc main_v3_2) = GVt m c
      ∧ r.2.mem ((c.tc : Thread nD τ).loc main_v3_3) = GQs m c
      ∧ r.2.mem ((c.tc : Thread nD τ).loc main_v3_5) = GVs m c
      ∧ r.2.mem ((c.tc : Thread nD τ).loc main_v3_6) = GGa m c
      ∧ r.2.mem ((c.tc : Thread nD τ).loc main_v3_7) = GGb m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(((dats m 0 c).toRForget_arrAt_iff (show fgt 13 = false from rfl) cfg0.N _).mp ((h.1 c).1 13)).trans (finalVt m c),
      (((dats m 0 c).toRForget_arrAt_iff (show fgt 14 = false from rfl) cfg0.N _).mp ((h.1 c).1 14)).trans (finalQs m c),
      (((dats m 0 c).toRForget_arrAt_iff (show fgt 16 = false from rfl) cfg0.N _).mp ((h.1 c).1 16)).trans (finalVs m c),
      (((dats m 0 c).toRForget_arrAt_iff (show fgt 17 = false from rfl) cfg0.N _).mp ((h.1 c).1 17)).trans (finalGa m c),
      (((dats m 0 c).toRForget_arrAt_iff (show fgt 18 = false from rfl) cfg0.N _).mp ((h.1 c).1 18)).trans (finalGb m c),
      (RDat.FramePost.arr_in h.1 c 0 rfl).trans (V_main_arg0 m c),
      (RDat.FramePost.arr_in h.1 c 2 rfl).trans (V_main_arg1 m c),
      ((h.1 c).2 main_arg2 (Pipeline.mem_restRefs_of main_arg2 (by decide) (by decide))).trans (V_main_arg2 m c),
      (RDat.FramePost.arr_in h.1 c 4 rfl).trans (V_main_arg3 m c),
      (RDat.FramePost.arr_in h.1 c 5 rfl).trans (V_main_arg4 m c),
      (RDat.FramePost.arr_in h.1 c 6 rfl).trans (V_main_arg5 m c),
      (RDat.FramePost.arr_in h.1 c 7 rfl).trans (V_main_arg6 m c),
      (RDat.FramePost.arr_in h.1 c 8 rfl).trans (V_main_arg7 m c),
      (RDat.FramePost.arr_in h.1 c 9 rfl).trans (V_main_arg8 m c),
      (RDat.FramePost.arr_in h.1 c 10 rfl).trans (V_main_arg9 m c)⟩) (run_main m ρ)

/-! The reference's arrays are the kernel's, of arguments that agree. -/

theorem refVt (x1 : (⟨S16896x1024, .f32⟩ : BufTy).Contents (Elt Ideal)) (x2 : (⟨S2x1024, .f32⟩ : BufTy).Contents (Elt Ideal)) (x3 : (⟨S3728x1024, .bf16⟩ : BufTy).Contents (Elt Ideal))
    (h1 : x1 = A1 m c) (h2 : x2 = A2 m c) (h3 : x3 = A3 m c) : Cert.ProjRefIdeal.Read.val_main_v55 (F := Ideal) x1 x2 x3 = GVt m c := by
  subst h1 h2 h3
  funext i
  obtain ⟨o, p, rfl⟩ : ∃ (o : Fin 640) (p : Fin 16896), i = ix2 o p := ⟨_, _, eq_ix2 i⟩
  exact Cert.ProjRefIdeal.Hand.v55_at _ _ _ p o

theorem refQs (x1 : (⟨S16896x1024, .f32⟩ : BufTy).Contents (Elt Ideal)) (x2 : (⟨S2x1024, .f32⟩ : BufTy).Contents (Elt Ideal)) (x3 : (⟨S3728x1024, .bf16⟩ : BufTy).Contents (Elt Ideal))
    (h1 : x1 = A1 m c) (h2 : x2 = A2 m c) (h3 : x3 = A3 m c)
    (x8 : (⟨S64x1, .f32⟩ : BufTy).Contents (Elt Ideal)) (h8 : x8 = A8 m c) : Cert.ProjRefIdeal.Read.val_main_v57 (F := Ideal) x1 x2 x3 x8 = GQs m c := by
  subst h1 h2 h3 h8
  funext i
  obtain ⟨o, p, rfl⟩ : ∃ (o : Fin 512) (p : Fin 16896), i = ix2 o p := ⟨_, _, eq_ix2 i⟩
  exact Cert.ProjRefIdeal.Hand.v57_at _ _ _ _ p o

theorem refVs (x1 : (⟨S16896x1024, .f32⟩ : BufTy).Contents (Elt Ideal)) (x2 : (⟨S2x1024, .f32⟩ : BufTy).Contents (Elt Ideal)) (x3 : (⟨S3728x1024, .bf16⟩ : BufTy).Contents (Elt Ideal))
    (h1 : x1 = A1 m c) (h2 : x2 = A2 m c) (h3 : x3 = A3 m c) : Cert.ProjRefIdeal.Read.val_main_v58 (F := Ideal) x1 x2 x3 = GVs m c := by
  subst h1 h2 h3
  funext i
  obtain ⟨o, p, rfl⟩ : ∃ (o : Fin 128) (p : Fin 16896), i = ix2 o p := ⟨_, _, eq_ix2 i⟩
  exact Cert.ProjRefIdeal.Hand.v58_at _ _ _ p o

theorem refGa (x1 : (⟨S16896x1024, .f32⟩ : BufTy).Contents (Elt Ideal)) (x2 : (⟨S2x1024, .f32⟩ : BufTy).Contents (Elt Ideal)) (x3 : (⟨S3728x1024, .bf16⟩ : BufTy).Contents (Elt Ideal))
    (h1 : x1 = A1 m c) (h2 : x2 = A2 m c) (h3 : x3 = A3 m c) : Cert.ProjRefIdeal.Read.val_main_v59 (F := Ideal) x1 x2 x3 = GGa m c := by
  subst h1 h2 h3
  funext i
  obtain ⟨o, p, rfl⟩ : ∃ (o : Fin 1024) (p : Fin 16896), i = ix2 o p := ⟨_, _, eq_ix2 i⟩
  exact Cert.ProjRefIdeal.Hand.v59_at _ _ _ p o

theorem refGb (x1 : (⟨S16896x1024, .f32⟩ : BufTy).Contents (Elt Ideal)) (x2 : (⟨S2x1024, .f32⟩ : BufTy).Contents (Elt Ideal)) (x3 : (⟨S3728x1024, .bf16⟩ : BufTy).Contents (Elt Ideal))
    (h1 : x1 = A1 m c) (h2 : x2 = A2 m c) (h3 : x3 = A3 m c) : Cert.ProjRefIdeal.Read.val_main_v60 (F := Ideal) x1 x2 x3 = GGb m c := by
  subst h1 h2 h3
  funext i
  obtain ⟨o, p, rfl⟩ : ∃ (o : Fin 1024) (p : Fin 16896), i = ix2 o p := ⟨_, _, eq_ix2 i⟩
  exact Cert.ProjRefIdeal.Hand.v60_at _ _ _ p o

end Cert.ProjIdeal.Hand

end
-- ==== Proof.ProjClaims.lean ====
module

public import proofs.«01_k».proof.Defs
public import proofs.«01_k».proof.Proof.Gen.Proj
public import proofs.«01_k».proof.Proof.ProjOut
public import Idealize.ShloMosaic.Lib.Quiescent

@[expose] public section

set_option maxRecDepth 16384
set_option maxHeartbeats 2000000

/-! # The projections: their claims -/

namespace Cert.Proof.Proj

open Idealize.ShloMosaic Idealize.ShloMosaic.TcCoe Idealize.SL.Sem

/-- The program at the machine's words is the idealized one taken at them: their bodies are the same, and so are the procedures they call. -/
theorem defs₀_eq : Cert.Proj.defs₀ (F := Bits) = Cert.ProjIdeal.defs₀ (F := Bits) := by
  unfold Cert.Proj.defs₀ Cert.ProjIdeal.defs₀
  refine congrArg Defs.onTc (funext fun l => funext fun a => ?_)
  match l, a with
  | 0, (t, s) => rfl
theorem defs_eq : Cert.Proj.defs (F := Bits) = Cert.ProjIdeal.defs (F := Bits) :=
  congrArg (Pipeline.defs Cert.ProjIdeal.pcfgs) defs₀_eq

/-- The kernel at the machine's words ends, its arguments unchanged and its semaphores at zero. -/
theorem frame_bits : Cert.quiescent_Proj := by
  intro m ρ _
  rw [defs_eq]
  exact Cert.ProjIdeal.Hand.frame m ρ

/-- So does the kernel over the extended reals. -/
theorem frame_ideal : Cert.quiescent_ProjIdeal := fun m ρ _ => Cert.ProjIdeal.Hand.frame m ρ

/-- So does the reference, which has no semaphore. -/
theorem frame_ref : Cert.quiescent_ProjRefIdeal := fun m ρ _ =>
  (θ_run Cert.ProjRefIdeal.defs _ _).mono (fun r h => ⟨fun c => (h c).2.2.2.2.2, sem_eq_zero_of_no_sems (by decide) r.2⟩)
    (Cert.ProjRefIdeal.Value.run (F := Ideal) m ρ)

/-- Nothing was rewritten in the idealized kernel. -/
theorem preserves : Cert.preserves_Proj_ProjIdeal := trivial

/-- Over the extended reals the kernel leaves the arrays that the reference leaves, whatever the arguments hold. -/
theorem algebraic : Cert.algebraic_ProjIdeal_ProjRefIdeal := by
  intro m ρ m' ρ' _ hagree
  refine ⟨fun c => Cert.ProjIdeal.Hand.GVt m c, fun c => Cert.ProjIdeal.Hand.GQs m c, fun c => Cert.ProjIdeal.Hand.GVs m c, fun c => Cert.ProjIdeal.Hand.GGa m c, fun c => Cert.ProjIdeal.Hand.GGb m c, Cert.ProjIdeal.Hand.run_value m ρ, ?_⟩
  refine (θ_run Cert.ProjRefIdeal.defs _ _).mono (fun _ h c => ?_) (Cert.ProjRefIdeal.Value.run (F := Ideal) m' ρ')
  have h1 := (hagree c).2.1
  have h2 := (hagree c).2.2.1
  have h3 := (hagree c).2.2.2.1
  have h8 := (hagree c).2.2.2.2.2.2.2.2.1
  exact ⟨(h c).1.trans ((Cert.ProjRefIdeal.Read.val_main_v55_eq _ _ _).trans (Cert.ProjIdeal.Hand.refVt m c _ _ _ h1 h2 h3)),
    (h c).2.1.trans ((Cert.ProjRefIdeal.Read.val_main_v57_eq _ _).trans (Cert.ProjIdeal.Hand.refQs m c _ _ _ h1 h2 h3 _ h8)),
    (h c).2.2.1.trans ((Cert.ProjRefIdeal.Read.val_main_v58_eq _ _ _).trans (Cert.ProjIdeal.Hand.refVs m c _ _ _ h1 h2 h3)),
    (h c).2.2.2.1.trans ((Cert.ProjRefIdeal.Read.val_main_v59_eq _ _ _).trans (Cert.ProjIdeal.Hand.refGa m c _ _ _ h1 h2 h3)),
    (h c).2.2.2.2.1.trans ((Cert.ProjRefIdeal.Read.val_main_v60_eq _ _ _).trans (Cert.ProjIdeal.Hand.refGb m c _ _ _ h1 h2 h3)),
    (h c).2.2.2.2.2⟩

end Cert.Proof.Proj

end
-- ==== Proof.lean ====
module

public import proofs.«01_k».proof.Defs
public import proofs.«01_k».proof.Proof.FfnClaims
public import proofs.«01_k».proof.Proof.FfnLeadClaims
public import proofs.«01_k».proof.Proof.FfnMidClaims
public import proofs.«01_k».proof.Proof.FoxClaims
public import proofs.«01_k».proof.Proof.MixClaims
public import proofs.«01_k».proof.Proof.ProjClaims
public import proofs.«01_k».proof.Proof.Gen.FfnLast
public import proofs.«01_k».proof.Proof.Gen.FfnLastIdeal
public import proofs.«01_k».proof.Proof.Gen.FfnLastRefIdeal
public import proofs.«01_k».proof.Proof.Gen.FfnLead
public import proofs.«01_k».proof.Proof.Gen.FfnLead.Frame
public import proofs.«01_k».proof.Proof.Gen.FfnLeadIdeal
public import proofs.«01_k».proof.Proof.Gen.FfnLeadIdeal.Frame
public import proofs.«01_k».proof.Proof.Gen.FfnLeadIdeal.Skeleton
public import proofs.«01_k».proof.Proof.Gen.FfnLeadRefIdeal
public import proofs.«01_k».proof.Proof.Gen.FfnLeadRefIdeal.Run
public import proofs.«01_k».proof.Proof.Gen.FfnLeadRefIdeal.Read
public import proofs.«01_k».proof.Proof.Gen.FfnMid
public import proofs.«01_k».proof.Proof.Gen.FfnMidIdeal
public import proofs.«01_k».proof.Proof.Gen.FfnMidRefIdeal
public import proofs.«01_k».proof.Proof.Gen.FoxRefIdeal
public import proofs.«01_k».proof.Proof.Gen.Kernel
public import proofs.«01_k».proof.Proof.Gen.KernelIdeal
public import proofs.«01_k».proof.Proof.Gen.Mix
public import proofs.«01_k».proof.Proof.Gen.Mix.Frame
public import proofs.«01_k».proof.Proof.Gen.MixIdeal
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Proj
public import proofs.«01_k».proof.Proof.Gen.ProjIdeal
public import proofs.«01_k».proof.Proof.Gen.ProjIdeal.Frame
public import proofs.«01_k».proof.Proof.Gen.ProjIdeal.Skeleton
public import proofs.«01_k».proof.Proof.Gen.ProjIdeal.Points
public import proofs.«01_k».proof.Proof.Gen.ProjRefIdeal
public import proofs.«01_k».proof.Proof.Gen.ProjRefIdeal.Run
public import proofs.«01_k».proof.Proof.Gen.ProjRefIdeal.Read
public import Idealize.ShloMosaic.Adequacy
public import Idealize.ShloMosaic.Init

@[expose] public section

namespace Cert.Proof

theorem claim : Cert.Claim :=
  ⟨Cert.Kernel.Gen.facts, Cert.KernelIdeal.Gen.facts, Cert.FoxRefIdeal.Gen.facts, Cert.FfnLast.Gen.facts, Cert.FfnLastIdeal.Gen.facts,
    Cert.FfnLastRefIdeal.Gen.facts, Cert.FfnMid.Gen.facts, Cert.FfnMidIdeal.Gen.facts, Cert.FfnMidRefIdeal.Gen.facts,
    Cert.Mix.Gen.facts, Cert.MixIdeal.Gen.facts, Cert.MixRefIdeal.Gen.facts,
    Cert.FfnLead.Gen.facts, Cert.FfnLeadIdeal.Gen.facts, Cert.FfnLeadRefIdeal.Gen.facts,
    Cert.Proj.Gen.facts, Cert.ProjIdeal.Gen.facts, Cert.ProjRefIdeal.Gen.facts,
    Cert.KernelIdeal.Val.preFacts, Cert.KernelIdeal.Val.onFacts,
    Fox.frame_bits, Fox.frame_ideal, @Fox.frame_ideal_pre Cert.KernelIdeal.Val.preFacts Cert.KernelIdeal.Val.onFacts, Fox.frame_ref, @Fox.frame_ref_pre Cert.KernelIdeal.Val.preFacts Cert.KernelIdeal.Val.onFacts,
    Ffn.frame_bits, Ffn.frame_ideal, Ffn.frame_ref, FfnMid.frame_bits, FfnMid.frame_ideal, FfnMid.frame_ref,
    Mix.frame_bits, Mix.frame_ideal, Mix.frame_ref, FfnLead.frame_bits, FfnLead.frame_ideal, FfnLead.frame_ref,
    Proj.frame_bits, Proj.frame_ideal, Proj.frame_ref,
    Fox.preserves, @Fox.algebraic Cert.KernelIdeal.Val.preFacts Cert.KernelIdeal.Val.onFacts, Ffn.preserves, Ffn.algebraic, FfnMid.preserves, FfnMid.algebraic, Mix.preserves, Mix.algebraic,
    FfnLead.preserves, FfnLead.algebraic, Proj.preserves, Proj.algebraic⟩

end Cert.Proof

end
